-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).2.2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).2.2.2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).2.2.2.2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))).1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))).2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))).2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))).2.2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))).2.2.2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))).2.2.2.2.2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v305_0)) (v1 : (c : Dev Cert.KernelIdeal.nD) → Buf (Elt Ideal) ((c.tc : Thread Cert.KernelIdeal.nD Cert.KernelIdeal.τ).loc Cert.KernelIdeal.main_v305_1)) (v2 : (c : Dev Cert.KernelIdeal.nD) → Buf (Elt Ideal) ((c.tc : Thread Cert.KernelIdeal.nD Cert.KernelIdeal.τ).loc Cert.KernelIdeal.main_v305_2)) (v3 : (c : Dev Cert.KernelIdeal.nD) → Buf (Elt Ideal) ((c.tc : Thread Cert.KernelIdeal.nD Cert.KernelIdeal.τ).loc Cert.KernelIdeal.main_v305_3)) (v4 : (c : Dev Cert.KernelIdeal.nD) → Buf (Elt Ideal) ((c.tc : Thread Cert.KernelIdeal.nD Cert.KernelIdeal.τ).loc Cert.KernelIdeal.main_v305_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v305_0) = v0 c
          ∧ r.2.mem ((c.tc : Thread Cert.KernelIdeal.nD Cert.KernelIdeal.τ).loc Cert.KernelIdeal.main_v305_1) = v1 c
          ∧ r.2.mem ((c.tc : Thread Cert.KernelIdeal.nD Cert.KernelIdeal.τ).loc Cert.KernelIdeal.main_v305_2) = v2 c
          ∧ r.2.mem ((c.tc : Thread Cert.KernelIdeal.nD Cert.KernelIdeal.τ).loc Cert.KernelIdeal.main_v305_3) = v3 c
          ∧ r.2.mem ((c.tc : Thread Cert.KernelIdeal.nD Cert.KernelIdeal.τ).loc Cert.KernelIdeal.main_v305_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_v88) = v1 c
          ∧ r.2.mem ((c.tc : Thread Cert.ReferenceIdeal.nD Cert.ReferenceIdeal.τ).loc Cert.ReferenceIdeal.main_v89) = v2 c
          ∧ r.2.mem ((c.tc : Thread Cert.ReferenceIdeal.nD Cert.ReferenceIdeal.τ).loc Cert.ReferenceIdeal.main_v90) = v3 c
          ∧ r.2.mem ((c.tc : Thread Cert.ReferenceIdeal.nD Cert.ReferenceIdeal.τ).loc Cert.ReferenceIdeal.main_v92) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)) (v3 : (c : Dev Cert.Kernel2Ideal.nD) → Buf (Elt Ideal) ((c.tc : Thread Cert.Kernel2Ideal.nD Cert.Kernel2Ideal.τ).loc Cert.Kernel2Ideal.main_v0_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_v0_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v41) = v0 c
          ∧ r.2.mem ((c.tc : Thread Cert.Reference2Ideal.nD Cert.Reference2Ideal.τ).loc Cert.Reference2Ideal.main_v42) = v1 c
          ∧ r.2.mem ((c.tc : Thread Cert.Reference2Ideal.nD Cert.Reference2Ideal.τ).loc Cert.Reference2Ideal.main_v43) = v2 c
          ∧ r.2.mem ((c.tc : Thread Cert.Reference2Ideal.nD Cert.Reference2Ideal.τ).loc Cert.Reference2Ideal.main_v49) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)) (v3 : (c : Dev Cert.Kernel3Ideal.nD) → Buf (Elt Ideal) ((c.tc : Thread Cert.Kernel3Ideal.nD Cert.Kernel3Ideal.τ).loc Cert.Kernel3Ideal.main_v0_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_v0_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v41) = v0 c
          ∧ r.2.mem ((c.tc : Thread Cert.Reference3Ideal.nD Cert.Reference3Ideal.τ).loc Cert.Reference3Ideal.main_v42) = v1 c
          ∧ r.2.mem ((c.tc : Thread Cert.Reference3Ideal.nD Cert.Reference3Ideal.τ).loc Cert.Reference3Ideal.main_v43) = v2 c
          ∧ r.2.mem ((c.tc : Thread Cert.Reference3Ideal.nD Cert.Reference3Ideal.τ).loc Cert.Reference3Ideal.main_v49) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)) (v3 : (c : Dev Cert.Kernel4Ideal.nD) → Buf (Elt Ideal) ((c.tc : Thread Cert.Kernel4Ideal.nD Cert.Kernel4Ideal.τ).loc Cert.Kernel4Ideal.main_v0_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_v0_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v41) = v0 c
          ∧ r.2.mem ((c.tc : Thread Cert.Reference4Ideal.nD Cert.Reference4Ideal.τ).loc Cert.Reference4Ideal.main_v42) = v1 c
          ∧ r.2.mem ((c.tc : Thread Cert.Reference4Ideal.nD Cert.Reference4Ideal.τ).loc Cert.Reference4Ideal.main_v43) = v2 c
          ∧ r.2.mem ((c.tc : Thread Cert.Reference4Ideal.nD Cert.Reference4Ideal.τ).loc Cert.Reference4Ideal.main_v49) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)) (v3 : (c : Dev Cert.Kernel5Ideal.nD) → Buf (Elt Ideal) ((c.tc : Thread Cert.Kernel5Ideal.nD Cert.Kernel5Ideal.τ).loc Cert.Kernel5Ideal.main_v0_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_v0_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v41) = v0 c
          ∧ r.2.mem ((c.tc : Thread Cert.Reference5Ideal.nD Cert.Reference5Ideal.τ).loc Cert.Reference5Ideal.main_v42) = v1 c
          ∧ r.2.mem ((c.tc : Thread Cert.Reference5Ideal.nD Cert.Reference5Ideal.τ).loc Cert.Reference5Ideal.main_v43) = v2 c
          ∧ r.2.mem ((c.tc : Thread Cert.Reference5Ideal.nD Cert.Reference5Ideal.τ).loc Cert.Reference5Ideal.main_v49) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v123) = v0 c
          ∧ r.2.mem ((c.tc : Thread Cert.Reference6Ideal.nD Cert.Reference6Ideal.τ).loc Cert.Reference6Ideal.main_v109) = v1 c
          ∧ r.2.mem ((c.tc : Thread Cert.Reference6Ideal.nD Cert.Reference6Ideal.τ).loc Cert.Reference6Ideal.main_v122) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v23) = v0 c
          ∧ r.2.mem ((c.tc : Thread Cert.Reference7Ideal.nD Cert.Reference7Ideal.τ).loc Cert.Reference7Ideal.main_v4) = v1 c
          ∧ r.2.mem ((c.tc : Thread Cert.Reference7Ideal.nD Cert.Reference7Ideal.τ).loc Cert.Reference7Ideal.main_v10) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v23) = v0 c
          ∧ r.2.mem ((c.tc : Thread Cert.Reference8Ideal.nD Cert.Reference8Ideal.τ).loc Cert.Reference8Ideal.main_v4) = v1 c
          ∧ r.2.mem ((c.tc : Thread Cert.Reference8Ideal.nD Cert.Reference8Ideal.τ).loc Cert.Reference8Ideal.main_v10) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v23) = v0 c
          ∧ r.2.mem ((c.tc : Thread Cert.Reference9Ideal.nD Cert.Reference9Ideal.τ).loc Cert.Reference9Ideal.main_v4) = v1 c
          ∧ r.2.mem ((c.tc : Thread Cert.Reference9Ideal.nD Cert.Reference9Ideal.τ).loc Cert.Reference9Ideal.main_v10) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v23) = v0 c
          ∧ r.2.mem ((c.tc : Thread Cert.Reference10Ideal.nD Cert.Reference10Ideal.τ).loc Cert.Reference10Ideal.main_v4) = v1 c
          ∧ r.2.mem ((c.tc : Thread Cert.Reference10Ideal.nD Cert.Reference10Ideal.τ).loc Cert.Reference10Ideal.main_v10) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v23) = v0 c
          ∧ r.2.mem ((c.tc : Thread Cert.Reference11Ideal.nD Cert.Reference11Ideal.τ).loc Cert.Reference11Ideal.main_v4) = v1 c
          ∧ r.2.mem ((c.tc : Thread Cert.Reference11Ideal.nD Cert.Reference11Ideal.τ).loc Cert.Reference11Ideal.main_v10) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v23) = v0 c
          ∧ r.2.mem ((c.tc : Thread Cert.Reference12Ideal.nD Cert.Reference12Ideal.τ).loc Cert.Reference12Ideal.main_v4) = v1 c
          ∧ r.2.mem ((c.tc : Thread Cert.Reference12Ideal.nD Cert.Reference12Ideal.τ).loc Cert.Reference12Ideal.main_v10) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_v27) = v1 c
          ∧ r.2.mem ((c.tc : Thread Cert.Reference13Ideal.nD Cert.Reference13Ideal.τ).loc Cert.Reference13Ideal.main_v8) = v2 c
          ∧ r.2.mem ((c.tc : Thread Cert.Reference13Ideal.nD Cert.Reference13Ideal.τ).loc Cert.Reference13Ideal.main_v14) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hPre_finite : Cert.Pre_finite.Facts) (hPre_finite6 : Cert.Pre_finite6.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
-- ==== Pre_finite.lean ====
abbrev S8192x512 : Shape := ⟨2, ![8192, 512]⟩
abbrev S8192x8 : Shape := ⟨2, ![8192, 8]⟩
abbrev S_ : Shape := ⟨0, ![]⟩

class Facts : Prop where
  bcast_S_S8192x512 : S_.BroadcastsInDim S8192x512 (![] : Fin 0 → Fin S8192x512.rank)
  bcast_S_S8192x8 : S_.BroadcastsInDim S8192x8 (![] : Fin 0 → Fin S8192x8.rank)

variable [Facts]

def fn {F : FTy → Type} [FloatOps F] (main_arg0 : FVec F S8192x512 .f32) (main_arg1 : FVec F S8192x512 .f32) (main_arg2 : FVec F S8192x512 .f32) (main_arg3 : FVec F S8192x8 .f32) (main_arg4 : FVec F S8192x512 .f32) : IVec S8192x512 1 × IVec S8192x512 1 × IVec S8192x512 1 × IVec S8192x8 1 × IVec S8192x512 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_v3 : FVec F S8192x512 .f32 := Host.absf main_arg1
  let main_cst_0 : FVec F S_ .f32 := constant S_ .f32 0x7F800000#32
  let main_v4 : FVec F S8192x512 .f32 := broadcastInDim S8192x512 ![] bcast_S_S8192x512 main_cst_0
  let main_v5 : IVec S8192x512 1 := cmpf .olt main_v3 main_v4
  let main_v6 : FVec F S8192x512 .f32 := Host.absf main_arg2
  let main_cst_1 : FVec F S_ .f32 := constant S_ .f32 0x7F800000#32
  let main_v7 : FVec F S8192x512 .f32 := broadcastInDim S8192x512 ![] bcast_S_S8192x512 main_cst_1
  let main_v8 : IVec S8192x512 1 := cmpf .olt main_v6 main_v7
  let main_v9 : FVec F S8192x8 .f32 := Host.absf main_arg3
  let main_cst_2 : FVec F S_ .f32 := constant S_ .f32 0x7F800000#32
  let main_v10 : FVec F S8192x8 .f32 := broadcastInDim S8192x8 ![] bcast_S_S8192x8 main_cst_2
  let main_v11 : IVec S8192x8 1 := cmpf .olt main_v9 main_v10
  let main_v12 : FVec F S8192x512 .f32 := Host.absf main_arg4
  let main_cst_3 : FVec F S_ .f32 := constant S_ .f32 0x7F800000#32
  let main_v13 : FVec F S8192x512 .f32 := broadcastInDim S8192x512 ![] bcast_S_S8192x512 main_cst_3
  let main_v14 : IVec S8192x512 1 := cmpf .olt main_v12 main_v13
  (main_v2, main_v5, main_v8, main_v11, main_v14)
-- ==== Pre_finite6.lean ====
abbrev S8192x1024 : Shape := ⟨2, ![8192, 1024]⟩
abbrev S6x1024 : Shape := ⟨2, ![6, 1024]⟩
abbrev S4x1024x1024 : Shape := ⟨3, ![4, 1024, 1024]⟩
abbrev S2x1024 : Shape := ⟨2, ![2, 1024]⟩
abbrev S_ : Shape := ⟨0, ![]⟩

class Facts : Prop where
  bcast_S_S8192x1024 : S_.BroadcastsInDim S8192x1024 (![] : Fin 0 → Fin S8192x1024.rank)
  bcast_S_S6x1024 : S_.BroadcastsInDim S6x1024 (![] : Fin 0 → Fin S6x1024.rank)
  bcast_S_S4x1024x1024 : S_.BroadcastsInDim S4x1024x1024 (![] : Fin 0 → Fin S4x1024x1024.rank)
  bcast_S_S2x1024 : S_.BroadcastsInDim S2x1024 (![] : Fin 0 → Fin S2x1024.rank)

variable [Facts]

def fn {F : FTy → Type} [FloatOps F] (main_arg0 : FVec F S8192x1024 .f32) (main_arg1 : FVec F S6x1024 .f32) (main_arg2 : FVec F S4x1024x1024 .bf16) (main_arg3 : FVec F S4x1024x1024 .bf16) (main_arg4 : FVec F S2x1024 .f32) (main_arg5 : FVec F S8192x1024 .f32) : IVec S8192x1024 1 × IVec S6x1024 1 × IVec S4x1024x1024 1 × IVec S4x1024x1024 1 × IVec S2x1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S6x1024 .f32 := Host.absf main_arg1
  let main_cst_0 : FVec F S_ .f32 := constant S_ .f32 0x7F800000#32
  let main_v4 : FVec F S6x1024 .f32 := broadcastInDim S6x1024 ![] bcast_S_S6x1024 main_cst_0
  let main_v5 : IVec S6x1024 1 := cmpf .olt main_v3 main_v4
  let main_v6 : FVec F S4x1024x1024 .bf16 := Host.absf main_arg2
  let main_cst_1 : FVec F S_ .bf16 := constant S_ .bf16 0x7F80#16
  let main_v7 : FVec F S4x1024x1024 .bf16 := broadcastInDim S4x1024x1024 ![] bcast_S_S4x1024x1024 main_cst_1
  let main_v8 : IVec S4x1024x1024 1 := cmpf .olt main_v6 main_v7
  let main_v9 : FVec F S4x1024x1024 .bf16 := Host.absf main_arg3
  let main_cst_2 : FVec F S_ .bf16 := constant S_ .bf16 0x7F80#16
  let main_v10 : FVec F S4x1024x1024 .bf16 := broadcastInDim S4x1024x1024 ![] bcast_S_S4x1024x1024 main_cst_2
  let main_v11 : IVec S4x1024x1024 1 := cmpf .olt main_v9 main_v10
  let main_v12 : FVec F S2x1024 .f32 := Host.absf main_arg4
  let main_cst_3 : FVec F S_ .f32 := constant S_ .f32 0x7F800000#32
  let main_v13 : FVec F S2x1024 .f32 := broadcastInDim S2x1024 ![] bcast_S_S2x1024 main_cst_3
  let main_v14 : IVec S2x1024 1 := cmpf .olt main_v12 main_v13
  let main_v15 : FVec F S8192x1024 .f32 := Host.absf main_arg5
  let main_cst_4 : FVec F S_ .f32 := constant S_ .f32 0x7F800000#32
  let main_v16 : FVec F S8192x1024 .f32 := broadcastInDim S8192x1024 ![] bcast_S_S8192x1024 main_cst_4
  let main_v17 : IVec S8192x1024 1 := cmpf .olt main_v15 main_v16
  (main_v2, main_v5, main_v8, main_v11, main_v14, main_v17)
-- ==== Kernel.lean ====
abbrev S8192x512 : Shape := ⟨2, ![8192, 512]⟩
abbrev S8192x8 : Shape := ⟨2, ![8192, 8]⟩
abbrev S_ : Shape := ⟨0, ![]⟩
abbrev S8192x8x64 : Shape := ⟨3, ![8192, 8, 64]⟩
abbrev S8x8192x64 : Shape := ⟨3, ![8, 8192, 64]⟩
abbrev S8x8192x8192 : Shape := ⟨3, ![8, 8192, 8192]⟩
abbrev S8x8192 : Shape := ⟨2, ![8, 8192]⟩
abbrev S8x8192x1 : Shape := ⟨3, ![8, 8192, 1]⟩
abbrev S8x1x8192 : Shape := ⟨3, ![8, 1, 8192]⟩
abbrev S8192x8192 : Shape := ⟨2, ![8192, 8192]⟩
abbrev S1x8192x8192 : Shape := ⟨3, ![1, 8192, 8192]⟩
abbrev S8192x4x2x128 : Shape := ⟨4, ![8192, 4, 2, 128]⟩
abbrev S8192x4x2x1 : Shape := ⟨4, ![8192, 4, 2, 1]⟩
abbrev S8192x4x1x128 : Shape := ⟨4, ![8192, 4, 1, 128]⟩
abbrev S8192x1024 : Shape := ⟨2, ![8192, 1024]⟩
abbrev S8192x128 : Shape := ⟨2, ![8192, 128]⟩
abbrev S8192x256 : Shape := ⟨2, ![8192, 256]⟩
abbrev S512x256 : Shape := ⟨2, ![512, 256]⟩
abbrev S512x128 : Shape := ⟨2, ![512, 128]⟩
abbrev S512x512 : Shape := ⟨2, ![512, 512]⟩
abbrev S512x1 : Shape := ⟨2, ![512, 1]⟩

abbrev nBuf : Space → Nat
  | .hbm => 413
  | .vmem => 16
  | .smem => 0
  | _ => 0

abbrev hbmTy0_0 (i : Nat) : BufTy := match i % 128 with
  | 0 => ⟨S8192x512, .f32⟩
  | 1 => ⟨S8192x512, .f32⟩
  | 2 => ⟨S8192x512, .f32⟩
  | 3 => ⟨S8192x8, .f32⟩
  | 4 => ⟨S8192x512, .f32⟩
  | 5 => ⟨S_, .f32⟩
  | 6 => ⟨S8192x512, .f32⟩
  | 7 => ⟨S8192x512, .f32⟩
  | 8 => ⟨S8192x8x64, .f32⟩
  | 9 => ⟨S8x8192x64, .f32⟩
  | 10 => ⟨S8192x8x64, .f32⟩
  | 11 => ⟨S8x8192x64, .f32⟩
  | 12 => ⟨S8x8192x8192, .f32⟩
  | 13 => ⟨S8x8192, .f32⟩
  | 14 => ⟨S8x8192x1, .f32⟩
  | 15 => ⟨S8x8192x8192, .f32⟩
  | 16 => ⟨S8x8192x8192, .f32⟩
  | 17 => ⟨S8x8192, .f32⟩
  | 18 => ⟨S8x1x8192, .f32⟩
  | 19 => ⟨S8x8192x8192, .f32⟩
  | 20 => ⟨S8x8192x8192, .f32⟩
  | 21 => ⟨S8192x8192, .i32⟩
  | 22 => ⟨S8192x8192, .i32⟩
  | 23 => ⟨S8192x8192, .i1⟩
  | 24 => ⟨S1x8192x8192, .i1⟩
  | 25 => ⟨S_, .f32⟩
  | 26 => ⟨S_, .f32⟩
  | 27 => ⟨S8x8192x8192, .i1⟩
  | 28 => ⟨S8x8192x8192, .f32⟩
  | 29 => ⟨S8x8192x8192, .f32⟩
  | 30 => ⟨S_, .f32⟩
  | 31 => ⟨S8x8192, .f32⟩
  | 32 => ⟨S8x8192x1, .f32⟩
  | 33 => ⟨S8x8192x8192, .f32⟩
  | 34 => ⟨S8x8192x8192, .f32⟩
  | 35 => ⟨S8x8192x8192, .f32⟩
  | 36 => ⟨S_, .f32⟩
  | 37 => ⟨S8x8192, .f32⟩
  | 38 => ⟨S8x8192, .f32⟩
  | 39 => ⟨S8x8192, .f32⟩
  | 40 => ⟨S8192x8, .f32⟩
  | 41 => ⟨S8192x8x64, .f32⟩
  | 42 => ⟨S8x8192x64, .f32⟩
  | 43 => ⟨S8192x8x64, .f32⟩
  | 44 => ⟨S8x8192x64, .f32⟩
  | 45 => ⟨S8x8192x8192, .f32⟩
  | 46 => ⟨S8x8192, .f32⟩
  | 47 => ⟨S8x8192x1, .f32⟩
  | 48 => ⟨S8x8192x8192, .f32⟩
  | 49 => ⟨S8x8192x8192, .f32⟩
  | 50 => ⟨S8x8192, .f32⟩
  | 51 => ⟨S8x1x8192, .f32⟩
  | 52 => ⟨S8x8192x8192, .f32⟩
  | 53 => ⟨S8x8192x8192, .f32⟩
  | 54 => ⟨S8192x8192, .i32⟩
  | 55 => ⟨S8192x8192, .i32⟩
  | 56 => ⟨S8192x8192, .i1⟩
  | 57 => ⟨S1x8192x8192, .i1⟩
  | 58 => ⟨S_, .f32⟩
  | 59 => ⟨S_, .f32⟩
  | 60 => ⟨S8x8192x8192, .i1⟩
  | 61 => ⟨S8x8192x8192, .f32⟩
  | 62 => ⟨S8x8192x8192, .f32⟩
  | 63 => ⟨S_, .f32⟩
  | 64 => ⟨S8x8192, .f32⟩
  | 65 => ⟨S_, .f32⟩
  | 66 => ⟨S8x8192, .f32⟩
  | 67 => ⟨S8x8192, .f32⟩
  | 68 => ⟨S8x8192x1, .f32⟩
  | 69 => ⟨S8x8192x8192, .f32⟩
  | 70 => ⟨S8x8192x8192, .f32⟩
  | 71 => ⟨S8x8192x8192, .f32⟩
  | 72 => ⟨S_, .f32⟩
  | 73 => ⟨S8x8192, .f32⟩
  | 74 => ⟨S8x8192x1, .f32⟩
  | 75 => ⟨S8x8192x8192, .f32⟩
  | 76 => ⟨S8x8192x8192, .f32⟩
  | 77 => ⟨S8192x8x64, .f32⟩
  | 78 => ⟨S8x8192x64, .f32⟩
  | 79 => ⟨S8x8192x64, .f32⟩
  | 80 => ⟨S8192x8x64, .f32⟩
  | 81 => ⟨S8192x512, .f32⟩
  | 82 => ⟨S8192x512, .f32⟩
  | 83 => ⟨S8192x8x64, .f32⟩
  | 84 => ⟨S_, .f32⟩
  | 85 => ⟨S8192x8, .f32⟩
  | 86 => ⟨S8192x4x2x128, .i32⟩
  | 87 => ⟨S8192x4x2x128, .i32⟩
  | 88 => ⟨S_, .i32⟩
  | 89 => ⟨S8192x4x2x128, .i32⟩
  | 90 => ⟨S8192x4x2x128, .i1⟩
  | 91 => ⟨S_, .i32⟩
  | 92 => ⟨S8192x4x2x128, .i32⟩
  | 93 => ⟨S8192x4x2x128, .i1⟩
  | 94 => ⟨S8192x4x2x128, .i1⟩
  | 95 => ⟨S8192x8, .bf16⟩
  | 96 => ⟨S8192x8, .f32⟩
  | 97 => ⟨S8192x8, .f32⟩
  | 98 => ⟨S8192x8, .bf16⟩
  | 99 => ⟨S8192x8, .f32⟩
  | 100 => ⟨S8192x8, .f32⟩
  | 101 => ⟨S8192x8, .bf16⟩
  | 102 => ⟨S8192x8, .f32⟩
  | 103 => ⟨S8192x8, .f32⟩
  | 104 => ⟨S8192x8, .f32⟩
  | 105 => ⟨S8192x4x2x1, .f32⟩
  | 106 => ⟨S8192x4x2x128, .f32⟩
  | 107 => ⟨S8192x4x2x1, .f32⟩
  | 108 => ⟨S8192x4x2x128, .f32⟩
  | 109 => ⟨S8192x4x2x1, .f32⟩
  | 110 => ⟨S8192x4x2x128, .f32⟩
  | 111 => ⟨S8192x4x1x128, .f32⟩
  | 112 => ⟨S8192x4x2x128, .f32⟩
  | 113 => ⟨S_, .i32⟩
  | 114 => ⟨S8192x4x2x128, .i32⟩
  | 115 => ⟨S8192x4x2x128, .i32⟩
  | 116 => ⟨S_, .i32⟩
  | 117 => ⟨S8192x4x2x128, .i32⟩
  | 118 => ⟨S8192x4x2x128, .i32⟩
  | 119 => ⟨S_, .i32⟩
  | 120 => ⟨S8192x4x2x128, .i32⟩
  | 121 => ⟨S8192x4x2x128, .i32⟩
  | 122 => ⟨S8192x4x2x128, .i1⟩
  | 123 => ⟨S_, .i32⟩
  | 124 => ⟨S8192x4x2x128, .i32⟩
  | 125 => ⟨S8192x4x2x128, .i32⟩
  | 126 => ⟨S_, .i32⟩
  | 127 => ⟨S8192x4x2x128, .i32⟩
  | _ => ⟨S8192x512, .f32⟩

abbrev hbmTy0_1 (i : Nat) : BufTy := match i % 128 with
  | 0 => ⟨S8192x4x2x128, .i32⟩
  | 1 => ⟨S_, .i32⟩
  | 2 => ⟨S8192x4x2x128, .i32⟩
  | 3 => ⟨S8192x4x2x128, .i32⟩
  | 4 => ⟨S8192x4x2x128, .i1⟩
  | 5 => ⟨S_, .i32⟩
  | 6 => ⟨S8192x4x2x128, .i32⟩
  | 7 => ⟨S8192x4x2x128, .i32⟩
  | 8 => ⟨S_, .i32⟩
  | 9 => ⟨S8192x4x2x128, .i32⟩
  | 10 => ⟨S8192x4x2x128, .i32⟩
  | 11 => ⟨S_, .i32⟩
  | 12 => ⟨S8192x4x2x128, .i32⟩
  | 13 => ⟨S8192x4x2x128, .i32⟩
  | 14 => ⟨S8192x4x2x128, .i1⟩
  | 15 => ⟨S_, .i32⟩
  | 16 => ⟨S8192x4x2x128, .i32⟩
  | 17 => ⟨S8192x4x2x128, .i32⟩
  | 18 => ⟨S_, .i32⟩
  | 19 => ⟨S8192x4x2x128, .i32⟩
  | 20 => ⟨S8192x4x2x128, .i32⟩
  | 21 => ⟨S_, .i32⟩
  | 22 => ⟨S8192x4x2x128, .i32⟩
  | 23 => ⟨S8192x4x2x128, .i32⟩
  | 24 => ⟨S8192x4x2x128, .i1⟩
  | 25 => ⟨S_, .i32⟩
  | 26 => ⟨S8192x4x2x128, .i32⟩
  | 27 => ⟨S8192x4x2x128, .i32⟩
  | 28 => ⟨S_, .i32⟩
  | 29 => ⟨S8192x4x2x128, .i32⟩
  | 30 => ⟨S8192x4x2x128, .i32⟩
  | 31 => ⟨S_, .i32⟩
  | 32 => ⟨S8192x4x2x128, .i32⟩
  | 33 => ⟨S8192x4x2x128, .i32⟩
  | 34 => ⟨S8192x4x2x128, .i1⟩
  | 35 => ⟨S8192x4x2x128, .i1⟩
  | 36 => ⟨S_, .f32⟩
  | 37 => ⟨S_, .f32⟩
  | 38 => ⟨S8192x4x2x128, .f32⟩
  | 39 => ⟨S8192x4x2x128, .f32⟩
  | 40 => ⟨S8192x4x2x128, .f32⟩
  | 41 => ⟨S8192x4x2x128, .f32⟩
  | 42 => ⟨S8192x4x2x128, .f32⟩
  | 43 => ⟨S8192x4x2x128, .f32⟩
  | 44 => ⟨S8192x4x2x128, .f32⟩
  | 45 => ⟨S8192x4x2x128, .f32⟩
  | 46 => ⟨S8192x4x1x128, .f32⟩
  | 47 => ⟨S8192x4x2x128, .f32⟩
  | 48 => ⟨S_, .i32⟩
  | 49 => ⟨S8192x4x2x128, .i32⟩
  | 50 => ⟨S8192x4x2x128, .i32⟩
  | 51 => ⟨S_, .i32⟩
  | 52 => ⟨S8192x4x2x128, .i32⟩
  | 53 => ⟨S8192x4x2x128, .i32⟩
  | 54 => ⟨S_, .i32⟩
  | 55 => ⟨S8192x4x2x128, .i32⟩
  | 56 => ⟨S8192x4x2x128, .i32⟩
  | 57 => ⟨S8192x4x2x128, .i1⟩
  | 58 => ⟨S_, .i32⟩
  | 59 => ⟨S8192x4x2x128, .i32⟩
  | 60 => ⟨S8192x4x2x128, .i32⟩
  | 61 => ⟨S_, .i32⟩
  | 62 => ⟨S8192x4x2x128, .i32⟩
  | 63 => ⟨S8192x4x2x128, .i32⟩
  | 64 => ⟨S_, .i32⟩
  | 65 => ⟨S8192x4x2x128, .i32⟩
  | 66 => ⟨S8192x4x2x128, .i32⟩
  | 67 => ⟨S8192x4x2x128, .i1⟩
  | 68 => ⟨S8192x4x2x128, .i1⟩
  | 69 => ⟨S_, .i32⟩
  | 70 => ⟨S8192x4x2x128, .i32⟩
  | 71 => ⟨S8192x4x2x128, .i32⟩
  | 72 => ⟨S_, .i32⟩
  | 73 => ⟨S8192x4x2x128, .i32⟩
  | 74 => ⟨S8192x4x2x128, .i32⟩
  | 75 => ⟨S_, .i32⟩
  | 76 => ⟨S8192x4x2x128, .i32⟩
  | 77 => ⟨S8192x4x2x128, .i32⟩
  | 78 => ⟨S8192x4x2x128, .i1⟩
  | 79 => ⟨S8192x4x2x128, .f32⟩
  | 80 => ⟨S_, .i32⟩
  | 81 => ⟨S8192x4x2x128, .i32⟩
  | 82 => ⟨S8192x4x2x128, .i32⟩
  | 83 => ⟨S_, .i32⟩
  | 84 => ⟨S8192x4x2x128, .i32⟩
  | 85 => ⟨S8192x4x2x128, .i32⟩
  | 86 => ⟨S_, .i32⟩
  | 87 => ⟨S8192x4x2x128, .i32⟩
  | 88 => ⟨S8192x4x2x128, .i32⟩
  | 89 => ⟨S8192x4x2x128, .i1⟩
  | 90 => ⟨S8192x4x2x128, .f32⟩
  | 91 => ⟨S_, .i32⟩
  | 92 => ⟨S8192x4x2x128, .i32⟩
  | 93 => ⟨S8192x4x2x128, .i32⟩
  | 94 => ⟨S_, .i32⟩
  | 95 => ⟨S8192x4x2x128, .i32⟩
  | 96 => ⟨S8192x4x2x128, .i32⟩
  | 97 => ⟨S_, .i32⟩
  | 98 => ⟨S8192x4x2x128, .i32⟩
  | 99 => ⟨S8192x4x2x128, .i32⟩
  | 100 => ⟨S8192x4x2x128, .i1⟩
  | 101 => ⟨S8192x4x2x128, .f32⟩
  | 102 => ⟨S_, .i32⟩
  | 103 => ⟨S8192x4x2x128, .i32⟩
  | 104 => ⟨S8192x4x2x128, .i32⟩
  | 105 => ⟨S_, .i32⟩
  | 106 => ⟨S8192x4x2x128, .i32⟩
  | 107 => ⟨S8192x4x2x128, .i32⟩
  | 108 => ⟨S_, .i32⟩
  | 109 => ⟨S8192x4x2x128, .i32⟩
  | 110 => ⟨S8192x4x2x128, .i32⟩
  | 111 => ⟨S8192x4x2x128, .i1⟩
  | 112 => ⟨S_, .i32⟩
  | 113 => ⟨S8192x4x2x128, .i32⟩
  | 114 => ⟨S8192x4x2x128, .i32⟩
  | 115 => ⟨S_, .i32⟩
  | 116 => ⟨S8192x4x2x128, .i32⟩
  | 117 => ⟨S8192x4x2x128, .i32⟩
  | 118 => ⟨S_, .i32⟩
  | 119 => ⟨S8192x4x2x128, .i32⟩
  | 120 => ⟨S8192x4x2x128, .i32⟩
  | 121 => ⟨S8192x4x2x128, .i1⟩
  | 122 => ⟨S8192x4x2x128, .i1⟩
  | 123 => ⟨S_, .f32⟩
  | 124 => ⟨S_, .f32⟩
  | 125 => ⟨S8192x4x2x128, .f32⟩
  | 126 => ⟨S8192x4x2x128, .f32⟩
  | 127 => ⟨S8192x4x2x128, .f32⟩
  | _ => ⟨S8192x512, .f32⟩

abbrev hbmTy0_2 (i : Nat) : BufTy := match i % 128 with
  | 0 => ⟨S8192x4x2x128, .f32⟩
  | 1 => ⟨S8192x4x2x128, .f32⟩
  | 2 => ⟨S8192x4x2x128, .f32⟩
  | 3 => ⟨S8192x4x2x128, .f32⟩
  | 4 => ⟨S_, .f32⟩
  | 5 => ⟨S_, .f32⟩
  | 6 => ⟨S8192x4x2x128, .f32⟩
  | 7 => ⟨S8192x4x2x128, .f32⟩
  | 8 => ⟨S8192x4x2x128, .f32⟩
  | 9 => ⟨S8192x4x1x128, .f32⟩
  | 10 => ⟨S8192x4x2x128, .f32⟩
  | 11 => ⟨S_, .i32⟩
  | 12 => ⟨S8192x4x2x128, .i32⟩
  | 13 => ⟨S8192x4x2x128, .i32⟩
  | 14 => ⟨S_, .i32⟩
  | 15 => ⟨S8192x4x2x128, .i32⟩
  | 16 => ⟨S8192x4x2x128, .i32⟩
  | 17 => ⟨S_, .i32⟩
  | 18 => ⟨S8192x4x2x128, .i32⟩
  | 19 => ⟨S8192x4x2x128, .i32⟩
  | 20 => ⟨S8192x4x2x128, .i1⟩
  | 21 => ⟨S_, .i32⟩
  | 22 => ⟨S8192x4x2x128, .i32⟩
  | 23 => ⟨S8192x4x2x128, .i32⟩
  | 24 => ⟨S_, .i32⟩
  | 25 => ⟨S8192x4x2x128, .i32⟩
  | 26 => ⟨S8192x4x2x128, .i32⟩
  | 27 => ⟨S_, .i32⟩
  | 28 => ⟨S8192x4x2x128, .i32⟩
  | 29 => ⟨S8192x4x2x128, .i32⟩
  | 30 => ⟨S8192x4x2x128, .i1⟩
  | 31 => ⟨S8192x4x2x128, .i1⟩
  | 32 => ⟨S_, .f32⟩
  | 33 => ⟨S_, .f32⟩
  | 34 => ⟨S8192x4x2x128, .f32⟩
  | 35 => ⟨S8192x4x2x128, .f32⟩
  | 36 => ⟨S8192x4x2x128, .f32⟩
  | 37 => ⟨S8192x4x2x128, .f32⟩
  | 38 => ⟨S8192x4x2x128, .f32⟩
  | 39 => ⟨S8192x8, .bf16⟩
  | 40 => ⟨S8192x8, .f32⟩
  | 41 => ⟨S8192x8, .f32⟩
  | 42 => ⟨S8192x8, .bf16⟩
  | 43 => ⟨S8192x8, .f32⟩
  | 44 => ⟨S8192x8, .f32⟩
  | 45 => ⟨S8192x8, .bf16⟩
  | 46 => ⟨S8192x8, .f32⟩
  | 47 => ⟨S8192x8, .f32⟩
  | 48 => ⟨S8192x8, .f32⟩
  | 49 => ⟨S8192x4x2x1, .f32⟩
  | 50 => ⟨S8192x4x2x128, .f32⟩
  | 51 => ⟨S8192x4x2x1, .f32⟩
  | 52 => ⟨S8192x4x2x128, .f32⟩
  | 53 => ⟨S8192x4x2x1, .f32⟩
  | 54 => ⟨S8192x4x2x128, .f32⟩
  | 55 => ⟨S_, .i32⟩
  | 56 => ⟨S8192x4x2x128, .i32⟩
  | 57 => ⟨S8192x4x2x128, .i32⟩
  | 58 => ⟨S_, .i32⟩
  | 59 => ⟨S8192x4x2x128, .i32⟩
  | 60 => ⟨S8192x4x2x128, .i32⟩
  | 61 => ⟨S_, .i32⟩
  | 62 => ⟨S8192x4x2x128, .i32⟩
  | 63 => ⟨S8192x4x2x128, .i32⟩
  | 64 => ⟨S8192x4x2x128, .i1⟩
  | 65 => ⟨S_, .i32⟩
  | 66 => ⟨S8192x4x2x128, .i32⟩
  | 67 => ⟨S8192x4x2x128, .i32⟩
  | 68 => ⟨S_, .i32⟩
  | 69 => ⟨S8192x4x2x128, .i32⟩
  | 70 => ⟨S8192x4x2x128, .i32⟩
  | 71 => ⟨S_, .i32⟩
  | 72 => ⟨S8192x4x2x128, .i32⟩
  | 73 => ⟨S8192x4x2x128, .i32⟩
  | 74 => ⟨S8192x4x2x128, .i1⟩
  | 75 => ⟨S_, .i32⟩
  | 76 => ⟨S8192x4x2x128, .i32⟩
  | 77 => ⟨S8192x4x2x128, .i32⟩
  | 78 => ⟨S_, .i32⟩
  | 79 => ⟨S8192x4x2x128, .i32⟩
  | 80 => ⟨S8192x4x2x128, .i32⟩
  | 81 => ⟨S_, .i32⟩
  | 82 => ⟨S8192x4x2x128, .i32⟩
  | 83 => ⟨S8192x4x2x128, .i32⟩
  | 84 => ⟨S8192x4x2x128, .i1⟩
  | 85 => ⟨S8192x4x2x128, .f32⟩
  | 86 => ⟨S8192x4x2x128, .f32⟩
  | 87 => ⟨S8192x4x2x128, .f32⟩
  | 88 => ⟨S8192x8, .f32⟩
  | 89 => ⟨S8192x8, .bf16⟩
  | 90 => ⟨S8192x8, .f32⟩
  | 91 => ⟨S8192x8, .f32⟩
  | 92 => ⟨S8192x8, .bf16⟩
  | 93 => ⟨S8192x8, .f32⟩
  | 94 => ⟨S8192x8, .f32⟩
  | 95 => ⟨S8192x8, .bf16⟩
  | 96 => ⟨S8192x8, .f32⟩
  | 97 => ⟨S8192x8, .f32⟩
  | 98 => ⟨S8192x8, .f32⟩
  | 99 => ⟨S8192x4x2x1, .f32⟩
  | 100 => ⟨S8192x4x2x128, .f32⟩
  | 101 => ⟨S8192x4x2x1, .f32⟩
  | 102 => ⟨S8192x4x2x128, .f32⟩
  | 103 => ⟨S8192x4x2x1, .f32⟩
  | 104 => ⟨S8192x4x2x128, .f32⟩
  | 105 => ⟨S8192x4x1x128, .f32⟩
  | 106 => ⟨S8192x4x2x128, .f32⟩
  | 107 => ⟨S_, .i32⟩
  | 108 => ⟨S8192x4x2x128, .i32⟩
  | 109 => ⟨S8192x4x2x128, .i32⟩
  | 110 => ⟨S_, .i32⟩
  | 111 => ⟨S8192x4x2x128, .i32⟩
  | 112 => ⟨S8192x4x2x128, .i32⟩
  | 113 => ⟨S_, .i32⟩
  | 114 => ⟨S8192x4x2x128, .i32⟩
  | 115 => ⟨S8192x4x2x128, .i32⟩
  | 116 => ⟨S8192x4x2x128, .i1⟩
  | 117 => ⟨S_, .i32⟩
  | 118 => ⟨S8192x4x2x128, .i32⟩
  | 119 => ⟨S8192x4x2x128, .i32⟩
  | 120 => ⟨S_, .i32⟩
  | 121 => ⟨S8192x4x2x128, .i32⟩
  | 122 => ⟨S8192x4x2x128, .i32⟩
  | 123 => ⟨S_, .i32⟩
  | 124 => ⟨S8192x4x2x128, .i32⟩
  | 125 => ⟨S8192x4x2x128, .i32⟩
  | 126 => ⟨S8192x4x2x128, .i1⟩
  | 127 => ⟨S_, .i32⟩
  | _ => ⟨S8192x512, .f32⟩

abbrev hbmTy0_3 (i : Nat) : BufTy := match i % 128 with
  | 0 => ⟨S8192x4x2x128, .i32⟩
  | 1 => ⟨S8192x4x2x128, .i32⟩
  | 2 => ⟨S_, .i32⟩
  | 3 => ⟨S8192x4x2x128, .i32⟩
  | 4 => ⟨S8192x4x2x128, .i32⟩
  | 5 => ⟨S_, .i32⟩
  | 6 => ⟨S8192x4x2x128, .i32⟩
  | 7 => ⟨S8192x4x2x128, .i32⟩
  | 8 => ⟨S8192x4x2x128, .i1⟩
  | 9 => ⟨S_, .f32⟩
  | 10 => ⟨S_, .f32⟩
  | 11 => ⟨S8192x4x2x128, .f32⟩
  | 12 => ⟨S8192x4x2x128, .f32⟩
  | 13 => ⟨S8192x4x2x128, .f32⟩
  | 14 => ⟨S8192x4x2x128, .f32⟩
  | 15 => ⟨S8192x4x2x128, .f32⟩
  | 16 => ⟨S8192x1024, .f32⟩
  | 17 => ⟨S8192x1024, .bf16⟩
  | 18 => ⟨S8192x1024, .f32⟩
  | 19 => ⟨S8192x1024, .bf16⟩
  | 20 => ⟨S8192x1024, .f32⟩
  | 21 => ⟨S8192x1024, .bf16⟩
  | 22 => ⟨S8192x1024, .f32⟩
  | 23 => ⟨S8192x1024, .bf16⟩
  | 24 => ⟨S8192x512, .f32⟩
  | 25 => ⟨S8192x128, .f32⟩
  | 26 => ⟨S8192x512, .bf16⟩
  | 27 => ⟨S8192x512, .bf16⟩
  | 28 => ⟨S8192x128, .f32⟩
  | _ => ⟨S8192x512, .f32⟩

abbrev hbmTy (i : Nat) : BufTy := match i / 128 with
  | 0 => hbmTy0_0 i
  | 1 => hbmTy0_1 i
  | 2 => hbmTy0_2 i
  | 3 => hbmTy0_3 i
  | _ => ⟨S8192x512, .f32⟩

abbrev bufTy : (tb : Table) → Fin (tcTables nBuf tb) → BufTy
  | .hbm, ⟨i, _⟩ => hbmTy i
  | .local _ .vmem, ⟨0, _⟩ => ⟨S8192x256, .bf16⟩
  | .local _ .vmem, ⟨1, _⟩ => ⟨S8192x256, .bf16⟩
  | .local _ .vmem, ⟨2, _⟩ => ⟨S8192x256, .bf16⟩
  | .local _ .vmem, ⟨3, _⟩ => ⟨S8192x256, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S8192x128, .f32⟩
  | .local _ .vmem, ⟨9, _⟩ => ⟨S8192x128, .f32⟩
  | .local _ .vmem, ⟨10, _⟩ => ⟨S8192x128, .f32⟩
  | .local _ .vmem, ⟨11, _⟩ => ⟨S512x128, .bf16⟩
  | .local _ .vmem, ⟨12, _⟩ => ⟨S512x128, .bf16⟩
  | .local _ .vmem, ⟨13, _⟩ => ⟨S512x128, .bf16⟩
  | .local _ .vmem, ⟨14, _⟩ => ⟨S512x128, .bf16⟩
  | .local _ .vmem, ⟨15, _⟩ => ⟨S8192x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_3 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v46 : Ref sig .tc := ⟨.hbm, 62, rfl⟩
abbrev main_cst_4 : Ref sig .tc := ⟨.hbm, 63, rfl⟩
abbrev main_v47 : Ref sig .tc := ⟨.hbm, 64, rfl⟩
abbrev main_cst_5 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_6 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_7 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_c : Ref sig .tc := ⟨.hbm, 88, rfl⟩
abbrev main_v68 : Ref sig .tc := ⟨.hbm, 89, rfl⟩
abbrev main_v69 : Ref sig .tc := ⟨.hbm, 90, rfl⟩
abbrev main_c_8 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_c_9 : Ref sig .tc := ⟨.hbm, 113, rfl⟩
abbrev main_v91 : Ref sig .tc := ⟨.hbm, 114, rfl⟩
abbrev main_v92 : Ref sig .tc := ⟨.hbm, 115, rfl⟩
abbrev main_c_10 : Ref sig .tc := ⟨.hbm, 116, rfl⟩
abbrev main_v93 : Ref sig .tc := ⟨.hbm, 117, rfl⟩
abbrev main_v94 : Ref sig .tc := ⟨.hbm, 118, rfl⟩
abbrev main_c_11 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_c_12 : Ref sig .tc := ⟨.hbm, 123, rfl⟩
abbrev main_v98 : Ref sig .tc := ⟨.hbm, 124, rfl⟩
abbrev main_v99 : Ref sig .tc := ⟨.hbm, 125, rfl⟩
abbrev main_c_13 : Ref sig .tc := ⟨.hbm, 126, rfl⟩
abbrev main_v100 : Ref sig .tc := ⟨.hbm, 127, rfl⟩
abbrev main_v101 : Ref sig .tc := ⟨.hbm, 128, rfl⟩
abbrev main_c_14 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_c_15 : Ref sig .tc := ⟨.hbm, 133, rfl⟩
abbrev main_v105 : Ref sig .tc := ⟨.hbm, 134, rfl⟩
abbrev main_v106 : Ref sig .tc := ⟨.hbm, 135, rfl⟩
abbrev main_c_16 : Ref sig .tc := ⟨.hbm, 136, rfl⟩
abbrev main_v107 : Ref sig .tc := ⟨.hbm, 137, rfl⟩
abbrev main_v108 : Ref sig .tc := ⟨.hbm, 138, rfl⟩
abbrev main_c_17 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_c_18 : Ref sig .tc := ⟨.hbm, 143, rfl⟩
abbrev main_v112 : Ref sig .tc := ⟨.hbm, 144, rfl⟩
abbrev main_v113 : Ref sig .tc := ⟨.hbm, 145, rfl⟩
abbrev main_c_19 : Ref sig .tc := ⟨.hbm, 146, rfl⟩
abbrev main_v114 : Ref sig .tc := ⟨.hbm, 147, rfl⟩
abbrev main_v115 : Ref sig .tc := ⟨.hbm, 148, rfl⟩
abbrev main_c_20 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_c_21 : Ref sig .tc := ⟨.hbm, 153, rfl⟩
abbrev main_v119 : Ref sig .tc := ⟨.hbm, 154, rfl⟩
abbrev main_v120 : Ref sig .tc := ⟨.hbm, 155, rfl⟩
abbrev main_c_22 : Ref sig .tc := ⟨.hbm, 156, rfl⟩
abbrev main_v121 : Ref sig .tc := ⟨.hbm, 157, rfl⟩
abbrev main_v122 : Ref sig .tc := ⟨.hbm, 158, rfl⟩
abbrev main_c_23 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_cst_24 : Ref sig .tc := ⟨.hbm, 164, rfl⟩
abbrev main_cst_25 : Ref sig .tc := ⟨.hbm, 165, rfl⟩
abbrev main_call2_v0 : Ref sig .tc := ⟨.hbm, 166, rfl⟩
abbrev main_call2_v1 : Ref sig .tc := ⟨.hbm, 167, rfl⟩
abbrev main_v127 : Ref sig .tc := ⟨.hbm, 168, rfl⟩
abbrev main_call3_v0 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_c_26 : Ref sig .tc := ⟨.hbm, 176, rfl⟩
abbrev main_v134 : Ref sig .tc := ⟨.hbm, 177, rfl⟩
abbrev main_v135 : Ref sig .tc := ⟨.hbm, 178, rfl⟩
abbrev main_c_27 : Ref sig .tc := ⟨.hbm, 179, rfl⟩
abbrev main_v136 : Ref sig .tc := ⟨.hbm, 180, rfl⟩
abbrev main_v137 : Ref sig .tc := ⟨.hbm, 181, rfl⟩
abbrev main_c_28 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_c_29 : Ref sig .tc := ⟨.hbm, 186, rfl⟩
abbrev main_v141 : Ref sig .tc := ⟨.hbm, 187, rfl⟩
abbrev main_v142 : Ref sig .tc := ⟨.hbm, 188, rfl⟩
abbrev main_c_30 : Ref sig .tc := ⟨.hbm, 189, rfl⟩
abbrev main_v143 : Ref sig .tc := ⟨.hbm, 190, rfl⟩
abbrev main_v144 : Ref sig .tc := ⟨.hbm, 191, rfl⟩
abbrev main_c_31 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_c_32 : Ref sig .tc := ⟨.hbm, 197, rfl⟩
abbrev main_v149 : Ref sig .tc := ⟨.hbm, 198, rfl⟩
abbrev main_v150 : Ref sig .tc := ⟨.hbm, 199, rfl⟩
abbrev main_c_33 : Ref sig .tc := ⟨.hbm, 200, rfl⟩
abbrev main_v151 : Ref sig .tc := ⟨.hbm, 201, rfl⟩
abbrev main_v152 : Ref sig .tc := ⟨.hbm, 202, rfl⟩
abbrev main_c_34 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_c_35 : Ref sig .tc := ⟨.hbm, 208, rfl⟩
abbrev main_v157 : Ref sig .tc := ⟨.hbm, 209, rfl⟩
abbrev main_v158 : Ref sig .tc := ⟨.hbm, 210, rfl⟩
abbrev main_c_36 : Ref sig .tc := ⟨.hbm, 211, rfl⟩
abbrev main_v159 : Ref sig .tc := ⟨.hbm, 212, rfl⟩
abbrev main_v160 : Ref sig .tc := ⟨.hbm, 213, rfl⟩
abbrev main_c_37 : Ref sig .tc := ⟨.hbm, 214, rfl⟩
abbrev main_v161 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_c_38 : Ref sig .tc := ⟨.hbm, 219, rfl⟩
abbrev main_v165 : Ref sig .tc := ⟨.hbm, 220, rfl⟩
abbrev main_v166 : Ref sig .tc := ⟨.hbm, 221, rfl⟩
abbrev main_c_39 : Ref sig .tc := ⟨.hbm, 222, rfl⟩
abbrev main_v167 : Ref sig .tc := ⟨.hbm, 223, rfl⟩
abbrev main_v168 : Ref sig .tc := ⟨.hbm, 224, rfl⟩
abbrev main_c_40 : Ref sig .tc := ⟨.hbm, 225, rfl⟩
abbrev main_v169 : Ref sig .tc := ⟨.hbm, 226, rfl⟩
abbrev main_v170 : Ref sig .tc := ⟨.hbm, 227, rfl⟩
abbrev main_v171 : Ref sig .tc := ⟨.hbm, 228, rfl⟩
abbrev main_v172 : Ref sig .tc := ⟨.hbm, 229, rfl⟩
abbrev main_c_41 : Ref sig .tc := ⟨.hbm, 230, rfl⟩
abbrev main_v173 : Ref sig .tc := ⟨.hbm, 231, rfl⟩
abbrev main_v174 : Ref sig .tc := ⟨.hbm, 232, rfl⟩
abbrev main_c_42 : Ref sig .tc := ⟨.hbm, 233, rfl⟩
abbrev main_v175 : Ref sig .tc := ⟨.hbm, 234, rfl⟩
abbrev main_v176 : Ref sig .tc := ⟨.hbm, 235, rfl⟩
abbrev main_c_43 : Ref sig .tc := ⟨.hbm, 236, rfl⟩
abbrev main_v177 : Ref sig .tc := ⟨.hbm, 237, rfl⟩
abbrev main_v178 : Ref sig .tc := ⟨.hbm, 238, rfl⟩
abbrev main_v179 : Ref sig .tc := ⟨.hbm, 239, rfl⟩
abbrev main_c_44 : Ref sig .tc := ⟨.hbm, 240, rfl⟩
abbrev main_v180 : Ref sig .tc := ⟨.hbm, 241, rfl⟩
abbrev main_v181 : Ref sig .tc := ⟨.hbm, 242, rfl⟩
abbrev main_c_45 : Ref sig .tc := ⟨.hbm, 243, rfl⟩
abbrev main_v182 : Ref sig .tc := ⟨.hbm, 244, rfl⟩
abbrev main_v183 : Ref sig .tc := ⟨.hbm, 245, rfl⟩
abbrev main_c_46 : Ref sig .tc := ⟨.hbm, 246, rfl⟩
abbrev main_v184 : Ref sig .tc := ⟨.hbm, 247, rfl⟩
abbrev main_v185 : Ref sig .tc := ⟨.hbm, 248, rfl⟩
abbrev main_v186 : Ref sig .tc := ⟨.hbm, 249, rfl⟩
abbrev main_v187 : Ref sig .tc := ⟨.hbm, 250, rfl⟩
abbrev main_cst_47 : Ref sig .tc := ⟨.hbm, 251, rfl⟩
abbrev main_cst_48 : Ref sig .tc := ⟨.hbm, 252, rfl⟩
abbrev main_call7_v0 : Ref sig .tc := ⟨.hbm, 253, rfl⟩
abbrev main_call7_v1 : Ref sig .tc := ⟨.hbm, 254, rfl⟩
abbrev main_v188 : Ref sig .tc := ⟨.hbm, 255, rfl⟩
abbrev main_call8_v0 : Ref sig .tc := ⟨.hbm, 256, rfl⟩
abbrev main_v189 : Ref sig .tc := ⟨.hbm, 257, rfl⟩
abbrev main_v190 : Ref sig .tc := ⟨.hbm, 258, rfl⟩
abbrev main_v191 : Ref sig .tc := ⟨.hbm, 259, rfl⟩
abbrev main_cst_49 : Ref sig .tc := ⟨.hbm, 260, rfl⟩
abbrev main_call11_v0 : Ref sig .tc := ⟨.hbm, 261, rfl⟩
abbrev main_call11_v1 : Ref sig .tc := ⟨.hbm, 262, rfl⟩
abbrev main_v192 : Ref sig .tc := ⟨.hbm, 263, rfl⟩
abbrev main_v193 : Ref sig .tc := ⟨.hbm, 264, rfl⟩
abbrev main_v194 : Ref sig .tc := ⟨.hbm, 265, rfl⟩
abbrev main_v195 : Ref sig .tc := ⟨.hbm, 266, rfl⟩
abbrev main_c_50 : Ref sig .tc := ⟨.hbm, 267, rfl⟩
abbrev main_v196 : Ref sig .tc := ⟨.hbm, 268, rfl⟩
abbrev main_v197 : Ref sig .tc := ⟨.hbm, 269, rfl⟩
abbrev main_c_51 : Ref sig .tc := ⟨.hbm, 270, rfl⟩
abbrev main_v198 : Ref sig .tc := ⟨.hbm, 271, rfl⟩
abbrev main_v199 : Ref sig .tc := ⟨.hbm, 272, rfl⟩
abbrev main_c_52 : Ref sig .tc := ⟨.hbm, 273, rfl⟩
abbrev main_v200 : Ref sig .tc := ⟨.hbm, 274, rfl⟩
abbrev main_v201 : Ref sig .tc := ⟨.hbm, 275, rfl⟩
abbrev main_v202 : Ref sig .tc := ⟨.hbm, 276, rfl⟩
abbrev main_c_53 : Ref sig .tc := ⟨.hbm, 277, rfl⟩
abbrev main_v203 : Ref sig .tc := ⟨.hbm, 278, rfl⟩
abbrev main_v204 : Ref sig .tc := ⟨.hbm, 279, rfl⟩
abbrev main_c_54 : Ref sig .tc := ⟨.hbm, 280, rfl⟩
abbrev main_v205 : Ref sig .tc := ⟨.hbm, 281, rfl⟩
abbrev main_v206 : Ref sig .tc := ⟨.hbm, 282, rfl⟩
abbrev main_c_55 : Ref sig .tc := ⟨.hbm, 283, rfl⟩
abbrev main_v207 : Ref sig .tc := ⟨.hbm, 284, rfl⟩
abbrev main_v208 : Ref sig .tc := ⟨.hbm, 285, rfl⟩
abbrev main_v209 : Ref sig .tc := ⟨.hbm, 286, rfl⟩
abbrev main_v210 : Ref sig .tc := ⟨.hbm, 287, rfl⟩
abbrev main_cst_56 : Ref sig .tc := ⟨.hbm, 288, rfl⟩
abbrev main_cst_57 : Ref sig .tc := ⟨.hbm, 289, rfl⟩
abbrev main_call13_v0 : Ref sig .tc := ⟨.hbm, 290, rfl⟩
abbrev main_call13_v1 : Ref sig .tc := ⟨.hbm, 291, rfl⟩
abbrev main_v211 : Ref sig .tc := ⟨.hbm, 292, rfl⟩
abbrev main_call14_v0 : Ref sig .tc := ⟨.hbm, 293, rfl⟩
abbrev main_v212 : Ref sig .tc := ⟨.hbm, 294, rfl⟩
abbrev main_v213 : Ref sig .tc := ⟨.hbm, 295, rfl⟩
abbrev main_v214 : Ref sig .tc := ⟨.hbm, 296, rfl⟩
abbrev main_v215 : Ref sig .tc := ⟨.hbm, 297, rfl⟩
abbrev main_v216 : Ref sig .tc := ⟨.hbm, 298, rfl⟩
abbrev main_v217 : Ref sig .tc := ⟨.hbm, 299, rfl⟩
abbrev main_v218 : Ref sig .tc := ⟨.hbm, 300, rfl⟩
abbrev main_v219 : Ref sig .tc := ⟨.hbm, 301, rfl⟩
abbrev main_v220 : Ref sig .tc := ⟨.hbm, 302, rfl⟩
abbrev main_v221 : Ref sig .tc := ⟨.hbm, 303, rfl⟩
abbrev main_v222 : Ref sig .tc := ⟨.hbm, 304, rfl⟩
abbrev main_v223 : Ref sig .tc := ⟨.hbm, 305, rfl⟩
abbrev main_v224 : Ref sig .tc := ⟨.hbm, 306, rfl⟩
abbrev main_v225 : Ref sig .tc := ⟨.hbm, 307, rfl⟩
abbrev main_v226 : Ref sig .tc := ⟨.hbm, 308, rfl⟩
abbrev main_v227 : Ref sig .tc := ⟨.hbm, 309, rfl⟩
abbrev main_v228 : Ref sig .tc := ⟨.hbm, 310, rfl⟩
abbrev main_c_58 : Ref sig .tc := ⟨.hbm, 311, rfl⟩
abbrev main_v229 : Ref sig .tc := ⟨.hbm, 312, rfl⟩
abbrev main_v230 : Ref sig .tc := ⟨.hbm, 313, rfl⟩
abbrev main_c_59 : Ref sig .tc := ⟨.hbm, 314, rfl⟩
abbrev main_v231 : Ref sig .tc := ⟨.hbm, 315, rfl⟩
abbrev main_v232 : Ref sig .tc := ⟨.hbm, 316, rfl⟩
abbrev main_c_60 : Ref sig .tc := ⟨.hbm, 317, rfl⟩
abbrev main_v233 : Ref sig .tc := ⟨.hbm, 318, rfl⟩
abbrev main_v234 : Ref sig .tc := ⟨.hbm, 319, rfl⟩
abbrev main_v235 : Ref sig .tc := ⟨.hbm, 320, rfl⟩
abbrev main_c_61 : Ref sig .tc := ⟨.hbm, 321, rfl⟩
abbrev main_v236 : Ref sig .tc := ⟨.hbm, 322, rfl⟩
abbrev main_v237 : Ref sig .tc := ⟨.hbm, 323, rfl⟩
abbrev main_c_62 : Ref sig .tc := ⟨.hbm, 324, rfl⟩
abbrev main_v238 : Ref sig .tc := ⟨.hbm, 325, rfl⟩
abbrev main_v239 : Ref sig .tc := ⟨.hbm, 326, rfl⟩
abbrev main_c_63 : Ref sig .tc := ⟨.hbm, 327, rfl⟩
abbrev main_v240 : Ref sig .tc := ⟨.hbm, 328, rfl⟩
abbrev main_v241 : Ref sig .tc := ⟨.hbm, 329, rfl⟩
abbrev main_v242 : Ref sig .tc := ⟨.hbm, 330, rfl⟩
abbrev main_c_64 : Ref sig .tc := ⟨.hbm, 331, rfl⟩
abbrev main_v243 : Ref sig .tc := ⟨.hbm, 332, rfl⟩
abbrev main_v244 : Ref sig .tc := ⟨.hbm, 333, rfl⟩
abbrev main_c_65 : Ref sig .tc := ⟨.hbm, 334, rfl⟩
abbrev main_v245 : Ref sig .tc := ⟨.hbm, 335, rfl⟩
abbrev main_v246 : Ref sig .tc := ⟨.hbm, 336, rfl⟩
abbrev main_c_66 : Ref sig .tc := ⟨.hbm, 337, rfl⟩
abbrev main_v247 : Ref sig .tc := ⟨.hbm, 338, rfl⟩
abbrev main_v248 : Ref sig .tc := ⟨.hbm, 339, rfl⟩
abbrev main_v249 : Ref sig .tc := ⟨.hbm, 340, rfl⟩
abbrev main_v250 : Ref sig .tc := ⟨.hbm, 341, rfl⟩
abbrev main_v251 : Ref sig .tc := ⟨.hbm, 342, rfl⟩
abbrev main_v252 : Ref sig .tc := ⟨.hbm, 343, rfl⟩
abbrev main_v253 : Ref sig .tc := ⟨.hbm, 344, rfl⟩
abbrev main_v254 : Ref sig .tc := ⟨.hbm, 345, rfl⟩
abbrev main_v255 : Ref sig .tc := ⟨.hbm, 346, rfl⟩
abbrev main_v256 : Ref sig .tc := ⟨.hbm, 347, rfl⟩
abbrev main_v257 : Ref sig .tc := ⟨.hbm, 348, rfl⟩
abbrev main_v258 : Ref sig .tc := ⟨.hbm, 349, rfl⟩
abbrev main_v259 : Ref sig .tc := ⟨.hbm, 350, rfl⟩
abbrev main_v260 : Ref sig .tc := ⟨.hbm, 351, rfl⟩
abbrev main_v261 : Ref sig .tc := ⟨.hbm, 352, rfl⟩
abbrev main_v262 : Ref sig .tc := ⟨.hbm, 353, rfl⟩
abbrev main_v263 : Ref sig .tc := ⟨.hbm, 354, rfl⟩
abbrev main_v264 : Ref sig .tc := ⟨.hbm, 355, rfl⟩
abbrev main_v265 : Ref sig .tc := ⟨.hbm, 356, rfl⟩
abbrev main_v266 : Ref sig .tc := ⟨.hbm, 357, rfl⟩
abbrev main_v267 : Ref sig .tc := ⟨.hbm, 358, rfl⟩
abbrev main_v268 : Ref sig .tc := ⟨.hbm, 359, rfl⟩
abbrev main_v269 : Ref sig .tc := ⟨.hbm, 360, rfl⟩
abbrev main_v270 : Ref sig .tc := ⟨.hbm, 361, rfl⟩
abbrev main_v271 : Ref sig .tc := ⟨.hbm, 362, rfl⟩
abbrev main_c_67 : Ref sig .tc := ⟨.hbm, 363, rfl⟩
abbrev main_v272 : Ref sig .tc := ⟨.hbm, 364, rfl⟩
abbrev main_v273 : Ref sig .tc := ⟨.hbm, 365, rfl⟩
abbrev main_c_68 : Ref sig .tc := ⟨.hbm, 366, rfl⟩
abbrev main_v274 : Ref sig .tc := ⟨.hbm, 367, rfl⟩
abbrev main_v275 : Ref sig .tc := ⟨.hbm, 368, rfl⟩
abbrev main_c_69 : Ref sig .tc := ⟨.hbm, 369, rfl⟩
abbrev main_v276 : Ref sig .tc := ⟨.hbm, 370, rfl⟩
abbrev main_v277 : Ref sig .tc := ⟨.hbm, 371, rfl⟩
abbrev main_v278 : Ref sig .tc := ⟨.hbm, 372, rfl⟩
abbrev main_c_70 : Ref sig .tc := ⟨.hbm, 373, rfl⟩
abbrev main_v279 : Ref sig .tc := ⟨.hbm, 374, rfl⟩
abbrev main_v280 : Ref sig .tc := ⟨.hbm, 375, rfl⟩
abbrev main_c_71 : Ref sig .tc := ⟨.hbm, 376, rfl⟩
abbrev main_v281 : Ref sig .tc := ⟨.hbm, 377, rfl⟩
abbrev main_v282 : Ref sig .tc := ⟨.hbm, 378, rfl⟩
abbrev main_c_72 : Ref sig .tc := ⟨.hbm, 379, rfl⟩
abbrev main_v283 : Ref sig .tc := ⟨.hbm, 380, rfl⟩
abbrev main_v284 : Ref sig .tc := ⟨.hbm, 381, rfl⟩
abbrev main_v285 : Ref sig .tc := ⟨.hbm, 382, rfl⟩
abbrev main_c_73 : Ref sig .tc := ⟨.hbm, 383, rfl⟩
abbrev main_v286 : Ref sig .tc := ⟨.hbm, 384, rfl⟩
abbrev main_v287 : Ref sig .tc := ⟨.hbm, 385, rfl⟩
abbrev main_c_74 : Ref sig .tc := ⟨.hbm, 386, rfl⟩
abbrev main_v288 : Ref sig .tc := ⟨.hbm, 387, rfl⟩
abbrev main_v289 : Ref sig .tc := ⟨.hbm, 388, rfl⟩
abbrev main_c_75 : Ref sig .tc := ⟨.hbm, 389, rfl⟩
abbrev main_v290 : Ref sig .tc := ⟨.hbm, 390, rfl⟩
abbrev main_v291 : Ref sig .tc := ⟨.hbm, 391, rfl⟩
abbrev main_v292 : Ref sig .tc := ⟨.hbm, 392, rfl⟩
abbrev main_cst_76 : Ref sig .tc := ⟨.hbm, 393, rfl⟩
abbrev main_call18_v0 : Ref sig .tc := ⟨.hbm, 394, rfl⟩
abbrev main_call18_v1 : Ref sig .tc := ⟨.hbm, 395, rfl⟩
abbrev main_v293 : Ref sig .tc := ⟨.hbm, 396, rfl⟩
abbrev main_v294 : Ref sig .tc := ⟨.hbm, 397, rfl⟩
abbrev main_v295 : Ref sig .tc := ⟨.hbm, 398, rfl⟩
abbrev main_v296 : Ref sig .tc := ⟨.hbm, 399, rfl⟩
abbrev main_v297 : Ref sig .tc := ⟨.hbm, 400, rfl⟩
abbrev main_v298 : Ref sig .tc := ⟨.hbm, 401, rfl⟩
abbrev main_v299 : Ref sig .tc := ⟨.hbm, 402, rfl⟩
abbrev main_v300 : Ref sig .tc := ⟨.hbm, 403, rfl⟩
abbrev main_v301 : Ref sig .tc := ⟨.hbm, 404, rfl⟩
abbrev main_v302 : Ref sig .tc := ⟨.hbm, 405, rfl⟩
abbrev main_v303 : Ref sig .tc := ⟨.hbm, 406, rfl⟩
abbrev main_v304 : Ref sig .tc := ⟨.hbm, 407, rfl⟩
abbrev main_v305_0 : Ref sig .tc := ⟨.hbm, 408, rfl⟩
abbrev main_v305_1 : Ref sig .tc := ⟨.hbm, 409, rfl⟩
abbrev main_v305_2 : Ref sig .tc := ⟨.hbm, 410, rfl⟩
abbrev main_v305_3 : Ref sig .tc := ⟨.hbm, 411, rfl⟩
abbrev main_v305_4 : Ref sig .tc := ⟨.hbm, 412, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let arg1 : BitVec 32 := BitVec.ofNat 32 (i 1).val
  let c512_i32 : BitVec 32 := 512#32
  let v14 : BitVec 32 := Scalar.muli arg1 c512_i32
  v14
def k0_off1 (i : grid0.Coords) : Fin 2 → Nat :=
  let arg1 : BitVec 32 := BitVec.ofNat 32 (i 1).val
  let c512_i32 : BitVec 32 := 512#32
  let v14 : BitVec 32 := Scalar.muli arg1 c512_i32
  let v15 : BitVec 32 := v14
  let v16 : Index := Scalar.indexCast v15
  let c0 : Index := 0#32
  ![v16.toNat, 0]
def k0_off2 (i : grid0.Coords) : Fin 2 → Nat :=
  let arg1 : BitVec 32 := BitVec.ofNat 32 (i 1).val
  let c512_i32 : BitVec 32 := 512#32
  let v14 : BitVec 32 := Scalar.muli arg1 c512_i32
  let v15 : BitVec 32 := v14
  let v42 : Index := Scalar.indexCast v15
  let c128 : Index := 128#32
  ![v42.toNat, 128]
def k0_off3 (i : grid0.Coords) : Fin 2 → Nat :=
  let arg1 : BitVec 32 := BitVec.ofNat 32 (i 1).val
  let c512_i32 : BitVec 32 := 512#32
  let v14 : BitVec 32 := Scalar.muli arg1 c512_i32
  let v15 : BitVec 32 := v14
  let v68 : Index := Scalar.indexCast v15
  let c0_30 : Index := 0#32
  ![v68.toNat, 0]
@[reducible] def k0_t1_loop (i : grid0.Coords) : Scf.Loop 32 :=
  let arg1 : BitVec 32 := BitVec.ofNat 32 (i 1).val
  let c1_i32_37 : BitVec 32 := 1#32
  let v99 : BitVec 32 := Scalar.addi arg1 c1_i32_37
  let c16_i32 : BitVec 32 := 16#32
  let v100 : BitVec 32 := Scalar.subi c16_i32 v99
  let c1_i32_38 : BitVec 32 := 1#32
  let v102 : BitVec 32 := Scalar.divsi v100 c1_i32_38
  let v103 : BitVec 32 := Scalar.muli v102 c1_i32_38
  let v104 : BitVec 32 := Scalar.addi v99 v103
  let c1_i32_39 : BitVec 32 := 1#32
  ⟨v99, v104, c1_i32_39⟩
def k0_mult2 (i : grid0.Coords) (k0_t1 : Fin (k0_t1_loop i).trips) : BitVec 32 :=
  let arg1 : BitVec 32 := BitVec.ofNat 32 (i 1).val
  let c1_i32_37 : BitVec 32 := 1#32
  let v99 : BitVec 32 := Scalar.addi arg1 c1_i32_37
  let c1_i32_39 : BitVec 32 := 1#32
  let arg11 : BitVec 32 := Scf.iv v99 c1_i32_39 k0_t1
  let c512_i32_53 : BitVec 32 := 512#32
  let v139 : BitVec 32 := Scalar.muli arg11 c512_i32_53
  v139
def k0_off4 (i : grid0.Coords) (k0_t1 : Fin (k0_t1_loop i).trips) : Fin 2 → Nat :=
  let arg1 : BitVec 32 := BitVec.ofNat 32 (i 1).val
  let c1_i32_37 : BitVec 32 := 1#32
  let v99 : BitVec 32 := Scalar.addi arg1 c1_i32_37
  let c1_i32_39 : BitVec 32 := 1#32
  let arg11 : BitVec 32 := Scf.iv v99 c1_i32_39 k0_t1
  let c512_i32_53 : BitVec 32 := 512#32
  let v139 : BitVec 32 := Scalar.muli arg11 c512_i32_53
  let v140 : BitVec 32 := v139
  let v141 : Index := Scalar.indexCast v140
  let c0_54 : Index := 0#32
  ![v141.toNat, 0]
def k0_off5 (i : grid0.Coords) (k0_t1 : Fin (k0_t1_loop i).trips) : Fin 2 → Nat :=
  let arg1 : BitVec 32 := BitVec.ofNat 32 (i 1).val
  let c1_i32_37 : BitVec 32 := 1#32
  let v99 : BitVec 32 := Scalar.addi arg1 c1_i32_37
  let c1_i32_39 : BitVec 32 := 1#32
  let arg11 : BitVec 32 := Scf.iv v99 c1_i32_39 k0_t1
  let c512_i32_53 : BitVec 32 := 512#32
  let v139 : BitVec 32 := Scalar.muli arg11 c512_i32_53
  let v140 : BitVec 32 := v139
  let v164 : Index := Scalar.indexCast v140
  let c128_67 : Index := 128#32
  ![v164.toNat, 128]
def k0_off6 (i : grid0.Coords) (k0_t1 : Fin (k0_t1_loop i).trips) : Fin 2 → Nat :=
  let arg1 : BitVec 32 := BitVec.ofNat 32 (i 1).val
  let c1_i32_37 : BitVec 32 := 1#32
  let v99 : BitVec 32 := Scalar.addi arg1 c1_i32_37
  let c1_i32_39 : BitVec 32 := 1#32
  let arg11 : BitVec 32 := Scf.iv v99 c1_i32_39 k0_t1
  let c512_i32_53 : BitVec 32 := 512#32
  let v139 : BitVec 32 := Scalar.muli arg11 c512_i32_53
  let v140 : BitVec 32 := v139
  let v187 : Index := Scalar.indexCast v140
  let c0_80 : Index := 0#32
  ![v187.toNat, 0]
@[reducible] def k0_t2_loop (i : grid0.Coords) : Scf.Loop 32 :=
  let arg1 : BitVec 32 := BitVec.ofNat 32 (i 1).val
  let c1_i32_37 : BitVec 32 := 1#32
  let v99 : BitVec 32 := Scalar.addi arg1 c1_i32_37
  let c16_i32 : BitVec 32 := 16#32
  let v100 : BitVec 32 := Scalar.subi c16_i32 v99
  let c1_i32_38 : BitVec 32 := 1#32
  let v102 : BitVec 32 := Scalar.divsi v100 c1_i32_38
  let v103 : BitVec 32 := Scalar.muli v102 c1_i32_38
  let v104 : BitVec 32 := Scalar.addi v99 v103
  let v101 : BitVec 32 := Scalar.addi v99 v100
  let c1_i32_40 : BitVec 32 := 1#32
  ⟨v104, v101, c1_i32_40⟩
def k0_mult3 (i : grid0.Coords) (k0_t2 : Fin (k0_t2_loop i).trips) : BitVec 32 :=
  let arg1 : BitVec 32 := BitVec.ofNat 32 (i 1).val
  let c1_i32_37 : BitVec 32 := 1#32
  let v99 : BitVec 32 := Scalar.addi arg1 c1_i32_37
  let c16_i32 : BitVec 32 := 16#32
  let v100 : BitVec 32 := Scalar.subi c16_i32 v99
  let c1_i32_38 : BitVec 32 := 1#32
  let v102 : BitVec 32 := Scalar.divsi v100 c1_i32_38
  let v103 : BitVec 32 := Scalar.muli v102 c1_i32_38
  let v104 : BitVec 32 := Scalar.addi v99 v103
  let c1_i32_40 : BitVec 32 := 1#32
  let arg11 : BitVec 32 := Scf.iv v104 c1_i32_40 k0_t2
  let c512_i32_53 : BitVec 32 := 512#32
  let v139 : BitVec 32 := Scalar.muli arg11 c512_i32_53
  v139
def k0_off7 (i : grid0.Coords) (k0_t2 : Fin (k0_t2_loop i).trips) : Fin 2 → Nat :=
  let arg1 : BitVec 32 := BitVec.ofNat 32 (i 1).val
  let c1_i32_37 : BitVec 32 := 1#32
  let v99 : BitVec 32 := Scalar.addi arg1 c1_i32_37
  let c16_i32 : BitVec 32 := 16#32
  let v100 : BitVec 32 := Scalar.subi c16_i32 v99
  let c1_i32_38 : BitVec 32 := 1#32
  let v102 : BitVec 32 := Scalar.divsi v100 c1_i32_38
  let v103 : BitVec 32 := Scalar.muli v102 c1_i32_38
  let v104 : BitVec 32 := Scalar.addi v99 v103
  let c1_i32_40 : BitVec 32 := 1#32
  let arg11 : BitVec 32 := Scf.iv v104 c1_i32_40 k0_t2
  let c512_i32_53 : BitVec 32 := 512#32
  let v139 : BitVec 32 := Scalar.muli arg11 c512_i32_53
  let v140 : BitVec 32 := v139
  let v141 : Index := Scalar.indexCast v140
  let c0_54 : Index := 0#32
  ![v141.toNat, 0]
def k0_off8 (i : grid0.Coords) (k0_t2 : Fin (k0_t2_loop i).trips) : Fin 2 → Nat :=
  let arg1 : BitVec 32 := BitVec.ofNat 32 (i 1).val
  let c1_i32_37 : BitVec 32 := 1#32
  let v99 : BitVec 32 := Scalar.addi arg1 c1_i32_37
  let c16_i32 : BitVec 32 := 16#32
  let v100 : BitVec 32 := Scalar.subi c16_i32 v99
  let c1_i32_38 : BitVec 32 := 1#32
  let v102 : BitVec 32 := Scalar.divsi v100 c1_i32_38
  let v103 : BitVec 32 := Scalar.muli v102 c1_i32_38
  let v104 : BitVec 32 := Scalar.addi v99 v103
  let c1_i32_40 : BitVec 32 := 1#32
  let arg11 : BitVec 32 := Scf.iv v104 c1_i32_40 k0_t2
  let c512_i32_53 : BitVec 32 := 512#32
  let v139 : BitVec 32 := Scalar.muli arg11 c512_i32_53
  let v140 : BitVec 32 := v139
  let v164 : Index := Scalar.indexCast v140
  let c128_67 : Index := 128#32
  ![v164.toNat, 128]
def k0_off9 (i : grid0.Coords) (k0_t2 : Fin (k0_t2_loop i).trips) : Fin 2 → Nat :=
  let arg1 : BitVec 32 := BitVec.ofNat 32 (i 1).val
  let c1_i32_37 : BitVec 32 := 1#32
  let v99 : BitVec 32 := Scalar.addi arg1 c1_i32_37
  let c16_i32 : BitVec 32 := 16#32
  let v100 : BitVec 32 := Scalar.subi c16_i32 v99
  let c1_i32_38 : BitVec 32 := 1#32
  let v102 : BitVec 32 := Scalar.divsi v100 c1_i32_38
  let v103 : BitVec 32 := Scalar.muli v102 c1_i32_38
  let v104 : BitVec 32 := Scalar.addi v99 v103
  let c1_i32_40 : BitVec 32 := 1#32
  let arg11 : BitVec 32 := Scf.iv v104 c1_i32_40 k0_t2
  let c512_i32_53 : BitVec 32 := 512#32
  let v139 : BitVec 32 := Scalar.muli arg11 c512_i32_53
  let v140 : BitVec 32 := v139
  let v187 : Index := Scalar.indexCast v140
  let c0_80 : Index := 0#32
  ![v187.toNat, 0]
def k0_mult4 (i : grid0.Coords) : BitVec 32 :=
  let arg1 : BitVec 32 := BitVec.ofNat 32 (i 1).val
  let c512_i32_45 : BitVec 32 := 512#32
  let v113 : BitVec 32 := Scalar.muli arg1 c512_i32_45
  v113
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8192x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S8192x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S8192x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== ReferenceIdeal.lean ====
abbrev S8192x512 : Shape := ⟨2, ![8192, 512]⟩
abbrev S8192x8 : Shape := ⟨2, ![8192, 8]⟩
abbrev S_ : Shape := ⟨0, ![]⟩
abbrev S8192x8x64 : Shape := ⟨3, ![8192, 8, 64]⟩
abbrev S8x8192x64 : Shape := ⟨3, ![8, 8192, 64]⟩
abbrev S8x8192x8192 : Shape := ⟨3, ![8, 8192, 8192]⟩
abbrev S8x8192 : Shape := ⟨2, ![8, 8192]⟩
abbrev S8x8192x1 : Shape := ⟨3, ![8, 8192, 1]⟩
abbrev S8x1x8192 : Shape := ⟨3, ![8, 1, 8192]⟩
abbrev S8192x8192 : Shape := ⟨2, ![8192, 8192]⟩
abbrev S1x8192x8192 : Shape := ⟨3, ![1, 8192, 8192]⟩
abbrev S8x64x8192 : Shape := ⟨3, ![8, 64, 8192]⟩
abbrev S8192x128 : Shape := ⟨2, ![8192, 128]⟩

abbrev nBuf : Space → Nat
  | .hbm => 127
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x8, .f32⟩
  | .hbm, ⟨4, _⟩ => ⟨S8192x512, .f32⟩
  | .hbm, ⟨5, _⟩ => ⟨S_, .f32⟩
  | .hbm, ⟨6, _⟩ => ⟨S8192x512, .f32⟩
  | .hbm, ⟨7, _⟩ => ⟨S8192x512, .f32⟩
  | .hbm, ⟨8, _⟩ => ⟨S8192x8x64, .f32⟩
  | .hbm, ⟨9, _⟩ => ⟨S8x8192x64, .f32⟩
  | .hbm, ⟨10, _⟩ => ⟨S8192x8x64, .f32⟩
  | .hbm, ⟨11, _⟩ => ⟨S8x8192x64, .f32⟩
  | .hbm, ⟨12, _⟩ => ⟨S8x8192x8192, .f32⟩
  | .hbm, ⟨13, _⟩ => ⟨S8x8192, .f32⟩
  | .hbm, ⟨14, _⟩ => ⟨S8x8192x1, .f32⟩
  | .hbm, ⟨15, _⟩ => ⟨S8x8192x8192, .f32⟩
  | .hbm, ⟨16, _⟩ => ⟨S8x8192x8192, .f32⟩
  | .hbm, ⟨17, _⟩ => ⟨S8x8192, .f32⟩
  | .hbm, ⟨18, _⟩ => ⟨S8x1x8192, .f32⟩
  | .hbm, ⟨19, _⟩ => ⟨S8x8192x8192, .f32⟩
  | .hbm, ⟨20, _⟩ => ⟨S8x8192x8192, .f32⟩
  | .hbm, ⟨21, _⟩ => ⟨S8192x8192, .i32⟩
  | .hbm, ⟨22, _⟩ => ⟨S8192x8192, .i32⟩
  | .hbm, ⟨23, _⟩ => ⟨S8192x8192, .i1⟩
  | .hbm, ⟨24, _⟩ => ⟨S1x8192x8192, .i1⟩
  | .hbm, ⟨25, _⟩ => ⟨S_, .f32⟩
  | .hbm, ⟨26, _⟩ => ⟨S_, .f32⟩
  | .hbm, ⟨27, _⟩ => ⟨S8x8192x8192, .i1⟩
  | .hbm, ⟨28, _⟩ => ⟨S8x8192x8192, .f32⟩
  | .hbm, ⟨29, _⟩ => ⟨S8x8192x8192, .f32⟩
  | .hbm, ⟨30, _⟩ => ⟨S_, .f32⟩
  | .hbm, ⟨31, _⟩ => ⟨S8x8192x8192, .f32⟩
  | .hbm, ⟨32, _⟩ => ⟨S_, .f32⟩
  | .hbm, ⟨33, _⟩ => ⟨S8x8192, .f32⟩
  | .hbm, ⟨34, _⟩ => ⟨S8x8192x1, .f32⟩
  | .hbm, ⟨35, _⟩ => ⟨S8x8192x8192, .f32⟩
  | .hbm, ⟨36, _⟩ => ⟨S8x8192x8192, .i1⟩
  | .hbm, ⟨37, _⟩ => ⟨S8x8192x8192, .f32⟩
  | .hbm, ⟨38, _⟩ => ⟨S_, .f32⟩
  | .hbm, ⟨39, _⟩ => ⟨S8x8192, .f32⟩
  | .hbm, ⟨40, _⟩ => ⟨S_, .f32⟩
  | .hbm, ⟨41, _⟩ => ⟨S8x8192, .f32⟩
  | .hbm, ⟨42, _⟩ => ⟨S8x8192, .f32⟩
  | .hbm, ⟨43, _⟩ => ⟨S_, .f32⟩
  | .hbm, ⟨44, _⟩ => ⟨S8x8192, .f32⟩
  | .hbm, ⟨45, _⟩ => ⟨S8x8192, .i1⟩
  | .hbm, ⟨46, _⟩ => ⟨S_, .f32⟩
  | .hbm, ⟨47, _⟩ => ⟨S8x8192, .f32⟩
  | .hbm, ⟨48, _⟩ => ⟨S8x8192, .i1⟩
  | .hbm, ⟨49, _⟩ => ⟨S_, .f32⟩
  | .hbm, ⟨50, _⟩ => ⟨S8x8192, .f32⟩
  | .hbm, ⟨51, _⟩ => ⟨S_, .f32⟩
  | .hbm, ⟨52, _⟩ => ⟨S8x8192, .f32⟩
  | .hbm, ⟨53, _⟩ => ⟨S_, .f32⟩
  | .hbm, ⟨54, _⟩ => ⟨S8x8192, .f32⟩
  | .hbm, ⟨55, _⟩ => ⟨S8x8192, .f32⟩
  | .hbm, ⟨56, _⟩ => ⟨S8x8192, .f32⟩
  | .hbm, ⟨57, _⟩ => ⟨S8x8192x1, .f32⟩
  | .hbm, ⟨58, _⟩ => ⟨S8x8192x8192, .f32⟩
  | .hbm, ⟨59, _⟩ => ⟨S8x8192x8192, .f32⟩
  | .hbm, ⟨60, _⟩ => ⟨S8x8192x8192, .f32⟩
  | .hbm, ⟨61, _⟩ => ⟨S_, .f32⟩
  | .hbm, ⟨62, _⟩ => ⟨S8x8192, .f32⟩
  | .hbm, ⟨63, _⟩ => ⟨S8x8192x1, .f32⟩
  | .hbm, ⟨64, _⟩ => ⟨S8x8192x8192, .f32⟩
  | .hbm, ⟨65, _⟩ => ⟨S8x8192x8192, .f32⟩
  | .hbm, ⟨66, _⟩ => ⟨S8x8192x1, .f32⟩
  | .hbm, ⟨67, _⟩ => ⟨S_, .f32⟩
  | .hbm, ⟨68, _⟩ => ⟨S8x8192x1, .f32⟩
  | .hbm, ⟨69, _⟩ => ⟨S8x8192x1, .f32⟩
  | .hbm, ⟨70, _⟩ => ⟨S8192x8x64, .f32⟩
  | .hbm, ⟨71, _⟩ => ⟨S8x8192x64, .f32⟩
  | .hbm, ⟨72, _⟩ => ⟨S8x8192x64, .f32⟩
  | .hbm, ⟨73, _⟩ => ⟨S8192x8x64, .f32⟩
  | .hbm, ⟨74, _⟩ => ⟨S8192x512, .f32⟩
  | .hbm, ⟨75, _⟩ => ⟨S8192x8x64, .f32⟩
  | .hbm, ⟨76, _⟩ => ⟨S8x8192x64, .f32⟩
  | .hbm, ⟨77, _⟩ => ⟨S8x64x8192, .f32⟩
  | .hbm, ⟨78, _⟩ => ⟨S8x8192x64, .f32⟩
  | .hbm, ⟨79, _⟩ => ⟨S8x8192x8192, .f32⟩
  | .hbm, ⟨80, _⟩ => ⟨S8192x8x64, .f32⟩
  | .hbm, ⟨81, _⟩ => ⟨S8192x512, .f32⟩
  | .hbm, ⟨82, _⟩ => ⟨S8x8192x8192, .f32⟩
  | .hbm, ⟨83, _⟩ => ⟨S8x8192x8192, .f32⟩
  | .hbm, ⟨84, _⟩ => ⟨S8x8192x8192, .f32⟩
  | .hbm, ⟨85, _⟩ => ⟨S_, .f32⟩
  | .hbm, ⟨86, _⟩ => ⟨S8x8192, .f32⟩
  | .hbm, ⟨87, _⟩ => ⟨S8x8192x1, .f32⟩
  | .hbm, ⟨88, _⟩ => ⟨S8x8192x1, .f32⟩
  | .hbm, ⟨89, _⟩ => ⟨S8x8192x8192, .f32⟩
  | .hbm, ⟨90, _⟩ => ⟨S8x8192x8192, .f32⟩
  | .hbm, ⟨91, _⟩ => ⟨S_, .f32⟩
  | .hbm, ⟨92, _⟩ => ⟨S8x8192, .f32⟩
  | .hbm, ⟨93, _⟩ => ⟨S8x8192x8192, .f32⟩
  | .hbm, ⟨94, _⟩ => ⟨S8x8192x8192, .f32⟩
  | .hbm, ⟨95, _⟩ => ⟨S8x8192x8192, .f32⟩
  | .hbm, ⟨96, _⟩ => ⟨S_, .f32⟩
  | .hbm, ⟨97, _⟩ => ⟨S8x8192x8192, .f32⟩
  | .hbm, ⟨98, _⟩ => ⟨S8x8192x8192, .f32⟩
  | .hbm, ⟨99, _⟩ => ⟨S8x8192x8192, .f32⟩
  | .hbm, ⟨100, _⟩ => ⟨S_, .f32⟩
  | .hbm, ⟨101, _⟩ => ⟨S8x8192, .f32⟩
  | .hbm, ⟨102, _⟩ => ⟨S8x1x8192, .f32⟩
  | .hbm, ⟨103, _⟩ => ⟨S_, .f32⟩
  | .hbm, ⟨104, _⟩ => ⟨S8x8192, .f32⟩
  | .hbm, ⟨105, _⟩ => ⟨S8192x8, .f32⟩
  | .hbm, ⟨106, _⟩ => ⟨S_, .f32⟩
  | .hbm, ⟨107, _⟩ => ⟨S8x8192, .f32⟩
  | .hbm, ⟨108, _⟩ => ⟨S8x8192x1, .f32⟩
  | .hbm, ⟨109, _⟩ => ⟨S_, .f32⟩
  | .hbm, ⟨110, _⟩ => ⟨S8x8192, .f32⟩
  | .hbm, ⟨111, _⟩ => ⟨S8192x8, .f32⟩
  | .hbm, ⟨112, _⟩ => ⟨S8x8192x64, .f32⟩
  | .hbm, ⟨113, _⟩ => ⟨S8x8192x64, .f32⟩
  | .hbm, ⟨114, _⟩ => ⟨S8192x8x64, .f32⟩
  | .hbm, ⟨115, _⟩ => ⟨S8192x512, .f32⟩
  | .hbm, ⟨116, _⟩ => ⟨S8192x8x64, .f32⟩
  | .hbm, ⟨117, _⟩ => ⟨S8192x512, .f32⟩
  | .hbm, ⟨118, _⟩ => ⟨S_, .i32⟩
  | .hbm, ⟨119, _⟩ => ⟨S_, .f32⟩
  | .hbm, ⟨120, _⟩ => ⟨S8192x128, .f32⟩
  | .hbm, ⟨121, _⟩ => ⟨S8192x512, .bf16⟩
  | .hbm, ⟨122, _⟩ => ⟨S8192x512, .bf16⟩
  | .hbm, ⟨123, _⟩ => ⟨S8192x8, .f32⟩
  | .hbm, ⟨124, _⟩ => ⟨S_, .i32⟩
  | .hbm, ⟨125, _⟩ => ⟨S_, .f32⟩
  | .hbm, ⟨126, _⟩ => ⟨S8192x128, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_call0_v0 : Ref sig .tc := ⟨.hbm, 26, rfl⟩
abbrev main_v19_1 : Ref sig .tc := ⟨.hbm, 27, rfl⟩
abbrev main_call0_v2 : Ref sig .tc := ⟨.hbm, 28, rfl⟩
abbrev main_v19_0 : Ref sig .tc := ⟨.hbm, 29, rfl⟩
abbrev main_call0_cst : Ref sig .tc := ⟨.hbm, 30, rfl⟩
abbrev main_v19_2 : Ref sig .tc := ⟨.hbm, 31, rfl⟩
abbrev main_cst_1 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_cst_7 : Ref sig .tc := ⟨.hbm, 51, rfl⟩
abbrev main_v33 : Ref sig .tc := ⟨.hbm, 52, rfl⟩
abbrev main_cst_8 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_9 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_10 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_11 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_12 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_call1_cst : Ref sig .tc := ⟨.hbm, 96, rfl⟩
abbrev main_call1_v0 : Ref sig .tc := ⟨.hbm, 97, rfl⟩
abbrev main_v72 : Ref sig .tc := ⟨.hbm, 98, rfl⟩
abbrev main_v73 : Ref sig .tc := ⟨.hbm, 99, rfl⟩
abbrev main_cst_13 : Ref sig .tc := ⟨.hbm, 100, rfl⟩
abbrev main_v74 : Ref sig .tc := ⟨.hbm, 101, rfl⟩
abbrev main_v75 : Ref sig .tc := ⟨.hbm, 102, rfl⟩
abbrev main_cst_14 : Ref sig .tc := ⟨.hbm, 103, rfl⟩
abbrev main_v76 : Ref sig .tc := ⟨.hbm, 104, rfl⟩
abbrev main_v77 : Ref sig .tc := ⟨.hbm, 105, rfl⟩
abbrev main_cst_15 : Ref sig .tc := ⟨.hbm, 106, rfl⟩
abbrev main_v78 : Ref sig .tc := ⟨.hbm, 107, rfl⟩
abbrev main_v79 : Ref sig .tc := ⟨.hbm, 108, rfl⟩
abbrev main_cst_16 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_c : Ref sig .tc := ⟨.hbm, 118, rfl⟩
abbrev main_call2_v0 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_c_17 : Ref sig .tc := ⟨.hbm, 124, rfl⟩
abbrev main_call3_v0 : Ref sig .tc := ⟨.hbm, 125, rfl⟩
abbrev main_v92 : Ref sig .tc := ⟨.hbm, 126, rfl⟩

abbrev nD : Nat := 1
abbrev τ : Topo := Topo.v7x

variable {F : FTy → Type} [FloatOps F]
-- ==== Kernel2.lean ====
abbrev S8192x1024 : Shape := ⟨2, ![8192, 1024]⟩
abbrev S6x1024 : Shape := ⟨2, ![6, 1024]⟩
abbrev S4x1024x1024 : Shape := ⟨3, ![4, 1024, 1024]⟩
abbrev S1x1024x1024 : Shape := ⟨3, ![1, 1024, 1024]⟩
abbrev S8x1024 : Shape := ⟨2, ![8, 1024]⟩
abbrev S512x1024 : Shape := ⟨2, ![512, 1024]⟩
abbrev S1x1024 : Shape := ⟨2, ![1, 1024]⟩
abbrev S1024x1024 : Shape := ⟨2, ![1024, 1024]⟩
abbrev S1024 : Shape := ⟨1, ![1024]⟩

abbrev nBuf : Space → Nat
  | .hbm => 10
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S6x1024, .f32⟩
  | .hbm, ⟨2, _⟩ => ⟨S4x1024x1024, .bf16⟩
  | .hbm, ⟨3, _⟩ => ⟨S4x1024x1024, .bf16⟩
  | .hbm, ⟨4, _⟩ => ⟨S8192x1024, .bf16⟩
  | .hbm, ⟨5, _⟩ => ⟨S8192x1024, .f32⟩
  | .hbm, ⟨6, _⟩ => ⟨S8192x1024, .f32⟩
  | .hbm, ⟨7, _⟩ => ⟨S1x1024x1024, .f32⟩
  | .hbm, ⟨8, _⟩ => ⟨S1x1024x1024, .f32⟩
  | .hbm, ⟨9, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S6x1024, .f32⟩
  | .local _ .vmem, ⟨3, _⟩ => ⟨S1x1024x1024, .bf16⟩
  | .local _ .vmem, ⟨4, _⟩ => ⟨S1x1024x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024x1024, .f32⟩
  | .local _ .vmem, ⟨12, _⟩ => ⟨S1x1024x1024, .f32⟩
  | .local _ .vmem, ⟨13, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference2Ideal.lean ====
abbrev S8192x1024 : Shape := ⟨2, ![8192, 1024]⟩
abbrev S6x1024 : Shape := ⟨2, ![6, 1024]⟩
abbrev S4x1024x1024 : Shape := ⟨3, ![4, 1024, 1024]⟩
abbrev S1x1024 : Shape := ⟨2, ![1, 1024]⟩
abbrev S1x1024x1024 : Shape := ⟨3, ![1, 1024, 1024]⟩
abbrev S1024x1024 : Shape := ⟨2, ![1024, 1024]⟩
abbrev S_ : Shape := ⟨0, ![]⟩
abbrev S1024 : Shape := ⟨1, ![1024]⟩
abbrev S8x1024 : Shape := ⟨2, ![8, 1024]⟩

abbrev nBuf : Space → Nat
  | .hbm => 72
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S6x1024, .f32⟩
  | .hbm, ⟨2, _⟩ => ⟨S4x1024x1024, .bf16⟩
  | .hbm, ⟨3, _⟩ => ⟨S4x1024x1024, .bf16⟩
  | .hbm, ⟨4, _⟩ => ⟨S8192x1024, .bf16⟩
  | .hbm, ⟨5, _⟩ => ⟨S8192x1024, .f32⟩
  | .hbm, ⟨6, _⟩ => ⟨S1x1024, .f32⟩
  | .hbm, ⟨7, _⟩ => ⟨S1x1024, .f32⟩
  | .hbm, ⟨8, _⟩ => ⟨S1x1024x1024, .bf16⟩
  | .hbm, ⟨9, _⟩ => ⟨S1024x1024, .bf16⟩
  | .hbm, ⟨10, _⟩ => ⟨S1024x1024, .f32⟩
  | .hbm, ⟨11, _⟩ => ⟨S1x1024x1024, .bf16⟩
  | .hbm, ⟨12, _⟩ => ⟨S1024x1024, .bf16⟩
  | .hbm, ⟨13, _⟩ => ⟨S1024x1024, .f32⟩
  | .hbm, ⟨14, _⟩ => ⟨S_, .f32⟩
  | .hbm, ⟨15, _⟩ => ⟨S1x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .i1⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S1024x1024, .f32⟩
  | .hbm, ⟨37, _⟩ => ⟨S1024x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S1024x1024, .f32⟩
  | .hbm, ⟨44, _⟩ => ⟨S1024x1024, .f32⟩
  | .hbm, ⟨45, _⟩ => ⟨S8192x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S8192x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S8192x1024, .f32⟩
  | .hbm, ⟨54, _⟩ => ⟨S8192x1024, .f32⟩
  | .hbm, ⟨55, _⟩ => ⟨S8x1024, .i32⟩
  | .hbm, ⟨56, _⟩ => ⟨S8192x1024, .f32⟩
  | .hbm, ⟨57, _⟩ => ⟨S1x1024x1024, .f32⟩
  | .hbm, ⟨58, _⟩ => ⟨S1x1024x1024, .f32⟩
  | .hbm, ⟨59, _⟩ => ⟨S_, .i32⟩
  | .hbm, ⟨60, _⟩ => ⟨S8x1024, .i32⟩
  | .hbm, ⟨61, _⟩ => ⟨S8x1024, .i1⟩
  | .hbm, ⟨62, _⟩ => ⟨S_, .i32⟩
  | .hbm, ⟨63, _⟩ => ⟨S8x1024, .i32⟩
  | .hbm, ⟨64, _⟩ => ⟨S8x1024, .i1⟩
  | .hbm, ⟨65, _⟩ => ⟨S_, .f32⟩
  | .hbm, ⟨66, _⟩ => ⟨S_, .f32⟩
  | .hbm, ⟨67, _⟩ => ⟨S8x1024, .f32⟩
  | .hbm, ⟨68, _⟩ => ⟨S8x1024, .f32⟩
  | .hbm, ⟨69, _⟩ => ⟨S8x1024, .f32⟩
  | .hbm, ⟨70, _⟩ => ⟨S8x1024, .f32⟩
  | .hbm, ⟨71, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_cst : Ref sig .tc := ⟨.hbm, 22, rfl⟩
abbrev main_call0_v0 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_c : Ref sig .tc := ⟨.hbm, 59, rfl⟩
abbrev main_v44 : Ref sig .tc := ⟨.hbm, 60, rfl⟩
abbrev main_v45 : Ref sig .tc := ⟨.hbm, 61, rfl⟩
abbrev main_c_6 : Ref sig .tc := ⟨.hbm, 62, rfl⟩
abbrev main_v46 : Ref sig .tc := ⟨.hbm, 63, rfl⟩
abbrev main_v47 : Ref sig .tc := ⟨.hbm, 64, rfl⟩
abbrev main_cst_7 : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_v48 : Ref sig .tc := ⟨.hbm, 69, rfl⟩
abbrev main_call2_v0 : Ref sig .tc := ⟨.hbm, 70, rfl⟩
abbrev main_v49 : Ref sig .tc := ⟨.hbm, 71, rfl⟩

abbrev nD : Nat := 1
abbrev τ : Topo := Topo.v7x

variable {F : FTy → Type} [FloatOps F]
-- ==== Kernel3.lean ====
abbrev S8192x1024 : Shape := ⟨2, ![8192, 1024]⟩
abbrev S6x1024 : Shape := ⟨2, ![6, 1024]⟩
abbrev S4x1024x1024 : Shape := ⟨3, ![4, 1024, 1024]⟩
abbrev S1x1024x1024 : Shape := ⟨3, ![1, 1024, 1024]⟩
abbrev S8x1024 : Shape := ⟨2, ![8, 1024]⟩
abbrev S512x1024 : Shape := ⟨2, ![512, 1024]⟩
abbrev S1x1024 : Shape := ⟨2, ![1, 1024]⟩
abbrev S1024x1024 : Shape := ⟨2, ![1024, 1024]⟩
abbrev S1024 : Shape := ⟨1, ![1024]⟩

abbrev nBuf : Space → Nat
  | .hbm => 10
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S6x1024, .f32⟩
  | .hbm, ⟨2, _⟩ => ⟨S4x1024x1024, .bf16⟩
  | .hbm, ⟨3, _⟩ => ⟨S4x1024x1024, .bf16⟩
  | .hbm, ⟨4, _⟩ => ⟨S8192x1024, .bf16⟩
  | .hbm, ⟨5, _⟩ => ⟨S8192x1024, .f32⟩
  | .hbm, ⟨6, _⟩ => ⟨S8192x1024, .f32⟩
  | .hbm, ⟨7, _⟩ => ⟨S1x1024x1024, .f32⟩
  | .hbm, ⟨8, _⟩ => ⟨S1x1024x1024, .f32⟩
  | .hbm, ⟨9, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S6x1024, .f32⟩
  | .local _ .vmem, ⟨3, _⟩ => ⟨S1x1024x1024, .bf16⟩
  | .local _ .vmem, ⟨4, _⟩ => ⟨S1x1024x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024x1024, .f32⟩
  | .local _ .vmem, ⟨12, _⟩ => ⟨S1x1024x1024, .f32⟩
  | .local _ .vmem, ⟨13, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference3Ideal.lean ====
abbrev S8192x1024 : Shape := ⟨2, ![8192, 1024]⟩
abbrev S6x1024 : Shape := ⟨2, ![6, 1024]⟩
abbrev S4x1024x1024 : Shape := ⟨3, ![4, 1024, 1024]⟩
abbrev S1x1024 : Shape := ⟨2, ![1, 1024]⟩
abbrev S1x1024x1024 : Shape := ⟨3, ![1, 1024, 1024]⟩
abbrev S1024x1024 : Shape := ⟨2, ![1024, 1024]⟩
abbrev S_ : Shape := ⟨0, ![]⟩
abbrev S1024 : Shape := ⟨1, ![1024]⟩
abbrev S8x1024 : Shape := ⟨2, ![8, 1024]⟩

abbrev nBuf : Space → Nat
  | .hbm => 72
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S6x1024, .f32⟩
  | .hbm, ⟨2, _⟩ => ⟨S4x1024x1024, .bf16⟩
  | .hbm, ⟨3, _⟩ => ⟨S4x1024x1024, .bf16⟩
  | .hbm, ⟨4, _⟩ => ⟨S8192x1024, .bf16⟩
  | .hbm, ⟨5, _⟩ => ⟨S8192x1024, .f32⟩
  | .hbm, ⟨6, _⟩ => ⟨S1x1024, .f32⟩
  | .hbm, ⟨7, _⟩ => ⟨S1x1024, .f32⟩
  | .hbm, ⟨8, _⟩ => ⟨S1x1024x1024, .bf16⟩
  | .hbm, ⟨9, _⟩ => ⟨S1024x1024, .bf16⟩
  | .hbm, ⟨10, _⟩ => ⟨S1024x1024, .f32⟩
  | .hbm, ⟨11, _⟩ => ⟨S1x1024x1024, .bf16⟩
  | .hbm, ⟨12, _⟩ => ⟨S1024x1024, .bf16⟩
  | .hbm, ⟨13, _⟩ => ⟨S1024x1024, .f32⟩
  | .hbm, ⟨14, _⟩ => ⟨S_, .f32⟩
  | .hbm, ⟨15, _⟩ => ⟨S1x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .i1⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S1024x1024, .f32⟩
  | .hbm, ⟨37, _⟩ => ⟨S1024x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S1024x1024, .f32⟩
  | .hbm, ⟨44, _⟩ => ⟨S1024x1024, .f32⟩
  | .hbm, ⟨45, _⟩ => ⟨S8192x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S8192x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S8192x1024, .f32⟩
  | .hbm, ⟨54, _⟩ => ⟨S8192x1024, .f32⟩
  | .hbm, ⟨55, _⟩ => ⟨S8x1024, .i32⟩
  | .hbm, ⟨56, _⟩ => ⟨S8192x1024, .f32⟩
  | .hbm, ⟨57, _⟩ => ⟨S1x1024x1024, .f32⟩
  | .hbm, ⟨58, _⟩ => ⟨S1x1024x1024, .f32⟩
  | .hbm, ⟨59, _⟩ => ⟨S_, .i32⟩
  | .hbm, ⟨60, _⟩ => ⟨S8x1024, .i32⟩
  | .hbm, ⟨61, _⟩ => ⟨S8x1024, .i1⟩
  | .hbm, ⟨62, _⟩ => ⟨S_, .i32⟩
  | .hbm, ⟨63, _⟩ => ⟨S8x1024, .i32⟩
  | .hbm, ⟨64, _⟩ => ⟨S8x1024, .i1⟩
  | .hbm, ⟨65, _⟩ => ⟨S_, .f32⟩
  | .hbm, ⟨66, _⟩ => ⟨S_, .f32⟩
  | .hbm, ⟨67, _⟩ => ⟨S8x1024, .f32⟩
  | .hbm, ⟨68, _⟩ => ⟨S8x1024, .f32⟩
  | .hbm, ⟨69, _⟩ => ⟨S8x1024, .f32⟩
  | .hbm, ⟨70, _⟩ => ⟨S8x1024, .f32⟩
  | .hbm, ⟨71, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_cst : Ref sig .tc := ⟨.hbm, 22, rfl⟩
abbrev main_call0_v0 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_c : Ref sig .tc := ⟨.hbm, 59, rfl⟩
abbrev main_v44 : Ref sig .tc := ⟨.hbm, 60, rfl⟩
abbrev main_v45 : Ref sig .tc := ⟨.hbm, 61, rfl⟩
abbrev main_c_6 : Ref sig .tc := ⟨.hbm, 62, rfl⟩
abbrev main_v46 : Ref sig .tc := ⟨.hbm, 63, rfl⟩
abbrev main_v47 : Ref sig .tc := ⟨.hbm, 64, rfl⟩
abbrev main_cst_7 : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_v48 : Ref sig .tc := ⟨.hbm, 69, rfl⟩
abbrev main_call2_v0 : Ref sig .tc := ⟨.hbm, 70, rfl⟩
abbrev main_v49 : Ref sig .tc := ⟨.hbm, 71, rfl⟩

abbrev nD : Nat := 1
abbrev τ : Topo := Topo.v7x

variable {F : FTy → Type} [FloatOps F]
-- ==== Kernel4.lean ====
abbrev S8192x1024 : Shape := ⟨2, ![8192, 1024]⟩
abbrev S6x1024 : Shape := ⟨2, ![6, 1024]⟩
abbrev S4x1024x1024 : Shape := ⟨3, ![4, 1024, 1024]⟩
abbrev S1x1024x1024 : Shape := ⟨3, ![1, 1024, 1024]⟩
abbrev S8x1024 : Shape := ⟨2, ![8, 1024]⟩
abbrev S512x1024 : Shape := ⟨2, ![512, 1024]⟩
abbrev S1x1024 : Shape := ⟨2, ![1, 1024]⟩
abbrev S1024x1024 : Shape := ⟨2, ![1024, 1024]⟩
abbrev S1024 : Shape := ⟨1, ![1024]⟩

abbrev nBuf : Space → Nat
  | .hbm => 10
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S6x1024, .f32⟩
  | .hbm, ⟨2, _⟩ => ⟨S4x1024x1024, .bf16⟩
  | .hbm, ⟨3, _⟩ => ⟨S4x1024x1024, .bf16⟩
  | .hbm, ⟨4, _⟩ => ⟨S8192x1024, .bf16⟩
  | .hbm, ⟨5, _⟩ => ⟨S8192x1024, .f32⟩
  | .hbm, ⟨6, _⟩ => ⟨S8192x1024, .f32⟩
  | .hbm, ⟨7, _⟩ => ⟨S1x1024x1024, .f32⟩
  | .hbm, ⟨8, _⟩ => ⟨S1x1024x1024, .f32⟩
  | .hbm, ⟨9, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S6x1024, .f32⟩
  | .local _ .vmem, ⟨3, _⟩ => ⟨S1x1024x1024, .bf16⟩
  | .local _ .vmem, ⟨4, _⟩ => ⟨S1x1024x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024x1024, .f32⟩
  | .local _ .vmem, ⟨12, _⟩ => ⟨S1x1024x1024, .f32⟩
  | .local _ .vmem, ⟨13, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference4Ideal.lean ====
abbrev S8192x1024 : Shape := ⟨2, ![8192, 1024]⟩
abbrev S6x1024 : Shape := ⟨2, ![6, 1024]⟩
abbrev S4x1024x1024 : Shape := ⟨3, ![4, 1024, 1024]⟩
abbrev S1x1024 : Shape := ⟨2, ![1, 1024]⟩
abbrev S1x1024x1024 : Shape := ⟨3, ![1, 1024, 1024]⟩
abbrev S1024x1024 : Shape := ⟨2, ![1024, 1024]⟩
abbrev S_ : Shape := ⟨0, ![]⟩
abbrev S1024 : Shape := ⟨1, ![1024]⟩
abbrev S8x1024 : Shape := ⟨2, ![8, 1024]⟩

abbrev nBuf : Space → Nat
  | .hbm => 72
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S6x1024, .f32⟩
  | .hbm, ⟨2, _⟩ => ⟨S4x1024x1024, .bf16⟩
  | .hbm, ⟨3, _⟩ => ⟨S4x1024x1024, .bf16⟩
  | .hbm, ⟨4, _⟩ => ⟨S8192x1024, .bf16⟩
  | .hbm, ⟨5, _⟩ => ⟨S8192x1024, .f32⟩
  | .hbm, ⟨6, _⟩ => ⟨S1x1024, .f32⟩
  | .hbm, ⟨7, _⟩ => ⟨S1x1024, .f32⟩
  | .hbm, ⟨8, _⟩ => ⟨S1x1024x1024, .bf16⟩
  | .hbm, ⟨9, _⟩ => ⟨S1024x1024, .bf16⟩
  | .hbm, ⟨10, _⟩ => ⟨S1024x1024, .f32⟩
  | .hbm, ⟨11, _⟩ => ⟨S1x1024x1024, .bf16⟩
  | .hbm, ⟨12, _⟩ => ⟨S1024x1024, .bf16⟩
  | .hbm, ⟨13, _⟩ => ⟨S1024x1024, .f32⟩
  | .hbm, ⟨14, _⟩ => ⟨S_, .f32⟩
  | .hbm, ⟨15, _⟩ => ⟨S1x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .i1⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S1024x1024, .f32⟩
  | .hbm, ⟨37, _⟩ => ⟨S1024x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S1024x1024, .f32⟩
  | .hbm, ⟨44, _⟩ => ⟨S1024x1024, .f32⟩
  | .hbm, ⟨45, _⟩ => ⟨S8192x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S8192x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S8192x1024, .f32⟩
  | .hbm, ⟨54, _⟩ => ⟨S8192x1024, .f32⟩
  | .hbm, ⟨55, _⟩ => ⟨S8x1024, .i32⟩
  | .hbm, ⟨56, _⟩ => ⟨S8192x1024, .f32⟩
  | .hbm, ⟨57, _⟩ => ⟨S1x1024x1024, .f32⟩
  | .hbm, ⟨58, _⟩ => ⟨S1x1024x1024, .f32⟩
  | .hbm, ⟨59, _⟩ => ⟨S_, .i32⟩
  | .hbm, ⟨60, _⟩ => ⟨S8x1024, .i32⟩
  | .hbm, ⟨61, _⟩ => ⟨S8x1024, .i1⟩
  | .hbm, ⟨62, _⟩ => ⟨S_, .i32⟩
  | .hbm, ⟨63, _⟩ => ⟨S8x1024, .i32⟩
  | .hbm, ⟨64, _⟩ => ⟨S8x1024, .i1⟩
  | .hbm, ⟨65, _⟩ => ⟨S_, .f32⟩
  | .hbm, ⟨66, _⟩ => ⟨S_, .f32⟩
  | .hbm, ⟨67, _⟩ => ⟨S8x1024, .f32⟩
  | .hbm, ⟨68, _⟩ => ⟨S8x1024, .f32⟩
  | .hbm, ⟨69, _⟩ => ⟨S8x1024, .f32⟩
  | .hbm, ⟨70, _⟩ => ⟨S8x1024, .f32⟩
  | .hbm, ⟨71, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_cst : Ref sig .tc := ⟨.hbm, 22, rfl⟩
abbrev main_call0_v0 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_c : Ref sig .tc := ⟨.hbm, 59, rfl⟩
abbrev main_v44 : Ref sig .tc := ⟨.hbm, 60, rfl⟩
abbrev main_v45 : Ref sig .tc := ⟨.hbm, 61, rfl⟩
abbrev main_c_6 : Ref sig .tc := ⟨.hbm, 62, rfl⟩
abbrev main_v46 : Ref sig .tc := ⟨.hbm, 63, rfl⟩
abbrev main_v47 : Ref sig .tc := ⟨.hbm, 64, rfl⟩
abbrev main_cst_7 : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_v48 : Ref sig .tc := ⟨.hbm, 69, rfl⟩
abbrev main_call2_v0 : Ref sig .tc := ⟨.hbm, 70, rfl⟩
abbrev main_v49 : Ref sig .tc := ⟨.hbm, 71, rfl⟩

abbrev nD : Nat := 1
abbrev τ : Topo := Topo.v7x

variable {F : FTy → Type} [FloatOps F]
-- ==== Kernel5.lean ====
abbrev S8192x1024 : Shape := ⟨2, ![8192, 1024]⟩
abbrev S6x1024 : Shape := ⟨2, ![6, 1024]⟩
abbrev S4x1024x1024 : Shape := ⟨3, ![4, 1024, 1024]⟩
abbrev S1x1024x1024 : Shape := ⟨3, ![1, 1024, 1024]⟩
abbrev S8x1024 : Shape := ⟨2, ![8, 1024]⟩
abbrev S512x1024 : Shape := ⟨2, ![512, 1024]⟩
abbrev S1x1024 : Shape := ⟨2, ![1, 1024]⟩
abbrev S1024x1024 : Shape := ⟨2, ![1024, 1024]⟩
abbrev S1024 : Shape := ⟨1, ![1024]⟩

abbrev nBuf : Space → Nat
  | .hbm => 10
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S6x1024, .f32⟩
  | .hbm, ⟨2, _⟩ => ⟨S4x1024x1024, .bf16⟩
  | .hbm, ⟨3, _⟩ => ⟨S4x1024x1024, .bf16⟩
  | .hbm, ⟨4, _⟩ => ⟨S8192x1024, .bf16⟩
  | .hbm, ⟨5, _⟩ => ⟨S8192x1024, .f32⟩
  | .hbm, ⟨6, _⟩ => ⟨S8192x1024, .f32⟩
  | .hbm, ⟨7, _⟩ => ⟨S1x1024x1024, .f32⟩
  | .hbm, ⟨8, _⟩ => ⟨S1x1024x1024, .f32⟩
  | .hbm, ⟨9, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S6x1024, .f32⟩
  | .local _ .vmem, ⟨3, _⟩ => ⟨S1x1024x1024, .bf16⟩
  | .local _ .vmem, ⟨4, _⟩ => ⟨S1x1024x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024x1024, .f32⟩
  | .local _ .vmem, ⟨12, _⟩ => ⟨S1x1024x1024, .f32⟩
  | .local _ .vmem, ⟨13, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference5Ideal.lean ====
abbrev S8192x1024 : Shape := ⟨2, ![8192, 1024]⟩
abbrev S6x1024 : Shape := ⟨2, ![6, 1024]⟩
abbrev S4x1024x1024 : Shape := ⟨3, ![4, 1024, 1024]⟩
abbrev S1x1024 : Shape := ⟨2, ![1, 1024]⟩
abbrev S1x1024x1024 : Shape := ⟨3, ![1, 1024, 1024]⟩
abbrev S1024x1024 : Shape := ⟨2, ![1024, 1024]⟩
abbrev S_ : Shape := ⟨0, ![]⟩
abbrev S1024 : Shape := ⟨1, ![1024]⟩
abbrev S8x1024 : Shape := ⟨2, ![8, 1024]⟩

abbrev nBuf : Space → Nat
  | .hbm => 72
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S6x1024, .f32⟩
  | .hbm, ⟨2, _⟩ => ⟨S4x1024x1024, .bf16⟩
  | .hbm, ⟨3, _⟩ => ⟨S4x1024x1024, .bf16⟩
  | .hbm, ⟨4, _⟩ => ⟨S8192x1024, .bf16⟩
  | .hbm, ⟨5, _⟩ => ⟨S8192x1024, .f32⟩
  | .hbm, ⟨6, _⟩ => ⟨S1x1024, .f32⟩
  | .hbm, ⟨7, _⟩ => ⟨S1x1024, .f32⟩
  | .hbm, ⟨8, _⟩ => ⟨S1x1024x1024, .bf16⟩
  | .hbm, ⟨9, _⟩ => ⟨S1024x1024, .bf16⟩
  | .hbm, ⟨10, _⟩ => ⟨S1024x1024, .f32⟩
  | .hbm, ⟨11, _⟩ => ⟨S1x1024x1024, .bf16⟩
  | .hbm, ⟨12, _⟩ => ⟨S1024x1024, .bf16⟩
  | .hbm, ⟨13, _⟩ => ⟨S1024x1024, .f32⟩
  | .hbm, ⟨14, _⟩ => ⟨S_, .f32⟩
  | .hbm, ⟨15, _⟩ => ⟨S1x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .i1⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S1024x1024, .f32⟩
  | .hbm, ⟨37, _⟩ => ⟨S1024x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S1024x1024, .f32⟩
  | .hbm, ⟨44, _⟩ => ⟨S1024x1024, .f32⟩
  | .hbm, ⟨45, _⟩ => ⟨S8192x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S8192x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S8192x1024, .f32⟩
  | .hbm, ⟨54, _⟩ => ⟨S8192x1024, .f32⟩
  | .hbm, ⟨55, _⟩ => ⟨S8x1024, .i32⟩
  | .hbm, ⟨56, _⟩ => ⟨S8192x1024, .f32⟩
  | .hbm, ⟨57, _⟩ => ⟨S1x1024x1024, .f32⟩
  | .hbm, ⟨58, _⟩ => ⟨S1x1024x1024, .f32⟩
  | .hbm, ⟨59, _⟩ => ⟨S_, .i32⟩
  | .hbm, ⟨60, _⟩ => ⟨S8x1024, .i32⟩
  | .hbm, ⟨61, _⟩ => ⟨S8x1024, .i1⟩
  | .hbm, ⟨62, _⟩ => ⟨S_, .i32⟩
  | .hbm, ⟨63, _⟩ => ⟨S8x1024, .i32⟩
  | .hbm, ⟨64, _⟩ => ⟨S8x1024, .i1⟩
  | .hbm, ⟨65, _⟩ => ⟨S_, .f32⟩
  | .hbm, ⟨66, _⟩ => ⟨S_, .f32⟩
  | .hbm, ⟨67, _⟩ => ⟨S8x1024, .f32⟩
  | .hbm, ⟨68, _⟩ => ⟨S8x1024, .f32⟩
  | .hbm, ⟨69, _⟩ => ⟨S8x1024, .f32⟩
  | .hbm, ⟨70, _⟩ => ⟨S8x1024, .f32⟩
  | .hbm, ⟨71, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_cst : Ref sig .tc := ⟨.hbm, 22, rfl⟩
abbrev main_call0_v0 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_c : Ref sig .tc := ⟨.hbm, 59, rfl⟩
abbrev main_v44 : Ref sig .tc := ⟨.hbm, 60, rfl⟩
abbrev main_v45 : Ref sig .tc := ⟨.hbm, 61, rfl⟩
abbrev main_c_6 : Ref sig .tc := ⟨.hbm, 62, rfl⟩
abbrev main_v46 : Ref sig .tc := ⟨.hbm, 63, rfl⟩
abbrev main_v47 : Ref sig .tc := ⟨.hbm, 64, rfl⟩
abbrev main_cst_7 : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_v48 : Ref sig .tc := ⟨.hbm, 69, rfl⟩
abbrev main_call2_v0 : Ref sig .tc := ⟨.hbm, 70, rfl⟩
abbrev main_v49 : Ref sig .tc := ⟨.hbm, 71, rfl⟩

abbrev nD : Nat := 1
abbrev τ : Topo := Topo.v7x

variable {F : FTy → Type} [FloatOps F]
-- ==== Kernel6.lean ====
abbrev S8192x1024 : Shape := ⟨2, ![8192, 1024]⟩
abbrev S6x1024 : Shape := ⟨2, ![6, 1024]⟩
abbrev S4x1024x1024 : Shape := ⟨3, ![4, 1024, 1024]⟩
abbrev S2x1024 : Shape := ⟨2, ![2, 1024]⟩
abbrev S8x1024 : Shape := ⟨2, ![8, 1024]⟩
abbrev S512x1024 : Shape := ⟨2, ![512, 1024]⟩
abbrev S1x1024x1024 : Shape := ⟨3, ![1, 1024, 1024]⟩
abbrev S1x1024 : Shape := ⟨2, ![1, 1024]⟩
abbrev S1024x1024 : Shape := ⟨2, ![1024, 1024]⟩
abbrev S512 : Shape := ⟨1, ![512]⟩
abbrev S512x1 : Shape := ⟨2, ![512, 1]⟩
abbrev S1024 : Shape := ⟨1, ![1024]⟩

abbrev nBuf : Space → Nat
  | .hbm => 9
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S6x1024, .f32⟩
  | .hbm, ⟨2, _⟩ => ⟨S4x1024x1024, .bf16⟩
  | .hbm, ⟨3, _⟩ => ⟨S4x1024x1024, .bf16⟩
  | .hbm, ⟨4, _⟩ => ⟨S2x1024, .f32⟩
  | .hbm, ⟨5, _⟩ => ⟨S8192x1024, .f32⟩
  | .hbm, ⟨6, _⟩ => ⟨S8192x1024, .bf16⟩
  | .hbm, ⟨7, _⟩ => ⟨S8192x1024, .f32⟩
  | .hbm, ⟨8, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S6x1024, .f32⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S2x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S8x1024, .f32⟩
  | .local _ .vmem, ⟨15, _⟩ => ⟨S512x1024, .f32⟩
  | .local _ .vmem, ⟨16, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨2, ![16, 4], ![false, false]⟩

def k0_cond3 (i : grid0.Coords) : BitVec 1 :=
  let arg1 : BitVec 32 := BitVec.ofNat 32 (i 1).val
  let c3_i32 : BitVec 32 := 3#32
  let v24 : BitVec 1 := Scalar.cmpi .eq arg1 c3_i32
  let v25 : BitVec 32 := Scalar.extui v24
  let c0_i32_17 : BitVec 32 := 0#32
  let v26 : BitVec 1 := Scalar.cmpi .ne v25 c0_i32_17
  v26

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== Reference6Ideal.lean ====
abbrev S8192x1024 : Shape := ⟨2, ![8192, 1024]⟩
abbrev S6x1024 : Shape := ⟨2, ![6, 1024]⟩
abbrev S4x1024x1024 : Shape := ⟨3, ![4, 1024, 1024]⟩
abbrev S2x1024 : Shape := ⟨2, ![2, 1024]⟩
abbrev S1024x4x1024 : Shape := ⟨3, ![1024, 4, 1024]⟩
abbrev S1024x4096 : Shape := ⟨2, ![1024, 4096]⟩
abbrev S4096x1024 : Shape := ⟨2, ![4096, 1024]⟩
abbrev S1x1024 : Shape := ⟨2, ![1, 1024]⟩
abbrev S_ : Shape := ⟨0, ![]⟩
abbrev S8192x4096 : Shape := ⟨2, ![8192, 4096]⟩
abbrev S8192 : Shape := ⟨1, ![8192]⟩
abbrev S8192x1 : Shape := ⟨2, ![8192, 1]⟩
abbrev S1024 : Shape := ⟨1, ![1024]⟩
abbrev S8x1024 : Shape := ⟨2, ![8, 1024]⟩

abbrev nBuf : Space → Nat
  | .hbm => 172
  | .vmem => 0
  | .smem => 0
  | _ => 0

abbrev hbmTy0_0 (i : Nat) : BufTy := match i % 128 with
  | 0 => ⟨S8192x1024, .f32⟩
  | 1 => ⟨S6x1024, .f32⟩
  | 2 => ⟨S4x1024x1024, .bf16⟩
  | 3 => ⟨S4x1024x1024, .bf16⟩
  | 4 => ⟨S2x1024, .f32⟩
  | 5 => ⟨S8192x1024, .f32⟩
  | 6 => ⟨S4x1024x1024, .f32⟩
  | 7 => ⟨S1024x4x1024, .f32⟩
  | 8 => ⟨S1024x4096, .f32⟩
  | 9 => ⟨S4x1024x1024, .f32⟩
  | 10 => ⟨S4096x1024, .f32⟩
  | 11 => ⟨S1x1024, .f32⟩
  | 12 => ⟨S1x1024, .f32⟩
  | 13 => ⟨S_, .f32⟩
  | 14 => ⟨S1x1024, .f32⟩
  | 15 => ⟨S1x1024, .f32⟩
  | 16 => ⟨S8192x1024, .f32⟩
  | 17 => ⟨S8192x1024, .f32⟩
  | 18 => ⟨S8192x1024, .f32⟩
  | 19 => ⟨S8192x1024, .f32⟩
  | 20 => ⟨S8192x4096, .f32⟩
  | 21 => ⟨S_, .f32⟩
  | 22 => ⟨S8192x4096, .f32⟩
  | 23 => ⟨S8192x4096, .f32⟩
  | 24 => ⟨S8192x4096, .f32⟩
  | 25 => ⟨S8192x1024, .f32⟩
  | 26 => ⟨S1x1024, .f32⟩
  | 27 => ⟨S1x1024, .f32⟩
  | 28 => ⟨S1x1024, .f32⟩
  | 29 => ⟨S_, .f32⟩
  | 30 => ⟨S8192x1024, .f32⟩
  | 31 => ⟨S8192x1024, .f32⟩
  | 32 => ⟨S_, .f32⟩
  | 33 => ⟨S1x1024, .f32⟩
  | 34 => ⟨S1x1024, .f32⟩
  | 35 => ⟨S8192x1024, .f32⟩
  | 36 => ⟨S8192x1024, .f32⟩
  | 37 => ⟨S8192x1024, .f32⟩
  | 38 => ⟨S_, .f32⟩
  | 39 => ⟨S8192, .f32⟩
  | 40 => ⟨S8192x1, .f32⟩
  | 41 => ⟨S_, .f32⟩
  | 42 => ⟨S8192x1, .f32⟩
  | 43 => ⟨S8192x1, .f32⟩
  | 44 => ⟨S8192x1024, .f32⟩
  | 45 => ⟨S8192x1024, .f32⟩
  | 46 => ⟨S8192x1024, .f32⟩
  | 47 => ⟨S_, .f32⟩
  | 48 => ⟨S8192x1024, .f32⟩
  | 49 => ⟨S8192x1024, .f32⟩
  | 50 => ⟨S_, .f32⟩
  | 51 => ⟨S8192, .f32⟩
  | 52 => ⟨S8192x1, .f32⟩
  | 53 => ⟨S_, .f32⟩
  | 54 => ⟨S8192x1, .f32⟩
  | 55 => ⟨S8192x1, .f32⟩
  | 56 => ⟨S8192x1024, .f32⟩
  | 57 => ⟨S8192x1024, .f32⟩
  | 58 => ⟨S_, .f32⟩
  | 59 => ⟨S8192x1, .f32⟩
  | 60 => ⟨S8192x1, .f32⟩
  | 61 => ⟨S8192x1, .f32⟩
  | 62 => ⟨S8192x1, .f32⟩
  | 63 => ⟨S_, .f32⟩
  | 64 => ⟨S8192x1, .f32⟩
  | 65 => ⟨S8192x1, .f32⟩
  | 66 => ⟨S8192x1024, .f32⟩
  | 67 => ⟨S8192x1024, .f32⟩
  | 68 => ⟨S8192x1024, .f32⟩
  | 69 => ⟨S8192x1024, .f32⟩
  | 70 => ⟨S8192x1024, .f32⟩
  | 71 => ⟨S8192x1024, .f32⟩
  | 72 => ⟨S8192x1024, .f32⟩
  | 73 => ⟨S8192x1024, .f32⟩
  | 74 => ⟨S_, .f32⟩
  | 75 => ⟨S8192x1024, .f32⟩
  | 76 => ⟨S8192x1024, .f32⟩
  | 77 => ⟨S_, .f32⟩
  | 78 => ⟨S8192x1024, .f32⟩
  | 79 => ⟨S8192x1024, .f32⟩
  | 80 => ⟨S_, .f32⟩
  | 81 => ⟨S8192x1024, .f32⟩
  | 82 => ⟨S8192x1024, .f32⟩
  | 83 => ⟨S_, .f32⟩
  | 84 => ⟨S1024, .f32⟩
  | 85 => ⟨S1x1024, .f32⟩
  | 86 => ⟨S_, .f32⟩
  | 87 => ⟨S1x1024, .f32⟩
  | 88 => ⟨S_, .f32⟩
  | 89 => ⟨S1024, .f32⟩
  | 90 => ⟨S8192x1024, .f32⟩
  | 91 => ⟨S_, .f32⟩
  | 92 => ⟨S8192x1024, .f32⟩
  | 93 => ⟨S8192x1024, .f32⟩
  | 94 => ⟨S_, .f32⟩
  | 95 => ⟨S8192x1024, .f32⟩
  | 96 => ⟨S8192x1024, .f32⟩
  | 97 => ⟨S8192x1024, .f32⟩
  | 98 => ⟨S_, .f32⟩
  | 99 => ⟨S1024, .f32⟩
  | 100 => ⟨S1x1024, .f32⟩
  | 101 => ⟨S8192x1024, .f32⟩
  | 102 => ⟨S_, .f32⟩
  | 103 => ⟨S1024, .f32⟩
  | 104 => ⟨S1x1024, .f32⟩
  | 105 => ⟨S8192x1024, .f32⟩
  | 106 => ⟨S8192x1024, .f32⟩
  | 107 => ⟨S8192x1024, .f32⟩
  | 108 => ⟨S_, .f32⟩
  | 109 => ⟨S8192, .f32⟩
  | 110 => ⟨S8192x1, .f32⟩
  | 111 => ⟨S8192x1024, .f32⟩
  | 112 => ⟨S8192x1024, .f32⟩
  | 113 => ⟨S8192x1, .f32⟩
  | 114 => ⟨S8192x1024, .f32⟩
  | 115 => ⟨S_, .f32⟩
  | 116 => ⟨S8192, .f32⟩
  | 117 => ⟨S8192x1, .f32⟩
  | 118 => ⟨S_, .f32⟩
  | 119 => ⟨S8192x1, .f32⟩
  | 120 => ⟨S8192x1, .f32⟩
  | 121 => ⟨S_, .f32⟩
  | 122 => ⟨S8192, .f32⟩
  | 123 => ⟨S8192x1024, .f32⟩
  | 124 => ⟨S8192x1024, .f32⟩
  | 125 => ⟨S8192x1024, .f32⟩
  | 126 => ⟨S_, .f32⟩
  | 127 => ⟨S8192, .f32⟩
  | _ => ⟨S8192x1024, .f32⟩

abbrev hbmTy0_1 (i : Nat) : BufTy := match i % 128 with
  | 0 => ⟨S8192x1, .f32⟩
  | 1 => ⟨S8192x1024, .f32⟩
  | 2 => ⟨S8192x1, .f32⟩
  | 3 => ⟨S_, .f32⟩
  | 4 => ⟨S8192x1, .f32⟩
  | 5 => ⟨S8192x1, .f32⟩
  | 6 => ⟨S_, .f32⟩
  | 7 => ⟨S8192, .f32⟩
  | 8 => ⟨S8192x1024, .f32⟩
  | 9 => ⟨S8192x1024, .f32⟩
  | 10 => ⟨S8192x1024, .f32⟩
  | 11 => ⟨S8192x1024, .f32⟩
  | 12 => ⟨S8192x1024, .f32⟩
  | 13 => ⟨S_, .f32⟩
  | 14 => ⟨S1024, .f32⟩
  | 15 => ⟨S1x1024, .f32⟩
  | 16 => ⟨S_, .f32⟩
  | 17 => ⟨S8192x1024, .f32⟩
  | 18 => ⟨S8192x1024, .f32⟩
  | 19 => ⟨S8x1024, .i32⟩
  | 20 => ⟨S_, .i32⟩
  | 21 => ⟨S8x1024, .i32⟩
  | 22 => ⟨S8x1024, .i1⟩
  | 23 => ⟨S_, .i32⟩
  | 24 => ⟨S8x1024, .i32⟩
  | 25 => ⟨S8x1024, .i1⟩
  | 26 => ⟨S_, .i32⟩
  | 27 => ⟨S8x1024, .i32⟩
  | 28 => ⟨S8x1024, .i1⟩
  | 29 => ⟨S_, .i32⟩
  | 30 => ⟨S8x1024, .i32⟩
  | 31 => ⟨S8x1024, .i1⟩
  | 32 => ⟨S_, .f32⟩
  | 33 => ⟨S_, .f32⟩
  | 34 => ⟨S8x1024, .f32⟩
  | 35 => ⟨S8x1024, .f32⟩
  | 36 => ⟨S8x1024, .f32⟩
  | 37 => ⟨S8x1024, .f32⟩
  | 38 => ⟨S8x1024, .f32⟩
  | 39 => ⟨S8x1024, .f32⟩
  | 40 => ⟨S8x1024, .f32⟩
  | 41 => ⟨S8x1024, .f32⟩
  | 42 => ⟨S8x1024, .f32⟩
  | 43 => ⟨S8192x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_cst : Ref sig .tc := ⟨.hbm, 21, rfl⟩
abbrev main_call0_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_0 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_2 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_4 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_7 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_8 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_9 : Ref sig .tc := ⟨.hbm, 74, rfl⟩
abbrev main_v56 : Ref sig .tc := ⟨.hbm, 75, rfl⟩
abbrev main_v57 : Ref sig .tc := ⟨.hbm, 76, rfl⟩
abbrev main_cst_10 : Ref sig .tc := ⟨.hbm, 77, rfl⟩
abbrev main_v58 : Ref sig .tc := ⟨.hbm, 78, rfl⟩
abbrev main_v59 : Ref sig .tc := ⟨.hbm, 79, rfl⟩
abbrev main_cst_11 : Ref sig .tc := ⟨.hbm, 80, rfl⟩
abbrev main_v60 : Ref sig .tc := ⟨.hbm, 81, rfl⟩
abbrev main_v61 : Ref sig .tc := ⟨.hbm, 82, rfl⟩
abbrev main_cst_12 : Ref sig .tc := ⟨.hbm, 83, rfl⟩
abbrev main_v62 : Ref sig .tc := ⟨.hbm, 84, rfl⟩
abbrev main_v63 : Ref sig .tc := ⟨.hbm, 85, rfl⟩
abbrev main_cst_13 : Ref sig .tc := ⟨.hbm, 86, rfl⟩
abbrev main_v64 : Ref sig .tc := ⟨.hbm, 87, rfl⟩
abbrev main_cst_14 : Ref sig .tc := ⟨.hbm, 88, rfl⟩
abbrev main_v65 : Ref sig .tc := ⟨.hbm, 89, rfl⟩
abbrev main_v66 : Ref sig .tc := ⟨.hbm, 90, rfl⟩
abbrev main_cst_15 : Ref sig .tc := ⟨.hbm, 91, rfl⟩
abbrev main_v67 : Ref sig .tc := ⟨.hbm, 92, rfl⟩
abbrev main_v68 : Ref sig .tc := ⟨.hbm, 93, rfl⟩
abbrev main_cst_16 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_cst_17 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_18 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_cst_19 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_cst_20 : Ref sig .tc := ⟨.hbm, 115, rfl⟩
abbrev main_v86 : Ref sig .tc := ⟨.hbm, 116, rfl⟩
abbrev main_v87 : Ref sig .tc := ⟨.hbm, 117, rfl⟩
abbrev main_cst_21 : Ref sig .tc := ⟨.hbm, 118, rfl⟩
abbrev main_v88 : Ref sig .tc := ⟨.hbm, 119, rfl⟩
abbrev main_v89 : Ref sig .tc := ⟨.hbm, 120, rfl⟩
abbrev main_cst_22 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_cst_23 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_cst_24 : Ref sig .tc := ⟨.hbm, 131, rfl⟩
abbrev main_v98 : Ref sig .tc := ⟨.hbm, 132, rfl⟩
abbrev main_v99 : Ref sig .tc := ⟨.hbm, 133, rfl⟩
abbrev main_cst_25 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_cst_26 : Ref sig .tc := ⟨.hbm, 141, rfl⟩
abbrev main_v106 : Ref sig .tc := ⟨.hbm, 142, rfl⟩
abbrev main_v107 : Ref sig .tc := ⟨.hbm, 143, rfl⟩
abbrev main_cst_27 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_c : Ref sig .tc := ⟨.hbm, 148, rfl⟩
abbrev main_v111 : Ref sig .tc := ⟨.hbm, 149, rfl⟩
abbrev main_v112 : Ref sig .tc := ⟨.hbm, 150, rfl⟩
abbrev main_c_28 : Ref sig .tc := ⟨.hbm, 151, rfl⟩
abbrev main_v113 : Ref sig .tc := ⟨.hbm, 152, rfl⟩
abbrev main_v114 : Ref sig .tc := ⟨.hbm, 153, rfl⟩
abbrev main_c_29 : Ref sig .tc := ⟨.hbm, 154, rfl⟩
abbrev main_v115 : Ref sig .tc := ⟨.hbm, 155, rfl⟩
abbrev main_v116 : Ref sig .tc := ⟨.hbm, 156, rfl⟩
abbrev main_c_30 : Ref sig .tc := ⟨.hbm, 157, rfl⟩
abbrev main_v117 : Ref sig .tc := ⟨.hbm, 158, rfl⟩
abbrev main_v118 : Ref sig .tc := ⟨.hbm, 159, rfl⟩
abbrev main_cst_31 : Ref sig .tc := ⟨.hbm, 160, rfl⟩
abbrev main_call1_v0 : Ref sig .tc := ⟨.hbm, 161, rfl⟩
abbrev main_call1_v1 : Ref sig .tc := ⟨.hbm, 162, rfl⟩
abbrev main_call1_v2 : Ref sig .tc := ⟨.hbm, 163, rfl⟩
abbrev main_v119 : Ref sig .tc := ⟨.hbm, 164, rfl⟩
abbrev main_call2_v0 : Ref sig .tc := ⟨.hbm, 165, rfl⟩
abbrev main_v120 : Ref sig .tc := ⟨.hbm, 166, rfl⟩
abbrev main_call3_v0 : Ref sig .tc := ⟨.hbm, 167, rfl⟩
abbrev main_v121 : Ref sig .tc := ⟨.hbm, 168, rfl⟩
abbrev main_call4_v0 : Ref sig .tc := ⟨.hbm, 169, rfl⟩
abbrev main_v122 : Ref sig .tc := ⟨.hbm, 170, rfl⟩
abbrev main_v123 : Ref sig .tc := ⟨.hbm, 171, rfl⟩

abbrev nD : Nat := 1
abbrev τ : Topo := Topo.v7x

variable {F : FTy → Type} [FloatOps F]
-- ==== Kernel7.lean ====
abbrev S1024x642 : Shape := ⟨2, ![1024, 642]⟩
abbrev S256x642 : Shape := ⟨2, ![256, 642]⟩

abbrev nBuf : Space → Nat
  | .hbm => 7
  | .vmem => 14
  | .smem => 0
  | _ => 0

abbrev bufTy : (tb : Table) → Fin (tcTables nBuf tb) → BufTy
  | .hbm, ⟨0, _⟩ => ⟨S1024x642, .f32⟩
  | .hbm, ⟨1, _⟩ => ⟨S1024x642, .f32⟩
  | .hbm, ⟨2, _⟩ => ⟨S1024x642, .f32⟩
  | .hbm, ⟨3, _⟩ => ⟨S1024x642, .f32⟩
  | .hbm, ⟨4, _⟩ => ⟨S1024x642, .f32⟩
  | .hbm, ⟨5, _⟩ => ⟨S1024x642, .f32⟩
  | .hbm, ⟨6, _⟩ => ⟨S1024x642, .f32⟩
  | .local _ .vmem, ⟨0, _⟩ => ⟨S256x642, .f32⟩
  | .local _ .vmem, ⟨1, _⟩ => ⟨S256x642, .f32⟩
  | .local _ .vmem, ⟨2, _⟩ => ⟨S256x642, .f32⟩
  | .local _ .vmem, ⟨3, _⟩ => ⟨S256x642, .f32⟩
  | .local _ .vmem, ⟨4, _⟩ => ⟨S256x642, .f32⟩
  | .local _ .vmem, ⟨5, _⟩ => ⟨S256x642, .f32⟩
  | .local _ .vmem, ⟨6, _⟩ => ⟨S256x642, .f32⟩
  | .local _ .vmem, ⟨7, _⟩ => ⟨S256x642, .f32⟩
  | .local _ .vmem, ⟨8, _⟩ => ⟨S256x642, .f32⟩
  | .local _ .vmem, ⟨9, _⟩ => ⟨S256x642, .f32⟩
  | .local _ .vmem, ⟨10, _⟩ => ⟨S256x642, .f32⟩
  | .local _ .vmem, ⟨11, _⟩ => ⟨S256x642, .f32⟩
  | .local _ .vmem, ⟨12, _⟩ => ⟨S256x642, .f32⟩
  | .local _ .vmem, ⟨13, _⟩ => ⟨S256x642, .f32⟩
  | _, _ => ⟨S1024x642, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x642 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x642 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x642 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x642 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x642 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x642 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x642 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference7Ideal.lean ====
abbrev S1024x642 : Shape := ⟨2, ![1024, 642]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x642, .f32⟩
  | .hbm, ⟨1, _⟩ => ⟨S1024x642, .f32⟩
  | .hbm, ⟨2, _⟩ => ⟨S1024x642, .f32⟩
  | .hbm, ⟨3, _⟩ => ⟨S1024x642, .f32⟩
  | .hbm, ⟨4, _⟩ => ⟨S_, .f32⟩
  | .hbm, ⟨5, _⟩ => ⟨S1024x642, .f32⟩
  | .hbm, ⟨6, _⟩ => ⟨S1024x642, .f32⟩
  | .hbm, ⟨7, _⟩ => ⟨S_, .f32⟩
  | .hbm, ⟨8, _⟩ => ⟨S1024x642, .f32⟩
  | .hbm, ⟨9, _⟩ => ⟨S1024x642, .f32⟩
  | .hbm, ⟨10, _⟩ => ⟨S1024x642, .f32⟩
  | .hbm, ⟨11, _⟩ => ⟨S_, .f32⟩
  | .hbm, ⟨12, _⟩ => ⟨S1024x642, .f32⟩
  | .hbm, ⟨13, _⟩ => ⟨S1024x642, .f32⟩
  | .hbm, ⟨14, _⟩ => ⟨S1024x642, .f32⟩
  | .hbm, ⟨15, _⟩ => ⟨S_, .f32⟩
  | .hbm, ⟨16, _⟩ => ⟨S1024x642, .f32⟩
  | .hbm, ⟨17, _⟩ => ⟨S1024x642, .f32⟩
  | .hbm, ⟨18, _⟩ => ⟨S1024x642, .f32⟩
  | .hbm, ⟨19, _⟩ => ⟨S_, .f32⟩
  | .hbm, ⟨20, _⟩ => ⟨S1024x642, .f32⟩
  | .hbm, ⟨21, _⟩ => ⟨S1024x642, .f32⟩
  | .hbm, ⟨22, _⟩ => ⟨S_, .f32⟩
  | .hbm, ⟨23, _⟩ => ⟨S1024x642, .f32⟩
  | .hbm, ⟨24, _⟩ => ⟨S1024x642, .f32⟩
  | .hbm, ⟨25, _⟩ => ⟨S1024x642, .f32⟩
  | .hbm, ⟨26, _⟩ => ⟨S_, .f32⟩
  | .hbm, ⟨27, _⟩ => ⟨S1024x642, .f32⟩
  | .hbm, ⟨28, _⟩ => ⟨S1024x642, .f32⟩
  | .hbm, ⟨29, _⟩ => ⟨S1024x642, .f32⟩
  | .hbm, ⟨30, _⟩ => ⟨S_, .f32⟩
  | .hbm, ⟨31, _⟩ => ⟨S1024x642, .f32⟩
  | .hbm, ⟨32, _⟩ => ⟨S1024x642, .f32⟩
  | .hbm, ⟨33, _⟩ => ⟨S1024x642, .f32⟩
  | .hbm, ⟨34, _⟩ => ⟨S_, .f32⟩
  | .hbm, ⟨35, _⟩ => ⟨S1024x642, .f32⟩
  | .hbm, ⟨36, _⟩ => ⟨S1024x642, .f32⟩
  | _, _ => ⟨S1024x642, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel8.lean ====
abbrev S31x128 : Shape := ⟨2, ![31, 128]⟩

abbrev nBuf : Space → Nat
  | .hbm => 7
  | .vmem => 7
  | .smem => 0
  | _ => 0

abbrev bufTy : (tb : Table) → Fin (tcTables nBuf tb) → BufTy
  | .hbm, ⟨0, _⟩ => ⟨S31x128, .f32⟩
  | .hbm, ⟨1, _⟩ => ⟨S31x128, .f32⟩
  | .hbm, ⟨2, _⟩ => ⟨S31x128, .f32⟩
  | .hbm, ⟨3, _⟩ => ⟨S31x128, .f32⟩
  | .hbm, ⟨4, _⟩ => ⟨S31x128, .f32⟩
  | .hbm, ⟨5, _⟩ => ⟨S31x128, .f32⟩
  | .hbm, ⟨6, _⟩ => ⟨S31x128, .f32⟩
  | .local _ .vmem, ⟨0, _⟩ => ⟨S31x128, .f32⟩
  | .local _ .vmem, ⟨1, _⟩ => ⟨S31x128, .f32⟩
  | .local _ .vmem, ⟨2, _⟩ => ⟨S31x128, .f32⟩
  | .local _ .vmem, ⟨3, _⟩ => ⟨S31x128, .f32⟩
  | .local _ .vmem, ⟨4, _⟩ => ⟨S31x128, .f32⟩
  | .local _ .vmem, ⟨5, _⟩ => ⟨S31x128, .f32⟩
  | .local _ .vmem, ⟨6, _⟩ => ⟨S31x128, .f32⟩
  | _, _ => ⟨S31x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S31x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S31x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S31x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S31x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S31x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S31x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S31x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference8Ideal.lean ====
abbrev S31x128 : Shape := ⟨2, ![31, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S31x128, .f32⟩
  | .hbm, ⟨1, _⟩ => ⟨S31x128, .f32⟩
  | .hbm, ⟨2, _⟩ => ⟨S31x128, .f32⟩
  | .hbm, ⟨3, _⟩ => ⟨S31x128, .f32⟩
  | .hbm, ⟨4, _⟩ => ⟨S_, .f32⟩
  | .hbm, ⟨5, _⟩ => ⟨S31x128, .f32⟩
  | .hbm, ⟨6, _⟩ => ⟨S31x128, .f32⟩
  | .hbm, ⟨7, _⟩ => ⟨S_, .f32⟩
  | .hbm, ⟨8, _⟩ => ⟨S31x128, .f32⟩
  | .hbm, ⟨9, _⟩ => ⟨S31x128, .f32⟩
  | .hbm, ⟨10, _⟩ => ⟨S31x128, .f32⟩
  | .hbm, ⟨11, _⟩ => ⟨S_, .f32⟩
  | .hbm, ⟨12, _⟩ => ⟨S31x128, .f32⟩
  | .hbm, ⟨13, _⟩ => ⟨S31x128, .f32⟩
  | .hbm, ⟨14, _⟩ => ⟨S31x128, .f32⟩
  | .hbm, ⟨15, _⟩ => ⟨S_, .f32⟩
  | .hbm, ⟨16, _⟩ => ⟨S31x128, .f32⟩
  | .hbm, ⟨17, _⟩ => ⟨S31x128, .f32⟩
  | .hbm, ⟨18, _⟩ => ⟨S31x128, .f32⟩
  | .hbm, ⟨19, _⟩ => ⟨S_, .f32⟩
  | .hbm, ⟨20, _⟩ => ⟨S31x128, .f32⟩
  | .hbm, ⟨21, _⟩ => ⟨S31x128, .f32⟩
  | .hbm, ⟨22, _⟩ => ⟨S_, .f32⟩
  | .hbm, ⟨23, _⟩ => ⟨S31x128, .f32⟩
  | .hbm, ⟨24, _⟩ => ⟨S31x128, .f32⟩
  | .hbm, ⟨25, _⟩ => ⟨S31x128, .f32⟩
  | .hbm, ⟨26, _⟩ => ⟨S_, .f32⟩
  | .hbm, ⟨27, _⟩ => ⟨S31x128, .f32⟩
  | .hbm, ⟨28, _⟩ => ⟨S31x128, .f32⟩
  | .hbm, ⟨29, _⟩ => ⟨S31x128, .f32⟩
  | .hbm, ⟨30, _⟩ => ⟨S_, .f32⟩
  | .hbm, ⟨31, _⟩ => ⟨S31x128, .f32⟩
  | .hbm, ⟨32, _⟩ => ⟨S31x128, .f32⟩
  | .hbm, ⟨33, _⟩ => ⟨S31x128, .f32⟩
  | .hbm, ⟨34, _⟩ => ⟨S_, .f32⟩
  | .hbm, ⟨35, _⟩ => ⟨S31x128, .f32⟩
  | .hbm, ⟨36, _⟩ => ⟨S31x128, .f32⟩
  | _, _ => ⟨S31x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel9.lean ====
abbrev S256x1024 : Shape := ⟨2, ![256, 1024]⟩
abbrev S128x1024 : Shape := ⟨2, ![128, 1024]⟩

abbrev nBuf : Space → Nat
  | .hbm => 7
  | .vmem => 14
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference9Ideal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel10.lean ====
abbrev S1024x1024 : Shape := ⟨2, ![1024, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference10Ideal.lean ====
abbrev S1024x1024 : Shape := ⟨2, ![1024, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S_, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S_, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S_, .f32⟩
  | .hbm, ⟨20, _⟩ => ⟨S1024x1024, .f32⟩
  | .hbm, ⟨21, _⟩ => ⟨S1024x1024, .f32⟩
  | .hbm, ⟨22, _⟩ => ⟨S_, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S_, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S_, .f32⟩
  | .hbm, ⟨31, _⟩ => ⟨S1024x1024, .f32⟩
  | .hbm, ⟨32, _⟩ => ⟨S1024x1024, .f32⟩
  | .hbm, ⟨33, _⟩ => ⟨S1024x1024, .f32⟩
  | .hbm, ⟨34, _⟩ => ⟨S_, .f32⟩
  | .hbm, ⟨35, _⟩ => ⟨S1024x1024, .f32⟩
  | .hbm, ⟨36, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel11.lean ====
abbrev S1024x1024 : Shape := ⟨2, ![1024, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference11Ideal.lean ====
abbrev S1024x1024 : Shape := ⟨2, ![1024, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S_, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S_, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S_, .f32⟩
  | .hbm, ⟨20, _⟩ => ⟨S1024x1024, .f32⟩
  | .hbm, ⟨21, _⟩ => ⟨S1024x1024, .f32⟩
  | .hbm, ⟨22, _⟩ => ⟨S_, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S_, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S_, .f32⟩
  | .hbm, ⟨31, _⟩ => ⟨S1024x1024, .f32⟩
  | .hbm, ⟨32, _⟩ => ⟨S1024x1024, .f32⟩
  | .hbm, ⟨33, _⟩ => ⟨S1024x1024, .f32⟩
  | .hbm, ⟨34, _⟩ => ⟨S_, .f32⟩
  | .hbm, ⟨35, _⟩ => ⟨S1024x1024, .f32⟩
  | .hbm, ⟨36, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel12.lean ====
abbrev S48x1024 : Shape := ⟨2, ![48, 1024]⟩
abbrev S16x1024 : Shape := ⟨2, ![16, 1024]⟩

abbrev nBuf : Space → Nat
  | .hbm => 7
  | .vmem => 14
  | .smem => 0
  | _ => 0

abbrev bufTy : (tb : Table) → Fin (tcTables nBuf tb) → BufTy
  | .hbm, ⟨0, _⟩ => ⟨S48x1024, .f32⟩
  | .hbm, ⟨1, _⟩ => ⟨S48x1024, .f32⟩
  | .hbm, ⟨2, _⟩ => ⟨S48x1024, .f32⟩
  | .hbm, ⟨3, _⟩ => ⟨S48x1024, .f32⟩
  | .hbm, ⟨4, _⟩ => ⟨S48x1024, .f32⟩
  | .hbm, ⟨5, _⟩ => ⟨S48x1024, .f32⟩
  | .hbm, ⟨6, _⟩ => ⟨S48x1024, .f32⟩
  | .local _ .vmem, ⟨0, _⟩ => ⟨S16x1024, .f32⟩
  | .local _ .vmem, ⟨1, _⟩ => ⟨S16x1024, .f32⟩
  | .local _ .vmem, ⟨2, _⟩ => ⟨S16x1024, .f32⟩
  | .local _ .vmem, ⟨3, _⟩ => ⟨S16x1024, .f32⟩
  | .local _ .vmem, ⟨4, _⟩ => ⟨S16x1024, .f32⟩
  | .local _ .vmem, ⟨5, _⟩ => ⟨S16x1024, .f32⟩
  | .local _ .vmem, ⟨6, _⟩ => ⟨S16x1024, .f32⟩
  | .local _ .vmem, ⟨7, _⟩ => ⟨S16x1024, .f32⟩
  | .local _ .vmem, ⟨8, _⟩ => ⟨S16x1024, .f32⟩
  | .local _ .vmem, ⟨9, _⟩ => ⟨S16x1024, .f32⟩
  | .local _ .vmem, ⟨10, _⟩ => ⟨S16x1024, .f32⟩
  | .local _ .vmem, ⟨11, _⟩ => ⟨S16x1024, .f32⟩
  | .local _ .vmem, ⟨12, _⟩ => ⟨S16x1024, .f32⟩
  | .local _ .vmem, ⟨13, _⟩ => ⟨S16x1024, .f32⟩
  | _, _ => ⟨S48x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference12Ideal.lean ====
abbrev S48x1024 : Shape := ⟨2, ![48, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S48x1024, .f32⟩
  | .hbm, ⟨1, _⟩ => ⟨S48x1024, .f32⟩
  | .hbm, ⟨2, _⟩ => ⟨S48x1024, .f32⟩
  | .hbm, ⟨3, _⟩ => ⟨S48x1024, .f32⟩
  | .hbm, ⟨4, _⟩ => ⟨S_, .f32⟩
  | .hbm, ⟨5, _⟩ => ⟨S48x1024, .f32⟩
  | .hbm, ⟨6, _⟩ => ⟨S48x1024, .f32⟩
  | .hbm, ⟨7, _⟩ => ⟨S_, .f32⟩
  | .hbm, ⟨8, _⟩ => ⟨S48x1024, .f32⟩
  | .hbm, ⟨9, _⟩ => ⟨S48x1024, .f32⟩
  | .hbm, ⟨10, _⟩ => ⟨S48x1024, .f32⟩
  | .hbm, ⟨11, _⟩ => ⟨S_, .f32⟩
  | .hbm, ⟨12, _⟩ => ⟨S48x1024, .f32⟩
  | .hbm, ⟨13, _⟩ => ⟨S48x1024, .f32⟩
  | .hbm, ⟨14, _⟩ => ⟨S48x1024, .f32⟩
  | .hbm, ⟨15, _⟩ => ⟨S_, .f32⟩
  | .hbm, ⟨16, _⟩ => ⟨S48x1024, .f32⟩
  | .hbm, ⟨17, _⟩ => ⟨S48x1024, .f32⟩
  | .hbm, ⟨18, _⟩ => ⟨S48x1024, .f32⟩
  | .hbm, ⟨19, _⟩ => ⟨S_, .f32⟩
  | .hbm, ⟨20, _⟩ => ⟨S48x1024, .f32⟩
  | .hbm, ⟨21, _⟩ => ⟨S48x1024, .f32⟩
  | .hbm, ⟨22, _⟩ => ⟨S_, .f32⟩
  | .hbm, ⟨23, _⟩ => ⟨S48x1024, .f32⟩
  | .hbm, ⟨24, _⟩ => ⟨S48x1024, .f32⟩
  | .hbm, ⟨25, _⟩ => ⟨S48x1024, .f32⟩
  | .hbm, ⟨26, _⟩ => ⟨S_, .f32⟩
  | .hbm, ⟨27, _⟩ => ⟨S48x1024, .f32⟩
  | .hbm, ⟨28, _⟩ => ⟨S48x1024, .f32⟩
  | .hbm, ⟨29, _⟩ => ⟨S48x1024, .f32⟩
  | .hbm, ⟨30, _⟩ => ⟨S_, .f32⟩
  | .hbm, ⟨31, _⟩ => ⟨S48x1024, .f32⟩
  | .hbm, ⟨32, _⟩ => ⟨S48x1024, .f32⟩
  | .hbm, ⟨33, _⟩ => ⟨S48x1024, .f32⟩
  | .hbm, ⟨34, _⟩ => ⟨S_, .f32⟩
  | .hbm, ⟨35, _⟩ => ⟨S48x1024, .f32⟩
  | .hbm, ⟨36, _⟩ => ⟨S48x1024, .f32⟩
  | _, _ => ⟨S48x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel13.lean ====
abbrev S1024x8 : Shape := ⟨2, ![1024, 8]⟩
abbrev S8x1536 : Shape := ⟨2, ![8, 1536]⟩
abbrev S1024x1536 : Shape := ⟨2, ![1024, 1536]⟩
abbrev S128x8 : Shape := ⟨2, ![128, 8]⟩
abbrev S128x1536 : Shape := ⟨2, ![128, 1536]⟩
abbrev S128x1 : Shape := ⟨2, ![128, 1]⟩
abbrev S1x1536 : Shape := ⟨2, ![1, 1536]⟩

abbrev nBuf : Space → Nat
  | .hbm => 9
  | .vmem => 17
  | .smem => 0
  | _ => 0

abbrev bufTy : (tb : Table) → Fin (tcTables nBuf tb) → BufTy
  | .hbm, ⟨0, _⟩ => ⟨S1024x8, .f32⟩
  | .hbm, ⟨1, _⟩ => ⟨S8x1536, .f32⟩
  | .hbm, ⟨2, _⟩ => ⟨S1024x1536, .f32⟩
  | .hbm, ⟨3, _⟩ => ⟨S1024x1536, .f32⟩
  | .hbm, ⟨4, _⟩ => ⟨S1024x1536, .f32⟩
  | .hbm, ⟨5, _⟩ => ⟨S1024x1536, .f32⟩
  | .hbm, ⟨6, _⟩ => ⟨S1024x1536, .f32⟩
  | .hbm, ⟨7, _⟩ => ⟨S1024x1536, .f32⟩
  | .hbm, ⟨8, _⟩ => ⟨S1024x1536, .f32⟩
  | .local _ .vmem, ⟨0, _⟩ => ⟨S128x8, .f32⟩
  | .local _ .vmem, ⟨1, _⟩ => ⟨S128x8, .f32⟩
  | .local _ .vmem, ⟨2, _⟩ => ⟨S8x1536, .f32⟩
  | .local _ .vmem, ⟨3, _⟩ => ⟨S128x1536, .f32⟩
  | .local _ .vmem, ⟨4, _⟩ => ⟨S128x1536, .f32⟩
  | .local _ .vmem, ⟨5, _⟩ => ⟨S128x1536, .f32⟩
  | .local _ .vmem, ⟨6, _⟩ => ⟨S128x1536, .f32⟩
  | .local _ .vmem, ⟨7, _⟩ => ⟨S128x1536, .f32⟩
  | .local _ .vmem, ⟨8, _⟩ => ⟨S128x1536, .f32⟩
  | .local _ .vmem, ⟨9, _⟩ => ⟨S128x1536, .f32⟩
  | .local _ .vmem, ⟨10, _⟩ => ⟨S128x1536, .f32⟩
  | .local _ .vmem, ⟨11, _⟩ => ⟨S128x1536, .f32⟩
  | .local _ .vmem, ⟨12, _⟩ => ⟨S128x1536, .f32⟩
  | .local _ .vmem, ⟨13, _⟩ => ⟨S128x1536, .f32⟩
  | .local _ .vmem, ⟨14, _⟩ => ⟨S128x1536, .f32⟩
  | .local _ .vmem, ⟨15, _⟩ => ⟨S128x1536, .f32⟩
  | .local _ .vmem, ⟨16, _⟩ => ⟨S128x1536, .f32⟩
  | _, _ => ⟨S1024x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference13Ideal.lean ====
abbrev S1024x8 : Shape := ⟨2, ![1024, 8]⟩
abbrev S8x1536 : Shape := ⟨2, ![8, 1536]⟩
abbrev S1024x1536 : Shape := ⟨2, ![1024, 1536]⟩
abbrev S8x1024 : Shape := ⟨2, ![8, 1024]⟩
abbrev S1536x1024 : Shape := ⟨2, ![1536, 1024]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S1024x8, .f32⟩
  | .hbm, ⟨1, _⟩ => ⟨S8x1536, .f32⟩
  | .hbm, ⟨2, _⟩ => ⟨S1024x1536, .f32⟩
  | .hbm, ⟨3, _⟩ => ⟨S1024x1536, .f32⟩
  | .hbm, ⟨4, _⟩ => ⟨S1024x1536, .f32⟩
  | .hbm, ⟨5, _⟩ => ⟨S8x1024, .f32⟩
  | .hbm, ⟨6, _⟩ => ⟨S8x1536, .f32⟩
  | .hbm, ⟨7, _⟩ => ⟨S1536x1024, .f32⟩
  | .hbm, ⟨8, _⟩ => ⟨S1024x1536, .f32⟩
  | .hbm, ⟨9, _⟩ => ⟨S_, .f32⟩
  | .hbm, ⟨10, _⟩ => ⟨S1024x1536, .f32⟩
  | .hbm, ⟨11, _⟩ => ⟨S1024x1536, .f32⟩
  | .hbm, ⟨12, _⟩ => ⟨S_, .f32⟩
  | .hbm, ⟨13, _⟩ => ⟨S1024x1536, .f32⟩
  | .hbm, ⟨14, _⟩ => ⟨S1024x1536, .f32⟩
  | .hbm, ⟨15, _⟩ => ⟨S1024x1536, .f32⟩
  | .hbm, ⟨16, _⟩ => ⟨S_, .f32⟩
  | .hbm, ⟨17, _⟩ => ⟨S1024x1536, .f32⟩
  | .hbm, ⟨18, _⟩ => ⟨S1024x1536, .f32⟩
  | .hbm, ⟨19, _⟩ => ⟨S1024x1536, .f32⟩
  | .hbm, ⟨20, _⟩ => ⟨S_, .f32⟩
  | .hbm, ⟨21, _⟩ => ⟨S1024x1536, .f32⟩
  | .hbm, ⟨22, _⟩ => ⟨S1024x1536, .f32⟩
  | .hbm, ⟨23, _⟩ => ⟨S1024x1536, .f32⟩
  | .hbm, ⟨24, _⟩ => ⟨S_, .f32⟩
  | .hbm, ⟨25, _⟩ => ⟨S1024x1536, .f32⟩
  | .hbm, ⟨26, _⟩ => ⟨S1024x1536, .f32⟩
  | .hbm, ⟨27, _⟩ => ⟨S_, .f32⟩
  | .hbm, ⟨28, _⟩ => ⟨S1024x1536, .f32⟩
  | .hbm, ⟨29, _⟩ => ⟨S1024x1536, .f32⟩
  | .hbm, ⟨30, _⟩ => ⟨S1024x1536, .f32⟩
  | .hbm, ⟨31, _⟩ => ⟨S_, .f32⟩
  | .hbm, ⟨32, _⟩ => ⟨S1024x1536, .f32⟩
  | .hbm, ⟨33, _⟩ => ⟨S1024x1536, .f32⟩
  | .hbm, ⟨34, _⟩ => ⟨S1024x1536, .f32⟩
  | .hbm, ⟨35, _⟩ => ⟨S_, .f32⟩
  | .hbm, ⟨36, _⟩ => ⟨S1024x1536, .f32⟩
  | .hbm, ⟨37, _⟩ => ⟨S1024x1536, .f32⟩
  | .hbm, ⟨38, _⟩ => ⟨S1024x1536, .f32⟩
  | .hbm, ⟨39, _⟩ => ⟨S_, .f32⟩
  | .hbm, ⟨40, _⟩ => ⟨S1024x1536, .f32⟩
  | .hbm, ⟨41, _⟩ => ⟨S1024x1536, .f32⟩
  | _, _ => ⟨S1024x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== Proof.KBase.lean ====
module

public import proofs.«01_k».proof.Proof.Gen.Kernel.Frame
public import proofs.«01_k».proof.Proof.Gen.Kernel.Loops
public import Idealize.ShloMosaic.Lib.Claim

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A run that keeps the staged inputs keeps the arguments. -/
theorem args_kept (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

/-- The first conditional is taken: a pair of heads begins. -/
abbrev newPair (i : grid0.Coords) : Prop := (Scalar.cmpi .ne (Scalar.extui (Scalar.cmpi .eq (BitVec.ofNat 32 (i 1).val) 0#32)) 0#32) = 1#1
/-- It is taken at the multiples of 16. -/
theorem newPair_iff : ∀ t : Fin cfg0.N, newPair (grid0.coords t) ↔ t.val % 16 = 0 :=
  (fun t => by
    have ht : t.val < 64 := Nat.lt_of_lt_of_eq t.isLt N_0
    have e0 : (grid0.coords t 0).val = t.val / 16 % 4 := Pipeline.Grid.coords_val t 0 (by decide) rfl
    have e1 : (grid0.coords t 1).val = t.val / 1 % 16 := Pipeline.Grid.coords_val t 1 (by decide) rfl
    simp only [newPair, e0, e1]
    word_cmp
   : ∀ t : Fin grid0.N, newPair (grid0.coords t) ↔ t.val % 16 = 0)

/-- The second conditional is taken: the run begins. -/
abbrev newRun (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It is taken at the first point. -/
theorem newRun_iff : ∀ t : Fin cfg0.N, newRun (grid0.coords t) ↔ t.val % 64 = 0 :=
  (fun t => by
    have ht : t.val < 64 := Nat.lt_of_lt_of_eq t.isLt N_0
    have e0 : (grid0.coords t 0).val = t.val / 16 % 4 := Pipeline.Grid.coords_val t 0 (by decide) rfl
    have e1 : (grid0.coords t 1).val = t.val / 1 % 16 := Pipeline.Grid.coords_val t 1 (by decide) rfl
    simp only [newRun, e0, e1]
    word_cmp
   : ∀ t : Fin grid0.N, newRun (grid0.coords t) ↔ t.val % 64 = 0)

/-- The staging buffer of window 0 at a point, -/
abbrev ms0_0 (t : Fin cfg0.N) : Memref sig .tc .vmem S8192x256 .bf16 := win0_0.stage (cfg0.slots t 0)
/-- which is whole. -/
abbrev hs0_0 (t : Fin cfg0.N) : (ms0_0 t).IsWhole := hstage0_0 ((cfg0.slots t 0).cast nbuf0_0)
/-- The staging buffer of window 1 at a point, -/
abbrev ms0_1 (t : Fin cfg0.N) : Memref sig .tc .vmem S8192x256 .bf16 := win0_1.stage (cfg0.slots t 1)
/-- which is whole. -/
abbrev hs0_1 (t : Fin cfg0.N) : (ms0_1 t).IsWhole := hstage0_1 ((cfg0.slots t 1).cast nbuf0_1)
/-- The staging buffer of window 2 at a point, -/
abbrev ms0_2 (t : Fin cfg0.N) : Memref sig .tc .vmem S512x256 .bf16 := win0_2.stage (cfg0.slots t 2)
/-- which is whole. -/
abbrev hs0_2 (t : Fin cfg0.N) : (ms0_2 t).IsWhole := hstage0_2 ((cfg0.slots t 2).cast nbuf0_2)
/-- The staging buffer of window 3 at a point, -/
abbrev ms0_3 (t : Fin cfg0.N) : Memref sig .tc .vmem S512x256 .bf16 := win0_3.stage (cfg0.slots t 3)
/-- which is whole. -/
abbrev hs0_3 (t : Fin cfg0.N) : (ms0_3 t).IsWhole := hstage0_3 ((cfg0.slots t 3).cast nbuf0_3)
/-- The staging buffer of window 4 at a point, -/
abbrev ms0_4 (t : Fin cfg0.N) : Memref sig .tc .vmem S8192x128 .f32 := win0_4.stage (cfg0.slots t 4)
/-- which is whole. -/
abbrev hs0_4 (t : Fin cfg0.N) : (ms0_4 t).IsWhole := hstage0_4 ((cfg0.slots t 4).cast nbuf0_4)
/-- The staging buffer of window 5 at a point, -/
abbrev ms0_5 (t : Fin cfg0.N) : Memref sig .tc .vmem S8192x128 .f32 := win0_5.stage (cfg0.slots t 5)
/-- which is whole. -/
abbrev hs0_5 (t : Fin cfg0.N) : (ms0_5 t).IsWhole := hstage0_5 ((cfg0.slots t 5).cast nbuf0_5)
/-- The staging buffer of window 6 at a point, -/
abbrev ms0_6 (t : Fin cfg0.N) : Memref sig .tc .vmem S512x128 .bf16 := win0_6.stage (cfg0.slots t 6)
/-- which is whole. -/
abbrev hs0_6 (t : Fin cfg0.N) : (ms0_6 t).IsWhole := hstage0_6 ((cfg0.slots t 6).cast nbuf0_6)
/-- The staging buffer of window 7 at a point, -/
abbrev ms0_7 (t : Fin cfg0.N) : Memref sig .tc .vmem S512x128 .bf16 := win0_7.stage (cfg0.slots t 7)
/-- which is whole. -/
abbrev hs0_7 (t : Fin cfg0.N) : (ms0_7 t).IsWhole := hstage0_7 ((cfg0.slots t 7).cast nbuf0_7)
/-- The staging buffer of window 8 at a point, -/
abbrev ms0_8 (t : Fin cfg0.N) : Memref sig .tc .vmem S8192x128 .f32 := win0_8.stage (cfg0.slots t 8)
/-- which is whole. -/
abbrev hs0_8 (t : Fin cfg0.N) : (ms0_8 t).IsWhole := hstage0_8 ((cfg0.slots t 8).cast nbuf0_8)

end Cert.Kernel.Hand

end
-- ==== Proof.KRunA.lean ====
module

public import proofs.«01_k».proof.Proof.KBase

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a point of case A keeps its inputs, whatever it leaves in its outputs. -/
theorem quietRun_A (c : Dev nD) (i : grid0.Coords) (arg2 : Memref sig .tc .vmem S8192x256 .bf16) (harg2 : arg2.IsWhole) (arg3 : Memref sig .tc .vmem S8192x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S8192x128 .f32) (harg6 : arg6.IsWhole) (arg7 : Memref sig .tc .vmem S8192x128 .f32) (harg7 : arg7.IsWhole) (arg8 : Memref sig .tc .vmem S512x128 .bf16) (harg8 : arg8.IsWhole) (arg9 : Memref sig .tc .vmem S512x128 .bf16) (harg9 : arg9.IsWhole) (arg10 : Memref sig .tc .vmem S8192x128 .f32) (harg10 : arg10.IsWhole) (hc0 : newPair i) (hc1 : newRun i)
    (x0 : Vec F S8192x256 .bf16) (x1 : Vec F S8192x256 .bf16) (x2 : Vec F S512x256 .bf16) (x3 : Vec F S512x256 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0_attn_bwd i arg2 harg2 arg3 harg3 arg4 harg4 arg5 harg5 arg6 harg6 arg7 harg7 arg8 harg8 arg9 harg9 arg10 harg10) K := by
    intro E K
    simp only [cc0_attn_bwd_eq_skeleton]; unfold cc0_attn_bwd_skel
    simp only [k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, Hk⟩
    obtain rfl := harg2.eq_unread hf0; obtain rfl := harg3.eq_unread hf1; obtain rfl := harg4.eq_unread hf2; obtain rfl := harg5.eq_unread hf3
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    iexists _, _; isplitr; swap; · iexact H8
    ipureintro; rfl

end Cert.Kernel.Hand

end
-- ==== Proof.KRunB.lean ====
module

public import proofs.«01_k».proof.Proof.KBase

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a point of case B keeps its inputs, whatever it leaves in its outputs. -/
theorem quietRun_B (c : Dev nD) (i : grid0.Coords) (arg2 : Memref sig .tc .vmem S8192x256 .bf16) (harg2 : arg2.IsWhole) (arg3 : Memref sig .tc .vmem S8192x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S8192x128 .f32) (harg6 : arg6.IsWhole) (arg7 : Memref sig .tc .vmem S8192x128 .f32) (harg7 : arg7.IsWhole) (arg8 : Memref sig .tc .vmem S512x128 .bf16) (harg8 : arg8.IsWhole) (arg9 : Memref sig .tc .vmem S512x128 .bf16) (harg9 : arg9.IsWhole) (arg10 : Memref sig .tc .vmem S8192x128 .f32) (harg10 : arg10.IsWhole) (hc0 : ¬newPair i) (hc1 : ¬newRun i)
    (x0 : Vec F S8192x256 .bf16) (x1 : Vec F S8192x256 .bf16) (x2 : Vec F S512x256 .bf16) (x3 : Vec F S512x256 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0_attn_bwd i arg2 harg2 arg3 harg3 arg4 harg4 arg5 harg5 arg6 harg6 arg7 harg7 arg8 harg8 arg9 harg9 arg10 harg10) K := by
    intro E K
    simp only [cc0_attn_bwd_eq_skeleton]; unfold cc0_attn_bwd_skel
    simp only [k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, Hk⟩
    obtain rfl := harg2.eq_unread hf0; obtain rfl := harg3.eq_unread hf1; obtain rfl := harg4.eq_unread hf2; obtain rfl := harg5.eq_unread hf3
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    iexists _, _; isplitr; swap; · iexact H8
    ipureintro; rfl

end Cert.Kernel.Hand

end
-- ==== Proof.KRunC.lean ====
module

public import proofs.«01_k».proof.Proof.KBase

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a point of case C keeps its inputs, whatever it leaves in its outputs. -/
theorem quietRun_C (c : Dev nD) (i : grid0.Coords) (arg2 : Memref sig .tc .vmem S8192x256 .bf16) (harg2 : arg2.IsWhole) (arg3 : Memref sig .tc .vmem S8192x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S8192x128 .f32) (harg6 : arg6.IsWhole) (arg7 : Memref sig .tc .vmem S8192x128 .f32) (harg7 : arg7.IsWhole) (arg8 : Memref sig .tc .vmem S512x128 .bf16) (harg8 : arg8.IsWhole) (arg9 : Memref sig .tc .vmem S512x128 .bf16) (harg9 : arg9.IsWhole) (arg10 : Memref sig .tc .vmem S8192x128 .f32) (harg10 : arg10.IsWhole) (hc0 : newPair i) (hc1 : ¬newRun i)
    (x0 : Vec F S8192x256 .bf16) (x1 : Vec F S8192x256 .bf16) (x2 : Vec F S512x256 .bf16) (x3 : Vec F S512x256 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0_attn_bwd i arg2 harg2 arg3 harg3 arg4 harg4 arg5 harg5 arg6 harg6 arg7 harg7 arg8 harg8 arg9 harg9 arg10 harg10) K := by
    intro E K
    simp only [cc0_attn_bwd_eq_skeleton]; unfold cc0_attn_bwd_skel
    simp only [k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, Hk⟩
    obtain rfl := harg2.eq_unread hf0; obtain rfl := harg3.eq_unread hf1; obtain rfl := harg4.eq_unread hf2; obtain rfl := harg5.eq_unread hf3
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    iexists _, _; isplitr; swap; · iexact H8
    ipureintro; rfl

end Cert.Kernel.Hand

end
-- ==== Proof.KFrame.lean ====
module

public import proofs.«01_k».proof.Proof.KRunA
public import proofs.«01_k».proof.Proof.KRunB
public import proofs.«01_k».proof.Proof.KRunC

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows of the results, of which nothing is said here. -/
def unread : Fin 9 → Bool := fun w => w.val == 4 || w.val == 5 || w.val == 6 || w.val == 7 || w.val == 8

/-- What the pipeline holds: the arrays as the call finds them, the inputs kept in their staging buffers. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
  Φ _ := Pipeline.ΦA spec0 c
  q _ := fullShare
  owed _ := 0

/-- The arrays are those the call finds. -/
theorem A_eq (c : Dev nD) (w : Fin cfg0.W) : (dats m 0 c).A w = V m c (Pipeline.arrRef spec0 w) := by
  dsimp only [dats]

/-- The body keeps input 0. -/
theorem after0_0 (c : Dev nD) (t : Fin cfg0.N) : (dats m 0 c).after 0 t = iblk m c 0 t := by dsimp only [dats]
/-- The body keeps input 1. -/
theorem after0_1 (c : Dev nD) (t : Fin cfg0.N) : (dats m 0 c).after 1 t = iblk m c 1 t := by dsimp only [dats]
/-- The body keeps input 2. -/
theorem after0_2 (c : Dev nD) (t : Fin cfg0.N) : (dats m 0 c).after 2 t = iblk m c 2 t := by dsimp only [dats]
/-- The body keeps input 3. -/
theorem after0_3 (c : Dev nD) (t : Fin cfg0.N) : (dats m 0 c).after 3 t = iblk m c 3 t := by dsimp only [dats]

/-- The body finds the block of input 0. -/
theorem before0_0 (c : Dev nD) (t : Fin cfg0.N) (d) : (dats m 0 c).before 0 t d = iblk m c 0 t :=
  before0_0_of m (dats m 0 c) (A_eq m c 0) (after0_0 m c) t d
/-- The body finds the block of input 1. -/
theorem before0_1 (c : Dev nD) (t : Fin cfg0.N) (d) : (dats m 0 c).before 1 t d = iblk m c 1 t :=
  before0_1_of m (dats m 0 c) (A_eq m c 1) (after0_1 m c) t d
/-- The body finds the block of input 2. -/
theorem before0_2 (c : Dev nD) (t : Fin cfg0.N) (d) : (dats m 0 c).before 2 t d = iblk m c 2 t :=
  before0_2_of m (dats m 0 c) (A_eq m c 2) (after0_2 m c) t d
/-- The body finds the block of input 3. -/
theorem before0_3 (c : Dev nD) (t : Fin cfg0.N) (d) : (dats m 0 c).before 3 t d = iblk m c 3 t :=
  before0_3_of m (dats m 0 c) (A_eq m c 3) (after0_3 m c) t d

/-- What the body finds at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d))

/-- and what it leaves. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d))

set_option maxHeartbeats 2400000 in
/-- The body at any point, by its three cases. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3]
  have hN : t.val < 64 := lt_of_lt_of_eq t.isLt (show cfg0.N = 64 from N_0)
  by_cases h0 : t.val % 16 = 0
  · by_cases h1 : t.val % 64 = 0
    · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((quietRun_A c (grid0.coords t) _ _ _ _ _ _ _ _ _ _ _ _ _ _ _ _ _ _ ((newPair_iff t).mpr h0) ((newRun_iff t).mpr h1) (iblk m c 0 t) (iblk m c 1 t) (iblk m c 2 t) (iblk m c 3 t)) Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [H7]; · iexists _; iexact H7
      isplitl [H8]; · iexists _; iexact H8
      iintro ⟨H0, H1, H2, H3, H4, H5, H6, H7, H8⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((quietRun_C c (grid0.coords t) _ _ _ _ _ _ _ _ _ _ _ _ _ _ _ _ _ _ ((newPair_iff t).mpr h0) (fun h => h1 ((newRun_iff t).mp h)) (iblk m c 0 t) (iblk m c 1 t) (iblk m c 2 t) (iblk m c 3 t)) Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [H7]; · iexists _; iexact H7
      isplitl [H8]; · iexists _; iexact H8
      iintro ⟨H0, H1, H2, H3, H4, H5, H6, H7, H8⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
  · by_cases h1 : t.val % 64 = 0
    · exfalso; omega
    · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((quietRun_B c (grid0.coords t) _ _ _ _ _ _ _ _ _ _ _ _ _ _ _ _ _ _ (fun h => h0 ((newPair_iff t).mp h)) (fun h => h1 ((newRun_iff t).mp h)) (iblk m c 0 t) (iblk m c 1 t) (iblk m c 2 t) (iblk m c 3 t)) Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [H7]; · iexists _; iexact H7
      isplitl [H8]; · iexists _; iexact H8
      iintro ⟨H0, H1, H2, H3, H4, H5, H6, H7, H8⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8

/-- The row of the table at a point is the body there. -/
theorem defs₀_row (t : Fin cfg0.N) :
    defs₀ (F := F) .tc cfg0.body (cfg0.bodyArgs t (cfg0.slots t)) = bodyAt0 t := by
  unfold defs₀; rw [Defs.onTc_tc]

/-- The body keeps its inputs at every point. -/
theorem body_obligation (c : Dev nD) : BodyObligation (dats (F := F) m 0 c) (defs₀ (F := F)) Variants.none () Set.univ unread := fun t => by
  rw [bigSep_W0, bigSep_W0, defs₀_row]
  exact triple_restated (sound_body m c t) rfl .rfl fun _ => .rfl

set_option backward.isDefEq.respectTransparency.types false in
/-- The launch: the inputs kept and no counter left. -/
theorem run_main_quiescent : θ_run defs (onTc (τ := τ) (main (F := F))) (s₀ m ρ) (fun r => (Pipeline.RDat.FramePost (cfgs 0) (fun c => (dats m 0 c).toRForget unread) (V m)) r ∧ r.2.sem = fun _ => 0) :=
  Pipeline.θ_run_frame_forget (Q' := _) cfgs (dats m) (0 : Fin 1) launch0 defs₀ Variants.none unread m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The launch, without the counters. -/
theorem run_main : θ_run defs (onTc (τ := τ) (main (F := F))) (s₀ m ρ) (Pipeline.RDat.FramePost (cfgs 0) (fun c => (dats m 0 c).toRForget unread) (V m)) :=
  (θ_run defs _ _).mono (fun _ h => h.1) (run_main_quiescent m ρ)

/-- The arguments end as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  args_kept m ρ (fun c => (dats m 0 c).toRForget unread) (A_eq m) (run_main m ρ)

/-- Every execution ends, with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Hand

end
-- ==== Proof.Base.lean ====
module

public import proofs.«01_k».proof.Proof.Gen.KernelIdeal.Loops
public import proofs.«01_k».proof.Proof.Gen.KernelIdeal.Frame
public import Idealize.ShloMosaic.Lib.Pipeline.Value
public import Idealize.ShloMosaic.Lib.ValueIdx

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional of the body is taken (the first tile of a pair of heads). -/
abbrev newPair (i : grid0.Coords) : Prop := (Scalar.cmpi .ne (Scalar.extui (Scalar.cmpi .eq (BitVec.ofNat 32 (i 1).val) 0#32)) 0#32) = 1#1

/-- The second conditional of the body is taken (the very first point). -/
abbrev newRun (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1

/-- The coordinates of a point: the pair of heads, -/
theorem coord_pair (t : Fin cfg0.N) : (grid0.coords t 0).val = t.val / 16 := by
  have ht : t.val < 64 := Nat.lt_of_lt_of_eq t.isLt N_0
  have e0 : (grid0.coords t 0).val = t.val / 16 % 4 := Pipeline.Grid.coords_val t 0 (by decide) rfl
  omega

/-- and the tile of keys. -/
theorem coord_tile (t : Fin cfg0.N) : (grid0.coords t 1).val = t.val % 16 := by
  have ht : t.val < 64 := Nat.lt_of_lt_of_eq t.isLt N_0
  have e0 : (grid0.coords t 1).val = t.val / 1 % 16 := Pipeline.Grid.coords_val t 1 (by decide) rfl
  omega

/-- A pair of heads begins at the points divisible by 16. -/
theorem newPair_iff (t : Fin cfg0.N) : newPair (grid0.coords t) ↔ t.val % 16 = 0 := by
  have ht : t.val < 64 := Nat.lt_of_lt_of_eq t.isLt N_0
  have e0 : (grid0.coords t 0).val = t.val / 16 % 4 := Pipeline.Grid.coords_val t 0 (by decide) rfl
  have e1 : (grid0.coords t 1).val = t.val / 1 % 16 := Pipeline.Grid.coords_val t 1 (by decide) rfl
  simp only [newPair, e0, e1]
  word_cmp

/-- The run begins at point 0. -/
theorem newRun_iff (t : Fin cfg0.N) : newRun (grid0.coords t) ↔ t.val % 64 = 0 := by
  have ht : t.val < 64 := Nat.lt_of_lt_of_eq t.isLt N_0
  have e0 : (grid0.coords t 0).val = t.val / 16 % 4 := Pipeline.Grid.coords_val t 0 (by decide) rfl
  have e1 : (grid0.coords t 1).val = t.val / 1 % 16 := Pipeline.Grid.coords_val t 1 (by decide) rfl
  simp only [newRun, e0, e1]
  word_cmp

end Cert.KernelIdeal.Hand

end
-- ==== Proof.Tile.lean ====
module

public import proofs.«01_k».proof.Proof.Base
public import Idealize.ShloMosaic.Lib.Pointwise
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic

/-! ## Arrays read at natural numbers -/

/-- A matrix read at two natural numbers; zero outside. -/
def at2 {a b : ℕ} (x : (⟨2, ![a, b]⟩ : Shape).Idx → EReal) (r c : ℕ) : EReal :=
  if h : r < a ∧ c < b then x (ix2 ⟨r, h.1⟩ ⟨c, h.2⟩) else 0

/-- Inside it is the matrix's element. -/
theorem at2_of_lt {a b : ℕ} (x : (⟨2, ![a, b]⟩ : Shape).Idx → EReal) {r c : ℕ} (hr : r < a) (hc : c < b) :
    at2 x r c = x (ix2 ⟨r, hr⟩ ⟨c, hc⟩) := dif_pos ⟨hr, hc⟩

/-- At an index's own coordinates it is the element of the index. -/
theorem at2_idx {a b : ℕ} (x : (⟨2, ![a, b]⟩ : Shape).Idx → EReal) (y : (⟨2, ![a, b]⟩ : Shape).Idx) :
    at2 x (y 0).val (y 1).val = x y := by
  rw [at2_of_lt x (y 0).isLt (y 1).isLt]
  exact congrArg x (eq_ix2 y).symm

/-- At an index that has these coordinates it is the element of the index. -/
theorem at2_eq {a b : ℕ} (x : (⟨2, ![a, b]⟩ : Shape).Idx → EReal) (y : (⟨2, ![a, b]⟩ : Shape).Idx) {r c : ℕ}
    (hr : (y 0).val = r) (hc : (y 1).val = c) : at2 x r c = x y := by
  subst hr hc; exact at2_idx x y

/-! ## The words -/

/-- A choice by a signed comparison `≤` of two small numbers. -/
theorem sel_sle {α : Type} {a b : ℕ} (ha : a < 2 ^ 31) (hb : b < 2 ^ 31) (x y : α) :
    Scalar.select (IntOp.cmpi .sle (BitVec.ofNat 32 a) (BitVec.ofNat 32 b)) x y = if a ≤ b then x else y := by
  have h := WordCmp.cmpi_sle_ofNat_eq_one_iff (w := 32) (a := a) (b := b) ha hb
  unfold Scalar.select
  exact if_congr h rfl rfl

/-- A choice by a signed comparison `<` of two small numbers. -/
theorem sel_slt {α : Type} {a b : ℕ} (ha : a < 2 ^ 31) (hb : b < 2 ^ 31) (x y : α) :
    Scalar.select (IntOp.cmpi .slt (BitVec.ofNat 32 a) (BitVec.ofNat 32 b)) x y = if a < b then x else y := by
  have h := WordCmp.cmpi_slt_ofNat_eq_one_iff (w := 32) (a := a) (b := b) ha hb
  unfold Scalar.select
  exact if_congr h rfl rfl

/-- A choice by equality with twice the number of the pair, -/
theorem sel_even {α : Type} {a p : ℕ} (ha : a < 128) (hp : p < 4) (x y : α) :
    Scalar.select (IntOp.cmpi .eq (BitVec.ofNat 32 a) (Scalar.muli 2#32 (BitVec.ofNat 32 p))) x y
      = if a = 2 * p then x else y := by
  unfold Scalar.select
  refine if_congr ?_ rfl rfl
  have : ∀ a : Fin 128, ∀ p : Fin 4,
      (IntOp.cmpi .eq (BitVec.ofNat 32 a.val) (Scalar.muli 2#32 (BitVec.ofNat 32 p.val)) = 1 ↔ a.val = 2 * p.val) := by
    decide +kernel
  exact this ⟨a, ha⟩ ⟨p, hp⟩

/-- or with twice the number of the pair plus one. -/
theorem sel_odd {α : Type} {a p : ℕ} (ha : a < 128) (hp : p < 4) (x y : α) :
    Scalar.select (IntOp.cmpi .eq (BitVec.ofNat 32 a) (Scalar.addi (Scalar.muli 2#32 (BitVec.ofNat 32 p)) 1#32)) x y
      = if a = 2 * p + 1 then x else y := by
  unfold Scalar.select
  refine if_congr ?_ rfl rfl
  have : ∀ a : Fin 128, ∀ p : Fin 4,
      (IntOp.cmpi .eq (BitVec.ofNat 32 a.val) (Scalar.addi (Scalar.muli 2#32 (BitVec.ofNat 32 p.val)) 1#32) = 1
        ↔ a.val = 2 * p.val + 1) := by
    decide +kernel
  exact this ⟨a, ha⟩ ⟨p, hp⟩

/-! ## The tiles

`x0`, `x1` are the blocks of the augmented queries and cotangents of one pair of heads (every row), `x2`, `x3` those of
the augmented keys and values (the rows of tile `j`); `hh` says which head of the pair. -/

/-- Columns `c …` and rows `r …` of a block, of the size of a tile. -/
def tileOf {a b : ℕ} (x : (⟨2, ![a, b]⟩ : Shape).Idx → EReal) (r c : ℕ) : S512x128.Idx → EReal :=
  fun y => at2 x (r + (y 0).val) (c + (y 1).val)

section Tiles

variable (x0 x1 : S8192x256.Idx → EReal) (x2 x3 : S512x256.Idx → EReal) (j hh : ℕ)

/-- The weight of row `T` on key `s` of tile `j`: the exponential of the product of the augmented rows, zero above the
diagonal. -/
def gM (T s : ℕ) : EReal :=
  if 512 * j + s ≤ T then Ideal.exp (∑ l : Fin 128, at2 x0 T (128 * hh + l.val) * at2 x2 s (128 * hh + l.val)) else 0

/-- The weight times the product of the augmented cotangent and value rows. -/
def gDS (T s : ℕ) : EReal :=
  gM x0 x2 j hh T s * ∑ l : Fin 128, at2 x1 T (128 * hh + l.val) * at2 x3 s (128 * hh + l.val)

/-- What tile `j` of the keys adds to row `T`, lane `l` of the gradient of the augmented queries. -/
def gDq (T l : ℕ) : EReal := ∑ s : Fin 512, gDS x0 x1 x2 x3 j hh T s.val * at2 x2 s.val (128 * hh + l)

/-- What rows `T` with tile number `i` add to row `r`, lane `l` of the gradient of the augmented keys, -/
def gDk (i r l : ℕ) : EReal :=
  ∑ t : Fin 512, gDS x0 x1 x2 x3 j hh (512 * i + t.val) r * at2 x0 (512 * i + t.val) (128 * hh + l)

/-- and to the gradient of the augmented values. -/
def gDv (i r l : ℕ) : EReal :=
  ∑ t : Fin 512, gM x0 x2 j hh (512 * i + t.val) r * at2 x1 (512 * i + t.val) (128 * hh + l)

/-- What tile `j` adds to the gradient of the queries of the pair of heads: the low lanes from the even head, the high
ones from the odd head. -/
def addDq (T l : ℕ) : EReal := if l < 64 then gDq x0 x1 x2 x3 j 0 T l else gDq x0 x1 x2 x3 j 1 T l

/-- What tile `j` adds to lane `l` of the row sums: lane `2p` from column 64 of the even head, lane `2p+1` from column 0
of the odd head. -/
def addRs (p T l : ℕ) : EReal :=
  (if l = 2 * p then gDq x0 x1 x2 x3 j 0 T 64 else 0) + (if l = 2 * p + 1 then gDq x0 x1 x2 x3 j 1 T 0 else 0)

end Tiles

/-- Above the diagonal there is no weight, -/
theorem gM_above (x0 : S8192x256.Idx → EReal) (x2 : S512x256.Idx → EReal) (j hh T s : ℕ) (h : T < 512 * j) :
    gM x0 x2 j hh T s = 0 := if_neg (by omega)

/-- and nothing is added. -/
theorem gDq_above (x0 x1 : S8192x256.Idx → EReal) (x2 x3 : S512x256.Idx → EReal) (j hh T l : ℕ) (h : T < 512 * j) :
    gDq x0 x1 x2 x3 j hh T l = 0 := by
  unfold gDq gDS
  refine Finset.sum_eq_zero fun s _ => ?_
  rw [gM_above _ _ _ _ _ _ h, zero_mul, zero_mul]

/-- Above the diagonal nothing is added to the queries' gradient, -/
theorem addDq_above (x0 x1 : S8192x256.Idx → EReal) (x2 x3 : S512x256.Idx → EReal) (j T l : ℕ) (h : T < 512 * j) :
    addDq x0 x1 x2 x3 j T l = 0 := by
  unfold addDq; rw [gDq_above _ _ _ _ _ _ _ _ h, gDq_above _ _ _ _ _ _ _ _ h, ite_self]

/-- nor to the row sums. -/
theorem addRs_above (x0 x1 : S8192x256.Idx → EReal) (x2 x3 : S512x256.Idx → EReal) (j p T l : ℕ) (h : T < 512 * j) :
    addRs x0 x1 x2 x3 j p T l = 0 := by
  unfold addRs; rw [gDq_above _ _ _ _ _ _ _ _ h, gDq_above _ _ _ _ _ _ _ _ h, ite_self, ite_self, add_zero]

/-! ## The payloads of the loop's trip, on tiles below the diagonal -/

section Trip

variable (x0 x1 : S8192x256.Idx → EReal) (x2 x3 : S512x256.Idx → EReal) (j i : ℕ) (hij : j < i)
include hij

/-- The weights of the even head. -/
theorem pay4_eq (y : S512x512.Idx) :
    k0_pay4 (F := Ideal) (tileOf x0 (512 * i) 0) (tileOf x2 0 0) y = gM x0 x2 j 0 (512 * i + (y 0).val) (y 1).val := by
  have h1 : (y 1).val < 512 := (y 1).isLt
  unfold k0_pay4 k0_pay2
  pointwise
  unfold gM tileOf
  rw [if_pos (by omega)]
  simp only [Nat.zero_add, Nat.mul_zero]
  rfl

/-- The weights of the odd head. -/
theorem pay11_eq (y : S512x512.Idx) :
    k0_pay11 (F := Ideal) (tileOf x0 (512 * i) 128) (tileOf x2 0 128) y = gM x0 x2 j 1 (512 * i + (y 0).val) (y 1).val := by
  have h1 : (y 1).val < 512 := (y 1).isLt
  unfold k0_pay11 k0_pay9
  pointwise
  unfold gM tileOf
  rw [if_pos (by omega)]
  simp only [Nat.zero_add, Nat.mul_one]
  rfl

/-- The weighted products of the even head. -/
theorem pay5_eq (y : S512x512.Idx) :
    k0_pay5 (F := Ideal) (tileOf x0 (512 * i) 0) (tileOf x1 (512 * i) 0) (tileOf x2 0 0) (tileOf x3 0 0) y
      = gDS x0 x1 x2 x3 j 0 (512 * i + (y 0).val) (y 1).val := by
  unfold k0_pay5 k0_pay3
  pointwise
  rw [pay4_eq x0 x2 j i hij]
  unfold gDS tileOf
  simp only [Nat.zero_add, Nat.mul_zero]
  rfl

/-- The weighted products of the odd head. -/
theorem pay46_eq (y : S512x512.Idx) :
    k0_pay46 (F := Ideal) (k0_pay10 (tileOf x1 (512 * i) 128))
      (k0_pay11 (F := Ideal) (tileOf x0 (512 * i) 128) (tileOf x2 0 128)) (k0_pay12 (tileOf x3 0 128))
      (constant (F := Ideal) S512x512 .f32 0#32) y
      = gDS x0 x1 x2 x3 j 1 (512 * i + (y 0).val) (y 1).val := by
  unfold k0_pay46 k0_pay10 k0_pay12
  pointwise
  rw [pay11_eq x0 x2 j i hij]
  unfold gDS tileOf
  simp only [Nat.zero_add, Nat.mul_one]
  rfl

/-- The even head's part of the gradient of the queries. -/
theorem pay6_eq (y : S512x128.Idx) :
    k0_pay6 (F := Ideal) (tileOf x0 (512 * i) 0) (tileOf x1 (512 * i) 0) (tileOf x2 0 0) (tileOf x3 0 0) (tileOf x2 0 0) y
      = gDq x0 x1 x2 x3 j 0 (512 * i + (y 0).val) (y 1).val := by
  unfold k0_pay6
  pointwise
  simp only [pay5_eq x0 x1 x2 x3 j i hij]
  unfold gDq tileOf
  simp only [Nat.zero_add, Nat.mul_zero]
  rfl

/-- The odd head's part of the gradient of the queries. -/
theorem pay47_eq (y : S512x128.Idx) :
    k0_pay47 (F := Ideal) (k0_pay10 (tileOf x1 (512 * i) 128))
      (k0_pay11 (F := Ideal) (tileOf x0 (512 * i) 128) (tileOf x2 0 128)) (k0_pay12 (tileOf x3 0 128))
      (constant (F := Ideal) S512x512 .f32 0#32) (tileOf x2 0 128) y
      = gDq x0 x1 x2 x3 j 1 (512 * i + (y 0).val) (y 1).val := by
  unfold k0_pay47
  pointwise
  simp only [pay46_eq x0 x1 x2 x3 j i hij]
  unfold gDq tileOf
  simp only [Nat.zero_add, Nat.mul_one]
  rfl

/-- The even head's gradient of the keys, one tile of rows more. -/
theorem pay7_eq (acc : FVec Ideal S512x128 .f32) (y : S512x128.Idx) :
    k0_pay7 (F := Ideal) acc (tileOf x0 (512 * i) 0) (tileOf x1 (512 * i) 0) (tileOf x2 0 0) (tileOf x3 0 0) y
      = acc y + gDk x0 x1 x2 x3 j 0 i (y 0).val (y 1).val := by
  unfold k0_pay7 k0_pay2
  pointwise
  simp only [pay5_eq x0 x1 x2 x3 j i hij]
  unfold gDk tileOf
  simp only [Nat.mul_zero]
  rfl

/-- The even head's gradient of the values, one tile of rows more. -/
theorem pay8_eq (acc : FVec Ideal S512x128 .f32) (y : S512x128.Idx) :
    k0_pay8 (F := Ideal) acc (tileOf x0 (512 * i) 0) (tileOf x1 (512 * i) 0) (tileOf x2 0 0) y
      = acc y + gDv x0 x1 x2 j 0 i (y 0).val (y 1).val := by
  unfold k0_pay8 k0_pay3
  pointwise
  simp only [pay4_eq x0 x2 j i hij]
  unfold gDv tileOf
  simp only [Nat.mul_zero]
  rfl

/-- The odd head's gradient of the keys, one tile of rows more. -/
theorem pay48_eq (acc : FVec Ideal S512x128 .f32) (y : S512x128.Idx) :
    k0_pay48 (F := Ideal) acc (k0_pay9 (tileOf x0 (512 * i) 128)) (k0_pay10 (tileOf x1 (512 * i) 128))
      (k0_pay11 (F := Ideal) (tileOf x0 (512 * i) 128) (tileOf x2 0 128)) (k0_pay12 (tileOf x3 0 128))
      (constant (F := Ideal) S512x512 .f32 0#32) y
      = acc y + gDk x0 x1 x2 x3 j 1 i (y 0).val (y 1).val := by
  unfold k0_pay48
  pointwise
  simp only [pay46_eq x0 x1 x2 x3 j i hij]
  unfold gDk tileOf k0_pay9
  pointwise

/-- The odd head's gradient of the values, one tile of rows more. -/
theorem pay49_eq (acc : FVec Ideal S512x128 .f32) (y : S512x128.Idx) :
    k0_pay49 (F := Ideal) acc (k0_pay10 (tileOf x1 (512 * i) 128))
      (k0_pay11 (F := Ideal) (tileOf x0 (512 * i) 128) (tileOf x2 0 128)) y
      = acc y + gDv x0 x1 x2 j 1 i (y 0).val (y 1).val := by
  unfold k0_pay49
  pointwise
  simp only [pay11_eq x0 x2 j i hij]
  unfold gDv tileOf k0_pay10
  pointwise

/-- The tile of the queries' gradient, what it held plus what tile `j` adds. -/
theorem pay50_eq (G : FVec Ideal S512x128 .f32) (y : S512x128.Idx) :
    k0_pay50 (F := Ideal) k0_pay27
      (k0_pay6 (F := Ideal) (tileOf x0 (512 * i) 0) (tileOf x1 (512 * i) 0) (tileOf x2 0 0) (tileOf x3 0 0) (tileOf x2 0 0))
      (k0_pay10 (tileOf x1 (512 * i) 128))
      (k0_pay11 (F := Ideal) (tileOf x0 (512 * i) 128) (tileOf x2 0 128)) (k0_pay12 (tileOf x3 0 128))
      (constant (F := Ideal) S512x512 .f32 0#32) (tileOf x2 0 128) G y
      = G y + addDq x0 x1 x2 x3 j (512 * i + (y 0).val) (y 1).val := by
  have h1 : (y 1).val < 128 := (y 1).isLt
  unfold k0_pay50 k0_pay27
  pointwise
  rw [pay6_eq x0 x1 x2 x3 j i hij, pay47_eq x0 x1 x2 x3 j i hij, sel_slt (by omega) (by omega)]
  rfl

/-- The tile of the row sums, what it held plus what tile `j` adds. -/
theorem pay51_eq (p : ℕ) (hp : p < 4) (G : FVec Ideal S512x128 .f32) (y : S512x128.Idx) :
    k0_pay51 (F := Ideal) (BitVec.ofNat 32 p) (iota .tc S512x128 32 [1] iota_S512x128_d1_w32)
      (k0_pay6 (F := Ideal) (tileOf x0 (512 * i) 0) (tileOf x1 (512 * i) 0) (tileOf x2 0 0) (tileOf x3 0 0) (tileOf x2 0 0))
      (k0_pay10 (tileOf x1 (512 * i) 128))
      (k0_pay11 (F := Ideal) (tileOf x0 (512 * i) 128) (tileOf x2 0 128)) (k0_pay12 (tileOf x3 0 128))
      (constant (F := Ideal) S512x512 .f32 0#32) (tileOf x2 0 128) G y
      = G y + addRs x0 x1 x2 x3 j p (512 * i + (y 0).val) (y 1).val := by
  have h1 : (y 1).val < 128 := (y 1).isLt
  unfold k0_pay51
  pointwise
  rw [pay6_eq x0 x1 x2 x3 j i hij, pay47_eq x0 x1 x2 x3 j i hij, sel_even h1 hp, sel_odd h1 hp]
  rfl

end Trip

/-! ## The payloads of the tile on the diagonal -/

section Diag

variable (x0 x1 : S8192x256.Idx → EReal) (x2 x3 : S512x256.Idx → EReal) (j : ℕ)

/-- The weights of the even head. -/
theorem pay31_eq (y : S512x512.Idx) :
    k0_pay31 (F := Ideal) (tileOf x0 (512 * j) 0) (tileOf x2 0 0) y = gM x0 x2 j 0 (512 * j + (y 0).val) (y 1).val := by
  have h0 : (y 0).val < 512 := (y 0).isLt
  have h1 : (y 1).val < 512 := (y 1).isLt
  unfold k0_pay31 k0_pay29
  pointwise
  rw [sel_sle (by omega) (by omega)]
  unfold gM tileOf
  simp only [Nat.zero_add, Nat.mul_zero, Nat.add_le_add_iff_left]
  rfl

/-- The weights of the odd head. -/
theorem pay39_eq (y : S512x512.Idx) :
    k0_pay39 (F := Ideal) (iota .tc S512x512 32 [0] iota_S512x512_d0_w32) (iota .tc S512x512 32 [1] iota_S512x512_d1_w32)
      (tileOf x0 (512 * j) 128) (tileOf x2 0 128) y = gM x0 x2 j 1 (512 * j + (y 0).val) (y 1).val := by
  have h0 : (y 0).val < 512 := (y 0).isLt
  have h1 : (y 1).val < 512 := (y 1).isLt
  unfold k0_pay39 k0_pay37
  pointwise
  rw [sel_sle (by omega) (by omega)]
  unfold gM tileOf
  simp only [Nat.zero_add, Nat.mul_one, Nat.add_le_add_iff_left]
  rfl

/-- The weighted products of the even head. -/
theorem pay32_eq (y : S512x512.Idx) :
    k0_pay32 (F := Ideal) (tileOf x0 (512 * j) 0) (tileOf x1 (512 * j) 0) (tileOf x2 0 0) (tileOf x3 0 0) y
      = gDS x0 x1 x2 x3 j 0 (512 * j + (y 0).val) (y 1).val := by
  unfold k0_pay32 k0_pay30
  pointwise
  rw [pay31_eq x0 x2 j]
  unfold gDS tileOf
  simp only [Nat.zero_add, Nat.mul_zero]
  rfl

/-- The weighted products of the odd head. -/
theorem pay40_eq (y : S512x512.Idx) :
    k0_pay40 (F := Ideal) (iota .tc S512x512 32 [0] iota_S512x512_d0_w32) (iota .tc S512x512 32 [1] iota_S512x512_d1_w32)
      (tileOf x0 (512 * j) 128) (tileOf x1 (512 * j) 128) (tileOf x2 0 128) (tileOf x3 0 128) y
      = gDS x0 x1 x2 x3 j 1 (512 * j + (y 0).val) (y 1).val := by
  unfold k0_pay40 k0_pay38
  pointwise
  rw [pay39_eq x0 x2 j]
  unfold gDS tileOf
  simp only [Nat.zero_add, Nat.mul_one]
  rfl

/-- The even head's part of the gradient of the queries. -/
theorem pay34_eq (y : S512x128.Idx) :
    k0_pay34 (F := Ideal)
      (k0_pay32 (F := Ideal) (tileOf x0 (512 * j) 0) (tileOf x1 (512 * j) 0) (tileOf x2 0 0) (tileOf x3 0 0))
      (k0_pay33 (tileOf x2 0 0)) (constant (F := Ideal) S512x128 .f32 0#32) y
      = gDq x0 x1 x2 x3 j 0 (512 * j + (y 0).val) (y 1).val := by
  unfold k0_pay34 k0_pay33
  pointwise
  simp only [pay32_eq x0 x1 x2 x3 j]
  unfold gDq tileOf
  simp only [Nat.zero_add, Nat.mul_zero]
  rfl

/-- The odd head's part of the gradient of the queries. -/
theorem pay41_eq (y : S512x128.Idx) :
    k0_pay41 (F := Ideal) (iota .tc S512x512 32 [0] iota_S512x512_d0_w32) (iota .tc S512x512 32 [1] iota_S512x512_d1_w32)
      (tileOf x0 (512 * j) 128) (tileOf x1 (512 * j) 128) (tileOf x2 0 128) (tileOf x3 0 128) (tileOf x2 0 128) y
      = gDq x0 x1 x2 x3 j 1 (512 * j + (y 0).val) (y 1).val := by
  unfold k0_pay41
  pointwise
  simp only [pay40_eq x0 x1 x2 x3 j]
  unfold gDq tileOf
  simp only [Nat.zero_add, Nat.mul_one]
  rfl

/-- The even head's gradient of the keys begins with the diagonal tile, -/
theorem pay35_eq (y : S512x128.Idx) :
    k0_pay35 (F := Ideal) k0_pay28 (k0_pay29 (tileOf x0 (512 * j) 0))
      (k0_pay32 (F := Ideal) (tileOf x0 (512 * j) 0) (tileOf x1 (512 * j) 0) (tileOf x2 0 0) (tileOf x3 0 0)) y
      = gDk x0 x1 x2 x3 j 0 j (y 0).val (y 1).val := by
  unfold k0_pay35 k0_pay28 k0_pay29
  pointwise
  simp only [pay32_eq x0 x1 x2 x3 j]
  unfold gDk tileOf
  simp only [Nat.mul_zero]
  rfl

/-- its gradient of the values too, -/
theorem pay36_eq (y : S512x128.Idx) :
    k0_pay36 (F := Ideal) k0_pay28 (k0_pay30 (tileOf x1 (512 * j) 0))
      (k0_pay31 (F := Ideal) (tileOf x0 (512 * j) 0) (tileOf x2 0 0)) y
      = gDv x0 x1 x2 j 0 j (y 0).val (y 1).val := by
  unfold k0_pay36 k0_pay28 k0_pay30
  pointwise
  simp only [pay31_eq x0 x2 j]
  unfold gDv tileOf
  simp only [Nat.mul_zero]
  rfl

/-- and the same for the odd head: keys, -/
theorem pay42_eq (y : S512x128.Idx) :
    k0_pay42 (F := Ideal) (iota .tc S512x512 32 [0] iota_S512x512_d0_w32) (iota .tc S512x512 32 [1] iota_S512x512_d1_w32)
      k0_pay28 (tileOf x0 (512 * j) 128) (tileOf x1 (512 * j) 128) (tileOf x2 0 128) (tileOf x3 0 128) y
      = gDk x0 x1 x2 x3 j 1 j (y 0).val (y 1).val := by
  unfold k0_pay42 k0_pay28 k0_pay37
  pointwise
  simp only [pay40_eq x0 x1 x2 x3 j]
  unfold gDk tileOf
  simp only [Nat.mul_one]
  rfl

/-- and values. -/
theorem pay43_eq (y : S512x128.Idx) :
    k0_pay43 (F := Ideal) (iota .tc S512x512 32 [0] iota_S512x512_d0_w32) (iota .tc S512x512 32 [1] iota_S512x512_d1_w32)
      k0_pay28 (tileOf x0 (512 * j) 128) (tileOf x1 (512 * j) 128) (tileOf x2 0 128) y
      = gDv x0 x1 x2 j 1 j (y 0).val (y 1).val := by
  unfold k0_pay43 k0_pay28 k0_pay38
  pointwise
  simp only [pay39_eq x0 x2 j]
  unfold gDv tileOf
  simp only [Nat.mul_one]
  rfl

/-- The tile of the queries' gradient, what it held plus what tile `j` adds. -/
theorem pay44_eq (G : FVec Ideal S512x128 .f32) (y : S512x128.Idx) :
    k0_pay44 (F := Ideal) k0_pay27
      (iota .tc S512x512 32 [0] iota_S512x512_d0_w32) (iota .tc S512x512 32 [1] iota_S512x512_d1_w32)
      (k0_pay32 (F := Ideal) (tileOf x0 (512 * j) 0) (tileOf x1 (512 * j) 0) (tileOf x2 0 0) (tileOf x3 0 0))
      (k0_pay33 (tileOf x2 0 0)) (constant (F := Ideal) S512x128 .f32 0#32)
      (tileOf x0 (512 * j) 128) (tileOf x1 (512 * j) 128) (tileOf x2 0 128) (tileOf x3 0 128) (tileOf x2 0 128) G y
      = G y + addDq x0 x1 x2 x3 j (512 * j + (y 0).val) (y 1).val := by
  have h1 : (y 1).val < 128 := (y 1).isLt
  unfold k0_pay44 k0_pay27
  pointwise
  rw [pay34_eq x0 x1 x2 x3 j, pay41_eq x0 x1 x2 x3 j, sel_slt (by omega) (by omega)]
  rfl

/-- The tile of the row sums, what it held plus what tile `j` adds. -/
theorem pay45_eq (p : ℕ) (hp : p < 4) (G : FVec Ideal S512x128 .f32) (y : S512x128.Idx) :
    k0_pay45 (F := Ideal) (BitVec.ofNat 32 p) (iota .tc S512x128 32 [1] iota_S512x128_d1_w32)
      (k0_pay34 (F := Ideal)
        (k0_pay32 (F := Ideal) (tileOf x0 (512 * j) 0) (tileOf x1 (512 * j) 0) (tileOf x2 0 0) (tileOf x3 0 0))
        (k0_pay33 (tileOf x2 0 0)) (constant (F := Ideal) S512x128 .f32 0#32))
      (k0_pay41 (F := Ideal) (iota .tc S512x512 32 [0] iota_S512x512_d0_w32) (iota .tc S512x512 32 [1] iota_S512x512_d1_w32)
        (tileOf x0 (512 * j) 128) (tileOf x1 (512 * j) 128) (tileOf x2 0 128) (tileOf x3 0 128) (tileOf x2 0 128)) G y
      = G y + addRs x0 x1 x2 x3 j p (512 * j + (y 0).val) (y 1).val := by
  have h1 : (y 1).val < 128 := (y 1).isLt
  unfold k0_pay45
  pointwise
  rw [pay34_eq x0 x1 x2 x3 j, pay41_eq x0 x1 x2 x3 j, sel_even h1 hp, sel_odd h1 hp]
  rfl

end Diag

/-! ## The payloads after the loop -/

/-- The low lanes from the even head, the high ones from the odd head (the keys' gradient), -/
theorem pay58_eq (a b : FVec Ideal S512x128 .f32) (y : S512x128.Idx) :
    (k0_pay58 (F := Ideal) k0_pay27 a b y : EReal) = if (y 1).val < 64 then a y else b y := by
  have h1 : (y 1).val < 128 := (y 1).isLt
  unfold k0_pay58 k0_pay27
  pointwise
  exact sel_slt (by omega) (by omega) _ _

/-- and the values' gradient. -/
theorem pay59_eq (a b : FVec Ideal S512x128 .f32) (y : S512x128.Idx) :
    (k0_pay59 (F := Ideal) k0_pay27 a b y : EReal) = if (y 1).val < 64 then a y else b y := by
  have h1 : (y 1).val < 128 := (y 1).isLt
  unfold k0_pay59 k0_pay27
  pointwise
  exact sel_slt (by omega) (by omega) _ _

/-- The tile of the column sums, what it held plus lane `2p` from column 67 of the even head's gradient of the keys and
lane `2p+1` from column 3 of the odd head's. -/
theorem pay1_eq (p : ℕ) (hp : p < 4) (a b : FVec Ideal S512x128 .f32) (G : FVec Ideal S512x128 .f32) (y : S512x128.Idx) :
    k0_pay1 (F := Ideal) (BitVec.ofNat 32 p) (iota .tc S512x128 32 [1] iota_S512x128_d1_w32) a b G y
      = G y + ((if (y 1).val = 2 * p then at2 a (y 0).val 67 else 0) + (if (y 1).val = 2 * p + 1 then at2 b (y 0).val 3 else 0)) := by
  have h0 : (y 0).val < 512 := (y 0).isLt
  have h1 : (y 1).val < 128 := (y 1).isLt
  unfold k0_pay1
  pointwise
  rw [sel_even h1 hp, sel_odd h1 hp, at2_of_lt a h0 (by omega), at2_of_lt b h0 (by omega)]
  rfl

/-- The zeros stored first. -/
theorem pay24_eq (y : S8192x128.Idx) : (k0_pay24 (F := Ideal) y : EReal) = 0 := by
  unfold k0_pay24; pointwise

/-- The zeros stored first. -/
theorem pay25_eq (y : S8192x128.Idx) : (k0_pay25 (F := Ideal) y : EReal) = 0 := by
  unfold k0_pay25; pointwise

/-- The zeros stored first. -/
theorem pay26_eq (y : S8192x128.Idx) : (k0_pay26 (F := Ideal) y : EReal) = 0 := by
  unfold k0_pay26; pointwise

end Cert.KernelIdeal.Hand

end
-- ==== Proof.Trip.lean ====
module

public import proofs.«01_k».proof.Proof.Tile
public import Idealize.ShloMosaic.Lib.WritesUnit

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI

/-! ## Loads and stores at an index -/

/-- A load of a tile from a whole buffer held at `x`. -/
theorem load_bf16 {a b : ℕ} (m : Memref sig .tc .vmem (⟨2, ![a, b]⟩ : Shape) .bf16) (hm : m.IsWhole)
    (x : Vec Ideal (⟨2, ![a, b]⟩ : Shape) .bf16) {off : Fin 2 → ℕ} (inb : ∀ d : Fin 2, off d + S512x128.size d ≤ (![a, b] : Fin 2 → ℕ) d)
    {r c : ℕ} (ho : off = ![r, c]) :
    View.readAt (Elt Ideal) m.view (Rect.unit (s := (⟨2, ![a, b]⟩ : Shape)) off S512x128.size inb).toLoadRect (hm.unread x)
      = tileOf x r c := by
  subst ho
  funext y
  rw [View.readAt_apply, hm.read_unread]
  refine (at2_eq x _ ?_ ?_).symm
  · show r + 1 * (y 0).val = _; rw [Nat.one_mul]
  · show c + 1 * (y 1).val = _; rw [Nat.one_mul]

/-- A load of a tile from a buffer holding any contents. -/
theorem load_f32 {a b : ℕ} (v : View sig .tc .vmem (⟨2, ![a, b]⟩ : Shape) .f32) (G : v.ty.Contents (Elt Ideal))
    {off : Fin 2 → ℕ} (inb : ∀ d : Fin 2, off d + S512x128.size d ≤ (![a, b] : Fin 2 → ℕ) d) {r c : ℕ} (ho : off = ![r, c]) :
    View.readAt (Elt Ideal) v (Rect.unit (s := (⟨2, ![a, b]⟩ : Shape)) off S512x128.size inb).toLoadRect G
      = tileOf (v.read (Elt Ideal) G) r c := by
  subst ho
  funext y
  rw [View.readAt_apply]
  refine (at2_eq (v.read (Elt Ideal) G) _ ?_ ?_).symm
  · show r + 1 * (y 0).val = _; rw [Nat.one_mul]
  · show c + 1 * (y 1).val = _; rw [Nat.one_mul]

/-- A read-modify-write of 512 whole rows that adds `f` adds `f` on those rows and nothing elsewhere. -/
theorem read_upd (v : View sig .tc .vmem S8192x128 .f32) (G : v.ty.Contents (Elt Ideal))
    (L : List (View.Piece (Elt Ideal) S8192x128 .f32)) {off : Fin 2 → ℕ} (inb : ∀ d : Fin 2, off d + S512x128.size d ≤ S8192x128.size d)
    {r : ℕ} (ho : off = ![r, 0]) (w : S512x128.Idx → EReal) (f : ℕ → ℕ → EReal)
    (hw : ∀ z : S512x128.Idx, w z = tileOf (v.read (Elt Ideal) (v.writes (Elt Ideal) G L)) r 0 z + f (r + (z 0).val) (z 1).val)
    (y : S8192x128.Idx) :
    (v.read (Elt Ideal) (v.writes (Elt Ideal) G (⟨Rect.unit (s := S8192x128) off S512x128.size inb, w⟩ :: L)) y : EReal)
      = v.read (Elt Ideal) (v.writes (Elt Ideal) G L) y + if r ≤ (y 0).val ∧ (y 0).val < r + 512 then f (y 0).val (y 1).val else 0 := by
  have h1 : (y 1).val < 128 := (y 1).isLt
  by_cases h : r ≤ (y 0).val ∧ (y 0).val < r + 512
  · rw [if_pos h]
    have e := View.read_writes_cons_rows_of_mem (Val := Elt Ideal) v G inb w L y
      (ix2 ⟨(y 0).val - r, by omega⟩ ⟨(y 1).val, h1⟩) ho (by show (y 0).val = r + ((y 0).val - r); omega) rfl
    rw [e, hw]
    have h0 : r + ((y 0).val - r) = (y 0).val := by omega
    show at2 _ (r + ((y 0).val - r)) (0 + (y 1).val) + f (r + ((y 0).val - r)) (y 1).val = _
    rw [h0, Nat.zero_add, at2_idx]
  · rw [if_neg h, add_zero]
    exact View.read_writes_cons_rows_of_not_mem (Val := Elt Ideal) (W := 512) v G inb w L y ho rfl (by omega)

/-- A quantity counted in either of two exclusive cases. -/
theorem ite_join {P Q R : Prop} [Decidable P] [Decidable Q] [Decidable R] (u : EReal) (h1 : R ↔ P ∨ Q) (h2 : ¬(P ∧ Q)) :
    ((if P then u else 0) + if Q then u else 0) = if R then u else 0 := by
  by_cases hP : P
  · have hQ : ¬Q := fun h => h2 ⟨hP, h⟩
    rw [if_pos hP, if_neg hQ, if_pos (h1.mpr (.inl hP)), add_zero]
  · by_cases hQ : Q
    · rw [if_neg hP, if_pos hQ, if_pos (h1.mpr (.inr hQ)), zero_add]
    · rw [if_neg hP, if_neg hQ, if_neg (fun h => (h1.mp h).elim hP hQ), zero_add]

/-! ## One trip of the loop -/

variable {F : FTy → Type} [FloatOps F]

/-- The carried gradients after a trip. -/
theorem tripR_eq (𝒱 : Variants) (c : Dev nD) (bd : Option 𝒱.V) (i : grid0.Coords) (arg2 : Memref sig .tc .vmem S8192x256 .bf16) (harg2 : arg2.IsWhole) (arg3 : Memref sig .tc .vmem S8192x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S8192x128 .f32) (harg6 : arg6.IsWhole) (arg7 : Memref sig .tc .vmem S8192x128 .f32) (harg7 : arg7.IsWhole) (arg8 : Memref sig .tc .vmem S512x128 .bf16) (harg8 : arg8.IsWhole) (arg9 : Memref sig .tc .vmem S512x128 .bf16) (harg9 : arg9.IsWhole) (arg10 : Memref sig .tc .vmem S8192x128 .f32) (harg10 : arg10.IsWhole) (arg0 : BitVec 32) (arg1 : BitVec 32) (v8 : IVec S512x128 32) (v10 : IVec S512x128 1) (v15 : BitVec 32) (v36 : FVec F S512x128 .f32) (v38 : FVec F S512x128 .f32) (v41 : FVec F S512x128 .f32) (v62 : FVec F S512x128 .f32) (v64 : FVec F S512x128 .f32) (v67 : FVec F S512x128 .f32) (v99 : BitVec 32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (k : Fin (k0_t1_loop i).trips) (acc : FVec F S512x128 .f32 × FVec F S512x128 .f32 × FVec F S512x128 .f32 × FVec F S512x128 .f32) (f_arg6 : BufTy.Contents (Elt F) arg6.view.ty) (f_arg7 : BufTy.Contents (Elt F) arg7.view.ty) :
    tripR_k0_t1 (F := F) 𝒱 c bd i arg2 harg2 arg3 harg3 arg4 harg4 arg5 harg5 arg6 harg6 arg7 harg7 arg8 harg8 arg9 harg9 arg10 harg10 arg0 arg1 v8 v10 v15 v36 v38 v41 v62 v64 v67 v99 X_arg2 X_arg3 X_arg4 X_arg5 k acc f_arg6 f_arg7
      = (k0_pay7 acc.1 (View.readAt (Elt F) arg2.view (Rect.unit (s := S8192x256) (k0_off4 i k) S512x128.size (k0_off4_inb i k)).toLoadRect X_arg2) (View.readAt (Elt F) arg3.view (Rect.unit (s := S8192x256) (k0_off4 i k) S512x128.size (k0_off4_inb i k)).toLoadRect X_arg3) (View.readAt (Elt F) arg4.view (Rect.unit (s := S512x256) ![0, 0] S512x128.size inb_S512x256_S512x128_0_0).toLoadRect X_arg4) (View.readAt (Elt F) arg5.view (Rect.unit (s := S512x256) ![0, 0] S512x128.size inb_S512x256_S512x128_0_0).toLoadRect X_arg5), k0_pay8 acc.2.1 (View.readAt (Elt F) arg2.view (Rect.unit (s := S8192x256) (k0_off4 i k) S512x128.size (k0_off4_inb i k)).toLoadRect X_arg2) (View.readAt (Elt F) arg3.view (Rect.unit (s := S8192x256) (k0_off4 i k) S512x128.size (k0_off4_inb i k)).toLoadRect X_arg3) (View.readAt (Elt F) arg4.view (Rect.unit (s := S512x256) ![0, 0] S512x128.size inb_S512x256_S512x128_0_0).toLoadRect X_arg4),
         k0_pay48 acc.2.2.1 (k0_pay9 (View.readAt (Elt F) arg2.view (Rect.unit (s := S8192x256) (k0_off5 i k) S512x128.size (k0_off5_inb i k)).toLoadRect X_arg2)) (k0_pay10 (View.readAt (Elt F) arg3.view (Rect.unit (s := S8192x256) (k0_off5 i k) S512x128.size (k0_off5_inb i k)).toLoadRect X_arg3)) (k0_pay11 (View.readAt (Elt F) arg2.view (Rect.unit (s := S8192x256) (k0_off5 i k) S512x128.size (k0_off5_inb i k)).toLoadRect X_arg2) (View.readAt (Elt F) arg4.view (Rect.unit (s := S512x256) ![0, 128] S512x128.size inb_S512x256_S512x128_0_128).toLoadRect X_arg4)) (k0_pay12 (View.readAt (Elt F) arg5.view (Rect.unit (s := S512x256) ![0, 128] S512x128.size inb_S512x256_S512x128_0_128).toLoadRect X_arg5)) (constant S512x512 .f32 0#32),
         k0_pay49 acc.2.2.2 (k0_pay10 (View.readAt (Elt F) arg3.view (Rect.unit (s := S8192x256) (k0_off5 i k) S512x128.size (k0_off5_inb i k)).toLoadRect X_arg3)) (k0_pay11 (View.readAt (Elt F) arg2.view (Rect.unit (s := S8192x256) (k0_off5 i k) S512x128.size (k0_off5_inb i k)).toLoadRect X_arg2) (View.readAt (Elt F) arg4.view (Rect.unit (s := S512x256) ![0, 128] S512x128.size inb_S512x256_S512x128_0_128).toLoadRect X_arg4))) := by
  unfold tripR_k0_t1 trip_k0_t1
  dsimp only
  sl_unfold_words
  rfl

/-- The stores of a trip: one tile of the queries' gradient, one of the row sums. -/
theorem tripL_eq (𝒱 : Variants) (c : Dev nD) (bd : Option 𝒱.V) (i : grid0.Coords) (arg2 : Memref sig .tc .vmem S8192x256 .bf16) (harg2 : arg2.IsWhole) (arg3 : Memref sig .tc .vmem S8192x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S8192x128 .f32) (harg6 : arg6.IsWhole) (arg7 : Memref sig .tc .vmem S8192x128 .f32) (harg7 : arg7.IsWhole) (arg8 : Memref sig .tc .vmem S512x128 .bf16) (harg8 : arg8.IsWhole) (arg9 : Memref sig .tc .vmem S512x128 .bf16) (harg9 : arg9.IsWhole) (arg10 : Memref sig .tc .vmem S8192x128 .f32) (harg10 : arg10.IsWhole) (arg0 : BitVec 32) (arg1 : BitVec 32) (v8 : IVec S512x128 32) (v10 : IVec S512x128 1) (v15 : BitVec 32) (v36 : FVec F S512x128 .f32) (v38 : FVec F S512x128 .f32) (v41 : FVec F S512x128 .f32) (v62 : FVec F S512x128 .f32) (v64 : FVec F S512x128 .f32) (v67 : FVec F S512x128 .f32) (v99 : BitVec 32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (k : Fin (k0_t1_loop i).trips) (acc : FVec F S512x128 .f32 × FVec F S512x128 .f32 × FVec F S512x128 .f32 × FVec F S512x128 .f32) (f_arg6 : BufTy.Contents (Elt F) arg6.view.ty) (f_arg7 : BufTy.Contents (Elt F) arg7.view.ty) :
    tripL_k0_t1 (F := F) 𝒱 c bd i arg2 harg2 arg3 harg3 arg4 harg4 arg5 harg5 arg6 harg6 arg7 harg7 arg8 harg8 arg9 harg9 arg10 harg10 arg0 arg1 v8 v10 v15 v36 v38 v41 v62 v64 v67 v99 X_arg2 X_arg3 X_arg4 X_arg5 k acc f_arg6 f_arg7
      = ([⟨Rect.unit (s := S8192x128) (k0_off6 i k) S512x128.size (k0_off6_inb i k), k0_pay50 v10 (k0_pay6 (View.readAt (Elt F) arg2.view (Rect.unit (s := S8192x256) (k0_off4 i k) S512x128.size (k0_off4_inb i k)).toLoadRect X_arg2) (View.readAt (Elt F) arg3.view (Rect.unit (s := S8192x256) (k0_off4 i k) S512x128.size (k0_off4_inb i k)).toLoadRect X_arg3) (View.readAt (Elt F) arg4.view (Rect.unit (s := S512x256) ![0, 0] S512x128.size inb_S512x256_S512x128_0_0).toLoadRect X_arg4) (View.readAt (Elt F) arg5.view (Rect.unit (s := S512x256) ![0, 0] S512x128.size inb_S512x256_S512x128_0_0).toLoadRect X_arg5) (View.readAt (Elt F) arg4.view (Rect.unit (s := S512x256) ![0, 0] S512x128.size inb_S512x256_S512x128_0_0).toLoadRect X_arg4)) (k0_pay10 (View.readAt (Elt F) arg3.view (Rect.unit (s := S8192x256) (k0_off5 i k) S512x128.size (k0_off5_inb i k)).toLoadRect X_arg3)) (k0_pay11 (View.readAt (Elt F) arg2.view (Rect.unit (s := S8192x256) (k0_off5 i k) S512x128.size (k0_off5_inb i k)).toLoadRect X_arg2) (View.readAt (Elt F) arg4.view (Rect.unit (s := S512x256) ![0, 128] S512x128.size inb_S512x256_S512x128_0_128).toLoadRect X_arg4)) (k0_pay12 (View.readAt (Elt F) arg5.view (Rect.unit (s := S512x256) ![0, 128] S512x128.size inb_S512x256_S512x128_0_128).toLoadRect X_arg5)) (constant S512x512 .f32 0#32) (View.readAt (Elt F) arg4.view (Rect.unit (s := S512x256) ![0, 128] S512x128.size inb_S512x256_S512x128_0_128).toLoadRect X_arg4) (View.readAt (Elt F) arg6.view (Rect.unit (s := S8192x128) (k0_off6 i k) S512x128.size (k0_off6_inb i k)).toLoadRect f_arg6)⟩],
         [⟨Rect.unit (s := S8192x128) (k0_off6 i k) S512x128.size (k0_off6_inb i k), k0_pay51 arg0 v8 (k0_pay6 (View.readAt (Elt F) arg2.view (Rect.unit (s := S8192x256) (k0_off4 i k) S512x128.size (k0_off4_inb i k)).toLoadRect X_arg2) (View.readAt (Elt F) arg3.view (Rect.unit (s := S8192x256) (k0_off4 i k) S512x128.size (k0_off4_inb i k)).toLoadRect X_arg3) (View.readAt (Elt F) arg4.view (Rect.unit (s := S512x256) ![0, 0] S512x128.size inb_S512x256_S512x128_0_0).toLoadRect X_arg4) (View.readAt (Elt F) arg5.view (Rect.unit (s := S512x256) ![0, 0] S512x128.size inb_S512x256_S512x128_0_0).toLoadRect X_arg5) (View.readAt (Elt F) arg4.view (Rect.unit (s := S512x256) ![0, 0] S512x128.size inb_S512x256_S512x128_0_0).toLoadRect X_arg4)) (k0_pay10 (View.readAt (Elt F) arg3.view (Rect.unit (s := S8192x256) (k0_off5 i k) S512x128.size (k0_off5_inb i k)).toLoadRect X_arg3)) (k0_pay11 (View.readAt (Elt F) arg2.view (Rect.unit (s := S8192x256) (k0_off5 i k) S512x128.size (k0_off5_inb i k)).toLoadRect X_arg2) (View.readAt (Elt F) arg4.view (Rect.unit (s := S512x256) ![0, 128] S512x128.size inb_S512x256_S512x128_0_128).toLoadRect X_arg4)) (k0_pay12 (View.readAt (Elt F) arg5.view (Rect.unit (s := S512x256) ![0, 128] S512x128.size inb_S512x256_S512x128_0_128).toLoadRect X_arg5)) (constant S512x512 .f32 0#32) (View.readAt (Elt F) arg4.view (Rect.unit (s := S512x256) ![0, 128] S512x128.size inb_S512x256_S512x128_0_128).toLoadRect X_arg4) (View.readAt (Elt F) arg7.view (Rect.unit (s := S8192x128) (k0_off6 i k) S512x128.size (k0_off6_inb i k)).toLoadRect f_arg7)⟩]) := by
  unfold tripL_k0_t1 trip_k0_t1
  dsimp only
  sl_unfold_words
  rfl

/-- The loop runs over the tiles of rows below the diagonal. -/
theorem trips_t1 : ∀ i : grid0.Coords, (k0_t1_loop i).trips = 15 - (i 1).val := by decide +kernel

/-- The remainder loop makes no trip. -/
theorem trips_t2 : ∀ i : grid0.Coords, (k0_t2_loop i).trips = 0 := by decide +kernel

/-- The state of the loop after `k` trips: each carried gradient its first value plus the tiles `j+1 … j+k` of rows,
the queries' gradient and the row sums with what tile `j` of the keys adds on those rows. -/
theorem loop_eq (𝒱 : Variants) (c : Dev nD) (bd : Option 𝒱.V) (i : grid0.Coords) (arg2 : Memref sig .tc .vmem S8192x256 .bf16) (harg2 : arg2.IsWhole) (arg3 : Memref sig .tc .vmem S8192x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S8192x128 .f32) (harg6 : arg6.IsWhole) (arg7 : Memref sig .tc .vmem S8192x128 .f32) (harg7 : arg7.IsWhole) (arg8 : Memref sig .tc .vmem S512x128 .bf16) (harg8 : arg8.IsWhole) (arg9 : Memref sig .tc .vmem S512x128 .bf16) (harg9 : arg9.IsWhole) (arg10 : Memref sig .tc .vmem S8192x128 .f32) (harg10 : arg10.IsWhole) (arg1 : BitVec 32) (v15 : BitVec 32) (v36 : FVec Ideal S512x128 .f32) (v38 : FVec Ideal S512x128 .f32) (v41 : FVec Ideal S512x128 .f32) (v62 : FVec Ideal S512x128 .f32) (v64 : FVec Ideal S512x128 .f32) (v67 : FVec Ideal S512x128 .f32) (v99 : BitVec 32)
    (x0 x1 : Vec Ideal S8192x256 .bf16) (x2 x3 : Vec Ideal S512x256 .bf16)
    (G6 : BufTy.Contents (Elt Ideal) arg6.view.ty) (G7 : BufTy.Contents (Elt Ideal) arg7.view.ty) (init : (FVec Ideal S512x128 .f32 × FVec Ideal S512x128 .f32 × FVec Ideal S512x128 .f32 × FVec Ideal S512x128 .f32))
    (k : ℕ) (hk : k ≤ 15 - (i 1).val) :
    (∀ y : S512x128.Idx, ((st_k0_t1 (F := Ideal) 𝒱 c bd i arg2 harg2 arg3 harg3 arg4 harg4 arg5 harg5 arg6 harg6 arg7 harg7 arg8 harg8 arg9 harg9 arg10 harg10 (BitVec.ofNat 32 (i 0).val) arg1 (iota .tc S512x128 32 [1] iota_S512x128_d1_w32) k0_pay27 v15 v36 v38 v41 v62 v64 v67 v99 (harg2.unread x0) (harg3.unread x1) (harg4.unread x2) (harg5.unread x3) G6 G7 init k).1.1 y : EReal)
        = init.1 y + ∑ n ∈ Finset.range k, gDk x0 x1 x2 x3 (i 1).val 0 ((i 1).val + 1 + n) (y 0).val (y 1).val)
    ∧ (∀ y : S512x128.Idx, ((st_k0_t1 (F := Ideal) 𝒱 c bd i arg2 harg2 arg3 harg3 arg4 harg4 arg5 harg5 arg6 harg6 arg7 harg7 arg8 harg8 arg9 harg9 arg10 harg10 (BitVec.ofNat 32 (i 0).val) arg1 (iota .tc S512x128 32 [1] iota_S512x128_d1_w32) k0_pay27 v15 v36 v38 v41 v62 v64 v67 v99 (harg2.unread x0) (harg3.unread x1) (harg4.unread x2) (harg5.unread x3) G6 G7 init k).1.2.1 y : EReal)
        = init.2.1 y + ∑ n ∈ Finset.range k, gDv x0 x1 x2 (i 1).val 0 ((i 1).val + 1 + n) (y 0).val (y 1).val)
    ∧ (∀ y : S512x128.Idx, ((st_k0_t1 (F := Ideal) 𝒱 c bd i arg2 harg2 arg3 harg3 arg4 harg4 arg5 harg5 arg6 harg6 arg7 harg7 arg8 harg8 arg9 harg9 arg10 harg10 (BitVec.ofNat 32 (i 0).val) arg1 (iota .tc S512x128 32 [1] iota_S512x128_d1_w32) k0_pay27 v15 v36 v38 v41 v62 v64 v67 v99 (harg2.unread x0) (harg3.unread x1) (harg4.unread x2) (harg5.unread x3) G6 G7 init k).1.2.2.1 y : EReal)
        = init.2.2.1 y + ∑ n ∈ Finset.range k, gDk x0 x1 x2 x3 (i 1).val 1 ((i 1).val + 1 + n) (y 0).val (y 1).val)
    ∧ (∀ y : S512x128.Idx, ((st_k0_t1 (F := Ideal) 𝒱 c bd i arg2 harg2 arg3 harg3 arg4 harg4 arg5 harg5 arg6 harg6 arg7 harg7 arg8 harg8 arg9 harg9 arg10 harg10 (BitVec.ofNat 32 (i 0).val) arg1 (iota .tc S512x128 32 [1] iota_S512x128_d1_w32) k0_pay27 v15 v36 v38 v41 v62 v64 v67 v99 (harg2.unread x0) (harg3.unread x1) (harg4.unread x2) (harg5.unread x3) G6 G7 init k).1.2.2.2 y : EReal)
        = init.2.2.2 y + ∑ n ∈ Finset.range k, gDv x0 x1 x2 (i 1).val 1 ((i 1).val + 1 + n) (y 0).val (y 1).val)
    ∧ (∀ y : S8192x128.Idx, (arg6.view.read (Elt Ideal) (arg6.view.writes (Elt Ideal) G6 (st_k0_t1 (F := Ideal) 𝒱 c bd i arg2 harg2 arg3 harg3 arg4 harg4 arg5 harg5 arg6 harg6 arg7 harg7 arg8 harg8 arg9 harg9 arg10 harg10 (BitVec.ofNat 32 (i 0).val) arg1 (iota .tc S512x128 32 [1] iota_S512x128_d1_w32) k0_pay27 v15 v36 v38 v41 v62 v64 v67 v99 (harg2.unread x0) (harg3.unread x1) (harg4.unread x2) (harg5.unread x3) G6 G7 init k).2.1) y : EReal)
        = arg6.view.read (Elt Ideal) G6 y + if 512 * ((i 1).val + 1) ≤ (y 0).val ∧ (y 0).val < 512 * ((i 1).val + 1 + k)
            then addDq x0 x1 x2 x3 (i 1).val (y 0).val (y 1).val else 0)
    ∧ (∀ y : S8192x128.Idx, (arg7.view.read (Elt Ideal) (arg7.view.writes (Elt Ideal) G7 (st_k0_t1 (F := Ideal) 𝒱 c bd i arg2 harg2 arg3 harg3 arg4 harg4 arg5 harg5 arg6 harg6 arg7 harg7 arg8 harg8 arg9 harg9 arg10 harg10 (BitVec.ofNat 32 (i 0).val) arg1 (iota .tc S512x128 32 [1] iota_S512x128_d1_w32) k0_pay27 v15 v36 v38 v41 v62 v64 v67 v99 (harg2.unread x0) (harg3.unread x1) (harg4.unread x2) (harg5.unread x3) G6 G7 init k).2.2) y : EReal)
        = arg7.view.read (Elt Ideal) G7 y + if 512 * ((i 1).val + 1) ≤ (y 0).val ∧ (y 0).val < 512 * ((i 1).val + 1 + k)
            then addRs x0 x1 x2 x3 (i 1).val (i 0).val (y 0).val (y 1).val else 0) := by
  have hp : (i 0).val < 4 := (i 0).isLt
  induction k with
  | zero =>
    simp only [st_k0_t1, Finset.range_zero, Finset.sum_empty, add_zero, View.writes_nil]
    refine ⟨fun _ => trivial, fun _ => trivial, fun _ => trivial, fun _ => trivial, fun y => ?_, fun y => ?_⟩ <;>
      rw [if_neg (by omega), add_zero]
  | succ k ih =>
    have hkt : k < (k0_t1_loop i).trips := by rw [trips_t1]; omega
    obtain ⟨i1, i2, i3, i4, i5, i6⟩ := ih (by omega)
    have es := st_k0_t1_succ (F := Ideal) 𝒱 c bd i arg2 harg2 arg3 harg3 arg4 harg4 arg5 harg5 arg6 harg6 arg7 harg7 arg8 harg8 arg9 harg9 arg10 harg10 (BitVec.ofNat 32 (i 0).val) arg1 (iota .tc S512x128 32 [1] iota_S512x128_d1_w32) k0_pay27 v15 v36 v38 v41 v62 v64 v67 v99 (harg2.unread x0) (harg3.unread x1) (harg4.unread x2) (harg5.unread x3) G6 G7 init ⟨k, hkt⟩
    rw [tripR_eq, tripL_eq] at es
    have o4 : k0_off4 i ⟨k, hkt⟩ = ![512 * ((i 1).val + 1 + k), 0] := by rw [k0_off4_eq]; congr 1; show 512 * (i 1).val + 512 * k + 512 = _; omega
    have o5 : k0_off5 i ⟨k, hkt⟩ = ![512 * ((i 1).val + 1 + k), 128] := by rw [k0_off5_eq]; congr 1; show 512 * (i 1).val + 512 * k + 512 = _; omega
    have o6 : k0_off6 i ⟨k, hkt⟩ = ![512 * ((i 1).val + 1 + k), 0] := by rw [k0_off6_eq]; congr 1; show 512 * (i 1).val + 512 * k + 512 = _; omega
    rw [load_bf16 arg2 harg2 x0 _ o4, load_bf16 arg2 harg2 x0 _ o5, load_bf16 arg3 harg3 x1 _ o4, load_bf16 arg3 harg3 x1 _ o5,
      load_bf16 arg4 harg4 x2 inb_S512x256_S512x128_0_0 rfl, load_bf16 arg4 harg4 x2 inb_S512x256_S512x128_0_128 rfl,
      load_bf16 arg5 harg5 x3 inb_S512x256_S512x128_0_0 rfl, load_bf16 arg5 harg5 x3 inb_S512x256_S512x128_0_128 rfl,
      load_f32 arg6.view _ _ o6, load_f32 arg7.view _ _ o6] at es
    have hij : (i 1).val < (i 1).val + 1 + k := by omega
    rw [es]
    dsimp only
    refine ⟨fun y => ?_, fun y => ?_, fun y => ?_, fun y => ?_, fun y => ?_, fun y => ?_⟩
    · rw [pay7_eq _ _ _ _ _ _ hij, i1, Finset.sum_range_succ, add_assoc]
    · rw [pay8_eq _ _ _ _ _ hij, i2, Finset.sum_range_succ, add_assoc]
    · rw [pay48_eq _ _ _ _ _ _ hij, i3, Finset.sum_range_succ, add_assoc]
    · rw [pay49_eq _ _ _ _ _ hij, i4, Finset.sum_range_succ, add_assoc]
    · have e := read_upd arg6.view G6 (st_k0_t1 (F := Ideal) 𝒱 c bd i arg2 harg2 arg3 harg3 arg4 harg4 arg5 harg5 arg6 harg6 arg7 harg7 arg8 harg8 arg9 harg9 arg10 harg10 (BitVec.ofNat 32 (i 0).val) arg1 (iota .tc S512x128 32 [1] iota_S512x128_d1_w32) k0_pay27 v15 v36 v38 v41 v62 v64 v67 v99 (harg2.unread x0) (harg3.unread x1) (harg4.unread x2) (harg5.unread x3) G6 G7 init k).2.1 (k0_off6_inb i ⟨k, hkt⟩) o6 _ (addDq x0 x1 x2 x3 (i 1).val)
        (fun z => pay50_eq x0 x1 x2 x3 _ _ hij _ z) y
      refine (e.trans ?_)
      rw [i5, add_assoc]
      exact congrArg (_ + ·) (ite_join _ (by omega) (by omega))
    · have e := read_upd arg7.view G7 (st_k0_t1 (F := Ideal) 𝒱 c bd i arg2 harg2 arg3 harg3 arg4 harg4 arg5 harg5 arg6 harg6 arg7 harg7 arg8 harg8 arg9 harg9 arg10 harg10 (BitVec.ofNat 32 (i 0).val) arg1 (iota .tc S512x128 32 [1] iota_S512x128_d1_w32) k0_pay27 v15 v36 v38 v41 v62 v64 v67 v99 (harg2.unread x0) (harg3.unread x1) (harg4.unread x2) (harg5.unread x3) G6 G7 init k).2.2 (k0_off6_inb i ⟨k, hkt⟩) o6 _ (addRs x0 x1 x2 x3 (i 1).val (i 0).val)
        (fun z => pay51_eq x0 x1 x2 x3 _ _ hij (i 0).val hp _ z) y
      refine (e.trans ?_)
      rw [i6, add_assoc]
      exact congrArg (_ + ·) (ite_join _ (by omega) (by omega))

end Cert.KernelIdeal.Hand

end
-- ==== Proof.Cont.lean ====
module

public import proofs.«01_k».proof.Proof.Trip

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI

/-! ## What a point of the grid stores -/

/-- The tile of the queries' gradient that the diagonal step stores, from what it read back. -/
def diag6 (i : grid0.Coords) (arg2 : Memref sig .tc .vmem S8192x256 .bf16) (harg2 : arg2.IsWhole) (arg3 : Memref sig .tc .vmem S8192x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S8192x128 .f32) (harg6 : arg6.IsWhole) (arg7 : Memref sig .tc .vmem S8192x128 .f32) (harg7 : arg7.IsWhole) (arg8 : Memref sig .tc .vmem S512x128 .bf16) (harg8 : arg8.IsWhole) (arg9 : Memref sig .tc .vmem S512x128 .bf16) (harg9 : arg9.IsWhole) (arg10 : Memref sig .tc .vmem S8192x128 .f32) (harg10 : arg10.IsWhole) (x0 x1 : Vec Ideal S8192x256 .bf16) (x2 x3 : Vec Ideal S512x256 .bf16) (g : FVec Ideal S512x128 .f32) : FVec Ideal S512x128 .f32 :=
  (k0_pay44 k0_pay27 (iota .tc S512x512 32 [0] iota_S512x512_d0_w32) (iota .tc S512x512 32 [1] iota_S512x512_d1_w32) (k0_pay32 (View.readAt (Elt Ideal) arg2.view (Rect.unit (s := S8192x256) (k0_off1 i) S512x128.size (k0_off1_inb i)).toLoadRect (harg2.unread x0)) (View.readAt (Elt Ideal) arg3.view (Rect.unit (s := S8192x256) (k0_off1 i) S512x128.size (k0_off1_inb i)).toLoadRect (harg3.unread x1)) (View.readAt (Elt Ideal) arg4.view (Rect.unit (s := S512x256) ![0, 0] S512x128.size inb_S512x256_S512x128_0_0).toLoadRect (harg4.unread x2)) (View.readAt (Elt Ideal) arg5.view (Rect.unit (s := S512x256) ![0, 0] S512x128.size inb_S512x256_S512x128_0_0).toLoadRect (harg5.unread x3))) (k0_pay33 (View.readAt (Elt Ideal) arg4.view (Rect.unit (s := S512x256) ![0, 0] S512x128.size inb_S512x256_S512x128_0_0).toLoadRect (harg4.unread x2))) (constant (F := Ideal) S512x128 .f32 0#32) (View.readAt (Elt Ideal) arg2.view (Rect.unit (s := S8192x256) (k0_off2 i) S512x128.size (k0_off2_inb i)).toLoadRect (harg2.unread x0)) (View.readAt (Elt Ideal) arg3.view (Rect.unit (s := S8192x256) (k0_off2 i) S512x128.size (k0_off2_inb i)).toLoadRect (harg3.unread x1)) (View.readAt (Elt Ideal) arg4.view (Rect.unit (s := S512x256) ![0, 128] S512x128.size inb_S512x256_S512x128_0_128).toLoadRect (harg4.unread x2)) (View.readAt (Elt Ideal) arg5.view (Rect.unit (s := S512x256) ![0, 128] S512x128.size inb_S512x256_S512x128_0_128).toLoadRect (harg5.unread x3)) (View.readAt (Elt Ideal) arg4.view (Rect.unit (s := S512x256) ![0, 128] S512x128.size inb_S512x256_S512x128_0_128).toLoadRect (harg4.unread x2)) g)

/-- The tile of the row sums that the diagonal step stores, from what it read back. -/
def diag7 (i : grid0.Coords) (arg2 : Memref sig .tc .vmem S8192x256 .bf16) (harg2 : arg2.IsWhole) (arg3 : Memref sig .tc .vmem S8192x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S8192x128 .f32) (harg6 : arg6.IsWhole) (arg7 : Memref sig .tc .vmem S8192x128 .f32) (harg7 : arg7.IsWhole) (arg8 : Memref sig .tc .vmem S512x128 .bf16) (harg8 : arg8.IsWhole) (arg9 : Memref sig .tc .vmem S512x128 .bf16) (harg9 : arg9.IsWhole) (arg10 : Memref sig .tc .vmem S8192x128 .f32) (harg10 : arg10.IsWhole) (x0 x1 : Vec Ideal S8192x256 .bf16) (x2 x3 : Vec Ideal S512x256 .bf16) (g : FVec Ideal S512x128 .f32) : FVec Ideal S512x128 .f32 :=
  (k0_pay45 (BitVec.ofNat 32 (i 0).val) (iota .tc S512x128 32 [1] iota_S512x128_d1_w32) (k0_pay34 (k0_pay32 (View.readAt (Elt Ideal) arg2.view (Rect.unit (s := S8192x256) (k0_off1 i) S512x128.size (k0_off1_inb i)).toLoadRect (harg2.unread x0)) (View.readAt (Elt Ideal) arg3.view (Rect.unit (s := S8192x256) (k0_off1 i) S512x128.size (k0_off1_inb i)).toLoadRect (harg3.unread x1)) (View.readAt (Elt Ideal) arg4.view (Rect.unit (s := S512x256) ![0, 0] S512x128.size inb_S512x256_S512x128_0_0).toLoadRect (harg4.unread x2)) (View.readAt (Elt Ideal) arg5.view (Rect.unit (s := S512x256) ![0, 0] S512x128.size inb_S512x256_S512x128_0_0).toLoadRect (harg5.unread x3))) (k0_pay33 (View.readAt (Elt Ideal) arg4.view (Rect.unit (s := S512x256) ![0, 0] S512x128.size inb_S512x256_S512x128_0_0).toLoadRect (harg4.unread x2))) (constant (F := Ideal) S512x128 .f32 0#32)) (k0_pay41 (iota .tc S512x512 32 [0] iota_S512x512_d0_w32) (iota .tc S512x512 32 [1] iota_S512x512_d1_w32) (View.readAt (Elt Ideal) arg2.view (Rect.unit (s := S8192x256) (k0_off2 i) S512x128.size (k0_off2_inb i)).toLoadRect (harg2.unread x0)) (View.readAt (Elt Ideal) arg3.view (Rect.unit (s := S8192x256) (k0_off2 i) S512x128.size (k0_off2_inb i)).toLoadRect (harg3.unread x1)) (View.readAt (Elt Ideal) arg4.view (Rect.unit (s := S512x256) ![0, 128] S512x128.size inb_S512x256_S512x128_0_128).toLoadRect (harg4.unread x2)) (View.readAt (Elt Ideal) arg5.view (Rect.unit (s := S512x256) ![0, 128] S512x128.size inb_S512x256_S512x128_0_128).toLoadRect (harg5.unread x3)) (View.readAt (Elt Ideal) arg4.view (Rect.unit (s := S512x256) ![0, 128] S512x128.size inb_S512x256_S512x128_0_128).toLoadRect (harg4.unread x2))) g)

/-- The gradients the loop starts from: the diagonal tile's. -/
def start (i : grid0.Coords) (arg2 : Memref sig .tc .vmem S8192x256 .bf16) (harg2 : arg2.IsWhole) (arg3 : Memref sig .tc .vmem S8192x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S8192x128 .f32) (harg6 : arg6.IsWhole) (arg7 : Memref sig .tc .vmem S8192x128 .f32) (harg7 : arg7.IsWhole) (arg8 : Memref sig .tc .vmem S512x128 .bf16) (harg8 : arg8.IsWhole) (arg9 : Memref sig .tc .vmem S512x128 .bf16) (harg9 : arg9.IsWhole) (arg10 : Memref sig .tc .vmem S8192x128 .f32) (harg10 : arg10.IsWhole) (x0 x1 : Vec Ideal S8192x256 .bf16) (x2 x3 : Vec Ideal S512x256 .bf16) : FVec Ideal S512x128 .f32 × FVec Ideal S512x128 .f32 × FVec Ideal S512x128 .f32 × FVec Ideal S512x128 .f32 :=
  ((k0_pay35 k0_pay28 (k0_pay29 (View.readAt (Elt Ideal) arg2.view (Rect.unit (s := S8192x256) (k0_off1 i) S512x128.size (k0_off1_inb i)).toLoadRect (harg2.unread x0))) (k0_pay32 (View.readAt (Elt Ideal) arg2.view (Rect.unit (s := S8192x256) (k0_off1 i) S512x128.size (k0_off1_inb i)).toLoadRect (harg2.unread x0)) (View.readAt (Elt Ideal) arg3.view (Rect.unit (s := S8192x256) (k0_off1 i) S512x128.size (k0_off1_inb i)).toLoadRect (harg3.unread x1)) (View.readAt (Elt Ideal) arg4.view (Rect.unit (s := S512x256) ![0, 0] S512x128.size inb_S512x256_S512x128_0_0).toLoadRect (harg4.unread x2)) (View.readAt (Elt Ideal) arg5.view (Rect.unit (s := S512x256) ![0, 0] S512x128.size inb_S512x256_S512x128_0_0).toLoadRect (harg5.unread x3)))),
   (k0_pay36 k0_pay28 (k0_pay30 (View.readAt (Elt Ideal) arg3.view (Rect.unit (s := S8192x256) (k0_off1 i) S512x128.size (k0_off1_inb i)).toLoadRect (harg3.unread x1))) (k0_pay31 (View.readAt (Elt Ideal) arg2.view (Rect.unit (s := S8192x256) (k0_off1 i) S512x128.size (k0_off1_inb i)).toLoadRect (harg2.unread x0)) (View.readAt (Elt Ideal) arg4.view (Rect.unit (s := S512x256) ![0, 0] S512x128.size inb_S512x256_S512x128_0_0).toLoadRect (harg4.unread x2)))),
   (k0_pay42 (iota .tc S512x512 32 [0] iota_S512x512_d0_w32) (iota .tc S512x512 32 [1] iota_S512x512_d1_w32) k0_pay28 (View.readAt (Elt Ideal) arg2.view (Rect.unit (s := S8192x256) (k0_off2 i) S512x128.size (k0_off2_inb i)).toLoadRect (harg2.unread x0)) (View.readAt (Elt Ideal) arg3.view (Rect.unit (s := S8192x256) (k0_off2 i) S512x128.size (k0_off2_inb i)).toLoadRect (harg3.unread x1)) (View.readAt (Elt Ideal) arg4.view (Rect.unit (s := S512x256) ![0, 128] S512x128.size inb_S512x256_S512x128_0_128).toLoadRect (harg4.unread x2)) (View.readAt (Elt Ideal) arg5.view (Rect.unit (s := S512x256) ![0, 128] S512x128.size inb_S512x256_S512x128_0_128).toLoadRect (harg5.unread x3))),
   (k0_pay43 (iota .tc S512x512 32 [0] iota_S512x512_d0_w32) (iota .tc S512x512 32 [1] iota_S512x512_d1_w32) k0_pay28 (View.readAt (Elt Ideal) arg2.view (Rect.unit (s := S8192x256) (k0_off2 i) S512x128.size (k0_off2_inb i)).toLoadRect (harg2.unread x0)) (View.readAt (Elt Ideal) arg3.view (Rect.unit (s := S8192x256) (k0_off2 i) S512x128.size (k0_off2_inb i)).toLoadRect (harg3.unread x1)) (View.readAt (Elt Ideal) arg4.view (Rect.unit (s := S512x256) ![0, 128] S512x128.size inb_S512x256_S512x128_0_128).toLoadRect (harg4.unread x2))))

/-- The stores into the queries' gradient up to the diagonal step. -/
abbrev st6 (i : grid0.Coords) (arg2 : Memref sig .tc .vmem S8192x256 .bf16) (harg2 : arg2.IsWhole) (arg3 : Memref sig .tc .vmem S8192x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S8192x128 .f32) (harg6 : arg6.IsWhole) (arg7 : Memref sig .tc .vmem S8192x128 .f32) (harg7 : arg7.IsWhole) (arg8 : Memref sig .tc .vmem S512x128 .bf16) (harg8 : arg8.IsWhole) (arg9 : Memref sig .tc .vmem S512x128 .bf16) (harg9 : arg9.IsWhole) (arg10 : Memref sig .tc .vmem S8192x128 .f32) (harg10 : arg10.IsWhole) (x0 x1 : Vec Ideal S8192x256 .bf16) (x2 x3 : Vec Ideal S512x256 .bf16) (G6 : BufTy.Contents (Elt Ideal) arg6.view.ty) (L6 : List (View.Piece (Elt Ideal) S8192x128 .f32)) : List (View.Piece (Elt Ideal) S8192x128 .f32) :=
  ⟨(Rect.unit (s := S8192x128) (k0_off3 i) S512x128.size (k0_off3_inb i)), diag6 i arg2 harg2 arg3 harg3 arg4 harg4 arg5 harg5 arg6 harg6 arg7 harg7 arg8 harg8 arg9 harg9 arg10 harg10 x0 x1 x2 x3 (View.readAt (Elt Ideal) arg6.view (Rect.unit (s := S8192x128) (k0_off3 i) S512x128.size (k0_off3_inb i)).toLoadRect (arg6.view.writes (Elt Ideal) G6 L6))⟩ :: L6

/-- The stores into the row sums up to the diagonal step. -/
abbrev st7 (i : grid0.Coords) (arg2 : Memref sig .tc .vmem S8192x256 .bf16) (harg2 : arg2.IsWhole) (arg3 : Memref sig .tc .vmem S8192x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S8192x128 .f32) (harg6 : arg6.IsWhole) (arg7 : Memref sig .tc .vmem S8192x128 .f32) (harg7 : arg7.IsWhole) (arg8 : Memref sig .tc .vmem S512x128 .bf16) (harg8 : arg8.IsWhole) (arg9 : Memref sig .tc .vmem S512x128 .bf16) (harg9 : arg9.IsWhole) (arg10 : Memref sig .tc .vmem S8192x128 .f32) (harg10 : arg10.IsWhole) (x0 x1 : Vec Ideal S8192x256 .bf16) (x2 x3 : Vec Ideal S512x256 .bf16) (G7 : BufTy.Contents (Elt Ideal) arg7.view.ty) (L7 : List (View.Piece (Elt Ideal) S8192x128 .f32)) : List (View.Piece (Elt Ideal) S8192x128 .f32) :=
  ⟨(Rect.unit (s := S8192x128) (k0_off3 i) S512x128.size (k0_off3_inb i)), diag7 i arg2 harg2 arg3 harg3 arg4 harg4 arg5 harg5 arg6 harg6 arg7 harg7 arg8 harg8 arg9 harg9 arg10 harg10 x0 x1 x2 x3 (View.readAt (Elt Ideal) arg7.view (Rect.unit (s := S8192x128) (k0_off3 i) S512x128.size (k0_off3_inb i)).toLoadRect (arg7.view.writes (Elt Ideal) G7 L7))⟩ :: L7

/-- The state after the loop over the tiles of rows below the diagonal. -/
def after1 (c : Dev nD) (i : grid0.Coords) (arg2 : Memref sig .tc .vmem S8192x256 .bf16) (harg2 : arg2.IsWhole) (arg3 : Memref sig .tc .vmem S8192x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S8192x128 .f32) (harg6 : arg6.IsWhole) (arg7 : Memref sig .tc .vmem S8192x128 .f32) (harg7 : arg7.IsWhole) (arg8 : Memref sig .tc .vmem S512x128 .bf16) (harg8 : arg8.IsWhole) (arg9 : Memref sig .tc .vmem S512x128 .bf16) (harg9 : arg9.IsWhole) (arg10 : Memref sig .tc .vmem S8192x128 .f32) (harg10 : arg10.IsWhole) (x0 x1 : Vec Ideal S8192x256 .bf16) (x2 x3 : Vec Ideal S512x256 .bf16) (G6 : BufTy.Contents (Elt Ideal) arg6.view.ty) (L6 : List (View.Piece (Elt Ideal) S8192x128 .f32)) (G7 : BufTy.Contents (Elt Ideal) arg7.view.ty) (L7 : List (View.Piece (Elt Ideal) S8192x128 .f32)) : ((FVec Ideal S512x128 .f32 × FVec Ideal S512x128 .f32 × FVec Ideal S512x128 .f32 × FVec Ideal S512x128 .f32) × List (View.Piece (Elt Ideal) S8192x128 .f32) × List (View.Piece (Elt Ideal) S8192x128 .f32)) :=
  st_k0_t1 (F := Ideal) Variants.none c none i arg2 harg2 arg3 harg3 arg4 harg4 arg5 harg5 arg6 harg6 arg7 harg7 arg8 harg8 arg9 harg9 arg10 harg10 (BitVec.ofNat 32 (i 0).val) (BitVec.ofNat 32 (i 1).val) (iota .tc S512x128 32 [1] iota_S512x128_d1_w32) k0_pay27 (Scalar.muli (BitVec.ofNat 32 (i 1).val) 512#32) (k0_pay34 (k0_pay32 (View.readAt (Elt Ideal) arg2.view (Rect.unit (s := S8192x256) (k0_off1 i) S512x128.size (k0_off1_inb i)).toLoadRect (harg2.unread x0)) (View.readAt (Elt Ideal) arg3.view (Rect.unit (s := S8192x256) (k0_off1 i) S512x128.size (k0_off1_inb i)).toLoadRect (harg3.unread x1)) (View.readAt (Elt Ideal) arg4.view (Rect.unit (s := S512x256) ![0, 0] S512x128.size inb_S512x256_S512x128_0_0).toLoadRect (harg4.unread x2)) (View.readAt (Elt Ideal) arg5.view (Rect.unit (s := S512x256) ![0, 0] S512x128.size inb_S512x256_S512x128_0_0).toLoadRect (harg5.unread x3))) (k0_pay33 (View.readAt (Elt Ideal) arg4.view (Rect.unit (s := S512x256) ![0, 0] S512x128.size inb_S512x256_S512x128_0_0).toLoadRect (harg4.unread x2))) (constant (F := Ideal) S512x128 .f32 0#32)) (k0_pay35 k0_pay28 (k0_pay29 (View.readAt (Elt Ideal) arg2.view (Rect.unit (s := S8192x256) (k0_off1 i) S512x128.size (k0_off1_inb i)).toLoadRect (harg2.unread x0))) (k0_pay32 (View.readAt (Elt Ideal) arg2.view (Rect.unit (s := S8192x256) (k0_off1 i) S512x128.size (k0_off1_inb i)).toLoadRect (harg2.unread x0)) (View.readAt (Elt Ideal) arg3.view (Rect.unit (s := S8192x256) (k0_off1 i) S512x128.size (k0_off1_inb i)).toLoadRect (harg3.unread x1)) (View.readAt (Elt Ideal) arg4.view (Rect.unit (s := S512x256) ![0, 0] S512x128.size inb_S512x256_S512x128_0_0).toLoadRect (harg4.unread x2)) (View.readAt (Elt Ideal) arg5.view (Rect.unit (s := S512x256) ![0, 0] S512x128.size inb_S512x256_S512x128_0_0).toLoadRect (harg5.unread x3)))) (k0_pay36 k0_pay28 (k0_pay30 (View.readAt (Elt Ideal) arg3.view (Rect.unit (s := S8192x256) (k0_off1 i) S512x128.size (k0_off1_inb i)).toLoadRect (harg3.unread x1))) (k0_pay31 (View.readAt (Elt Ideal) arg2.view (Rect.unit (s := S8192x256) (k0_off1 i) S512x128.size (k0_off1_inb i)).toLoadRect (harg2.unread x0)) (View.readAt (Elt Ideal) arg4.view (Rect.unit (s := S512x256) ![0, 0] S512x128.size inb_S512x256_S512x128_0_0).toLoadRect (harg4.unread x2)))) (k0_pay41 (iota .tc S512x512 32 [0] iota_S512x512_d0_w32) (iota .tc S512x512 32 [1] iota_S512x512_d1_w32) (View.readAt (Elt Ideal) arg2.view (Rect.unit (s := S8192x256) (k0_off2 i) S512x128.size (k0_off2_inb i)).toLoadRect (harg2.unread x0)) (View.readAt (Elt Ideal) arg3.view (Rect.unit (s := S8192x256) (k0_off2 i) S512x128.size (k0_off2_inb i)).toLoadRect (harg3.unread x1)) (View.readAt (Elt Ideal) arg4.view (Rect.unit (s := S512x256) ![0, 128] S512x128.size inb_S512x256_S512x128_0_128).toLoadRect (harg4.unread x2)) (View.readAt (Elt Ideal) arg5.view (Rect.unit (s := S512x256) ![0, 128] S512x128.size inb_S512x256_S512x128_0_128).toLoadRect (harg5.unread x3)) (View.readAt (Elt Ideal) arg4.view (Rect.unit (s := S512x256) ![0, 128] S512x128.size inb_S512x256_S512x128_0_128).toLoadRect (harg4.unread x2))) (k0_pay42 (iota .tc S512x512 32 [0] iota_S512x512_d0_w32) (iota .tc S512x512 32 [1] iota_S512x512_d1_w32) k0_pay28 (View.readAt (Elt Ideal) arg2.view (Rect.unit (s := S8192x256) (k0_off2 i) S512x128.size (k0_off2_inb i)).toLoadRect (harg2.unread x0)) (View.readAt (Elt Ideal) arg3.view (Rect.unit (s := S8192x256) (k0_off2 i) S512x128.size (k0_off2_inb i)).toLoadRect (harg3.unread x1)) (View.readAt (Elt Ideal) arg4.view (Rect.unit (s := S512x256) ![0, 128] S512x128.size inb_S512x256_S512x128_0_128).toLoadRect (harg4.unread x2)) (View.readAt (Elt Ideal) arg5.view (Rect.unit (s := S512x256) ![0, 128] S512x128.size inb_S512x256_S512x128_0_128).toLoadRect (harg5.unread x3))) (k0_pay43 (iota .tc S512x512 32 [0] iota_S512x512_d0_w32) (iota .tc S512x512 32 [1] iota_S512x512_d1_w32) k0_pay28 (View.readAt (Elt Ideal) arg2.view (Rect.unit (s := S8192x256) (k0_off2 i) S512x128.size (k0_off2_inb i)).toLoadRect (harg2.unread x0)) (View.readAt (Elt Ideal) arg3.view (Rect.unit (s := S8192x256) (k0_off2 i) S512x128.size (k0_off2_inb i)).toLoadRect (harg3.unread x1)) (View.readAt (Elt Ideal) arg4.view (Rect.unit (s := S512x256) ![0, 128] S512x128.size inb_S512x256_S512x128_0_128).toLoadRect (harg4.unread x2))) (Scalar.addi (BitVec.ofNat 32 (i 1).val) 1#32) (harg2.unread x0) (harg3.unread x1) (harg4.unread x2) (harg5.unread x3) (arg6.view.writes (Elt Ideal) G6 (st6 i arg2 harg2 arg3 harg3 arg4 harg4 arg5 harg5 arg6 harg6 arg7 harg7 arg8 harg8 arg9 harg9 arg10 harg10 x0 x1 x2 x3 G6 L6)) (arg7.view.writes (Elt Ideal) G7 (st7 i arg2 harg2 arg3 harg3 arg4 harg4 arg5 harg5 arg6 harg6 arg7 harg7 arg8 harg8 arg9 harg9 arg10 harg10 x0 x1 x2 x3 G7 L7)) (start i arg2 harg2 arg3 harg3 arg4 harg4 arg5 harg5 arg6 harg6 arg7 harg7 arg8 harg8 arg9 harg9 arg10 harg10 x0 x1 x2 x3) (k0_t1_loop i).trips

/-- The state after the remainder loop. -/
def after2 (c : Dev nD) (i : grid0.Coords) (arg2 : Memref sig .tc .vmem S8192x256 .bf16) (harg2 : arg2.IsWhole) (arg3 : Memref sig .tc .vmem S8192x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S8192x128 .f32) (harg6 : arg6.IsWhole) (arg7 : Memref sig .tc .vmem S8192x128 .f32) (harg7 : arg7.IsWhole) (arg8 : Memref sig .tc .vmem S512x128 .bf16) (harg8 : arg8.IsWhole) (arg9 : Memref sig .tc .vmem S512x128 .bf16) (harg9 : arg9.IsWhole) (arg10 : Memref sig .tc .vmem S8192x128 .f32) (harg10 : arg10.IsWhole) (x0 x1 : Vec Ideal S8192x256 .bf16) (x2 x3 : Vec Ideal S512x256 .bf16) (G6 : BufTy.Contents (Elt Ideal) arg6.view.ty) (L6 : List (View.Piece (Elt Ideal) S8192x128 .f32)) (G7 : BufTy.Contents (Elt Ideal) arg7.view.ty) (L7 : List (View.Piece (Elt Ideal) S8192x128 .f32)) : ((FVec Ideal S512x128 .f32 × FVec Ideal S512x128 .f32 × FVec Ideal S512x128 .f32 × FVec Ideal S512x128 .f32) × List (View.Piece (Elt Ideal) S8192x128 .f32) × List (View.Piece (Elt Ideal) S8192x128 .f32)) :=
  st_k0_t2 (F := Ideal) Variants.none c none i arg2 harg2 arg3 harg3 arg4 harg4 arg5 harg5 arg6 harg6 arg7 harg7 arg8 harg8 arg9 harg9 arg10 harg10 (BitVec.ofNat 32 (i 0).val) (BitVec.ofNat 32 (i 1).val) (iota .tc S512x128 32 [1] iota_S512x128_d1_w32) k0_pay27 (Scalar.muli (BitVec.ofNat 32 (i 1).val) 512#32) (k0_pay34 (k0_pay32 (View.readAt (Elt Ideal) arg2.view (Rect.unit (s := S8192x256) (k0_off1 i) S512x128.size (k0_off1_inb i)).toLoadRect (harg2.unread x0)) (View.readAt (Elt Ideal) arg3.view (Rect.unit (s := S8192x256) (k0_off1 i) S512x128.size (k0_off1_inb i)).toLoadRect (harg3.unread x1)) (View.readAt (Elt Ideal) arg4.view (Rect.unit (s := S512x256) ![0, 0] S512x128.size inb_S512x256_S512x128_0_0).toLoadRect (harg4.unread x2)) (View.readAt (Elt Ideal) arg5.view (Rect.unit (s := S512x256) ![0, 0] S512x128.size inb_S512x256_S512x128_0_0).toLoadRect (harg5.unread x3))) (k0_pay33 (View.readAt (Elt Ideal) arg4.view (Rect.unit (s := S512x256) ![0, 0] S512x128.size inb_S512x256_S512x128_0_0).toLoadRect (harg4.unread x2))) (constant (F := Ideal) S512x128 .f32 0#32)) (k0_pay35 k0_pay28 (k0_pay29 (View.readAt (Elt Ideal) arg2.view (Rect.unit (s := S8192x256) (k0_off1 i) S512x128.size (k0_off1_inb i)).toLoadRect (harg2.unread x0))) (k0_pay32 (View.readAt (Elt Ideal) arg2.view (Rect.unit (s := S8192x256) (k0_off1 i) S512x128.size (k0_off1_inb i)).toLoadRect (harg2.unread x0)) (View.readAt (Elt Ideal) arg3.view (Rect.unit (s := S8192x256) (k0_off1 i) S512x128.size (k0_off1_inb i)).toLoadRect (harg3.unread x1)) (View.readAt (Elt Ideal) arg4.view (Rect.unit (s := S512x256) ![0, 0] S512x128.size inb_S512x256_S512x128_0_0).toLoadRect (harg4.unread x2)) (View.readAt (Elt Ideal) arg5.view (Rect.unit (s := S512x256) ![0, 0] S512x128.size inb_S512x256_S512x128_0_0).toLoadRect (harg5.unread x3)))) (k0_pay36 k0_pay28 (k0_pay30 (View.readAt (Elt Ideal) arg3.view (Rect.unit (s := S8192x256) (k0_off1 i) S512x128.size (k0_off1_inb i)).toLoadRect (harg3.unread x1))) (k0_pay31 (View.readAt (Elt Ideal) arg2.view (Rect.unit (s := S8192x256) (k0_off1 i) S512x128.size (k0_off1_inb i)).toLoadRect (harg2.unread x0)) (View.readAt (Elt Ideal) arg4.view (Rect.unit (s := S512x256) ![0, 0] S512x128.size inb_S512x256_S512x128_0_0).toLoadRect (harg4.unread x2)))) (k0_pay41 (iota .tc S512x512 32 [0] iota_S512x512_d0_w32) (iota .tc S512x512 32 [1] iota_S512x512_d1_w32) (View.readAt (Elt Ideal) arg2.view (Rect.unit (s := S8192x256) (k0_off2 i) S512x128.size (k0_off2_inb i)).toLoadRect (harg2.unread x0)) (View.readAt (Elt Ideal) arg3.view (Rect.unit (s := S8192x256) (k0_off2 i) S512x128.size (k0_off2_inb i)).toLoadRect (harg3.unread x1)) (View.readAt (Elt Ideal) arg4.view (Rect.unit (s := S512x256) ![0, 128] S512x128.size inb_S512x256_S512x128_0_128).toLoadRect (harg4.unread x2)) (View.readAt (Elt Ideal) arg5.view (Rect.unit (s := S512x256) ![0, 128] S512x128.size inb_S512x256_S512x128_0_128).toLoadRect (harg5.unread x3)) (View.readAt (Elt Ideal) arg4.view (Rect.unit (s := S512x256) ![0, 128] S512x128.size inb_S512x256_S512x128_0_128).toLoadRect (harg4.unread x2))) (k0_pay42 (iota .tc S512x512 32 [0] iota_S512x512_d0_w32) (iota .tc S512x512 32 [1] iota_S512x512_d1_w32) k0_pay28 (View.readAt (Elt Ideal) arg2.view (Rect.unit (s := S8192x256) (k0_off2 i) S512x128.size (k0_off2_inb i)).toLoadRect (harg2.unread x0)) (View.readAt (Elt Ideal) arg3.view (Rect.unit (s := S8192x256) (k0_off2 i) S512x128.size (k0_off2_inb i)).toLoadRect (harg3.unread x1)) (View.readAt (Elt Ideal) arg4.view (Rect.unit (s := S512x256) ![0, 128] S512x128.size inb_S512x256_S512x128_0_128).toLoadRect (harg4.unread x2)) (View.readAt (Elt Ideal) arg5.view (Rect.unit (s := S512x256) ![0, 128] S512x128.size inb_S512x256_S512x128_0_128).toLoadRect (harg5.unread x3))) (k0_pay43 (iota .tc S512x512 32 [0] iota_S512x512_d0_w32) (iota .tc S512x512 32 [1] iota_S512x512_d1_w32) k0_pay28 (View.readAt (Elt Ideal) arg2.view (Rect.unit (s := S8192x256) (k0_off2 i) S512x128.size (k0_off2_inb i)).toLoadRect (harg2.unread x0)) (View.readAt (Elt Ideal) arg3.view (Rect.unit (s := S8192x256) (k0_off2 i) S512x128.size (k0_off2_inb i)).toLoadRect (harg3.unread x1)) (View.readAt (Elt Ideal) arg4.view (Rect.unit (s := S512x256) ![0, 128] S512x128.size inb_S512x256_S512x128_0_128).toLoadRect (harg4.unread x2))) (Scalar.addi (Scalar.addi (BitVec.ofNat 32 (i 1).val) 1#32) (Scalar.muli (Scalar.divsi (Scalar.subi (16#32) (Scalar.addi (BitVec.ofNat 32 (i 1).val) 1#32)) 1#32) 1#32)) (harg2.unread x0) (harg3.unread x1) (harg4.unread x2) (harg5.unread x3) (arg6.view.writes (Elt Ideal) G6 ((after1 c i arg2 harg2 arg3 harg3 arg4 harg4 arg5 harg5 arg6 harg6 arg7 harg7 arg8 harg8 arg9 harg9 arg10 harg10 x0 x1 x2 x3 G6 L6 G7 L7).2.1 ++ st6 i arg2 harg2 arg3 harg3 arg4 harg4 arg5 harg5 arg6 harg6 arg7 harg7 arg8 harg8 arg9 harg9 arg10 harg10 x0 x1 x2 x3 G6 L6)) (arg7.view.writes (Elt Ideal) G7 ((after1 c i arg2 harg2 arg3 harg3 arg4 harg4 arg5 harg5 arg6 harg6 arg7 harg7 arg8 harg8 arg9 harg9 arg10 harg10 x0 x1 x2 x3 G6 L6 G7 L7).2.2 ++ st7 i arg2 harg2 arg3 harg3 arg4 harg4 arg5 harg5 arg6 harg6 arg7 harg7 arg8 harg8 arg9 harg9 arg10 harg10 x0 x1 x2 x3 G7 L7)) ((after1 c i arg2 harg2 arg3 harg3 arg4 harg4 arg5 harg5 arg6 harg6 arg7 harg7 arg8 harg8 arg9 harg9 arg10 harg10 x0 x1 x2 x3 G6 L6 G7 L7).1.1, (after1 c i arg2 harg2 arg3 harg3 arg4 harg4 arg5 harg5 arg6 harg6 arg7 harg7 arg8 harg8 arg9 harg9 arg10 harg10 x0 x1 x2 x3 G6 L6 G7 L7).1.2.1, (after1 c i arg2 harg2 arg3 harg3 arg4 harg4 arg5 harg5 arg6 harg6 arg7 harg7 arg8 harg8 arg9 harg9 arg10 harg10 x0 x1 x2 x3 G6 L6 G7 L7).1.2.2.1, (after1 c i arg2 harg2 arg3 harg3 arg4 harg4 arg5 harg5 arg6 harg6 arg7 harg7 arg8 harg8 arg9 harg9 arg10 harg10 x0 x1 x2 x3 G6 L6 G7 L7).1.2.2.2) (k0_t2_loop i).trips

/-- The remainder loop changes nothing. -/
theorem after2_eq (c : Dev nD) (i : grid0.Coords) (arg2 : Memref sig .tc .vmem S8192x256 .bf16) (harg2 : arg2.IsWhole) (arg3 : Memref sig .tc .vmem S8192x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S8192x128 .f32) (harg6 : arg6.IsWhole) (arg7 : Memref sig .tc .vmem S8192x128 .f32) (harg7 : arg7.IsWhole) (arg8 : Memref sig .tc .vmem S512x128 .bf16) (harg8 : arg8.IsWhole) (arg9 : Memref sig .tc .vmem S512x128 .bf16) (harg9 : arg9.IsWhole) (arg10 : Memref sig .tc .vmem S8192x128 .f32) (harg10 : arg10.IsWhole) (x0 x1 : Vec Ideal S8192x256 .bf16) (x2 x3 : Vec Ideal S512x256 .bf16) (G6 : BufTy.Contents (Elt Ideal) arg6.view.ty) (L6 : List (View.Piece (Elt Ideal) S8192x128 .f32)) (G7 : BufTy.Contents (Elt Ideal) arg7.view.ty) (L7 : List (View.Piece (Elt Ideal) S8192x128 .f32)) : after2 c i arg2 harg2 arg3 harg3 arg4 harg4 arg5 harg5 arg6 harg6 arg7 harg7 arg8 harg8 arg9 harg9 arg10 harg10 x0 x1 x2 x3 G6 L6 G7 L7 = (((after1 c i arg2 harg2 arg3 harg3 arg4 harg4 arg5 harg5 arg6 harg6 arg7 harg7 arg8 harg8 arg9 harg9 arg10 harg10 x0 x1 x2 x3 G6 L6 G7 L7).1.1, (after1 c i arg2 harg2 arg3 harg3 arg4 harg4 arg5 harg5 arg6 harg6 arg7 harg7 arg8 harg8 arg9 harg9 arg10 harg10 x0 x1 x2 x3 G6 L6 G7 L7).1.2.1, (after1 c i arg2 harg2 arg3 harg3 arg4 harg4 arg5 harg5 arg6 harg6 arg7 harg7 arg8 harg8 arg9 harg9 arg10 harg10 x0 x1 x2 x3 G6 L6 G7 L7).1.2.2.1, (after1 c i arg2 harg2 arg3 harg3 arg4 harg4 arg5 harg5 arg6 harg6 arg7 harg7 arg8 harg8 arg9 harg9 arg10 harg10 x0 x1 x2 x3 G6 L6 G7 L7).1.2.2.2), [], []) := by
  unfold after2
  rw [trips_t2]
  rfl

/-- The queries' gradient after the point. -/
abbrev fin6 (c : Dev nD) (i : grid0.Coords) (arg2 : Memref sig .tc .vmem S8192x256 .bf16) (harg2 : arg2.IsWhole) (arg3 : Memref sig .tc .vmem S8192x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S8192x128 .f32) (harg6 : arg6.IsWhole) (arg7 : Memref sig .tc .vmem S8192x128 .f32) (harg7 : arg7.IsWhole) (arg8 : Memref sig .tc .vmem S512x128 .bf16) (harg8 : arg8.IsWhole) (arg9 : Memref sig .tc .vmem S512x128 .bf16) (harg9 : arg9.IsWhole) (arg10 : Memref sig .tc .vmem S8192x128 .f32) (harg10 : arg10.IsWhole) (x0 x1 : Vec Ideal S8192x256 .bf16) (x2 x3 : Vec Ideal S512x256 .bf16) (G6 : BufTy.Contents (Elt Ideal) arg6.view.ty) (L6 : List (View.Piece (Elt Ideal) S8192x128 .f32)) (G7 : BufTy.Contents (Elt Ideal) arg7.view.ty) (L7 : List (View.Piece (Elt Ideal) S8192x128 .f32)) : BufTy.Contents (Elt Ideal) arg6.view.ty :=
  arg6.view.writes (Elt Ideal) G6 ((after2 c i arg2 harg2 arg3 harg3 arg4 harg4 arg5 harg5 arg6 harg6 arg7 harg7 arg8 harg8 arg9 harg9 arg10 harg10 x0 x1 x2 x3 G6 L6 G7 L7).2.1 ++ ((after1 c i arg2 harg2 arg3 harg3 arg4 harg4 arg5 harg5 arg6 harg6 arg7 harg7 arg8 harg8 arg9 harg9 arg10 harg10 x0 x1 x2 x3 G6 L6 G7 L7).2.1 ++ st6 i arg2 harg2 arg3 harg3 arg4 harg4 arg5 harg5 arg6 harg6 arg7 harg7 arg8 harg8 arg9 harg9 arg10 harg10 x0 x1 x2 x3 G6 L6))

/-- The row sums after the point. -/
abbrev fin7 (c : Dev nD) (i : grid0.Coords) (arg2 : Memref sig .tc .vmem S8192x256 .bf16) (harg2 : arg2.IsWhole) (arg3 : Memref sig .tc .vmem S8192x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S8192x128 .f32) (harg6 : arg6.IsWhole) (arg7 : Memref sig .tc .vmem S8192x128 .f32) (harg7 : arg7.IsWhole) (arg8 : Memref sig .tc .vmem S512x128 .bf16) (harg8 : arg8.IsWhole) (arg9 : Memref sig .tc .vmem S512x128 .bf16) (harg9 : arg9.IsWhole) (arg10 : Memref sig .tc .vmem S8192x128 .f32) (harg10 : arg10.IsWhole) (x0 x1 : Vec Ideal S8192x256 .bf16) (x2 x3 : Vec Ideal S512x256 .bf16) (G6 : BufTy.Contents (Elt Ideal) arg6.view.ty) (L6 : List (View.Piece (Elt Ideal) S8192x128 .f32)) (G7 : BufTy.Contents (Elt Ideal) arg7.view.ty) (L7 : List (View.Piece (Elt Ideal) S8192x128 .f32)) : BufTy.Contents (Elt Ideal) arg7.view.ty :=
  arg7.view.writes (Elt Ideal) G7 ((after2 c i arg2 harg2 arg3 harg3 arg4 harg4 arg5 harg5 arg6 harg6 arg7 harg7 arg8 harg8 arg9 harg9 arg10 harg10 x0 x1 x2 x3 G6 L6 G7 L7).2.2 ++ ((after1 c i arg2 harg2 arg3 harg3 arg4 harg4 arg5 harg5 arg6 harg6 arg7 harg7 arg8 harg8 arg9 harg9 arg10 harg10 x0 x1 x2 x3 G6 L6 G7 L7).2.2 ++ st7 i arg2 harg2 arg3 harg3 arg4 harg4 arg5 harg5 arg6 harg6 arg7 harg7 arg8 harg8 arg9 harg9 arg10 harg10 x0 x1 x2 x3 G7 L7))

/-- The keys' gradient after the point. -/
abbrev fin8 (c : Dev nD) (i : grid0.Coords) (arg2 : Memref sig .tc .vmem S8192x256 .bf16) (harg2 : arg2.IsWhole) (arg3 : Memref sig .tc .vmem S8192x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S8192x128 .f32) (harg6 : arg6.IsWhole) (arg7 : Memref sig .tc .vmem S8192x128 .f32) (harg7 : arg7.IsWhole) (arg8 : Memref sig .tc .vmem S512x128 .bf16) (harg8 : arg8.IsWhole) (arg9 : Memref sig .tc .vmem S512x128 .bf16) (harg9 : arg9.IsWhole) (arg10 : Memref sig .tc .vmem S8192x128 .f32) (harg10 : arg10.IsWhole) (x0 x1 : Vec Ideal S8192x256 .bf16) (x2 x3 : Vec Ideal S512x256 .bf16) (G6 : BufTy.Contents (Elt Ideal) arg6.view.ty) (L6 : List (View.Piece (Elt Ideal) S8192x128 .f32)) (G7 : BufTy.Contents (Elt Ideal) arg7.view.ty) (L7 : List (View.Piece (Elt Ideal) S8192x128 .f32)) (G8 : BufTy.Contents (Elt Ideal) arg8.view.ty) : BufTy.Contents (Elt Ideal) arg8.view.ty :=
  arg8.view.writes (Elt Ideal) G8 [⟨Rect.unit (s := S512x128) ![0, 0] S512x128.size inb_S512x128_S512x128_0_0, k0_pay58 (F := Ideal) k0_pay27 (after2 c i arg2 harg2 arg3 harg3 arg4 harg4 arg5 harg5 arg6 harg6 arg7 harg7 arg8 harg8 arg9 harg9 arg10 harg10 x0 x1 x2 x3 G6 L6 G7 L7).1.1 (after2 c i arg2 harg2 arg3 harg3 arg4 harg4 arg5 harg5 arg6 harg6 arg7 harg7 arg8 harg8 arg9 harg9 arg10 harg10 x0 x1 x2 x3 G6 L6 G7 L7).1.2.2.1⟩]

/-- The values' gradient after the point. -/
abbrev fin9 (c : Dev nD) (i : grid0.Coords) (arg2 : Memref sig .tc .vmem S8192x256 .bf16) (harg2 : arg2.IsWhole) (arg3 : Memref sig .tc .vmem S8192x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S8192x128 .f32) (harg6 : arg6.IsWhole) (arg7 : Memref sig .tc .vmem S8192x128 .f32) (harg7 : arg7.IsWhole) (arg8 : Memref sig .tc .vmem S512x128 .bf16) (harg8 : arg8.IsWhole) (arg9 : Memref sig .tc .vmem S512x128 .bf16) (harg9 : arg9.IsWhole) (arg10 : Memref sig .tc .vmem S8192x128 .f32) (harg10 : arg10.IsWhole) (x0 x1 : Vec Ideal S8192x256 .bf16) (x2 x3 : Vec Ideal S512x256 .bf16) (G6 : BufTy.Contents (Elt Ideal) arg6.view.ty) (L6 : List (View.Piece (Elt Ideal) S8192x128 .f32)) (G7 : BufTy.Contents (Elt Ideal) arg7.view.ty) (L7 : List (View.Piece (Elt Ideal) S8192x128 .f32)) (G9 : BufTy.Contents (Elt Ideal) arg9.view.ty) : BufTy.Contents (Elt Ideal) arg9.view.ty :=
  arg9.view.writes (Elt Ideal) G9 [⟨Rect.unit (s := S512x128) ![0, 0] S512x128.size inb_S512x128_S512x128_0_0, k0_pay59 (F := Ideal) k0_pay27 (after2 c i arg2 harg2 arg3 harg3 arg4 harg4 arg5 harg5 arg6 harg6 arg7 harg7 arg8 harg8 arg9 harg9 arg10 harg10 x0 x1 x2 x3 G6 L6 G7 L7).1.2.1 (after2 c i arg2 harg2 arg3 harg3 arg4 harg4 arg5 harg5 arg6 harg6 arg7 harg7 arg8 harg8 arg9 harg9 arg10 harg10 x0 x1 x2 x3 G6 L6 G7 L7).1.2.2.2⟩]

/-- The column sums after the point. -/
abbrev fin10 (c : Dev nD) (i : grid0.Coords) (arg2 : Memref sig .tc .vmem S8192x256 .bf16) (harg2 : arg2.IsWhole) (arg3 : Memref sig .tc .vmem S8192x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S8192x128 .f32) (harg6 : arg6.IsWhole) (arg7 : Memref sig .tc .vmem S8192x128 .f32) (harg7 : arg7.IsWhole) (arg8 : Memref sig .tc .vmem S512x128 .bf16) (harg8 : arg8.IsWhole) (arg9 : Memref sig .tc .vmem S512x128 .bf16) (harg9 : arg9.IsWhole) (arg10 : Memref sig .tc .vmem S8192x128 .f32) (harg10 : arg10.IsWhole) (x0 x1 : Vec Ideal S8192x256 .bf16) (x2 x3 : Vec Ideal S512x256 .bf16) (G6 : BufTy.Contents (Elt Ideal) arg6.view.ty) (L6 : List (View.Piece (Elt Ideal) S8192x128 .f32)) (G7 : BufTy.Contents (Elt Ideal) arg7.view.ty) (L7 : List (View.Piece (Elt Ideal) S8192x128 .f32)) (G10 : BufTy.Contents (Elt Ideal) arg10.view.ty) (L10 : List (View.Piece (Elt Ideal) S8192x128 .f32)) : BufTy.Contents (Elt Ideal) arg10.view.ty :=
  arg10.view.writes (Elt Ideal) G10 (⟨(Rect.unit (s := S8192x128) (k0_off3 i) S512x128.size (k0_off3_inb i)), k0_pay1 (F := Ideal) (BitVec.ofNat 32 (i 0).val) (iota .tc S512x128 32 [1] iota_S512x128_d1_w32) (after2 c i arg2 harg2 arg3 harg3 arg4 harg4 arg5 harg5 arg6 harg6 arg7 harg7 arg8 harg8 arg9 harg9 arg10 harg10 x0 x1 x2 x3 G6 L6 G7 L7).1.1 (after2 c i arg2 harg2 arg3 harg3 arg4 harg4 arg5 harg5 arg6 harg6 arg7 harg7 arg8 harg8 arg9 harg9 arg10 harg10 x0 x1 x2 x3 G6 L6 G7 L7).1.2.2.1
    (View.readAt (Elt Ideal) arg10.view (Rect.unit (s := S8192x128) (k0_off3 i) S512x128.size (k0_off3_inb i)).toLoadRect (arg10.view.writes (Elt Ideal) G10 L10))⟩ :: L10)

end Cert.KernelIdeal.Hand

end
-- ==== Proof.RunA.lean ====
module

public import proofs.«01_k».proof.Proof.Base

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body run at a point of case A: from whole staging buffers, the inputs at `x0` … `x3` and the outputs at `G6` … `G10`,
    to the inputs unchanged and the outputs at the contents the run finds. -/
def bodyRun_A (c : Dev nD) (i : grid0.Coords) (arg2 : Memref sig .tc .vmem S8192x256 .bf16) (harg2 : arg2.IsWhole) (arg3 : Memref sig .tc .vmem S8192x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S8192x128 .f32) (harg6 : arg6.IsWhole) (arg7 : Memref sig .tc .vmem S8192x128 .f32) (harg7 : arg7.IsWhole) (arg8 : Memref sig .tc .vmem S512x128 .bf16) (harg8 : arg8.IsWhole) (arg9 : Memref sig .tc .vmem S512x128 .bf16) (harg9 : arg9.IsWhole) (arg10 : Memref sig .tc .vmem S8192x128 .f32) (harg10 : arg10.IsWhole) (hc0 : newPair i) (hc1 : newRun i)
    (x0 : Vec F S8192x256 .bf16) (x1 : Vec F S8192x256 .bf16) (x2 : Vec F S512x256 .bf16) (x3 : Vec F S512x256 .bf16)
    (G6 : BufTy.Contents (Elt F) arg6.view.ty) (G7 : BufTy.Contents (Elt F) arg7.view.ty) (G8 : BufTy.Contents (Elt F) arg8.view.ty) (G9 : BufTy.Contents (Elt F) arg9.view.ty) (G10 : BufTy.Contents (Elt F) arg10.view.ty) :
    Σ' (C6 : BufTy.Contents (Elt F) arg6.view.ty) (C7 : BufTy.Contents (Elt F) arg7.view.ty) (C8 : BufTy.Contents (Elt F) arg8.view.ty) (C9 : BufTy.Contents (Elt F) arg9.view.ty), { C10 : BufTy.Contents (Elt F) arg10.view.ty // ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (arg6.view.loc (c : Thread nD τ) ↦[arg6.view.set]{fullShare} G6) ∗ (arg7.view.loc (c : Thread nD τ) ↦[arg7.view.set]{fullShare} G7) ∗ (arg8.view.loc (c : Thread nD τ) ↦[arg8.view.set]{fullShare} G8) ∗ (arg9.view.loc (c : Thread nD τ) ↦[arg9.view.set]{fullShare} G9) ∗ (arg10.view.loc (c : Thread nD τ) ↦[arg10.view.set]{fullShare} G10)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (arg6.view.loc (c : Thread nD τ) ↦[arg6.view.set]{fullShare} C6) ∗ (arg7.view.loc (c : Thread nD τ) ↦[arg7.view.set]{fullShare} C7) ∗ (arg8.view.loc (c : Thread nD τ) ↦[arg8.view.set]{fullShare} C8) ∗ (arg9.view.loc (c : Thread nD τ) ↦[arg9.view.set]{fullShare} C9) ∗ (arg10.view.loc (c : Thread nD τ) ↦[arg10.view.set]{fullShare} C10)) -∗ K ⟨⟩))
          ⊢ wp frame (wpE (defs₀ (F := F)) Variants.none c none) E (cc0_attn_bwd i arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0_attn_bwd_eq_skeleton]; unfold cc0_attn_bwd_skel
    simp only [k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, H4, H5, H6, H7, H8, Hk⟩
    obtain rfl := harg2.eq_unread hf0; obtain rfl := harg3.eq_unread hf1; obtain rfl := harg4.eq_unread hf2; obtain rfl := harg5.eq_unread hf3
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexact H4
    isplitl [H5]; · iexact H5
    isplitl [H6]; · iexact H6
    isplitl [H7]; · iexact H7
    iexact H8

end Cert.KernelIdeal.Hand

end
-- ==== Proof.ContA.lean ====
module

public import proofs.«01_k».proof.Proof.Cont
public import proofs.«01_k».proof.Proof.RunA

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI

set_option maxHeartbeats 8000000 in
/-- Case A: what the run leaves in the queries' gradient. -/
theorem runA_6 (c : Dev nD) (i : grid0.Coords) (arg2 : Memref sig .tc .vmem S8192x256 .bf16) (harg2 : arg2.IsWhole) (arg3 : Memref sig .tc .vmem S8192x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S8192x128 .f32) (harg6 : arg6.IsWhole) (arg7 : Memref sig .tc .vmem S8192x128 .f32) (harg7 : arg7.IsWhole) (arg8 : Memref sig .tc .vmem S512x128 .bf16) (harg8 : arg8.IsWhole) (arg9 : Memref sig .tc .vmem S512x128 .bf16) (harg9 : arg9.IsWhole) (arg10 : Memref sig .tc .vmem S8192x128 .f32) (harg10 : arg10.IsWhole) (hc0 : newPair i) (hc1 : newRun i) (x0 x1 : Vec Ideal S8192x256 .bf16) (x2 x3 : Vec Ideal S512x256 .bf16) (G6 : BufTy.Contents (Elt Ideal) arg6.view.ty) (G7 : BufTy.Contents (Elt Ideal) arg7.view.ty) (G8 : BufTy.Contents (Elt Ideal) arg8.view.ty) (G9 : BufTy.Contents (Elt Ideal) arg9.view.ty) (G10 : BufTy.Contents (Elt Ideal) arg10.view.ty) :
    (bodyRun_A (F := Ideal) c i arg2 harg2 arg3 harg3 arg4 harg4 arg5 harg5 arg6 harg6 arg7 harg7 arg8 harg8 arg9 harg9 arg10 harg10 hc0 hc1 x0 x1 x2 x3 G6 G7 G8 G9 G10).1 = fin6 c i arg2 harg2 arg3 harg3 arg4 harg4 arg5 harg5 arg6 harg6 arg7 harg7 arg8 harg8 arg9 harg9 arg10 harg10 x0 x1 x2 x3 arg6.view.junk [⟨Rect.unit (s := S8192x128) ![0, 0] S8192x128.size inb_S8192x128_S8192x128_0_0, k0_pay24 (F := Ideal)⟩] arg7.view.junk [⟨Rect.unit (s := S8192x128) ![0, 0] S8192x128.size inb_S8192x128_S8192x128_0_0, k0_pay25 (F := Ideal)⟩] := by
  unfold bodyRun_A
  dsimp only
  sl_unfold_words
  rfl

set_option maxHeartbeats 8000000 in
/-- Case A: what the run leaves in the row sums. -/
theorem runA_7 (c : Dev nD) (i : grid0.Coords) (arg2 : Memref sig .tc .vmem S8192x256 .bf16) (harg2 : arg2.IsWhole) (arg3 : Memref sig .tc .vmem S8192x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S8192x128 .f32) (harg6 : arg6.IsWhole) (arg7 : Memref sig .tc .vmem S8192x128 .f32) (harg7 : arg7.IsWhole) (arg8 : Memref sig .tc .vmem S512x128 .bf16) (harg8 : arg8.IsWhole) (arg9 : Memref sig .tc .vmem S512x128 .bf16) (harg9 : arg9.IsWhole) (arg10 : Memref sig .tc .vmem S8192x128 .f32) (harg10 : arg10.IsWhole) (hc0 : newPair i) (hc1 : newRun i) (x0 x1 : Vec Ideal S8192x256 .bf16) (x2 x3 : Vec Ideal S512x256 .bf16) (G6 : BufTy.Contents (Elt Ideal) arg6.view.ty) (G7 : BufTy.Contents (Elt Ideal) arg7.view.ty) (G8 : BufTy.Contents (Elt Ideal) arg8.view.ty) (G9 : BufTy.Contents (Elt Ideal) arg9.view.ty) (G10 : BufTy.Contents (Elt Ideal) arg10.view.ty) :
    (bodyRun_A (F := Ideal) c i arg2 harg2 arg3 harg3 arg4 harg4 arg5 harg5 arg6 harg6 arg7 harg7 arg8 harg8 arg9 harg9 arg10 harg10 hc0 hc1 x0 x1 x2 x3 G6 G7 G8 G9 G10).2.1 = fin7 c i arg2 harg2 arg3 harg3 arg4 harg4 arg5 harg5 arg6 harg6 arg7 harg7 arg8 harg8 arg9 harg9 arg10 harg10 x0 x1 x2 x3 arg6.view.junk [⟨Rect.unit (s := S8192x128) ![0, 0] S8192x128.size inb_S8192x128_S8192x128_0_0, k0_pay24 (F := Ideal)⟩] arg7.view.junk [⟨Rect.unit (s := S8192x128) ![0, 0] S8192x128.size inb_S8192x128_S8192x128_0_0, k0_pay25 (F := Ideal)⟩] := by
  unfold bodyRun_A
  dsimp only
  sl_unfold_words
  rfl

set_option maxHeartbeats 8000000 in
/-- Case A: what the run leaves in the keys' gradient. -/
theorem runA_8 (c : Dev nD) (i : grid0.Coords) (arg2 : Memref sig .tc .vmem S8192x256 .bf16) (harg2 : arg2.IsWhole) (arg3 : Memref sig .tc .vmem S8192x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S8192x128 .f32) (harg6 : arg6.IsWhole) (arg7 : Memref sig .tc .vmem S8192x128 .f32) (harg7 : arg7.IsWhole) (arg8 : Memref sig .tc .vmem S512x128 .bf16) (harg8 : arg8.IsWhole) (arg9 : Memref sig .tc .vmem S512x128 .bf16) (harg9 : arg9.IsWhole) (arg10 : Memref sig .tc .vmem S8192x128 .f32) (harg10 : arg10.IsWhole) (hc0 : newPair i) (hc1 : newRun i) (x0 x1 : Vec Ideal S8192x256 .bf16) (x2 x3 : Vec Ideal S512x256 .bf16) (G6 : BufTy.Contents (Elt Ideal) arg6.view.ty) (G7 : BufTy.Contents (Elt Ideal) arg7.view.ty) (G8 : BufTy.Contents (Elt Ideal) arg8.view.ty) (G9 : BufTy.Contents (Elt Ideal) arg9.view.ty) (G10 : BufTy.Contents (Elt Ideal) arg10.view.ty) :
    (bodyRun_A (F := Ideal) c i arg2 harg2 arg3 harg3 arg4 harg4 arg5 harg5 arg6 harg6 arg7 harg7 arg8 harg8 arg9 harg9 arg10 harg10 hc0 hc1 x0 x1 x2 x3 G6 G7 G8 G9 G10).2.2.1 = fin8 c i arg2 harg2 arg3 harg3 arg4 harg4 arg5 harg5 arg6 harg6 arg7 harg7 arg8 harg8 arg9 harg9 arg10 harg10 x0 x1 x2 x3 arg6.view.junk [⟨Rect.unit (s := S8192x128) ![0, 0] S8192x128.size inb_S8192x128_S8192x128_0_0, k0_pay24 (F := Ideal)⟩] arg7.view.junk [⟨Rect.unit (s := S8192x128) ![0, 0] S8192x128.size inb_S8192x128_S8192x128_0_0, k0_pay25 (F := Ideal)⟩] G8 := by
  unfold bodyRun_A
  dsimp only
  sl_unfold_words
  rfl

set_option maxHeartbeats 8000000 in
/-- Case A: what the run leaves in the values' gradient. -/
theorem runA_9 (c : Dev nD) (i : grid0.Coords) (arg2 : Memref sig .tc .vmem S8192x256 .bf16) (harg2 : arg2.IsWhole) (arg3 : Memref sig .tc .vmem S8192x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S8192x128 .f32) (harg6 : arg6.IsWhole) (arg7 : Memref sig .tc .vmem S8192x128 .f32) (harg7 : arg7.IsWhole) (arg8 : Memref sig .tc .vmem S512x128 .bf16) (harg8 : arg8.IsWhole) (arg9 : Memref sig .tc .vmem S512x128 .bf16) (harg9 : arg9.IsWhole) (arg10 : Memref sig .tc .vmem S8192x128 .f32) (harg10 : arg10.IsWhole) (hc0 : newPair i) (hc1 : newRun i) (x0 x1 : Vec Ideal S8192x256 .bf16) (x2 x3 : Vec Ideal S512x256 .bf16) (G6 : BufTy.Contents (Elt Ideal) arg6.view.ty) (G7 : BufTy.Contents (Elt Ideal) arg7.view.ty) (G8 : BufTy.Contents (Elt Ideal) arg8.view.ty) (G9 : BufTy.Contents (Elt Ideal) arg9.view.ty) (G10 : BufTy.Contents (Elt Ideal) arg10.view.ty) :
    (bodyRun_A (F := Ideal) c i arg2 harg2 arg3 harg3 arg4 harg4 arg5 harg5 arg6 harg6 arg7 harg7 arg8 harg8 arg9 harg9 arg10 harg10 hc0 hc1 x0 x1 x2 x3 G6 G7 G8 G9 G10).2.2.2.1 = fin9 c i arg2 harg2 arg3 harg3 arg4 harg4 arg5 harg5 arg6 harg6 arg7 harg7 arg8 harg8 arg9 harg9 arg10 harg10 x0 x1 x2 x3 arg6.view.junk [⟨Rect.unit (s := S8192x128) ![0, 0] S8192x128.size inb_S8192x128_S8192x128_0_0, k0_pay24 (F := Ideal)⟩] arg7.view.junk [⟨Rect.unit (s := S8192x128) ![0, 0] S8192x128.size inb_S8192x128_S8192x128_0_0, k0_pay25 (F := Ideal)⟩] G9 := by
  unfold bodyRun_A
  dsimp only
  sl_unfold_words
  rfl

set_option maxHeartbeats 8000000 in
/-- Case A: what the run leaves in the column sums. -/
theorem runA_10 (c : Dev nD) (i : grid0.Coords) (arg2 : Memref sig .tc .vmem S8192x256 .bf16) (harg2 : arg2.IsWhole) (arg3 : Memref sig .tc .vmem S8192x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S8192x128 .f32) (harg6 : arg6.IsWhole) (arg7 : Memref sig .tc .vmem S8192x128 .f32) (harg7 : arg7.IsWhole) (arg8 : Memref sig .tc .vmem S512x128 .bf16) (harg8 : arg8.IsWhole) (arg9 : Memref sig .tc .vmem S512x128 .bf16) (harg9 : arg9.IsWhole) (arg10 : Memref sig .tc .vmem S8192x128 .f32) (harg10 : arg10.IsWhole) (hc0 : newPair i) (hc1 : newRun i) (x0 x1 : Vec Ideal S8192x256 .bf16) (x2 x3 : Vec Ideal S512x256 .bf16) (G6 : BufTy.Contents (Elt Ideal) arg6.view.ty) (G7 : BufTy.Contents (Elt Ideal) arg7.view.ty) (G8 : BufTy.Contents (Elt Ideal) arg8.view.ty) (G9 : BufTy.Contents (Elt Ideal) arg9.view.ty) (G10 : BufTy.Contents (Elt Ideal) arg10.view.ty) :
    (bodyRun_A (F := Ideal) c i arg2 harg2 arg3 harg3 arg4 harg4 arg5 harg5 arg6 harg6 arg7 harg7 arg8 harg8 arg9 harg9 arg10 harg10 hc0 hc1 x0 x1 x2 x3 G6 G7 G8 G9 G10).2.2.2.2.1 = fin10 c i arg2 harg2 arg3 harg3 arg4 harg4 arg5 harg5 arg6 harg6 arg7 harg7 arg8 harg8 arg9 harg9 arg10 harg10 x0 x1 x2 x3 arg6.view.junk [⟨Rect.unit (s := S8192x128) ![0, 0] S8192x128.size inb_S8192x128_S8192x128_0_0, k0_pay24 (F := Ideal)⟩] arg7.view.junk [⟨Rect.unit (s := S8192x128) ![0, 0] S8192x128.size inb_S8192x128_S8192x128_0_0, k0_pay25 (F := Ideal)⟩] arg10.view.junk [⟨Rect.unit (s := S8192x128) ![0, 0] S8192x128.size inb_S8192x128_S8192x128_0_0, k0_pay26 (F := Ideal)⟩] := by
  unfold bodyRun_A
  dsimp only
  sl_unfold_words
  rfl

end Cert.KernelIdeal.Hand

end
-- ==== Proof.RunB.lean ====
module

public import proofs.«01_k».proof.Proof.Base

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body run at a point of case B: from whole staging buffers, the inputs at `x0` … `x3` and the outputs at `G6` … `G10`,
    to the inputs unchanged and the outputs at the contents the run finds. -/
def bodyRun_B (c : Dev nD) (i : grid0.Coords) (arg2 : Memref sig .tc .vmem S8192x256 .bf16) (harg2 : arg2.IsWhole) (arg3 : Memref sig .tc .vmem S8192x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S8192x128 .f32) (harg6 : arg6.IsWhole) (arg7 : Memref sig .tc .vmem S8192x128 .f32) (harg7 : arg7.IsWhole) (arg8 : Memref sig .tc .vmem S512x128 .bf16) (harg8 : arg8.IsWhole) (arg9 : Memref sig .tc .vmem S512x128 .bf16) (harg9 : arg9.IsWhole) (arg10 : Memref sig .tc .vmem S8192x128 .f32) (harg10 : arg10.IsWhole) (hc0 : ¬newPair i) (hc1 : ¬newRun i)
    (x0 : Vec F S8192x256 .bf16) (x1 : Vec F S8192x256 .bf16) (x2 : Vec F S512x256 .bf16) (x3 : Vec F S512x256 .bf16)
    (G6 : BufTy.Contents (Elt F) arg6.view.ty) (G7 : BufTy.Contents (Elt F) arg7.view.ty) (G8 : BufTy.Contents (Elt F) arg8.view.ty) (G9 : BufTy.Contents (Elt F) arg9.view.ty) (G10 : BufTy.Contents (Elt F) arg10.view.ty) :
    Σ' (C6 : BufTy.Contents (Elt F) arg6.view.ty) (C7 : BufTy.Contents (Elt F) arg7.view.ty) (C8 : BufTy.Contents (Elt F) arg8.view.ty) (C9 : BufTy.Contents (Elt F) arg9.view.ty), { C10 : BufTy.Contents (Elt F) arg10.view.ty // ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (arg6.view.loc (c : Thread nD τ) ↦[arg6.view.set]{fullShare} G6) ∗ (arg7.view.loc (c : Thread nD τ) ↦[arg7.view.set]{fullShare} G7) ∗ (arg8.view.loc (c : Thread nD τ) ↦[arg8.view.set]{fullShare} G8) ∗ (arg9.view.loc (c : Thread nD τ) ↦[arg9.view.set]{fullShare} G9) ∗ (arg10.view.loc (c : Thread nD τ) ↦[arg10.view.set]{fullShare} G10)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (arg6.view.loc (c : Thread nD τ) ↦[arg6.view.set]{fullShare} C6) ∗ (arg7.view.loc (c : Thread nD τ) ↦[arg7.view.set]{fullShare} C7) ∗ (arg8.view.loc (c : Thread nD τ) ↦[arg8.view.set]{fullShare} C8) ∗ (arg9.view.loc (c : Thread nD τ) ↦[arg9.view.set]{fullShare} C9) ∗ (arg10.view.loc (c : Thread nD τ) ↦[arg10.view.set]{fullShare} C10)) -∗ K ⟨⟩))
          ⊢ wp frame (wpE (defs₀ (F := F)) Variants.none c none) E (cc0_attn_bwd i arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0_attn_bwd_eq_skeleton]; unfold cc0_attn_bwd_skel
    simp only [k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, H4, H5, H6, H7, H8, Hk⟩
    obtain rfl := harg2.eq_unread hf0; obtain rfl := harg3.eq_unread hf1; obtain rfl := harg4.eq_unread hf2; obtain rfl := harg5.eq_unread hf3
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexact H4
    isplitl [H5]; · iexact H5
    isplitl [H6]; · iexact H6
    isplitl [H7]; · iexact H7
    iexact H8

end Cert.KernelIdeal.Hand

end
-- ==== Proof.ContB.lean ====
module

public import proofs.«01_k».proof.Proof.Cont
public import proofs.«01_k».proof.Proof.RunB

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI

set_option maxHeartbeats 8000000 in
/-- Case B: what the run leaves in the queries' gradient. -/
theorem runB_6 (c : Dev nD) (i : grid0.Coords) (arg2 : Memref sig .tc .vmem S8192x256 .bf16) (harg2 : arg2.IsWhole) (arg3 : Memref sig .tc .vmem S8192x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S8192x128 .f32) (harg6 : arg6.IsWhole) (arg7 : Memref sig .tc .vmem S8192x128 .f32) (harg7 : arg7.IsWhole) (arg8 : Memref sig .tc .vmem S512x128 .bf16) (harg8 : arg8.IsWhole) (arg9 : Memref sig .tc .vmem S512x128 .bf16) (harg9 : arg9.IsWhole) (arg10 : Memref sig .tc .vmem S8192x128 .f32) (harg10 : arg10.IsWhole) (hc0 : ¬newPair i) (hc1 : ¬newRun i) (x0 x1 : Vec Ideal S8192x256 .bf16) (x2 x3 : Vec Ideal S512x256 .bf16) (G6 : BufTy.Contents (Elt Ideal) arg6.view.ty) (G7 : BufTy.Contents (Elt Ideal) arg7.view.ty) (G8 : BufTy.Contents (Elt Ideal) arg8.view.ty) (G9 : BufTy.Contents (Elt Ideal) arg9.view.ty) (G10 : BufTy.Contents (Elt Ideal) arg10.view.ty) :
    (bodyRun_B (F := Ideal) c i arg2 harg2 arg3 harg3 arg4 harg4 arg5 harg5 arg6 harg6 arg7 harg7 arg8 harg8 arg9 harg9 arg10 harg10 hc0 hc1 x0 x1 x2 x3 G6 G7 G8 G9 G10).1 = fin6 c i arg2 harg2 arg3 harg3 arg4 harg4 arg5 harg5 arg6 harg6 arg7 harg7 arg8 harg8 arg9 harg9 arg10 harg10 x0 x1 x2 x3 G6 [] G7 [] := by
  unfold fin6 after2 after1 st6 st7 diag6 diag7 start
  simp only [View.writes_nil]
  unfold bodyRun_B
  dsimp only
  sl_unfold_words
  rfl

set_option maxHeartbeats 8000000 in
/-- Case B: what the run leaves in the row sums. -/
theorem runB_7 (c : Dev nD) (i : grid0.Coords) (arg2 : Memref sig .tc .vmem S8192x256 .bf16) (harg2 : arg2.IsWhole) (arg3 : Memref sig .tc .vmem S8192x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S8192x128 .f32) (harg6 : arg6.IsWhole) (arg7 : Memref sig .tc .vmem S8192x128 .f32) (harg7 : arg7.IsWhole) (arg8 : Memref sig .tc .vmem S512x128 .bf16) (harg8 : arg8.IsWhole) (arg9 : Memref sig .tc .vmem S512x128 .bf16) (harg9 : arg9.IsWhole) (arg10 : Memref sig .tc .vmem S8192x128 .f32) (harg10 : arg10.IsWhole) (hc0 : ¬newPair i) (hc1 : ¬newRun i) (x0 x1 : Vec Ideal S8192x256 .bf16) (x2 x3 : Vec Ideal S512x256 .bf16) (G6 : BufTy.Contents (Elt Ideal) arg6.view.ty) (G7 : BufTy.Contents (Elt Ideal) arg7.view.ty) (G8 : BufTy.Contents (Elt Ideal) arg8.view.ty) (G9 : BufTy.Contents (Elt Ideal) arg9.view.ty) (G10 : BufTy.Contents (Elt Ideal) arg10.view.ty) :
    (bodyRun_B (F := Ideal) c i arg2 harg2 arg3 harg3 arg4 harg4 arg5 harg5 arg6 harg6 arg7 harg7 arg8 harg8 arg9 harg9 arg10 harg10 hc0 hc1 x0 x1 x2 x3 G6 G7 G8 G9 G10).2.1 = fin7 c i arg2 harg2 arg3 harg3 arg4 harg4 arg5 harg5 arg6 harg6 arg7 harg7 arg8 harg8 arg9 harg9 arg10 harg10 x0 x1 x2 x3 G6 [] G7 [] := by
  unfold fin7 after2 after1 st6 st7 diag6 diag7 start
  simp only [View.writes_nil]
  unfold bodyRun_B
  dsimp only
  sl_unfold_words
  rfl

set_option maxHeartbeats 8000000 in
/-- Case B: what the run leaves in the keys' gradient. -/
theorem runB_8 (c : Dev nD) (i : grid0.Coords) (arg2 : Memref sig .tc .vmem S8192x256 .bf16) (harg2 : arg2.IsWhole) (arg3 : Memref sig .tc .vmem S8192x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S8192x128 .f32) (harg6 : arg6.IsWhole) (arg7 : Memref sig .tc .vmem S8192x128 .f32) (harg7 : arg7.IsWhole) (arg8 : Memref sig .tc .vmem S512x128 .bf16) (harg8 : arg8.IsWhole) (arg9 : Memref sig .tc .vmem S512x128 .bf16) (harg9 : arg9.IsWhole) (arg10 : Memref sig .tc .vmem S8192x128 .f32) (harg10 : arg10.IsWhole) (hc0 : ¬newPair i) (hc1 : ¬newRun i) (x0 x1 : Vec Ideal S8192x256 .bf16) (x2 x3 : Vec Ideal S512x256 .bf16) (G6 : BufTy.Contents (Elt Ideal) arg6.view.ty) (G7 : BufTy.Contents (Elt Ideal) arg7.view.ty) (G8 : BufTy.Contents (Elt Ideal) arg8.view.ty) (G9 : BufTy.Contents (Elt Ideal) arg9.view.ty) (G10 : BufTy.Contents (Elt Ideal) arg10.view.ty) :
    (bodyRun_B (F := Ideal) c i arg2 harg2 arg3 harg3 arg4 harg4 arg5 harg5 arg6 harg6 arg7 harg7 arg8 harg8 arg9 harg9 arg10 harg10 hc0 hc1 x0 x1 x2 x3 G6 G7 G8 G9 G10).2.2.1 = fin8 c i arg2 harg2 arg3 harg3 arg4 harg4 arg5 harg5 arg6 harg6 arg7 harg7 arg8 harg8 arg9 harg9 arg10 harg10 x0 x1 x2 x3 G6 [] G7 [] G8 := by
  unfold fin8 after2 after1 st6 st7 diag6 diag7 start
  simp only [View.writes_nil]
  unfold bodyRun_B
  dsimp only
  sl_unfold_words
  rfl

set_option maxHeartbeats 8000000 in
/-- Case B: what the run leaves in the values' gradient. -/
theorem runB_9 (c : Dev nD) (i : grid0.Coords) (arg2 : Memref sig .tc .vmem S8192x256 .bf16) (harg2 : arg2.IsWhole) (arg3 : Memref sig .tc .vmem S8192x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S8192x128 .f32) (harg6 : arg6.IsWhole) (arg7 : Memref sig .tc .vmem S8192x128 .f32) (harg7 : arg7.IsWhole) (arg8 : Memref sig .tc .vmem S512x128 .bf16) (harg8 : arg8.IsWhole) (arg9 : Memref sig .tc .vmem S512x128 .bf16) (harg9 : arg9.IsWhole) (arg10 : Memref sig .tc .vmem S8192x128 .f32) (harg10 : arg10.IsWhole) (hc0 : ¬newPair i) (hc1 : ¬newRun i) (x0 x1 : Vec Ideal S8192x256 .bf16) (x2 x3 : Vec Ideal S512x256 .bf16) (G6 : BufTy.Contents (Elt Ideal) arg6.view.ty) (G7 : BufTy.Contents (Elt Ideal) arg7.view.ty) (G8 : BufTy.Contents (Elt Ideal) arg8.view.ty) (G9 : BufTy.Contents (Elt Ideal) arg9.view.ty) (G10 : BufTy.Contents (Elt Ideal) arg10.view.ty) :
    (bodyRun_B (F := Ideal) c i arg2 harg2 arg3 harg3 arg4 harg4 arg5 harg5 arg6 harg6 arg7 harg7 arg8 harg8 arg9 harg9 arg10 harg10 hc0 hc1 x0 x1 x2 x3 G6 G7 G8 G9 G10).2.2.2.1 = fin9 c i arg2 harg2 arg3 harg3 arg4 harg4 arg5 harg5 arg6 harg6 arg7 harg7 arg8 harg8 arg9 harg9 arg10 harg10 x0 x1 x2 x3 G6 [] G7 [] G9 := by
  unfold fin9 after2 after1 st6 st7 diag6 diag7 start
  simp only [View.writes_nil]
  unfold bodyRun_B
  dsimp only
  sl_unfold_words
  rfl

set_option maxHeartbeats 8000000 in
/-- Case B: what the run leaves in the column sums. -/
theorem runB_10 (c : Dev nD) (i : grid0.Coords) (arg2 : Memref sig .tc .vmem S8192x256 .bf16) (harg2 : arg2.IsWhole) (arg3 : Memref sig .tc .vmem S8192x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S8192x128 .f32) (harg6 : arg6.IsWhole) (arg7 : Memref sig .tc .vmem S8192x128 .f32) (harg7 : arg7.IsWhole) (arg8 : Memref sig .tc .vmem S512x128 .bf16) (harg8 : arg8.IsWhole) (arg9 : Memref sig .tc .vmem S512x128 .bf16) (harg9 : arg9.IsWhole) (arg10 : Memref sig .tc .vmem S8192x128 .f32) (harg10 : arg10.IsWhole) (hc0 : ¬newPair i) (hc1 : ¬newRun i) (x0 x1 : Vec Ideal S8192x256 .bf16) (x2 x3 : Vec Ideal S512x256 .bf16) (G6 : BufTy.Contents (Elt Ideal) arg6.view.ty) (G7 : BufTy.Contents (Elt Ideal) arg7.view.ty) (G8 : BufTy.Contents (Elt Ideal) arg8.view.ty) (G9 : BufTy.Contents (Elt Ideal) arg9.view.ty) (G10 : BufTy.Contents (Elt Ideal) arg10.view.ty) :
    (bodyRun_B (F := Ideal) c i arg2 harg2 arg3 harg3 arg4 harg4 arg5 harg5 arg6 harg6 arg7 harg7 arg8 harg8 arg9 harg9 arg10 harg10 hc0 hc1 x0 x1 x2 x3 G6 G7 G8 G9 G10).2.2.2.2.1 = fin10 c i arg2 harg2 arg3 harg3 arg4 harg4 arg5 harg5 arg6 harg6 arg7 harg7 arg8 harg8 arg9 harg9 arg10 harg10 x0 x1 x2 x3 G6 [] G7 [] G10 [] := by
  unfold fin10 after2 after1 st6 st7 diag6 diag7 start
  simp only [View.writes_nil]
  unfold bodyRun_B
  dsimp only
  sl_unfold_words
  rfl

end Cert.KernelIdeal.Hand

end
-- ==== Proof.RunC.lean ====
module

public import proofs.«01_k».proof.Proof.Base

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body run at a point of case C: from whole staging buffers, the inputs at `x0` … `x3` and the outputs at `G6` … `G10`,
    to the inputs unchanged and the outputs at the contents the run finds. -/
def bodyRun_C (c : Dev nD) (i : grid0.Coords) (arg2 : Memref sig .tc .vmem S8192x256 .bf16) (harg2 : arg2.IsWhole) (arg3 : Memref sig .tc .vmem S8192x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S8192x128 .f32) (harg6 : arg6.IsWhole) (arg7 : Memref sig .tc .vmem S8192x128 .f32) (harg7 : arg7.IsWhole) (arg8 : Memref sig .tc .vmem S512x128 .bf16) (harg8 : arg8.IsWhole) (arg9 : Memref sig .tc .vmem S512x128 .bf16) (harg9 : arg9.IsWhole) (arg10 : Memref sig .tc .vmem S8192x128 .f32) (harg10 : arg10.IsWhole) (hc0 : newPair i) (hc1 : ¬newRun i)
    (x0 : Vec F S8192x256 .bf16) (x1 : Vec F S8192x256 .bf16) (x2 : Vec F S512x256 .bf16) (x3 : Vec F S512x256 .bf16)
    (G6 : BufTy.Contents (Elt F) arg6.view.ty) (G7 : BufTy.Contents (Elt F) arg7.view.ty) (G8 : BufTy.Contents (Elt F) arg8.view.ty) (G9 : BufTy.Contents (Elt F) arg9.view.ty) (G10 : BufTy.Contents (Elt F) arg10.view.ty) :
    Σ' (C6 : BufTy.Contents (Elt F) arg6.view.ty) (C7 : BufTy.Contents (Elt F) arg7.view.ty) (C8 : BufTy.Contents (Elt F) arg8.view.ty) (C9 : BufTy.Contents (Elt F) arg9.view.ty), { C10 : BufTy.Contents (Elt F) arg10.view.ty // ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (arg6.view.loc (c : Thread nD τ) ↦[arg6.view.set]{fullShare} G6) ∗ (arg7.view.loc (c : Thread nD τ) ↦[arg7.view.set]{fullShare} G7) ∗ (arg8.view.loc (c : Thread nD τ) ↦[arg8.view.set]{fullShare} G8) ∗ (arg9.view.loc (c : Thread nD τ) ↦[arg9.view.set]{fullShare} G9) ∗ (arg10.view.loc (c : Thread nD τ) ↦[arg10.view.set]{fullShare} G10)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (arg6.view.loc (c : Thread nD τ) ↦[arg6.view.set]{fullShare} C6) ∗ (arg7.view.loc (c : Thread nD τ) ↦[arg7.view.set]{fullShare} C7) ∗ (arg8.view.loc (c : Thread nD τ) ↦[arg8.view.set]{fullShare} C8) ∗ (arg9.view.loc (c : Thread nD τ) ↦[arg9.view.set]{fullShare} C9) ∗ (arg10.view.loc (c : Thread nD τ) ↦[arg10.view.set]{fullShare} C10)) -∗ K ⟨⟩))
          ⊢ wp frame (wpE (defs₀ (F := F)) Variants.none c none) E (cc0_attn_bwd i arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0_attn_bwd_eq_skeleton]; unfold cc0_attn_bwd_skel
    simp only [k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, H4, H5, H6, H7, H8, Hk⟩
    obtain rfl := harg2.eq_unread hf0; obtain rfl := harg3.eq_unread hf1; obtain rfl := harg4.eq_unread hf2; obtain rfl := harg5.eq_unread hf3
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexact H4
    isplitl [H5]; · iexact H5
    isplitl [H6]; · iexact H6
    isplitl [H7]; · iexact H7
    iexact H8

end Cert.KernelIdeal.Hand

end
-- ==== Proof.ContC.lean ====
module

public import proofs.«01_k».proof.Proof.Cont
public import proofs.«01_k».proof.Proof.RunC

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI

set_option maxHeartbeats 8000000 in
/-- Case C: what the run leaves in the queries' gradient. -/
theorem runC_6 (c : Dev nD) (i : grid0.Coords) (arg2 : Memref sig .tc .vmem S8192x256 .bf16) (harg2 : arg2.IsWhole) (arg3 : Memref sig .tc .vmem S8192x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S8192x128 .f32) (harg6 : arg6.IsWhole) (arg7 : Memref sig .tc .vmem S8192x128 .f32) (harg7 : arg7.IsWhole) (arg8 : Memref sig .tc .vmem S512x128 .bf16) (harg8 : arg8.IsWhole) (arg9 : Memref sig .tc .vmem S512x128 .bf16) (harg9 : arg9.IsWhole) (arg10 : Memref sig .tc .vmem S8192x128 .f32) (harg10 : arg10.IsWhole) (hc0 : newPair i) (hc1 : ¬newRun i) (x0 x1 : Vec Ideal S8192x256 .bf16) (x2 x3 : Vec Ideal S512x256 .bf16) (G6 : BufTy.Contents (Elt Ideal) arg6.view.ty) (G7 : BufTy.Contents (Elt Ideal) arg7.view.ty) (G8 : BufTy.Contents (Elt Ideal) arg8.view.ty) (G9 : BufTy.Contents (Elt Ideal) arg9.view.ty) (G10 : BufTy.Contents (Elt Ideal) arg10.view.ty) :
    (bodyRun_C (F := Ideal) c i arg2 harg2 arg3 harg3 arg4 harg4 arg5 harg5 arg6 harg6 arg7 harg7 arg8 harg8 arg9 harg9 arg10 harg10 hc0 hc1 x0 x1 x2 x3 G6 G7 G8 G9 G10).1 = fin6 c i arg2 harg2 arg3 harg3 arg4 harg4 arg5 harg5 arg6 harg6 arg7 harg7 arg8 harg8 arg9 harg9 arg10 harg10 x0 x1 x2 x3 arg6.view.junk [⟨Rect.unit (s := S8192x128) ![0, 0] S8192x128.size inb_S8192x128_S8192x128_0_0, k0_pay24 (F := Ideal)⟩] G7 [] := by
  unfold bodyRun_C
  dsimp only
  sl_unfold_words
  rfl

set_option maxHeartbeats 8000000 in
/-- Case C: what the run leaves in the row sums. -/
theorem runC_7 (c : Dev nD) (i : grid0.Coords) (arg2 : Memref sig .tc .vmem S8192x256 .bf16) (harg2 : arg2.IsWhole) (arg3 : Memref sig .tc .vmem S8192x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S8192x128 .f32) (harg6 : arg6.IsWhole) (arg7 : Memref sig .tc .vmem S8192x128 .f32) (harg7 : arg7.IsWhole) (arg8 : Memref sig .tc .vmem S512x128 .bf16) (harg8 : arg8.IsWhole) (arg9 : Memref sig .tc .vmem S512x128 .bf16) (harg9 : arg9.IsWhole) (arg10 : Memref sig .tc .vmem S8192x128 .f32) (harg10 : arg10.IsWhole) (hc0 : newPair i) (hc1 : ¬newRun i) (x0 x1 : Vec Ideal S8192x256 .bf16) (x2 x3 : Vec Ideal S512x256 .bf16) (G6 : BufTy.Contents (Elt Ideal) arg6.view.ty) (G7 : BufTy.Contents (Elt Ideal) arg7.view.ty) (G8 : BufTy.Contents (Elt Ideal) arg8.view.ty) (G9 : BufTy.Contents (Elt Ideal) arg9.view.ty) (G10 : BufTy.Contents (Elt Ideal) arg10.view.ty) :
    (bodyRun_C (F := Ideal) c i arg2 harg2 arg3 harg3 arg4 harg4 arg5 harg5 arg6 harg6 arg7 harg7 arg8 harg8 arg9 harg9 arg10 harg10 hc0 hc1 x0 x1 x2 x3 G6 G7 G8 G9 G10).2.1 = fin7 c i arg2 harg2 arg3 harg3 arg4 harg4 arg5 harg5 arg6 harg6 arg7 harg7 arg8 harg8 arg9 harg9 arg10 harg10 x0 x1 x2 x3 arg6.view.junk [⟨Rect.unit (s := S8192x128) ![0, 0] S8192x128.size inb_S8192x128_S8192x128_0_0, k0_pay24 (F := Ideal)⟩] G7 [] := by
  unfold bodyRun_C
  dsimp only
  sl_unfold_words
  rfl

set_option maxHeartbeats 8000000 in
/-- Case C: what the run leaves in the keys' gradient. -/
theorem runC_8 (c : Dev nD) (i : grid0.Coords) (arg2 : Memref sig .tc .vmem S8192x256 .bf16) (harg2 : arg2.IsWhole) (arg3 : Memref sig .tc .vmem S8192x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S8192x128 .f32) (harg6 : arg6.IsWhole) (arg7 : Memref sig .tc .vmem S8192x128 .f32) (harg7 : arg7.IsWhole) (arg8 : Memref sig .tc .vmem S512x128 .bf16) (harg8 : arg8.IsWhole) (arg9 : Memref sig .tc .vmem S512x128 .bf16) (harg9 : arg9.IsWhole) (arg10 : Memref sig .tc .vmem S8192x128 .f32) (harg10 : arg10.IsWhole) (hc0 : newPair i) (hc1 : ¬newRun i) (x0 x1 : Vec Ideal S8192x256 .bf16) (x2 x3 : Vec Ideal S512x256 .bf16) (G6 : BufTy.Contents (Elt Ideal) arg6.view.ty) (G7 : BufTy.Contents (Elt Ideal) arg7.view.ty) (G8 : BufTy.Contents (Elt Ideal) arg8.view.ty) (G9 : BufTy.Contents (Elt Ideal) arg9.view.ty) (G10 : BufTy.Contents (Elt Ideal) arg10.view.ty) :
    (bodyRun_C (F := Ideal) c i arg2 harg2 arg3 harg3 arg4 harg4 arg5 harg5 arg6 harg6 arg7 harg7 arg8 harg8 arg9 harg9 arg10 harg10 hc0 hc1 x0 x1 x2 x3 G6 G7 G8 G9 G10).2.2.1 = fin8 c i arg2 harg2 arg3 harg3 arg4 harg4 arg5 harg5 arg6 harg6 arg7 harg7 arg8 harg8 arg9 harg9 arg10 harg10 x0 x1 x2 x3 arg6.view.junk [⟨Rect.unit (s := S8192x128) ![0, 0] S8192x128.size inb_S8192x128_S8192x128_0_0, k0_pay24 (F := Ideal)⟩] G7 [] G8 := by
  unfold bodyRun_C
  dsimp only
  sl_unfold_words
  rfl

set_option maxHeartbeats 8000000 in
/-- Case C: what the run leaves in the values' gradient. -/
theorem runC_9 (c : Dev nD) (i : grid0.Coords) (arg2 : Memref sig .tc .vmem S8192x256 .bf16) (harg2 : arg2.IsWhole) (arg3 : Memref sig .tc .vmem S8192x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S8192x128 .f32) (harg6 : arg6.IsWhole) (arg7 : Memref sig .tc .vmem S8192x128 .f32) (harg7 : arg7.IsWhole) (arg8 : Memref sig .tc .vmem S512x128 .bf16) (harg8 : arg8.IsWhole) (arg9 : Memref sig .tc .vmem S512x128 .bf16) (harg9 : arg9.IsWhole) (arg10 : Memref sig .tc .vmem S8192x128 .f32) (harg10 : arg10.IsWhole) (hc0 : newPair i) (hc1 : ¬newRun i) (x0 x1 : Vec Ideal S8192x256 .bf16) (x2 x3 : Vec Ideal S512x256 .bf16) (G6 : BufTy.Contents (Elt Ideal) arg6.view.ty) (G7 : BufTy.Contents (Elt Ideal) arg7.view.ty) (G8 : BufTy.Contents (Elt Ideal) arg8.view.ty) (G9 : BufTy.Contents (Elt Ideal) arg9.view.ty) (G10 : BufTy.Contents (Elt Ideal) arg10.view.ty) :
    (bodyRun_C (F := Ideal) c i arg2 harg2 arg3 harg3 arg4 harg4 arg5 harg5 arg6 harg6 arg7 harg7 arg8 harg8 arg9 harg9 arg10 harg10 hc0 hc1 x0 x1 x2 x3 G6 G7 G8 G9 G10).2.2.2.1 = fin9 c i arg2 harg2 arg3 harg3 arg4 harg4 arg5 harg5 arg6 harg6 arg7 harg7 arg8 harg8 arg9 harg9 arg10 harg10 x0 x1 x2 x3 arg6.view.junk [⟨Rect.unit (s := S8192x128) ![0, 0] S8192x128.size inb_S8192x128_S8192x128_0_0, k0_pay24 (F := Ideal)⟩] G7 [] G9 := by
  unfold bodyRun_C
  dsimp only
  sl_unfold_words
  rfl

set_option maxHeartbeats 8000000 in
/-- Case C: what the run leaves in the column sums. -/
theorem runC_10 (c : Dev nD) (i : grid0.Coords) (arg2 : Memref sig .tc .vmem S8192x256 .bf16) (harg2 : arg2.IsWhole) (arg3 : Memref sig .tc .vmem S8192x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S8192x128 .f32) (harg6 : arg6.IsWhole) (arg7 : Memref sig .tc .vmem S8192x128 .f32) (harg7 : arg7.IsWhole) (arg8 : Memref sig .tc .vmem S512x128 .bf16) (harg8 : arg8.IsWhole) (arg9 : Memref sig .tc .vmem S512x128 .bf16) (harg9 : arg9.IsWhole) (arg10 : Memref sig .tc .vmem S8192x128 .f32) (harg10 : arg10.IsWhole) (hc0 : newPair i) (hc1 : ¬newRun i) (x0 x1 : Vec Ideal S8192x256 .bf16) (x2 x3 : Vec Ideal S512x256 .bf16) (G6 : BufTy.Contents (Elt Ideal) arg6.view.ty) (G7 : BufTy.Contents (Elt Ideal) arg7.view.ty) (G8 : BufTy.Contents (Elt Ideal) arg8.view.ty) (G9 : BufTy.Contents (Elt Ideal) arg9.view.ty) (G10 : BufTy.Contents (Elt Ideal) arg10.view.ty) :
    (bodyRun_C (F := Ideal) c i arg2 harg2 arg3 harg3 arg4 harg4 arg5 harg5 arg6 harg6 arg7 harg7 arg8 harg8 arg9 harg9 arg10 harg10 hc0 hc1 x0 x1 x2 x3 G6 G7 G8 G9 G10).2.2.2.2.1 = fin10 c i arg2 harg2 arg3 harg3 arg4 harg4 arg5 harg5 arg6 harg6 arg7 harg7 arg8 harg8 arg9 harg9 arg10 harg10 x0 x1 x2 x3 arg6.view.junk [⟨Rect.unit (s := S8192x128) ![0, 0] S8192x128.size inb_S8192x128_S8192x128_0_0, k0_pay24 (F := Ideal)⟩] G7 [] G10 [] := by
  unfold bodyRun_C
  dsimp only
  sl_unfold_words
  rfl

end Cert.KernelIdeal.Hand

end
-- ==== Proof.Fin.lean ====
module

public import proofs.«01_k».proof.Proof.Cont
public import Idealize.ShloMosaic.Lib.WritesUnit

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI

/-! ## The contents after a point, read at an index -/

/-- A column tile's gradient of the keys: its diagonal tile's and the later tiles of rows'. -/
def sDk (x0 x1 : S8192x256.Idx → EReal) (x2 x3 : S512x256.Idx → EReal) (j hh r l : ℕ) : EReal :=
  gDk x0 x1 x2 x3 j hh j r l + ∑ n ∈ Finset.range (15 - j), gDk x0 x1 x2 x3 j hh (j + 1 + n) r l

/-- A column tile's gradient of the values. -/
def sDv (x0 x1 : S8192x256.Idx → EReal) (x2 : S512x256.Idx → EReal) (j hh r l : ℕ) : EReal :=
  gDv x0 x1 x2 j hh j r l + ∑ n ∈ Finset.range (15 - j), gDv x0 x1 x2 j hh (j + 1 + n) r l

/-- What the column tile adds to the column sums. -/
def addCs (x0 x1 : S8192x256.Idx → EReal) (x2 x3 : S512x256.Idx → EReal) (j p r l : ℕ) : EReal :=
  (if l = 2 * p then sDk x0 x1 x2 x3 j 0 r 67 else 0) + (if l = 2 * p + 1 then sDk x0 x1 x2 x3 j 1 r 3 else 0)

/-- The diagonal step adds the tile's part to the queries' gradient. -/
theorem diag6_eq (i : grid0.Coords) (arg2 : Memref sig .tc .vmem S8192x256 .bf16) (harg2 : arg2.IsWhole) (arg3 : Memref sig .tc .vmem S8192x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S8192x128 .f32) (harg6 : arg6.IsWhole) (arg7 : Memref sig .tc .vmem S8192x128 .f32) (harg7 : arg7.IsWhole) (arg8 : Memref sig .tc .vmem S512x128 .bf16) (harg8 : arg8.IsWhole) (arg9 : Memref sig .tc .vmem S512x128 .bf16) (harg9 : arg9.IsWhole) (arg10 : Memref sig .tc .vmem S8192x128 .f32) (harg10 : arg10.IsWhole) (x0 x1 : Vec Ideal S8192x256 .bf16) (x2 x3 : Vec Ideal S512x256 .bf16) (g : FVec Ideal S512x128 .f32) (z : S512x128.Idx) :
    (diag6 i arg2 harg2 arg3 harg3 arg4 harg4 arg5 harg5 arg6 harg6 arg7 harg7 arg8 harg8 arg9 harg9 arg10 harg10 x0 x1 x2 x3 g z : EReal) = g z + addDq x0 x1 x2 x3 (i 1).val (512 * (i 1).val + (z 0).val) (z 1).val := by
  unfold diag6
  rw [load_bf16 arg2 harg2 x0 (k0_off1_inb i) (k0_off1_eq i), load_bf16 arg2 harg2 x0 (k0_off2_inb i) (k0_off2_eq i), load_bf16 arg3 harg3 x1 (k0_off1_inb i) (k0_off1_eq i), load_bf16 arg3 harg3 x1 (k0_off2_inb i) (k0_off2_eq i),
    load_bf16 arg4 harg4 x2 inb_S512x256_S512x128_0_0 rfl, load_bf16 arg4 harg4 x2 inb_S512x256_S512x128_0_128 rfl,
    load_bf16 arg5 harg5 x3 inb_S512x256_S512x128_0_0 rfl, load_bf16 arg5 harg5 x3 inb_S512x256_S512x128_0_128 rfl]
  exact pay44_eq x0 x1 x2 x3 (i 1).val g z

/-- The diagonal step adds the tile's part to the row sums. -/
theorem diag7_eq (i : grid0.Coords) (arg2 : Memref sig .tc .vmem S8192x256 .bf16) (harg2 : arg2.IsWhole) (arg3 : Memref sig .tc .vmem S8192x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S8192x128 .f32) (harg6 : arg6.IsWhole) (arg7 : Memref sig .tc .vmem S8192x128 .f32) (harg7 : arg7.IsWhole) (arg8 : Memref sig .tc .vmem S512x128 .bf16) (harg8 : arg8.IsWhole) (arg9 : Memref sig .tc .vmem S512x128 .bf16) (harg9 : arg9.IsWhole) (arg10 : Memref sig .tc .vmem S8192x128 .f32) (harg10 : arg10.IsWhole) (x0 x1 : Vec Ideal S8192x256 .bf16) (x2 x3 : Vec Ideal S512x256 .bf16) (g : FVec Ideal S512x128 .f32) (z : S512x128.Idx) :
    (diag7 i arg2 harg2 arg3 harg3 arg4 harg4 arg5 harg5 arg6 harg6 arg7 harg7 arg8 harg8 arg9 harg9 arg10 harg10 x0 x1 x2 x3 g z : EReal) = g z + addRs x0 x1 x2 x3 (i 1).val (i 0).val (512 * (i 1).val + (z 0).val) (z 1).val := by
  unfold diag7
  rw [load_bf16 arg2 harg2 x0 (k0_off1_inb i) (k0_off1_eq i), load_bf16 arg2 harg2 x0 (k0_off2_inb i) (k0_off2_eq i), load_bf16 arg3 harg3 x1 (k0_off1_inb i) (k0_off1_eq i), load_bf16 arg3 harg3 x1 (k0_off2_inb i) (k0_off2_eq i),
    load_bf16 arg4 harg4 x2 inb_S512x256_S512x128_0_0 rfl, load_bf16 arg4 harg4 x2 inb_S512x256_S512x128_0_128 rfl,
    load_bf16 arg5 harg5 x3 inb_S512x256_S512x128_0_0 rfl, load_bf16 arg5 harg5 x3 inb_S512x256_S512x128_0_128 rfl]
  exact pay45_eq x0 x1 x2 x3 (i 1).val (i 0).val (i 0).isLt g z

/-- The loop starts from the diagonal tile's gradients. -/
theorem start_eq (i : grid0.Coords) (arg2 : Memref sig .tc .vmem S8192x256 .bf16) (harg2 : arg2.IsWhole) (arg3 : Memref sig .tc .vmem S8192x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S8192x128 .f32) (harg6 : arg6.IsWhole) (arg7 : Memref sig .tc .vmem S8192x128 .f32) (harg7 : arg7.IsWhole) (arg8 : Memref sig .tc .vmem S512x128 .bf16) (harg8 : arg8.IsWhole) (arg9 : Memref sig .tc .vmem S512x128 .bf16) (harg9 : arg9.IsWhole) (arg10 : Memref sig .tc .vmem S8192x128 .f32) (harg10 : arg10.IsWhole) (x0 x1 : Vec Ideal S8192x256 .bf16) (x2 x3 : Vec Ideal S512x256 .bf16) (z : S512x128.Idx) :
    ((start i arg2 harg2 arg3 harg3 arg4 harg4 arg5 harg5 arg6 harg6 arg7 harg7 arg8 harg8 arg9 harg9 arg10 harg10 x0 x1 x2 x3).1 z : EReal) = gDk x0 x1 x2 x3 (i 1).val 0 (i 1).val (z 0).val (z 1).val
    ∧ ((start i arg2 harg2 arg3 harg3 arg4 harg4 arg5 harg5 arg6 harg6 arg7 harg7 arg8 harg8 arg9 harg9 arg10 harg10 x0 x1 x2 x3).2.1 z : EReal) = gDv x0 x1 x2 (i 1).val 0 (i 1).val (z 0).val (z 1).val
    ∧ ((start i arg2 harg2 arg3 harg3 arg4 harg4 arg5 harg5 arg6 harg6 arg7 harg7 arg8 harg8 arg9 harg9 arg10 harg10 x0 x1 x2 x3).2.2.1 z : EReal) = gDk x0 x1 x2 x3 (i 1).val 1 (i 1).val (z 0).val (z 1).val
    ∧ ((start i arg2 harg2 arg3 harg3 arg4 harg4 arg5 harg5 arg6 harg6 arg7 harg7 arg8 harg8 arg9 harg9 arg10 harg10 x0 x1 x2 x3).2.2.2 z : EReal) = gDv x0 x1 x2 (i 1).val 1 (i 1).val (z 0).val (z 1).val := by
  unfold start
  dsimp only
  rw [load_bf16 arg2 harg2 x0 (k0_off1_inb i) (k0_off1_eq i), load_bf16 arg2 harg2 x0 (k0_off2_inb i) (k0_off2_eq i), load_bf16 arg3 harg3 x1 (k0_off1_inb i) (k0_off1_eq i), load_bf16 arg3 harg3 x1 (k0_off2_inb i) (k0_off2_eq i),
    load_bf16 arg4 harg4 x2 inb_S512x256_S512x128_0_0 rfl, load_bf16 arg4 harg4 x2 inb_S512x256_S512x128_0_128 rfl,
    load_bf16 arg5 harg5 x3 inb_S512x256_S512x128_0_0 rfl, load_bf16 arg5 harg5 x3 inb_S512x256_S512x128_0_128 rfl]
  exact ⟨pay35_eq x0 x1 x2 x3 _ z, pay36_eq x0 x1 x2 _ z, pay42_eq x0 x1 x2 x3 _ z, pay43_eq x0 x1 x2 _ z⟩

/-- The carried gradients after the loops. -/
theorem after2_carry (c : Dev nD) (i : grid0.Coords) (arg2 : Memref sig .tc .vmem S8192x256 .bf16) (harg2 : arg2.IsWhole) (arg3 : Memref sig .tc .vmem S8192x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S8192x128 .f32) (harg6 : arg6.IsWhole) (arg7 : Memref sig .tc .vmem S8192x128 .f32) (harg7 : arg7.IsWhole) (arg8 : Memref sig .tc .vmem S512x128 .bf16) (harg8 : arg8.IsWhole) (arg9 : Memref sig .tc .vmem S512x128 .bf16) (harg9 : arg9.IsWhole) (arg10 : Memref sig .tc .vmem S8192x128 .f32) (harg10 : arg10.IsWhole) (x0 x1 : Vec Ideal S8192x256 .bf16) (x2 x3 : Vec Ideal S512x256 .bf16) (G6 : BufTy.Contents (Elt Ideal) arg6.view.ty) (L6 : List (View.Piece (Elt Ideal) S8192x128 .f32)) (G7 : BufTy.Contents (Elt Ideal) arg7.view.ty) (L7 : List (View.Piece (Elt Ideal) S8192x128 .f32)) (z : S512x128.Idx) :
    ((after2 c i arg2 harg2 arg3 harg3 arg4 harg4 arg5 harg5 arg6 harg6 arg7 harg7 arg8 harg8 arg9 harg9 arg10 harg10 x0 x1 x2 x3 G6 L6 G7 L7).1.1 z : EReal) = sDk x0 x1 x2 x3 (i 1).val 0 (z 0).val (z 1).val
    ∧ ((after2 c i arg2 harg2 arg3 harg3 arg4 harg4 arg5 harg5 arg6 harg6 arg7 harg7 arg8 harg8 arg9 harg9 arg10 harg10 x0 x1 x2 x3 G6 L6 G7 L7).1.2.1 z : EReal) = sDv x0 x1 x2 (i 1).val 0 (z 0).val (z 1).val
    ∧ ((after2 c i arg2 harg2 arg3 harg3 arg4 harg4 arg5 harg5 arg6 harg6 arg7 harg7 arg8 harg8 arg9 harg9 arg10 harg10 x0 x1 x2 x3 G6 L6 G7 L7).1.2.2.1 z : EReal) = sDk x0 x1 x2 x3 (i 1).val 1 (z 0).val (z 1).val
    ∧ ((after2 c i arg2 harg2 arg3 harg3 arg4 harg4 arg5 harg5 arg6 harg6 arg7 harg7 arg8 harg8 arg9 harg9 arg10 harg10 x0 x1 x2 x3 G6 L6 G7 L7).1.2.2.2 z : EReal) = sDv x0 x1 x2 (i 1).val 1 (z 0).val (z 1).val := by
  rw [after2_eq]
  dsimp only
  unfold after1
  rw [trips_t1]
  obtain ⟨h1, h2, h3, h4, -, -⟩ := loop_eq Variants.none c none i arg2 harg2 arg3 harg3 arg4 harg4 arg5 harg5 arg6 harg6 arg7 harg7 arg8 harg8 arg9 harg9 arg10 harg10 (BitVec.ofNat 32 (i 1).val) (Scalar.muli (BitVec.ofNat 32 (i 1).val) 512#32) (k0_pay34 (k0_pay32 (View.readAt (Elt Ideal) arg2.view (Rect.unit (s := S8192x256) (k0_off1 i) S512x128.size (k0_off1_inb i)).toLoadRect (harg2.unread x0)) (View.readAt (Elt Ideal) arg3.view (Rect.unit (s := S8192x256) (k0_off1 i) S512x128.size (k0_off1_inb i)).toLoadRect (harg3.unread x1)) (View.readAt (Elt Ideal) arg4.view (Rect.unit (s := S512x256) ![0, 0] S512x128.size inb_S512x256_S512x128_0_0).toLoadRect (harg4.unread x2)) (View.readAt (Elt Ideal) arg5.view (Rect.unit (s := S512x256) ![0, 0] S512x128.size inb_S512x256_S512x128_0_0).toLoadRect (harg5.unread x3))) (k0_pay33 (View.readAt (Elt Ideal) arg4.view (Rect.unit (s := S512x256) ![0, 0] S512x128.size inb_S512x256_S512x128_0_0).toLoadRect (harg4.unread x2))) (constant (F := Ideal) S512x128 .f32 0#32)) (k0_pay35 k0_pay28 (k0_pay29 (View.readAt (Elt Ideal) arg2.view (Rect.unit (s := S8192x256) (k0_off1 i) S512x128.size (k0_off1_inb i)).toLoadRect (harg2.unread x0))) (k0_pay32 (View.readAt (Elt Ideal) arg2.view (Rect.unit (s := S8192x256) (k0_off1 i) S512x128.size (k0_off1_inb i)).toLoadRect (harg2.unread x0)) (View.readAt (Elt Ideal) arg3.view (Rect.unit (s := S8192x256) (k0_off1 i) S512x128.size (k0_off1_inb i)).toLoadRect (harg3.unread x1)) (View.readAt (Elt Ideal) arg4.view (Rect.unit (s := S512x256) ![0, 0] S512x128.size inb_S512x256_S512x128_0_0).toLoadRect (harg4.unread x2)) (View.readAt (Elt Ideal) arg5.view (Rect.unit (s := S512x256) ![0, 0] S512x128.size inb_S512x256_S512x128_0_0).toLoadRect (harg5.unread x3)))) (k0_pay36 k0_pay28 (k0_pay30 (View.readAt (Elt Ideal) arg3.view (Rect.unit (s := S8192x256) (k0_off1 i) S512x128.size (k0_off1_inb i)).toLoadRect (harg3.unread x1))) (k0_pay31 (View.readAt (Elt Ideal) arg2.view (Rect.unit (s := S8192x256) (k0_off1 i) S512x128.size (k0_off1_inb i)).toLoadRect (harg2.unread x0)) (View.readAt (Elt Ideal) arg4.view (Rect.unit (s := S512x256) ![0, 0] S512x128.size inb_S512x256_S512x128_0_0).toLoadRect (harg4.unread x2)))) (k0_pay41 (iota .tc S512x512 32 [0] iota_S512x512_d0_w32) (iota .tc S512x512 32 [1] iota_S512x512_d1_w32) (View.readAt (Elt Ideal) arg2.view (Rect.unit (s := S8192x256) (k0_off2 i) S512x128.size (k0_off2_inb i)).toLoadRect (harg2.unread x0)) (View.readAt (Elt Ideal) arg3.view (Rect.unit (s := S8192x256) (k0_off2 i) S512x128.size (k0_off2_inb i)).toLoadRect (harg3.unread x1)) (View.readAt (Elt Ideal) arg4.view (Rect.unit (s := S512x256) ![0, 128] S512x128.size inb_S512x256_S512x128_0_128).toLoadRect (harg4.unread x2)) (View.readAt (Elt Ideal) arg5.view (Rect.unit (s := S512x256) ![0, 128] S512x128.size inb_S512x256_S512x128_0_128).toLoadRect (harg5.unread x3)) (View.readAt (Elt Ideal) arg4.view (Rect.unit (s := S512x256) ![0, 128] S512x128.size inb_S512x256_S512x128_0_128).toLoadRect (harg4.unread x2))) (k0_pay42 (iota .tc S512x512 32 [0] iota_S512x512_d0_w32) (iota .tc S512x512 32 [1] iota_S512x512_d1_w32) k0_pay28 (View.readAt (Elt Ideal) arg2.view (Rect.unit (s := S8192x256) (k0_off2 i) S512x128.size (k0_off2_inb i)).toLoadRect (harg2.unread x0)) (View.readAt (Elt Ideal) arg3.view (Rect.unit (s := S8192x256) (k0_off2 i) S512x128.size (k0_off2_inb i)).toLoadRect (harg3.unread x1)) (View.readAt (Elt Ideal) arg4.view (Rect.unit (s := S512x256) ![0, 128] S512x128.size inb_S512x256_S512x128_0_128).toLoadRect (harg4.unread x2)) (View.readAt (Elt Ideal) arg5.view (Rect.unit (s := S512x256) ![0, 128] S512x128.size inb_S512x256_S512x128_0_128).toLoadRect (harg5.unread x3))) (k0_pay43 (iota .tc S512x512 32 [0] iota_S512x512_d0_w32) (iota .tc S512x512 32 [1] iota_S512x512_d1_w32) k0_pay28 (View.readAt (Elt Ideal) arg2.view (Rect.unit (s := S8192x256) (k0_off2 i) S512x128.size (k0_off2_inb i)).toLoadRect (harg2.unread x0)) (View.readAt (Elt Ideal) arg3.view (Rect.unit (s := S8192x256) (k0_off2 i) S512x128.size (k0_off2_inb i)).toLoadRect (harg3.unread x1)) (View.readAt (Elt Ideal) arg4.view (Rect.unit (s := S512x256) ![0, 128] S512x128.size inb_S512x256_S512x128_0_128).toLoadRect (harg4.unread x2))) (Scalar.addi (BitVec.ofNat 32 (i 1).val) 1#32) x0 x1 x2 x3 (arg6.view.writes (Elt Ideal) G6 (st6 i arg2 harg2 arg3 harg3 arg4 harg4 arg5 harg5 arg6 harg6 arg7 harg7 arg8 harg8 arg9 harg9 arg10 harg10 x0 x1 x2 x3 G6 L6)) (arg7.view.writes (Elt Ideal) G7 (st7 i arg2 harg2 arg3 harg3 arg4 harg4 arg5 harg5 arg6 harg6 arg7 harg7 arg8 harg8 arg9 harg9 arg10 harg10 x0 x1 x2 x3 G7 L7)) (start i arg2 harg2 arg3 harg3 arg4 harg4 arg5 harg5 arg6 harg6 arg7 harg7 arg8 harg8 arg9 harg9 arg10 harg10 x0 x1 x2 x3) (15 - (i 1).val) le_rfl
  obtain ⟨s1, s2, s3, s4⟩ := start_eq i arg2 harg2 arg3 harg3 arg4 harg4 arg5 harg5 arg6 harg6 arg7 harg7 arg8 harg8 arg9 harg9 arg10 harg10 x0 x1 x2 x3 z
  refine ⟨(h1 z).trans ?_, (h2 z).trans ?_, (h3 z).trans ?_, (h4 z).trans ?_⟩
  · rw [s1]; rfl
  · rw [s2]; rfl
  · rw [s3]; rfl
  · rw [s4]; rfl

/-- The queries' gradient after the point: what it held plus what the column tile adds. -/
theorem fin6_eq (c : Dev nD) (i : grid0.Coords) (arg2 : Memref sig .tc .vmem S8192x256 .bf16) (harg2 : arg2.IsWhole) (arg3 : Memref sig .tc .vmem S8192x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S8192x128 .f32) (harg6 : arg6.IsWhole) (arg7 : Memref sig .tc .vmem S8192x128 .f32) (harg7 : arg7.IsWhole) (arg8 : Memref sig .tc .vmem S512x128 .bf16) (harg8 : arg8.IsWhole) (arg9 : Memref sig .tc .vmem S512x128 .bf16) (harg9 : arg9.IsWhole) (arg10 : Memref sig .tc .vmem S8192x128 .f32) (harg10 : arg10.IsWhole) (x0 x1 : Vec Ideal S8192x256 .bf16) (x2 x3 : Vec Ideal S512x256 .bf16) (G6 : BufTy.Contents (Elt Ideal) arg6.view.ty) (L6 : List (View.Piece (Elt Ideal) S8192x128 .f32)) (G7 : BufTy.Contents (Elt Ideal) arg7.view.ty) (L7 : List (View.Piece (Elt Ideal) S8192x128 .f32)) (y : S8192x128.Idx) :
    (arg6.view.read (Elt Ideal) (fin6 c i arg2 harg2 arg3 harg3 arg4 harg4 arg5 harg5 arg6 harg6 arg7 harg7 arg8 harg8 arg9 harg9 arg10 harg10 x0 x1 x2 x3 G6 L6 G7 L7) y : EReal)
      = arg6.view.read (Elt Ideal) (arg6.view.writes (Elt Ideal) G6 L6) y + addDq x0 x1 x2 x3 (i 1).val (y 0).val (y 1).val := by
  have hj : (i 1).val < 16 := (i 1).isLt
  have hy : (y 0).val < 8192 := (y 0).isLt
  unfold fin6
  rw [after2_eq, List.nil_append, View.writes_append]
  unfold after1
  rw [trips_t1]
  obtain ⟨-, -, -, -, h5, -⟩ := loop_eq Variants.none c none i arg2 harg2 arg3 harg3 arg4 harg4 arg5 harg5 arg6 harg6 arg7 harg7 arg8 harg8 arg9 harg9 arg10 harg10 (BitVec.ofNat 32 (i 1).val) (Scalar.muli (BitVec.ofNat 32 (i 1).val) 512#32) (k0_pay34 (k0_pay32 (View.readAt (Elt Ideal) arg2.view (Rect.unit (s := S8192x256) (k0_off1 i) S512x128.size (k0_off1_inb i)).toLoadRect (harg2.unread x0)) (View.readAt (Elt Ideal) arg3.view (Rect.unit (s := S8192x256) (k0_off1 i) S512x128.size (k0_off1_inb i)).toLoadRect (harg3.unread x1)) (View.readAt (Elt Ideal) arg4.view (Rect.unit (s := S512x256) ![0, 0] S512x128.size inb_S512x256_S512x128_0_0).toLoadRect (harg4.unread x2)) (View.readAt (Elt Ideal) arg5.view (Rect.unit (s := S512x256) ![0, 0] S512x128.size inb_S512x256_S512x128_0_0).toLoadRect (harg5.unread x3))) (k0_pay33 (View.readAt (Elt Ideal) arg4.view (Rect.unit (s := S512x256) ![0, 0] S512x128.size inb_S512x256_S512x128_0_0).toLoadRect (harg4.unread x2))) (constant (F := Ideal) S512x128 .f32 0#32)) (k0_pay35 k0_pay28 (k0_pay29 (View.readAt (Elt Ideal) arg2.view (Rect.unit (s := S8192x256) (k0_off1 i) S512x128.size (k0_off1_inb i)).toLoadRect (harg2.unread x0))) (k0_pay32 (View.readAt (Elt Ideal) arg2.view (Rect.unit (s := S8192x256) (k0_off1 i) S512x128.size (k0_off1_inb i)).toLoadRect (harg2.unread x0)) (View.readAt (Elt Ideal) arg3.view (Rect.unit (s := S8192x256) (k0_off1 i) S512x128.size (k0_off1_inb i)).toLoadRect (harg3.unread x1)) (View.readAt (Elt Ideal) arg4.view (Rect.unit (s := S512x256) ![0, 0] S512x128.size inb_S512x256_S512x128_0_0).toLoadRect (harg4.unread x2)) (View.readAt (Elt Ideal) arg5.view (Rect.unit (s := S512x256) ![0, 0] S512x128.size inb_S512x256_S512x128_0_0).toLoadRect (harg5.unread x3)))) (k0_pay36 k0_pay28 (k0_pay30 (View.readAt (Elt Ideal) arg3.view (Rect.unit (s := S8192x256) (k0_off1 i) S512x128.size (k0_off1_inb i)).toLoadRect (harg3.unread x1))) (k0_pay31 (View.readAt (Elt Ideal) arg2.view (Rect.unit (s := S8192x256) (k0_off1 i) S512x128.size (k0_off1_inb i)).toLoadRect (harg2.unread x0)) (View.readAt (Elt Ideal) arg4.view (Rect.unit (s := S512x256) ![0, 0] S512x128.size inb_S512x256_S512x128_0_0).toLoadRect (harg4.unread x2)))) (k0_pay41 (iota .tc S512x512 32 [0] iota_S512x512_d0_w32) (iota .tc S512x512 32 [1] iota_S512x512_d1_w32) (View.readAt (Elt Ideal) arg2.view (Rect.unit (s := S8192x256) (k0_off2 i) S512x128.size (k0_off2_inb i)).toLoadRect (harg2.unread x0)) (View.readAt (Elt Ideal) arg3.view (Rect.unit (s := S8192x256) (k0_off2 i) S512x128.size (k0_off2_inb i)).toLoadRect (harg3.unread x1)) (View.readAt (Elt Ideal) arg4.view (Rect.unit (s := S512x256) ![0, 128] S512x128.size inb_S512x256_S512x128_0_128).toLoadRect (harg4.unread x2)) (View.readAt (Elt Ideal) arg5.view (Rect.unit (s := S512x256) ![0, 128] S512x128.size inb_S512x256_S512x128_0_128).toLoadRect (harg5.unread x3)) (View.readAt (Elt Ideal) arg4.view (Rect.unit (s := S512x256) ![0, 128] S512x128.size inb_S512x256_S512x128_0_128).toLoadRect (harg4.unread x2))) (k0_pay42 (iota .tc S512x512 32 [0] iota_S512x512_d0_w32) (iota .tc S512x512 32 [1] iota_S512x512_d1_w32) k0_pay28 (View.readAt (Elt Ideal) arg2.view (Rect.unit (s := S8192x256) (k0_off2 i) S512x128.size (k0_off2_inb i)).toLoadRect (harg2.unread x0)) (View.readAt (Elt Ideal) arg3.view (Rect.unit (s := S8192x256) (k0_off2 i) S512x128.size (k0_off2_inb i)).toLoadRect (harg3.unread x1)) (View.readAt (Elt Ideal) arg4.view (Rect.unit (s := S512x256) ![0, 128] S512x128.size inb_S512x256_S512x128_0_128).toLoadRect (harg4.unread x2)) (View.readAt (Elt Ideal) arg5.view (Rect.unit (s := S512x256) ![0, 128] S512x128.size inb_S512x256_S512x128_0_128).toLoadRect (harg5.unread x3))) (k0_pay43 (iota .tc S512x512 32 [0] iota_S512x512_d0_w32) (iota .tc S512x512 32 [1] iota_S512x512_d1_w32) k0_pay28 (View.readAt (Elt Ideal) arg2.view (Rect.unit (s := S8192x256) (k0_off2 i) S512x128.size (k0_off2_inb i)).toLoadRect (harg2.unread x0)) (View.readAt (Elt Ideal) arg3.view (Rect.unit (s := S8192x256) (k0_off2 i) S512x128.size (k0_off2_inb i)).toLoadRect (harg3.unread x1)) (View.readAt (Elt Ideal) arg4.view (Rect.unit (s := S512x256) ![0, 128] S512x128.size inb_S512x256_S512x128_0_128).toLoadRect (harg4.unread x2))) (Scalar.addi (BitVec.ofNat 32 (i 1).val) 1#32) x0 x1 x2 x3 (arg6.view.writes (Elt Ideal) G6 (st6 i arg2 harg2 arg3 harg3 arg4 harg4 arg5 harg5 arg6 harg6 arg7 harg7 arg8 harg8 arg9 harg9 arg10 harg10 x0 x1 x2 x3 G6 L6)) (arg7.view.writes (Elt Ideal) G7 (st7 i arg2 harg2 arg3 harg3 arg4 harg4 arg5 harg5 arg6 harg6 arg7 harg7 arg8 harg8 arg9 harg9 arg10 harg10 x0 x1 x2 x3 G7 L7)) (start i arg2 harg2 arg3 harg3 arg4 harg4 arg5 harg5 arg6 harg6 arg7 harg7 arg8 harg8 arg9 harg9 arg10 harg10 x0 x1 x2 x3) (15 - (i 1).val) le_rfl
  refine (h5 y).trans ?_
  have e := read_upd arg6.view G6 L6 (k0_off3_inb i) (k0_off3_eq i) (diag6 i arg2 harg2 arg3 harg3 arg4 harg4 arg5 harg5 arg6 harg6 arg7 harg7 arg8 harg8 arg9 harg9 arg10 harg10 x0 x1 x2 x3 (View.readAt (Elt Ideal) arg6.view (Rect.unit (s := S8192x128) (k0_off3 i) S512x128.size (k0_off3_inb i)).toLoadRect (arg6.view.writes (Elt Ideal) G6 L6)))
    (addDq x0 x1 x2 x3 (i 1).val) (fun z => by rw [diag6_eq, load_f32 arg6.view _ (k0_off3_inb i) (k0_off3_eq i)]) y
  refine (congrArg (· + _) e).trans ?_
  rw [add_assoc]
  refine congrArg (_ + ·) ?_
  by_cases hlt : (y 0).val < 512 * (i 1).val
  · rw [if_neg (by omega), if_neg (by omega), addDq_above _ _ _ _ _ _ _ hlt, add_zero]
  · by_cases hm : (y 0).val < 512 * (i 1).val + 512
    · rw [if_pos (by omega), if_neg (by omega), add_zero]
    · rw [if_neg (by omega), if_pos (by omega), zero_add]

/-- The row sums after the point: what they held plus what the column tile adds. -/
theorem fin7_eq (c : Dev nD) (i : grid0.Coords) (arg2 : Memref sig .tc .vmem S8192x256 .bf16) (harg2 : arg2.IsWhole) (arg3 : Memref sig .tc .vmem S8192x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S8192x128 .f32) (harg6 : arg6.IsWhole) (arg7 : Memref sig .tc .vmem S8192x128 .f32) (harg7 : arg7.IsWhole) (arg8 : Memref sig .tc .vmem S512x128 .bf16) (harg8 : arg8.IsWhole) (arg9 : Memref sig .tc .vmem S512x128 .bf16) (harg9 : arg9.IsWhole) (arg10 : Memref sig .tc .vmem S8192x128 .f32) (harg10 : arg10.IsWhole) (x0 x1 : Vec Ideal S8192x256 .bf16) (x2 x3 : Vec Ideal S512x256 .bf16) (G6 : BufTy.Contents (Elt Ideal) arg6.view.ty) (L6 : List (View.Piece (Elt Ideal) S8192x128 .f32)) (G7 : BufTy.Contents (Elt Ideal) arg7.view.ty) (L7 : List (View.Piece (Elt Ideal) S8192x128 .f32)) (y : S8192x128.Idx) :
    (arg7.view.read (Elt Ideal) (fin7 c i arg2 harg2 arg3 harg3 arg4 harg4 arg5 harg5 arg6 harg6 arg7 harg7 arg8 harg8 arg9 harg9 arg10 harg10 x0 x1 x2 x3 G6 L6 G7 L7) y : EReal)
      = arg7.view.read (Elt Ideal) (arg7.view.writes (Elt Ideal) G7 L7) y + addRs x0 x1 x2 x3 (i 1).val (i 0).val (y 0).val (y 1).val := by
  have hj : (i 1).val < 16 := (i 1).isLt
  have hy : (y 0).val < 8192 := (y 0).isLt
  unfold fin7
  rw [after2_eq, List.nil_append, View.writes_append]
  unfold after1
  rw [trips_t1]
  obtain ⟨-, -, -, -, -, h6⟩ := loop_eq Variants.none c none i arg2 harg2 arg3 harg3 arg4 harg4 arg5 harg5 arg6 harg6 arg7 harg7 arg8 harg8 arg9 harg9 arg10 harg10 (BitVec.ofNat 32 (i 1).val) (Scalar.muli (BitVec.ofNat 32 (i 1).val) 512#32) (k0_pay34 (k0_pay32 (View.readAt (Elt Ideal) arg2.view (Rect.unit (s := S8192x256) (k0_off1 i) S512x128.size (k0_off1_inb i)).toLoadRect (harg2.unread x0)) (View.readAt (Elt Ideal) arg3.view (Rect.unit (s := S8192x256) (k0_off1 i) S512x128.size (k0_off1_inb i)).toLoadRect (harg3.unread x1)) (View.readAt (Elt Ideal) arg4.view (Rect.unit (s := S512x256) ![0, 0] S512x128.size inb_S512x256_S512x128_0_0).toLoadRect (harg4.unread x2)) (View.readAt (Elt Ideal) arg5.view (Rect.unit (s := S512x256) ![0, 0] S512x128.size inb_S512x256_S512x128_0_0).toLoadRect (harg5.unread x3))) (k0_pay33 (View.readAt (Elt Ideal) arg4.view (Rect.unit (s := S512x256) ![0, 0] S512x128.size inb_S512x256_S512x128_0_0).toLoadRect (harg4.unread x2))) (constant (F := Ideal) S512x128 .f32 0#32)) (k0_pay35 k0_pay28 (k0_pay29 (View.readAt (Elt Ideal) arg2.view (Rect.unit (s := S8192x256) (k0_off1 i) S512x128.size (k0_off1_inb i)).toLoadRect (harg2.unread x0))) (k0_pay32 (View.readAt (Elt Ideal) arg2.view (Rect.unit (s := S8192x256) (k0_off1 i) S512x128.size (k0_off1_inb i)).toLoadRect (harg2.unread x0)) (View.readAt (Elt Ideal) arg3.view (Rect.unit (s := S8192x256) (k0_off1 i) S512x128.size (k0_off1_inb i)).toLoadRect (harg3.unread x1)) (View.readAt (Elt Ideal) arg4.view (Rect.unit (s := S512x256) ![0, 0] S512x128.size inb_S512x256_S512x128_0_0).toLoadRect (harg4.unread x2)) (View.readAt (Elt Ideal) arg5.view (Rect.unit (s := S512x256) ![0, 0] S512x128.size inb_S512x256_S512x128_0_0).toLoadRect (harg5.unread x3)))) (k0_pay36 k0_pay28 (k0_pay30 (View.readAt (Elt Ideal) arg3.view (Rect.unit (s := S8192x256) (k0_off1 i) S512x128.size (k0_off1_inb i)).toLoadRect (harg3.unread x1))) (k0_pay31 (View.readAt (Elt Ideal) arg2.view (Rect.unit (s := S8192x256) (k0_off1 i) S512x128.size (k0_off1_inb i)).toLoadRect (harg2.unread x0)) (View.readAt (Elt Ideal) arg4.view (Rect.unit (s := S512x256) ![0, 0] S512x128.size inb_S512x256_S512x128_0_0).toLoadRect (harg4.unread x2)))) (k0_pay41 (iota .tc S512x512 32 [0] iota_S512x512_d0_w32) (iota .tc S512x512 32 [1] iota_S512x512_d1_w32) (View.readAt (Elt Ideal) arg2.view (Rect.unit (s := S8192x256) (k0_off2 i) S512x128.size (k0_off2_inb i)).toLoadRect (harg2.unread x0)) (View.readAt (Elt Ideal) arg3.view (Rect.unit (s := S8192x256) (k0_off2 i) S512x128.size (k0_off2_inb i)).toLoadRect (harg3.unread x1)) (View.readAt (Elt Ideal) arg4.view (Rect.unit (s := S512x256) ![0, 128] S512x128.size inb_S512x256_S512x128_0_128).toLoadRect (harg4.unread x2)) (View.readAt (Elt Ideal) arg5.view (Rect.unit (s := S512x256) ![0, 128] S512x128.size inb_S512x256_S512x128_0_128).toLoadRect (harg5.unread x3)) (View.readAt (Elt Ideal) arg4.view (Rect.unit (s := S512x256) ![0, 128] S512x128.size inb_S512x256_S512x128_0_128).toLoadRect (harg4.unread x2))) (k0_pay42 (iota .tc S512x512 32 [0] iota_S512x512_d0_w32) (iota .tc S512x512 32 [1] iota_S512x512_d1_w32) k0_pay28 (View.readAt (Elt Ideal) arg2.view (Rect.unit (s := S8192x256) (k0_off2 i) S512x128.size (k0_off2_inb i)).toLoadRect (harg2.unread x0)) (View.readAt (Elt Ideal) arg3.view (Rect.unit (s := S8192x256) (k0_off2 i) S512x128.size (k0_off2_inb i)).toLoadRect (harg3.unread x1)) (View.readAt (Elt Ideal) arg4.view (Rect.unit (s := S512x256) ![0, 128] S512x128.size inb_S512x256_S512x128_0_128).toLoadRect (harg4.unread x2)) (View.readAt (Elt Ideal) arg5.view (Rect.unit (s := S512x256) ![0, 128] S512x128.size inb_S512x256_S512x128_0_128).toLoadRect (harg5.unread x3))) (k0_pay43 (iota .tc S512x512 32 [0] iota_S512x512_d0_w32) (iota .tc S512x512 32 [1] iota_S512x512_d1_w32) k0_pay28 (View.readAt (Elt Ideal) arg2.view (Rect.unit (s := S8192x256) (k0_off2 i) S512x128.size (k0_off2_inb i)).toLoadRect (harg2.unread x0)) (View.readAt (Elt Ideal) arg3.view (Rect.unit (s := S8192x256) (k0_off2 i) S512x128.size (k0_off2_inb i)).toLoadRect (harg3.unread x1)) (View.readAt (Elt Ideal) arg4.view (Rect.unit (s := S512x256) ![0, 128] S512x128.size inb_S512x256_S512x128_0_128).toLoadRect (harg4.unread x2))) (Scalar.addi (BitVec.ofNat 32 (i 1).val) 1#32) x0 x1 x2 x3 (arg6.view.writes (Elt Ideal) G6 (st6 i arg2 harg2 arg3 harg3 arg4 harg4 arg5 harg5 arg6 harg6 arg7 harg7 arg8 harg8 arg9 harg9 arg10 harg10 x0 x1 x2 x3 G6 L6)) (arg7.view.writes (Elt Ideal) G7 (st7 i arg2 harg2 arg3 harg3 arg4 harg4 arg5 harg5 arg6 harg6 arg7 harg7 arg8 harg8 arg9 harg9 arg10 harg10 x0 x1 x2 x3 G7 L7)) (start i arg2 harg2 arg3 harg3 arg4 harg4 arg5 harg5 arg6 harg6 arg7 harg7 arg8 harg8 arg9 harg9 arg10 harg10 x0 x1 x2 x3) (15 - (i 1).val) le_rfl
  refine (h6 y).trans ?_
  have e := read_upd arg7.view G7 L7 (k0_off3_inb i) (k0_off3_eq i) (diag7 i arg2 harg2 arg3 harg3 arg4 harg4 arg5 harg5 arg6 harg6 arg7 harg7 arg8 harg8 arg9 harg9 arg10 harg10 x0 x1 x2 x3 (View.readAt (Elt Ideal) arg7.view (Rect.unit (s := S8192x128) (k0_off3 i) S512x128.size (k0_off3_inb i)).toLoadRect (arg7.view.writes (Elt Ideal) G7 L7)))
    (addRs x0 x1 x2 x3 (i 1).val (i 0).val) (fun z => by rw [diag7_eq, load_f32 arg7.view _ (k0_off3_inb i) (k0_off3_eq i)]) y
  refine (congrArg (· + _) e).trans ?_
  rw [add_assoc]
  refine congrArg (_ + ·) ?_
  by_cases hlt : (y 0).val < 512 * (i 1).val
  · rw [if_neg (by omega), if_neg (by omega), addRs_above _ _ _ _ _ _ _ _ hlt, add_zero]
  · by_cases hm : (y 0).val < 512 * (i 1).val + 512
    · rw [if_pos (by omega), if_neg (by omega), add_zero]
    · rw [if_neg (by omega), if_pos (by omega), zero_add]

/-- A store of the whole block is read back. -/
theorem read_whole {s : Shape} {t : EltTy} (v : View sig .tc .vmem s t) (G : v.ty.Contents (Elt Ideal))
    {off : Fin s.rank → ℕ} (ho : off = fun _ => 0) (inb : ∀ d, off d + s.size d ≤ s.size d) (w : s.Idx → Elt Ideal t) (y : s.Idx) :
    v.read (Elt Ideal) (v.writes (Elt Ideal) G [⟨Rect.unit (s := s) off s.size inb, w⟩]) y = w y := by
  subst ho
  refine View.read_writes_cons_unit_of_mem (Val := Elt Ideal) v G inb w [] y y rfl (fun d => ?_)
  rw [Nat.zero_add]

/-- The keys' gradient after the point. -/
theorem fin8_eq (c : Dev nD) (i : grid0.Coords) (arg2 : Memref sig .tc .vmem S8192x256 .bf16) (harg2 : arg2.IsWhole) (arg3 : Memref sig .tc .vmem S8192x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S8192x128 .f32) (harg6 : arg6.IsWhole) (arg7 : Memref sig .tc .vmem S8192x128 .f32) (harg7 : arg7.IsWhole) (arg8 : Memref sig .tc .vmem S512x128 .bf16) (harg8 : arg8.IsWhole) (arg9 : Memref sig .tc .vmem S512x128 .bf16) (harg9 : arg9.IsWhole) (arg10 : Memref sig .tc .vmem S8192x128 .f32) (harg10 : arg10.IsWhole) (x0 x1 : Vec Ideal S8192x256 .bf16) (x2 x3 : Vec Ideal S512x256 .bf16) (G6 : BufTy.Contents (Elt Ideal) arg6.view.ty) (L6 : List (View.Piece (Elt Ideal) S8192x128 .f32)) (G7 : BufTy.Contents (Elt Ideal) arg7.view.ty) (L7 : List (View.Piece (Elt Ideal) S8192x128 .f32)) (G8 : BufTy.Contents (Elt Ideal) arg8.view.ty) (y : S512x128.Idx) :
    (arg8.view.read (Elt Ideal) (fin8 c i arg2 harg2 arg3 harg3 arg4 harg4 arg5 harg5 arg6 harg6 arg7 harg7 arg8 harg8 arg9 harg9 arg10 harg10 x0 x1 x2 x3 G6 L6 G7 L7 G8) y : EReal)
      = if (y 1).val < 64 then sDk x0 x1 x2 x3 (i 1).val 0 (y 0).val (y 1).val else sDk x0 x1 x2 x3 (i 1).val 1 (y 0).val (y 1).val := by
  unfold fin8
  refine (read_whole arg8.view G8 (by funext d; fin_cases d <;> rfl) _ _ y).trans ?_
  rw [pay58_eq, (after2_carry c i arg2 harg2 arg3 harg3 arg4 harg4 arg5 harg5 arg6 harg6 arg7 harg7 arg8 harg8 arg9 harg9 arg10 harg10 x0 x1 x2 x3 G6 L6 G7 L7 y).1, (after2_carry c i arg2 harg2 arg3 harg3 arg4 harg4 arg5 harg5 arg6 harg6 arg7 harg7 arg8 harg8 arg9 harg9 arg10 harg10 x0 x1 x2 x3 G6 L6 G7 L7 y).2.2.1]

/-- The values' gradient after the point. -/
theorem fin9_eq (c : Dev nD) (i : grid0.Coords) (arg2 : Memref sig .tc .vmem S8192x256 .bf16) (harg2 : arg2.IsWhole) (arg3 : Memref sig .tc .vmem S8192x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S8192x128 .f32) (harg6 : arg6.IsWhole) (arg7 : Memref sig .tc .vmem S8192x128 .f32) (harg7 : arg7.IsWhole) (arg8 : Memref sig .tc .vmem S512x128 .bf16) (harg8 : arg8.IsWhole) (arg9 : Memref sig .tc .vmem S512x128 .bf16) (harg9 : arg9.IsWhole) (arg10 : Memref sig .tc .vmem S8192x128 .f32) (harg10 : arg10.IsWhole) (x0 x1 : Vec Ideal S8192x256 .bf16) (x2 x3 : Vec Ideal S512x256 .bf16) (G6 : BufTy.Contents (Elt Ideal) arg6.view.ty) (L6 : List (View.Piece (Elt Ideal) S8192x128 .f32)) (G7 : BufTy.Contents (Elt Ideal) arg7.view.ty) (L7 : List (View.Piece (Elt Ideal) S8192x128 .f32)) (G9 : BufTy.Contents (Elt Ideal) arg9.view.ty) (y : S512x128.Idx) :
    (arg9.view.read (Elt Ideal) (fin9 c i arg2 harg2 arg3 harg3 arg4 harg4 arg5 harg5 arg6 harg6 arg7 harg7 arg8 harg8 arg9 harg9 arg10 harg10 x0 x1 x2 x3 G6 L6 G7 L7 G9) y : EReal)
      = if (y 1).val < 64 then sDv x0 x1 x2 (i 1).val 0 (y 0).val (y 1).val else sDv x0 x1 x2 (i 1).val 1 (y 0).val (y 1).val := by
  unfold fin9
  refine (read_whole arg9.view G9 (by funext d; fin_cases d <;> rfl) _ _ y).trans ?_
  rw [pay59_eq, (after2_carry c i arg2 harg2 arg3 harg3 arg4 harg4 arg5 harg5 arg6 harg6 arg7 harg7 arg8 harg8 arg9 harg9 arg10 harg10 x0 x1 x2 x3 G6 L6 G7 L7 y).2.1, (after2_carry c i arg2 harg2 arg3 harg3 arg4 harg4 arg5 harg5 arg6 harg6 arg7 harg7 arg8 harg8 arg9 harg9 arg10 harg10 x0 x1 x2 x3 G6 L6 G7 L7 y).2.2.2]

/-- The column sums after the point: the tile's own rows get what it adds. -/
theorem fin10_eq (c : Dev nD) (i : grid0.Coords) (arg2 : Memref sig .tc .vmem S8192x256 .bf16) (harg2 : arg2.IsWhole) (arg3 : Memref sig .tc .vmem S8192x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S8192x128 .f32) (harg6 : arg6.IsWhole) (arg7 : Memref sig .tc .vmem S8192x128 .f32) (harg7 : arg7.IsWhole) (arg8 : Memref sig .tc .vmem S512x128 .bf16) (harg8 : arg8.IsWhole) (arg9 : Memref sig .tc .vmem S512x128 .bf16) (harg9 : arg9.IsWhole) (arg10 : Memref sig .tc .vmem S8192x128 .f32) (harg10 : arg10.IsWhole) (x0 x1 : Vec Ideal S8192x256 .bf16) (x2 x3 : Vec Ideal S512x256 .bf16) (G6 : BufTy.Contents (Elt Ideal) arg6.view.ty) (L6 : List (View.Piece (Elt Ideal) S8192x128 .f32)) (G7 : BufTy.Contents (Elt Ideal) arg7.view.ty) (L7 : List (View.Piece (Elt Ideal) S8192x128 .f32)) (G10 : BufTy.Contents (Elt Ideal) arg10.view.ty) (L10 : List (View.Piece (Elt Ideal) S8192x128 .f32)) (y : S8192x128.Idx) :
    (arg10.view.read (Elt Ideal) (fin10 c i arg2 harg2 arg3 harg3 arg4 harg4 arg5 harg5 arg6 harg6 arg7 harg7 arg8 harg8 arg9 harg9 arg10 harg10 x0 x1 x2 x3 G6 L6 G7 L7 G10 L10) y : EReal)
      = arg10.view.read (Elt Ideal) (arg10.view.writes (Elt Ideal) G10 L10) y
        + if 512 * (i 1).val ≤ (y 0).val ∧ (y 0).val < 512 * (i 1).val + 512
            then addCs x0 x1 x2 x3 (i 1).val (i 0).val ((y 0).val - 512 * (i 1).val) (y 1).val else 0 := by
  unfold fin10
  refine read_upd arg10.view G10 L10 (k0_off3_inb i) (k0_off3_eq i) _
    (fun T l => addCs x0 x1 x2 x3 (i 1).val (i 0).val (T - 512 * (i 1).val) l) (fun z => ?_) y
  have h0 : (z 0).val < 512 := (z 0).isLt
  rw [pay1_eq _ (i 0).isLt, load_f32 arg10.view _ (k0_off3_inb i) (k0_off3_eq i), at2_of_lt _ h0 (by omega), at2_of_lt _ h0 (by omega),
    Nat.add_sub_cancel_left]
  have e1 := (after2_carry c i arg2 harg2 arg3 harg3 arg4 harg4 arg5 harg5 arg6 harg6 arg7 harg7 arg8 harg8 arg9 harg9 arg10 harg10 x0 x1 x2 x3 G6 L6 G7 L7 (Idealize.ShloMosaic.ix2 ⟨(z 0).val, h0⟩ ⟨67, by omega⟩)).1
  have e2 := (after2_carry c i arg2 harg2 arg3 harg3 arg4 harg4 arg5 harg5 arg6 harg6 arg7 harg7 arg8 harg8 arg9 harg9 arg10 harg10 x0 x1 x2 x3 G6 L6 G7 L7 (Idealize.ShloMosaic.ix2 ⟨(z 0).val, h0⟩ ⟨3, by omega⟩)).2.2.1
  refine congrArg (_ + ·) ?_
  unfold addCs
  exact congrArg₂ (· + ·) (by rw [e1]; rfl) (by rw [e2]; rfl)

end Cert.KernelIdeal.Hand

end
-- ==== Proof.Point.lean ====
module

public import proofs.«01_k».proof.Proof.ContA
public import proofs.«01_k».proof.Proof.ContB
public import proofs.«01_k».proof.Proof.ContC
public import proofs.«01_k».proof.Proof.Fin

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-! ## The body at a point of the grid, its five outputs read -/

/-- The queries' gradient after a point, from what it held (`g`). -/
def out6 (i : grid0.Coords) (x0 x1 : S8192x256.Idx → EReal) (x2 x3 : S512x256.Idx → EReal) (g : S8192x128.Idx → EReal) : Vec Ideal S8192x128 .f32 := fun y =>
  (if newPair i then 0 else g y) + addDq x0 x1 x2 x3 (i 1).val (y 0).val (y 1).val

/-- The row sums after a point, from what they held. -/
def out7 (i : grid0.Coords) (x0 x1 : S8192x256.Idx → EReal) (x2 x3 : S512x256.Idx → EReal) (g : S8192x128.Idx → EReal) : Vec Ideal S8192x128 .f32 := fun y =>
  (if newRun i then 0 else g y) + addRs x0 x1 x2 x3 (i 1).val (i 0).val (y 0).val (y 1).val

/-- The keys' gradient after a point. -/
def out8 (i : grid0.Coords) (x0 x1 : S8192x256.Idx → EReal) (x2 x3 : S512x256.Idx → EReal) : Vec Ideal S512x128 .bf16 := fun y =>
  (if (y 1).val < 64 then sDk x0 x1 x2 x3 (i 1).val 0 (y 0).val (y 1).val else sDk x0 x1 x2 x3 (i 1).val 1 (y 0).val (y 1).val : EReal)

/-- The values' gradient after a point. -/
def out9 (i : grid0.Coords) (x0 x1 : S8192x256.Idx → EReal) (x2 : S512x256.Idx → EReal) : Vec Ideal S512x128 .bf16 := fun y =>
  (if (y 1).val < 64 then sDv x0 x1 x2 (i 1).val 0 (y 0).val (y 1).val else sDv x0 x1 x2 (i 1).val 1 (y 0).val (y 1).val : EReal)

/-- The column sums after a point, from what they held. -/
def out10 (i : grid0.Coords) (x0 x1 : S8192x256.Idx → EReal) (x2 x3 : S512x256.Idx → EReal) (g : S8192x128.Idx → EReal) : Vec Ideal S8192x128 .f32 := fun y =>
  (if newRun i then 0 else g y)
    + if 512 * (i 1).val ≤ (y 0).val ∧ (y 0).val < 512 * (i 1).val + 512
        then addCs x0 x1 x2 x3 (i 1).val (i 0).val ((y 0).val - 512 * (i 1).val) (y 1).val else 0

set_option maxHeartbeats 4000000 in
/-- The body at a point of case A. -/
theorem point_A (c : Dev nD) (i : grid0.Coords) (arg2 : Memref sig .tc .vmem S8192x256 .bf16) (harg2 : arg2.IsWhole) (arg3 : Memref sig .tc .vmem S8192x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S8192x128 .f32) (harg6 : arg6.IsWhole) (arg7 : Memref sig .tc .vmem S8192x128 .f32) (harg7 : arg7.IsWhole) (arg8 : Memref sig .tc .vmem S512x128 .bf16) (harg8 : arg8.IsWhole) (arg9 : Memref sig .tc .vmem S512x128 .bf16) (harg9 : arg9.IsWhole) (arg10 : Memref sig .tc .vmem S8192x128 .f32) (harg10 : arg10.IsWhole) (hc0 : newPair i) (hc1 : newRun i) (x0 x1 : Vec Ideal S8192x256 .bf16) (x2 x3 : Vec Ideal S512x256 .bf16)
    (g6 : Vec Ideal S8192x128 .f32) (g7 : Vec Ideal S8192x128 .f32) (g8 : Vec Ideal S512x128 .bf16) (g9 : Vec Ideal S512x128 .bf16) (g10 : Vec Ideal S8192x128 .f32)
    (E : Set ℕ) (K : PUnit → sProp 𝕄) :
    iprop(owns (c : Thread nD τ) arg2 fullShare (x0) ∗ owns (c : Thread nD τ) arg3 fullShare (x1) ∗ owns (c : Thread nD τ) arg4 fullShare (x2) ∗ owns (c : Thread nD τ) arg5 fullShare (x3) ∗ owns (c : Thread nD τ) arg6 fullShare (g6) ∗ owns (c : Thread nD τ) arg7 fullShare (g7) ∗ owns (c : Thread nD τ) arg8 fullShare (g8) ∗ owns (c : Thread nD τ) arg9 fullShare (g9) ∗ owns (c : Thread nD τ) arg10 fullShare (g10) ∗ (iprop(owns (c : Thread nD τ) arg2 fullShare (x0) ∗ owns (c : Thread nD τ) arg3 fullShare (x1) ∗ owns (c : Thread nD τ) arg4 fullShare (x2) ∗ owns (c : Thread nD τ) arg5 fullShare (x3) ∗ owns (c : Thread nD τ) arg6 fullShare (out6 i x0 x1 x2 x3 g6) ∗ owns (c : Thread nD τ) arg7 fullShare (out7 i x0 x1 x2 x3 g7) ∗ owns (c : Thread nD τ) arg8 fullShare (out8 i x0 x1 x2 x3) ∗ owns (c : Thread nD τ) arg9 fullShare (out9 i x0 x1 x2) ∗ owns (c : Thread nD τ) arg10 fullShare (out10 i x0 x1 x2 x3 g10)) -∗ K ⟨⟩))
      ⊢ wp frame (wpE (defs₀ (F := Ideal)) Variants.none c none) E (cc0_attn_bwd i arg2 harg2 arg3 harg3 arg4 harg4 arg5 harg5 arg6 harg6 arg7 harg7 arg8 harg8 arg9 harg9 arg10 harg10) K := by
  have o : ∀ {s : Shape} {t : EltTy} (r : Memref sig .tc .vmem s t) (x : Vec Ideal s t), (owns (c : Thread nD τ) r fullShare x : sProp 𝕄)
      = iprop(∃ f, ⌜r.view.read (Elt Ideal) f = x⌝ ∗ (r.view.loc (c : Thread nD τ) ↦[r.view.set]{fullShare} f)) := fun _ _ => rfl
  have oi : ∀ {s : Shape} {t : EltTy} (r : Memref sig .tc .vmem s t) (x : Vec Ideal s t),
      iprop(∃ f, ⌜r.view.read (Elt Ideal) f = x⌝ ∗ (r.view.loc (c : Thread nD τ) ↦[r.view.set]{fullShare} f)) ⊢ (owns (c : Thread nD τ) r fullShare x : sProp 𝕄) := fun _ _ => Entails.refl _
  rw [o arg6 g6, o arg7 g7, o arg8 g8, o arg9 g9, o arg10 g10]
  iintro ⟨H0, H1, H2, H3, H6, H7, H8, H9, H10, Hk⟩
  icases H6 with ⟨%f6, %hf6, H6⟩
  icases H7 with ⟨%f7, %hf7, H7⟩
  icases H8 with ⟨%f8, %hf8, H8⟩
  icases H9 with ⟨%f9, %hf9, H9⟩
  icases H10 with ⟨%f10, %hf10, H10⟩
  have hb := ((bodyRun_A (F := Ideal) c i arg2 harg2 arg3 harg3 arg4 harg4 arg5 harg5 arg6 harg6 arg7 harg7 arg8 harg8 arg9 harg9 arg10 harg10 hc0 hc1 x0 x1 x2 x3 f6 f7 f8 f9 f10).2.2.2.2.2 E K)
  iapply hb
  isplitl [H0]; · iexact H0
  isplitl [H1]; · iexact H1
  isplitl [H2]; · iexact H2
  isplitl [H3]; · iexact H3
  isplitl [H6]; · iexact H6
  isplitl [H7]; · iexact H7
  isplitl [H8]; · iexact H8
  isplitl [H9]; · iexact H9
  isplitl [H10]; · iexact H10
  iintro ⟨H0, H1, H2, H3, H6, H7, H8, H9, H10⟩
  iapply Hk
  isplitl [H0]; · iexact H0
  isplitl [H1]; · iexact H1
  isplitl [H2]; · iexact H2
  isplitl [H3]; · iexact H3
  isplitl [H6]
  · iapply (oi arg6 _); iexists _; isplitr; rotate_left
    · iexact H6
    · ipureintro
      rw [runA_6]
      funext y
      refine (fin6_eq c i arg2 harg2 arg3 harg3 arg4 harg4 arg5 harg5 arg6 harg6 arg7 harg7 arg8 harg8 arg9 harg9 arg10 harg10 x0 x1 x2 x3 arg6.view.junk [⟨Rect.unit (s := S8192x128) ![0, 0] S8192x128.size inb_S8192x128_S8192x128_0_0, k0_pay24 (F := Ideal)⟩] arg7.view.junk [⟨Rect.unit (s := S8192x128) ![0, 0] S8192x128.size inb_S8192x128_S8192x128_0_0, k0_pay25 (F := Ideal)⟩] y).trans ?_
      refine (congrArg (· + _) ((read_whole arg6.view _ (by funext d; fin_cases d <;> rfl) _ _ y).trans (pay24_eq y))).trans ?_
      unfold out6
      rw [if_pos hc0]
  isplitl [H7]
  · iapply (oi arg7 _); iexists _; isplitr; rotate_left
    · iexact H7
    · ipureintro
      rw [runA_7]
      funext y
      refine (fin7_eq c i arg2 harg2 arg3 harg3 arg4 harg4 arg5 harg5 arg6 harg6 arg7 harg7 arg8 harg8 arg9 harg9 arg10 harg10 x0 x1 x2 x3 arg6.view.junk [⟨Rect.unit (s := S8192x128) ![0, 0] S8192x128.size inb_S8192x128_S8192x128_0_0, k0_pay24 (F := Ideal)⟩] arg7.view.junk [⟨Rect.unit (s := S8192x128) ![0, 0] S8192x128.size inb_S8192x128_S8192x128_0_0, k0_pay25 (F := Ideal)⟩] y).trans ?_
      refine (congrArg (· + _) ((read_whole arg7.view _ (by funext d; fin_cases d <;> rfl) _ _ y).trans (pay25_eq y))).trans ?_
      unfold out7
      rw [if_pos hc1]
  isplitl [H8]
  · iapply (oi arg8 _); iexists _; isplitr; rotate_left
    · iexact H8
    · ipureintro
      rw [runA_8]
      funext y
      exact fin8_eq c i arg2 harg2 arg3 harg3 arg4 harg4 arg5 harg5 arg6 harg6 arg7 harg7 arg8 harg8 arg9 harg9 arg10 harg10 x0 x1 x2 x3 arg6.view.junk [⟨Rect.unit (s := S8192x128) ![0, 0] S8192x128.size inb_S8192x128_S8192x128_0_0, k0_pay24 (F := Ideal)⟩] arg7.view.junk [⟨Rect.unit (s := S8192x128) ![0, 0] S8192x128.size inb_S8192x128_S8192x128_0_0, k0_pay25 (F := Ideal)⟩] f8 y
  isplitl [H9]
  · iapply (oi arg9 _); iexists _; isplitr; rotate_left
    · iexact H9
    · ipureintro
      rw [runA_9]
      funext y
      exact fin9_eq c i arg2 harg2 arg3 harg3 arg4 harg4 arg5 harg5 arg6 harg6 arg7 harg7 arg8 harg8 arg9 harg9 arg10 harg10 x0 x1 x2 x3 arg6.view.junk [⟨Rect.unit (s := S8192x128) ![0, 0] S8192x128.size inb_S8192x128_S8192x128_0_0, k0_pay24 (F := Ideal)⟩] arg7.view.junk [⟨Rect.unit (s := S8192x128) ![0, 0] S8192x128.size inb_S8192x128_S8192x128_0_0, k0_pay25 (F := Ideal)⟩] f9 y
  iapply (oi arg10 _); iexists _; isplitr; rotate_left
  · iexact H10
  · ipureintro
    rw [runA_10]
    funext y
    refine (fin10_eq c i arg2 harg2 arg3 harg3 arg4 harg4 arg5 harg5 arg6 harg6 arg7 harg7 arg8 harg8 arg9 harg9 arg10 harg10 x0 x1 x2 x3 arg6.view.junk [⟨Rect.unit (s := S8192x128) ![0, 0] S8192x128.size inb_S8192x128_S8192x128_0_0, k0_pay24 (F := Ideal)⟩] arg7.view.junk [⟨Rect.unit (s := S8192x128) ![0, 0] S8192x128.size inb_S8192x128_S8192x128_0_0, k0_pay25 (F := Ideal)⟩] arg10.view.junk [⟨Rect.unit (s := S8192x128) ![0, 0] S8192x128.size inb_S8192x128_S8192x128_0_0, k0_pay26 (F := Ideal)⟩] y).trans ?_
    refine (congrArg (· + _) ((read_whole arg10.view _ (by funext d; fin_cases d <;> rfl) _ _ y).trans (pay26_eq y))).trans ?_
    unfold out10
    rw [if_pos hc1]

set_option maxHeartbeats 4000000 in
/-- The body at a point of case B. -/
theorem point_B (c : Dev nD) (i : grid0.Coords) (arg2 : Memref sig .tc .vmem S8192x256 .bf16) (harg2 : arg2.IsWhole) (arg3 : Memref sig .tc .vmem S8192x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S8192x128 .f32) (harg6 : arg6.IsWhole) (arg7 : Memref sig .tc .vmem S8192x128 .f32) (harg7 : arg7.IsWhole) (arg8 : Memref sig .tc .vmem S512x128 .bf16) (harg8 : arg8.IsWhole) (arg9 : Memref sig .tc .vmem S512x128 .bf16) (harg9 : arg9.IsWhole) (arg10 : Memref sig .tc .vmem S8192x128 .f32) (harg10 : arg10.IsWhole) (hc0 : ¬newPair i) (hc1 : ¬newRun i) (x0 x1 : Vec Ideal S8192x256 .bf16) (x2 x3 : Vec Ideal S512x256 .bf16)
    (g6 : Vec Ideal S8192x128 .f32) (g7 : Vec Ideal S8192x128 .f32) (g8 : Vec Ideal S512x128 .bf16) (g9 : Vec Ideal S512x128 .bf16) (g10 : Vec Ideal S8192x128 .f32)
    (E : Set ℕ) (K : PUnit → sProp 𝕄) :
    iprop(owns (c : Thread nD τ) arg2 fullShare (x0) ∗ owns (c : Thread nD τ) arg3 fullShare (x1) ∗ owns (c : Thread nD τ) arg4 fullShare (x2) ∗ owns (c : Thread nD τ) arg5 fullShare (x3) ∗ owns (c : Thread nD τ) arg6 fullShare (g6) ∗ owns (c : Thread nD τ) arg7 fullShare (g7) ∗ owns (c : Thread nD τ) arg8 fullShare (g8) ∗ owns (c : Thread nD τ) arg9 fullShare (g9) ∗ owns (c : Thread nD τ) arg10 fullShare (g10) ∗ (iprop(owns (c : Thread nD τ) arg2 fullShare (x0) ∗ owns (c : Thread nD τ) arg3 fullShare (x1) ∗ owns (c : Thread nD τ) arg4 fullShare (x2) ∗ owns (c : Thread nD τ) arg5 fullShare (x3) ∗ owns (c : Thread nD τ) arg6 fullShare (out6 i x0 x1 x2 x3 g6) ∗ owns (c : Thread nD τ) arg7 fullShare (out7 i x0 x1 x2 x3 g7) ∗ owns (c : Thread nD τ) arg8 fullShare (out8 i x0 x1 x2 x3) ∗ owns (c : Thread nD τ) arg9 fullShare (out9 i x0 x1 x2) ∗ owns (c : Thread nD τ) arg10 fullShare (out10 i x0 x1 x2 x3 g10)) -∗ K ⟨⟩))
      ⊢ wp frame (wpE (defs₀ (F := Ideal)) Variants.none c none) E (cc0_attn_bwd i arg2 harg2 arg3 harg3 arg4 harg4 arg5 harg5 arg6 harg6 arg7 harg7 arg8 harg8 arg9 harg9 arg10 harg10) K := by
  have o : ∀ {s : Shape} {t : EltTy} (r : Memref sig .tc .vmem s t) (x : Vec Ideal s t), (owns (c : Thread nD τ) r fullShare x : sProp 𝕄)
      = iprop(∃ f, ⌜r.view.read (Elt Ideal) f = x⌝ ∗ (r.view.loc (c : Thread nD τ) ↦[r.view.set]{fullShare} f)) := fun _ _ => rfl
  have oi : ∀ {s : Shape} {t : EltTy} (r : Memref sig .tc .vmem s t) (x : Vec Ideal s t),
      iprop(∃ f, ⌜r.view.read (Elt Ideal) f = x⌝ ∗ (r.view.loc (c : Thread nD τ) ↦[r.view.set]{fullShare} f)) ⊢ (owns (c : Thread nD τ) r fullShare x : sProp 𝕄) := fun _ _ => Entails.refl _
  rw [o arg6 g6, o arg7 g7, o arg8 g8, o arg9 g9, o arg10 g10]
  iintro ⟨H0, H1, H2, H3, H6, H7, H8, H9, H10, Hk⟩
  icases H6 with ⟨%f6, %hf6, H6⟩
  icases H7 with ⟨%f7, %hf7, H7⟩
  icases H8 with ⟨%f8, %hf8, H8⟩
  icases H9 with ⟨%f9, %hf9, H9⟩
  icases H10 with ⟨%f10, %hf10, H10⟩
  have hb := ((bodyRun_B (F := Ideal) c i arg2 harg2 arg3 harg3 arg4 harg4 arg5 harg5 arg6 harg6 arg7 harg7 arg8 harg8 arg9 harg9 arg10 harg10 hc0 hc1 x0 x1 x2 x3 f6 f7 f8 f9 f10).2.2.2.2.2 E K)
  iapply hb
  isplitl [H0]; · iexact H0
  isplitl [H1]; · iexact H1
  isplitl [H2]; · iexact H2
  isplitl [H3]; · iexact H3
  isplitl [H6]; · iexact H6
  isplitl [H7]; · iexact H7
  isplitl [H8]; · iexact H8
  isplitl [H9]; · iexact H9
  isplitl [H10]; · iexact H10
  iintro ⟨H0, H1, H2, H3, H6, H7, H8, H9, H10⟩
  iapply Hk
  isplitl [H0]; · iexact H0
  isplitl [H1]; · iexact H1
  isplitl [H2]; · iexact H2
  isplitl [H3]; · iexact H3
  isplitl [H6]
  · iapply (oi arg6 _); iexists _; isplitr; rotate_left
    · iexact H6
    · ipureintro
      rw [runB_6]
      funext y
      refine (fin6_eq c i arg2 harg2 arg3 harg3 arg4 harg4 arg5 harg5 arg6 harg6 arg7 harg7 arg8 harg8 arg9 harg9 arg10 harg10 x0 x1 x2 x3 f6 [] f7 [] y).trans ?_
      unfold out6
      rw [if_neg hc0, ← hf6]
      rfl
  isplitl [H7]
  · iapply (oi arg7 _); iexists _; isplitr; rotate_left
    · iexact H7
    · ipureintro
      rw [runB_7]
      funext y
      refine (fin7_eq c i arg2 harg2 arg3 harg3 arg4 harg4 arg5 harg5 arg6 harg6 arg7 harg7 arg8 harg8 arg9 harg9 arg10 harg10 x0 x1 x2 x3 f6 [] f7 [] y).trans ?_
      unfold out7
      rw [if_neg hc1, ← hf7]
      rfl
  isplitl [H8]
  · iapply (oi arg8 _); iexists _; isplitr; rotate_left
    · iexact H8
    · ipureintro
      rw [runB_8]
      funext y
      exact fin8_eq c i arg2 harg2 arg3 harg3 arg4 harg4 arg5 harg5 arg6 harg6 arg7 harg7 arg8 harg8 arg9 harg9 arg10 harg10 x0 x1 x2 x3 f6 [] f7 [] f8 y
  isplitl [H9]
  · iapply (oi arg9 _); iexists _; isplitr; rotate_left
    · iexact H9
    · ipureintro
      rw [runB_9]
      funext y
      exact fin9_eq c i arg2 harg2 arg3 harg3 arg4 harg4 arg5 harg5 arg6 harg6 arg7 harg7 arg8 harg8 arg9 harg9 arg10 harg10 x0 x1 x2 x3 f6 [] f7 [] f9 y
  iapply (oi arg10 _); iexists _; isplitr; rotate_left
  · iexact H10
  · ipureintro
    rw [runB_10]
    funext y
    refine (fin10_eq c i arg2 harg2 arg3 harg3 arg4 harg4 arg5 harg5 arg6 harg6 arg7 harg7 arg8 harg8 arg9 harg9 arg10 harg10 x0 x1 x2 x3 f6 [] f7 [] f10 [] y).trans ?_
    unfold out10
    rw [if_neg hc1, ← hf10]
    rfl

set_option maxHeartbeats 4000000 in
/-- The body at a point of case C. -/
theorem point_C (c : Dev nD) (i : grid0.Coords) (arg2 : Memref sig .tc .vmem S8192x256 .bf16) (harg2 : arg2.IsWhole) (arg3 : Memref sig .tc .vmem S8192x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S8192x128 .f32) (harg6 : arg6.IsWhole) (arg7 : Memref sig .tc .vmem S8192x128 .f32) (harg7 : arg7.IsWhole) (arg8 : Memref sig .tc .vmem S512x128 .bf16) (harg8 : arg8.IsWhole) (arg9 : Memref sig .tc .vmem S512x128 .bf16) (harg9 : arg9.IsWhole) (arg10 : Memref sig .tc .vmem S8192x128 .f32) (harg10 : arg10.IsWhole) (hc0 : newPair i) (hc1 : ¬newRun i) (x0 x1 : Vec Ideal S8192x256 .bf16) (x2 x3 : Vec Ideal S512x256 .bf16)
    (g6 : Vec Ideal S8192x128 .f32) (g7 : Vec Ideal S8192x128 .f32) (g8 : Vec Ideal S512x128 .bf16) (g9 : Vec Ideal S512x128 .bf16) (g10 : Vec Ideal S8192x128 .f32)
    (E : Set ℕ) (K : PUnit → sProp 𝕄) :
    iprop(owns (c : Thread nD τ) arg2 fullShare (x0) ∗ owns (c : Thread nD τ) arg3 fullShare (x1) ∗ owns (c : Thread nD τ) arg4 fullShare (x2) ∗ owns (c : Thread nD τ) arg5 fullShare (x3) ∗ owns (c : Thread nD τ) arg6 fullShare (g6) ∗ owns (c : Thread nD τ) arg7 fullShare (g7) ∗ owns (c : Thread nD τ) arg8 fullShare (g8) ∗ owns (c : Thread nD τ) arg9 fullShare (g9) ∗ owns (c : Thread nD τ) arg10 fullShare (g10) ∗ (iprop(owns (c : Thread nD τ) arg2 fullShare (x0) ∗ owns (c : Thread nD τ) arg3 fullShare (x1) ∗ owns (c : Thread nD τ) arg4 fullShare (x2) ∗ owns (c : Thread nD τ) arg5 fullShare (x3) ∗ owns (c : Thread nD τ) arg6 fullShare (out6 i x0 x1 x2 x3 g6) ∗ owns (c : Thread nD τ) arg7 fullShare (out7 i x0 x1 x2 x3 g7) ∗ owns (c : Thread nD τ) arg8 fullShare (out8 i x0 x1 x2 x3) ∗ owns (c : Thread nD τ) arg9 fullShare (out9 i x0 x1 x2) ∗ owns (c : Thread nD τ) arg10 fullShare (out10 i x0 x1 x2 x3 g10)) -∗ K ⟨⟩))
      ⊢ wp frame (wpE (defs₀ (F := Ideal)) Variants.none c none) E (cc0_attn_bwd i arg2 harg2 arg3 harg3 arg4 harg4 arg5 harg5 arg6 harg6 arg7 harg7 arg8 harg8 arg9 harg9 arg10 harg10) K := by
  have o : ∀ {s : Shape} {t : EltTy} (r : Memref sig .tc .vmem s t) (x : Vec Ideal s t), (owns (c : Thread nD τ) r fullShare x : sProp 𝕄)
      = iprop(∃ f, ⌜r.view.read (Elt Ideal) f = x⌝ ∗ (r.view.loc (c : Thread nD τ) ↦[r.view.set]{fullShare} f)) := fun _ _ => rfl
  have oi : ∀ {s : Shape} {t : EltTy} (r : Memref sig .tc .vmem s t) (x : Vec Ideal s t),
      iprop(∃ f, ⌜r.view.read (Elt Ideal) f = x⌝ ∗ (r.view.loc (c : Thread nD τ) ↦[r.view.set]{fullShare} f)) ⊢ (owns (c : Thread nD τ) r fullShare x : sProp 𝕄) := fun _ _ => Entails.refl _
  rw [o arg6 g6, o arg7 g7, o arg8 g8, o arg9 g9, o arg10 g10]
  iintro ⟨H0, H1, H2, H3, H6, H7, H8, H9, H10, Hk⟩
  icases H6 with ⟨%f6, %hf6, H6⟩
  icases H7 with ⟨%f7, %hf7, H7⟩
  icases H8 with ⟨%f8, %hf8, H8⟩
  icases H9 with ⟨%f9, %hf9, H9⟩
  icases H10 with ⟨%f10, %hf10, H10⟩
  have hb := ((bodyRun_C (F := Ideal) c i arg2 harg2 arg3 harg3 arg4 harg4 arg5 harg5 arg6 harg6 arg7 harg7 arg8 harg8 arg9 harg9 arg10 harg10 hc0 hc1 x0 x1 x2 x3 f6 f7 f8 f9 f10).2.2.2.2.2 E K)
  iapply hb
  isplitl [H0]; · iexact H0
  isplitl [H1]; · iexact H1
  isplitl [H2]; · iexact H2
  isplitl [H3]; · iexact H3
  isplitl [H6]; · iexact H6
  isplitl [H7]; · iexact H7
  isplitl [H8]; · iexact H8
  isplitl [H9]; · iexact H9
  isplitl [H10]; · iexact H10
  iintro ⟨H0, H1, H2, H3, H6, H7, H8, H9, H10⟩
  iapply Hk
  isplitl [H0]; · iexact H0
  isplitl [H1]; · iexact H1
  isplitl [H2]; · iexact H2
  isplitl [H3]; · iexact H3
  isplitl [H6]
  · iapply (oi arg6 _); iexists _; isplitr; rotate_left
    · iexact H6
    · ipureintro
      rw [runC_6]
      funext y
      refine (fin6_eq c i arg2 harg2 arg3 harg3 arg4 harg4 arg5 harg5 arg6 harg6 arg7 harg7 arg8 harg8 arg9 harg9 arg10 harg10 x0 x1 x2 x3 arg6.view.junk [⟨Rect.unit (s := S8192x128) ![0, 0] S8192x128.size inb_S8192x128_S8192x128_0_0, k0_pay24 (F := Ideal)⟩] f7 [] y).trans ?_
      refine (congrArg (· + _) ((read_whole arg6.view _ (by funext d; fin_cases d <;> rfl) _ _ y).trans (pay24_eq y))).trans ?_
      unfold out6
      rw [if_pos hc0]
  isplitl [H7]
  · iapply (oi arg7 _); iexists _; isplitr; rotate_left
    · iexact H7
    · ipureintro
      rw [runC_7]
      funext y
      refine (fin7_eq c i arg2 harg2 arg3 harg3 arg4 harg4 arg5 harg5 arg6 harg6 arg7 harg7 arg8 harg8 arg9 harg9 arg10 harg10 x0 x1 x2 x3 arg6.view.junk [⟨Rect.unit (s := S8192x128) ![0, 0] S8192x128.size inb_S8192x128_S8192x128_0_0, k0_pay24 (F := Ideal)⟩] f7 [] y).trans ?_
      unfold out7
      rw [if_neg hc1, ← hf7]
      rfl
  isplitl [H8]
  · iapply (oi arg8 _); iexists _; isplitr; rotate_left
    · iexact H8
    · ipureintro
      rw [runC_8]
      funext y
      exact fin8_eq c i arg2 harg2 arg3 harg3 arg4 harg4 arg5 harg5 arg6 harg6 arg7 harg7 arg8 harg8 arg9 harg9 arg10 harg10 x0 x1 x2 x3 arg6.view.junk [⟨Rect.unit (s := S8192x128) ![0, 0] S8192x128.size inb_S8192x128_S8192x128_0_0, k0_pay24 (F := Ideal)⟩] f7 [] f8 y
  isplitl [H9]
  · iapply (oi arg9 _); iexists _; isplitr; rotate_left
    · iexact H9
    · ipureintro
      rw [runC_9]
      funext y
      exact fin9_eq c i arg2 harg2 arg3 harg3 arg4 harg4 arg5 harg5 arg6 harg6 arg7 harg7 arg8 harg8 arg9 harg9 arg10 harg10 x0 x1 x2 x3 arg6.view.junk [⟨Rect.unit (s := S8192x128) ![0, 0] S8192x128.size inb_S8192x128_S8192x128_0_0, k0_pay24 (F := Ideal)⟩] f7 [] f9 y
  iapply (oi arg10 _); iexists _; isplitr; rotate_left
  · iexact H10
  · ipureintro
    rw [runC_10]
    funext y
    refine (fin10_eq c i arg2 harg2 arg3 harg3 arg4 harg4 arg5 harg5 arg6 harg6 arg7 harg7 arg8 harg8 arg9 harg9 arg10 harg10 x0 x1 x2 x3 arg6.view.junk [⟨Rect.unit (s := S8192x128) ![0, 0] S8192x128.size inb_S8192x128_S8192x128_0_0, k0_pay24 (F := Ideal)⟩] f7 [] f10 [] y).trans ?_
    unfold out10
    rw [if_neg hc1, ← hf10]
    rfl

end Cert.KernelIdeal.Hand

end
-- ==== Proof.Sums.lean ====
module

public import proofs.«01_k».proof.Proof.Fin
public import proofs.«01_k».proof.Proof.Gen.KernelIdeal.Frame
public import Idealize.ShloMosaic.Lib.Claim

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-! ## The blocks of the operands and the running sums of the outputs -/

/-- The columns of pair `p` of an augmented operand, all rows, -/
def xq (A : S8192x1024.Idx → EReal) (p : ℕ) : S8192x256.Idx → EReal := fun y => at2 A (y 0).val (256 * p + (y 1).val)

/-- and the rows of tile `j` only. -/
def xk (A : S8192x1024.Idx → EReal) (j p : ℕ) : S512x256.Idx → EReal := fun y => at2 A (512 * j + (y 0).val) (256 * p + (y 1).val)

/-- Where the window lies along an axis. -/
theorem tr0_0 (t : Fin cfg0.N) : cc0_transform_0 (grid0.coords t) 0 = 0 := rfl

/-- Where the window lies along an axis. -/
theorem tr0_1 (t : Fin cfg0.N) : cc0_transform_0 (grid0.coords t) 1 = t.val / 16 := by
  have ht : t.val < 64 := Nat.lt_of_lt_of_eq t.isLt N_0
  have e := coord_pair t
  show (BitVec.ofNat 32 (grid0.coords t 0).val).toNat = _
  rw [e, BitVec.toNat_ofNat]; omega

/-- Where the window lies along an axis. -/
theorem tr1_0 (t : Fin cfg0.N) : cc0_transform_1 (grid0.coords t) 0 = 0 := rfl

/-- Where the window lies along an axis. -/
theorem tr1_1 (t : Fin cfg0.N) : cc0_transform_1 (grid0.coords t) 1 = t.val / 16 := by
  have ht : t.val < 64 := Nat.lt_of_lt_of_eq t.isLt N_0
  have e := coord_pair t
  show (BitVec.ofNat 32 (grid0.coords t 0).val).toNat = _
  rw [e, BitVec.toNat_ofNat]; omega

/-- Where the window lies along an axis. -/
theorem tr2_0 (t : Fin cfg0.N) : cc0_transform_2 (grid0.coords t) 0 = t.val % 16 := by
  have e := coord_tile t
  show (BitVec.ofNat 32 (grid0.coords t 1).val).toNat = _
  rw [e, BitVec.toNat_ofNat]; omega

/-- Where the window lies along an axis. -/
theorem tr2_1 (t : Fin cfg0.N) : cc0_transform_2 (grid0.coords t) 1 = t.val / 16 := by
  have ht : t.val < 64 := Nat.lt_of_lt_of_eq t.isLt N_0
  have e := coord_pair t
  show (BitVec.ofNat 32 (grid0.coords t 0).val).toNat = _
  rw [e, BitVec.toNat_ofNat]; omega

/-- Where the window lies along an axis. -/
theorem tr3_0 (t : Fin cfg0.N) : cc0_transform_3 (grid0.coords t) 0 = t.val % 16 := by
  have e := coord_tile t
  show (BitVec.ofNat 32 (grid0.coords t 1).val).toNat = _
  rw [e, BitVec.toNat_ofNat]; omega

/-- Where the window lies along an axis. -/
theorem tr3_1 (t : Fin cfg0.N) : cc0_transform_3 (grid0.coords t) 1 = t.val / 16 := by
  have ht : t.val < 64 := Nat.lt_of_lt_of_eq t.isLt N_0
  have e := coord_pair t
  show (BitVec.ofNat 32 (grid0.coords t 0).val).toNat = _
  rw [e, BitVec.toNat_ofNat]; omega

/-- Where the window lies along an axis. -/
theorem tr4_0 (t : Fin cfg0.N) : cc0_transform_4 (grid0.coords t) 0 = 0 := rfl

/-- Where the window lies along an axis. -/
theorem tr4_1 (t : Fin cfg0.N) : cc0_transform_4 (grid0.coords t) 1 = t.val / 16 := by
  have ht : t.val < 64 := Nat.lt_of_lt_of_eq t.isLt N_0
  have e := coord_pair t
  show (BitVec.ofNat 32 (grid0.coords t 0).val).toNat = _
  rw [e, BitVec.toNat_ofNat]; omega

/-- Where the window lies along an axis. -/
theorem tr6_0 (t : Fin cfg0.N) : cc0_transform_6 (grid0.coords t) 0 = t.val % 16 := by
  have e := coord_tile t
  show (BitVec.ofNat 32 (grid0.coords t 1).val).toNat = _
  rw [e, BitVec.toNat_ofNat]; omega

/-- Where the window lies along an axis. -/
theorem tr6_1 (t : Fin cfg0.N) : cc0_transform_6 (grid0.coords t) 1 = t.val / 16 := by
  have ht : t.val < 64 := Nat.lt_of_lt_of_eq t.isLt N_0
  have e := coord_pair t
  show (BitVec.ofNat 32 (grid0.coords t 0).val).toNat = _
  rw [e, BitVec.toNat_ofNat]; omega

/-- Where the window lies along an axis. -/
theorem tr7_0 (t : Fin cfg0.N) : cc0_transform_7 (grid0.coords t) 0 = t.val % 16 := by
  have e := coord_tile t
  show (BitVec.ofNat 32 (grid0.coords t 1).val).toNat = _
  rw [e, BitVec.toNat_ofNat]; omega

/-- Where the window lies along an axis. -/
theorem tr7_1 (t : Fin cfg0.N) : cc0_transform_7 (grid0.coords t) 1 = t.val / 16 := by
  have ht : t.val < 64 := Nat.lt_of_lt_of_eq t.isLt N_0
  have e := coord_pair t
  show (BitVec.ofNat 32 (grid0.coords t 0).val).toNat = _
  rw [e, BitVec.toNat_ofNat]; omega

/-- Window 0's block at a point reads these elements of its array. -/
theorem blk0_eq (A : S8192x1024.Idx → EReal) (t : Fin cfg0.N) :
    (((cfg0.win 0).blk t).view.read (Elt Ideal) A : S8192x256.Idx → EReal) = xq A (t.val / 16) := by
  have ht : t.val < 64 := Nat.lt_of_lt_of_eq t.isLt N_0
  funext y
  refine (at2_eq A ((win0_0.rect t).emb y) ?_ ?_).symm
  · refine (Pipeline.Window.rect_emb_val win0_0 t y (0 : Fin 2)).trans ?_
    show (cc0_transform_0 (grid0.coords t) 0) * 8192 + (y 0).val = _
    rw [tr0_0 t]; omega
  · refine (Pipeline.Window.rect_emb_val win0_0 t y (1 : Fin 2)).trans ?_
    show (cc0_transform_0 (grid0.coords t) 1) * 256 + (y 1).val = _
    rw [tr0_1 t]; omega

/-- Window 1's block at a point reads these elements of its array. -/
theorem blk1_eq (A : S8192x1024.Idx → EReal) (t : Fin cfg0.N) :
    (((cfg0.win 1).blk t).view.read (Elt Ideal) A : S8192x256.Idx → EReal) = xq A (t.val / 16) := by
  have ht : t.val < 64 := Nat.lt_of_lt_of_eq t.isLt N_0
  funext y
  refine (at2_eq A ((win0_1.rect t).emb y) ?_ ?_).symm
  · refine (Pipeline.Window.rect_emb_val win0_1 t y (0 : Fin 2)).trans ?_
    show (cc0_transform_1 (grid0.coords t) 0) * 8192 + (y 0).val = _
    rw [tr1_0 t]; omega
  · refine (Pipeline.Window.rect_emb_val win0_1 t y (1 : Fin 2)).trans ?_
    show (cc0_transform_1 (grid0.coords t) 1) * 256 + (y 1).val = _
    rw [tr1_1 t]; omega

/-- Window 2's block at a point reads these elements of its array. -/
theorem blk2_eq (A : S8192x1024.Idx → EReal) (t : Fin cfg0.N) :
    (((cfg0.win 2).blk t).view.read (Elt Ideal) A : S512x256.Idx → EReal) = xk A (t.val % 16) (t.val / 16) := by
  have ht : t.val < 64 := Nat.lt_of_lt_of_eq t.isLt N_0
  funext y
  refine (at2_eq A ((win0_2.rect t).emb y) ?_ ?_).symm
  · refine (Pipeline.Window.rect_emb_val win0_2 t y (0 : Fin 2)).trans ?_
    show (cc0_transform_2 (grid0.coords t) 0) * 512 + (y 0).val = _
    rw [tr2_0 t]; omega
  · refine (Pipeline.Window.rect_emb_val win0_2 t y (1 : Fin 2)).trans ?_
    show (cc0_transform_2 (grid0.coords t) 1) * 256 + (y 1).val = _
    rw [tr2_1 t]; omega

/-- Window 3's block at a point reads these elements of its array. -/
theorem blk3_eq (A : S8192x1024.Idx → EReal) (t : Fin cfg0.N) :
    (((cfg0.win 3).blk t).view.read (Elt Ideal) A : S512x256.Idx → EReal) = xk A (t.val % 16) (t.val / 16) := by
  have ht : t.val < 64 := Nat.lt_of_lt_of_eq t.isLt N_0
  funext y
  refine (at2_eq A ((win0_3.rect t).emb y) ?_ ?_).symm
  · refine (Pipeline.Window.rect_emb_val win0_3 t y (0 : Fin 2)).trans ?_
    show (cc0_transform_3 (grid0.coords t) 0) * 512 + (y 0).val = _
    rw [tr3_0 t]; omega
  · refine (Pipeline.Window.rect_emb_val win0_3 t y (1 : Fin 2)).trans ?_
    show (cc0_transform_3 (grid0.coords t) 1) * 256 + (y 1).val = _
    rw [tr3_1 t]; omega

/-! ## The outputs' windows after a point -/

section Acc

variable (Q D K W : S8192x1024.Idx → EReal)

/-- What tile `j` adds to the queries' gradient of pair `p`. -/
def partDq (j p T l : ℕ) : EReal := addDq (xq Q p) (xq D p) (xk K j p) (xk W j p) j T l

/-- What tile `j` of pair `p` adds to the row sums. -/
def partRs (j p T l : ℕ) : EReal := addRs (xq Q p) (xq D p) (xk K j p) (xk W j p) j p T l

/-- What tile `j` of pair `p` adds to the column sums. -/
def partCs (j p T l : ℕ) : EReal :=
  if 512 * j ≤ T ∧ T < 512 * j + 512 then addCs (xq Q p) (xq D p) (xk K j p) (xk W j p) j p (T - 512 * j) l else 0

/-- The queries' gradient held after point `n`: the tiles of its pair so far. -/
def accDq (n : ℕ) : S8192x128.Idx → EReal := fun y =>
  ∑ j ∈ Finset.range (n % 16 + 1), partDq Q D K W j (n / 16) (y 0).val (y 1).val

/-- The row sums held after point `n`: the tiles of all points so far. -/
def accRs (n : ℕ) : S8192x128.Idx → EReal := fun y =>
  ∑ u ∈ Finset.range (n + 1), partRs Q D K W (u % 16) (u / 16) (y 0).val (y 1).val

/-- The column sums held after point `n`. -/
def accCs (n : ℕ) : S8192x128.Idx → EReal := fun y =>
  ∑ u ∈ Finset.range (n + 1), partCs Q D K W (u % 16) (u / 16) (y 0).val (y 1).val

/-- The keys' gradient of the tile of point `n`. -/
def tileDk (n : ℕ) : S512x128.Idx → EReal := fun y =>
  sDk (xq Q (n / 16)) (xq D (n / 16)) (xk K (n % 16) (n / 16)) (xk W (n % 16) (n / 16)) (n % 16)
    (if (y 1).val < 64 then 0 else 1) (y 0).val (y 1).val

/-- The values' gradient of the tile of point `n`. -/
def tileDv (n : ℕ) : S512x128.Idx → EReal := fun y =>
  sDv (xq Q (n / 16)) (xq D (n / 16)) (xk K (n % 16) (n / 16)) (n % 16) (if (y 1).val < 64 then 0 else 1) (y 0).val (y 1).val

end Acc

end Cert.KernelIdeal.Hand

end
-- ==== Proof.Data.lean ====
module

public import proofs.«01_k».proof.Proof.Point
public import proofs.«01_k».proof.Proof.Sums
public import proofs.«01_k».proof.Proof.Gen.KernelIdeal.Frame
public import Idealize.ShloMosaic.Lib.Claim

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-! ## One point's step of the running sums -/

section Step

variable (Q D K W : S8192x1024.Idx → EReal)

/-- Where a pair begins the queries' gradient starts anew; -/
theorem out6_new (t : Fin cfg0.N) (h : t.val % 16 = 0) (g : S8192x128.Idx → EReal) :
    (out6 (grid0.coords t) (xq Q (t.val / 16)) (xq D (t.val / 16)) (xk K (t.val % 16) (t.val / 16)) (xk W (t.val % 16) (t.val / 16)) g : S8192x128.Idx → EReal)
      = accDq Q D K W t.val := by
  funext y
  unfold out6 accDq partDq
  rw [if_pos ((newPair_iff t).mpr h), coord_tile t, h, zero_add, zero_add, Finset.sum_range_one]

/-- elsewhere it goes on from the point before. -/
theorem out6_next (t : Fin cfg0.N) (h : ¬ t.val % 16 = 0) :
    (out6 (grid0.coords t) (xq Q (t.val / 16)) (xq D (t.val / 16)) (xk K (t.val % 16) (t.val / 16)) (xk W (t.val % 16) (t.val / 16)) (accDq Q D K W (t.val - 1)) : S8192x128.Idx → EReal)
      = accDq Q D K W t.val := by
  funext y
  unfold out6 accDq partDq
  rw [if_neg (fun e => h ((newPair_iff t).mp e)), coord_tile t, Finset.sum_range_succ _ (t.val % 16),
    show (t.val - 1) % 16 + 1 = t.val % 16 by omega, show (t.val - 1) / 16 = t.val / 16 by omega]

/-- At the first point the row sums start; -/
theorem out7_new (t : Fin cfg0.N) (h : t.val = 0) (g : S8192x128.Idx → EReal) :
    (out7 (grid0.coords t) (xq Q (t.val / 16)) (xq D (t.val / 16)) (xk K (t.val % 16) (t.val / 16)) (xk W (t.val % 16) (t.val / 16)) g : S8192x128.Idx → EReal)
      = accRs Q D K W t.val := by
  funext y
  unfold out7 accRs partRs
  rw [if_pos ((newRun_iff t).mpr (by omega)), coord_tile t, coord_pair t, h, zero_add, Finset.sum_range_succ, Finset.sum_range_zero, zero_add]

/-- elsewhere they go on from the point before. -/
theorem out7_next (t : Fin cfg0.N) (h : ¬ t.val = 0) :
    (out7 (grid0.coords t) (xq Q (t.val / 16)) (xq D (t.val / 16)) (xk K (t.val % 16) (t.val / 16)) (xk W (t.val % 16) (t.val / 16)) (accRs Q D K W (t.val - 1)) : S8192x128.Idx → EReal)
      = accRs Q D K W t.val := by
  have ht : t.val < 64 := Nat.lt_of_lt_of_eq t.isLt N_0
  funext y
  unfold out7 accRs partRs
  rw [if_neg (fun e => h (by have := (newRun_iff t).mp e; omega)), coord_tile t, coord_pair t, Finset.sum_range_succ _ t.val,
    show t.val - 1 + 1 = t.val by omega]

/-- At the first point the column sums start; -/
theorem out10_new (t : Fin cfg0.N) (h : t.val = 0) (g : S8192x128.Idx → EReal) :
    (out10 (grid0.coords t) (xq Q (t.val / 16)) (xq D (t.val / 16)) (xk K (t.val % 16) (t.val / 16)) (xk W (t.val % 16) (t.val / 16)) g : S8192x128.Idx → EReal)
      = accCs Q D K W t.val := by
  funext y
  unfold out10 accCs partCs
  rw [if_pos ((newRun_iff t).mpr (by omega)), coord_tile t, coord_pair t, h, zero_add, Finset.sum_range_succ, Finset.sum_range_zero, zero_add]

/-- elsewhere they go on from the point before. -/
theorem out10_next (t : Fin cfg0.N) (h : ¬ t.val = 0) :
    (out10 (grid0.coords t) (xq Q (t.val / 16)) (xq D (t.val / 16)) (xk K (t.val % 16) (t.val / 16)) (xk W (t.val % 16) (t.val / 16)) (accCs Q D K W (t.val - 1)) : S8192x128.Idx → EReal)
      = accCs Q D K W t.val := by
  have ht : t.val < 64 := Nat.lt_of_lt_of_eq t.isLt N_0
  funext y
  unfold out10 accCs partCs
  rw [if_neg (fun e => h (by have := (newRun_iff t).mp e; omega)), coord_tile t, coord_pair t, Finset.sum_range_succ _ t.val,
    show t.val - 1 + 1 = t.val by omega]

/-- The keys' gradient of the point's tile, -/
theorem out8_eq (t : Fin cfg0.N) :
    (out8 (grid0.coords t) (xq Q (t.val / 16)) (xq D (t.val / 16)) (xk K (t.val % 16) (t.val / 16)) (xk W (t.val % 16) (t.val / 16)) : S512x128.Idx → EReal)
      = tileDk Q D K W t.val := by
  funext y
  unfold out8 tileDk
  rw [coord_tile t]
  split_ifs <;> rfl

/-- and the values'. -/
theorem out9_eq (t : Fin cfg0.N) :
    (out9 (grid0.coords t) (xq Q (t.val / 16)) (xq D (t.val / 16)) (xk K (t.val % 16) (t.val / 16)) : S512x128.Idx → EReal)
      = tileDv Q D K t.val := by
  funext y
  unfold out9 tileDv
  rw [coord_tile t]
  split_ifs <;> rfl

end Step

variable (m : (ℓ : Loc nD τ sig) → Buf (Elt Ideal) ℓ) (ρ : Dev nD → PrngReg)

/-! ## The proof data -/

/-- Each window's contents after a point: the inputs' blocks, and the outputs' sums so far. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => accDq (V m c main_v298) (V m c main_v304) (V m c main_v300) (V m c main_v302) t.val
    | ⟨5, _⟩ => accRs (V m c main_v298) (V m c main_v304) (V m c main_v300) (V m c main_v302) t.val
    | ⟨6, _⟩ => tileDk (V m c main_v298) (V m c main_v304) (V m c main_v300) (V m c main_v302) t.val
    | ⟨7, _⟩ => tileDv (V m c main_v298) (V m c main_v304) (V m c main_v300) t.val
    | ⟨8, _⟩ => accCs (V m c main_v298) (V m c main_v304) (V m c main_v300) (V m c main_v302) t.val
  Φ _ := Pipeline.ΦA spec0 c
  q _ := fullShare
  owed _ := 0

/-- The arrays are the contents at the region's entry. -/
theorem A_eq (c : Dev nD) (w : Fin cfg0.W) : (dats m 0 c).A w = V m c (Pipeline.arrRef spec0 w) := by
  dsimp only [dats]

/-- Window 0 after a point, -/
theorem after0_0 (c : Dev nD) (t : Fin cfg0.N) : (dats m 0 c).after 0 t = iblk m c 0 t := by dsimp only [dats]
/-- before it, -/
theorem before0_0 (c : Dev nD) (t : Fin cfg0.N) (d) : (dats m 0 c).before 0 t d = iblk m c 0 t :=
  before0_0_of m (dats m 0 c) (A_eq m c 0) (after0_0 m c) t d
/-- and its block read off the operand. -/
theorem iblk0_0 (c : Dev nD) (t : Fin cfg0.N) : (iblk m c 0 t : S8192x256.Idx → EReal) = xq (V m c main_v298) (t.val / 16) :=
  blk0_eq (V m c main_v298) t
/-- Window 1 after a point, -/
theorem after0_1 (c : Dev nD) (t : Fin cfg0.N) : (dats m 0 c).after 1 t = iblk m c 1 t := by dsimp only [dats]
/-- before it, -/
theorem before0_1 (c : Dev nD) (t : Fin cfg0.N) (d) : (dats m 0 c).before 1 t d = iblk m c 1 t :=
  before0_1_of m (dats m 0 c) (A_eq m c 1) (after0_1 m c) t d
/-- and its block read off the operand. -/
theorem iblk0_1 (c : Dev nD) (t : Fin cfg0.N) : (iblk m c 1 t : S8192x256.Idx → EReal) = xq (V m c main_v304) (t.val / 16) :=
  blk1_eq (V m c main_v304) t
/-- Window 2 after a point, -/
theorem after0_2 (c : Dev nD) (t : Fin cfg0.N) : (dats m 0 c).after 2 t = iblk m c 2 t := by dsimp only [dats]
/-- before it, -/
theorem before0_2 (c : Dev nD) (t : Fin cfg0.N) (d) : (dats m 0 c).before 2 t d = iblk m c 2 t :=
  before0_2_of m (dats m 0 c) (A_eq m c 2) (after0_2 m c) t d
/-- and its block read off the operand. -/
theorem iblk0_2 (c : Dev nD) (t : Fin cfg0.N) : (iblk m c 2 t : S512x256.Idx → EReal) = xk (V m c main_v300) (t.val % 16) (t.val / 16) :=
  blk2_eq (V m c main_v300) t
/-- Window 3 after a point, -/
theorem after0_3 (c : Dev nD) (t : Fin cfg0.N) : (dats m 0 c).after 3 t = iblk m c 3 t := by dsimp only [dats]
/-- before it, -/
theorem before0_3 (c : Dev nD) (t : Fin cfg0.N) (d) : (dats m 0 c).before 3 t d = iblk m c 3 t :=
  before0_3_of m (dats m 0 c) (A_eq m c 3) (after0_3 m c) t d
/-- and its block read off the operand. -/
theorem iblk0_3 (c : Dev nD) (t : Fin cfg0.N) : (iblk m c 3 t : S512x256.Idx → EReal) = xk (V m c main_v302) (t.val % 16) (t.val / 16) :=
  blk3_eq (V m c main_v302) t
/-- Window 4 after a point. -/
theorem after0_4 (c : Dev nD) (t : Fin cfg0.N) : (dats m 0 c).after 4 t = accDq (V m c main_v298) (V m c main_v304) (V m c main_v300) (V m c main_v302) t.val := by dsimp only [dats]
/-- Window 5 after a point. -/
theorem after0_5 (c : Dev nD) (t : Fin cfg0.N) : (dats m 0 c).after 5 t = accRs (V m c main_v298) (V m c main_v304) (V m c main_v300) (V m c main_v302) t.val := by dsimp only [dats]
/-- Window 6 after a point. -/
theorem after0_6 (c : Dev nD) (t : Fin cfg0.N) : (dats m 0 c).after 6 t = tileDk (V m c main_v298) (V m c main_v304) (V m c main_v300) (V m c main_v302) t.val := by dsimp only [dats]
/-- Window 7 after a point. -/
theorem after0_7 (c : Dev nD) (t : Fin cfg0.N) : (dats m 0 c).after 7 t = tileDv (V m c main_v298) (V m c main_v304) (V m c main_v300) t.val := by dsimp only [dats]
/-- Window 8 after a point. -/
theorem after0_8 (c : Dev nD) (t : Fin cfg0.N) : (dats m 0 c).after 8 t = accCs (V m c main_v298) (V m c main_v304) (V m c main_v300) (V m c main_v302) t.val := by dsimp only [dats]
/-- The queries' gradient is carried from the point before inside a pair. -/
theorem before0_4 (c : Dev nD) (t : Fin cfg0.N) (h : ¬ t.val % 16 = 0) (d) :
    (dats m 0 c).before 4 t d = accDq (V m c main_v298) (V m c main_v304) (V m c main_v300) (V m c main_v302) (t.val - 1) := by
  have ht : t.val < 64 := Nat.lt_of_lt_of_eq t.isLt N_0
  refine ((dats m 0 c).before_out_kept 4 rfl t (by omega) ?_ (fun _ => rfl) (fun _ _ => rfl) d).trans (after0_4 m c _)
  refine Bool.eq_false_iff.mpr fun e => ?_
  have e' := (flush0_4 _).mp e
  dsimp only at e'
  omega
/-- Window 5 is carried from the point before. -/
theorem before0_5 (c : Dev nD) (t : Fin cfg0.N) (h : ¬ t.val = 0) (d) :
    (dats m 0 c).before 5 t d = accRs (V m c main_v298) (V m c main_v304) (V m c main_v300) (V m c main_v302) (t.val - 1) := by
  have ht : t.val < 64 := Nat.lt_of_lt_of_eq t.isLt N_0
  refine ((dats m 0 c).before_out_kept 5 rfl t h ?_ (fun _ => rfl) (fun _ _ => rfl) d).trans (after0_5 m c _)
  refine Bool.eq_false_iff.mpr fun e => ?_
  have e' := (flush0_5 _).mp e
  dsimp only at e'
  omega
/-- Window 8 is carried from the point before. -/
theorem before0_8 (c : Dev nD) (t : Fin cfg0.N) (h : ¬ t.val = 0) (d) :
    (dats m 0 c).before 8 t d = accCs (V m c main_v298) (V m c main_v304) (V m c main_v300) (V m c main_v302) (t.val - 1) := by
  have ht : t.val < 64 := Nat.lt_of_lt_of_eq t.isLt N_0
  refine ((dats m 0 c).before_out_kept 8 rfl t h ?_ (fun _ => rfl) (fun _ _ => rfl) d).trans (after0_8 m c _)
  refine Bool.eq_false_iff.mpr fun e => ?_
  have e' := (flush0_8 _).mp e
  dsimp only at e'
  omega

/-! ## The body obligation -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 4000000 in
/-- The body at any point of the grid. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8,
    iblk0_0, iblk0_1, iblk0_2, iblk0_3]
  have hN : t.val < 64 := lt_of_lt_of_eq t.isLt (show cfg0.N = 64 from N_0)
  by_cases h0 : t.val % 16 = 0
  · by_cases h1 : t.val = 0
    · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (point_A c (grid0.coords t) _ _ _ _ _ _ _ _ _ _ _ _ _ _ _ _ _ _ ((newPair_iff t).mpr h0) ((newRun_iff t).mpr (by omega)) (xq (V m c main_v298) (t.val / 16)) (xq (V m c main_v304) (t.val / 16)) (xk (V m c main_v300) (t.val % 16) (t.val / 16)) (xk (V m c main_v302) (t.val % 16) (t.val / 16)) _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iintro ⟨H0, H1, H2, H3, H4, H5, H6, H7, H8⟩
      rw [out8_eq (V m c main_v298) (V m c main_v304) (V m c main_v300) (V m c main_v302) t, out9_eq (V m c main_v298) (V m c main_v304) (V m c main_v300) t]
      rw [out6_new (V m c main_v298) (V m c main_v304) (V m c main_v300) (V m c main_v302) t h0, out7_new (V m c main_v298) (V m c main_v304) (V m c main_v300) (V m c main_v302) t h1, out10_new (V m c main_v298) (V m c main_v304) (V m c main_v300) (V m c main_v302) t h1]
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      rw [before0_5 m c t h1, before0_8 m c t h1]
      iapply (point_C c (grid0.coords t) _ _ _ _ _ _ _ _ _ _ _ _ _ _ _ _ _ _ ((newPair_iff t).mpr h0) (fun e => h1 (by have := (newRun_iff t).mp e; omega)) (xq (V m c main_v298) (t.val / 16)) (xq (V m c main_v304) (t.val / 16)) (xk (V m c main_v300) (t.val % 16) (t.val / 16)) (xk (V m c main_v302) (t.val % 16) (t.val / 16)) _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iintro ⟨H0, H1, H2, H3, H4, H5, H6, H7, H8⟩
      rw [out8_eq (V m c main_v298) (V m c main_v304) (V m c main_v300) (V m c main_v302) t, out9_eq (V m c main_v298) (V m c main_v304) (V m c main_v300) t]
      rw [out6_new (V m c main_v298) (V m c main_v304) (V m c main_v300) (V m c main_v302) t h0, out7_next (V m c main_v298) (V m c main_v304) (V m c main_v300) (V m c main_v302) t h1, out10_next (V m c main_v298) (V m c main_v304) (V m c main_v300) (V m c main_v302) t h1]
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
  · have h1 : ¬ t.val = 0 := by omega
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    rw [before0_4 m c t h0, before0_5 m c t h1, before0_8 m c t h1]
    iapply (point_B c (grid0.coords t) _ _ _ _ _ _ _ _ _ _ _ _ _ _ _ _ _ _ (fun e => h0 ((newPair_iff t).mp e)) (fun e => h1 (by have := (newRun_iff t).mp e; omega)) (xq (V m c main_v298) (t.val / 16)) (xq (V m c main_v304) (t.val / 16)) (xk (V m c main_v300) (t.val % 16) (t.val / 16)) (xk (V m c main_v302) (t.val % 16) (t.val / 16)) _ _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iintro ⟨H0, H1, H2, H3, H4, H5, H6, H7, H8⟩
    rw [out8_eq (V m c main_v298) (V m c main_v304) (V m c main_v300) (V m c main_v302) t, out9_eq (V m c main_v298) (V m c main_v304) (V m c main_v300) t]
    rw [out6_next (V m c main_v298) (V m c main_v304) (V m c main_v300) (V m c main_v302) t h0, out7_next (V m c main_v298) (V m c main_v304) (V m c main_v300) (V m c main_v302) t h1, out10_next (V m c main_v298) (V m c main_v304) (V m c main_v300) (V m c main_v302) t h1]
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The body table's row at a point's slots is the body there. -/
theorem defs₀_row (t : Fin cfg0.N) :
    defs₀ (F := Ideal) .tc cfg0.body (cfg0.bodyArgs t (cfg0.slots t)) = bodyAt0 t := by
  unfold defs₀; rw [Defs.onTc_tc]

/-- The body obligation, at every point. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-! ## The run -/

set_option backward.isDefEq.respectTransparency.types false in
/-- The launch: each window's array ends as the write-backs leave it, and every counter at zero. -/
theorem run_main_quiescent : θ_run defs (onTc (τ := τ) (main (F := Ideal))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)
    (hQ' := fun _ h => h)

/-- The run without the counters. -/
theorem run_main : θ_run defs (onTc (τ := τ) (main (F := Ideal))) (s₀ m ρ) (Pipeline.FramePost cfgs (dats m) 0 (V m)) :=
  (θ_run defs _ _).mono (fun _ h => h.1) (run_main_quiescent m ρ)

/-- The frame: the arguments end unchanged, the counters at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.KernelIdeal.Hand

end
-- ==== Proof.Final.lean ====
module

public import proofs.«01_k».proof.Proof.Data
public import proofs.«01_k».proof.Proof.Gen.KernelIdeal.Frame
public import Idealize.ShloMosaic.Lib.Claim

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-! ## The result arrays after the run -/

section Results

variable (Q D K W : S8192x1024.Idx → EReal)

/-- The queries' gradient: the sum over the tiles of keys. -/
def resDq : S8192x512.Idx → EReal := fun y =>
  ∑ j ∈ Finset.range 16, partDq Q D K W j ((y 1).val / 128) (y 0).val ((y 1).val % 128)

/-- The row sums. -/
def resRs : S8192x128.Idx → EReal := fun y =>
  ∑ u ∈ Finset.range 64, partRs Q D K W (u % 16) (u / 16) (y 0).val (y 1).val

/-- The column sums. -/
def resCs : S8192x128.Idx → EReal := fun y =>
  ∑ u ∈ Finset.range 64, partCs Q D K W (u % 16) (u / 16) (y 0).val (y 1).val

/-- The keys' gradient. -/
def resDk : S8192x512.Idx → EReal := fun y =>
  sDk (xq Q ((y 1).val / 128)) (xq D ((y 1).val / 128)) (xk K ((y 0).val / 512) ((y 1).val / 128)) (xk W ((y 0).val / 512) ((y 1).val / 128))
    ((y 0).val / 512) (if (y 1).val % 128 < 64 then 0 else 1) ((y 0).val % 512) ((y 1).val % 128)

/-- The values' gradient. -/
def resDv : S8192x512.Idx → EReal := fun y =>
  sDv (xq Q ((y 1).val / 128)) (xq D ((y 1).val / 128)) (xk K ((y 0).val / 512) ((y 1).val / 128))
    ((y 0).val / 512) (if (y 1).val % 128 < 64 then 0 else 1) ((y 0).val % 512) ((y 1).val % 128)

end Results

variable (m : (ℓ : Loc nD τ sig) → Buf (Elt Ideal) ℓ) (ρ : Dev nD → PrngReg)

/-- A window over the whole array lies at zero. -/
theorem tr5_0 (t : Fin cfg0.N) : cc0_transform_5 (grid0.coords t) 0 = 0 := rfl
/-- A window over the whole array lies at zero. -/
theorem tr5_1 (t : Fin cfg0.N) : cc0_transform_5 (grid0.coords t) 1 = 0 := rfl
/-- A window over the whole array lies at zero. -/
theorem tr8_0 (t : Fin cfg0.N) : cc0_transform_8 (grid0.coords t) 0 = 0 := rfl
/-- A window over the whole array lies at zero. -/
theorem tr8_1 (t : Fin cfg0.N) : cc0_transform_8 (grid0.coords t) 1 = 0 := rfl

/-- Where an element of output window 4's block lies. -/
theorem pos4 (t : Fin cfg0.N) (y : S8192x128.Idx) :
    ((win0_4.rect t).emb y (0 : Fin 2)).val = (0) * 8192 + (y 0).val ∧ ((win0_4.rect t).emb y (1 : Fin 2)).val = (t.val / 16) * 128 + (y 1).val := by
  constructor
  · refine (Pipeline.Window.rect_emb_val win0_4 t y (0 : Fin 2)).trans ?_
    show (cc0_transform_4 (grid0.coords t) 0) * 8192 + (y 0).val = _
    rw [tr4_0 t]
  · refine (Pipeline.Window.rect_emb_val win0_4 t y (1 : Fin 2)).trans ?_
    show (cc0_transform_4 (grid0.coords t) 1) * 128 + (y 1).val = _
    rw [tr4_1 t]

/-- What output window 4 writes back is its block of the result. -/
theorem flushed4_eq (c : Dev nD) (t : Fin cfg0.N) (hf : (cfg0.win 4).flush t = true) :
    (dats m 0 c).flushed 4 t = ((cfg0.win 4).blk t).view.read (Elt Ideal) (resDq (V m c main_v298) (V m c main_v304) (V m c main_v300) (V m c main_v302)) := by
  have ht : t.val < 64 := Nat.lt_of_lt_of_eq t.isLt N_0
  have hq := (flush0_4 t).mp hf
  show (cfg0.win 4).cut (grid0.coords t) ((dats m 0 c).after 4 t) = _
  rw [after0_4]
  funext y
  have h0 : (y 0).val < 8192 := (y 0).isLt
  have h1 : (y 1).val < 128 := (y 1).isLt
  obtain ⟨e0, e1⟩ := pos4 t y
  show accDq (V m c main_v298) (V m c main_v304) (V m c main_v300) (V m c main_v302) t.val y = resDq (V m c main_v298) (V m c main_v304) (V m c main_v300) (V m c main_v302) ((win0_4.rect t).emb y)
  unfold accDq resDq
  rw [e0, e1, hq, show (t.val / 16 * 128 + (y 1).val) / 128 = t.val / 16 by omega, show (t.val / 16 * 128 + (y 1).val) % 128 = (y 1).val by omega,
    zero_mul, zero_add]

/-- Every element of the result is in a block written back. -/
theorem cover4 (i : S8192x512.Idx) : ∃ t : Fin cfg0.N, (cfg0.win 4).flush t = true ∧ i ∈ ((cfg0.win 4).blk t).view.set := by
  have h0 : (i 0).val < 8192 := (i 0).isLt
  have h1 : (i 1).val < 512 := (i 1).isLt
  have hN : cfg0.N = 64 := N_0
  obtain ⟨t, ht⟩ : ∃ t : Fin cfg0.N, t.val = 16 * ((i 1).val / 128) + 15 := ⟨⟨16 * ((i 1).val / 128) + 15, by omega⟩, rfl⟩
  obtain ⟨y, hy0, hy1⟩ : ∃ y : S8192x128.Idx, (y 0).val = (i 0).val ∧ (y 1).val = (i 1).val % 128 := ⟨ix2 ⟨(i 0).val, by omega⟩ ⟨(i 1).val % 128, by omega⟩, rfl, rfl⟩
  refine ⟨t, (flush0_4 t).mpr (by omega), ?_⟩
  obtain ⟨e0, e1⟩ := pos4 t y
  have h := ((cfg0.win 4).blk t).view.emb_mem_set y
  have e : ((win0_4.rect t).emb y : S8192x512.Idx) = i := by
    funext a
    apply Fin.ext
    match a with
    | ⟨0, _⟩ => exact e0.trans (by rw [hy0]; show _ = (i 0).val; omega)
    | ⟨1, _⟩ => exact e1.trans (by rw [hy1, ht]; show _ = (i 1).val; omega)
  exact e ▸ h

/-- The result array of window 4 after the run. -/
theorem final4 (c : Dev nD) : (dats m 0 c).arrAt 4 cfg0.N = resDq (V m c main_v298) (V m c main_v304) (V m c main_v300) (V m c main_v302) :=
  (dats m 0 c).arrAt_eq_of_cover 4 (resDq (V m c main_v298) (V m c main_v304) (V m c main_v300) (V m c main_v302)) (flushed4_eq m c) cover4

/-- Where an element of output window 5's block lies. -/
theorem pos5 (t : Fin cfg0.N) (y : S8192x128.Idx) :
    ((win0_5.rect t).emb y (0 : Fin 2)).val = (0) * 8192 + (y 0).val ∧ ((win0_5.rect t).emb y (1 : Fin 2)).val = (0) * 128 + (y 1).val := by
  constructor
  · refine (Pipeline.Window.rect_emb_val win0_5 t y (0 : Fin 2)).trans ?_
    show (cc0_transform_5 (grid0.coords t) 0) * 8192 + (y 0).val = _
    rw [tr5_0 t]
  · refine (Pipeline.Window.rect_emb_val win0_5 t y (1 : Fin 2)).trans ?_
    show (cc0_transform_5 (grid0.coords t) 1) * 128 + (y 1).val = _
    rw [tr5_1 t]

/-- What output window 5 writes back is its block of the result. -/
theorem flushed5_eq (c : Dev nD) (t : Fin cfg0.N) (hf : (cfg0.win 5).flush t = true) :
    (dats m 0 c).flushed 5 t = ((cfg0.win 5).blk t).view.read (Elt Ideal) (resRs (V m c main_v298) (V m c main_v304) (V m c main_v300) (V m c main_v302)) := by
  have ht : t.val < 64 := Nat.lt_of_lt_of_eq t.isLt N_0
  have hq := (flush0_5 t).mp hf
  show (cfg0.win 5).cut (grid0.coords t) ((dats m 0 c).after 5 t) = _
  rw [after0_5]
  funext y
  have h0 : (y 0).val < 8192 := (y 0).isLt
  have h1 : (y 1).val < 128 := (y 1).isLt
  obtain ⟨e0, e1⟩ := pos5 t y
  show accRs (V m c main_v298) (V m c main_v304) (V m c main_v300) (V m c main_v302) t.val y = resRs (V m c main_v298) (V m c main_v304) (V m c main_v300) (V m c main_v302) ((win0_5.rect t).emb y)
  unfold accRs resRs
  rw [e0, e1, show t.val + 1 = 64 by omega, zero_mul, zero_add, zero_mul, zero_add]

/-- Every element of the result is in a block written back. -/
theorem cover5 (i : S8192x128.Idx) : ∃ t : Fin cfg0.N, (cfg0.win 5).flush t = true ∧ i ∈ ((cfg0.win 5).blk t).view.set := by
  have h0 : (i 0).val < 8192 := (i 0).isLt
  have h1 : (i 1).val < 128 := (i 1).isLt
  have hN : cfg0.N = 64 := N_0
  obtain ⟨t, ht⟩ : ∃ t : Fin cfg0.N, t.val = 63 := ⟨⟨63, by omega⟩, rfl⟩
  obtain ⟨y, hy0, hy1⟩ : ∃ y : S8192x128.Idx, (y 0).val = (i 0).val ∧ (y 1).val = (i 1).val := ⟨ix2 ⟨(i 0).val, by omega⟩ ⟨(i 1).val, by omega⟩, rfl, rfl⟩
  refine ⟨t, (flush0_5 t).mpr (by omega), ?_⟩
  obtain ⟨e0, e1⟩ := pos5 t y
  have h := ((cfg0.win 5).blk t).view.emb_mem_set y
  have e : ((win0_5.rect t).emb y : S8192x128.Idx) = i := by
    funext a
    apply Fin.ext
    match a with
    | ⟨0, _⟩ => exact e0.trans (by rw [hy0]; show _ = (i 0).val; omega)
    | ⟨1, _⟩ => exact e1.trans (by rw [hy1]; show _ = (i 1).val; omega)
  exact e ▸ h

/-- The result array of window 5 after the run. -/
theorem final5 (c : Dev nD) : (dats m 0 c).arrAt 5 cfg0.N = resRs (V m c main_v298) (V m c main_v304) (V m c main_v300) (V m c main_v302) :=
  (dats m 0 c).arrAt_eq_of_cover 5 (resRs (V m c main_v298) (V m c main_v304) (V m c main_v300) (V m c main_v302)) (flushed5_eq m c) cover5

/-- Where an element of output window 6's block lies. -/
theorem pos6 (t : Fin cfg0.N) (y : S512x128.Idx) :
    ((win0_6.rect t).emb y (0 : Fin 2)).val = (t.val % 16) * 512 + (y 0).val ∧ ((win0_6.rect t).emb y (1 : Fin 2)).val = (t.val / 16) * 128 + (y 1).val := by
  constructor
  · refine (Pipeline.Window.rect_emb_val win0_6 t y (0 : Fin 2)).trans ?_
    show (cc0_transform_6 (grid0.coords t) 0) * 512 + (y 0).val = _
    rw [tr6_0 t]
  · refine (Pipeline.Window.rect_emb_val win0_6 t y (1 : Fin 2)).trans ?_
    show (cc0_transform_6 (grid0.coords t) 1) * 128 + (y 1).val = _
    rw [tr6_1 t]

/-- What output window 6 writes back is its block of the result. -/
theorem flushed6_eq (c : Dev nD) (t : Fin cfg0.N) (hf : (cfg0.win 6).flush t = true) :
    (dats m 0 c).flushed 6 t = ((cfg0.win 6).blk t).view.read (Elt Ideal) (resDk (V m c main_v298) (V m c main_v304) (V m c main_v300) (V m c main_v302)) := by
  have ht : t.val < 64 := Nat.lt_of_lt_of_eq t.isLt N_0
  show (cfg0.win 6).cut (grid0.coords t) ((dats m 0 c).after 6 t) = _
  rw [after0_6]
  funext y
  have h0 : (y 0).val < 512 := (y 0).isLt
  have h1 : (y 1).val < 128 := (y 1).isLt
  obtain ⟨e0, e1⟩ := pos6 t y
  show tileDk (V m c main_v298) (V m c main_v304) (V m c main_v300) (V m c main_v302) t.val y = resDk (V m c main_v298) (V m c main_v304) (V m c main_v300) (V m c main_v302) ((win0_6.rect t).emb y)
  unfold tileDk resDk
  rw [e0, e1, show (t.val / 16 * 128 + (y 1).val) / 128 = t.val / 16 by omega, show (t.val / 16 * 128 + (y 1).val) % 128 = (y 1).val by omega,
    show (t.val % 16 * 512 + (y 0).val) / 512 = t.val % 16 by omega, show (t.val % 16 * 512 + (y 0).val) % 512 = (y 0).val by omega]

/-- Every element of the result is in a block written back. -/
theorem cover6 (i : S8192x512.Idx) : ∃ t : Fin cfg0.N, (cfg0.win 6).flush t = true ∧ i ∈ ((cfg0.win 6).blk t).view.set := by
  have h0 : (i 0).val < 8192 := (i 0).isLt
  have h1 : (i 1).val < 512 := (i 1).isLt
  have hN : cfg0.N = 64 := N_0
  obtain ⟨t, ht⟩ : ∃ t : Fin cfg0.N, t.val = 16 * ((i 1).val / 128) + (i 0).val / 512 := ⟨⟨16 * ((i 1).val / 128) + (i 0).val / 512, by omega⟩, rfl⟩
  obtain ⟨y, hy0, hy1⟩ : ∃ y : S512x128.Idx, (y 0).val = (i 0).val % 512 ∧ (y 1).val = (i 1).val % 128 := ⟨ix2 ⟨(i 0).val % 512, by omega⟩ ⟨(i 1).val % 128, by omega⟩, rfl, rfl⟩
  refine ⟨t, flush0_6 t, ?_⟩
  obtain ⟨e0, e1⟩ := pos6 t y
  have h := ((cfg0.win 6).blk t).view.emb_mem_set y
  have e : ((win0_6.rect t).emb y : S8192x512.Idx) = i := by
    funext a
    apply Fin.ext
    match a with
    | ⟨0, _⟩ => exact e0.trans (by rw [hy0, ht]; show _ = (i 0).val; omega)
    | ⟨1, _⟩ => exact e1.trans (by rw [hy1, ht]; show _ = (i 1).val; omega)
  exact e ▸ h

/-- The result array of window 6 after the run. -/
theorem final6 (c : Dev nD) : (dats m 0 c).arrAt 6 cfg0.N = resDk (V m c main_v298) (V m c main_v304) (V m c main_v300) (V m c main_v302) :=
  (dats m 0 c).arrAt_eq_of_cover 6 (resDk (V m c main_v298) (V m c main_v304) (V m c main_v300) (V m c main_v302)) (flushed6_eq m c) cover6

/-- Where an element of output window 7's block lies. -/
theorem pos7 (t : Fin cfg0.N) (y : S512x128.Idx) :
    ((win0_7.rect t).emb y (0 : Fin 2)).val = (t.val % 16) * 512 + (y 0).val ∧ ((win0_7.rect t).emb y (1 : Fin 2)).val = (t.val / 16) * 128 + (y 1).val := by
  constructor
  · refine (Pipeline.Window.rect_emb_val win0_7 t y (0 : Fin 2)).trans ?_
    show (cc0_transform_7 (grid0.coords t) 0) * 512 + (y 0).val = _
    rw [tr7_0 t]
  · refine (Pipeline.Window.rect_emb_val win0_7 t y (1 : Fin 2)).trans ?_
    show (cc0_transform_7 (grid0.coords t) 1) * 128 + (y 1).val = _
    rw [tr7_1 t]

/-- What output window 7 writes back is its block of the result. -/
theorem flushed7_eq (c : Dev nD) (t : Fin cfg0.N) (hf : (cfg0.win 7).flush t = true) :
    (dats m 0 c).flushed 7 t = ((cfg0.win 7).blk t).view.read (Elt Ideal) (resDv (V m c main_v298) (V m c main_v304) (V m c main_v300)) := by
  have ht : t.val < 64 := Nat.lt_of_lt_of_eq t.isLt N_0
  show (cfg0.win 7).cut (grid0.coords t) ((dats m 0 c).after 7 t) = _
  rw [after0_7]
  funext y
  have h0 : (y 0).val < 512 := (y 0).isLt
  have h1 : (y 1).val < 128 := (y 1).isLt
  obtain ⟨e0, e1⟩ := pos7 t y
  show tileDv (V m c main_v298) (V m c main_v304) (V m c main_v300) t.val y = resDv (V m c main_v298) (V m c main_v304) (V m c main_v300) ((win0_7.rect t).emb y)
  unfold tileDv resDv
  rw [e0, e1, show (t.val / 16 * 128 + (y 1).val) / 128 = t.val / 16 by omega, show (t.val / 16 * 128 + (y 1).val) % 128 = (y 1).val by omega,
    show (t.val % 16 * 512 + (y 0).val) / 512 = t.val % 16 by omega, show (t.val % 16 * 512 + (y 0).val) % 512 = (y 0).val by omega]

/-- Every element of the result is in a block written back. -/
theorem cover7 (i : S8192x512.Idx) : ∃ t : Fin cfg0.N, (cfg0.win 7).flush t = true ∧ i ∈ ((cfg0.win 7).blk t).view.set := by
  have h0 : (i 0).val < 8192 := (i 0).isLt
  have h1 : (i 1).val < 512 := (i 1).isLt
  have hN : cfg0.N = 64 := N_0
  obtain ⟨t, ht⟩ : ∃ t : Fin cfg0.N, t.val = 16 * ((i 1).val / 128) + (i 0).val / 512 := ⟨⟨16 * ((i 1).val / 128) + (i 0).val / 512, by omega⟩, rfl⟩
  obtain ⟨y, hy0, hy1⟩ : ∃ y : S512x128.Idx, (y 0).val = (i 0).val % 512 ∧ (y 1).val = (i 1).val % 128 := ⟨ix2 ⟨(i 0).val % 512, by omega⟩ ⟨(i 1).val % 128, by omega⟩, rfl, rfl⟩
  refine ⟨t, flush0_7 t, ?_⟩
  obtain ⟨e0, e1⟩ := pos7 t y
  have h := ((cfg0.win 7).blk t).view.emb_mem_set y
  have e : ((win0_7.rect t).emb y : S8192x512.Idx) = i := by
    funext a
    apply Fin.ext
    match a with
    | ⟨0, _⟩ => exact e0.trans (by rw [hy0, ht]; show _ = (i 0).val; omega)
    | ⟨1, _⟩ => exact e1.trans (by rw [hy1, ht]; show _ = (i 1).val; omega)
  exact e ▸ h

/-- The result array of window 7 after the run. -/
theorem final7 (c : Dev nD) : (dats m 0 c).arrAt 7 cfg0.N = resDv (V m c main_v298) (V m c main_v304) (V m c main_v300) :=
  (dats m 0 c).arrAt_eq_of_cover 7 (resDv (V m c main_v298) (V m c main_v304) (V m c main_v300)) (flushed7_eq m c) cover7

/-- Where an element of output window 8's block lies. -/
theorem pos8 (t : Fin cfg0.N) (y : S8192x128.Idx) :
    ((win0_8.rect t).emb y (0 : Fin 2)).val = (0) * 8192 + (y 0).val ∧ ((win0_8.rect t).emb y (1 : Fin 2)).val = (0) * 128 + (y 1).val := by
  constructor
  · refine (Pipeline.Window.rect_emb_val win0_8 t y (0 : Fin 2)).trans ?_
    show (cc0_transform_8 (grid0.coords t) 0) * 8192 + (y 0).val = _
    rw [tr8_0 t]
  · refine (Pipeline.Window.rect_emb_val win0_8 t y (1 : Fin 2)).trans ?_
    show (cc0_transform_8 (grid0.coords t) 1) * 128 + (y 1).val = _
    rw [tr8_1 t]

/-- What output window 8 writes back is its block of the result. -/
theorem flushed8_eq (c : Dev nD) (t : Fin cfg0.N) (hf : (cfg0.win 8).flush t = true) :
    (dats m 0 c).flushed 8 t = ((cfg0.win 8).blk t).view.read (Elt Ideal) (resCs (V m c main_v298) (V m c main_v304) (V m c main_v300) (V m c main_v302)) := by
  have ht : t.val < 64 := Nat.lt_of_lt_of_eq t.isLt N_0
  have hq := (flush0_8 t).mp hf
  show (cfg0.win 8).cut (grid0.coords t) ((dats m 0 c).after 8 t) = _
  rw [after0_8]
  funext y
  have h0 : (y 0).val < 8192 := (y 0).isLt
  have h1 : (y 1).val < 128 := (y 1).isLt
  obtain ⟨e0, e1⟩ := pos8 t y
  show accCs (V m c main_v298) (V m c main_v304) (V m c main_v300) (V m c main_v302) t.val y = resCs (V m c main_v298) (V m c main_v304) (V m c main_v300) (V m c main_v302) ((win0_8.rect t).emb y)
  unfold accCs resCs
  rw [e0, e1, show t.val + 1 = 64 by omega, zero_mul, zero_add, zero_mul, zero_add]

/-- Every element of the result is in a block written back. -/
theorem cover8 (i : S8192x128.Idx) : ∃ t : Fin cfg0.N, (cfg0.win 8).flush t = true ∧ i ∈ ((cfg0.win 8).blk t).view.set := by
  have h0 : (i 0).val < 8192 := (i 0).isLt
  have h1 : (i 1).val < 128 := (i 1).isLt
  have hN : cfg0.N = 64 := N_0
  obtain ⟨t, ht⟩ : ∃ t : Fin cfg0.N, t.val = 63 := ⟨⟨63, by omega⟩, rfl⟩
  obtain ⟨y, hy0, hy1⟩ : ∃ y : S8192x128.Idx, (y 0).val = (i 0).val ∧ (y 1).val = (i 1).val := ⟨ix2 ⟨(i 0).val, by omega⟩ ⟨(i 1).val, by omega⟩, rfl, rfl⟩
  refine ⟨t, (flush0_8 t).mpr (by omega), ?_⟩
  obtain ⟨e0, e1⟩ := pos8 t y
  have h := ((cfg0.win 8).blk t).view.emb_mem_set y
  have e : ((win0_8.rect t).emb y : S8192x128.Idx) = i := by
    funext a
    apply Fin.ext
    match a with
    | ⟨0, _⟩ => exact e0.trans (by rw [hy0]; show _ = (i 0).val; omega)
    | ⟨1, _⟩ => exact e1.trans (by rw [hy1]; show _ = (i 1).val; omega)
  exact e ▸ h

/-- The result array of window 8 after the run. -/
theorem final8 (c : Dev nD) : (dats m 0 c).arrAt 8 cfg0.N = resCs (V m c main_v298) (V m c main_v304) (V m c main_v300) (V m c main_v302) :=
  (dats m 0 c).arrAt_eq_of_cover 8 (resCs (V m c main_v298) (V m c main_v304) (V m c main_v300) (V m c main_v302)) (flushed8_eq m c) cover8

/-- The run of the idealized kernel: its five results, functions of the augmented operands, and the arguments unchanged. -/
theorem run : θ_run defs (onTc (τ := τ) (main (F := Ideal))) ⟨m, fun _ => 0, ρ⟩ (fun r => ∀ c : Dev nD,
      r.2.mem ((c.tc : Thread nD τ).loc main_v305_0) = resDq (V m c main_v298) (V m c main_v304) (V m c main_v300) (V m c main_v302)
      ∧ r.2.mem ((c.tc : Thread nD τ).loc main_v305_1) = resRs (V m c main_v298) (V m c main_v304) (V m c main_v300) (V m c main_v302)
      ∧ r.2.mem ((c.tc : Thread nD τ).loc main_v305_2) = resDk (V m c main_v298) (V m c main_v304) (V m c main_v300) (V m c main_v302)
      ∧ r.2.mem ((c.tc : Thread nD τ).loc main_v305_3) = resDv (V m c main_v298) (V m c main_v304) (V m c main_v300)
      ∧ r.2.mem ((c.tc : Thread nD τ).loc main_v305_4) = resCs (V m c main_v298) (V m c main_v304) (V m c main_v300) (V m c main_v302)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h.1 c).1 4).trans (final4 m c), ((h.1 c).1 5).trans (final5 m c), ((h.1 c).1 6).trans (final6 m c),
    ((h.1 c).1 7).trans (final7 m c), ((h.1 c).1 8).trans (final8 m c), h.2 c⟩) (θ_run_and (run_main m ρ) (frame_of m ρ (dats m) (A_eq m) (run_main m ρ)))

end Cert.KernelIdeal.Hand

end
-- ==== Proof.HostA.lean ====
module

public import proofs.«01_k».proof.Proof.Gen.KernelIdeal
public import proofs.«01_k».proof.Proof.Gen.KernelIdeal.Frame
public import Idealize.ShloMosaic.Lib.Pipeline.Value
public import Idealize.ShloMosaic.Lib.ValueIdx
public import Idealize.ShloMosaic.PureOps.Ideal.Laws

@[expose] public section

/-! The host operations that prepare the call's four operands, each as a function of the five arguments (`h_<buffer>`),
and each read at an index from its operands at an index (`h_<buffer>_apply`). -/

noncomputable section

namespace Cert.KernelIdeal.Host

open Cert.KernelIdeal Cert.KernelIdeal.Gen Idealize.ShloMosaic Idealize.ShloMosaic.TcCoe Idealize.SL.Sem Idealize.ShloMosaic.StableHlo

/-- A buffer's contents. -/
abbrev C (F : FTy → Type) (s : Shape) (e : EltTy) : Type := (⟨s, e⟩ : BufTy).Contents (Elt F)

variable {F : FTy → Type} [FloatOps F]
variable (x0 x1 x2 : C F S8192x512 .f32) (x3 : C F S8192x8 .f32) (x4 : C F S8192x512 .f32)

def h_cst : C F S_ .f32 := constant S_ .f32 0x3E000000#32
theorem h_cst_apply (i : S_.Idx) : h_cst (F := F) i = FloatOps.ofBits .f32 0x3E000000#32 := rfl

def h_v0 : C F S8192x512 .f32 := broadcastInDim S8192x512 ![] bcast_S_S8192x512 h_cst
abbrev ix_v0 (i : S8192x512.Idx) : S_.Idx := fun a => a.elim0
theorem h_v0_apply (i : S8192x512.Idx) : h_v0 (F := F) i = h_cst (F := F) (ix_v0 i) := by
  unfold h_v0
  generalize h_cst (F := F) = y
  exact broadcastInDim_apply _ bcast_S_S8192x512 y i (ix_v0 i) (fun a => a.elim0)

def h_v1 : C F S8192x512 .f32 := mulf x0 h_v0
theorem h_v1_apply (i : S8192x512.Idx) : h_v1 x0 i = FloatOps.mulf (x0 i) (h_v0 (F := F) i) := rfl

def h_v2 : C F S8192x8x64 .f32 := shapeCast _ (h_v1 x0) shapeCasts_S8192x512_S8192x8x64
set_option backward.proofsInPublic true in
abbrev ix_v2 (i : S8192x8x64.Idx) : S8192x512.Idx := fun a => match a with
  | ⟨0, _⟩ => ⟨(((i 0).val * 8 + (i 1).val) * 64 + (i 2).val) / 512, by have h0 : (i 0).val < 8192 := (i 0).isLt; have h1 : (i 1).val < 8 := (i 1).isLt; have h2 : (i 2).val < 64 := (i 2).isLt; show (((i 0).val * 8 + (i 1).val) * 64 + (i 2).val) / 512 < 8192; omega⟩
  | ⟨1, _⟩ => ⟨(((i 0).val * 8 + (i 1).val) * 64 + (i 2).val) % 512, by have h0 : (i 0).val < 8192 := (i 0).isLt; have h1 : (i 1).val < 8 := (i 1).isLt; have h2 : (i 2).val < 64 := (i 2).isLt; show (((i 0).val * 8 + (i 1).val) * 64 + (i 2).val) % 512 < 512; omega⟩
/-- The operation of `h_v2` at an index. -/
theorem at_v2 {e : EltTy} (y : C F S8192x512 e) (i : S8192x8x64.Idx) : shapeCast S8192x8x64 y shapeCasts_S8192x512_S8192x8x64 i = y (ix_v2 i) :=
  shapeCast_apply y shapeCasts_S8192x512_S8192x8x64 i (ix_v2 i)
    (by rewrite [Shape.rowMajor_val_two, Shape.rowMajor_val_three]; have h0 : (i 0).val < 8192 := (i 0).isLt; have h1 : (i 1).val < 8 := (i 1).isLt; have h2 : (i 2).val < 64 := (i 2).isLt; show (((i 0).val * 8 + (i 1).val) * 64 + (i 2).val) / 512 * 512 + (((i 0).val * 8 + (i 1).val) * 64 + (i 2).val) % 512 = ((i 0).val * 8 + (i 1).val) * 64 + (i 2).val; omega)
theorem h_v2_apply (i : S8192x8x64.Idx) : h_v2 x0 i = h_v1 x0 (ix_v2 i) := at_v2 _ i

def h_v3 : C F S8x8192x64 .f32 :=
  transpose S8x8192x64 [1, 0, 2] (h_v2 x0) transposes_S8192x8x64_S8x8192x64_1_0_2
abbrev ix_v3 (i : S8x8192x64.Idx) : S8192x8x64.Idx := fun a => match a with
  | ⟨0, _⟩ => ⟨(i 1).val, (i 1).isLt⟩
  | ⟨1, _⟩ => ⟨(i 0).val, (i 0).isLt⟩
  | ⟨2, _⟩ => ⟨(i 2).val, (i 2).isLt⟩
/-- The operation of `h_v3` at an index. -/
theorem at_v3 {e : EltTy} (y : C F S8192x8x64 e) (i : S8x8192x64.Idx) : transpose S8x8192x64 [1, 0, 2] y transposes_S8192x8x64_S8x8192x64_1_0_2 i = y (ix_v3 i) :=
  transpose_apply [1, 0, 2] y transposes_S8192x8x64_S8x8192x64_1_0_2 i (ix_v3 i) (fun b => match b with
    | ⟨0, _⟩ => rfl
    | ⟨1, _⟩ => rfl
    | ⟨2, _⟩ => rfl)
theorem h_v3_apply (i : S8x8192x64.Idx) : h_v3 x0 i = h_v2 x0 (ix_v3 i) := at_v3 _ i

def h_v4 : C F S8192x8x64 .f32 := shapeCast _ x1 shapeCasts_S8192x512_S8192x8x64
theorem h_v4_apply (i : S8192x8x64.Idx) : h_v4 x1 i = x1 (ix_v2 i) := at_v2 _ i

def h_v5 : C F S8x8192x64 .f32 :=
  transpose S8x8192x64 [1, 0, 2] (h_v4 x1) transposes_S8192x8x64_S8x8192x64_1_0_2
theorem h_v5_apply (i : S8x8192x64.Idx) : h_v5 x1 i = h_v4 x1 (ix_v3 i) := at_v3 _ i

def h_v6 : C F S8x8192x8192 .f32 :=
  Host.dotGeneral dot_S8x8192x64_S8x8192x64_S8x8192x8192_2_2_1_1_0_0 none (h_v3 x0) (h_v5 x1)
theorem lhs_main_v6_0 (i : S8x8192x8192.Idx) (q : dot_S8x8192x64_S8x8192x64_S8x8192x8192_2_2_1_1_0_0.contr.Idx) :
    (dot_S8x8192x64_S8x8192x64_S8x8192x8192_2_2_1_1_0_0.lhsIdx i q 0).val = (i 0).val := by
  unfold DotDims.lhsIdx
  rw [dif_pos (show (0 : Fin S8x8192x64.rank) ∈ dot_S8x8192x64_S8x8192x64_S8x8192x8192_2_2_1_1_0_0.lhsBatch by decide)]
  rfl
theorem lhs_main_v6_1 (i : S8x8192x8192.Idx) (q : dot_S8x8192x64_S8x8192x64_S8x8192x8192_2_2_1_1_0_0.contr.Idx) :
    (dot_S8x8192x64_S8x8192x64_S8x8192x8192_2_2_1_1_0_0.lhsIdx i q 1).val = (i 1).val := by
  unfold DotDims.lhsIdx
  rw [dif_neg (show ¬(1 : Fin S8x8192x64.rank) ∈ dot_S8x8192x64_S8x8192x64_S8x8192x8192_2_2_1_1_0_0.lhsBatch by decide), dif_pos (show (1 : Fin S8x8192x64.rank) ∈ dot_S8x8192x64_S8x8192x64_S8x8192x8192_2_2_1_1_0_0.lhsNonContracting by decide)]
  rfl
theorem lhs_main_v6_2 (i : S8x8192x8192.Idx) (q : dot_S8x8192x64_S8x8192x64_S8x8192x8192_2_2_1_1_0_0.contr.Idx) :
    (dot_S8x8192x64_S8x8192x64_S8x8192x8192_2_2_1_1_0_0.lhsIdx i q 2).val = (q ⟨0, by decide⟩).val :=
  dot_S8x8192x64_S8x8192x64_S8x8192x8192_2_2_1_1_0_0.lhsIdx_val_of_single rfl i q
theorem rhs_main_v6_0 (i : S8x8192x8192.Idx) (q : dot_S8x8192x64_S8x8192x64_S8x8192x8192_2_2_1_1_0_0.contr.Idx) :
    (dot_S8x8192x64_S8x8192x64_S8x8192x8192_2_2_1_1_0_0.rhsIdx i q 0).val = (i 0).val := by
  unfold DotDims.rhsIdx
  rw [dif_pos (show (0 : Fin S8x8192x64.rank) ∈ dot_S8x8192x64_S8x8192x64_S8x8192x8192_2_2_1_1_0_0.rhsBatch by decide)]
  rfl
theorem rhs_main_v6_1 (i : S8x8192x8192.Idx) (q : dot_S8x8192x64_S8x8192x64_S8x8192x8192_2_2_1_1_0_0.contr.Idx) :
    (dot_S8x8192x64_S8x8192x64_S8x8192x8192_2_2_1_1_0_0.rhsIdx i q 1).val = (i 2).val := by
  unfold DotDims.rhsIdx
  rw [dif_neg (show ¬(1 : Fin S8x8192x64.rank) ∈ dot_S8x8192x64_S8x8192x64_S8x8192x8192_2_2_1_1_0_0.rhsBatch by decide), dif_pos (show (1 : Fin S8x8192x64.rank) ∈ dot_S8x8192x64_S8x8192x64_S8x8192x8192_2_2_1_1_0_0.rhsNonContracting by decide)]
  rfl
theorem rhs_main_v6_2 (i : S8x8192x8192.Idx) (q : dot_S8x8192x64_S8x8192x64_S8x8192x8192_2_2_1_1_0_0.contr.Idx) :
    (dot_S8x8192x64_S8x8192x64_S8x8192x8192_2_2_1_1_0_0.rhsIdx i q 2).val = (q ⟨0, by decide⟩).val :=
  dot_S8x8192x64_S8x8192x64_S8x8192x8192_2_2_1_1_0_0.rhsIdx_val_of_single rfl i q
abbrev lx_v6 (i : S8x8192x8192.Idx) (k : Fin 64) : S8x8192x64.Idx := fun a => match a with
  | ⟨0, _⟩ => ⟨(i 0).val, (i 0).isLt⟩
  | ⟨1, _⟩ => ⟨(i 1).val, (i 1).isLt⟩
  | ⟨2, _⟩ => ⟨k.val, k.isLt⟩
abbrev rx_v6 (i : S8x8192x8192.Idx) (k : Fin 64) : S8x8192x64.Idx := fun a => match a with
  | ⟨0, _⟩ => ⟨(i 0).val, (i 0).isLt⟩
  | ⟨1, _⟩ => ⟨(i 2).val, (i 2).isLt⟩
  | ⟨2, _⟩ => ⟨k.val, k.isLt⟩
theorem h_v6_apply (x0 x1 : C Ideal S8192x512 .f32) (i : S8x8192x8192.Idx) :
    h_v6 x0 x1 i = ∑ k : Fin 64, h_v3 x0 (lx_v6 i k) * h_v5 x1 (rx_v6 i k) := by
  unfold h_v6
  generalize h_v3 x0 = y0
  generalize h_v5 x1 = y1
  simp only [Host.dotGeneral]
  rw [Ideal.dotGeneral_apply, ← Equiv.sum_comp (ValueIdx.contrEquiv1 dot_S8x8192x64_S8x8192x64_S8x8192x8192_2_2_1_1_0_0 64 rfl rfl).symm]
  refine Finset.sum_congr rfl fun k _ => ?_
  have hk := ValueIdx.contrEquiv1_symm_val dot_S8x8192x64_S8x8192x64_S8x8192x8192_2_2_1_1_0_0 64 rfl rfl k
  have el : dot_S8x8192x64_S8x8192x64_S8x8192x8192_2_2_1_1_0_0.lhsIdx i ((ValueIdx.contrEquiv1 dot_S8x8192x64_S8x8192x64_S8x8192x8192_2_2_1_1_0_0 64 rfl rfl).symm k) = lx_v6 i k := funext fun a => Fin.ext (by
    match a with
    | ⟨0, _⟩ => exact lhs_main_v6_0 _ _
    | ⟨1, _⟩ => exact lhs_main_v6_1 _ _
    | ⟨2, _⟩ => exact (lhs_main_v6_2 _ _).trans hk)
  have er : dot_S8x8192x64_S8x8192x64_S8x8192x8192_2_2_1_1_0_0.rhsIdx i ((ValueIdx.contrEquiv1 dot_S8x8192x64_S8x8192x64_S8x8192x8192_2_2_1_1_0_0 64 rfl rfl).symm k) = rx_v6 i k := funext fun a => Fin.ext (by
    match a with
    | ⟨0, _⟩ => exact rhs_main_v6_0 _ _
    | ⟨1, _⟩ => exact rhs_main_v6_1 _ _
    | ⟨2, _⟩ => exact (rhs_main_v6_2 _ _).trans hk)
  rw [el, er]

def h_v7 : C F S8x8192 .f32 := transpose S8x8192 [1, 0] x3 transposes_S8192x8_S8x8192_1_0
abbrev ix_v7 (i : S8x8192.Idx) : S8192x8.Idx := fun a => match a with
  | ⟨0, _⟩ => ⟨(i 1).val, (i 1).isLt⟩
  | ⟨1, _⟩ => ⟨(i 0).val, (i 0).isLt⟩
/-- The operation of `h_v7` at an index. -/
theorem at_v7 {e : EltTy} (y : C F S8192x8 e) (i : S8x8192.Idx) : transpose S8x8192 [1, 0] y transposes_S8192x8_S8x8192_1_0 i = y (ix_v7 i) :=
  transpose_apply [1, 0] y transposes_S8192x8_S8x8192_1_0 i (ix_v7 i) (fun b => match b with
    | ⟨0, _⟩ => rfl
    | ⟨1, _⟩ => rfl)
theorem h_v7_apply (i : S8x8192.Idx) : h_v7 x3 i = x3 (ix_v7 i) := at_v7 _ i

def h_v8 : C F S8x8192x1 .f32 := broadcastInDim S8x8192x1 ![0, 1] bcast_S8x8192_S8x8192x1_0_1 (h_v7 x3)
abbrev ix_v8 (i : S8x8192x1.Idx) : S8x8192.Idx := fun a => match a with
  | ⟨0, _⟩ => ⟨(i 0).val, (i 0).isLt⟩
  | ⟨1, _⟩ => ⟨(i 1).val, (i 1).isLt⟩
/-- The operation of `h_v8` at an index. -/
theorem at_v8 {e : EltTy} (y : C F S8x8192 e) (i : S8x8192x1.Idx) : broadcastInDim S8x8192x1 ![0, 1] bcast_S8x8192_S8x8192x1_0_1 y i = y (ix_v8 i) :=
  broadcastInDim_apply _ bcast_S8x8192_S8x8192x1_0_1 y i (ix_v8 i) (fun a => match a with
    | ⟨0, _⟩ => by show (i 0).val = if (8 : Nat) = 1 then 0 else (i 0).val; rw [if_neg (by decide)]
    | ⟨1, _⟩ => by show (i 1).val = if (8192 : Nat) = 1 then 0 else (i 1).val; rw [if_neg (by decide)])
theorem h_v8_apply (i : S8x8192x1.Idx) : h_v8 x3 i = h_v7 x3 (ix_v8 i) := at_v8 _ i

def h_v9 : C F S8x8192x8192 .f32 :=
  broadcastInDim S8x8192x8192 ![0, 1, 2] bcast_S8x8192x1_S8x8192x8192_0_1_2 (h_v8 x3)
abbrev ix_v9 (i : S8x8192x8192.Idx) : S8x8192x1.Idx := fun a => match a with
  | ⟨0, _⟩ => ⟨(i 0).val, (i 0).isLt⟩
  | ⟨1, _⟩ => ⟨(i 1).val, (i 1).isLt⟩
  | ⟨2, _⟩ => ⟨0, Nat.one_pos⟩
/-- The operation of `h_v9` at an index. -/
theorem at_v9 {e : EltTy} (y : C F S8x8192x1 e) (i : S8x8192x8192.Idx) : broadcastInDim S8x8192x8192 ![0, 1, 2] bcast_S8x8192x1_S8x8192x8192_0_1_2 y i = y (ix_v9 i) :=
  broadcastInDim_apply _ bcast_S8x8192x1_S8x8192x8192_0_1_2 y i (ix_v9 i) (fun a => match a with
    | ⟨0, _⟩ => by show (i 0).val = if (8 : Nat) = 1 then 0 else (i 0).val; rw [if_neg (by decide)]
    | ⟨1, _⟩ => by show (i 1).val = if (8192 : Nat) = 1 then 0 else (i 1).val; rw [if_neg (by decide)]
    | ⟨2, _⟩ => by show 0 = if (1 : Nat) = 1 then 0 else (i 2).val; rw [if_pos rfl])
theorem h_v9_apply (i : S8x8192x8192.Idx) : h_v9 x3 i = h_v8 x3 (ix_v9 i) := at_v9 _ i

def h_v10 : C F S8x8192x8192 .f32 := addf (h_v6 x0 x1) (h_v9 x3)
theorem h_v10_apply (i : S8x8192x8192.Idx) :
    h_v10 x0 x1 x3 i = FloatOps.addf (h_v6 x0 x1 i) (h_v9 x3 i) := rfl

def h_v11 : C F S8x8192 .f32 := transpose S8x8192 [1, 0] x3 transposes_S8192x8_S8x8192_1_0
theorem h_v11_apply (i : S8x8192.Idx) : h_v11 x3 i = x3 (ix_v7 i) := at_v7 _ i

def h_v12 : C F S8x1x8192 .f32 := broadcastInDim S8x1x8192 ![0, 2] bcast_S8x8192_S8x1x8192_0_2 (h_v11 x3)
abbrev ix_v12 (i : S8x1x8192.Idx) : S8x8192.Idx := fun a => match a with
  | ⟨0, _⟩ => ⟨(i 0).val, (i 0).isLt⟩
  | ⟨1, _⟩ => ⟨(i 2).val, (i 2).isLt⟩
/-- The operation of `h_v12` at an index. -/
theorem at_v12 {e : EltTy} (y : C F S8x8192 e) (i : S8x1x8192.Idx) : broadcastInDim S8x1x8192 ![0, 2] bcast_S8x8192_S8x1x8192_0_2 y i = y (ix_v12 i) :=
  broadcastInDim_apply _ bcast_S8x8192_S8x1x8192_0_2 y i (ix_v12 i) (fun a => match a with
    | ⟨0, _⟩ => by show (i 0).val = if (8 : Nat) = 1 then 0 else (i 0).val; rw [if_neg (by decide)]
    | ⟨1, _⟩ => by show (i 2).val = if (8192 : Nat) = 1 then 0 else (i 2).val; rw [if_neg (by decide)])
theorem h_v12_apply (i : S8x1x8192.Idx) : h_v12 x3 i = h_v11 x3 (ix_v12 i) := at_v12 _ i

def h_v13 : C F S8x8192x8192 .f32 :=
  broadcastInDim S8x8192x8192 ![0, 1, 2] bcast_S8x1x8192_S8x8192x8192_0_1_2 (h_v12 x3)
abbrev ix_v13 (i : S8x8192x8192.Idx) : S8x1x8192.Idx := fun a => match a with
  | ⟨0, _⟩ => ⟨(i 0).val, (i 0).isLt⟩
  | ⟨1, _⟩ => ⟨0, Nat.one_pos⟩
  | ⟨2, _⟩ => ⟨(i 2).val, (i 2).isLt⟩
/-- The operation of `h_v13` at an index. -/
theorem at_v13 {e : EltTy} (y : C F S8x1x8192 e) (i : S8x8192x8192.Idx) : broadcastInDim S8x8192x8192 ![0, 1, 2] bcast_S8x1x8192_S8x8192x8192_0_1_2 y i = y (ix_v13 i) :=
  broadcastInDim_apply _ bcast_S8x1x8192_S8x8192x8192_0_1_2 y i (ix_v13 i) (fun a => match a with
    | ⟨0, _⟩ => by show (i 0).val = if (8 : Nat) = 1 then 0 else (i 0).val; rw [if_neg (by decide)]
    | ⟨1, _⟩ => by show 0 = if (1 : Nat) = 1 then 0 else (i 1).val; rw [if_pos rfl]
    | ⟨2, _⟩ => by show (i 2).val = if (8192 : Nat) = 1 then 0 else (i 2).val; rw [if_neg (by decide)])
theorem h_v13_apply (i : S8x8192x8192.Idx) : h_v13 x3 i = h_v12 x3 (ix_v13 i) := at_v13 _ i

def h_v14 : C F S8x8192x8192 .f32 := subf (h_v10 x0 x1 x3) (h_v13 x3)
theorem h_v14_apply (i : S8x8192x8192.Idx) :
    h_v14 x0 x1 x3 i = FloatOps.subf (h_v10 x0 x1 x3 i) (h_v13 x3 i) := rfl

def h_v15 : C F S8192x8192 .i32 := iotaInDim S8192x8192 32 1
theorem h_v15_apply (i : S8192x8192.Idx) : h_v15 (F := F) i = BitVec.ofNat 32 (i 1).val := rfl

def h_v16 : C F S8192x8192 .i32 := iotaInDim S8192x8192 32 0
theorem h_v16_apply (i : S8192x8192.Idx) : h_v16 (F := F) i = BitVec.ofNat 32 (i 0).val := rfl

def h_v17 : C F S8192x8192 .i1 := cmpi .sle (h_v15 (F := F)) (h_v16 (F := F))
theorem h_v17_apply (i : S8192x8192.Idx) :
    h_v17 (F := F) i = IntOp.cmpi .sle (h_v15 (F := F) i) (h_v16 (F := F) i) := rfl

def h_v18 : C F S1x8192x8192 .i1 :=
  broadcastInDim S1x8192x8192 ![1, 2] bcast_S8192x8192_S1x8192x8192_1_2 (h_v17 (F := F))
abbrev ix_v18 (i : S1x8192x8192.Idx) : S8192x8192.Idx := fun a => match a with
  | ⟨0, _⟩ => ⟨(i 1).val, (i 1).isLt⟩
  | ⟨1, _⟩ => ⟨(i 2).val, (i 2).isLt⟩
/-- The operation of `h_v18` at an index. -/
theorem at_v18 {e : EltTy} (y : C F S8192x8192 e) (i : S1x8192x8192.Idx) : broadcastInDim S1x8192x8192 ![1, 2] bcast_S8192x8192_S1x8192x8192_1_2 y i = y (ix_v18 i) :=
  broadcastInDim_apply _ bcast_S8192x8192_S1x8192x8192_1_2 y i (ix_v18 i) (fun a => match a with
    | ⟨0, _⟩ => by show (i 1).val = if (8192 : Nat) = 1 then 0 else (i 1).val; rw [if_neg (by decide)]
    | ⟨1, _⟩ => by show (i 2).val = if (8192 : Nat) = 1 then 0 else (i 2).val; rw [if_neg (by decide)])
theorem h_v18_apply (i : S1x8192x8192.Idx) : h_v18 (F := F) i = h_v17 (F := F) (ix_v18 i) := at_v18 _ i

def h_cst_0 : C F S_ .f32 := constant S_ .f32 0xFF800000#32
theorem h_cst_0_apply (i : S_.Idx) : h_cst_0 (F := F) i = FloatOps.ofBits .f32 0xFF800000#32 := rfl

def h_call0_v0 : C F S_ .f32 := id h_cst_0
theorem h_call0_v0_apply (i : S_.Idx) : h_call0_v0 (F := F) i = (h_cst_0 (F := F) i) := rfl

def h_call0_v1 : C F S8x8192x8192 .i1 :=
  broadcastInDim S8x8192x8192 ![0, 1, 2] bcast_S1x8192x8192_S8x8192x8192_0_1_2 (h_v18 (F := F))
abbrev ix_call0_v1 (i : S8x8192x8192.Idx) : S1x8192x8192.Idx := fun a => match a with
  | ⟨0, _⟩ => ⟨0, Nat.one_pos⟩
  | ⟨1, _⟩ => ⟨(i 1).val, (i 1).isLt⟩
  | ⟨2, _⟩ => ⟨(i 2).val, (i 2).isLt⟩
/-- The operation of `h_call0_v1` at an index. -/
theorem at_call0_v1 {e : EltTy} (y : C F S1x8192x8192 e) (i : S8x8192x8192.Idx) : broadcastInDim S8x8192x8192 ![0, 1, 2] bcast_S1x8192x8192_S8x8192x8192_0_1_2 y i = y (ix_call0_v1 i) :=
  broadcastInDim_apply _ bcast_S1x8192x8192_S8x8192x8192_0_1_2 y i (ix_call0_v1 i) (fun a => match a with
    | ⟨0, _⟩ => by show 0 = if (1 : Nat) = 1 then 0 else (i 0).val; rw [if_pos rfl]
    | ⟨1, _⟩ => by show (i 1).val = if (8192 : Nat) = 1 then 0 else (i 1).val; rw [if_neg (by decide)]
    | ⟨2, _⟩ => by show (i 2).val = if (8192 : Nat) = 1 then 0 else (i 2).val; rw [if_neg (by decide)])
theorem h_call0_v1_apply (i : S8x8192x8192.Idx) :
    h_call0_v1 (F := F) i = h_v18 (F := F) (ix_call0_v1 i) := at_call0_v1 _ i

def h_call0_v2 : C F S8x8192x8192 .f32 := broadcastInDim S8x8192x8192 ![] bcast_S_S8x8192x8192 h_call0_v0
abbrev ix_call0_v2 (i : S8x8192x8192.Idx) : S_.Idx := fun a => a.elim0
/-- The operation of `h_call0_v2` at an index. -/
theorem at_call0_v2 {e : EltTy} (y : C F S_ e) (i : S8x8192x8192.Idx) : broadcastInDim S8x8192x8192 ![] bcast_S_S8x8192x8192 y i = y (ix_call0_v2 i) :=
  broadcastInDim_apply _ bcast_S_S8x8192x8192 y i (ix_call0_v2 i) (fun a => a.elim0)
theorem h_call0_v2_apply (i : S8x8192x8192.Idx) :
    h_call0_v2 (F := F) i = h_call0_v0 (F := F) (ix_call0_v2 i) := at_call0_v2 _ i

def h_v19 : C F S8x8192x8192 .f32 := select (h_call0_v1 (F := F)) (h_v14 x0 x1 x3) h_call0_v2
theorem h_v19_apply (i : S8x8192x8192.Idx) :
    h_v19 x0 x1 x3 i = Scalar.select (h_call0_v1 (F := F) i) (h_v14 x0 x1 x3 i) (h_call0_v2 (F := F) i) := rfl

def h_cst_1 : C F S_ .f32 := constant S_ .f32 0xFF800000#32
theorem h_cst_1_apply (i : S_.Idx) : h_cst_1 (F := F) i = FloatOps.ofBits .f32 0xFF800000#32 := rfl

def h_v20 : C F S8x8192 .f32 :=
  Host.reduce FloatOps.maximumf (h_v19 x0 x1 x3) h_cst_1 reducesTo_S8x8192x8192_S8x8192_d2 h_S_

def h_v21 : C F S8x8192x1 .f32 :=
  broadcastInDim S8x8192x1 ![0, 1] bcast_S8x8192_S8x8192x1_0_1 (h_v20 x0 x1 x3)
theorem h_v21_apply (i : S8x8192x1.Idx) : h_v21 x0 x1 x3 i = h_v20 x0 x1 x3 (ix_v8 i) := at_v8 _ i

def h_v22 : C F S8x8192x8192 .f32 :=
  broadcastInDim S8x8192x8192 ![0, 1, 2] bcast_S8x8192x1_S8x8192x8192_0_1_2 (h_v21 x0 x1 x3)
theorem h_v22_apply (i : S8x8192x8192.Idx) : h_v22 x0 x1 x3 i = h_v21 x0 x1 x3 (ix_v9 i) := at_v9 _ i

def h_v23 : C F S8x8192x8192 .f32 := subf (h_v19 x0 x1 x3) (h_v22 x0 x1 x3)
theorem h_v23_apply (i : S8x8192x8192.Idx) :
    h_v23 x0 x1 x3 i = FloatOps.subf (h_v19 x0 x1 x3 i) (h_v22 x0 x1 x3 i) := rfl

def h_v24 : C F S8x8192x8192 .f32 := Host.exp (h_v23 x0 x1 x3)
theorem h_v24_apply (i : S8x8192x8192.Idx) :
    h_v24 x0 x1 x3 i = FloatOps.hostUnary .exp (h_v23 x0 x1 x3 i) := rfl

def h_cst_2 : C F S_ .f32 := constant S_ .f32 0x00000000#32
theorem h_cst_2_apply (i : S_.Idx) : h_cst_2 (F := F) i = FloatOps.ofBits .f32 0x00000000#32 := rfl

def h_v25 : C F S8x8192 .f32 := Host.reduceAdd (h_v24 x0 x1 x3) h_cst_2 reducesTo_S8x8192x8192_S8x8192_d2 h_S_
abbrev ix_v25 (i : S8x8192.Idx) (k : Fin 8192) : S8x8192x8192.Idx := fun a => match a with
  | ⟨0, _⟩ => ⟨(i 0).val, (i 0).isLt⟩
  | ⟨1, _⟩ => ⟨(i 1).val, (i 1).isLt⟩
  | ⟨2, _⟩ => ⟨k.val, k.isLt⟩
theorem h_v25_apply (x0 x1 : C Ideal S8192x512 .f32) (x3 : C Ideal S8192x8 .f32) (i : S8x8192.Idx) :
    h_v25 x0 x1 x3 i = (h_cst_2 (F := Ideal)) (Shape.Idx.first h_S_) + ∑ k : Fin 8192, (h_v24 x0 x1 x3) (ix_v25 i k) := by
  unfold h_v25
  generalize h_v24 x0 x1 x3 = y0
  simp only [Host.reduceAdd, Ideal.hostReduceAdd_def]
  rw [Ideal.hostReduceAdd_single reducesTo_S8x8192x8192_S8x8192_d2 (by decide)]
  refine congrArg (_ + ·) (Finset.sum_congr rfl fun k _ => ?_)
  exact congrArg y0 (funext fun a => Fin.ext (by match a with | ⟨0, _⟩ => rfl | ⟨1, _⟩ => rfl | ⟨2, _⟩ => rfl))

def h_v26 : C F S8x8192 .f32 := Host.log (h_v25 x0 x1 x3)
theorem h_v26_apply (i : S8x8192.Idx) : h_v26 x0 x1 x3 i = FloatOps.hostUnary .log (h_v25 x0 x1 x3 i) := rfl

def h_v27 : C F S8x8192 .f32 := addf (h_v20 x0 x1 x3) (h_v26 x0 x1 x3)
theorem h_v27_apply (i : S8x8192.Idx) :
    h_v27 x0 x1 x3 i = FloatOps.addf (h_v20 x0 x1 x3 i) (h_v26 x0 x1 x3 i) := rfl

def h_v28 : C F S8192x8 .f32 := transpose S8192x8 [1, 0] (h_v27 x0 x1 x3) transposes_S8x8192_S8192x8_1_0
abbrev ix_v28 (i : S8192x8.Idx) : S8x8192.Idx := fun a => match a with
  | ⟨0, _⟩ => ⟨(i 1).val, (i 1).isLt⟩
  | ⟨1, _⟩ => ⟨(i 0).val, (i 0).isLt⟩
theorem h_v28_apply (i : S8192x8.Idx) : h_v28 x0 x1 x3 i = h_v27 x0 x1 x3 (ix_v28 i) := by
  unfold h_v28
  generalize h_v27 x0 x1 x3 = y
  exact transpose_apply [1, 0] y transposes_S8x8192_S8192x8_1_0 i (ix_v28 i) (fun b => match b with
    | ⟨0, _⟩ => rfl
    | ⟨1, _⟩ => rfl)

def h_v29 : C F S8192x8x64 .f32 := shapeCast _ (h_v1 x0) shapeCasts_S8192x512_S8192x8x64
theorem h_v29_apply (i : S8192x8x64.Idx) : h_v29 x0 i = h_v1 x0 (ix_v2 i) := at_v2 _ i

def h_v30 : C F S8x8192x64 .f32 :=
  transpose S8x8192x64 [1, 0, 2] (h_v29 x0) transposes_S8192x8x64_S8x8192x64_1_0_2
theorem h_v30_apply (i : S8x8192x64.Idx) : h_v30 x0 i = h_v29 x0 (ix_v3 i) := at_v3 _ i

def h_v31 : C F S8192x8x64 .f32 := shapeCast _ x1 shapeCasts_S8192x512_S8192x8x64
theorem h_v31_apply (i : S8192x8x64.Idx) : h_v31 x1 i = x1 (ix_v2 i) := at_v2 _ i

def h_v32 : C F S8x8192x64 .f32 :=
  transpose S8x8192x64 [1, 0, 2] (h_v31 x1) transposes_S8192x8x64_S8x8192x64_1_0_2
theorem h_v32_apply (i : S8x8192x64.Idx) : h_v32 x1 i = h_v31 x1 (ix_v3 i) := at_v3 _ i

def h_v33 : C F S8x8192x8192 .f32 :=
  Host.dotGeneral dot_S8x8192x64_S8x8192x64_S8x8192x8192_2_2_1_1_0_0 none (h_v30 x0) (h_v32 x1)
theorem lhs_main_v33_0 (i : S8x8192x8192.Idx) (q : dot_S8x8192x64_S8x8192x64_S8x8192x8192_2_2_1_1_0_0.contr.Idx) :
    (dot_S8x8192x64_S8x8192x64_S8x8192x8192_2_2_1_1_0_0.lhsIdx i q 0).val = (i 0).val := by
  unfold DotDims.lhsIdx
  rw [dif_pos (show (0 : Fin S8x8192x64.rank) ∈ dot_S8x8192x64_S8x8192x64_S8x8192x8192_2_2_1_1_0_0.lhsBatch by decide)]
  rfl
theorem lhs_main_v33_1 (i : S8x8192x8192.Idx) (q : dot_S8x8192x64_S8x8192x64_S8x8192x8192_2_2_1_1_0_0.contr.Idx) :
    (dot_S8x8192x64_S8x8192x64_S8x8192x8192_2_2_1_1_0_0.lhsIdx i q 1).val = (i 1).val := by
  unfold DotDims.lhsIdx
  rw [dif_neg (show ¬(1 : Fin S8x8192x64.rank) ∈ dot_S8x8192x64_S8x8192x64_S8x8192x8192_2_2_1_1_0_0.lhsBatch by decide), dif_pos (show (1 : Fin S8x8192x64.rank) ∈ dot_S8x8192x64_S8x8192x64_S8x8192x8192_2_2_1_1_0_0.lhsNonContracting by decide)]
  rfl
theorem lhs_main_v33_2 (i : S8x8192x8192.Idx) (q : dot_S8x8192x64_S8x8192x64_S8x8192x8192_2_2_1_1_0_0.contr.Idx) :
    (dot_S8x8192x64_S8x8192x64_S8x8192x8192_2_2_1_1_0_0.lhsIdx i q 2).val = (q ⟨0, by decide⟩).val :=
  dot_S8x8192x64_S8x8192x64_S8x8192x8192_2_2_1_1_0_0.lhsIdx_val_of_single rfl i q
theorem rhs_main_v33_0 (i : S8x8192x8192.Idx) (q : dot_S8x8192x64_S8x8192x64_S8x8192x8192_2_2_1_1_0_0.contr.Idx) :
    (dot_S8x8192x64_S8x8192x64_S8x8192x8192_2_2_1_1_0_0.rhsIdx i q 0).val = (i 0).val := by
  unfold DotDims.rhsIdx
  rw [dif_pos (show (0 : Fin S8x8192x64.rank) ∈ dot_S8x8192x64_S8x8192x64_S8x8192x8192_2_2_1_1_0_0.rhsBatch by decide)]
  rfl
theorem rhs_main_v33_1 (i : S8x8192x8192.Idx) (q : dot_S8x8192x64_S8x8192x64_S8x8192x8192_2_2_1_1_0_0.contr.Idx) :
    (dot_S8x8192x64_S8x8192x64_S8x8192x8192_2_2_1_1_0_0.rhsIdx i q 1).val = (i 2).val := by
  unfold DotDims.rhsIdx
  rw [dif_neg (show ¬(1 : Fin S8x8192x64.rank) ∈ dot_S8x8192x64_S8x8192x64_S8x8192x8192_2_2_1_1_0_0.rhsBatch by decide), dif_pos (show (1 : Fin S8x8192x64.rank) ∈ dot_S8x8192x64_S8x8192x64_S8x8192x8192_2_2_1_1_0_0.rhsNonContracting by decide)]
  rfl
theorem rhs_main_v33_2 (i : S8x8192x8192.Idx) (q : dot_S8x8192x64_S8x8192x64_S8x8192x8192_2_2_1_1_0_0.contr.Idx) :
    (dot_S8x8192x64_S8x8192x64_S8x8192x8192_2_2_1_1_0_0.rhsIdx i q 2).val = (q ⟨0, by decide⟩).val :=
  dot_S8x8192x64_S8x8192x64_S8x8192x8192_2_2_1_1_0_0.rhsIdx_val_of_single rfl i q
abbrev lx_v33 (i : S8x8192x8192.Idx) (k : Fin 64) : S8x8192x64.Idx := fun a => match a with
  | ⟨0, _⟩ => ⟨(i 0).val, (i 0).isLt⟩
  | ⟨1, _⟩ => ⟨(i 1).val, (i 1).isLt⟩
  | ⟨2, _⟩ => ⟨k.val, k.isLt⟩
abbrev rx_v33 (i : S8x8192x8192.Idx) (k : Fin 64) : S8x8192x64.Idx := fun a => match a with
  | ⟨0, _⟩ => ⟨(i 0).val, (i 0).isLt⟩
  | ⟨1, _⟩ => ⟨(i 2).val, (i 2).isLt⟩
  | ⟨2, _⟩ => ⟨k.val, k.isLt⟩
theorem h_v33_apply (x0 x1 : C Ideal S8192x512 .f32) (i : S8x8192x8192.Idx) :
    h_v33 x0 x1 i = ∑ k : Fin 64, h_v30 x0 (lx_v33 i k) * h_v32 x1 (rx_v33 i k) := by
  unfold h_v33
  generalize h_v30 x0 = y0
  generalize h_v32 x1 = y1
  simp only [Host.dotGeneral]
  rw [Ideal.dotGeneral_apply, ← Equiv.sum_comp (ValueIdx.contrEquiv1 dot_S8x8192x64_S8x8192x64_S8x8192x8192_2_2_1_1_0_0 64 rfl rfl).symm]
  refine Finset.sum_congr rfl fun k _ => ?_
  have hk := ValueIdx.contrEquiv1_symm_val dot_S8x8192x64_S8x8192x64_S8x8192x8192_2_2_1_1_0_0 64 rfl rfl k
  have el : dot_S8x8192x64_S8x8192x64_S8x8192x8192_2_2_1_1_0_0.lhsIdx i ((ValueIdx.contrEquiv1 dot_S8x8192x64_S8x8192x64_S8x8192x8192_2_2_1_1_0_0 64 rfl rfl).symm k) = lx_v33 i k := funext fun a => Fin.ext (by
    match a with
    | ⟨0, _⟩ => exact lhs_main_v33_0 _ _
    | ⟨1, _⟩ => exact lhs_main_v33_1 _ _
    | ⟨2, _⟩ => exact (lhs_main_v33_2 _ _).trans hk)
  have er : dot_S8x8192x64_S8x8192x64_S8x8192x8192_2_2_1_1_0_0.rhsIdx i ((ValueIdx.contrEquiv1 dot_S8x8192x64_S8x8192x64_S8x8192x8192_2_2_1_1_0_0 64 rfl rfl).symm k) = rx_v33 i k := funext fun a => Fin.ext (by
    match a with
    | ⟨0, _⟩ => exact rhs_main_v33_0 _ _
    | ⟨1, _⟩ => exact rhs_main_v33_1 _ _
    | ⟨2, _⟩ => exact (rhs_main_v33_2 _ _).trans hk)
  rw [el, er]

def h_v34 : C F S8x8192 .f32 := transpose S8x8192 [1, 0] x3 transposes_S8192x8_S8x8192_1_0
theorem h_v34_apply (i : S8x8192.Idx) : h_v34 x3 i = x3 (ix_v7 i) := at_v7 _ i

def h_v35 : C F S8x8192x1 .f32 := broadcastInDim S8x8192x1 ![0, 1] bcast_S8x8192_S8x8192x1_0_1 (h_v34 x3)
theorem h_v35_apply (i : S8x8192x1.Idx) : h_v35 x3 i = h_v34 x3 (ix_v8 i) := at_v8 _ i

def h_v36 : C F S8x8192x8192 .f32 :=
  broadcastInDim S8x8192x8192 ![0, 1, 2] bcast_S8x8192x1_S8x8192x8192_0_1_2 (h_v35 x3)
theorem h_v36_apply (i : S8x8192x8192.Idx) : h_v36 x3 i = h_v35 x3 (ix_v9 i) := at_v9 _ i

def h_v37 : C F S8x8192x8192 .f32 := addf (h_v33 x0 x1) (h_v36 x3)
theorem h_v37_apply (i : S8x8192x8192.Idx) :
    h_v37 x0 x1 x3 i = FloatOps.addf (h_v33 x0 x1 i) (h_v36 x3 i) := rfl

def h_v38 : C F S8x8192 .f32 := transpose S8x8192 [1, 0] x3 transposes_S8192x8_S8x8192_1_0
theorem h_v38_apply (i : S8x8192.Idx) : h_v38 x3 i = x3 (ix_v7 i) := at_v7 _ i

def h_v39 : C F S8x1x8192 .f32 := broadcastInDim S8x1x8192 ![0, 2] bcast_S8x8192_S8x1x8192_0_2 (h_v38 x3)
theorem h_v39_apply (i : S8x1x8192.Idx) : h_v39 x3 i = h_v38 x3 (ix_v12 i) := at_v12 _ i

def h_v40 : C F S8x8192x8192 .f32 :=
  broadcastInDim S8x8192x8192 ![0, 1, 2] bcast_S8x1x8192_S8x8192x8192_0_1_2 (h_v39 x3)
theorem h_v40_apply (i : S8x8192x8192.Idx) : h_v40 x3 i = h_v39 x3 (ix_v13 i) := at_v13 _ i

def h_v41 : C F S8x8192x8192 .f32 := subf (h_v37 x0 x1 x3) (h_v40 x3)
theorem h_v41_apply (i : S8x8192x8192.Idx) :
    h_v41 x0 x1 x3 i = FloatOps.subf (h_v37 x0 x1 x3 i) (h_v40 x3 i) := rfl

def h_v42 : C F S8192x8192 .i32 := iotaInDim S8192x8192 32 1
theorem h_v42_apply (i : S8192x8192.Idx) : h_v42 (F := F) i = BitVec.ofNat 32 (i 1).val := rfl

def h_v43 : C F S8192x8192 .i32 := iotaInDim S8192x8192 32 0
theorem h_v43_apply (i : S8192x8192.Idx) : h_v43 (F := F) i = BitVec.ofNat 32 (i 0).val := rfl

def h_v44 : C F S8192x8192 .i1 := cmpi .sle (h_v42 (F := F)) (h_v43 (F := F))
theorem h_v44_apply (i : S8192x8192.Idx) :
    h_v44 (F := F) i = IntOp.cmpi .sle (h_v42 (F := F) i) (h_v43 (F := F) i) := rfl

def h_v45 : C F S1x8192x8192 .i1 :=
  broadcastInDim S1x8192x8192 ![1, 2] bcast_S8192x8192_S1x8192x8192_1_2 (h_v44 (F := F))
theorem h_v45_apply (i : S1x8192x8192.Idx) : h_v45 (F := F) i = h_v44 (F := F) (ix_v18 i) := at_v18 _ i

def h_cst_3 : C F S_ .f32 := constant S_ .f32 0xFF800000#32
theorem h_cst_3_apply (i : S_.Idx) : h_cst_3 (F := F) i = FloatOps.ofBits .f32 0xFF800000#32 := rfl

def h_call1_v0 : C F S_ .f32 := id h_cst_3
theorem h_call1_v0_apply (i : S_.Idx) : h_call1_v0 (F := F) i = (h_cst_3 (F := F) i) := rfl

def h_call1_v1 : C F S8x8192x8192 .i1 :=
  broadcastInDim S8x8192x8192 ![0, 1, 2] bcast_S1x8192x8192_S8x8192x8192_0_1_2 (h_v45 (F := F))
theorem h_call1_v1_apply (i : S8x8192x8192.Idx) :
    h_call1_v1 (F := F) i = h_v45 (F := F) (ix_call0_v1 i) := at_call0_v1 _ i

def h_call1_v2 : C F S8x8192x8192 .f32 := broadcastInDim S8x8192x8192 ![] bcast_S_S8x8192x8192 h_call1_v0
theorem h_call1_v2_apply (i : S8x8192x8192.Idx) :
    h_call1_v2 (F := F) i = h_call1_v0 (F := F) (ix_call0_v2 i) := at_call0_v2 _ i

def h_v46 : C F S8x8192x8192 .f32 := select (h_call1_v1 (F := F)) (h_v41 x0 x1 x3) h_call1_v2
theorem h_v46_apply (i : S8x8192x8192.Idx) :
    h_v46 x0 x1 x3 i = Scalar.select (h_call1_v1 (F := F) i) (h_v41 x0 x1 x3 i) (h_call1_v2 (F := F) i) := rfl

def h_cst_4 : C F S_ .f32 := constant S_ .f32 0xFF800000#32
theorem h_cst_4_apply (i : S_.Idx) : h_cst_4 (F := F) i = FloatOps.ofBits .f32 0xFF800000#32 := rfl

def h_v47 : C F S8x8192 .f32 :=
  Host.reduce FloatOps.maximumf (h_v46 x0 x1 x3) h_cst_4 reducesTo_S8x8192x8192_S8x8192_d2 h_S_

def h_cst_5 : C F S_ .f32 := constant S_ .f32 0xFF800000#32
theorem h_cst_5_apply (i : S_.Idx) : h_cst_5 (F := F) i = FloatOps.ofBits .f32 0xFF800000#32 := rfl

def h_v48 : C F S8x8192 .f32 := broadcastInDim S8x8192 ![] bcast_S_S8x8192 h_cst_5
abbrev ix_v48 (i : S8x8192.Idx) : S_.Idx := fun a => a.elim0
theorem h_v48_apply (i : S8x8192.Idx) : h_v48 (F := F) i = h_cst_5 (F := F) (ix_v48 i) := by
  unfold h_v48
  generalize h_cst_5 (F := F) = y
  exact broadcastInDim_apply _ bcast_S_S8x8192 y i (ix_v48 i) (fun a => a.elim0)

def h_v49 : C F S8x8192 .f32 := maximumf h_v48 (h_v47 x0 x1 x3)
theorem h_v49_apply (i : S8x8192.Idx) :
    h_v49 x0 x1 x3 i = FloatOps.maximumf (h_v48 (F := F) i) (h_v47 x0 x1 x3 i) := rfl

def h_v50 : C F S8x8192x1 .f32 :=
  broadcastInDim S8x8192x1 ![0, 1] bcast_S8x8192_S8x8192x1_0_1 (h_v49 x0 x1 x3)
theorem h_v50_apply (i : S8x8192x1.Idx) : h_v50 x0 x1 x3 i = h_v49 x0 x1 x3 (ix_v8 i) := at_v8 _ i

def h_v51 : C F S8x8192x8192 .f32 :=
  broadcastInDim S8x8192x8192 ![0, 1, 2] bcast_S8x8192x1_S8x8192x8192_0_1_2 (h_v50 x0 x1 x3)
theorem h_v51_apply (i : S8x8192x8192.Idx) : h_v51 x0 x1 x3 i = h_v50 x0 x1 x3 (ix_v9 i) := at_v9 _ i

def h_v52 : C F S8x8192x8192 .f32 := subf (h_v46 x0 x1 x3) (h_v51 x0 x1 x3)
theorem h_v52_apply (i : S8x8192x8192.Idx) :
    h_v52 x0 x1 x3 i = FloatOps.subf (h_v46 x0 x1 x3 i) (h_v51 x0 x1 x3 i) := rfl

def h_v53 : C F S8x8192x8192 .f32 := Host.exp (h_v52 x0 x1 x3)
theorem h_v53_apply (i : S8x8192x8192.Idx) :
    h_v53 x0 x1 x3 i = FloatOps.hostUnary .exp (h_v52 x0 x1 x3 i) := rfl

def h_cst_6 : C F S_ .f32 := constant S_ .f32 0x00000000#32
theorem h_cst_6_apply (i : S_.Idx) : h_cst_6 (F := F) i = FloatOps.ofBits .f32 0x00000000#32 := rfl

def h_v54 : C F S8x8192 .f32 := Host.reduceAdd (h_v53 x0 x1 x3) h_cst_6 reducesTo_S8x8192x8192_S8x8192_d2 h_S_
abbrev ix_v54 (i : S8x8192.Idx) (k : Fin 8192) : S8x8192x8192.Idx := fun a => match a with
  | ⟨0, _⟩ => ⟨(i 0).val, (i 0).isLt⟩
  | ⟨1, _⟩ => ⟨(i 1).val, (i 1).isLt⟩
  | ⟨2, _⟩ => ⟨k.val, k.isLt⟩
theorem h_v54_apply (x0 x1 : C Ideal S8192x512 .f32) (x3 : C Ideal S8192x8 .f32) (i : S8x8192.Idx) :
    h_v54 x0 x1 x3 i = (h_cst_6 (F := Ideal)) (Shape.Idx.first h_S_) + ∑ k : Fin 8192, (h_v53 x0 x1 x3) (ix_v54 i k) := by
  unfold h_v54
  generalize h_v53 x0 x1 x3 = y0
  simp only [Host.reduceAdd, Ideal.hostReduceAdd_def]
  rw [Ideal.hostReduceAdd_single reducesTo_S8x8192x8192_S8x8192_d2 (by decide)]
  refine congrArg (_ + ·) (Finset.sum_congr rfl fun k _ => ?_)
  exact congrArg y0 (funext fun a => Fin.ext (by match a with | ⟨0, _⟩ => rfl | ⟨1, _⟩ => rfl | ⟨2, _⟩ => rfl))

def h_v55 : C F S8x8192x1 .f32 :=
  broadcastInDim S8x8192x1 ![0, 1] bcast_S8x8192_S8x8192x1_0_1 (h_v54 x0 x1 x3)
theorem h_v55_apply (i : S8x8192x1.Idx) : h_v55 x0 x1 x3 i = h_v54 x0 x1 x3 (ix_v8 i) := at_v8 _ i

def h_v56 : C F S8x8192x8192 .f32 :=
  broadcastInDim S8x8192x8192 ![0, 1, 2] bcast_S8x8192x1_S8x8192x8192_0_1_2 (h_v55 x0 x1 x3)
theorem h_v56_apply (i : S8x8192x8192.Idx) : h_v56 x0 x1 x3 i = h_v55 x0 x1 x3 (ix_v9 i) := at_v9 _ i

def h_v57 : C F S8x8192x8192 .f32 := Host.divf (h_v53 x0 x1 x3) (h_v56 x0 x1 x3)
theorem h_v57_apply (i : S8x8192x8192.Idx) :
    h_v57 x0 x1 x3 i = FloatOps.hostDivf (h_v53 x0 x1 x3 i) (h_v56 x0 x1 x3 i) := rfl

def h_v58 : C F S8192x8x64 .f32 := shapeCast _ x2 shapeCasts_S8192x512_S8192x8x64
theorem h_v58_apply (i : S8192x8x64.Idx) : h_v58 x2 i = x2 (ix_v2 i) := at_v2 _ i

def h_v59 : C F S8x8192x64 .f32 :=
  transpose S8x8192x64 [1, 0, 2] (h_v58 x2) transposes_S8192x8x64_S8x8192x64_1_0_2
theorem h_v59_apply (i : S8x8192x64.Idx) : h_v59 x2 i = h_v58 x2 (ix_v3 i) := at_v3 _ i

def h_v60 : C F S8x8192x64 .f32 :=
  Host.dotGeneral dot_S8x8192x8192_S8x8192x64_S8x8192x64_2_1_1_2_0_0 none (h_v57 x0 x1 x3) (h_v59 x2)
theorem lhs_main_v60_0 (i : S8x8192x64.Idx) (q : dot_S8x8192x8192_S8x8192x64_S8x8192x64_2_1_1_2_0_0.contr.Idx) :
    (dot_S8x8192x8192_S8x8192x64_S8x8192x64_2_1_1_2_0_0.lhsIdx i q 0).val = (i 0).val := by
  unfold DotDims.lhsIdx
  rw [dif_pos (show (0 : Fin S8x8192x8192.rank) ∈ dot_S8x8192x8192_S8x8192x64_S8x8192x64_2_1_1_2_0_0.lhsBatch by decide)]
  rfl
theorem lhs_main_v60_1 (i : S8x8192x64.Idx) (q : dot_S8x8192x8192_S8x8192x64_S8x8192x64_2_1_1_2_0_0.contr.Idx) :
    (dot_S8x8192x8192_S8x8192x64_S8x8192x64_2_1_1_2_0_0.lhsIdx i q 1).val = (i 1).val := by
  unfold DotDims.lhsIdx
  rw [dif_neg (show ¬(1 : Fin S8x8192x8192.rank) ∈ dot_S8x8192x8192_S8x8192x64_S8x8192x64_2_1_1_2_0_0.lhsBatch by decide), dif_pos (show (1 : Fin S8x8192x8192.rank) ∈ dot_S8x8192x8192_S8x8192x64_S8x8192x64_2_1_1_2_0_0.lhsNonContracting by decide)]
  rfl
theorem lhs_main_v60_2 (i : S8x8192x64.Idx) (q : dot_S8x8192x8192_S8x8192x64_S8x8192x64_2_1_1_2_0_0.contr.Idx) :
    (dot_S8x8192x8192_S8x8192x64_S8x8192x64_2_1_1_2_0_0.lhsIdx i q 2).val = (q ⟨0, by decide⟩).val :=
  dot_S8x8192x8192_S8x8192x64_S8x8192x64_2_1_1_2_0_0.lhsIdx_val_of_single rfl i q
theorem rhs_main_v60_0 (i : S8x8192x64.Idx) (q : dot_S8x8192x8192_S8x8192x64_S8x8192x64_2_1_1_2_0_0.contr.Idx) :
    (dot_S8x8192x8192_S8x8192x64_S8x8192x64_2_1_1_2_0_0.rhsIdx i q 0).val = (i 0).val := by
  unfold DotDims.rhsIdx
  rw [dif_pos (show (0 : Fin S8x8192x64.rank) ∈ dot_S8x8192x8192_S8x8192x64_S8x8192x64_2_1_1_2_0_0.rhsBatch by decide)]
  rfl
theorem rhs_main_v60_1 (i : S8x8192x64.Idx) (q : dot_S8x8192x8192_S8x8192x64_S8x8192x64_2_1_1_2_0_0.contr.Idx) :
    (dot_S8x8192x8192_S8x8192x64_S8x8192x64_2_1_1_2_0_0.rhsIdx i q 1).val = (q ⟨0, by decide⟩).val :=
  dot_S8x8192x8192_S8x8192x64_S8x8192x64_2_1_1_2_0_0.rhsIdx_val_of_single rfl i q
theorem rhs_main_v60_2 (i : S8x8192x64.Idx) (q : dot_S8x8192x8192_S8x8192x64_S8x8192x64_2_1_1_2_0_0.contr.Idx) :
    (dot_S8x8192x8192_S8x8192x64_S8x8192x64_2_1_1_2_0_0.rhsIdx i q 2).val = (i 2).val := by
  unfold DotDims.rhsIdx
  rw [dif_neg (show ¬(2 : Fin S8x8192x64.rank) ∈ dot_S8x8192x8192_S8x8192x64_S8x8192x64_2_1_1_2_0_0.rhsBatch by decide), dif_pos (show (2 : Fin S8x8192x64.rank) ∈ dot_S8x8192x8192_S8x8192x64_S8x8192x64_2_1_1_2_0_0.rhsNonContracting by decide)]
  rfl
abbrev lx_v60 (i : S8x8192x64.Idx) (k : Fin 8192) : S8x8192x8192.Idx := fun a => match a with
  | ⟨0, _⟩ => ⟨(i 0).val, (i 0).isLt⟩
  | ⟨1, _⟩ => ⟨(i 1).val, (i 1).isLt⟩
  | ⟨2, _⟩ => ⟨k.val, k.isLt⟩
abbrev rx_v60 (i : S8x8192x64.Idx) (k : Fin 8192) : S8x8192x64.Idx := fun a => match a with
  | ⟨0, _⟩ => ⟨(i 0).val, (i 0).isLt⟩
  | ⟨1, _⟩ => ⟨k.val, k.isLt⟩
  | ⟨2, _⟩ => ⟨(i 2).val, (i 2).isLt⟩
theorem h_v60_apply (x0 x1 x2 : C Ideal S8192x512 .f32) (x3 : C Ideal S8192x8 .f32) (i : S8x8192x64.Idx) :
    h_v60 x0 x1 x2 x3 i = ∑ k : Fin 8192, h_v57 x0 x1 x3 (lx_v60 i k) * h_v59 x2 (rx_v60 i k) := by
  unfold h_v60
  generalize h_v57 x0 x1 x3 = y0
  generalize h_v59 x2 = y1
  simp only [Host.dotGeneral]
  rw [Ideal.dotGeneral_apply, ← Equiv.sum_comp (ValueIdx.contrEquiv1 dot_S8x8192x8192_S8x8192x64_S8x8192x64_2_1_1_2_0_0 8192 rfl rfl).symm]
  refine Finset.sum_congr rfl fun k _ => ?_
  have hk := ValueIdx.contrEquiv1_symm_val dot_S8x8192x8192_S8x8192x64_S8x8192x64_2_1_1_2_0_0 8192 rfl rfl k
  have el : dot_S8x8192x8192_S8x8192x64_S8x8192x64_2_1_1_2_0_0.lhsIdx i ((ValueIdx.contrEquiv1 dot_S8x8192x8192_S8x8192x64_S8x8192x64_2_1_1_2_0_0 8192 rfl rfl).symm k) = lx_v60 i k := funext fun a => Fin.ext (by
    match a with
    | ⟨0, _⟩ => exact lhs_main_v60_0 _ _
    | ⟨1, _⟩ => exact lhs_main_v60_1 _ _
    | ⟨2, _⟩ => exact (lhs_main_v60_2 _ _).trans hk)
  have er : dot_S8x8192x8192_S8x8192x64_S8x8192x64_2_1_1_2_0_0.rhsIdx i ((ValueIdx.contrEquiv1 dot_S8x8192x8192_S8x8192x64_S8x8192x64_2_1_1_2_0_0 8192 rfl rfl).symm k) = rx_v60 i k := funext fun a => Fin.ext (by
    match a with
    | ⟨0, _⟩ => exact rhs_main_v60_0 _ _
    | ⟨1, _⟩ => exact (rhs_main_v60_1 _ _).trans hk
    | ⟨2, _⟩ => exact rhs_main_v60_2 _ _)
  rw [el, er]

def h_v61 : C F S8192x8x64 .f32 :=
  transpose S8192x8x64 [1, 0, 2] (h_v60 x0 x1 x2 x3) transposes_S8x8192x64_S8192x8x64_1_0_2
abbrev ix_v61 (i : S8192x8x64.Idx) : S8x8192x64.Idx := fun a => match a with
  | ⟨0, _⟩ => ⟨(i 1).val, (i 1).isLt⟩
  | ⟨1, _⟩ => ⟨(i 0).val, (i 0).isLt⟩
  | ⟨2, _⟩ => ⟨(i 2).val, (i 2).isLt⟩
theorem h_v61_apply (i : S8192x8x64.Idx) : h_v61 x0 x1 x2 x3 i = h_v60 x0 x1 x2 x3 (ix_v61 i) := by
  unfold h_v61
  generalize h_v60 x0 x1 x2 x3 = y
  exact transpose_apply [1, 0, 2] y transposes_S8x8192x64_S8192x8x64_1_0_2 i (ix_v61 i) (fun b => match b with
    | ⟨0, _⟩ => rfl
    | ⟨1, _⟩ => rfl
    | ⟨2, _⟩ => rfl)

def h_v62 : C F S8192x512 .f32 := shapeCast _ (h_v61 x0 x1 x2 x3) shapeCasts_S8192x8x64_S8192x512
set_option backward.proofsInPublic true in
abbrev ix_v62 (i : S8192x512.Idx) : S8192x8x64.Idx := fun a => match a with
  | ⟨0, _⟩ => ⟨((i 0).val * 512 + (i 1).val) / 512, by have h0 : (i 0).val < 8192 := (i 0).isLt; have h1 : (i 1).val < 512 := (i 1).isLt; show ((i 0).val * 512 + (i 1).val) / 512 < 8192; omega⟩
  | ⟨1, _⟩ => ⟨((i 0).val * 512 + (i 1).val) / 64 % 8, by have h0 : (i 0).val < 8192 := (i 0).isLt; have h1 : (i 1).val < 512 := (i 1).isLt; show ((i 0).val * 512 + (i 1).val) / 64 % 8 < 8; omega⟩
  | ⟨2, _⟩ => ⟨((i 0).val * 512 + (i 1).val) % 64, by have h0 : (i 0).val < 8192 := (i 0).isLt; have h1 : (i 1).val < 512 := (i 1).isLt; show ((i 0).val * 512 + (i 1).val) % 64 < 64; omega⟩
theorem h_v62_apply (i : S8192x512.Idx) : h_v62 x0 x1 x2 x3 i = h_v61 x0 x1 x2 x3 (ix_v62 i) := by
  unfold h_v62
  generalize h_v61 x0 x1 x2 x3 = y
  exact shapeCast_apply y shapeCasts_S8192x8x64_S8192x512 i (ix_v62 i)
    (by rewrite [Shape.rowMajor_val_three, Shape.rowMajor_val_two]; have h0 : (i 0).val < 8192 := (i 0).isLt; have h1 : (i 1).val < 512 := (i 1).isLt; show (((i 0).val * 512 + (i 1).val) / 512 * 8 + ((i 0).val * 512 + (i 1).val) / 64 % 8) * 64 + ((i 0).val * 512 + (i 1).val) % 64 = (i 0).val * 512 + (i 1).val; omega)

def h_v63 : C F S8192x512 .f32 := mulf x4 (h_v62 x0 x1 x2 x3)
theorem h_v63_apply (i : S8192x512.Idx) :
    h_v63 x0 x1 x2 x3 x4 i = FloatOps.mulf (x4 i) (h_v62 x0 x1 x2 x3 i) := rfl

def h_v64 : C F S8192x8x64 .f32 := shapeCast _ (h_v63 x0 x1 x2 x3 x4) shapeCasts_S8192x512_S8192x8x64
theorem h_v64_apply (i : S8192x8x64.Idx) :
    h_v64 x0 x1 x2 x3 x4 i = h_v63 x0 x1 x2 x3 x4 (ix_v2 i) := at_v2 _ i

def h_cst_7 : C F S_ .f32 := constant S_ .f32 0x00000000#32
theorem h_cst_7_apply (i : S_.Idx) : h_cst_7 (F := F) i = FloatOps.ofBits .f32 0x00000000#32 := rfl

def h_v65 : C F S8192x8 .f32 :=
  Host.reduceAdd (h_v64 x0 x1 x2 x3 x4) h_cst_7 reducesTo_S8192x8x64_S8192x8_d2 h_S_
abbrev ix_v65 (i : S8192x8.Idx) (k : Fin 64) : S8192x8x64.Idx := fun a => match a with
  | ⟨0, _⟩ => ⟨(i 0).val, (i 0).isLt⟩
  | ⟨1, _⟩ => ⟨(i 1).val, (i 1).isLt⟩
  | ⟨2, _⟩ => ⟨k.val, k.isLt⟩
theorem h_v65_apply (x0 x1 x2 : C Ideal S8192x512 .f32) (x3 : C Ideal S8192x8 .f32) (x4 : C Ideal S8192x512 .f32) (i : S8192x8.Idx) :
    h_v65 x0 x1 x2 x3 x4 i = (h_cst_7 (F := Ideal)) (Shape.Idx.first h_S_) + ∑ k : Fin 64, (h_v64 x0 x1 x2 x3 x4) (ix_v65 i k) := by
  unfold h_v65
  generalize h_v64 x0 x1 x2 x3 x4 = y0
  simp only [Host.reduceAdd, Ideal.hostReduceAdd_def]
  rw [Ideal.hostReduceAdd_single reducesTo_S8192x8x64_S8192x8_d2 (by decide)]
  refine congrArg (_ + ·) (Finset.sum_congr rfl fun k _ => ?_)
  exact congrArg y0 (funext fun a => Fin.ext (by match a with | ⟨0, _⟩ => rfl | ⟨1, _⟩ => rfl | ⟨2, _⟩ => rfl))

def h_v66 : C F S8192x4x2x128 .i32 := iotaInDim S8192x4x2x128 32 3
theorem h_v66_apply (i : S8192x4x2x128.Idx) : h_v66 (F := F) i = BitVec.ofNat 32 (i 3).val := rfl

def h_v67 : C F S8192x4x2x128 .i32 := iotaInDim S8192x4x2x128 32 2
theorem h_v67_apply (i : S8192x4x2x128.Idx) : h_v67 (F := F) i = BitVec.ofNat 32 (i 2).val := rfl

def h_c : C F S_ .i32 := constantI S_ 32 64#32
theorem h_c_apply (i : S_.Idx) : h_c (F := F) i = 64#32 := rfl

def h_v68 : C F S8192x4x2x128 .i32 := broadcastInDim S8192x4x2x128 ![] bcast_S_S8192x4x2x128 (h_c (F := F))
abbrev ix_v68 (i : S8192x4x2x128.Idx) : S_.Idx := fun a => a.elim0
/-- The operation of `h_v68` at an index. -/
theorem at_v68 {e : EltTy} (y : C F S_ e) (i : S8192x4x2x128.Idx) : broadcastInDim S8192x4x2x128 ![] bcast_S_S8192x4x2x128 y i = y (ix_v68 i) :=
  broadcastInDim_apply _ bcast_S_S8192x4x2x128 y i (ix_v68 i) (fun a => a.elim0)
theorem h_v68_apply (i : S8192x4x2x128.Idx) : h_v68 (F := F) i = h_c (F := F) (ix_v68 i) := at_v68 _ i

def h_v69 : C F S8192x4x2x128 .i1 := cmpi .sge (h_v66 (F := F)) (h_v68 (F := F))
theorem h_v69_apply (i : S8192x4x2x128.Idx) :
    h_v69 (F := F) i = IntOp.cmpi .sge (h_v66 (F := F) i) (h_v68 (F := F) i) := rfl

def h_c_8 : C F S_ .i32 := constantI S_ 32 1#32
theorem h_c_8_apply (i : S_.Idx) : h_c_8 (F := F) i = 1#32 := rfl

def h_v70 : C F S8192x4x2x128 .i32 := broadcastInDim S8192x4x2x128 ![] bcast_S_S8192x4x2x128 (h_c_8 (F := F))
theorem h_v70_apply (i : S8192x4x2x128.Idx) : h_v70 (F := F) i = h_c_8 (F := F) (ix_v68 i) := at_v68 _ i

def h_v71 : C F S8192x4x2x128 .i1 := cmpi .eq (h_v67 (F := F)) (h_v70 (F := F))
theorem h_v71_apply (i : S8192x4x2x128.Idx) :
    h_v71 (F := F) i = IntOp.cmpi .eq (h_v67 (F := F) i) (h_v70 (F := F) i) := rfl

def h_v72 : C F S8192x4x2x128 .i1 := cmpi .eq (h_v69 (F := F)) (h_v71 (F := F))
theorem h_v72_apply (i : S8192x4x2x128.Idx) :
    h_v72 (F := F) i = IntOp.cmpi .eq (h_v69 (F := F) i) (h_v71 (F := F) i) := rfl

def h_v73 : C F S8192x8 .bf16 := truncf .bf16 x3 bitsLt_bf16_f32
theorem h_v73_apply (i : S8192x8.Idx) : h_v73 x3 i = FloatOps.truncf .bf16 bitsLt_bf16_f32 (x3 i) := rfl

def h_v74 : C F S8192x8 .f32 := extf .f32 (h_v73 x3) bitsLt_bf16_f32
theorem h_v74_apply (i : S8192x8.Idx) : h_v74 x3 i = FloatOps.extf .f32 bitsLt_bf16_f32 (h_v73 x3 i) := rfl

def h_v75 : C F S8192x8 .f32 := subf x3 (h_v74 x3)
theorem h_v75_apply (i : S8192x8.Idx) : h_v75 x3 i = FloatOps.subf (x3 i) (h_v74 x3 i) := rfl

def h_v76 : C F S8192x8 .bf16 := truncf .bf16 (h_v75 x3) bitsLt_bf16_f32
theorem h_v76_apply (i : S8192x8.Idx) : h_v76 x3 i = FloatOps.truncf .bf16 bitsLt_bf16_f32 (h_v75 x3 i) := rfl

def h_v77 : C F S8192x8 .f32 := extf .f32 (h_v76 x3) bitsLt_bf16_f32
theorem h_v77_apply (i : S8192x8.Idx) : h_v77 x3 i = FloatOps.extf .f32 bitsLt_bf16_f32 (h_v76 x3 i) := rfl

def h_v78 : C F S8192x8 .f32 := subf (h_v75 x3) (h_v77 x3)
theorem h_v78_apply (i : S8192x8.Idx) : h_v78 x3 i = FloatOps.subf (h_v75 x3 i) (h_v77 x3 i) := rfl

def h_v79 : C F S8192x8 .bf16 := truncf .bf16 (h_v78 x3) bitsLt_bf16_f32
theorem h_v79_apply (i : S8192x8.Idx) : h_v79 x3 i = FloatOps.truncf .bf16 bitsLt_bf16_f32 (h_v78 x3 i) := rfl

def h_v80 : C F S8192x8 .f32 := extf .f32 (h_v73 x3) bitsLt_bf16_f32
theorem h_v80_apply (i : S8192x8.Idx) : h_v80 x3 i = FloatOps.extf .f32 bitsLt_bf16_f32 (h_v73 x3 i) := rfl

def h_v81 : C F S8192x8 .f32 := extf .f32 (h_v76 x3) bitsLt_bf16_f32
theorem h_v81_apply (i : S8192x8.Idx) : h_v81 x3 i = FloatOps.extf .f32 bitsLt_bf16_f32 (h_v76 x3 i) := rfl

def h_v82 : C F S8192x8 .f32 := extf .f32 (h_v79 x3) bitsLt_bf16_f32
theorem h_v82_apply (i : S8192x8.Idx) : h_v82 x3 i = FloatOps.extf .f32 bitsLt_bf16_f32 (h_v79 x3 i) := rfl

def h_v83 : C F S8192x4x2x1 .f32 := shapeCast _ (h_v80 x3) shapeCasts_S8192x8_S8192x4x2x1
set_option backward.proofsInPublic true in
abbrev ix_v83 (i : S8192x4x2x1.Idx) : S8192x8.Idx := fun a => match a with
  | ⟨0, _⟩ => ⟨((((i 0).val * 4 + (i 1).val) * 2 + (i 2).val) * 1 + (i 3).val) / 8, by have h0 : (i 0).val < 8192 := (i 0).isLt; have h1 : (i 1).val < 4 := (i 1).isLt; have h2 : (i 2).val < 2 := (i 2).isLt; have h3 : (i 3).val < 1 := (i 3).isLt; show ((((i 0).val * 4 + (i 1).val) * 2 + (i 2).val) * 1 + (i 3).val) / 8 < 8192; omega⟩
  | ⟨1, _⟩ => ⟨((((i 0).val * 4 + (i 1).val) * 2 + (i 2).val) * 1 + (i 3).val) % 8, by have h0 : (i 0).val < 8192 := (i 0).isLt; have h1 : (i 1).val < 4 := (i 1).isLt; have h2 : (i 2).val < 2 := (i 2).isLt; have h3 : (i 3).val < 1 := (i 3).isLt; show ((((i 0).val * 4 + (i 1).val) * 2 + (i 2).val) * 1 + (i 3).val) % 8 < 8; omega⟩
/-- The operation of `h_v83` at an index. -/
theorem at_v83 {e : EltTy} (y : C F S8192x8 e) (i : S8192x4x2x1.Idx) : shapeCast S8192x4x2x1 y shapeCasts_S8192x8_S8192x4x2x1 i = y (ix_v83 i) :=
  shapeCast_apply y shapeCasts_S8192x8_S8192x4x2x1 i (ix_v83 i)
    (by rewrite [Shape.rowMajor_val_two, Shape.rowMajor_val_four]; have h0 : (i 0).val < 8192 := (i 0).isLt; have h1 : (i 1).val < 4 := (i 1).isLt; have h2 : (i 2).val < 2 := (i 2).isLt; have h3 : (i 3).val < 1 := (i 3).isLt; show ((((i 0).val * 4 + (i 1).val) * 2 + (i 2).val) * 1 + (i 3).val) / 8 * 8 + ((((i 0).val * 4 + (i 1).val) * 2 + (i 2).val) * 1 + (i 3).val) % 8 = (((i 0).val * 4 + (i 1).val) * 2 + (i 2).val) * 1 + (i 3).val; omega)
theorem h_v83_apply (i : S8192x4x2x1.Idx) : h_v83 x3 i = h_v80 x3 (ix_v83 i) := at_v83 _ i

def h_v84 : C F S8192x4x2x128 .f32 :=
  broadcastInDim S8192x4x2x128 ![0, 1, 2, 3] bcast_S8192x4x2x1_S8192x4x2x128_0_1_2_3 (h_v83 x3)
abbrev ix_v84 (i : S8192x4x2x128.Idx) : S8192x4x2x1.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨0, Nat.one_pos⟩
/-- The operation of `h_v84` at an index. -/
theorem at_v84 {e : EltTy} (y : C F S8192x4x2x1 e) (i : S8192x4x2x128.Idx) : broadcastInDim S8192x4x2x128 ![0, 1, 2, 3] bcast_S8192x4x2x1_S8192x4x2x128_0_1_2_3 y i = y (ix_v84 i) :=
  broadcastInDim_apply _ bcast_S8192x4x2x1_S8192x4x2x128_0_1_2_3 y i (ix_v84 i) (fun a => match a with
    | ⟨0, _⟩ => by show (i 0).val = if (8192 : Nat) = 1 then 0 else (i 0).val; rw [if_neg (by decide)]
    | ⟨1, _⟩ => by show (i 1).val = if (4 : Nat) = 1 then 0 else (i 1).val; rw [if_neg (by decide)]
    | ⟨2, _⟩ => by show (i 2).val = if (2 : Nat) = 1 then 0 else (i 2).val; rw [if_neg (by decide)]
    | ⟨3, _⟩ => by show 0 = if (1 : Nat) = 1 then 0 else (i 3).val; rw [if_pos rfl])
theorem h_v84_apply (i : S8192x4x2x128.Idx) : h_v84 x3 i = h_v83 x3 (ix_v84 i) := at_v84 _ i

def h_v85 : C F S8192x4x2x1 .f32 := shapeCast _ (h_v81 x3) shapeCasts_S8192x8_S8192x4x2x1
theorem h_v85_apply (i : S8192x4x2x1.Idx) : h_v85 x3 i = h_v81 x3 (ix_v83 i) := at_v83 _ i

def h_v86 : C F S8192x4x2x128 .f32 :=
  broadcastInDim S8192x4x2x128 ![0, 1, 2, 3] bcast_S8192x4x2x1_S8192x4x2x128_0_1_2_3 (h_v85 x3)
theorem h_v86_apply (i : S8192x4x2x128.Idx) : h_v86 x3 i = h_v85 x3 (ix_v84 i) := at_v84 _ i

def h_v87 : C F S8192x4x2x1 .f32 := shapeCast _ (h_v82 x3) shapeCasts_S8192x8_S8192x4x2x1
theorem h_v87_apply (i : S8192x4x2x1.Idx) : h_v87 x3 i = h_v82 x3 (ix_v83 i) := at_v83 _ i

def h_v88 : C F S8192x4x2x128 .f32 :=
  broadcastInDim S8192x4x2x128 ![0, 1, 2, 3] bcast_S8192x4x2x1_S8192x4x2x128_0_1_2_3 (h_v87 x3)
theorem h_v88_apply (i : S8192x4x2x128.Idx) : h_v88 x3 i = h_v87 x3 (ix_v84 i) := at_v84 _ i

def h_v89 : C F S8192x4x1x128 .f32 := shapeCast _ (h_v1 x0) shapeCasts_S8192x512_S8192x4x1x128
set_option backward.proofsInPublic true in
abbrev ix_v89 (i : S8192x4x1x128.Idx) : S8192x512.Idx := fun a => match a with
  | ⟨0, _⟩ => ⟨((((i 0).val * 4 + (i 1).val) * 1 + (i 2).val) * 128 + (i 3).val) / 512, by have h0 : (i 0).val < 8192 := (i 0).isLt; have h1 : (i 1).val < 4 := (i 1).isLt; have h2 : (i 2).val < 1 := (i 2).isLt; have h3 : (i 3).val < 128 := (i 3).isLt; show ((((i 0).val * 4 + (i 1).val) * 1 + (i 2).val) * 128 + (i 3).val) / 512 < 8192; omega⟩
  | ⟨1, _⟩ => ⟨((((i 0).val * 4 + (i 1).val) * 1 + (i 2).val) * 128 + (i 3).val) % 512, by have h0 : (i 0).val < 8192 := (i 0).isLt; have h1 : (i 1).val < 4 := (i 1).isLt; have h2 : (i 2).val < 1 := (i 2).isLt; have h3 : (i 3).val < 128 := (i 3).isLt; show ((((i 0).val * 4 + (i 1).val) * 1 + (i 2).val) * 128 + (i 3).val) % 512 < 512; omega⟩
/-- The operation of `h_v89` at an index. -/
theorem at_v89 {e : EltTy} (y : C F S8192x512 e) (i : S8192x4x1x128.Idx) : shapeCast S8192x4x1x128 y shapeCasts_S8192x512_S8192x4x1x128 i = y (ix_v89 i) :=
  shapeCast_apply y shapeCasts_S8192x512_S8192x4x1x128 i (ix_v89 i)
    (by rewrite [Shape.rowMajor_val_two, Shape.rowMajor_val_four]; have h0 : (i 0).val < 8192 := (i 0).isLt; have h1 : (i 1).val < 4 := (i 1).isLt; have h2 : (i 2).val < 1 := (i 2).isLt; have h3 : (i 3).val < 128 := (i 3).isLt; show ((((i 0).val * 4 + (i 1).val) * 1 + (i 2).val) * 128 + (i 3).val) / 512 * 512 + ((((i 0).val * 4 + (i 1).val) * 1 + (i 2).val) * 128 + (i 3).val) % 512 = (((i 0).val * 4 + (i 1).val) * 1 + (i 2).val) * 128 + (i 3).val; omega)
theorem h_v89_apply (i : S8192x4x1x128.Idx) : h_v89 x0 i = h_v1 x0 (ix_v89 i) := at_v89 _ i

def h_v90 : C F S8192x4x2x128 .f32 :=
  broadcastInDim S8192x4x2x128 ![0, 1, 2, 3] bcast_S8192x4x1x128_S8192x4x2x128_0_1_2_3 (h_v89 x0)
abbrev ix_v90 (i : S8192x4x2x128.Idx) : S8192x4x1x128.Idx := fun a => match a with
  | ⟨0, _⟩ => ⟨(i 0).val, (i 0).isLt⟩
  | ⟨1, _⟩ => ⟨(i 1).val, (i 1).isLt⟩
  | ⟨2, _⟩ => ⟨0, Nat.one_pos⟩
  | ⟨3, _⟩ => ⟨(i 3).val, (i 3).isLt⟩
/-- The operation of `h_v90` at an index. -/
theorem at_v90 {e : EltTy} (y : C F S8192x4x1x128 e) (i : S8192x4x2x128.Idx) : broadcastInDim S8192x4x2x128 ![0, 1, 2, 3] bcast_S8192x4x1x128_S8192x4x2x128_0_1_2_3 y i = y (ix_v90 i) :=
  broadcastInDim_apply _ bcast_S8192x4x1x128_S8192x4x2x128_0_1_2_3 y i (ix_v90 i) (fun a => match a with
    | ⟨0, _⟩ => by show (i 0).val = if (8192 : Nat) = 1 then 0 else (i 0).val; rw [if_neg (by decide)]
    | ⟨1, _⟩ => by show (i 1).val = if (4 : Nat) = 1 then 0 else (i 1).val; rw [if_neg (by decide)]
    | ⟨2, _⟩ => by show 0 = if (1 : Nat) = 1 then 0 else (i 2).val; rw [if_pos rfl]
    | ⟨3, _⟩ => by show (i 3).val = if (128 : Nat) = 1 then 0 else (i 3).val; rw [if_neg (by decide)])
theorem h_v90_apply (i : S8192x4x2x128.Idx) : h_v90 x0 i = h_v89 x0 (ix_v90 i) := at_v90 _ i

def h_c_9 : C F S_ .i32 := constantI S_ 32 1#32
theorem h_c_9_apply (i : S_.Idx) : h_c_9 (F := F) i = 1#32 := rfl

def h_v91 : C F S8192x4x2x128 .i32 := broadcastInDim S8192x4x2x128 ![] bcast_S_S8192x4x2x128 (h_c_9 (F := F))
theorem h_v91_apply (i : S8192x4x2x128.Idx) : h_v91 (F := F) i = h_c_9 (F := F) (ix_v68 i) := at_v68 _ i

def h_v92 : C F S8192x4x2x128 .i32 := subi (h_v91 (F := F)) (h_v67 (F := F))
theorem h_v92_apply (i : S8192x4x2x128.Idx) :
    h_v92 (F := F) i = IntOp.subi (h_v91 (F := F) i) (h_v67 (F := F) i) := rfl

def h_c_10 : C F S_ .i32 := constantI S_ 32 64#32
theorem h_c_10_apply (i : S_.Idx) : h_c_10 (F := F) i = 64#32 := rfl

def h_v93 : C F S8192x4x2x128 .i32 := broadcastInDim S8192x4x2x128 ![] bcast_S_S8192x4x2x128 (h_c_10 (F := F))
theorem h_v93_apply (i : S8192x4x2x128.Idx) : h_v93 (F := F) i = h_c_10 (F := F) (ix_v68 i) := at_v68 _ i

def h_v94 : C F S8192x4x2x128 .i32 := muli (h_v93 (F := F)) (h_v92 (F := F))
theorem h_v94_apply (i : S8192x4x2x128.Idx) :
    h_v94 (F := F) i = IntOp.muli (h_v93 (F := F) i) (h_v92 (F := F) i) := rfl

def h_c_11 : C F S_ .i32 := constantI S_ 32 0#32
theorem h_c_11_apply (i : S_.Idx) : h_c_11 (F := F) i = 0#32 := rfl

def h_v95 : C F S8192x4x2x128 .i32 := broadcastInDim S8192x4x2x128 ![] bcast_S_S8192x4x2x128 (h_c_11 (F := F))
theorem h_v95_apply (i : S8192x4x2x128.Idx) : h_v95 (F := F) i = h_c_11 (F := F) (ix_v68 i) := at_v68 _ i

def h_v96 : C F S8192x4x2x128 .i32 := addi (h_v95 (F := F)) (h_v94 (F := F))
theorem h_v96_apply (i : S8192x4x2x128.Idx) :
    h_v96 (F := F) i = IntOp.addi (h_v95 (F := F) i) (h_v94 (F := F) i) := rfl

def h_v97 : C F S8192x4x2x128 .i1 := cmpi .eq (h_v66 (F := F)) (h_v96 (F := F))
theorem h_v97_apply (i : S8192x4x2x128.Idx) :
    h_v97 (F := F) i = IntOp.cmpi .eq (h_v66 (F := F) i) (h_v96 (F := F) i) := rfl

def h_c_12 : C F S_ .i32 := constantI S_ 32 1#32
theorem h_c_12_apply (i : S_.Idx) : h_c_12 (F := F) i = 1#32 := rfl

def h_v98 : C F S8192x4x2x128 .i32 := broadcastInDim S8192x4x2x128 ![] bcast_S_S8192x4x2x128 (h_c_12 (F := F))
theorem h_v98_apply (i : S8192x4x2x128.Idx) : h_v98 (F := F) i = h_c_12 (F := F) (ix_v68 i) := at_v68 _ i

def h_v99 : C F S8192x4x2x128 .i32 := subi (h_v98 (F := F)) (h_v67 (F := F))
theorem h_v99_apply (i : S8192x4x2x128.Idx) :
    h_v99 (F := F) i = IntOp.subi (h_v98 (F := F) i) (h_v67 (F := F) i) := rfl

def h_c_13 : C F S_ .i32 := constantI S_ 32 64#32
theorem h_c_13_apply (i : S_.Idx) : h_c_13 (F := F) i = 64#32 := rfl

def h_v100 : C F S8192x4x2x128 .i32 :=
  broadcastInDim S8192x4x2x128 ![] bcast_S_S8192x4x2x128 (h_c_13 (F := F))
theorem h_v100_apply (i : S8192x4x2x128.Idx) : h_v100 (F := F) i = h_c_13 (F := F) (ix_v68 i) := at_v68 _ i

def h_v101 : C F S8192x4x2x128 .i32 := muli (h_v100 (F := F)) (h_v99 (F := F))
theorem h_v101_apply (i : S8192x4x2x128.Idx) :
    h_v101 (F := F) i = IntOp.muli (h_v100 (F := F) i) (h_v99 (F := F) i) := rfl

def h_c_14 : C F S_ .i32 := constantI S_ 32 1#32
theorem h_c_14_apply (i : S_.Idx) : h_c_14 (F := F) i = 1#32 := rfl

def h_v102 : C F S8192x4x2x128 .i32 :=
  broadcastInDim S8192x4x2x128 ![] bcast_S_S8192x4x2x128 (h_c_14 (F := F))
theorem h_v102_apply (i : S8192x4x2x128.Idx) : h_v102 (F := F) i = h_c_14 (F := F) (ix_v68 i) := at_v68 _ i

def h_v103 : C F S8192x4x2x128 .i32 := addi (h_v102 (F := F)) (h_v101 (F := F))
theorem h_v103_apply (i : S8192x4x2x128.Idx) :
    h_v103 (F := F) i = IntOp.addi (h_v102 (F := F) i) (h_v101 (F := F) i) := rfl

def h_v104 : C F S8192x4x2x128 .i1 := cmpi .eq (h_v66 (F := F)) (h_v103 (F := F))
theorem h_v104_apply (i : S8192x4x2x128.Idx) :
    h_v104 (F := F) i = IntOp.cmpi .eq (h_v66 (F := F) i) (h_v103 (F := F) i) := rfl

def h_c_15 : C F S_ .i32 := constantI S_ 32 1#32
theorem h_c_15_apply (i : S_.Idx) : h_c_15 (F := F) i = 1#32 := rfl

def h_v105 : C F S8192x4x2x128 .i32 :=
  broadcastInDim S8192x4x2x128 ![] bcast_S_S8192x4x2x128 (h_c_15 (F := F))
theorem h_v105_apply (i : S8192x4x2x128.Idx) : h_v105 (F := F) i = h_c_15 (F := F) (ix_v68 i) := at_v68 _ i

def h_v106 : C F S8192x4x2x128 .i32 := subi (h_v105 (F := F)) (h_v67 (F := F))
theorem h_v106_apply (i : S8192x4x2x128.Idx) :
    h_v106 (F := F) i = IntOp.subi (h_v105 (F := F) i) (h_v67 (F := F) i) := rfl

def h_c_16 : C F S_ .i32 := constantI S_ 32 64#32
theorem h_c_16_apply (i : S_.Idx) : h_c_16 (F := F) i = 64#32 := rfl

def h_v107 : C F S8192x4x2x128 .i32 :=
  broadcastInDim S8192x4x2x128 ![] bcast_S_S8192x4x2x128 (h_c_16 (F := F))
theorem h_v107_apply (i : S8192x4x2x128.Idx) : h_v107 (F := F) i = h_c_16 (F := F) (ix_v68 i) := at_v68 _ i

def h_v108 : C F S8192x4x2x128 .i32 := muli (h_v107 (F := F)) (h_v106 (F := F))
theorem h_v108_apply (i : S8192x4x2x128.Idx) :
    h_v108 (F := F) i = IntOp.muli (h_v107 (F := F) i) (h_v106 (F := F) i) := rfl

def h_c_17 : C F S_ .i32 := constantI S_ 32 2#32
theorem h_c_17_apply (i : S_.Idx) : h_c_17 (F := F) i = 2#32 := rfl

def h_v109 : C F S8192x4x2x128 .i32 :=
  broadcastInDim S8192x4x2x128 ![] bcast_S_S8192x4x2x128 (h_c_17 (F := F))
theorem h_v109_apply (i : S8192x4x2x128.Idx) : h_v109 (F := F) i = h_c_17 (F := F) (ix_v68 i) := at_v68 _ i

def h_v110 : C F S8192x4x2x128 .i32 := addi (h_v109 (F := F)) (h_v108 (F := F))
theorem h_v110_apply (i : S8192x4x2x128.Idx) :
    h_v110 (F := F) i = IntOp.addi (h_v109 (F := F) i) (h_v108 (F := F) i) := rfl

def h_v111 : C F S8192x4x2x128 .i1 := cmpi .eq (h_v66 (F := F)) (h_v110 (F := F))
theorem h_v111_apply (i : S8192x4x2x128.Idx) :
    h_v111 (F := F) i = IntOp.cmpi .eq (h_v66 (F := F) i) (h_v110 (F := F) i) := rfl

def h_c_18 : C F S_ .i32 := constantI S_ 32 1#32
theorem h_c_18_apply (i : S_.Idx) : h_c_18 (F := F) i = 1#32 := rfl

def h_v112 : C F S8192x4x2x128 .i32 :=
  broadcastInDim S8192x4x2x128 ![] bcast_S_S8192x4x2x128 (h_c_18 (F := F))
theorem h_v112_apply (i : S8192x4x2x128.Idx) : h_v112 (F := F) i = h_c_18 (F := F) (ix_v68 i) := at_v68 _ i

def h_v113 : C F S8192x4x2x128 .i32 := subi (h_v112 (F := F)) (h_v67 (F := F))
theorem h_v113_apply (i : S8192x4x2x128.Idx) :
    h_v113 (F := F) i = IntOp.subi (h_v112 (F := F) i) (h_v67 (F := F) i) := rfl

def h_c_19 : C F S_ .i32 := constantI S_ 32 64#32
theorem h_c_19_apply (i : S_.Idx) : h_c_19 (F := F) i = 64#32 := rfl

def h_v114 : C F S8192x4x2x128 .i32 :=
  broadcastInDim S8192x4x2x128 ![] bcast_S_S8192x4x2x128 (h_c_19 (F := F))
theorem h_v114_apply (i : S8192x4x2x128.Idx) : h_v114 (F := F) i = h_c_19 (F := F) (ix_v68 i) := at_v68 _ i

def h_v115 : C F S8192x4x2x128 .i32 := muli (h_v114 (F := F)) (h_v113 (F := F))
theorem h_v115_apply (i : S8192x4x2x128.Idx) :
    h_v115 (F := F) i = IntOp.muli (h_v114 (F := F) i) (h_v113 (F := F) i) := rfl

def h_c_20 : C F S_ .i32 := constantI S_ 32 3#32
theorem h_c_20_apply (i : S_.Idx) : h_c_20 (F := F) i = 3#32 := rfl

def h_v116 : C F S8192x4x2x128 .i32 :=
  broadcastInDim S8192x4x2x128 ![] bcast_S_S8192x4x2x128 (h_c_20 (F := F))
theorem h_v116_apply (i : S8192x4x2x128.Idx) : h_v116 (F := F) i = h_c_20 (F := F) (ix_v68 i) := at_v68 _ i

def h_v117 : C F S8192x4x2x128 .i32 := addi (h_v116 (F := F)) (h_v115 (F := F))
theorem h_v117_apply (i : S8192x4x2x128.Idx) :
    h_v117 (F := F) i = IntOp.addi (h_v116 (F := F) i) (h_v115 (F := F) i) := rfl

def h_v118 : C F S8192x4x2x128 .i1 := cmpi .sge (h_v66 (F := F)) (h_v117 (F := F))
theorem h_v118_apply (i : S8192x4x2x128.Idx) :
    h_v118 (F := F) i = IntOp.cmpi .sge (h_v66 (F := F) i) (h_v117 (F := F) i) := rfl

def h_c_21 : C F S_ .i32 := constantI S_ 32 1#32
theorem h_c_21_apply (i : S_.Idx) : h_c_21 (F := F) i = 1#32 := rfl

def h_v119 : C F S8192x4x2x128 .i32 :=
  broadcastInDim S8192x4x2x128 ![] bcast_S_S8192x4x2x128 (h_c_21 (F := F))
theorem h_v119_apply (i : S8192x4x2x128.Idx) : h_v119 (F := F) i = h_c_21 (F := F) (ix_v68 i) := at_v68 _ i

def h_v120 : C F S8192x4x2x128 .i32 := subi (h_v119 (F := F)) (h_v67 (F := F))
theorem h_v120_apply (i : S8192x4x2x128.Idx) :
    h_v120 (F := F) i = IntOp.subi (h_v119 (F := F) i) (h_v67 (F := F) i) := rfl

def h_c_22 : C F S_ .i32 := constantI S_ 32 64#32
theorem h_c_22_apply (i : S_.Idx) : h_c_22 (F := F) i = 64#32 := rfl

def h_v121 : C F S8192x4x2x128 .i32 :=
  broadcastInDim S8192x4x2x128 ![] bcast_S_S8192x4x2x128 (h_c_22 (F := F))
theorem h_v121_apply (i : S8192x4x2x128.Idx) : h_v121 (F := F) i = h_c_22 (F := F) (ix_v68 i) := at_v68 _ i

def h_v122 : C F S8192x4x2x128 .i32 := muli (h_v121 (F := F)) (h_v120 (F := F))
theorem h_v122_apply (i : S8192x4x2x128.Idx) :
    h_v122 (F := F) i = IntOp.muli (h_v121 (F := F) i) (h_v120 (F := F) i) := rfl

def h_c_23 : C F S_ .i32 := constantI S_ 32 6#32
theorem h_c_23_apply (i : S_.Idx) : h_c_23 (F := F) i = 6#32 := rfl

def h_v123 : C F S8192x4x2x128 .i32 :=
  broadcastInDim S8192x4x2x128 ![] bcast_S_S8192x4x2x128 (h_c_23 (F := F))
theorem h_v123_apply (i : S8192x4x2x128.Idx) : h_v123 (F := F) i = h_c_23 (F := F) (ix_v68 i) := at_v68 _ i

def h_v124 : C F S8192x4x2x128 .i32 := addi (h_v123 (F := F)) (h_v122 (F := F))
theorem h_v124_apply (i : S8192x4x2x128.Idx) :
    h_v124 (F := F) i = IntOp.addi (h_v123 (F := F) i) (h_v122 (F := F) i) := rfl

def h_v125 : C F S8192x4x2x128 .i1 := cmpi .slt (h_v66 (F := F)) (h_v124 (F := F))
theorem h_v125_apply (i : S8192x4x2x128.Idx) :
    h_v125 (F := F) i = IntOp.cmpi .slt (h_v66 (F := F) i) (h_v124 (F := F) i) := rfl

def h_v126 : C F S8192x4x2x128 .i1 := andi (h_v118 (F := F)) (h_v125 (F := F))
theorem h_v126_apply (i : S8192x4x2x128.Idx) :
    h_v126 (F := F) i = IntOp.andi (h_v118 (F := F) i) (h_v125 (F := F) i) := rfl

def h_cst_24 : C F S_ .f32 := constant S_ .f32 0x3F800000#32
theorem h_cst_24_apply (i : S_.Idx) : h_cst_24 (F := F) i = FloatOps.ofBits .f32 0x3F800000#32 := rfl

def h_cst_25 : C F S_ .f32 := constant S_ .f32 0x00000000#32
theorem h_cst_25_apply (i : S_.Idx) : h_cst_25 (F := F) i = FloatOps.ofBits .f32 0x00000000#32 := rfl

def h_call2_v0 : C F S8192x4x2x128 .f32 := broadcastInDim S8192x4x2x128 ![] bcast_S_S8192x4x2x128 h_cst_24
theorem h_call2_v0_apply (i : S8192x4x2x128.Idx) :
    h_call2_v0 (F := F) i = h_cst_24 (F := F) (ix_v68 i) := at_v68 _ i

def h_call2_v1 : C F S8192x4x2x128 .f32 := broadcastInDim S8192x4x2x128 ![] bcast_S_S8192x4x2x128 h_cst_25
theorem h_call2_v1_apply (i : S8192x4x2x128.Idx) :
    h_call2_v1 (F := F) i = h_cst_25 (F := F) (ix_v68 i) := at_v68 _ i

def h_v127 : C F S8192x4x2x128 .f32 := select (h_v126 (F := F)) h_call2_v0 h_call2_v1
theorem h_v127_apply (i : S8192x4x2x128.Idx) :
    h_v127 (F := F) i = Scalar.select (h_v126 (F := F) i) (h_call2_v0 (F := F) i) (h_call2_v1 (F := F) i) := rfl

def h_call3_v0 : C F S8192x4x2x128 .f32 := id h_v127
theorem h_call3_v0_apply (i : S8192x4x2x128.Idx) : h_call3_v0 (F := F) i = (h_v127 (F := F) i) := rfl

def h_v128 : C F S8192x4x2x128 .f32 := select (h_v111 (F := F)) (h_v88 x3) h_call3_v0
theorem h_v128_apply (i : S8192x4x2x128.Idx) :
    h_v128 x3 i = Scalar.select (h_v111 (F := F) i) (h_v88 x3 i) (h_call3_v0 (F := F) i) := rfl

def h_v129 : C F S8192x4x2x128 .f32 := select (h_v104 (F := F)) (h_v86 x3) (h_v128 x3)
theorem h_v129_apply (i : S8192x4x2x128.Idx) :
    h_v129 x3 i = Scalar.select (h_v104 (F := F) i) (h_v86 x3 i) (h_v128 x3 i) := rfl

def h_v130 : C F S8192x4x2x128 .f32 := select (h_v97 (F := F)) (h_v84 x3) (h_v129 x3)
theorem h_v130_apply (i : S8192x4x2x128.Idx) :
    h_v130 x3 i = Scalar.select (h_v97 (F := F) i) (h_v84 x3 i) (h_v129 x3 i) := rfl

def h_v131 : C F S8192x4x2x128 .f32 := select (h_v72 (F := F)) (h_v90 x0) (h_v130 x3)
theorem h_v131_apply (i : S8192x4x2x128.Idx) :
    h_v131 x0 x3 i = Scalar.select (h_v72 (F := F) i) (h_v90 x0 i) (h_v130 x3 i) := rfl

def h_v132 : C F S8192x4x1x128 .f32 := shapeCast _ x1 shapeCasts_S8192x512_S8192x4x1x128
theorem h_v132_apply (i : S8192x4x1x128.Idx) : h_v132 x1 i = x1 (ix_v89 i) := at_v89 _ i

def h_v133 : C F S8192x4x2x128 .f32 :=
  broadcastInDim S8192x4x2x128 ![0, 1, 2, 3] bcast_S8192x4x1x128_S8192x4x2x128_0_1_2_3 (h_v132 x1)
theorem h_v133_apply (i : S8192x4x2x128.Idx) : h_v133 x1 i = h_v132 x1 (ix_v90 i) := at_v90 _ i

def h_c_26 : C F S_ .i32 := constantI S_ 32 1#32
theorem h_c_26_apply (i : S_.Idx) : h_c_26 (F := F) i = 1#32 := rfl

def h_v134 : C F S8192x4x2x128 .i32 :=
  broadcastInDim S8192x4x2x128 ![] bcast_S_S8192x4x2x128 (h_c_26 (F := F))
theorem h_v134_apply (i : S8192x4x2x128.Idx) : h_v134 (F := F) i = h_c_26 (F := F) (ix_v68 i) := at_v68 _ i

def h_v135 : C F S8192x4x2x128 .i32 := subi (h_v134 (F := F)) (h_v67 (F := F))
theorem h_v135_apply (i : S8192x4x2x128.Idx) :
    h_v135 (F := F) i = IntOp.subi (h_v134 (F := F) i) (h_v67 (F := F) i) := rfl

def h_c_27 : C F S_ .i32 := constantI S_ 32 64#32
theorem h_c_27_apply (i : S_.Idx) : h_c_27 (F := F) i = 64#32 := rfl

def h_v136 : C F S8192x4x2x128 .i32 :=
  broadcastInDim S8192x4x2x128 ![] bcast_S_S8192x4x2x128 (h_c_27 (F := F))
theorem h_v136_apply (i : S8192x4x2x128.Idx) : h_v136 (F := F) i = h_c_27 (F := F) (ix_v68 i) := at_v68 _ i

def h_v137 : C F S8192x4x2x128 .i32 := muli (h_v136 (F := F)) (h_v135 (F := F))
theorem h_v137_apply (i : S8192x4x2x128.Idx) :
    h_v137 (F := F) i = IntOp.muli (h_v136 (F := F) i) (h_v135 (F := F) i) := rfl

def h_c_28 : C F S_ .i32 := constantI S_ 32 0#32
theorem h_c_28_apply (i : S_.Idx) : h_c_28 (F := F) i = 0#32 := rfl

def h_v138 : C F S8192x4x2x128 .i32 :=
  broadcastInDim S8192x4x2x128 ![] bcast_S_S8192x4x2x128 (h_c_28 (F := F))
theorem h_v138_apply (i : S8192x4x2x128.Idx) : h_v138 (F := F) i = h_c_28 (F := F) (ix_v68 i) := at_v68 _ i

def h_v139 : C F S8192x4x2x128 .i32 := addi (h_v138 (F := F)) (h_v137 (F := F))
theorem h_v139_apply (i : S8192x4x2x128.Idx) :
    h_v139 (F := F) i = IntOp.addi (h_v138 (F := F) i) (h_v137 (F := F) i) := rfl

def h_v140 : C F S8192x4x2x128 .i1 := cmpi .sge (h_v66 (F := F)) (h_v139 (F := F))
theorem h_v140_apply (i : S8192x4x2x128.Idx) :
    h_v140 (F := F) i = IntOp.cmpi .sge (h_v66 (F := F) i) (h_v139 (F := F) i) := rfl

def h_c_29 : C F S_ .i32 := constantI S_ 32 1#32
theorem h_c_29_apply (i : S_.Idx) : h_c_29 (F := F) i = 1#32 := rfl

def h_v141 : C F S8192x4x2x128 .i32 :=
  broadcastInDim S8192x4x2x128 ![] bcast_S_S8192x4x2x128 (h_c_29 (F := F))
theorem h_v141_apply (i : S8192x4x2x128.Idx) : h_v141 (F := F) i = h_c_29 (F := F) (ix_v68 i) := at_v68 _ i

def h_v142 : C F S8192x4x2x128 .i32 := subi (h_v141 (F := F)) (h_v67 (F := F))
theorem h_v142_apply (i : S8192x4x2x128.Idx) :
    h_v142 (F := F) i = IntOp.subi (h_v141 (F := F) i) (h_v67 (F := F) i) := rfl

def h_c_30 : C F S_ .i32 := constantI S_ 32 64#32
theorem h_c_30_apply (i : S_.Idx) : h_c_30 (F := F) i = 64#32 := rfl

def h_v143 : C F S8192x4x2x128 .i32 :=
  broadcastInDim S8192x4x2x128 ![] bcast_S_S8192x4x2x128 (h_c_30 (F := F))
theorem h_v143_apply (i : S8192x4x2x128.Idx) : h_v143 (F := F) i = h_c_30 (F := F) (ix_v68 i) := at_v68 _ i

def h_v144 : C F S8192x4x2x128 .i32 := muli (h_v143 (F := F)) (h_v142 (F := F))
theorem h_v144_apply (i : S8192x4x2x128.Idx) :
    h_v144 (F := F) i = IntOp.muli (h_v143 (F := F) i) (h_v142 (F := F) i) := rfl

def h_c_31 : C F S_ .i32 := constantI S_ 32 3#32
theorem h_c_31_apply (i : S_.Idx) : h_c_31 (F := F) i = 3#32 := rfl

def h_v145 : C F S8192x4x2x128 .i32 :=
  broadcastInDim S8192x4x2x128 ![] bcast_S_S8192x4x2x128 (h_c_31 (F := F))
theorem h_v145_apply (i : S8192x4x2x128.Idx) : h_v145 (F := F) i = h_c_31 (F := F) (ix_v68 i) := at_v68 _ i

def h_v146 : C F S8192x4x2x128 .i32 := addi (h_v145 (F := F)) (h_v144 (F := F))
theorem h_v146_apply (i : S8192x4x2x128.Idx) :
    h_v146 (F := F) i = IntOp.addi (h_v145 (F := F) i) (h_v144 (F := F) i) := rfl

def h_v147 : C F S8192x4x2x128 .i1 := cmpi .slt (h_v66 (F := F)) (h_v146 (F := F))
theorem h_v147_apply (i : S8192x4x2x128.Idx) :
    h_v147 (F := F) i = IntOp.cmpi .slt (h_v66 (F := F) i) (h_v146 (F := F) i) := rfl

def h_v148 : C F S8192x4x2x128 .i1 := andi (h_v140 (F := F)) (h_v147 (F := F))
theorem h_v148_apply (i : S8192x4x2x128.Idx) :
    h_v148 (F := F) i = IntOp.andi (h_v140 (F := F) i) (h_v147 (F := F) i) := rfl

def h_c_32 : C F S_ .i32 := constantI S_ 32 1#32
theorem h_c_32_apply (i : S_.Idx) : h_c_32 (F := F) i = 1#32 := rfl

def h_v149 : C F S8192x4x2x128 .i32 :=
  broadcastInDim S8192x4x2x128 ![] bcast_S_S8192x4x2x128 (h_c_32 (F := F))
theorem h_v149_apply (i : S8192x4x2x128.Idx) : h_v149 (F := F) i = h_c_32 (F := F) (ix_v68 i) := at_v68 _ i

def h_v150 : C F S8192x4x2x128 .i32 := subi (h_v149 (F := F)) (h_v67 (F := F))
theorem h_v150_apply (i : S8192x4x2x128.Idx) :
    h_v150 (F := F) i = IntOp.subi (h_v149 (F := F) i) (h_v67 (F := F) i) := rfl

def h_c_33 : C F S_ .i32 := constantI S_ 32 64#32
theorem h_c_33_apply (i : S_.Idx) : h_c_33 (F := F) i = 64#32 := rfl

def h_v151 : C F S8192x4x2x128 .i32 :=
  broadcastInDim S8192x4x2x128 ![] bcast_S_S8192x4x2x128 (h_c_33 (F := F))
theorem h_v151_apply (i : S8192x4x2x128.Idx) : h_v151 (F := F) i = h_c_33 (F := F) (ix_v68 i) := at_v68 _ i

def h_v152 : C F S8192x4x2x128 .i32 := muli (h_v151 (F := F)) (h_v150 (F := F))
theorem h_v152_apply (i : S8192x4x2x128.Idx) :
    h_v152 (F := F) i = IntOp.muli (h_v151 (F := F) i) (h_v150 (F := F) i) := rfl

def h_c_34 : C F S_ .i32 := constantI S_ 32 3#32
theorem h_c_34_apply (i : S_.Idx) : h_c_34 (F := F) i = 3#32 := rfl

def h_v153 : C F S8192x4x2x128 .i32 :=
  broadcastInDim S8192x4x2x128 ![] bcast_S_S8192x4x2x128 (h_c_34 (F := F))
theorem h_v153_apply (i : S8192x4x2x128.Idx) : h_v153 (F := F) i = h_c_34 (F := F) (ix_v68 i) := at_v68 _ i

def h_v154 : C F S8192x4x2x128 .i32 := addi (h_v153 (F := F)) (h_v152 (F := F))
theorem h_v154_apply (i : S8192x4x2x128.Idx) :
    h_v154 (F := F) i = IntOp.addi (h_v153 (F := F) i) (h_v152 (F := F) i) := rfl

def h_v155 : C F S8192x4x2x128 .i1 := cmpi .eq (h_v66 (F := F)) (h_v154 (F := F))
theorem h_v155_apply (i : S8192x4x2x128.Idx) :
    h_v155 (F := F) i = IntOp.cmpi .eq (h_v66 (F := F) i) (h_v154 (F := F) i) := rfl

def h_v156 : C F S8192x4x2x128 .f32 := Host.negf (h_v84 x3)
theorem h_v156_apply (i : S8192x4x2x128.Idx) : h_v156 x3 i = FloatOps.hostNegf (h_v84 x3 i) := rfl

def h_c_35 : C F S_ .i32 := constantI S_ 32 1#32
theorem h_c_35_apply (i : S_.Idx) : h_c_35 (F := F) i = 1#32 := rfl

def h_v157 : C F S8192x4x2x128 .i32 :=
  broadcastInDim S8192x4x2x128 ![] bcast_S_S8192x4x2x128 (h_c_35 (F := F))
theorem h_v157_apply (i : S8192x4x2x128.Idx) : h_v157 (F := F) i = h_c_35 (F := F) (ix_v68 i) := at_v68 _ i

def h_v158 : C F S8192x4x2x128 .i32 := subi (h_v157 (F := F)) (h_v67 (F := F))
theorem h_v158_apply (i : S8192x4x2x128.Idx) :
    h_v158 (F := F) i = IntOp.subi (h_v157 (F := F) i) (h_v67 (F := F) i) := rfl

def h_c_36 : C F S_ .i32 := constantI S_ 32 64#32
theorem h_c_36_apply (i : S_.Idx) : h_c_36 (F := F) i = 64#32 := rfl

def h_v159 : C F S8192x4x2x128 .i32 :=
  broadcastInDim S8192x4x2x128 ![] bcast_S_S8192x4x2x128 (h_c_36 (F := F))
theorem h_v159_apply (i : S8192x4x2x128.Idx) : h_v159 (F := F) i = h_c_36 (F := F) (ix_v68 i) := at_v68 _ i

def h_v160 : C F S8192x4x2x128 .i32 := muli (h_v159 (F := F)) (h_v158 (F := F))
theorem h_v160_apply (i : S8192x4x2x128.Idx) :
    h_v160 (F := F) i = IntOp.muli (h_v159 (F := F) i) (h_v158 (F := F) i) := rfl

def h_c_37 : C F S_ .i32 := constantI S_ 32 4#32
theorem h_c_37_apply (i : S_.Idx) : h_c_37 (F := F) i = 4#32 := rfl

def h_v161 : C F S8192x4x2x128 .i32 :=
  broadcastInDim S8192x4x2x128 ![] bcast_S_S8192x4x2x128 (h_c_37 (F := F))
theorem h_v161_apply (i : S8192x4x2x128.Idx) : h_v161 (F := F) i = h_c_37 (F := F) (ix_v68 i) := at_v68 _ i

def h_v162 : C F S8192x4x2x128 .i32 := addi (h_v161 (F := F)) (h_v160 (F := F))
theorem h_v162_apply (i : S8192x4x2x128.Idx) :
    h_v162 (F := F) i = IntOp.addi (h_v161 (F := F) i) (h_v160 (F := F) i) := rfl

def h_v163 : C F S8192x4x2x128 .i1 := cmpi .eq (h_v66 (F := F)) (h_v162 (F := F))
theorem h_v163_apply (i : S8192x4x2x128.Idx) :
    h_v163 (F := F) i = IntOp.cmpi .eq (h_v66 (F := F) i) (h_v162 (F := F) i) := rfl

def h_v164 : C F S8192x4x2x128 .f32 := Host.negf (h_v86 x3)
theorem h_v164_apply (i : S8192x4x2x128.Idx) : h_v164 x3 i = FloatOps.hostNegf (h_v86 x3 i) := rfl

def h_c_38 : C F S_ .i32 := constantI S_ 32 1#32
theorem h_c_38_apply (i : S_.Idx) : h_c_38 (F := F) i = 1#32 := rfl

def h_v165 : C F S8192x4x2x128 .i32 :=
  broadcastInDim S8192x4x2x128 ![] bcast_S_S8192x4x2x128 (h_c_38 (F := F))
theorem h_v165_apply (i : S8192x4x2x128.Idx) : h_v165 (F := F) i = h_c_38 (F := F) (ix_v68 i) := at_v68 _ i

def h_v166 : C F S8192x4x2x128 .i32 := subi (h_v165 (F := F)) (h_v67 (F := F))
theorem h_v166_apply (i : S8192x4x2x128.Idx) :
    h_v166 (F := F) i = IntOp.subi (h_v165 (F := F) i) (h_v67 (F := F) i) := rfl

def h_c_39 : C F S_ .i32 := constantI S_ 32 64#32
theorem h_c_39_apply (i : S_.Idx) : h_c_39 (F := F) i = 64#32 := rfl

def h_v167 : C F S8192x4x2x128 .i32 :=
  broadcastInDim S8192x4x2x128 ![] bcast_S_S8192x4x2x128 (h_c_39 (F := F))
theorem h_v167_apply (i : S8192x4x2x128.Idx) : h_v167 (F := F) i = h_c_39 (F := F) (ix_v68 i) := at_v68 _ i

def h_v168 : C F S8192x4x2x128 .i32 := muli (h_v167 (F := F)) (h_v166 (F := F))
theorem h_v168_apply (i : S8192x4x2x128.Idx) :
    h_v168 (F := F) i = IntOp.muli (h_v167 (F := F) i) (h_v166 (F := F) i) := rfl

def h_c_40 : C F S_ .i32 := constantI S_ 32 5#32
theorem h_c_40_apply (i : S_.Idx) : h_c_40 (F := F) i = 5#32 := rfl

def h_v169 : C F S8192x4x2x128 .i32 :=
  broadcastInDim S8192x4x2x128 ![] bcast_S_S8192x4x2x128 (h_c_40 (F := F))
theorem h_v169_apply (i : S8192x4x2x128.Idx) : h_v169 (F := F) i = h_c_40 (F := F) (ix_v68 i) := at_v68 _ i

def h_v170 : C F S8192x4x2x128 .i32 := addi (h_v169 (F := F)) (h_v168 (F := F))
theorem h_v170_apply (i : S8192x4x2x128.Idx) :
    h_v170 (F := F) i = IntOp.addi (h_v169 (F := F) i) (h_v168 (F := F) i) := rfl

def h_v171 : C F S8192x4x2x128 .i1 := cmpi .eq (h_v66 (F := F)) (h_v170 (F := F))
theorem h_v171_apply (i : S8192x4x2x128.Idx) :
    h_v171 (F := F) i = IntOp.cmpi .eq (h_v66 (F := F) i) (h_v170 (F := F) i) := rfl

def h_v172 : C F S8192x4x2x128 .f32 := Host.negf (h_v88 x3)
theorem h_v172_apply (i : S8192x4x2x128.Idx) : h_v172 x3 i = FloatOps.hostNegf (h_v88 x3 i) := rfl

def h_c_41 : C F S_ .i32 := constantI S_ 32 1#32
theorem h_c_41_apply (i : S_.Idx) : h_c_41 (F := F) i = 1#32 := rfl

def h_v173 : C F S8192x4x2x128 .i32 :=
  broadcastInDim S8192x4x2x128 ![] bcast_S_S8192x4x2x128 (h_c_41 (F := F))
theorem h_v173_apply (i : S8192x4x2x128.Idx) : h_v173 (F := F) i = h_c_41 (F := F) (ix_v68 i) := at_v68 _ i

def h_v174 : C F S8192x4x2x128 .i32 := subi (h_v173 (F := F)) (h_v67 (F := F))
theorem h_v174_apply (i : S8192x4x2x128.Idx) :
    h_v174 (F := F) i = IntOp.subi (h_v173 (F := F) i) (h_v67 (F := F) i) := rfl

def h_c_42 : C F S_ .i32 := constantI S_ 32 64#32
theorem h_c_42_apply (i : S_.Idx) : h_c_42 (F := F) i = 64#32 := rfl

def h_v175 : C F S8192x4x2x128 .i32 :=
  broadcastInDim S8192x4x2x128 ![] bcast_S_S8192x4x2x128 (h_c_42 (F := F))
theorem h_v175_apply (i : S8192x4x2x128.Idx) : h_v175 (F := F) i = h_c_42 (F := F) (ix_v68 i) := at_v68 _ i

def h_v176 : C F S8192x4x2x128 .i32 := muli (h_v175 (F := F)) (h_v174 (F := F))
theorem h_v176_apply (i : S8192x4x2x128.Idx) :
    h_v176 (F := F) i = IntOp.muli (h_v175 (F := F) i) (h_v174 (F := F) i) := rfl

def h_c_43 : C F S_ .i32 := constantI S_ 32 6#32
theorem h_c_43_apply (i : S_.Idx) : h_c_43 (F := F) i = 6#32 := rfl

def h_v177 : C F S8192x4x2x128 .i32 :=
  broadcastInDim S8192x4x2x128 ![] bcast_S_S8192x4x2x128 (h_c_43 (F := F))
theorem h_v177_apply (i : S8192x4x2x128.Idx) : h_v177 (F := F) i = h_c_43 (F := F) (ix_v68 i) := at_v68 _ i

def h_v178 : C F S8192x4x2x128 .i32 := addi (h_v177 (F := F)) (h_v176 (F := F))
theorem h_v178_apply (i : S8192x4x2x128.Idx) :
    h_v178 (F := F) i = IntOp.addi (h_v177 (F := F) i) (h_v176 (F := F) i) := rfl

def h_v179 : C F S8192x4x2x128 .i1 := cmpi .sge (h_v66 (F := F)) (h_v178 (F := F))
theorem h_v179_apply (i : S8192x4x2x128.Idx) :
    h_v179 (F := F) i = IntOp.cmpi .sge (h_v66 (F := F) i) (h_v178 (F := F) i) := rfl

def h_c_44 : C F S_ .i32 := constantI S_ 32 1#32
theorem h_c_44_apply (i : S_.Idx) : h_c_44 (F := F) i = 1#32 := rfl

def h_v180 : C F S8192x4x2x128 .i32 :=
  broadcastInDim S8192x4x2x128 ![] bcast_S_S8192x4x2x128 (h_c_44 (F := F))
theorem h_v180_apply (i : S8192x4x2x128.Idx) : h_v180 (F := F) i = h_c_44 (F := F) (ix_v68 i) := at_v68 _ i

def h_v181 : C F S8192x4x2x128 .i32 := subi (h_v180 (F := F)) (h_v67 (F := F))
theorem h_v181_apply (i : S8192x4x2x128.Idx) :
    h_v181 (F := F) i = IntOp.subi (h_v180 (F := F) i) (h_v67 (F := F) i) := rfl

def h_c_45 : C F S_ .i32 := constantI S_ 32 64#32
theorem h_c_45_apply (i : S_.Idx) : h_c_45 (F := F) i = 64#32 := rfl

def h_v182 : C F S8192x4x2x128 .i32 :=
  broadcastInDim S8192x4x2x128 ![] bcast_S_S8192x4x2x128 (h_c_45 (F := F))
theorem h_v182_apply (i : S8192x4x2x128.Idx) : h_v182 (F := F) i = h_c_45 (F := F) (ix_v68 i) := at_v68 _ i

def h_v183 : C F S8192x4x2x128 .i32 := muli (h_v182 (F := F)) (h_v181 (F := F))
theorem h_v183_apply (i : S8192x4x2x128.Idx) :
    h_v183 (F := F) i = IntOp.muli (h_v182 (F := F) i) (h_v181 (F := F) i) := rfl

def h_c_46 : C F S_ .i32 := constantI S_ 32 9#32
theorem h_c_46_apply (i : S_.Idx) : h_c_46 (F := F) i = 9#32 := rfl

def h_v184 : C F S8192x4x2x128 .i32 :=
  broadcastInDim S8192x4x2x128 ![] bcast_S_S8192x4x2x128 (h_c_46 (F := F))
theorem h_v184_apply (i : S8192x4x2x128.Idx) : h_v184 (F := F) i = h_c_46 (F := F) (ix_v68 i) := at_v68 _ i

def h_v185 : C F S8192x4x2x128 .i32 := addi (h_v184 (F := F)) (h_v183 (F := F))
theorem h_v185_apply (i : S8192x4x2x128.Idx) :
    h_v185 (F := F) i = IntOp.addi (h_v184 (F := F) i) (h_v183 (F := F) i) := rfl

def h_v186 : C F S8192x4x2x128 .i1 := cmpi .slt (h_v66 (F := F)) (h_v185 (F := F))
theorem h_v186_apply (i : S8192x4x2x128.Idx) :
    h_v186 (F := F) i = IntOp.cmpi .slt (h_v66 (F := F) i) (h_v185 (F := F) i) := rfl

def h_v187 : C F S8192x4x2x128 .i1 := andi (h_v179 (F := F)) (h_v186 (F := F))
theorem h_v187_apply (i : S8192x4x2x128.Idx) :
    h_v187 (F := F) i = IntOp.andi (h_v179 (F := F) i) (h_v186 (F := F) i) := rfl

def h_cst_47 : C F S_ .f32 := constant S_ .f32 0xBF800000#32
theorem h_cst_47_apply (i : S_.Idx) : h_cst_47 (F := F) i = FloatOps.ofBits .f32 0xBF800000#32 := rfl

def h_cst_48 : C F S_ .f32 := constant S_ .f32 0x00000000#32
theorem h_cst_48_apply (i : S_.Idx) : h_cst_48 (F := F) i = FloatOps.ofBits .f32 0x00000000#32 := rfl

def h_call7_v0 : C F S8192x4x2x128 .f32 := broadcastInDim S8192x4x2x128 ![] bcast_S_S8192x4x2x128 h_cst_47
theorem h_call7_v0_apply (i : S8192x4x2x128.Idx) :
    h_call7_v0 (F := F) i = h_cst_47 (F := F) (ix_v68 i) := at_v68 _ i

def h_call7_v1 : C F S8192x4x2x128 .f32 := broadcastInDim S8192x4x2x128 ![] bcast_S_S8192x4x2x128 h_cst_48
theorem h_call7_v1_apply (i : S8192x4x2x128.Idx) :
    h_call7_v1 (F := F) i = h_cst_48 (F := F) (ix_v68 i) := at_v68 _ i

def h_v188 : C F S8192x4x2x128 .f32 := select (h_v187 (F := F)) h_call7_v0 h_call7_v1
theorem h_v188_apply (i : S8192x4x2x128.Idx) :
    h_v188 (F := F) i = Scalar.select (h_v187 (F := F) i) (h_call7_v0 (F := F) i) (h_call7_v1 (F := F) i) := rfl

def h_call8_v0 : C F S8192x4x2x128 .f32 := id h_v188
theorem h_call8_v0_apply (i : S8192x4x2x128.Idx) : h_call8_v0 (F := F) i = (h_v188 (F := F) i) := rfl

def h_v189 : C F S8192x4x2x128 .f32 := select (h_v171 (F := F)) (h_v172 x3) h_call8_v0
theorem h_v189_apply (i : S8192x4x2x128.Idx) :
    h_v189 x3 i = Scalar.select (h_v171 (F := F) i) (h_v172 x3 i) (h_call8_v0 (F := F) i) := rfl

def h_v190 : C F S8192x4x2x128 .f32 := select (h_v163 (F := F)) (h_v164 x3) (h_v189 x3)
theorem h_v190_apply (i : S8192x4x2x128.Idx) :
    h_v190 x3 i = Scalar.select (h_v163 (F := F) i) (h_v164 x3 i) (h_v189 x3 i) := rfl

def h_v191 : C F S8192x4x2x128 .f32 := select (h_v155 (F := F)) (h_v156 x3) (h_v190 x3)
theorem h_v191_apply (i : S8192x4x2x128.Idx) :
    h_v191 x3 i = Scalar.select (h_v155 (F := F) i) (h_v156 x3 i) (h_v190 x3 i) := rfl

def h_cst_49 : C F S_ .f32 := constant S_ .f32 0x3F800000#32
theorem h_cst_49_apply (i : S_.Idx) : h_cst_49 (F := F) i = FloatOps.ofBits .f32 0x3F800000#32 := rfl

def h_call11_v0 : C F S_ .f32 := id h_cst_49
theorem h_call11_v0_apply (i : S_.Idx) : h_call11_v0 (F := F) i = (h_cst_49 (F := F) i) := rfl

def h_call11_v1 : C F S8192x4x2x128 .f32 := broadcastInDim S8192x4x2x128 ![] bcast_S_S8192x4x2x128 h_call11_v0
theorem h_call11_v1_apply (i : S8192x4x2x128.Idx) :
    h_call11_v1 (F := F) i = h_call11_v0 (F := F) (ix_v68 i) := at_v68 _ i

def h_v192 : C F S8192x4x2x128 .f32 := select (h_v148 (F := F)) h_call11_v1 (h_v191 x3)
theorem h_v192_apply (i : S8192x4x2x128.Idx) :
    h_v192 x3 i = Scalar.select (h_v148 (F := F) i) (h_call11_v1 (F := F) i) (h_v191 x3 i) := rfl

def h_v193 : C F S8192x4x2x128 .f32 := select (h_v72 (F := F)) (h_v133 x1) (h_v192 x3)
theorem h_v193_apply (i : S8192x4x2x128.Idx) :
    h_v193 x1 x3 i = Scalar.select (h_v72 (F := F) i) (h_v133 x1 i) (h_v192 x3 i) := rfl

end Cert.KernelIdeal.Host

end
-- ==== Proof.HostB.lean ====
module

public import proofs.«01_k».proof.Proof.Gen.KernelIdeal
public import proofs.«01_k».proof.Proof.HostA
public import Idealize.ShloMosaic.Lib.Pipeline.Value
public import Idealize.ShloMosaic.Lib.ValueIdx
public import Idealize.ShloMosaic.PureOps.Ideal.Laws

@[expose] public section

/-! The host operations that prepare the call's four operands, each as a function of the five arguments (`h_<buffer>`),
and each read at an index from its operands at an index (`h_<buffer>_apply`). -/

noncomputable section

namespace Cert.KernelIdeal.Host

open Cert.KernelIdeal Cert.KernelIdeal.Gen Idealize.ShloMosaic Idealize.ShloMosaic.TcCoe Idealize.SL.Sem Idealize.ShloMosaic.StableHlo

variable {F : FTy → Type} [FloatOps F]
variable (x0 x1 x2 : C F S8192x512 .f32) (x3 : C F S8192x8 .f32) (x4 : C F S8192x512 .f32)

def h_v194 : C F S8192x4x1x128 .f32 := shapeCast _ x2 shapeCasts_S8192x512_S8192x4x1x128
theorem h_v194_apply (i) : h_v194 x2 i = x2 (ix_v89 i) := at_v89 _ i

def h_v195 : C F S8192x4x2x128 .f32 :=
  broadcastInDim S8192x4x2x128 ![0, 1, 2, 3] bcast_S8192x4x1x128_S8192x4x2x128_0_1_2_3 (h_v194 x2)
theorem h_v195_apply (i) : h_v195 x2 i = h_v194 x2 (ix_v90 i) := at_v90 _ i

def h_c_50 : C F S_ .i32 := constantI S_ 32 1#32
theorem h_c_50_apply (i) : h_c_50 (F := F) i = 1#32 := rfl

def h_v196 : C F S8192x4x2x128 .i32 :=
  broadcastInDim S8192x4x2x128 ![] bcast_S_S8192x4x2x128 (h_c_50 (F := F))
theorem h_v196_apply (i) : h_v196 (F := F) i = h_c_50 (F := F) (ix_v68 i) := at_v68 _ i

def h_v197 : C F S8192x4x2x128 .i32 := subi (h_v196 (F := F)) (h_v67 (F := F))
theorem h_v197_apply (i) :
    h_v197 (F := F) i = IntOp.subi (h_v196 (F := F) i) (h_v67 (F := F) i) := rfl

def h_c_51 : C F S_ .i32 := constantI S_ 32 64#32
theorem h_c_51_apply (i) : h_c_51 (F := F) i = 64#32 := rfl

def h_v198 : C F S8192x4x2x128 .i32 :=
  broadcastInDim S8192x4x2x128 ![] bcast_S_S8192x4x2x128 (h_c_51 (F := F))
theorem h_v198_apply (i) : h_v198 (F := F) i = h_c_51 (F := F) (ix_v68 i) := at_v68 _ i

def h_v199 : C F S8192x4x2x128 .i32 := muli (h_v198 (F := F)) (h_v197 (F := F))
theorem h_v199_apply (i) :
    h_v199 (F := F) i = IntOp.muli (h_v198 (F := F) i) (h_v197 (F := F) i) := rfl

def h_c_52 : C F S_ .i32 := constantI S_ 32 0#32
theorem h_c_52_apply (i) : h_c_52 (F := F) i = 0#32 := rfl

def h_v200 : C F S8192x4x2x128 .i32 :=
  broadcastInDim S8192x4x2x128 ![] bcast_S_S8192x4x2x128 (h_c_52 (F := F))
theorem h_v200_apply (i) : h_v200 (F := F) i = h_c_52 (F := F) (ix_v68 i) := at_v68 _ i

def h_v201 : C F S8192x4x2x128 .i32 := addi (h_v200 (F := F)) (h_v199 (F := F))
theorem h_v201_apply (i) :
    h_v201 (F := F) i = IntOp.addi (h_v200 (F := F) i) (h_v199 (F := F) i) := rfl

def h_v202 : C F S8192x4x2x128 .i1 := cmpi .sge (h_v66 (F := F)) (h_v201 (F := F))
theorem h_v202_apply (i) :
    h_v202 (F := F) i = IntOp.cmpi .sge (h_v66 (F := F) i) (h_v201 (F := F) i) := rfl

def h_c_53 : C F S_ .i32 := constantI S_ 32 1#32
theorem h_c_53_apply (i) : h_c_53 (F := F) i = 1#32 := rfl

def h_v203 : C F S8192x4x2x128 .i32 :=
  broadcastInDim S8192x4x2x128 ![] bcast_S_S8192x4x2x128 (h_c_53 (F := F))
theorem h_v203_apply (i) : h_v203 (F := F) i = h_c_53 (F := F) (ix_v68 i) := at_v68 _ i

def h_v204 : C F S8192x4x2x128 .i32 := subi (h_v203 (F := F)) (h_v67 (F := F))
theorem h_v204_apply (i) :
    h_v204 (F := F) i = IntOp.subi (h_v203 (F := F) i) (h_v67 (F := F) i) := rfl

def h_c_54 : C F S_ .i32 := constantI S_ 32 64#32
theorem h_c_54_apply (i) : h_c_54 (F := F) i = 64#32 := rfl

def h_v205 : C F S8192x4x2x128 .i32 :=
  broadcastInDim S8192x4x2x128 ![] bcast_S_S8192x4x2x128 (h_c_54 (F := F))
theorem h_v205_apply (i) : h_v205 (F := F) i = h_c_54 (F := F) (ix_v68 i) := at_v68 _ i

def h_v206 : C F S8192x4x2x128 .i32 := muli (h_v205 (F := F)) (h_v204 (F := F))
theorem h_v206_apply (i) :
    h_v206 (F := F) i = IntOp.muli (h_v205 (F := F) i) (h_v204 (F := F) i) := rfl

def h_c_55 : C F S_ .i32 := constantI S_ 32 3#32
theorem h_c_55_apply (i) : h_c_55 (F := F) i = 3#32 := rfl

def h_v207 : C F S8192x4x2x128 .i32 :=
  broadcastInDim S8192x4x2x128 ![] bcast_S_S8192x4x2x128 (h_c_55 (F := F))
theorem h_v207_apply (i) : h_v207 (F := F) i = h_c_55 (F := F) (ix_v68 i) := at_v68 _ i

def h_v208 : C F S8192x4x2x128 .i32 := addi (h_v207 (F := F)) (h_v206 (F := F))
theorem h_v208_apply (i) :
    h_v208 (F := F) i = IntOp.addi (h_v207 (F := F) i) (h_v206 (F := F) i) := rfl

def h_v209 : C F S8192x4x2x128 .i1 := cmpi .slt (h_v66 (F := F)) (h_v208 (F := F))
theorem h_v209_apply (i) :
    h_v209 (F := F) i = IntOp.cmpi .slt (h_v66 (F := F) i) (h_v208 (F := F) i) := rfl

def h_v210 : C F S8192x4x2x128 .i1 := andi (h_v202 (F := F)) (h_v209 (F := F))
theorem h_v210_apply (i) :
    h_v210 (F := F) i = IntOp.andi (h_v202 (F := F) i) (h_v209 (F := F) i) := rfl

def h_cst_56 : C F S_ .f32 := constant S_ .f32 0x3F800000#32
theorem h_cst_56_apply (i) : h_cst_56 (F := F) i = FloatOps.ofBits .f32 0x3F800000#32 := rfl

def h_cst_57 : C F S_ .f32 := constant S_ .f32 0x00000000#32
theorem h_cst_57_apply (i) : h_cst_57 (F := F) i = FloatOps.ofBits .f32 0x00000000#32 := rfl

def h_call13_v0 : C F S8192x4x2x128 .f32 := broadcastInDim S8192x4x2x128 ![] bcast_S_S8192x4x2x128 h_cst_56
theorem h_call13_v0_apply (i) :
    h_call13_v0 (F := F) i = h_cst_56 (F := F) (ix_v68 i) := at_v68 _ i

def h_call13_v1 : C F S8192x4x2x128 .f32 := broadcastInDim S8192x4x2x128 ![] bcast_S_S8192x4x2x128 h_cst_57
theorem h_call13_v1_apply (i) :
    h_call13_v1 (F := F) i = h_cst_57 (F := F) (ix_v68 i) := at_v68 _ i

def h_v211 : C F S8192x4x2x128 .f32 := select (h_v210 (F := F)) h_call13_v0 h_call13_v1
theorem h_v211_apply (i) :
    h_v211 (F := F) i = Scalar.select (h_v210 (F := F) i) (h_call13_v0 (F := F) i) (h_call13_v1 (F := F) i) := rfl

def h_call14_v0 : C F S8192x4x2x128 .f32 := id h_v211
theorem h_call14_v0_apply (i) : h_call14_v0 (F := F) i = (h_v211 (F := F) i) := rfl

def h_v212 : C F S8192x4x2x128 .f32 := select (h_v72 (F := F)) (h_v195 x2) h_call14_v0
theorem h_v212_apply (i) :
    h_v212 x2 i = Scalar.select (h_v72 (F := F) i) (h_v195 x2 i) (h_call14_v0 (F := F) i) := rfl

def h_v213 : C F S8192x8 .bf16 := truncf .bf16 (h_v28 x0 x1 x3) bitsLt_bf16_f32
theorem h_v213_apply (i) :
    h_v213 x0 x1 x3 i = FloatOps.truncf .bf16 bitsLt_bf16_f32 (h_v28 x0 x1 x3 i) := rfl

def h_v214 : C F S8192x8 .f32 := extf .f32 (h_v213 x0 x1 x3) bitsLt_bf16_f32
theorem h_v214_apply (i) :
    h_v214 x0 x1 x3 i = FloatOps.extf .f32 bitsLt_bf16_f32 (h_v213 x0 x1 x3 i) := rfl

def h_v215 : C F S8192x8 .f32 := subf (h_v28 x0 x1 x3) (h_v214 x0 x1 x3)
theorem h_v215_apply (i) :
    h_v215 x0 x1 x3 i = FloatOps.subf (h_v28 x0 x1 x3 i) (h_v214 x0 x1 x3 i) := rfl

def h_v216 : C F S8192x8 .bf16 := truncf .bf16 (h_v215 x0 x1 x3) bitsLt_bf16_f32
theorem h_v216_apply (i) :
    h_v216 x0 x1 x3 i = FloatOps.truncf .bf16 bitsLt_bf16_f32 (h_v215 x0 x1 x3 i) := rfl

def h_v217 : C F S8192x8 .f32 := extf .f32 (h_v216 x0 x1 x3) bitsLt_bf16_f32
theorem h_v217_apply (i) :
    h_v217 x0 x1 x3 i = FloatOps.extf .f32 bitsLt_bf16_f32 (h_v216 x0 x1 x3 i) := rfl

def h_v218 : C F S8192x8 .f32 := subf (h_v215 x0 x1 x3) (h_v217 x0 x1 x3)
theorem h_v218_apply (i) :
    h_v218 x0 x1 x3 i = FloatOps.subf (h_v215 x0 x1 x3 i) (h_v217 x0 x1 x3 i) := rfl

def h_v219 : C F S8192x8 .bf16 := truncf .bf16 (h_v218 x0 x1 x3) bitsLt_bf16_f32
theorem h_v219_apply (i) :
    h_v219 x0 x1 x3 i = FloatOps.truncf .bf16 bitsLt_bf16_f32 (h_v218 x0 x1 x3 i) := rfl

def h_v220 : C F S8192x8 .f32 := extf .f32 (h_v213 x0 x1 x3) bitsLt_bf16_f32
theorem h_v220_apply (i) :
    h_v220 x0 x1 x3 i = FloatOps.extf .f32 bitsLt_bf16_f32 (h_v213 x0 x1 x3 i) := rfl

def h_v221 : C F S8192x8 .f32 := extf .f32 (h_v216 x0 x1 x3) bitsLt_bf16_f32
theorem h_v221_apply (i) :
    h_v221 x0 x1 x3 i = FloatOps.extf .f32 bitsLt_bf16_f32 (h_v216 x0 x1 x3 i) := rfl

def h_v222 : C F S8192x8 .f32 := extf .f32 (h_v219 x0 x1 x3) bitsLt_bf16_f32
theorem h_v222_apply (i) :
    h_v222 x0 x1 x3 i = FloatOps.extf .f32 bitsLt_bf16_f32 (h_v219 x0 x1 x3 i) := rfl

def h_v223 : C F S8192x4x2x1 .f32 := shapeCast _ (h_v220 x0 x1 x3) shapeCasts_S8192x8_S8192x4x2x1
theorem h_v223_apply (i) : h_v223 x0 x1 x3 i = h_v220 x0 x1 x3 (ix_v83 i) := at_v83 _ i

def h_v224 : C F S8192x4x2x128 .f32 :=
  broadcastInDim S8192x4x2x128 ![0, 1, 2, 3] bcast_S8192x4x2x1_S8192x4x2x128_0_1_2_3 (h_v223 x0 x1 x3)
theorem h_v224_apply (i) : h_v224 x0 x1 x3 i = h_v223 x0 x1 x3 (ix_v84 i) := at_v84 _ i

def h_v225 : C F S8192x4x2x1 .f32 := shapeCast _ (h_v221 x0 x1 x3) shapeCasts_S8192x8_S8192x4x2x1
theorem h_v225_apply (i) : h_v225 x0 x1 x3 i = h_v221 x0 x1 x3 (ix_v83 i) := at_v83 _ i

def h_v226 : C F S8192x4x2x128 .f32 :=
  broadcastInDim S8192x4x2x128 ![0, 1, 2, 3] bcast_S8192x4x2x1_S8192x4x2x128_0_1_2_3 (h_v225 x0 x1 x3)
theorem h_v226_apply (i) : h_v226 x0 x1 x3 i = h_v225 x0 x1 x3 (ix_v84 i) := at_v84 _ i

def h_v227 : C F S8192x4x2x1 .f32 := shapeCast _ (h_v222 x0 x1 x3) shapeCasts_S8192x8_S8192x4x2x1
theorem h_v227_apply (i) : h_v227 x0 x1 x3 i = h_v222 x0 x1 x3 (ix_v83 i) := at_v83 _ i

def h_v228 : C F S8192x4x2x128 .f32 :=
  broadcastInDim S8192x4x2x128 ![0, 1, 2, 3] bcast_S8192x4x2x1_S8192x4x2x128_0_1_2_3 (h_v227 x0 x1 x3)
theorem h_v228_apply (i) : h_v228 x0 x1 x3 i = h_v227 x0 x1 x3 (ix_v84 i) := at_v84 _ i

def h_c_58 : C F S_ .i32 := constantI S_ 32 1#32
theorem h_c_58_apply (i) : h_c_58 (F := F) i = 1#32 := rfl

def h_v229 : C F S8192x4x2x128 .i32 :=
  broadcastInDim S8192x4x2x128 ![] bcast_S_S8192x4x2x128 (h_c_58 (F := F))
theorem h_v229_apply (i) : h_v229 (F := F) i = h_c_58 (F := F) (ix_v68 i) := at_v68 _ i

def h_v230 : C F S8192x4x2x128 .i32 := subi (h_v229 (F := F)) (h_v67 (F := F))
theorem h_v230_apply (i) :
    h_v230 (F := F) i = IntOp.subi (h_v229 (F := F) i) (h_v67 (F := F) i) := rfl

def h_c_59 : C F S_ .i32 := constantI S_ 32 64#32
theorem h_c_59_apply (i) : h_c_59 (F := F) i = 64#32 := rfl

def h_v231 : C F S8192x4x2x128 .i32 :=
  broadcastInDim S8192x4x2x128 ![] bcast_S_S8192x4x2x128 (h_c_59 (F := F))
theorem h_v231_apply (i) : h_v231 (F := F) i = h_c_59 (F := F) (ix_v68 i) := at_v68 _ i

def h_v232 : C F S8192x4x2x128 .i32 := muli (h_v231 (F := F)) (h_v230 (F := F))
theorem h_v232_apply (i) :
    h_v232 (F := F) i = IntOp.muli (h_v231 (F := F) i) (h_v230 (F := F) i) := rfl

def h_c_60 : C F S_ .i32 := constantI S_ 32 6#32
theorem h_c_60_apply (i) : h_c_60 (F := F) i = 6#32 := rfl

def h_v233 : C F S8192x4x2x128 .i32 :=
  broadcastInDim S8192x4x2x128 ![] bcast_S_S8192x4x2x128 (h_c_60 (F := F))
theorem h_v233_apply (i) : h_v233 (F := F) i = h_c_60 (F := F) (ix_v68 i) := at_v68 _ i

def h_v234 : C F S8192x4x2x128 .i32 := addi (h_v233 (F := F)) (h_v232 (F := F))
theorem h_v234_apply (i) :
    h_v234 (F := F) i = IntOp.addi (h_v233 (F := F) i) (h_v232 (F := F) i) := rfl

def h_v235 : C F S8192x4x2x128 .i1 := cmpi .eq (h_v66 (F := F)) (h_v234 (F := F))
theorem h_v235_apply (i) :
    h_v235 (F := F) i = IntOp.cmpi .eq (h_v66 (F := F) i) (h_v234 (F := F) i) := rfl

def h_c_61 : C F S_ .i32 := constantI S_ 32 1#32
theorem h_c_61_apply (i) : h_c_61 (F := F) i = 1#32 := rfl

def h_v236 : C F S8192x4x2x128 .i32 :=
  broadcastInDim S8192x4x2x128 ![] bcast_S_S8192x4x2x128 (h_c_61 (F := F))
theorem h_v236_apply (i) : h_v236 (F := F) i = h_c_61 (F := F) (ix_v68 i) := at_v68 _ i

def h_v237 : C F S8192x4x2x128 .i32 := subi (h_v236 (F := F)) (h_v67 (F := F))
theorem h_v237_apply (i) :
    h_v237 (F := F) i = IntOp.subi (h_v236 (F := F) i) (h_v67 (F := F) i) := rfl

def h_c_62 : C F S_ .i32 := constantI S_ 32 64#32
theorem h_c_62_apply (i) : h_c_62 (F := F) i = 64#32 := rfl

def h_v238 : C F S8192x4x2x128 .i32 :=
  broadcastInDim S8192x4x2x128 ![] bcast_S_S8192x4x2x128 (h_c_62 (F := F))
theorem h_v238_apply (i) : h_v238 (F := F) i = h_c_62 (F := F) (ix_v68 i) := at_v68 _ i

def h_v239 : C F S8192x4x2x128 .i32 := muli (h_v238 (F := F)) (h_v237 (F := F))
theorem h_v239_apply (i) :
    h_v239 (F := F) i = IntOp.muli (h_v238 (F := F) i) (h_v237 (F := F) i) := rfl

def h_c_63 : C F S_ .i32 := constantI S_ 32 7#32
theorem h_c_63_apply (i) : h_c_63 (F := F) i = 7#32 := rfl

def h_v240 : C F S8192x4x2x128 .i32 :=
  broadcastInDim S8192x4x2x128 ![] bcast_S_S8192x4x2x128 (h_c_63 (F := F))
theorem h_v240_apply (i) : h_v240 (F := F) i = h_c_63 (F := F) (ix_v68 i) := at_v68 _ i

def h_v241 : C F S8192x4x2x128 .i32 := addi (h_v240 (F := F)) (h_v239 (F := F))
theorem h_v241_apply (i) :
    h_v241 (F := F) i = IntOp.addi (h_v240 (F := F) i) (h_v239 (F := F) i) := rfl

def h_v242 : C F S8192x4x2x128 .i1 := cmpi .eq (h_v66 (F := F)) (h_v241 (F := F))
theorem h_v242_apply (i) :
    h_v242 (F := F) i = IntOp.cmpi .eq (h_v66 (F := F) i) (h_v241 (F := F) i) := rfl

def h_c_64 : C F S_ .i32 := constantI S_ 32 1#32
theorem h_c_64_apply (i) : h_c_64 (F := F) i = 1#32 := rfl

def h_v243 : C F S8192x4x2x128 .i32 :=
  broadcastInDim S8192x4x2x128 ![] bcast_S_S8192x4x2x128 (h_c_64 (F := F))
theorem h_v243_apply (i) : h_v243 (F := F) i = h_c_64 (F := F) (ix_v68 i) := at_v68 _ i

def h_v244 : C F S8192x4x2x128 .i32 := subi (h_v243 (F := F)) (h_v67 (F := F))
theorem h_v244_apply (i) :
    h_v244 (F := F) i = IntOp.subi (h_v243 (F := F) i) (h_v67 (F := F) i) := rfl

def h_c_65 : C F S_ .i32 := constantI S_ 32 64#32
theorem h_c_65_apply (i) : h_c_65 (F := F) i = 64#32 := rfl

def h_v245 : C F S8192x4x2x128 .i32 :=
  broadcastInDim S8192x4x2x128 ![] bcast_S_S8192x4x2x128 (h_c_65 (F := F))
theorem h_v245_apply (i) : h_v245 (F := F) i = h_c_65 (F := F) (ix_v68 i) := at_v68 _ i

def h_v246 : C F S8192x4x2x128 .i32 := muli (h_v245 (F := F)) (h_v244 (F := F))
theorem h_v246_apply (i) :
    h_v246 (F := F) i = IntOp.muli (h_v245 (F := F) i) (h_v244 (F := F) i) := rfl

def h_c_66 : C F S_ .i32 := constantI S_ 32 8#32
theorem h_c_66_apply (i) : h_c_66 (F := F) i = 8#32 := rfl

def h_v247 : C F S8192x4x2x128 .i32 :=
  broadcastInDim S8192x4x2x128 ![] bcast_S_S8192x4x2x128 (h_c_66 (F := F))
theorem h_v247_apply (i) : h_v247 (F := F) i = h_c_66 (F := F) (ix_v68 i) := at_v68 _ i

def h_v248 : C F S8192x4x2x128 .i32 := addi (h_v247 (F := F)) (h_v246 (F := F))
theorem h_v248_apply (i) :
    h_v248 (F := F) i = IntOp.addi (h_v247 (F := F) i) (h_v246 (F := F) i) := rfl

def h_v249 : C F S8192x4x2x128 .i1 := cmpi .eq (h_v66 (F := F)) (h_v248 (F := F))
theorem h_v249_apply (i) :
    h_v249 (F := F) i = IntOp.cmpi .eq (h_v66 (F := F) i) (h_v248 (F := F) i) := rfl

def h_v250 : C F S8192x4x2x128 .f32 := select (h_v249 (F := F)) (h_v228 x0 x1 x3) (h_v131 x0 x3)
theorem h_v250_apply (i) :
    h_v250 x0 x1 x3 i = Scalar.select (h_v249 (F := F) i) (h_v228 x0 x1 x3 i) (h_v131 x0 x3 i) := rfl

def h_v251 : C F S8192x4x2x128 .f32 := select (h_v242 (F := F)) (h_v226 x0 x1 x3) (h_v250 x0 x1 x3)
theorem h_v251_apply (i) :
    h_v251 x0 x1 x3 i = Scalar.select (h_v242 (F := F) i) (h_v226 x0 x1 x3 i) (h_v250 x0 x1 x3 i) := rfl

def h_v252 : C F S8192x4x2x128 .f32 := select (h_v235 (F := F)) (h_v224 x0 x1 x3) (h_v251 x0 x1 x3)
theorem h_v252_apply (i) :
    h_v252 x0 x1 x3 i = Scalar.select (h_v235 (F := F) i) (h_v224 x0 x1 x3 i) (h_v251 x0 x1 x3 i) := rfl

def h_v253 : C F S8192x8 .f32 := Host.negf (h_v65 x0 x1 x2 x3 x4)
theorem h_v253_apply (i) :
    h_v253 x0 x1 x2 x3 x4 i = FloatOps.hostNegf (h_v65 x0 x1 x2 x3 x4 i) := rfl

def h_v254 : C F S8192x8 .bf16 := truncf .bf16 (h_v253 x0 x1 x2 x3 x4) bitsLt_bf16_f32
theorem h_v254_apply (i) :
    h_v254 x0 x1 x2 x3 x4 i = FloatOps.truncf .bf16 bitsLt_bf16_f32 (h_v253 x0 x1 x2 x3 x4 i) := rfl

def h_v255 : C F S8192x8 .f32 := extf .f32 (h_v254 x0 x1 x2 x3 x4) bitsLt_bf16_f32
theorem h_v255_apply (i) :
    h_v255 x0 x1 x2 x3 x4 i = FloatOps.extf .f32 bitsLt_bf16_f32 (h_v254 x0 x1 x2 x3 x4 i) := rfl

def h_v256 : C F S8192x8 .f32 := subf (h_v253 x0 x1 x2 x3 x4) (h_v255 x0 x1 x2 x3 x4)
theorem h_v256_apply (i) :
    h_v256 x0 x1 x2 x3 x4 i = FloatOps.subf (h_v253 x0 x1 x2 x3 x4 i) (h_v255 x0 x1 x2 x3 x4 i) := rfl

def h_v257 : C F S8192x8 .bf16 := truncf .bf16 (h_v256 x0 x1 x2 x3 x4) bitsLt_bf16_f32
theorem h_v257_apply (i) :
    h_v257 x0 x1 x2 x3 x4 i = FloatOps.truncf .bf16 bitsLt_bf16_f32 (h_v256 x0 x1 x2 x3 x4 i) := rfl

def h_v258 : C F S8192x8 .f32 := extf .f32 (h_v257 x0 x1 x2 x3 x4) bitsLt_bf16_f32
theorem h_v258_apply (i) :
    h_v258 x0 x1 x2 x3 x4 i = FloatOps.extf .f32 bitsLt_bf16_f32 (h_v257 x0 x1 x2 x3 x4 i) := rfl

def h_v259 : C F S8192x8 .f32 := subf (h_v256 x0 x1 x2 x3 x4) (h_v258 x0 x1 x2 x3 x4)
theorem h_v259_apply (i) :
    h_v259 x0 x1 x2 x3 x4 i = FloatOps.subf (h_v256 x0 x1 x2 x3 x4 i) (h_v258 x0 x1 x2 x3 x4 i) := rfl

def h_v260 : C F S8192x8 .bf16 := truncf .bf16 (h_v259 x0 x1 x2 x3 x4) bitsLt_bf16_f32
theorem h_v260_apply (i) :
    h_v260 x0 x1 x2 x3 x4 i = FloatOps.truncf .bf16 bitsLt_bf16_f32 (h_v259 x0 x1 x2 x3 x4 i) := rfl

def h_v261 : C F S8192x8 .f32 := extf .f32 (h_v254 x0 x1 x2 x3 x4) bitsLt_bf16_f32
theorem h_v261_apply (i) :
    h_v261 x0 x1 x2 x3 x4 i = FloatOps.extf .f32 bitsLt_bf16_f32 (h_v254 x0 x1 x2 x3 x4 i) := rfl

def h_v262 : C F S8192x8 .f32 := extf .f32 (h_v257 x0 x1 x2 x3 x4) bitsLt_bf16_f32
theorem h_v262_apply (i) :
    h_v262 x0 x1 x2 x3 x4 i = FloatOps.extf .f32 bitsLt_bf16_f32 (h_v257 x0 x1 x2 x3 x4 i) := rfl

def h_v263 : C F S8192x8 .f32 := extf .f32 (h_v260 x0 x1 x2 x3 x4) bitsLt_bf16_f32
theorem h_v263_apply (i) :
    h_v263 x0 x1 x2 x3 x4 i = FloatOps.extf .f32 bitsLt_bf16_f32 (h_v260 x0 x1 x2 x3 x4 i) := rfl

def h_v264 : C F S8192x4x2x1 .f32 := shapeCast _ (h_v261 x0 x1 x2 x3 x4) shapeCasts_S8192x8_S8192x4x2x1
theorem h_v264_apply (i) :
    h_v264 x0 x1 x2 x3 x4 i = h_v261 x0 x1 x2 x3 x4 (ix_v83 i) := at_v83 _ i

def h_v265 : C F S8192x4x2x128 .f32 :=
  broadcastInDim S8192x4x2x128 ![0, 1, 2, 3] bcast_S8192x4x2x1_S8192x4x2x128_0_1_2_3 (h_v264 x0 x1 x2 x3 x4)
theorem h_v265_apply (i) :
    h_v265 x0 x1 x2 x3 x4 i = h_v264 x0 x1 x2 x3 x4 (ix_v84 i) := at_v84 _ i

def h_v266 : C F S8192x4x2x1 .f32 := shapeCast _ (h_v262 x0 x1 x2 x3 x4) shapeCasts_S8192x8_S8192x4x2x1
theorem h_v266_apply (i) :
    h_v266 x0 x1 x2 x3 x4 i = h_v262 x0 x1 x2 x3 x4 (ix_v83 i) := at_v83 _ i

def h_v267 : C F S8192x4x2x128 .f32 :=
  broadcastInDim S8192x4x2x128 ![0, 1, 2, 3] bcast_S8192x4x2x1_S8192x4x2x128_0_1_2_3 (h_v266 x0 x1 x2 x3 x4)
theorem h_v267_apply (i) :
    h_v267 x0 x1 x2 x3 x4 i = h_v266 x0 x1 x2 x3 x4 (ix_v84 i) := at_v84 _ i

def h_v268 : C F S8192x4x2x1 .f32 := shapeCast _ (h_v263 x0 x1 x2 x3 x4) shapeCasts_S8192x8_S8192x4x2x1
theorem h_v268_apply (i) :
    h_v268 x0 x1 x2 x3 x4 i = h_v263 x0 x1 x2 x3 x4 (ix_v83 i) := at_v83 _ i

def h_v269 : C F S8192x4x2x128 .f32 :=
  broadcastInDim S8192x4x2x128 ![0, 1, 2, 3] bcast_S8192x4x2x1_S8192x4x2x128_0_1_2_3 (h_v268 x0 x1 x2 x3 x4)
theorem h_v269_apply (i) :
    h_v269 x0 x1 x2 x3 x4 i = h_v268 x0 x1 x2 x3 x4 (ix_v84 i) := at_v84 _ i

def h_v270 : C F S8192x4x1x128 .f32 := shapeCast _ x4 shapeCasts_S8192x512_S8192x4x1x128
theorem h_v270_apply (i) : h_v270 x4 i = x4 (ix_v89 i) := at_v89 _ i

def h_v271 : C F S8192x4x2x128 .f32 :=
  broadcastInDim S8192x4x2x128 ![0, 1, 2, 3] bcast_S8192x4x1x128_S8192x4x2x128_0_1_2_3 (h_v270 x4)
theorem h_v271_apply (i) : h_v271 x4 i = h_v270 x4 (ix_v90 i) := at_v90 _ i

def h_c_67 : C F S_ .i32 := constantI S_ 32 1#32
theorem h_c_67_apply (i) : h_c_67 (F := F) i = 1#32 := rfl

def h_v272 : C F S8192x4x2x128 .i32 :=
  broadcastInDim S8192x4x2x128 ![] bcast_S_S8192x4x2x128 (h_c_67 (F := F))
theorem h_v272_apply (i) : h_v272 (F := F) i = h_c_67 (F := F) (ix_v68 i) := at_v68 _ i

def h_v273 : C F S8192x4x2x128 .i32 := subi (h_v272 (F := F)) (h_v67 (F := F))
theorem h_v273_apply (i) :
    h_v273 (F := F) i = IntOp.subi (h_v272 (F := F) i) (h_v67 (F := F) i) := rfl

def h_c_68 : C F S_ .i32 := constantI S_ 32 64#32
theorem h_c_68_apply (i) : h_c_68 (F := F) i = 64#32 := rfl

def h_v274 : C F S8192x4x2x128 .i32 :=
  broadcastInDim S8192x4x2x128 ![] bcast_S_S8192x4x2x128 (h_c_68 (F := F))
theorem h_v274_apply (i) : h_v274 (F := F) i = h_c_68 (F := F) (ix_v68 i) := at_v68 _ i

def h_v275 : C F S8192x4x2x128 .i32 := muli (h_v274 (F := F)) (h_v273 (F := F))
theorem h_v275_apply (i) :
    h_v275 (F := F) i = IntOp.muli (h_v274 (F := F) i) (h_v273 (F := F) i) := rfl

def h_c_69 : C F S_ .i32 := constantI S_ 32 0#32
theorem h_c_69_apply (i) : h_c_69 (F := F) i = 0#32 := rfl

def h_v276 : C F S8192x4x2x128 .i32 :=
  broadcastInDim S8192x4x2x128 ![] bcast_S_S8192x4x2x128 (h_c_69 (F := F))
theorem h_v276_apply (i) : h_v276 (F := F) i = h_c_69 (F := F) (ix_v68 i) := at_v68 _ i

def h_v277 : C F S8192x4x2x128 .i32 := addi (h_v276 (F := F)) (h_v275 (F := F))
theorem h_v277_apply (i) :
    h_v277 (F := F) i = IntOp.addi (h_v276 (F := F) i) (h_v275 (F := F) i) := rfl

def h_v278 : C F S8192x4x2x128 .i1 := cmpi .eq (h_v66 (F := F)) (h_v277 (F := F))
theorem h_v278_apply (i) :
    h_v278 (F := F) i = IntOp.cmpi .eq (h_v66 (F := F) i) (h_v277 (F := F) i) := rfl

def h_c_70 : C F S_ .i32 := constantI S_ 32 1#32
theorem h_c_70_apply (i) : h_c_70 (F := F) i = 1#32 := rfl

def h_v279 : C F S8192x4x2x128 .i32 :=
  broadcastInDim S8192x4x2x128 ![] bcast_S_S8192x4x2x128 (h_c_70 (F := F))
theorem h_v279_apply (i) : h_v279 (F := F) i = h_c_70 (F := F) (ix_v68 i) := at_v68 _ i

def h_v280 : C F S8192x4x2x128 .i32 := subi (h_v279 (F := F)) (h_v67 (F := F))
theorem h_v280_apply (i) :
    h_v280 (F := F) i = IntOp.subi (h_v279 (F := F) i) (h_v67 (F := F) i) := rfl

def h_c_71 : C F S_ .i32 := constantI S_ 32 64#32
theorem h_c_71_apply (i) : h_c_71 (F := F) i = 64#32 := rfl

def h_v281 : C F S8192x4x2x128 .i32 :=
  broadcastInDim S8192x4x2x128 ![] bcast_S_S8192x4x2x128 (h_c_71 (F := F))
theorem h_v281_apply (i) : h_v281 (F := F) i = h_c_71 (F := F) (ix_v68 i) := at_v68 _ i

def h_v282 : C F S8192x4x2x128 .i32 := muli (h_v281 (F := F)) (h_v280 (F := F))
theorem h_v282_apply (i) :
    h_v282 (F := F) i = IntOp.muli (h_v281 (F := F) i) (h_v280 (F := F) i) := rfl

def h_c_72 : C F S_ .i32 := constantI S_ 32 1#32
theorem h_c_72_apply (i) : h_c_72 (F := F) i = 1#32 := rfl

def h_v283 : C F S8192x4x2x128 .i32 :=
  broadcastInDim S8192x4x2x128 ![] bcast_S_S8192x4x2x128 (h_c_72 (F := F))
theorem h_v283_apply (i) : h_v283 (F := F) i = h_c_72 (F := F) (ix_v68 i) := at_v68 _ i

def h_v284 : C F S8192x4x2x128 .i32 := addi (h_v283 (F := F)) (h_v282 (F := F))
theorem h_v284_apply (i) :
    h_v284 (F := F) i = IntOp.addi (h_v283 (F := F) i) (h_v282 (F := F) i) := rfl

def h_v285 : C F S8192x4x2x128 .i1 := cmpi .eq (h_v66 (F := F)) (h_v284 (F := F))
theorem h_v285_apply (i) :
    h_v285 (F := F) i = IntOp.cmpi .eq (h_v66 (F := F) i) (h_v284 (F := F) i) := rfl

def h_c_73 : C F S_ .i32 := constantI S_ 32 1#32
theorem h_c_73_apply (i) : h_c_73 (F := F) i = 1#32 := rfl

def h_v286 : C F S8192x4x2x128 .i32 :=
  broadcastInDim S8192x4x2x128 ![] bcast_S_S8192x4x2x128 (h_c_73 (F := F))
theorem h_v286_apply (i) : h_v286 (F := F) i = h_c_73 (F := F) (ix_v68 i) := at_v68 _ i

def h_v287 : C F S8192x4x2x128 .i32 := subi (h_v286 (F := F)) (h_v67 (F := F))
theorem h_v287_apply (i) :
    h_v287 (F := F) i = IntOp.subi (h_v286 (F := F) i) (h_v67 (F := F) i) := rfl

def h_c_74 : C F S_ .i32 := constantI S_ 32 64#32
theorem h_c_74_apply (i) : h_c_74 (F := F) i = 64#32 := rfl

def h_v288 : C F S8192x4x2x128 .i32 :=
  broadcastInDim S8192x4x2x128 ![] bcast_S_S8192x4x2x128 (h_c_74 (F := F))
theorem h_v288_apply (i) : h_v288 (F := F) i = h_c_74 (F := F) (ix_v68 i) := at_v68 _ i

def h_v289 : C F S8192x4x2x128 .i32 := muli (h_v288 (F := F)) (h_v287 (F := F))
theorem h_v289_apply (i) :
    h_v289 (F := F) i = IntOp.muli (h_v288 (F := F) i) (h_v287 (F := F) i) := rfl

def h_c_75 : C F S_ .i32 := constantI S_ 32 2#32
theorem h_c_75_apply (i) : h_c_75 (F := F) i = 2#32 := rfl

def h_v290 : C F S8192x4x2x128 .i32 :=
  broadcastInDim S8192x4x2x128 ![] bcast_S_S8192x4x2x128 (h_c_75 (F := F))
theorem h_v290_apply (i) : h_v290 (F := F) i = h_c_75 (F := F) (ix_v68 i) := at_v68 _ i

def h_v291 : C F S8192x4x2x128 .i32 := addi (h_v290 (F := F)) (h_v289 (F := F))
theorem h_v291_apply (i) :
    h_v291 (F := F) i = IntOp.addi (h_v290 (F := F) i) (h_v289 (F := F) i) := rfl

def h_v292 : C F S8192x4x2x128 .i1 := cmpi .eq (h_v66 (F := F)) (h_v291 (F := F))
theorem h_v292_apply (i) :
    h_v292 (F := F) i = IntOp.cmpi .eq (h_v66 (F := F) i) (h_v291 (F := F) i) := rfl

def h_cst_76 : C F S_ .f32 := constant S_ .f32 0x00000000#32
theorem h_cst_76_apply (i) : h_cst_76 (F := F) i = FloatOps.ofBits .f32 0x00000000#32 := rfl

def h_call18_v0 : C F S_ .f32 := id h_cst_76
theorem h_call18_v0_apply (i) : h_call18_v0 (F := F) i = (h_cst_76 (F := F) i) := rfl

def h_call18_v1 : C F S8192x4x2x128 .f32 := broadcastInDim S8192x4x2x128 ![] bcast_S_S8192x4x2x128 h_call18_v0
theorem h_call18_v1_apply (i) :
    h_call18_v1 (F := F) i = h_call18_v0 (F := F) (ix_v68 i) := at_v68 _ i

def h_v293 : C F S8192x4x2x128 .f32 := select (h_v292 (F := F)) (h_v269 x0 x1 x2 x3 x4) h_call18_v1
theorem h_v293_apply (i) :
    h_v293 x0 x1 x2 x3 x4 i = Scalar.select (h_v292 (F := F) i) (h_v269 x0 x1 x2 x3 x4 i) (h_call18_v1 (F := F) i) := rfl

def h_v294 : C F S8192x4x2x128 .f32 :=
  select (h_v285 (F := F)) (h_v267 x0 x1 x2 x3 x4) (h_v293 x0 x1 x2 x3 x4)
theorem h_v294_apply (i) :
    h_v294 x0 x1 x2 x3 x4 i = Scalar.select (h_v285 (F := F) i) (h_v267 x0 x1 x2 x3 x4 i) (h_v293 x0 x1 x2 x3 x4 i) := rfl

def h_v295 : C F S8192x4x2x128 .f32 :=
  select (h_v278 (F := F)) (h_v265 x0 x1 x2 x3 x4) (h_v294 x0 x1 x2 x3 x4)
theorem h_v295_apply (i) :
    h_v295 x0 x1 x2 x3 x4 i = Scalar.select (h_v278 (F := F) i) (h_v265 x0 x1 x2 x3 x4 i) (h_v294 x0 x1 x2 x3 x4 i) := rfl

def h_v296 : C F S8192x4x2x128 .f32 := select (h_v72 (F := F)) (h_v271 x4) (h_v295 x0 x1 x2 x3 x4)
theorem h_v296_apply (i) :
    h_v296 x0 x1 x2 x3 x4 i = Scalar.select (h_v72 (F := F) i) (h_v271 x4 i) (h_v295 x0 x1 x2 x3 x4 i) := rfl

def h_v297 : C F S8192x1024 .f32 := shapeCast _ (h_v252 x0 x1 x3) shapeCasts_S8192x4x2x128_S8192x1024
set_option backward.proofsInPublic true in
abbrev ix_v297 (i : S8192x1024.Idx) : S8192x4x2x128.Idx := fun a => match a with
  | ⟨0, _⟩ => ⟨((i 0).val * 1024 + (i 1).val) / 1024, by have h0 : (i 0).val < 8192 := (i 0).isLt; have h1 : (i 1).val < 1024 := (i 1).isLt; show ((i 0).val * 1024 + (i 1).val) / 1024 < 8192; omega⟩
  | ⟨1, _⟩ => ⟨((i 0).val * 1024 + (i 1).val) / 256 % 4, by have h0 : (i 0).val < 8192 := (i 0).isLt; have h1 : (i 1).val < 1024 := (i 1).isLt; show ((i 0).val * 1024 + (i 1).val) / 256 % 4 < 4; omega⟩
  | ⟨2, _⟩ => ⟨((i 0).val * 1024 + (i 1).val) / 128 % 2, by have h0 : (i 0).val < 8192 := (i 0).isLt; have h1 : (i 1).val < 1024 := (i 1).isLt; show ((i 0).val * 1024 + (i 1).val) / 128 % 2 < 2; omega⟩
  | ⟨3, _⟩ => ⟨((i 0).val * 1024 + (i 1).val) % 128, by have h0 : (i 0).val < 8192 := (i 0).isLt; have h1 : (i 1).val < 1024 := (i 1).isLt; show ((i 0).val * 1024 + (i 1).val) % 128 < 128; omega⟩
/-- The operation of `h_v297` at an index. -/
theorem at_v297 {e : EltTy} (y : C F S8192x4x2x128 e) (i : S8192x1024.Idx) : shapeCast S8192x1024 y shapeCasts_S8192x4x2x128_S8192x1024 i = y (ix_v297 i) :=
  shapeCast_apply y shapeCasts_S8192x4x2x128_S8192x1024 i (ix_v297 i)
    (by rewrite [Shape.rowMajor_val_four, Shape.rowMajor_val_two]; have h0 : (i 0).val < 8192 := (i 0).isLt; have h1 : (i 1).val < 1024 := (i 1).isLt; show ((((i 0).val * 1024 + (i 1).val) / 1024 * 4 + ((i 0).val * 1024 + (i 1).val) / 256 % 4) * 2 + ((i 0).val * 1024 + (i 1).val) / 128 % 2) * 128 + ((i 0).val * 1024 + (i 1).val) % 128 = (i 0).val * 1024 + (i 1).val; omega)
theorem h_v297_apply (i) : h_v297 x0 x1 x3 i = h_v252 x0 x1 x3 (ix_v297 i) := at_v297 _ i

def h_v298 : C F S8192x1024 .bf16 := truncf .bf16 (h_v297 x0 x1 x3) bitsLt_bf16_f32
theorem h_v298_apply (i) :
    h_v298 x0 x1 x3 i = FloatOps.truncf .bf16 bitsLt_bf16_f32 (h_v297 x0 x1 x3 i) := rfl

def h_v299 : C F S8192x1024 .f32 := shapeCast _ (h_v296 x0 x1 x2 x3 x4) shapeCasts_S8192x4x2x128_S8192x1024
theorem h_v299_apply (i) :
    h_v299 x0 x1 x2 x3 x4 i = h_v296 x0 x1 x2 x3 x4 (ix_v297 i) := at_v297 _ i

def h_v300 : C F S8192x1024 .bf16 := truncf .bf16 (h_v299 x0 x1 x2 x3 x4) bitsLt_bf16_f32
theorem h_v300_apply (i) :
    h_v300 x0 x1 x2 x3 x4 i = FloatOps.truncf .bf16 bitsLt_bf16_f32 (h_v299 x0 x1 x2 x3 x4 i) := rfl

def h_v301 : C F S8192x1024 .f32 := shapeCast _ (h_v193 x1 x3) shapeCasts_S8192x4x2x128_S8192x1024
theorem h_v301_apply (i) : h_v301 x1 x3 i = h_v193 x1 x3 (ix_v297 i) := at_v297 _ i

def h_v302 : C F S8192x1024 .bf16 := truncf .bf16 (h_v301 x1 x3) bitsLt_bf16_f32
theorem h_v302_apply (i) :
    h_v302 x1 x3 i = FloatOps.truncf .bf16 bitsLt_bf16_f32 (h_v301 x1 x3 i) := rfl

def h_v303 : C F S8192x1024 .f32 := shapeCast _ (h_v212 x2) shapeCasts_S8192x4x2x128_S8192x1024
theorem h_v303_apply (i) : h_v303 x2 i = h_v212 x2 (ix_v297 i) := at_v297 _ i

def h_v304 : C F S8192x1024 .bf16 := truncf .bf16 (h_v303 x2) bitsLt_bf16_f32
theorem h_v304_apply (i) :
    h_v304 x2 i = FloatOps.truncf .bf16 bitsLt_bf16_f32 (h_v303 x2 i) := rfl

end Cert.KernelIdeal.Host

end
-- ==== Proof.HostLink.lean ====
module

public import proofs.«01_k».proof.Proof.HostB
public import proofs.«01_k».proof.Proof.Gen.KernelIdeal.Frame
public import Idealize.ShloMosaic.Lib.StableHlo.RunRead

@[expose] public section

set_option maxRecDepth 16384

noncomputable section

namespace Cert.KernelIdeal.Host

open Cert.KernelIdeal Cert.KernelIdeal.Gen Idealize.ShloMosaic Idealize.ShloMosaic.TcCoe Idealize.SL.Sem Idealize.ShloMosaic.StableHlo

variable {F : FTy → Type} [FloatOps F]

set_option maxHeartbeats 4000000 in
/-- The queries' operand, as prepared. -/
theorem V_v298 (m : (ℓ : Loc nD τ sig) → Buf (Elt F) ℓ) (c : Dev nD) :
    V m c main_v298 = h_v298 (m ((c : Thread nD τ).loc main_arg0)) (m ((c : Thread nD τ).loc main_arg1)) (m ((c : Thread nD τ).loc main_arg3)) := by
  simp only [V, List.flatten_cons, List.flatten_nil, List.append_nil]
  after_reads_simp
  simp only [TRef.toBuf, TRef.ofBuf, cast_eq]
  rfl

set_option maxHeartbeats 4000000 in
/-- The cotangents' operand, as prepared. -/
theorem V_v304 (m : (ℓ : Loc nD τ sig) → Buf (Elt F) ℓ) (c : Dev nD) :
    V m c main_v304 = h_v300 (m ((c : Thread nD τ).loc main_arg0)) (m ((c : Thread nD τ).loc main_arg1)) (m ((c : Thread nD τ).loc main_arg2)) (m ((c : Thread nD τ).loc main_arg3)) (m ((c : Thread nD τ).loc main_arg4)) := by
  simp only [V, List.flatten_cons, List.flatten_nil, List.append_nil]
  after_reads_simp
  simp only [TRef.toBuf, TRef.ofBuf, cast_eq]
  rfl

set_option maxHeartbeats 4000000 in
/-- The keys' operand, as prepared. -/
theorem V_v300 (m : (ℓ : Loc nD τ sig) → Buf (Elt F) ℓ) (c : Dev nD) :
    V m c main_v300 = h_v302 (m ((c : Thread nD τ).loc main_arg1)) (m ((c : Thread nD τ).loc main_arg3)) := by
  simp only [V, List.flatten_cons, List.flatten_nil, List.append_nil]
  after_reads_simp
  simp only [TRef.toBuf, TRef.ofBuf, cast_eq]
  rfl

set_option maxHeartbeats 4000000 in
/-- The values' operand, as prepared. -/
theorem V_v302 (m : (ℓ : Loc nD τ sig) → Buf (Elt F) ℓ) (c : Dev nD) :
    V m c main_v302 = h_v304 (m ((c : Thread nD τ).loc main_arg2)) := by
  simp only [V, List.flatten_cons, List.flatten_nil, List.append_nil]
  after_reads_simp
  simp only [TRef.toBuf, TRef.ofBuf, cast_eq]
  rfl

end Cert.KernelIdeal.Host

end
-- ==== Proof.Maths.lean ====
module

public import proofs.«01_k».proof.Proof.Final

@[expose] public section

noncomputable section

namespace Cert.Attn

/-! ## The gradient of the attention with forget gates, over the real numbers -/

/-- A sum of real numbers, as an extended real. -/
theorem coe_sum {ι : Type} (s : Finset ι) (a : ι → ℝ) : ((∑ i ∈ s, a i : ℝ) : EReal) = ∑ i ∈ s, (a i : EReal) := by
  classical
  induction s using Finset.induction_on with
  | empty => simp
  | insert i s hi ih => rw [Finset.sum_insert hi, Finset.sum_insert hi, EReal.coe_add, ih]

/-- A sum over tiles of `b` rows is the sum over the rows. -/
theorem sum_tiles (b n : ℕ) (a : ℕ → ℝ) :
    ∑ j ∈ Finset.range n, ∑ s ∈ Finset.range b, a (b * j + s) = ∑ s ∈ Finset.range (b * n), a s := by
  induction n with
  | zero => simp
  | succ n ih => rw [Finset.sum_range_succ, ih, Nat.mul_succ, Finset.sum_range_add]

section

variable (q k v g f : ℕ → ℕ → ℝ)

/-- The logit of head `h`: row `t` of the scaled queries on key `s`, with the difference of the running sums of the gates. -/
def logit (h t s : ℕ) : ℝ := ∑ d : Fin 64, q t (64 * h + d.val) * k s (64 * h + d.val) + f t h - f s h

/-- Its exponential, zero above the diagonal, -/
def wt (h t s : ℕ) : ℝ := if s ≤ t then Real.exp (logit q k f h t s) else 0

/-- the row's normaliser, -/
def tot (h t : ℕ) : ℝ := ∑ s : Fin 8192, wt q k f h t s.val

/-- the attention probability, -/
def prob (h t s : ℕ) : ℝ := wt q k f h t s / tot q k f h t

/-- the attention's output, -/
def out (h t d : ℕ) : ℝ := ∑ s : Fin 8192, prob q k f h t s.val * v s.val (64 * h + d)

/-- the product of the cotangent and the output, -/
def delta (h t : ℕ) : ℝ := ∑ d : Fin 64, g t (64 * h + d.val) * out q k v f h t d.val

/-- the cotangent of the probability, -/
def dprob (h t s : ℕ) : ℝ := ∑ d : Fin 64, g t (64 * h + d.val) * v s (64 * h + d.val)

/-- and the cotangent of the logit. -/
def dlogit (h t s : ℕ) : ℝ := prob q k f h t s * (dprob v g h t s - delta q k v g f h t)

/-- The normaliser is positive. -/
theorem tot_pos (h t : ℕ) (ht : t < 8192) : 0 < tot q k f h t := by
  have h0 : ∀ s : Fin 8192, 0 ≤ wt q k f h t s.val := fun s => by
    unfold wt; split
    · exact (Real.exp_pos _).le
    · exact le_rfl
  refine Finset.sum_pos' (fun s _ => h0 s) ⟨⟨t, ht⟩, Finset.mem_univ _, ?_⟩
  show 0 < wt q k f h t t
  unfold wt; rw [if_pos le_rfl]; exact Real.exp_pos _

/-- No probability above the diagonal, -/
theorem prob_above (h t s : ℕ) (hs : t < s) : prob q k f h t s = 0 := by
  unfold prob wt; rw [if_neg (by omega), zero_div]

/-- and no cotangent there. -/
theorem dlogit_above (h t s : ℕ) (hs : t < s) : dlogit q k v g f h t s = 0 := by
  unfold dlogit; rw [prob_above q k f h t s hs, zero_mul]

/-- On and below it the probability is the exponential of the logit less the row's logarithmic normaliser. -/
theorem prob_eq_exp (h t s : ℕ) (ht : t < 8192) (hs : s ≤ t) :
    prob q k f h t s = Real.exp (logit q k f h t s - Real.log (tot q k f h t)) := by
  unfold prob wt; rw [if_pos hs, Real.exp_sub, Real.exp_log (tot_pos q k f h t ht)]

/-- The output's product with the cotangent is the mean of the probabilities' cotangents. -/
theorem delta_eq (h t : ℕ) : delta q k v g f h t = ∑ s : Fin 8192, prob q k f h t s.val * dprob v g h t s.val := by
  unfold delta out dprob
  simp only [Finset.mul_sum]
  rw [Finset.sum_comm]
  refine Finset.sum_congr rfl fun s _ => Finset.sum_congr rfl fun d _ => ?_
  ring

/-! ### The same with the row's logits shifted -/

variable (μ : ℝ)

/-- The shifted exponentials, -/
theorem wt_shift (h t s : ℕ) : (if s ≤ t then Real.exp (logit q k f h t s - μ) else 0) = wt q k f h t s * Real.exp (-μ) := by
  unfold wt; split
  · rw [sub_eq_add_neg, Real.exp_add]
  · rw [zero_mul]

/-- their sum, -/
theorem tot_shift (h t : ℕ) : ∑ s : Fin 8192, wt q k f h t s.val * Real.exp (-μ) = tot q k f h t * Real.exp (-μ) := by
  unfold tot; rw [Finset.sum_mul]

/-- their quotient, -/
theorem prob_shift (h t s : ℕ) : wt q k f h t s * Real.exp (-μ) / (tot q k f h t * Real.exp (-μ)) = prob q k f h t s := by
  unfold prob; exact mul_div_mul_right _ _ (Real.exp_pos _).ne'

/-- and the logarithm of the sum. -/
theorem log_shift (h t : ℕ) (ht : t < 8192) : μ + Real.log (tot q k f h t * Real.exp (-μ)) = Real.log (tot q k f h t) := by
  rw [Real.log_mul (tot_pos q k f h t ht).ne' (Real.exp_pos _).ne', Real.log_exp]; ring

/-- The derivative of the quotient, as the reference takes it, is the cotangent of the logit. -/
theorem dlogit_ref (h t s : ℕ) (ht : t < 8192) :
    (dprob v g h t s / (tot q k f h t * Real.exp (-μ))
      + -∑ s' : Fin 8192, dprob v g h t s'.val * (1 / (tot q k f h t * Real.exp (-μ) * (tot q k f h t * Real.exp (-μ)))) * (wt q k f h t s'.val * Real.exp (-μ)))
      * (wt q k f h t s * Real.exp (-μ)) = dlogit q k v g f h t s := by
  have hZ : tot q k f h t * Real.exp (-μ) ≠ 0 := (mul_pos (tot_pos q k f h t ht) (Real.exp_pos _)).ne'
  have e1 : ∑ s' : Fin 8192, dprob v g h t s'.val * (1 / (tot q k f h t * Real.exp (-μ) * (tot q k f h t * Real.exp (-μ)))) * (wt q k f h t s'.val * Real.exp (-μ))
      = delta q k v g f h t / (tot q k f h t * Real.exp (-μ)) := by
    rw [delta_eq, Finset.sum_div]
    refine Finset.sum_congr rfl fun s' _ => ?_
    rw [← prob_shift q k f μ h t s'.val]
    field_simp
  rw [e1]
  unfold dlogit
  rw [← prob_shift q k f μ h t s]
  field_simp
  ring

/-! ### The augmented rows -/

/-- A row of 128 lanes: the own half of head parity `e` holds `o`, the other half `w`. -/
def aug (o w : ℕ → ℝ) (e l : ℕ) : ℝ := if 64 ≤ l ↔ e = 1 then o (l - 64 * e) else w (l - 64 * (1 - e))

/-- The helper lanes of the queries, -/
def hq (h t n : ℕ) : ℝ :=
  if n = 0 then f t h else if n < 3 then 0 else if n < 6 then 1 else if n = 6 then Real.log (tot q k f h t) else 0

/-- of the keys, -/
def hk (h s n : ℕ) : ℝ := if n < 3 then 1 else if n = 3 then - f s h else if n < 6 then 0 else if n < 9 then -1 else 0

/-- of the cotangents, -/
def hd (h t n : ℕ) : ℝ := if n = 0 then - delta q k v g f h t else 0

/-- and of the values. -/
def hv (n : ℕ) : ℝ := if n < 3 then 1 else 0

end

/-- The product of two augmented rows is that of the own halves and that of the helpers. -/
theorem sum_aug (o w o' w' : ℕ → ℝ) (e : ℕ) (he : e < 2) :
    ∑ l : Fin 128, aug o w e l.val * aug o' w' e l.val = ∑ d : Fin 64, o d.val * o' d.val + ∑ n : Fin 64, w n.val * w' n.val := by
  have hs := Fin.sum_univ_add (a := 64) (b := 64) (fun l : Fin (64 + 64) => aug o w e l.val * aug o' w' e l.val)
  refine hs.trans ?_
  have hlo : ∀ (o w : ℕ → ℝ) (n : Fin 64), aug o w e (Fin.castAdd 64 n).val = if e = 1 then w n.val else o n.val := fun o w n => by
    have hn := n.isLt
    have e1 : (Fin.castAdd 64 n).val = n.val := rfl
    rw [e1]; unfold aug
    rcases (by omega : e = 0 ∨ e = 1) with rfl | rfl
    · rw [if_pos (by omega), if_neg (by omega)]; rfl
    · rw [if_neg (by omega), if_pos rfl]; rfl
  have hhi : ∀ (o w : ℕ → ℝ) (n : Fin 64), aug o w e (Fin.natAdd 64 n).val = if e = 1 then o n.val else w n.val := fun o w n => by
    have hn := n.isLt
    have e1 : (Fin.natAdd 64 n).val = 64 + n.val := rfl
    rw [e1]; unfold aug
    rcases (by omega : e = 0 ∨ e = 1) with rfl | rfl
    · rw [if_neg (by omega), if_neg (by omega)]; congr 1; omega
    · rw [if_pos (by omega), if_pos rfl]; congr 1; omega
  simp only [hlo, hhi]
  rcases (by omega : e = 0 ∨ e = 1) with rfl | rfl
  · simp
  · simp [add_comm]

/-- The helper lanes past the ninth add nothing. -/
theorem sum_help (a : ℕ → ℝ) (h : ∀ n, 9 ≤ n → a n = 0) :
    ∑ n : Fin 64, a n.val = a 0 + a 1 + a 2 + a 3 + a 4 + a 5 + a 6 + a 7 + a 8 := by
  rw [Fin.sum_univ_eq_sum_range (fun n => a n) 64, show (64 : ℕ) = 9 + 55 from rfl, Finset.sum_range_add,
    Finset.sum_eq_zero (s := Finset.range 55) (fun n _ => h _ (by omega)), add_zero]
  simp [Finset.sum_range_succ]

section

variable (q k v g f : ℕ → ℕ → ℝ)

/-- The augmented queries on the augmented keys: the logit less the logarithmic normaliser. -/
theorem aug_qk (h t s : ℕ) :
    ∑ l : Fin 128, aug (fun d => q t (64 * h + d)) (hq q k f h t) (h % 2) l.val * aug (fun d => k s (64 * h + d)) (hk f h s) (h % 2) l.val
      = logit q k f h t s - Real.log (tot q k f h t) := by
  rw [sum_aug _ _ _ _ _ (Nat.mod_lt _ (by norm_num)), sum_help (fun n => hq q k f h t n * hk f h s n)]
  · simp [hq, hk, logit]; ring
  · intro n hn
    have : hq q k f h t n = 0 := by
      unfold hq; rw [if_neg (by omega), if_neg (by omega), if_neg (by omega), if_neg (by omega)]
    show hq q k f h t n * _ = 0
    rw [this, zero_mul]

/-- The augmented cotangents on the augmented values: the cotangent of the probability less the row's mean. -/
theorem aug_gv (h t s : ℕ) :
    ∑ l : Fin 128, aug (fun d => g t (64 * h + d)) (hd q k v g f h t) (h % 2) l.val * aug (fun d => v s (64 * h + d)) hv (h % 2) l.val
      = dprob v g h t s - delta q k v g f h t := by
  rw [sum_aug _ _ _ _ _ (Nat.mod_lt _ (by norm_num)), sum_help (fun n => hd q k v g f h t n * hv n)]
  · simp [hd, hv, dprob]; ring
  · intro n hn
    show hd q k v g f h t n * _ = 0
    have : hd q k v g f h t n = 0 := by unfold hd; rw [if_neg (by omega)]
    rw [this, zero_mul]

end

end Cert.Attn

end
-- ==== Proof.KVal.lean ====
module

public import proofs.«01_k».proof.Proof.Maths

@[expose] public section

set_option maxRecDepth 16384

noncomputable section

namespace Cert.KernelIdeal.Hand

open Cert.KernelIdeal.Gen Cert.Attn
open Idealize.ShloMosaic Idealize.ShloMosaic.TcCoe

/-! ## The five results on real augmented operands -/

/-- A pair's columns read from the whole operand, -/
theorem xq_at (A : S8192x1024.Idx → EReal) (p r c : ℕ) (hr : r < 8192) (hc : c < 256) :
    at2 (xq A p) r c = at2 A r (256 * p + c) := by
  rw [at2_of_lt (xq A p) hr hc]; rfl

/-- and a tile of them. -/
theorem xk_at (A : S8192x1024.Idx → EReal) (j p r c : ℕ) (hr : r < 512) (hc : c < 256) :
    at2 (xk A j p) r c = at2 A (512 * j + r) (256 * p + c) := by
  rw [at2_of_lt (xk A j p) hr hc]; rfl

variable (q k v g f : ℕ → ℕ → ℝ) (Q D K W : S8192x1024.Idx → EReal)

/-- The four operands hold the augmented rows. -/
structure Holds : Prop where
  hQ : ∀ t < 8192, ∀ h < 8, ∀ l < 128, at2 Q t (128 * h + l) = ((aug (fun d => q t (64 * h + d)) (hq q k f h t) (h % 2) l : ℝ) : EReal)
  hD : ∀ t < 8192, ∀ h < 8, ∀ l < 128, at2 D t (128 * h + l) = ((aug (fun d => g t (64 * h + d)) (hd q k v g f h t) (h % 2) l : ℝ) : EReal)
  hK : ∀ t < 8192, ∀ h < 8, ∀ l < 128, at2 K t (128 * h + l) = ((aug (fun d => k t (64 * h + d)) (hk f h t) (h % 2) l : ℝ) : EReal)
  hW : ∀ t < 8192, ∀ h < 8, ∀ l < 128, at2 W t (128 * h + l) = ((aug (fun d => v t (64 * h + d)) hv (h % 2) l : ℝ) : EReal)

variable {q k v g f Q D K W} (H : Holds q k v g f Q D K W)
include H

/-- The weight is the attention probability. -/
theorem gM_val (p j e T s : ℕ) (hp : p < 4) (hj : j < 16) (he : e < 2) (hT : T < 8192) (hs : s < 512) :
    gM (xq Q p) (xk K j p) j e T s = ((prob q k f (2 * p + e) T (512 * j + s) : ℝ) : EReal) := by
  unfold gM
  split
  · rename_i hle
    have e1 : ∀ l : Fin 128, at2 (xq Q p) T (128 * e + l.val) * at2 (xk K j p) s (128 * e + l.val)
        = ((aug (fun d => q T (64 * (2 * p + e) + d)) (hq q k f (2 * p + e) T) ((2 * p + e) % 2) l.val
            * aug (fun d => k (512 * j + s) (64 * (2 * p + e) + d)) (hk f (2 * p + e) (512 * j + s)) ((2 * p + e) % 2) l.val : ℝ) : EReal) := fun l => by
      have hl := l.isLt
      rw [xq_at Q p T _ hT (by omega), xk_at K j p s _ hs (by omega), show 256 * p + (128 * e + l.val) = 128 * (2 * p + e) + l.val by ring,
        H.hQ T hT (2 * p + e) (by omega) l.val hl, H.hK (512 * j + s) (by omega) (2 * p + e) (by omega) l.val hl, EReal.coe_mul]
    rw [Finset.sum_congr rfl (fun l _ => e1 l), ← coe_sum, aug_qk, Ideal.exp_coe, prob_eq_exp q k f _ T _ hT hle]
  · rename_i hle
    rw [prob_above q k f _ T _ (by omega)]; rfl

/-- The weight times the second product is the cotangent of the logit. -/
theorem gDS_val (p j e T s : ℕ) (hp : p < 4) (hj : j < 16) (he : e < 2) (hT : T < 8192) (hs : s < 512) :
    gDS (xq Q p) (xq D p) (xk K j p) (xk W j p) j e T s = ((dlogit q k v g f (2 * p + e) T (512 * j + s) : ℝ) : EReal) := by
  unfold gDS
  have e1 : ∀ l : Fin 128, at2 (xq D p) T (128 * e + l.val) * at2 (xk W j p) s (128 * e + l.val)
      = ((aug (fun d => g T (64 * (2 * p + e) + d)) (hd q k v g f (2 * p + e) T) ((2 * p + e) % 2) l.val
          * aug (fun d => v (512 * j + s) (64 * (2 * p + e) + d)) hv ((2 * p + e) % 2) l.val : ℝ) : EReal) := fun l => by
    have hl := l.isLt
    rw [xq_at D p T _ hT (by omega), xk_at W j p s _ hs (by omega), show 256 * p + (128 * e + l.val) = 128 * (2 * p + e) + l.val by ring,
      H.hD T hT (2 * p + e) (by omega) l.val hl, H.hW (512 * j + s) (by omega) (2 * p + e) (by omega) l.val hl, EReal.coe_mul]
  rw [gM_val H p j e T s hp hj he hT hs, Finset.sum_congr rfl (fun l _ => e1 l), ← coe_sum, aug_gv, ← EReal.coe_mul]
  rfl

/-- A tile's part of the queries' gradient, any lane. -/
theorem gDq_val (p j e T l : ℕ) (hp : p < 4) (hj : j < 16) (he : e < 2) (hT : T < 8192) (hl : l < 128) :
    gDq (xq Q p) (xq D p) (xk K j p) (xk W j p) j e T l = ((∑ s ∈ Finset.range 512, dlogit q k v g f (2 * p + e) T (512 * j + s)
      * aug (fun d => k (512 * j + s) (64 * (2 * p + e) + d)) (hk f (2 * p + e) (512 * j + s)) ((2 * p + e) % 2) l : ℝ) : EReal) := by
  unfold gDq
  rw [← Fin.sum_univ_eq_sum_range (fun s => dlogit q k v g f (2 * p + e) T (512 * j + s)
      * aug (fun d => k (512 * j + s) (64 * (2 * p + e) + d)) (hk f (2 * p + e) (512 * j + s)) ((2 * p + e) % 2) l) 512, coe_sum]
  refine Finset.sum_congr rfl fun s _ => ?_
  have hs := s.isLt
  rw [gDS_val H p j e T s.val hp hj he hT hs, xk_at K j p s.val _ hs (by omega), show 256 * p + (128 * e + l) = 128 * (2 * p + e) + l by ring,
    H.hK (512 * j + s.val) (by omega) (2 * p + e) (by omega) l hl, EReal.coe_mul]

/-- A row tile's part of the keys' gradient, any lane, -/
theorem gDk_val (p j e i r l : ℕ) (hp : p < 4) (hj : j < 16) (he : e < 2) (hi : i < 16) (hr : r < 512) (hl : l < 128) :
    gDk (xq Q p) (xq D p) (xk K j p) (xk W j p) j e i r l = ((∑ t ∈ Finset.range 512, dlogit q k v g f (2 * p + e) (512 * i + t) (512 * j + r)
      * aug (fun d => q (512 * i + t) (64 * (2 * p + e) + d)) (hq q k f (2 * p + e) (512 * i + t)) ((2 * p + e) % 2) l : ℝ) : EReal) := by
  unfold gDk
  rw [← Fin.sum_univ_eq_sum_range (fun t => dlogit q k v g f (2 * p + e) (512 * i + t) (512 * j + r)
      * aug (fun d => q (512 * i + t) (64 * (2 * p + e) + d)) (hq q k f (2 * p + e) (512 * i + t)) ((2 * p + e) % 2) l) 512, coe_sum]
  refine Finset.sum_congr rfl fun t _ => ?_
  have ht := t.isLt
  rw [gDS_val H p j e (512 * i + t.val) r hp hj he (by omega) hr, xq_at Q p _ _ (by omega) (by omega),
    show 256 * p + (128 * e + l) = 128 * (2 * p + e) + l by ring,
    H.hQ (512 * i + t.val) (by omega) (2 * p + e) (by omega) l hl, EReal.coe_mul]

/-- and of the values'. -/
theorem gDv_val (p j e i r l : ℕ) (hp : p < 4) (hj : j < 16) (he : e < 2) (hi : i < 16) (hr : r < 512) (hl : l < 128) :
    gDv (xq Q p) (xq D p) (xk K j p) j e i r l = ((∑ t ∈ Finset.range 512, prob q k f (2 * p + e) (512 * i + t) (512 * j + r)
      * aug (fun d => g (512 * i + t) (64 * (2 * p + e) + d)) (hd q k v g f (2 * p + e) (512 * i + t)) ((2 * p + e) % 2) l : ℝ) : EReal) := by
  unfold gDv
  rw [← Fin.sum_univ_eq_sum_range (fun t => prob q k f (2 * p + e) (512 * i + t) (512 * j + r)
      * aug (fun d => g (512 * i + t) (64 * (2 * p + e) + d)) (hd q k v g f (2 * p + e) (512 * i + t)) ((2 * p + e) % 2) l) 512, coe_sum]
  refine Finset.sum_congr rfl fun t _ => ?_
  have ht := t.isLt
  rw [gM_val H p j e (512 * i + t.val) r hp hj he (by omega) hr, xq_at D p _ _ (by omega) (by omega),
    show 256 * p + (128 * e + l) = 128 * (2 * p + e) + l by ring,
    H.hD (512 * i + t.val) (by omega) (2 * p + e) (by omega) l hl, EReal.coe_mul]

omit H in
/-- A sum from the diagonal tile on is the sum over all rows, where the earlier tiles add nothing. -/
theorem sum_from (a : ℕ → ℝ) (j : ℕ) (hj : j < 16) (h0 : ∀ t < 512 * j, a t = 0) :
    ((∑ t ∈ Finset.range 512, a (512 * j + t) : ℝ) : EReal) + ∑ n ∈ Finset.range (15 - j), ((∑ t ∈ Finset.range 512, a (512 * (j + 1 + n) + t) : ℝ) : EReal)
      = ((∑ t : Fin 8192, a t.val : ℝ) : EReal) := by
  rw [← coe_sum, ← EReal.coe_add, Fin.sum_univ_eq_sum_range a 8192, ← sum_tiles 512 16 a]
  congr 1
  have e16 : (16 : ℕ) = j + (1 + (15 - j)) := by omega
  rw [e16, Finset.sum_range_add, Finset.sum_eq_zero (s := Finset.range j) (fun i hi => Finset.sum_eq_zero fun t ht => h0 _ (by
    have := Finset.mem_range.mp hi; have := Finset.mem_range.mp ht; omega)), zero_add, Finset.sum_range_add]
  simp only [Finset.sum_range_one, add_zero]
  simp only [Nat.add_assoc]

/-- A column tile's gradient of the keys, any lane, -/
theorem sDk_val (p j e r l : ℕ) (hp : p < 4) (hj : j < 16) (he : e < 2) (hr : r < 512) (hl : l < 128) :
    sDk (xq Q p) (xq D p) (xk K j p) (xk W j p) j e r l = ((∑ t : Fin 8192, dlogit q k v g f (2 * p + e) t.val (512 * j + r)
      * aug (fun d => q t.val (64 * (2 * p + e) + d)) (hq q k f (2 * p + e) t.val) ((2 * p + e) % 2) l : ℝ) : EReal) := by
  unfold sDk
  rw [gDk_val H p j e j r l hp hj he hj hr hl, Finset.sum_congr rfl (fun n hn => gDk_val H p j e (j + 1 + n) r l hp hj he (by
    have := Finset.mem_range.mp hn; omega) hr hl)]
  exact sum_from (fun t => dlogit q k v g f (2 * p + e) t (512 * j + r)
      * aug (fun d => q t (64 * (2 * p + e) + d)) (hq q k f (2 * p + e) t) ((2 * p + e) % 2) l) j hj (fun t ht => by
    show dlogit _ _ _ _ _ _ _ _ * _ = 0
    rw [dlogit_above q k v g f _ t _ (by omega), zero_mul])

/-- and of the values. -/
theorem sDv_val (p j e r l : ℕ) (hp : p < 4) (hj : j < 16) (he : e < 2) (hr : r < 512) (hl : l < 128) :
    sDv (xq Q p) (xq D p) (xk K j p) j e r l = ((∑ t : Fin 8192, prob q k f (2 * p + e) t.val (512 * j + r)
      * aug (fun d => g t.val (64 * (2 * p + e) + d)) (hd q k v g f (2 * p + e) t.val) ((2 * p + e) % 2) l : ℝ) : EReal) := by
  unfold sDv
  rw [gDv_val H p j e j r l hp hj he hj hr hl, Finset.sum_congr rfl (fun n hn => gDv_val H p j e (j + 1 + n) r l hp hj he (by
    have := Finset.mem_range.mp hn; omega) hr hl)]
  exact sum_from (fun t => prob q k f (2 * p + e) t (512 * j + r)
      * aug (fun d => g t (64 * (2 * p + e) + d)) (hd q k v g f (2 * p + e) t) ((2 * p + e) % 2) l) j hj (fun t ht => by
    show prob _ _ _ _ _ _ * _ = 0
    rw [prob_above q k f _ t _ (by omega), zero_mul])

omit H in
/-- An own lane of an augmented row. -/
theorem aug_own (a w : ℕ → ℝ) (p l : ℕ) (e : ℕ) (he : e = if l < 64 then 0 else 1) (hl : l < 128) :
    aug (fun d => a (64 * (2 * p + e) + d)) w ((2 * p + e) % 2) l = a (128 * p + l) := by
  unfold aug
  split at he
  · subst he; rw [if_pos (by omega)]; exact congrArg a (by omega)
  · subst he; rw [if_pos (by omega)]; exact congrArg a (by omega)

omit H in
/-- A helper lane of an augmented row. -/
theorem aug_help (a w : ℕ → ℝ) (p n e : ℕ) (he : e < 2) (hn : n < 64) : aug a w ((2 * p + e) % 2) (n + 64 * (1 - e)) = w n := by
  unfold aug
  rw [if_neg (by omega)]; congr 1; omega

/-- The queries' gradient. -/
theorem resDq_val (y : S8192x512.Idx) : resDq Q D K W y
    = ((∑ s : Fin 8192, dlogit q k v g f ((y 1).val / 64) (y 0).val s.val * k s.val (y 1).val : ℝ) : EReal) := by
  have hT : (y 0).val < 8192 := (y 0).isLt
  have hc : (y 1).val < 512 := (y 1).isLt
  unfold resDq
  have e1 : ∀ j ∈ Finset.range 16, partDq Q D K W j ((y 1).val / 128) (y 0).val ((y 1).val % 128)
      = ((∑ s ∈ Finset.range 512, dlogit q k v g f ((y 1).val / 64) (y 0).val (512 * j + s) * k (512 * j + s) (y 1).val : ℝ) : EReal) := fun j hj => by
    have hj := Finset.mem_range.mp hj
    unfold partDq addDq
    split
    · rename_i hl
      rw [gDq_val H _ j 0 (y 0).val _ (by omega) hj (by omega) hT (by omega)]
      congr 1
      refine Finset.sum_congr rfl fun s _ => ?_
      rw [aug_own (fun c => k (512 * j + s) c) _ _ _ 0 (by rw [if_pos hl]) (by omega), show 2 * ((y 1).val / 128) + 0 = (y 1).val / 64 by omega,
        show 128 * ((y 1).val / 128) + (y 1).val % 128 = (y 1).val by omega]
    · rename_i hl
      rw [gDq_val H _ j 1 (y 0).val _ (by omega) hj (by omega) hT (by omega)]
      congr 1
      refine Finset.sum_congr rfl fun s _ => ?_
      rw [aug_own (fun c => k (512 * j + s) c) _ _ _ 1 (by rw [if_neg hl]) (by omega), show 2 * ((y 1).val / 128) + 1 = (y 1).val / 64 by omega,
        show 128 * ((y 1).val / 128) + (y 1).val % 128 = (y 1).val by omega]
  rw [Finset.sum_congr rfl e1, ← coe_sum, sum_tiles 512 16 (fun s => dlogit q k v g f ((y 1).val / 64) (y 0).val s * k s (y 1).val),
    ← Fin.sum_univ_eq_sum_range (fun s => dlogit q k v g f ((y 1).val / 64) (y 0).val s * k s (y 1).val) (512 * 16)]

/-- The keys' gradient. -/
theorem resDk_val (y : S8192x512.Idx) : resDk Q D K W y
    = ((∑ t : Fin 8192, dlogit q k v g f ((y 1).val / 64) t.val (y 0).val * q t.val (y 1).val : ℝ) : EReal) := by
  have hT : (y 0).val < 8192 := (y 0).isLt
  have hc : (y 1).val < 512 := (y 1).isLt
  unfold resDk
  generalize he : (if (y 1).val % 128 < 64 then 0 else 1) = e
  have he2 : e < 2 := by rw [← he]; split <;> omega
  rw [sDk_val H _ _ e _ _ (by omega) (by omega) he2 (by omega) (by omega)]
  congr 1
  refine Finset.sum_congr rfl fun t _ => ?_
  rw [aug_own (fun c => q t.val c) _ _ _ e he.symm (by omega), show 512 * ((y 0).val / 512) + (y 0).val % 512 = (y 0).val by omega,
    show 128 * ((y 1).val / 128) + (y 1).val % 128 = (y 1).val by omega,
    show 2 * ((y 1).val / 128) + e = (y 1).val / 64 by rw [← he]; split <;> omega]

/-- The values' gradient. -/
theorem resDv_val (y : S8192x512.Idx) : resDv Q D K y
    = ((∑ t : Fin 8192, prob q k f ((y 1).val / 64) t.val (y 0).val * g t.val (y 1).val : ℝ) : EReal) := by
  have hT : (y 0).val < 8192 := (y 0).isLt
  have hc : (y 1).val < 512 := (y 1).isLt
  unfold resDv
  generalize he : (if (y 1).val % 128 < 64 then 0 else 1) = e
  have he2 : e < 2 := by rw [← he]; split <;> omega
  rw [sDv_val H _ _ e _ _ (by omega) (by omega) he2 (by omega) (by omega)]
  congr 1
  refine Finset.sum_congr rfl fun t _ => ?_
  rw [aug_own (fun c => g t.val c) _ _ _ e he.symm (by omega), show 512 * ((y 0).val / 512) + (y 0).val % 512 = (y 0).val by omega,
    show 128 * ((y 1).val / 128) + (y 1).val % 128 = (y 1).val by omega,
    show 2 * ((y 1).val / 128) + e = (y 1).val / 64 by rw [← he]; split <;> omega]

omit H in
/-- A sum over the pairs of heads, each adding to its two lanes. -/
theorem sum_pairs (X : ℕ → ℝ) (l : ℕ) :
    ∑ p ∈ Finset.range 4, ((if l = 2 * p then X (2 * p + 0) else 0) + (if l = 2 * p + 1 then X (2 * p + 1) else 0)) = if l < 8 then X l else 0 := by
  split
  · rename_i hl
    interval_cases l <;> simp [Finset.sum_range_succ]
  · rename_i hl
    refine Finset.sum_eq_zero fun p hp => ?_
    have := Finset.mem_range.mp hp
    rw [if_neg (by omega), if_neg (by omega), add_zero]

/-- The row sums. -/
theorem resRs_val (y : S8192x128.Idx) : resRs Q D K W y
    = (((if (y 1).val < 8 then ∑ s : Fin 8192, dlogit q k v g f (y 1).val (y 0).val s.val else 0) : ℝ) : EReal) := by
  have hT : (y 0).val < 8192 := (y 0).isLt
  have hc : (y 1).val < 128 := (y 1).isLt
  unfold resRs
  generalize (y 1).val = l at hc ⊢
  generalize (y 0).val = T at hT ⊢
  have e1 : ∀ u ∈ Finset.range 64, partRs Q D K W (u % 16) (u / 16) T l
      = (((if l = 2 * (u / 16) then ∑ s ∈ Finset.range 512, dlogit q k v g f (2 * (u / 16) + 0) T (512 * (u % 16) + s) else 0)
        + (if l = 2 * (u / 16) + 1 then ∑ s ∈ Finset.range 512, dlogit q k v g f (2 * (u / 16) + 1) T (512 * (u % 16) + s) else 0) : ℝ) : EReal) := fun u hu => by
    have hu := Finset.mem_range.mp hu
    unfold partRs addRs
    have c0 := gDq_val H (u / 16) (u % 16) 0 T 64 (by omega) (by omega) (by omega) hT (by omega)
    have c1 := gDq_val H (u / 16) (u % 16) 1 T 0 (by omega) (by omega) (by omega) hT (by omega)
    have k1 : ∀ s, hk f (2 * (u / 16) + 0) s 0 = 1 := fun s => if_pos (by omega)
    have k2 : ∀ s, hk f (2 * (u / 16) + 1) s 0 = 1 := fun s => if_pos (by omega)
    have a0 : ∀ s, aug (fun d => k s (64 * (2 * (u / 16) + 0) + d)) (hk f (2 * (u / 16) + 0) s) ((2 * (u / 16) + 0) % 2) 64 = 1 := fun s =>
      (aug_help _ _ (u / 16) 0 0 (by omega) (by omega)).trans (k1 s)
    have a1 : ∀ s, aug (fun d => k s (64 * (2 * (u / 16) + 1) + d)) (hk f (2 * (u / 16) + 1) s) ((2 * (u / 16) + 1) % 2) 0 = 1 := fun s =>
      (aug_help _ _ (u / 16) 0 1 (by omega) (by omega)).trans (k2 s)
    rw [c0, c1]
    simp only [a0, a1, mul_one]
    rw [EReal.coe_add]
    congr 1 <;> split <;> rfl
  rw [Finset.sum_congr rfl e1, ← coe_sum]
  congr 1
  have e2 := sum_tiles 16 4 (fun u => (if l = 2 * (u / 16) then ∑ s ∈ Finset.range 512, dlogit q k v g f (2 * (u / 16) + 0) T (512 * (u % 16) + s) else 0)
        + (if l = 2 * (u / 16) + 1 then ∑ s ∈ Finset.range 512, dlogit q k v g f (2 * (u / 16) + 1) T (512 * (u % 16) + s) else 0))
  refine e2.symm.trans ?_
  rw [← sum_pairs (fun h => ∑ s : Fin 8192, dlogit q k v g f h T s.val) l]
  refine Finset.sum_congr rfl fun p _ => ?_
  have e3 : ∀ h, ∑ s : Fin 8192, dlogit q k v g f h T s.val = ∑ j ∈ Finset.range 16, ∑ s ∈ Finset.range 512, dlogit q k v g f h T (512 * j + s) := fun h => by
    rw [sum_tiles 512 16 (fun s => dlogit q k v g f h T s), Fin.sum_univ_eq_sum_range (fun s => dlogit q k v g f h T s) 8192]
  simp only [e3]
  have e4 : ∀ j ∈ Finset.range 16, (16 * p + j) / 16 = p ∧ (16 * p + j) % 16 = j := fun j hj => by
    have := Finset.mem_range.mp hj; omega
  rw [Finset.sum_congr rfl (fun j hj => by rw [(e4 j hj).1, (e4 j hj).2]), Finset.sum_add_distrib]
  congr 1 <;> split <;> simp

/-- The column sums. -/
theorem resCs_val (y : S8192x128.Idx) : resCs Q D K W y
    = (((if (y 1).val < 8 then ∑ t : Fin 8192, dlogit q k v g f (y 1).val t.val (y 0).val else 0) : ℝ) : EReal) := by
  have hT : (y 0).val < 8192 := (y 0).isLt
  have hc : (y 1).val < 128 := (y 1).isLt
  unfold resCs
  generalize (y 1).val = l at hc ⊢
  generalize (y 0).val = T at hT ⊢
  have e1 : ∀ u ∈ Finset.range 64, partCs Q D K W (u % 16) (u / 16) T l
      = (((if u % 16 = T / 512 then ((if l = 2 * (u / 16) then ∑ t : Fin 8192, dlogit q k v g f (2 * (u / 16) + 0) t.val T else 0)
        + (if l = 2 * (u / 16) + 1 then ∑ t : Fin 8192, dlogit q k v g f (2 * (u / 16) + 1) t.val T else 0)) else 0 : ℝ)) : EReal) := fun u hu => by
    have hu := Finset.mem_range.mp hu
    unfold partCs
    by_cases hj : u % 16 = T / 512
    · rw [if_pos (by omega), if_pos hj]
      unfold addCs
      have c0 := sDk_val H (u / 16) (u % 16) 0 (T - 512 * (u % 16)) 67 (by omega) (by omega) (by omega) (by omega) (by omega)
      have c1 := sDk_val H (u / 16) (u % 16) 1 (T - 512 * (u % 16)) 3 (by omega) (by omega) (by omega) (by omega) (by omega)
      have k1 : ∀ h s, hq q k f h s 3 = 1 := fun h s => by simp [hq]
      have a0 : ∀ s, aug (fun d => q s (64 * (2 * (u / 16) + 0) + d)) (hq q k f (2 * (u / 16) + 0) s) ((2 * (u / 16) + 0) % 2) 67 = 1 := fun s =>
        (aug_help _ _ (u / 16) 3 0 (by omega) (by omega)).trans (k1 _ s)
      have a1 : ∀ s, aug (fun d => q s (64 * (2 * (u / 16) + 1) + d)) (hq q k f (2 * (u / 16) + 1) s) ((2 * (u / 16) + 1) % 2) 3 = 1 := fun s =>
        (aug_help _ _ (u / 16) 3 1 (by omega) (by omega)).trans (k1 _ s)
      rw [c0, c1]
      simp only [a0, a1, mul_one, show 512 * (u % 16) + (T - 512 * (u % 16)) = T by omega]
      rw [EReal.coe_add]
      congr 1 <;> split <;> rfl
    · rw [if_neg (by omega), if_neg hj]; rfl
  rw [Finset.sum_congr rfl e1, ← coe_sum]
  congr 1
  refine (sum_tiles 16 4 (fun u => if u % 16 = T / 512 then ((if l = 2 * (u / 16) then ∑ t : Fin 8192, dlogit q k v g f (2 * (u / 16) + 0) t.val T else 0)
        + (if l = 2 * (u / 16) + 1 then ∑ t : Fin 8192, dlogit q k v g f (2 * (u / 16) + 1) t.val T else 0)) else 0)).symm.trans ?_
  rw [← sum_pairs (fun h => ∑ t : Fin 8192, dlogit q k v g f h t.val T) l]
  refine Finset.sum_congr rfl fun p _ => ?_
  have e4 : ∀ j ∈ Finset.range 16, (16 * p + j) / 16 = p ∧ (16 * p + j) % 16 = j := fun j hj => by
    have := Finset.mem_range.mp hj; omega
  rw [Finset.sum_congr rfl (fun j hj => by rw [(e4 j hj).1, (e4 j hj).2]), Finset.sum_ite_eq' (Finset.range 16) (T / 512), if_pos (Finset.mem_range.mpr (by omega))]

end Cert.KernelIdeal.Hand

end
-- ==== Proof.HSoft.lean ====
module

public import proofs.«01_k».proof.Proof.KVal
public import proofs.«01_k».proof.Proof.HostB
public import Idealize.ShloMosaic.Lib.IdealHost

@[expose] public section

/-! The host's softmax on real arguments: logits, the row maximum, the normaliser, the probabilities, the attention's
output and its inner product with the cotangent. -/

set_option maxRecDepth 16384

noncomputable section

namespace Cert.KernelIdeal.Host

open Cert.KernelIdeal Cert.KernelIdeal.Gen Cert.Attn
open Idealize.ShloMosaic Idealize.ShloMosaic.TcCoe

/-- One eighth. -/
theorem eighth : Ideal.ofBits .f32 0x3E000000#32 = ((1 / 8 : ℝ) : EReal) := by
  simp [Ideal.ofBits, Ideal.ieee, -EReal.coe_mul]; norm_num

/-- Minus one. -/
theorem neg_one : Ideal.ofBits .f32 0xBF800000#32 = ((-1 : ℝ) : EReal) := by
  simp [Ideal.ofBits, Ideal.ieee, -EReal.coe_mul, -EReal.coe_neg]; norm_num

/-- Minus infinity. -/
theorem minus_inf : Ideal.ofBits .f32 0xFF800000#32 = ⊥ := by
  simp [Ideal.ofBits, Ideal.ieee]

/-- A row's maximum of reals and minus infinities, with one real among them, is a real. -/
theorem reduce_max_real (x : S8x8192x8192.Idx → EReal) (init : S_.Idx → EReal) (hinit : init (Shape.Idx.first h_S_) = ⊥)
    (j : S8x8192.Idx) (hx : ∀ i, x i = ⊥ ∨ ∃ r : ℝ, x i = r)
    (s : Fin 8192) (hs : ∃ r : ℝ, x (ix_v25 j s) = r) :
    ∃ r : ℝ, Host.reduce (α := EReal) (FloatOps.maximumf (F := Ideal) (φ := .f32)) x init reducesTo_S8x8192x8192_S8x8192_d2 h_S_ j = r := by
  have hc : Std.Commutative (FloatOps.maximumf (F := Ideal) (φ := .f32)) := ⟨fun a b => max_comm (a : EReal) b⟩
  have ha : Std.Associative (FloatOps.maximumf (F := Ideal) (φ := .f32)) := ⟨fun a b c => max_assoc (a : EReal) b c⟩
  have hr : S8x8192x8192.Reduces [2] S8x8192 := by decide
  rw [Host.reduce_eq_fold, hinit]
  have e : ∀ S : Finset S8x8192x8192.Idx, S.fold (FloatOps.maximumf (F := Ideal) (φ := .f32)) (⊥ : EReal) x = S.sup x := fun S => rfl
  rw [e]
  have hm : ix_v25 j s ∈ Finset.univ.filter fun i => (reducesTo_S8x8192x8192_S8x8192_d2).drop i = j := by
    refine Finset.mem_filter.2 ⟨Finset.mem_univ _, ?_⟩
    rw [Shape.ReducesTo.drop_eq_drop _ hr]
    rw [show ix_v25 j s = hr.lift j s from
      funext fun a => Fin.ext (by match a with | ⟨0, _⟩ => rfl | ⟨1, _⟩ => rfl | ⟨2, _⟩ => rfl)]
    exact hr.drop_lift j s
  obtain ⟨i, -, hi⟩ := Finset.exists_mem_eq_sup _ ⟨_, hm⟩ x
  rw [hi]
  rcases hx i with h | h
  · obtain ⟨r, hr⟩ := hs
    have := Finset.le_sup (f := x) hm
    rw [hi, h, hr] at this
    exact absurd (le_bot_iff.1 this) (EReal.coe_ne_bot r)
  · exact h

/-- The arguments, read as real numbers: queries (times eight), keys, values, the forget gates' running sum, and the
    cotangent of the attention's output. -/
structure Reads (x0 x1 x2 x4 : S8192x512.Idx → EReal) (x3 : S8192x8.Idx → EReal) (q k v g f : ℕ → ℕ → ℝ) : Prop where
  h0 : ∀ i, x0 i = ((8 * q (i 0).val (i 1).val : ℝ) : EReal)
  h1 : ∀ i, x1 i = ((k (i 0).val (i 1).val : ℝ) : EReal)
  h2 : ∀ i, x2 i = ((v (i 0).val (i 1).val : ℝ) : EReal)
  h3 : ∀ i, x3 i = ((f (i 0).val (i 1).val : ℝ) : EReal)
  h4 : ∀ i, x4 i = ((g (i 0).val (i 1).val : ℝ) : EReal)

variable {x0 x1 x2 x4 : S8192x512.Idx → EReal} {x3 : S8192x8.Idx → EReal} {q k v g f : ℕ → ℕ → ℝ}

/-- The queries, scaled. -/
theorem v1 (H : Reads x0 x1 x2 x4 x3 q k v g f) (i : S8192x512.Idx) :
    h_v1 (F := Ideal) x0 i = ((q (i 0).val (i 1).val : ℝ) : EReal) := by
  rw [h_v1_apply, h_v0_apply, h_cst_apply, H.h0, Ideal.mulf_def, Ideal.ofBits_def, eighth, ← EReal.coe_mul]
  exact congrArg _ (by ring)

/-- A head's entry among the columns. -/
theorem head_row {r h d : ℕ} (hh : h < 8) (hd : d < 64) : ((r * 8 + h) * 64 + d) / 512 = r := by omega
theorem head_col {r h d : ℕ} (hh : h < 8) (hd : d < 64) : ((r * 8 + h) * 64 + d) % 512 = 64 * h + d := by omega

/-- The queries by heads, -/
theorem v3 (H : Reads x0 x1 x2 x4 x3 q k v g f) (i : S8x8192x64.Idx) :
    h_v3 (F := Ideal) x0 i = ((q (i 1).val (64 * (i 0).val + (i 2).val) : ℝ) : EReal) := by
  rw [h_v3_apply, h_v2_apply, v1 H]
  have h0 : (i 0).val < 8 := (i 0).isLt
  have h2 : (i 2).val < 64 := (i 2).isLt
  exact congrArg₂ (fun a b => ((q a b : ℝ) : EReal)) (head_row h0 h2) (head_col h0 h2)

/-- the keys, -/
theorem v5 (H : Reads x0 x1 x2 x4 x3 q k v g f) (i : S8x8192x64.Idx) :
    h_v5 (F := Ideal) x1 i = ((k (i 1).val (64 * (i 0).val + (i 2).val) : ℝ) : EReal) := by
  rw [h_v5_apply, h_v4_apply, H.h1]
  have h0 : (i 0).val < 8 := (i 0).isLt
  have h2 : (i 2).val < 64 := (i 2).isLt
  exact congrArg₂ (fun a b => ((k a b : ℝ) : EReal)) (head_row h0 h2) (head_col h0 h2)

/-- and the values. -/
theorem v59 (H : Reads x0 x1 x2 x4 x3 q k v g f) (i : S8x8192x64.Idx) :
    h_v59 (F := Ideal) x2 i = ((v (i 1).val (64 * (i 0).val + (i 2).val) : ℝ) : EReal) := by
  rw [h_v59_apply, h_v58_apply, H.h2]
  have h0 : (i 0).val < 8 := (i 0).isLt
  have h2 : (i 2).val < 64 := (i 2).isLt
  exact congrArg₂ (fun a b => ((v a b : ℝ) : EReal)) (head_row h0 h2) (head_col h0 h2)

/-- The logits. -/
theorem v14 (H : Reads x0 x1 x2 x4 x3 q k v g f) (i : S8x8192x8192.Idx) :
    h_v14 (F := Ideal) x0 x1 x3 i = ((logit q k f (i 0).val (i 1).val (i 2).val : ℝ) : EReal) := by
  rw [h_v14_apply, h_v10_apply, h_v9_apply, h_v8_apply, h_v7_apply, h_v13_apply, h_v12_apply, h_v11_apply, h_v6_apply,
    H.h3, H.h3, Ideal.subf_def, Ideal.addf_def]
  simp only [v3 H, v5 H, ← EReal.coe_mul]
  rw [← coe_sum, ← EReal.coe_add, ← EReal.coe_sub]
  rfl

/-- The causal choice: a key after the query is out. -/
theorem causal {α : Type} (i : S8x8192x8192.Idx) (a b : α) :
    Scalar.select (h_call0_v1 (F := Ideal) i) a b = if (i 2).val ≤ (i 1).val then a else b := by
  rw [h_call0_v1_apply, h_v18_apply, h_v17_apply, h_v15_apply, h_v16_apply]
  have h1 : (i 1).val < 8192 := (i 1).isLt
  have h2 : (i 2).val < 8192 := (i 2).isLt
  exact Hand.sel_sle (a := (i 2).val) (b := (i 1).val) (by omega) (by omega) a b

/-- The logits with the mask: minus infinity above the diagonal. -/
theorem v19 (H : Reads x0 x1 x2 x4 x3 q k v g f) (i : S8x8192x8192.Idx) :
    h_v19 (F := Ideal) x0 x1 x3 i
      = if (i 2).val ≤ (i 1).val then ((logit q k f (i 0).val (i 1).val (i 2).val : ℝ) : EReal) else ⊥ := by
  rw [h_v19_apply, causal, v14 H, h_call0_v2_apply, h_call0_v0_apply, h_cst_0_apply, Ideal.ofBits_def, minus_inf]

/-- A row's maximum is a real number. -/
theorem v20 (H : Reads x0 x1 x2 x4 x3 q k v g f) (j : S8x8192.Idx) : ∃ μ : ℝ, h_v20 (F := Ideal) x0 x1 x3 j = (μ : EReal) := by
  refine reduce_max_real (h_v19 (F := Ideal) x0 x1 x3) _ ?_ j ?_ ⟨(j 1).val, (j 1).isLt⟩ ?_
  · rw [h_cst_1_apply, Ideal.ofBits_def, minus_inf]
  · intro i
    rw [v19 H]
    split_ifs
    · exact .inr ⟨_, rfl⟩
    · exact .inl rfl
  · rw [v19 H]
    exact ⟨_, if_pos (le_refl _)⟩

section Row

variable (H : Reads x0 x1 x2 x4 x3 q k v g f) (j : S8x8192.Idx) (μ : ℝ) (hμ : h_v20 (F := Ideal) x0 x1 x3 j = (μ : EReal))

include H in
/-- The exponential of a masked logit less the maximum: the weight, scaled. -/
theorem exp_row (s : Fin 8192) :
    Ideal.exp (h_v19 (F := Ideal) x0 x1 x3 (ix_v25 j s) - (μ : EReal))
      = ((wt q k f (j 0).val (j 1).val s.val * Real.exp (-μ) : ℝ) : EReal) := by
  rw [v19 H, ← wt_shift]
  show Ideal.exp ((if s.val ≤ (j 1).val then ((logit q k f (j 0).val (j 1).val s.val : ℝ) : EReal) else ⊥) - (μ : EReal)) = _
  split_ifs
  · rw [← EReal.coe_sub, Ideal.exp_coe]
  · rw [EReal.bot_sub, Ideal.exp_bot]; rfl

include H hμ

/-- The scaled weights, -/
theorem v24 (s : Fin 8192) :
    h_v24 (F := Ideal) x0 x1 x3 (ix_v25 j s) = ((wt q k f (j 0).val (j 1).val s.val * Real.exp (-μ) : ℝ) : EReal) := by
  rw [h_v24_apply, h_v23_apply, h_v22_apply, h_v21_apply, Ideal.hostUnary_exp_def, Ideal.subf_def]
  rw [show h_v20 (F := Ideal) x0 x1 x3 (ix_v8 (ix_v9 (ix_v25 j s))) = (μ : EReal) from
    (congrArg _ (funext fun a => Fin.ext (by match a with | ⟨0, _⟩ => rfl | ⟨1, _⟩ => rfl))).trans hμ]
  exact exp_row H j μ s

/-- their sum, -/
theorem v25 : h_v25 (F := Ideal) x0 x1 x3 j = ((tot q k f (j 0).val (j 1).val * Real.exp (-μ) : ℝ) : EReal) := by
  rw [h_v25_apply, h_cst_2_apply, Ideal.ofBits_def, Ideal.ofBits_zero_f32, zero_add, ← tot_shift, coe_sum]
  exact Finset.sum_congr rfl fun s _ => v24 H j μ hμ s

omit H in
/-- the second copy's maximum, -/
theorem v49 : h_v49 (F := Ideal) x0 x1 x3 j = (μ : EReal) := by
  rw [h_v49_apply, h_v48_apply, h_cst_5_apply, Ideal.ofBits_def, minus_inf, Ideal.maximumf_def]
  rw [show h_v47 (F := Ideal) x0 x1 x3 j = h_v20 (F := Ideal) x0 x1 x3 j from rfl, hμ]
  exact max_eq_right bot_le

/-- weights, -/
theorem v53 (s : Fin 8192) :
    h_v53 (F := Ideal) x0 x1 x3 (ix_v25 j s) = ((wt q k f (j 0).val (j 1).val s.val * Real.exp (-μ) : ℝ) : EReal) := by
  rw [h_v53_apply, h_v52_apply, h_v51_apply, h_v50_apply, Ideal.hostUnary_exp_def, Ideal.subf_def]
  rw [show h_v49 (F := Ideal) x0 x1 x3 (ix_v8 (ix_v9 (ix_v25 j s))) = (μ : EReal) from
    (congrArg _ (funext fun a => Fin.ext (by match a with | ⟨0, _⟩ => rfl | ⟨1, _⟩ => rfl))).trans (v49 j μ hμ)]
  exact exp_row H j μ s

/-- and sum. -/
theorem v54 : h_v54 (F := Ideal) x0 x1 x3 j = ((tot q k f (j 0).val (j 1).val * Real.exp (-μ) : ℝ) : EReal) := by
  rw [h_v54_apply, h_cst_6_apply, Ideal.ofBits_def, Ideal.ofBits_zero_f32, zero_add, ← tot_shift, coe_sum]
  exact Finset.sum_congr rfl fun s _ => v53 H j μ hμ s

end Row

/-- A position of the square is a row's. -/
theorem row_eq (i : S8x8192x8192.Idx) : i = ix_v25 (ix_v8 (ix_v9 i)) ⟨(i 2).val, (i 2).isLt⟩ :=
  funext fun a => Fin.ext (by match a with | ⟨0, _⟩ => rfl | ⟨1, _⟩ => rfl | ⟨2, _⟩ => rfl)

/-- The logarithm of the normaliser. -/
theorem v27 (H : Reads x0 x1 x2 x4 x3 q k v g f) (j : S8x8192.Idx) :
    h_v27 (F := Ideal) x0 x1 x3 j = ((Real.log (tot q k f (j 0).val (j 1).val) : ℝ) : EReal) := by
  obtain ⟨μ, hμ⟩ := v20 H j
  have hp : 0 < tot q k f (j 0).val (j 1).val * Real.exp (-μ) := mul_pos (tot_pos q k f _ _ (j 1).isLt) (Real.exp_pos _)
  rw [h_v27_apply, h_v26_apply, v25 H j μ hμ, hμ, Ideal.addf_def, Ideal.hostUnary_log_def, Ideal.log_coe, if_neg (not_le.2 hp),
    ← EReal.coe_add, log_shift q k f μ _ _ (j 1).isLt]

/-- The probabilities. -/
theorem v57 (H : Reads x0 x1 x2 x4 x3 q k v g f) (i : S8x8192x8192.Idx) :
    h_v57 (F := Ideal) x0 x1 x3 i = ((prob q k f (i 0).val (i 1).val (i 2).val : ℝ) : EReal) := by
  obtain ⟨μ, hμ⟩ := v20 H (ix_v8 (ix_v9 i))
  have hp : 0 < tot q k f (i 0).val (i 1).val * Real.exp (-μ) := mul_pos (tot_pos q k f _ _ (i 1).isLt) (Real.exp_pos _)
  have hw := v53 H _ μ hμ ⟨(i 2).val, (i 2).isLt⟩
  rw [← row_eq i] at hw
  have ht := v54 H _ μ hμ
  rw [h_v57_apply, h_v56_apply, h_v55_apply, hw, Ideal.hostDivf_def]
  rw [show h_v54 (F := Ideal) x0 x1 x3 (ix_v8 (ix_v9 i)) = _ from ht, ← prob_shift q k f μ]
  rw [show (((tot q k f ((ix_v8 (ix_v9 i)) 0).val ((ix_v8 (ix_v9 i)) 1).val * Real.exp (-μ) : ℝ)) : EReal)
    = ((tot q k f (i 0).val (i 1).val * Real.exp (-μ) : ℝ) : EReal) from rfl, Ideal.div_coe hp.ne', ← EReal.coe_mul, mul_one_div]

/-- The attention's output, by heads, -/
theorem v60 (H : Reads x0 x1 x2 x4 x3 q k v g f) (i : S8x8192x64.Idx) :
    h_v60 (F := Ideal) x0 x1 x2 x3 i = ((out q k v f (i 0).val (i 1).val (i 2).val : ℝ) : EReal) := by
  rw [h_v60_apply]
  simp only [v57 H, v59 H, ← EReal.coe_mul]
  rw [← coe_sum]
  rfl

/-- and its inner product with the cotangent. -/
theorem v65 (H : Reads x0 x1 x2 x4 x3 q k v g f) (i : S8192x8.Idx) :
    h_v65 (F := Ideal) x0 x1 x2 x3 x4 i = ((delta q k v g f (i 1).val (i 0).val : ℝ) : EReal) := by
  rw [h_v65_apply, h_cst_7_apply, Ideal.ofBits_def, Ideal.ofBits_zero_f32, zero_add]
  unfold delta
  rw [coe_sum]
  refine Finset.sum_congr rfl fun d _ => ?_
  rw [h_v64_apply, h_v63_apply, h_v62_apply, h_v61_apply, v60 H, H.h4, Ideal.mulf_def, ← EReal.coe_mul]
  have h0 : (i 0).val < 8192 := (i 0).isLt
  have h1 : (i 1).val < 8 := (i 1).isLt
  have hd := d.isLt
  refine congrArg _ (congrArg₂ (· * ·) (congrArg₂ g (head_row h1 hd) (head_col h1 hd)) ?_)
  have e0 : ((((i 0).val * 8 + (i 1).val) * 64 + d.val) / 512 * 512 + (((i 0).val * 8 + (i 1).val) * 64 + d.val) % 512) / 64 % 8
      = (i 1).val := by omega
  have e1 : ((((i 0).val * 8 + (i 1).val) * 64 + d.val) / 512 * 512 + (((i 0).val * 8 + (i 1).val) * 64 + d.val) % 512) / 512
      = (i 0).val := by omega
  have e2 : ((((i 0).val * 8 + (i 1).val) * 64 + d.val) / 512 * 512 + (((i 0).val * 8 + (i 1).val) * 64 + d.val) % 512) % 64
      = d.val := by omega
  show out q k v f _ _ _ = out q k v f _ _ _
  exact congr (congrArg₂ (out q k v f) e0 e1) e2

end Cert.KernelIdeal.Host
-- ==== Proof.HVal.lean ====
module

public import proofs.«01_k».proof.Proof.HSoft

@[expose] public section

/-! The augmented operands on real arguments: which lane each mask selects, the three pieces of a split number, and the
four operands' entries. -/

set_option maxRecDepth 16384

noncomputable section

namespace Cert.KernelIdeal.Host

open Cert.KernelIdeal Cert.KernelIdeal.Gen Cert.Attn
open Idealize.ShloMosaic Idealize.ShloMosaic.TcCoe

/-- The lane a mask compares with: the `n`-th of the half that is not the head's own. -/
def lane (n e : ℕ) : BitVec 32 :=
  IntOp.addi (BitVec.ofNat 32 n) (IntOp.muli 64#32 (IntOp.subi 1#32 (BitVec.ofNat 32 e)))

theorem lane_eq {e : ℕ} (n : ℕ) (he : e < 2) : lane n e = BitVec.ofNat 32 (n + 64 * (1 - e)) := by
  unfold lane
  rw [BitVec.ofNat_add]
  obtain rfl | rfl : e = 0 ∨ e = 1 := by omega
  · rfl
  · rfl

/-- A choice by equality of two small numbers. -/
theorem sel_eq {α : Type} {a b : ℕ} (ha : a < 2 ^ 32) (hb : b < 2 ^ 32) (x y : α) :
    Scalar.select (IntOp.cmpi .eq (BitVec.ofNat 32 a) (BitVec.ofNat 32 b)) x y = if a = b then x else y := by
  have h := WordCmp.cmpi_eq_ofNat_eq_one_iff (w := 32) (a := a) (b := b) ha hb
  unfold Scalar.select
  exact if_congr h rfl rfl

/-- A choice by a signed `≥` of two small numbers. -/
theorem sel_sge {α : Type} {a b : ℕ} (ha : a < 2 ^ 31) (hb : b < 2 ^ 31) (x y : α) :
    Scalar.select (IntOp.cmpi .sge (BitVec.ofNat 32 a) (BitVec.ofNat 32 b)) x y = if b ≤ a then x else y := by
  have h := WordCmp.cmpi_sge_ofNat_eq_one_iff (w := 32) (a := a) (b := b) ha hb
  unfold Scalar.select
  exact if_congr h rfl rfl

/-- A choice by two conditions. -/
theorem sel_and {α : Type} (c d : BitVec 1) (x y : α) :
    Scalar.select (IntOp.andi c d) x y = Scalar.select c (Scalar.select d x y) y := by
  have : ∀ c d : BitVec 1, (IntOp.andi c d = 1) = (c = 1 ∧ d = 1) := by decide
  unfold Scalar.select
  rw [if_congr (Iff.of_eq (this c d)) rfl rfl]
  split_ifs <;> first | rfl | (exfalso; tauto)

variable {α : Type} (i : S8192x4x2x128.Idx) (x y : α)

theorem i2_lt : (i 2).val < 2 := (i 2).isLt
theorem i3_lt : (i 3).val < 128 := (i 3).isLt

/-- The head's own half. -/
theorem own : Scalar.select (h_v72 (F := Ideal) i) x y = if (64 ≤ (i 3).val ↔ (i 2).val = 1) then x else y := by
  rw [h_v72_apply, h_v69_apply, h_v71_apply, h_v66_apply, h_v67_apply, h_v68_apply, h_v70_apply, h_c_apply, h_c_8_apply]
  unfold Scalar.select
  refine if_congr ?_ rfl rfl
  have : ∀ (e : Fin 2) (l : Fin 128), IntOp.cmpi .eq (IntOp.cmpi .sge (BitVec.ofNat 32 l.val) 64#32)
      (IntOp.cmpi .eq (BitVec.ofNat 32 e.val) 1#32) = 1 ↔ (64 ≤ l.val ↔ e.val = 1) := by decide
  exact this ⟨_, i2_lt i⟩ ⟨_, i3_lt i⟩

theorem mask97 : Scalar.select (h_v97 (F := Ideal) i) x y = if (i 3).val = 0 + 64 * (1 - (i 2).val) then x else y := by
  have h2 := i2_lt i
  have h3 := i3_lt i
  rw [h_v97_apply, h_v66_apply, h_v96_apply, h_v95_apply, h_v94_apply, h_v93_apply, h_v92_apply, h_v91_apply, h_v67_apply, h_c_9_apply, h_c_10_apply, h_c_11_apply]
  exact (congrArg (fun b => Scalar.select (IntOp.cmpi .eq (BitVec.ofNat 32 (i 3).val) b) x y) (lane_eq 0 h2)).trans
    (sel_eq (by omega) (by omega) x y)

theorem mask104 : Scalar.select (h_v104 (F := Ideal) i) x y = if (i 3).val = 1 + 64 * (1 - (i 2).val) then x else y := by
  have h2 := i2_lt i
  have h3 := i3_lt i
  rw [h_v104_apply, h_v66_apply, h_v103_apply, h_v102_apply, h_v101_apply, h_v100_apply, h_v99_apply, h_v98_apply, h_v67_apply, h_c_12_apply, h_c_13_apply, h_c_14_apply]
  exact (congrArg (fun b => Scalar.select (IntOp.cmpi .eq (BitVec.ofNat 32 (i 3).val) b) x y) (lane_eq 1 h2)).trans
    (sel_eq (by omega) (by omega) x y)

theorem mask111 : Scalar.select (h_v111 (F := Ideal) i) x y = if (i 3).val = 2 + 64 * (1 - (i 2).val) then x else y := by
  have h2 := i2_lt i
  have h3 := i3_lt i
  rw [h_v111_apply, h_v66_apply, h_v110_apply, h_v109_apply, h_v108_apply, h_v107_apply, h_v106_apply, h_v105_apply, h_v67_apply, h_c_15_apply, h_c_16_apply, h_c_17_apply]
  exact (congrArg (fun b => Scalar.select (IntOp.cmpi .eq (BitVec.ofNat 32 (i 3).val) b) x y) (lane_eq 2 h2)).trans
    (sel_eq (by omega) (by omega) x y)

theorem mask118 : Scalar.select (h_v118 (F := Ideal) i) x y = if 3 + 64 * (1 - (i 2).val) ≤ (i 3).val then x else y := by
  have h2 := i2_lt i
  have h3 := i3_lt i
  rw [h_v118_apply, h_v66_apply, h_v117_apply, h_v116_apply, h_v115_apply, h_v114_apply, h_v113_apply, h_v112_apply, h_v67_apply, h_c_18_apply, h_c_19_apply, h_c_20_apply]
  exact (congrArg (fun b => Scalar.select (IntOp.cmpi .sge (BitVec.ofNat 32 (i 3).val) b) x y) (lane_eq 3 h2)).trans
    (sel_sge (by omega) (by omega) x y)

theorem mask125 : Scalar.select (h_v125 (F := Ideal) i) x y = if (i 3).val < 6 + 64 * (1 - (i 2).val) then x else y := by
  have h2 := i2_lt i
  have h3 := i3_lt i
  rw [h_v125_apply, h_v66_apply, h_v124_apply, h_v123_apply, h_v122_apply, h_v121_apply, h_v120_apply, h_v119_apply, h_v67_apply, h_c_21_apply, h_c_22_apply, h_c_23_apply]
  exact (congrArg (fun b => Scalar.select (IntOp.cmpi .slt (BitVec.ofNat 32 (i 3).val) b) x y) (lane_eq 6 h2)).trans
    (Hand.sel_slt (by omega) (by omega) x y)

theorem mask140 : Scalar.select (h_v140 (F := Ideal) i) x y = if 0 + 64 * (1 - (i 2).val) ≤ (i 3).val then x else y := by
  have h2 := i2_lt i
  have h3 := i3_lt i
  rw [h_v140_apply, h_v66_apply, h_v139_apply, h_v138_apply, h_v137_apply, h_v136_apply, h_v135_apply, h_v134_apply, h_v67_apply, h_c_26_apply, h_c_27_apply, h_c_28_apply]
  exact (congrArg (fun b => Scalar.select (IntOp.cmpi .sge (BitVec.ofNat 32 (i 3).val) b) x y) (lane_eq 0 h2)).trans
    (sel_sge (by omega) (by omega) x y)

theorem mask147 : Scalar.select (h_v147 (F := Ideal) i) x y = if (i 3).val < 3 + 64 * (1 - (i 2).val) then x else y := by
  have h2 := i2_lt i
  have h3 := i3_lt i
  rw [h_v147_apply, h_v66_apply, h_v146_apply, h_v145_apply, h_v144_apply, h_v143_apply, h_v142_apply, h_v141_apply, h_v67_apply, h_c_29_apply, h_c_30_apply, h_c_31_apply]
  exact (congrArg (fun b => Scalar.select (IntOp.cmpi .slt (BitVec.ofNat 32 (i 3).val) b) x y) (lane_eq 3 h2)).trans
    (Hand.sel_slt (by omega) (by omega) x y)

theorem mask155 : Scalar.select (h_v155 (F := Ideal) i) x y = if (i 3).val = 3 + 64 * (1 - (i 2).val) then x else y := by
  have h2 := i2_lt i
  have h3 := i3_lt i
  rw [h_v155_apply, h_v66_apply, h_v154_apply, h_v153_apply, h_v152_apply, h_v151_apply, h_v150_apply, h_v149_apply, h_v67_apply, h_c_32_apply, h_c_33_apply, h_c_34_apply]
  exact (congrArg (fun b => Scalar.select (IntOp.cmpi .eq (BitVec.ofNat 32 (i 3).val) b) x y) (lane_eq 3 h2)).trans
    (sel_eq (by omega) (by omega) x y)

theorem mask163 : Scalar.select (h_v163 (F := Ideal) i) x y = if (i 3).val = 4 + 64 * (1 - (i 2).val) then x else y := by
  have h2 := i2_lt i
  have h3 := i3_lt i
  rw [h_v163_apply, h_v66_apply, h_v162_apply, h_v161_apply, h_v160_apply, h_v159_apply, h_v158_apply, h_v157_apply, h_v67_apply, h_c_35_apply, h_c_36_apply, h_c_37_apply]
  exact (congrArg (fun b => Scalar.select (IntOp.cmpi .eq (BitVec.ofNat 32 (i 3).val) b) x y) (lane_eq 4 h2)).trans
    (sel_eq (by omega) (by omega) x y)

theorem mask171 : Scalar.select (h_v171 (F := Ideal) i) x y = if (i 3).val = 5 + 64 * (1 - (i 2).val) then x else y := by
  have h2 := i2_lt i
  have h3 := i3_lt i
  rw [h_v171_apply, h_v66_apply, h_v170_apply, h_v169_apply, h_v168_apply, h_v167_apply, h_v166_apply, h_v165_apply, h_v67_apply, h_c_38_apply, h_c_39_apply, h_c_40_apply]
  exact (congrArg (fun b => Scalar.select (IntOp.cmpi .eq (BitVec.ofNat 32 (i 3).val) b) x y) (lane_eq 5 h2)).trans
    (sel_eq (by omega) (by omega) x y)

theorem mask179 : Scalar.select (h_v179 (F := Ideal) i) x y = if 6 + 64 * (1 - (i 2).val) ≤ (i 3).val then x else y := by
  have h2 := i2_lt i
  have h3 := i3_lt i
  rw [h_v179_apply, h_v66_apply, h_v178_apply, h_v177_apply, h_v176_apply, h_v175_apply, h_v174_apply, h_v173_apply, h_v67_apply, h_c_41_apply, h_c_42_apply, h_c_43_apply]
  exact (congrArg (fun b => Scalar.select (IntOp.cmpi .sge (BitVec.ofNat 32 (i 3).val) b) x y) (lane_eq 6 h2)).trans
    (sel_sge (by omega) (by omega) x y)

theorem mask186 : Scalar.select (h_v186 (F := Ideal) i) x y = if (i 3).val < 9 + 64 * (1 - (i 2).val) then x else y := by
  have h2 := i2_lt i
  have h3 := i3_lt i
  rw [h_v186_apply, h_v66_apply, h_v185_apply, h_v184_apply, h_v183_apply, h_v182_apply, h_v181_apply, h_v180_apply, h_v67_apply, h_c_44_apply, h_c_45_apply, h_c_46_apply]
  exact (congrArg (fun b => Scalar.select (IntOp.cmpi .slt (BitVec.ofNat 32 (i 3).val) b) x y) (lane_eq 9 h2)).trans
    (Hand.sel_slt (by omega) (by omega) x y)

theorem mask202 : Scalar.select (h_v202 (F := Ideal) i) x y = if 0 + 64 * (1 - (i 2).val) ≤ (i 3).val then x else y := by
  have h2 := i2_lt i
  have h3 := i3_lt i
  rw [h_v202_apply, h_v66_apply, h_v201_apply, h_v200_apply, h_v199_apply, h_v198_apply, h_v197_apply, h_v196_apply, h_v67_apply, h_c_50_apply, h_c_51_apply, h_c_52_apply]
  exact (congrArg (fun b => Scalar.select (IntOp.cmpi .sge (BitVec.ofNat 32 (i 3).val) b) x y) (lane_eq 0 h2)).trans
    (sel_sge (by omega) (by omega) x y)

theorem mask209 : Scalar.select (h_v209 (F := Ideal) i) x y = if (i 3).val < 3 + 64 * (1 - (i 2).val) then x else y := by
  have h2 := i2_lt i
  have h3 := i3_lt i
  rw [h_v209_apply, h_v66_apply, h_v208_apply, h_v207_apply, h_v206_apply, h_v205_apply, h_v204_apply, h_v203_apply, h_v67_apply, h_c_53_apply, h_c_54_apply, h_c_55_apply]
  exact (congrArg (fun b => Scalar.select (IntOp.cmpi .slt (BitVec.ofNat 32 (i 3).val) b) x y) (lane_eq 3 h2)).trans
    (Hand.sel_slt (by omega) (by omega) x y)

theorem mask235 : Scalar.select (h_v235 (F := Ideal) i) x y = if (i 3).val = 6 + 64 * (1 - (i 2).val) then x else y := by
  have h2 := i2_lt i
  have h3 := i3_lt i
  rw [h_v235_apply, h_v66_apply, h_v234_apply, h_v233_apply, h_v232_apply, h_v231_apply, h_v230_apply, h_v229_apply, h_v67_apply, h_c_58_apply, h_c_59_apply, h_c_60_apply]
  exact (congrArg (fun b => Scalar.select (IntOp.cmpi .eq (BitVec.ofNat 32 (i 3).val) b) x y) (lane_eq 6 h2)).trans
    (sel_eq (by omega) (by omega) x y)

theorem mask242 : Scalar.select (h_v242 (F := Ideal) i) x y = if (i 3).val = 7 + 64 * (1 - (i 2).val) then x else y := by
  have h2 := i2_lt i
  have h3 := i3_lt i
  rw [h_v242_apply, h_v66_apply, h_v241_apply, h_v240_apply, h_v239_apply, h_v238_apply, h_v237_apply, h_v236_apply, h_v67_apply, h_c_61_apply, h_c_62_apply, h_c_63_apply]
  exact (congrArg (fun b => Scalar.select (IntOp.cmpi .eq (BitVec.ofNat 32 (i 3).val) b) x y) (lane_eq 7 h2)).trans
    (sel_eq (by omega) (by omega) x y)

theorem mask249 : Scalar.select (h_v249 (F := Ideal) i) x y = if (i 3).val = 8 + 64 * (1 - (i 2).val) then x else y := by
  have h2 := i2_lt i
  have h3 := i3_lt i
  rw [h_v249_apply, h_v66_apply, h_v248_apply, h_v247_apply, h_v246_apply, h_v245_apply, h_v244_apply, h_v243_apply, h_v67_apply, h_c_64_apply, h_c_65_apply, h_c_66_apply]
  exact (congrArg (fun b => Scalar.select (IntOp.cmpi .eq (BitVec.ofNat 32 (i 3).val) b) x y) (lane_eq 8 h2)).trans
    (sel_eq (by omega) (by omega) x y)

theorem mask278 : Scalar.select (h_v278 (F := Ideal) i) x y = if (i 3).val = 0 + 64 * (1 - (i 2).val) then x else y := by
  have h2 := i2_lt i
  have h3 := i3_lt i
  rw [h_v278_apply, h_v66_apply, h_v277_apply, h_v276_apply, h_v275_apply, h_v274_apply, h_v273_apply, h_v272_apply, h_v67_apply, h_c_67_apply, h_c_68_apply, h_c_69_apply]
  exact (congrArg (fun b => Scalar.select (IntOp.cmpi .eq (BitVec.ofNat 32 (i 3).val) b) x y) (lane_eq 0 h2)).trans
    (sel_eq (by omega) (by omega) x y)

theorem mask285 : Scalar.select (h_v285 (F := Ideal) i) x y = if (i 3).val = 1 + 64 * (1 - (i 2).val) then x else y := by
  have h2 := i2_lt i
  have h3 := i3_lt i
  rw [h_v285_apply, h_v66_apply, h_v284_apply, h_v283_apply, h_v282_apply, h_v281_apply, h_v280_apply, h_v279_apply, h_v67_apply, h_c_70_apply, h_c_71_apply, h_c_72_apply]
  exact (congrArg (fun b => Scalar.select (IntOp.cmpi .eq (BitVec.ofNat 32 (i 3).val) b) x y) (lane_eq 1 h2)).trans
    (sel_eq (by omega) (by omega) x y)

theorem mask292 : Scalar.select (h_v292 (F := Ideal) i) x y = if (i 3).val = 2 + 64 * (1 - (i 2).val) then x else y := by
  have h2 := i2_lt i
  have h3 := i3_lt i
  rw [h_v292_apply, h_v66_apply, h_v291_apply, h_v290_apply, h_v289_apply, h_v288_apply, h_v287_apply, h_v286_apply, h_v67_apply, h_c_73_apply, h_c_74_apply, h_c_75_apply]
  exact (congrArg (fun b => Scalar.select (IntOp.cmpi .eq (BitVec.ofNat 32 (i 3).val) b) x y) (lane_eq 2 h2)).trans
    (sel_eq (by omega) (by omega) x y)

theorem mask126 : Scalar.select (h_v126 (F := Ideal) i) x y
    = if 3 + 64 * (1 - (i 2).val) ≤ (i 3).val then if (i 3).val < 6 + 64 * (1 - (i 2).val) then x else y else y := by
  rw [h_v126_apply, sel_and, mask118, mask125]

theorem mask148 : Scalar.select (h_v148 (F := Ideal) i) x y
    = if 0 + 64 * (1 - (i 2).val) ≤ (i 3).val then if (i 3).val < 3 + 64 * (1 - (i 2).val) then x else y else y := by
  rw [h_v148_apply, sel_and, mask140, mask147]

theorem mask187 : Scalar.select (h_v187 (F := Ideal) i) x y
    = if 6 + 64 * (1 - (i 2).val) ≤ (i 3).val then if (i 3).val < 9 + 64 * (1 - (i 2).val) then x else y else y := by
  rw [h_v187_apply, sel_and, mask179, mask186]

theorem mask210 : Scalar.select (h_v210 (F := Ideal) i) x y
    = if 0 + 64 * (1 - (i 2).val) ≤ (i 3).val then if (i 3).val < 3 + 64 * (1 - (i 2).val) then x else y else y := by
  rw [h_v210_apply, sel_and, mask202, mask209]

variable {x0 x1 x2 x4 : S8192x512.Idx → EReal} {x3 : S8192x8.Idx → EReal} {q k v g f : ℕ → ℕ → ℝ}

/-- The columns of a pair of heads. -/
theorem pair_col (a : ℕ → ℕ → ℝ) {t p l : ℕ} (hp : p < 4) (hl : l < 128) :
    a ((((t * 4 + p) * 1 + 0) * 128 + l) / 512) ((((t * 4 + p) * 1 + 0) * 128 + l) % 512) = a t (128 * p + l) :=
  congrArg₂ a (by omega) (by omega)

theorem own_col (a : ℕ → ℕ → ℝ) {t p e l : ℕ} (he : e < 2) (hl : l < 128) (h : 64 ≤ l ↔ e = 1) :
    a t (128 * p + l) = a t (64 * (2 * p + e) + (l - 64 * e)) := congrArg (a t) (by omega)

theorem v90 (H : Reads x0 x1 x2 x4 x3 q k v g f) :
    h_v90 (F := Ideal) x0 i = ((q (i 0).val (128 * (i 1).val + (i 3).val) : ℝ) : EReal) := by
  rw [h_v90_apply, h_v89_apply, v1 H]
  exact congrArg _ (pair_col q (i 1).isLt (i 3).isLt)

theorem v133 (H : Reads x0 x1 x2 x4 x3 q k v g f) :
    h_v133 (F := Ideal) x1 i = ((k (i 0).val (128 * (i 1).val + (i 3).val) : ℝ) : EReal) := by
  rw [h_v133_apply, h_v132_apply, H.h1]
  exact congrArg _ (pair_col k (i 1).isLt (i 3).isLt)

theorem v195 (H : Reads x0 x1 x2 x4 x3 q k v g f) :
    h_v195 (F := Ideal) x2 i = ((v (i 0).val (128 * (i 1).val + (i 3).val) : ℝ) : EReal) := by
  rw [h_v195_apply, h_v194_apply, H.h2]
  exact congrArg _ (pair_col v (i 1).isLt (i 3).isLt)

theorem v271 (H : Reads x0 x1 x2 x4 x3 q k v g f) :
    h_v271 (F := Ideal) x4 i = ((g (i 0).val (128 * (i 1).val + (i 3).val) : ℝ) : EReal) := by
  rw [h_v271_apply, h_v270_apply, H.h4]
  exact congrArg _ (pair_col g (i 1).isLt (i 3).isLt)

/-- A head's number at its lanes. -/
theorem head_at (a : ℕ → ℕ → ℝ) {t p e : ℕ} (hp : p < 4) (he : e < 2) :
    a ((((t * 4 + p) * 2 + e) * 1 + 0) / 8) ((((t * 4 + p) * 2 + e) * 1 + 0) % 8) = a t (2 * p + e) :=
  congrArg₂ a (by omega) (by omega)

/-- What is left of a real once it is taken away, -/
theorem rest_zero (r : ℝ) : (r : EReal) - (r : EReal) = ((0 : ℝ) : EReal) := by
  rw [← EReal.coe_sub, sub_self]

/-- twice. -/
theorem rest_zero' : ((0 : ℝ) : EReal) - ((0 : ℝ) : EReal) = ((0 : ℝ) : EReal) := rest_zero 0

/-- The first piece is the number, -/
theorem hi73 (H : Reads x0 x1 x2 x4 x3 q k v g f) :
    h_v84 (F := Ideal) x3 i = ((f (i 0).val (2 * (i 1).val + (i 2).val) : ℝ) : EReal) := by
  rw [h_v84_apply, h_v83_apply, h_v80_apply, h_v73_apply, Ideal.extf_def, Ideal.truncf_def, H.h3]
  exact congrArg _ (head_at f (i 1).isLt (i 2).isLt)

theorem rest73 (H : Reads x0 x1 x2 x4 x3 q k v g f) (j : S8192x8.Idx) : h_v75 (F := Ideal) x3 j = ((0 : ℝ) : EReal) := by
  rw [h_v75_apply, h_v74_apply, h_v73_apply, Ideal.subf_def, Ideal.extf_def, Ideal.truncf_def, H.h3, rest_zero]

/-- the other two are zero. -/
theorem mid73 (H : Reads x0 x1 x2 x4 x3 q k v g f) : h_v86 (F := Ideal) x3 i = ((0 : ℝ) : EReal) := by
  rw [h_v86_apply, h_v85_apply, h_v81_apply, h_v76_apply, Ideal.extf_def, Ideal.truncf_def, rest73 H]

theorem lo73 (H : Reads x0 x1 x2 x4 x3 q k v g f) : h_v88 (F := Ideal) x3 i = ((0 : ℝ) : EReal) := by
  rw [h_v88_apply, h_v87_apply, h_v82_apply, h_v79_apply, h_v78_apply, h_v77_apply, h_v76_apply,
    Ideal.extf_def, Ideal.truncf_def, Ideal.truncf_def, Ideal.extf_def, Ideal.subf_def, rest73 H, rest_zero']

/-- The logarithm of the normaliser by rows. -/
theorem s28 (H : Reads x0 x1 x2 x4 x3 q k v g f) (j : S8192x8.Idx) :
    h_v28 (F := Ideal) x0 x1 x3 j = ((Real.log (tot q k f (j 1).val (j 0).val) : ℝ) : EReal) := by
  rw [h_v28_apply, v27 H]

/-- The first piece is the number, -/
theorem hi213 (H : Reads x0 x1 x2 x4 x3 q k v g f) :
    h_v224 (F := Ideal) x0 x1 x3 i = ((Real.log (tot q k f (2 * (i 1).val + (i 2).val) (i 0).val) : ℝ) : EReal) := by
  rw [h_v224_apply, h_v223_apply, h_v220_apply, h_v213_apply, Ideal.extf_def, Ideal.truncf_def, s28 H]
  exact congrArg _ (head_at (fun t h => Real.log (tot q k f h t)) (i 1).isLt (i 2).isLt)

theorem rest213 (H : Reads x0 x1 x2 x4 x3 q k v g f) (j : S8192x8.Idx) : h_v215 (F := Ideal) x0 x1 x3 j = ((0 : ℝ) : EReal) := by
  rw [h_v215_apply, h_v214_apply, h_v213_apply, Ideal.subf_def, Ideal.extf_def, Ideal.truncf_def, s28 H, rest_zero]

/-- the other two are zero. -/
theorem mid213 (H : Reads x0 x1 x2 x4 x3 q k v g f) : h_v226 (F := Ideal) x0 x1 x3 i = ((0 : ℝ) : EReal) := by
  rw [h_v226_apply, h_v225_apply, h_v221_apply, h_v216_apply, Ideal.extf_def, Ideal.truncf_def, rest213 H]

theorem lo213 (H : Reads x0 x1 x2 x4 x3 q k v g f) : h_v228 (F := Ideal) x0 x1 x3 i = ((0 : ℝ) : EReal) := by
  rw [h_v228_apply, h_v227_apply, h_v222_apply, h_v219_apply, h_v218_apply, h_v217_apply, h_v216_apply,
    Ideal.extf_def, Ideal.truncf_def, Ideal.truncf_def, Ideal.extf_def, Ideal.subf_def, rest213 H, rest_zero']

/-- Minus the inner product. -/
theorem s253 (H : Reads x0 x1 x2 x4 x3 q k v g f) (j : S8192x8.Idx) :
    h_v253 (F := Ideal) x0 x1 x2 x3 x4 j = ((-delta q k v g f (j 1).val (j 0).val : ℝ) : EReal) := by
  rw [h_v253_apply, v65 H, Ideal.hostNegf_def, Ideal.negf_def, ← EReal.coe_neg]

/-- The first piece is the number, -/
theorem hi254 (H : Reads x0 x1 x2 x4 x3 q k v g f) :
    h_v265 (F := Ideal) x0 x1 x2 x3 x4 i = ((-delta q k v g f (2 * (i 1).val + (i 2).val) (i 0).val : ℝ) : EReal) := by
  rw [h_v265_apply, h_v264_apply, h_v261_apply, h_v254_apply, Ideal.extf_def, Ideal.truncf_def, s253 H]
  exact congrArg _ (head_at (fun t h => -delta q k v g f h t) (i 1).isLt (i 2).isLt)

theorem rest254 (H : Reads x0 x1 x2 x4 x3 q k v g f) (j : S8192x8.Idx) : h_v256 (F := Ideal) x0 x1 x2 x3 x4 j = ((0 : ℝ) : EReal) := by
  rw [h_v256_apply, h_v255_apply, h_v254_apply, Ideal.subf_def, Ideal.extf_def, Ideal.truncf_def, s253 H, rest_zero]

/-- the other two are zero. -/
theorem mid254 (H : Reads x0 x1 x2 x4 x3 q k v g f) : h_v267 (F := Ideal) x0 x1 x2 x3 x4 i = ((0 : ℝ) : EReal) := by
  rw [h_v267_apply, h_v266_apply, h_v262_apply, h_v257_apply, Ideal.extf_def, Ideal.truncf_def, rest254 H]

theorem lo254 (H : Reads x0 x1 x2 x4 x3 q k v g f) : h_v269 (F := Ideal) x0 x1 x2 x3 x4 i = ((0 : ℝ) : EReal) := by
  rw [h_v269_apply, h_v268_apply, h_v263_apply, h_v260_apply, h_v259_apply, h_v258_apply, h_v257_apply,
    Ideal.extf_def, Ideal.truncf_def, Ideal.truncf_def, Ideal.extf_def, Ideal.subf_def, rest254 H, rest_zero']

/-- The constants of the masks. -/
theorem one_val : (FloatOps.ofBits (F := Ideal) .f32 0x3F800000#32 : EReal) = ((1 : ℝ) : EReal) := by
  rw [Ideal.ofBits_def, Ideal.ofBits_one_f32]; rfl
theorem zero_val : (FloatOps.ofBits (F := Ideal) .f32 0x00000000#32 : EReal) = ((0 : ℝ) : EReal) := by
  rw [Ideal.ofBits_def, Ideal.ofBits_zero_f32]; rfl
theorem neg_one_val : (FloatOps.ofBits (F := Ideal) .f32 0xBF800000#32 : EReal) = ((-1 : ℝ) : EReal) := by
  rw [Ideal.ofBits_def, neg_one]

/-- The lanes of the queries, -/
theorem hq_ifs (n : ℕ) (h t : ℕ) :
    (if n = 6 then ((Real.log (tot q k f h t) : ℝ) : EReal) else if n = 7 then ((0 : ℝ) : EReal) else if n = 8 then ((0 : ℝ) : EReal)
      else if n = 0 then ((f t h : ℝ) : EReal) else if n = 1 then ((0 : ℝ) : EReal) else if n = 2 then ((0 : ℝ) : EReal)
      else if 3 ≤ n then if n < 6 then ((1 : ℝ) : EReal) else ((0 : ℝ) : EReal) else ((0 : ℝ) : EReal))
      = ((hq q k f h t n : ℝ) : EReal) := by
  unfold hq
  split_ifs <;> first | rfl | (exfalso; omega)

/-- keys, -/
theorem hk_ifs (n : ℕ) (h t : ℕ) :
    (if 0 ≤ n then if n < 3 then ((1 : ℝ) : EReal) else if n = 3 then ((-f t h : ℝ) : EReal) else if n = 4 then ((0 : ℝ) : EReal)
        else if n = 5 then ((0 : ℝ) : EReal) else if 6 ≤ n then if n < 9 then ((-1 : ℝ) : EReal) else ((0 : ℝ) : EReal)
        else ((0 : ℝ) : EReal)
      else if n = 3 then ((-f t h : ℝ) : EReal) else if n = 4 then ((0 : ℝ) : EReal)
        else if n = 5 then ((0 : ℝ) : EReal) else if 6 ≤ n then if n < 9 then ((-1 : ℝ) : EReal) else ((0 : ℝ) : EReal)
        else ((0 : ℝ) : EReal))
      = ((hk f h t n : ℝ) : EReal) := by
  rw [if_pos (Nat.zero_le n)]
  unfold hk
  split_ifs <;> first | rfl | (exfalso; omega)

/-- values, -/
theorem hv_ifs (n : ℕ) :
    (if 0 ≤ n then if n < 3 then ((1 : ℝ) : EReal) else ((0 : ℝ) : EReal) else ((0 : ℝ) : EReal)) = ((hv n : ℝ) : EReal) := by
  unfold hv
  split_ifs <;> first | rfl | (exfalso; omega)

/-- and cotangents. -/
theorem hd_ifs (n : ℕ) (h t : ℕ) :
    (if n = 0 then ((-delta q k v g f h t : ℝ) : EReal) else if n = 1 then ((0 : ℝ) : EReal) else if n = 2 then ((0 : ℝ) : EReal)
      else ((0 : ℝ) : EReal)) = ((hd q k v g f h t n : ℝ) : EReal) := by
  unfold hd
  split_ifs <;> first | rfl | (exfalso; omega)

/-- The augmented queries, -/
theorem qb (H : Reads x0 x1 x2 x4 x3 q k v g f) :
    h_v252 (F := Ideal) x0 x1 x3 i
      = ((aug (fun d => q (i 0).val (64 * (2 * (i 1).val + (i 2).val) + d)) (hq q k f (2 * (i 1).val + (i 2).val) (i 0).val)
          (i 2).val (i 3).val : ℝ) : EReal) := by
  rw [h_v252_apply, h_v251_apply, h_v250_apply, h_v131_apply, h_v130_apply, h_v129_apply, h_v128_apply, h_call3_v0_apply,
    h_v127_apply, mask235, mask242, mask249, own, mask97, mask104, mask111, mask126, hi213 i H, mid213 i H, lo213 i H, hi73 i H,
    mid73 i H, lo73 i H, v90 i H, h_call2_v0_apply, h_call2_v1_apply, h_cst_24_apply, h_cst_25_apply, one_val, zero_val]
  have h2 := i2_lt i
  have h3 := i3_lt i
  generalize (i 2).val = e at *
  generalize (i 3).val = l at *
  unfold aug
  by_cases ho : 64 ≤ l ↔ e = 1
  · rw [if_neg (by omega), if_neg (by omega), if_neg (by omega), if_pos ho, if_pos ho]
    exact congrArg _ (own_col q h2 h3 ho)
  · obtain ⟨n, rfl⟩ : ∃ n, l = n + 64 * (1 - e) := ⟨l - 64 * (1 - e), by omega⟩
    rw [if_neg ho]
    simp only [if_neg ho, Nat.add_right_cancel_iff, Nat.add_le_add_iff_right, Nat.add_lt_add_iff_right, Nat.add_sub_cancel]
    exact hq_ifs n _ _

/-- keys, -/
theorem ka (H : Reads x0 x1 x2 x4 x3 q k v g f) :
    h_v193 (F := Ideal) x1 x3 i
      = ((aug (fun d => k (i 0).val (64 * (2 * (i 1).val + (i 2).val) + d)) (hk f (2 * (i 1).val + (i 2).val) (i 0).val)
          (i 2).val (i 3).val : ℝ) : EReal) := by
  rw [h_v193_apply, h_v192_apply, h_v191_apply, h_v190_apply, h_v189_apply, h_call8_v0_apply, h_v188_apply, own, mask148, mask155, mask163,
    mask171, mask187, h_v156_apply, h_v164_apply, h_v172_apply, hi73 i H, mid73 i H, lo73 i H, v133 i H, h_call7_v0_apply, h_call7_v1_apply, h_cst_47_apply,
    h_cst_48_apply, h_call11_v1_apply, h_call11_v0_apply, h_cst_49_apply, one_val, zero_val, neg_one_val, Ideal.hostNegf_def,
    Ideal.negf_def, Ideal.hostNegf_def, Ideal.negf_def, ← EReal.coe_neg, ← EReal.coe_neg, neg_zero]
  have h2 := i2_lt i
  have h3 := i3_lt i
  generalize (i 2).val = e at *
  generalize (i 3).val = l at *
  unfold aug
  by_cases ho : 64 ≤ l ↔ e = 1
  · rw [if_pos ho, if_pos ho]
    exact congrArg _ (own_col k h2 h3 ho)
  · obtain ⟨n, rfl⟩ : ∃ n, l = n + 64 * (1 - e) := ⟨l - 64 * (1 - e), by omega⟩
    rw [if_neg ho]
    simp only [if_neg ho, Nat.add_right_cancel_iff, Nat.add_le_add_iff_right, Nat.add_lt_add_iff_right, Nat.add_sub_cancel]
    exact hk_ifs n _ _

/-- values -/
theorem va (H : Reads x0 x1 x2 x4 x3 q k v g f) :
    h_v212 (F := Ideal) x2 i
      = ((aug (fun d => v (i 0).val (64 * (2 * (i 1).val + (i 2).val) + d)) (hv)
          (i 2).val (i 3).val : ℝ) : EReal) := by
  rw [h_v212_apply, h_call14_v0_apply, h_v211_apply, own, mask210, v195 i H, h_call13_v0_apply, h_call13_v1_apply, h_cst_56_apply,
    h_cst_57_apply, one_val, zero_val]
  have h2 := i2_lt i
  have h3 := i3_lt i
  generalize (i 2).val = e at *
  generalize (i 3).val = l at *
  unfold aug
  by_cases ho : 64 ≤ l ↔ e = 1
  · rw [if_pos ho, if_pos ho]
    exact congrArg _ (own_col v h2 h3 ho)
  · obtain ⟨n, rfl⟩ : ∃ n, l = n + 64 * (1 - e) := ⟨l - 64 * (1 - e), by omega⟩
    rw [if_neg ho]
    simp only [if_neg ho, Nat.add_right_cancel_iff, Nat.add_le_add_iff_right, Nat.add_lt_add_iff_right, Nat.add_sub_cancel]
    exact hv_ifs n

/-- and cotangents. -/
theorem doa (H : Reads x0 x1 x2 x4 x3 q k v g f) :
    h_v296 (F := Ideal) x0 x1 x2 x3 x4 i
      = ((aug (fun d => g (i 0).val (64 * (2 * (i 1).val + (i 2).val) + d)) (hd q k v g f (2 * (i 1).val + (i 2).val) (i 0).val)
          (i 2).val (i 3).val : ℝ) : EReal) := by
  rw [h_v296_apply, h_v295_apply, h_v294_apply, h_v293_apply, own, mask278, mask285, mask292, hi254 i H, mid254 i H, lo254 i H,
    v271 i H, h_call18_v1_apply, h_call18_v0_apply, h_cst_76_apply, zero_val]
  have h2 := i2_lt i
  have h3 := i3_lt i
  generalize (i 2).val = e at *
  generalize (i 3).val = l at *
  unfold aug
  by_cases ho : 64 ≤ l ↔ e = 1
  · rw [if_pos ho, if_pos ho]
    exact congrArg _ (own_col g h2 h3 ho)
  · obtain ⟨n, rfl⟩ : ∃ n, l = n + 64 * (1 - e) := ⟨l - 64 * (1 - e), by omega⟩
    rw [if_neg ho]
    simp only [if_neg ho, Nat.add_right_cancel_iff, Nat.add_le_add_iff_right, Nat.add_lt_add_iff_right, Nat.add_sub_cancel]
    exact hd_ifs n _ _

/-- Where an entry of the flat operand lies among the pairs and their halves. -/
theorem flat (a : ℕ → ℕ → ℕ → ℕ → ℝ) {t h l : ℕ} (hh : h < 8) (hl : l < 128) :
    a ((t * 1024 + (128 * h + l)) / 1024) (2 * ((t * 1024 + (128 * h + l)) / 256 % 4) + (t * 1024 + (128 * h + l)) / 128 % 2)
      ((t * 1024 + (128 * h + l)) / 128 % 2) ((t * 1024 + (128 * h + l)) % 128) = a t h (h % 2) l := by
  have e0 : (t * 1024 + (128 * h + l)) / 1024 = t := by omega
  have e1 : 2 * ((t * 1024 + (128 * h + l)) / 256 % 4) + (t * 1024 + (128 * h + l)) / 128 % 2 = h := by omega
  have e2 : (t * 1024 + (128 * h + l)) / 128 % 2 = h % 2 := by omega
  have e3 : (t * 1024 + (128 * h + l)) % 128 = l := by omega
  rw [e1, e0, e2, e3]

/-- The four operands hold the augmented rows. -/
theorem holds (H : Reads x0 x1 x2 x4 x3 q k v g f) :
    Hand.Holds q k v g f (h_v298 (F := Ideal) x0 x1 x3) (h_v300 (F := Ideal) x0 x1 x2 x3 x4) (h_v302 (F := Ideal) x1 x3)
      (h_v304 (F := Ideal) x2) where
  hQ := fun t ht h hh l hl => by
    rw [Hand.at2_of_lt _ ht (by omega), h_v298_apply, h_v297_apply, Ideal.truncf_def, qb _ H]
    exact congrArg _ (flat (fun t h e l => aug (fun d => q t (64 * h + d)) (hq q k f h t) e l) hh hl)
  hD := fun t ht h hh l hl => by
    rw [Hand.at2_of_lt _ ht (by omega), h_v300_apply, h_v299_apply, Ideal.truncf_def, doa _ H]
    exact congrArg _ (flat (fun t h e l => aug (fun d => g t (64 * h + d)) (hd q k v g f h t) e l) hh hl)
  hK := fun t ht h hh l hl => by
    rw [Hand.at2_of_lt _ ht (by omega), h_v302_apply, h_v301_apply, Ideal.truncf_def, ka _ H]
    exact congrArg _ (flat (fun t h e l => aug (fun d => k t (64 * h + d)) (hk f h t) e l) hh hl)
  hW := fun t ht h hh l hl => by
    rw [Hand.at2_of_lt _ ht (by omega), h_v304_apply, h_v303_apply, Ideal.truncf_def, va _ H]
    exact congrArg _ (flat (fun t h e l => aug (fun d => v t (64 * h + d)) hv e l) hh hl)

end Cert.KernelIdeal.Host
-- ==== Proof.RVal.lean ====
module

public import proofs.«01_k».proof.Proof.HVal
public import proofs.«01_k».proof.Proof.Gen.ReferenceIdeal.Read

@[expose] public section

/-! The reference's five results on real arguments. -/

set_option maxRecDepth 16384

noncomputable section

namespace Cert.RefVal

open Cert.KernelIdeal Cert.KernelIdeal.Host Cert.Attn Cert.ReferenceIdeal.Read
open Idealize.ShloMosaic Idealize.ShloMosaic.TcCoe

variable {x0 x1 x2 x4 : S8192x512.Idx → EReal} {x3 : S8192x8.Idx → EReal} {q k v g f : ℕ → ℕ → ℝ}

/-- The cotangent by heads. -/
theorem r54 (H : Reads x0 x1 x2 x4 x3 q k v g f) (i : S8x8192x64.Idx) :
    val_main_v54 (F := Ideal) x4 i = ((g (i 1).val (64 * (i 0).val + (i 2).val) : ℝ) : EReal) := by
  rw [val_main_v54_apply, val_main_v53_apply, H.h4]
  have h0 : (i 0).val < 8 := (i 0).isLt
  have h2 : (i 2).val < 64 := (i 2).isLt
  exact congrArg₂ (fun a b => ((g a b : ℝ) : EReal)) (head_row h0 h2) (head_col h0 h2)

/-- The reference's queries, keys, values and probabilities are those of the host part of the kernel's program. -/
theorem r3 (i : S8x8192x64.Idx) : val_main_v3 (F := Ideal) x0 i = h_v3 (F := Ideal) x0 i := rfl
theorem r5 (i : S8x8192x64.Idx) : val_main_v5 (F := Ideal) x1 i = h_v5 (F := Ideal) x1 i := rfl
theorem r49 (i : S8x8192x64.Idx) : val_main_v49 (F := Ideal) x2 i = h_v59 (F := Ideal) x2 i := rfl
theorem r40 (i : S8x8192x8192.Idx) : val_main_v40 (F := Ideal) x0 x1 x3 i = h_v53 (F := Ideal) x0 x1 x3 i := rfl
theorem r41 (j : S8x8192.Idx) : val_main_v41 (F := Ideal) x0 x1 x3 j = h_v54 (F := Ideal) x0 x1 x3 j := rfl
theorem r44 (i : S8x8192x8192.Idx) : val_main_v44 (F := Ideal) x0 x1 x3 i = h_v57 (F := Ideal) x0 x1 x3 i := rfl

/-- The inner products of cotangents and values. -/
theorem r57 (H : Reads x0 x1 x2 x4 x3 q k v g f) (i : S8x8192x8192.Idx) :
    val_main_v57 (F := Ideal) x2 x4 i = ((dprob v g (i 0).val (i 1).val (i 2).val : ℝ) : EReal) := by
  rw [val_main_v57_apply]
  simp only [r54 H, r49, v59 H, ← EReal.coe_mul]
  rw [← coe_sum]
  rfl

/-- The reciprocal of the squared normaliser. -/
theorem r47 (H : Reads x0 x1 x2 x4 x3 q k v g f) (j : S8x8192.Idx) (μ : ℝ) (hμ : h_v20 (F := Ideal) x0 x1 x3 j = (μ : EReal))
    (i : S8x8192x1.Idx) (hi : ix_v8 i = j) :
    val_main_v47 (F := Ideal) x0 x1 x3 i
      = ((1 / ((tot q k f (j 0).val (j 1).val * Real.exp (-μ)) * (tot q k f (j 0).val (j 1).val * Real.exp (-μ))) : ℝ) : EReal) := by
  have hp : 0 < tot q k f (j 0).val (j 1).val * Real.exp (-μ) := mul_pos (tot_pos q k f _ _ (j 1).isLt) (Real.exp_pos _)
  have ht : val_main_v42 (F := Ideal) x0 x1 x3 i = ((tot q k f (j 0).val (j 1).val * Real.exp (-μ) : ℝ) : EReal) := by
    rw [val_main_v42_apply, r41]
    exact (congrArg _ hi).trans (v54 H j μ hμ)
  rw [val_main_v47_apply, val_main_v46_apply, val_main_cst_10_apply, val_main_v45_apply, ht, one_val, Ideal.mulf_def, ← EReal.coe_mul,
    Ideal.hostDivf_def, Ideal.div_coe (mul_pos hp hp).ne', ← EReal.coe_mul, one_mul]

/-- The normaliser's part of the logits' gradient. -/
theorem r63 (H : Reads x0 x1 x2 x4 x3 q k v g f) (j : S8x8192.Idx) (μ : ℝ) (hμ : h_v20 (F := Ideal) x0 x1 x3 j = (μ : EReal)) :
    val_main_v63 (F := Ideal) x0 x1 x2 x3 x4 j
      = ((∑ s : Fin 8192, dprob v g (j 0).val (j 1).val s.val
          * (1 / ((tot q k f (j 0).val (j 1).val * Real.exp (-μ)) * (tot q k f (j 0).val (j 1).val * Real.exp (-μ))))
          * (wt q k f (j 0).val (j 1).val s.val * Real.exp (-μ)) : ℝ) : EReal) := by
  rw [val_main_v63_apply, val_main_cst_11_apply, zero_val, EReal.coe_zero, zero_add, coe_sum]
  refine Finset.sum_congr rfl fun s _ => ?_
  rw [val_main_v62_apply, val_main_v61_apply, val_main_v60_apply, r57 H, r40, Ideal.mulf_def, Ideal.mulf_def]
  rw [r47 H j μ hμ _ (funext fun a => Fin.ext (by match a with | ⟨0, _⟩ => rfl | ⟨1, _⟩ => rfl))]
  rw [show h_v53 (F := Ideal) x0 x1 x3 (idx_main_v63 j s) = _ from v53 H j μ hμ s, ← EReal.coe_mul, ← EReal.coe_mul]

/-- A row's place among the flat rows. -/
theorem row_div {h t : ℕ} (ht : t < 8192) : ((h * 8192 + t) * 1 + 0) / 8192 = h := by omega
theorem row_mod {h t : ℕ} (ht : t < 8192) : ((h * 8192 + t) * 1 + 0) % 8192 = t := by omega
theorem row_div' {h t : ℕ} (ht : t < 8192) : ((h * 1 + 0) * 8192 + t) / 8192 = h := by omega
theorem row_mod' {h t : ℕ} (ht : t < 8192) : ((h * 1 + 0) * 8192 + t) % 8192 = t := by omega

/-- The gradient of the logits, before the mask, -/
theorem r71 (H : Reads x0 x1 x2 x4 x3 q k v g f) (i : S8x8192x8192.Idx) :
    val_main_v71 (F := Ideal) x0 x1 x2 x3 x4 i = ((dlogit q k v g f (i 0).val (i 1).val (i 2).val : ℝ) : EReal) := by
  obtain ⟨μ, hμ⟩ := v20 H (ix_v8 (ix_v9 i))
  have hp : 0 < tot q k f (i 0).val (i 1).val * Real.exp (-μ) := mul_pos (tot_pos q k f _ _ (i 1).isLt) (Real.exp_pos _)
  have hw := v53 H _ μ hμ ⟨(i 2).val, (i 2).isLt⟩
  rw [← row_eq i] at hw
  rw [val_main_v71_apply, val_main_v70_apply, val_main_v67_apply, val_main_v66_apply, val_main_v42_apply, val_main_v69_apply,
    val_main_v68_apply, val_main_cst_12_apply, zero_val, EReal.coe_zero, zero_add, Fin.sum_univ_one, val_main_v65_apply,
    val_main_v64_apply, r57 H, r40, r41, hw]
  rw [show h_v54 (F := Ideal) x0 x1 x3 (idx_main_v42 (idx_main_v66 i))
    = ((tot q k f (i 0).val (i 1).val * Real.exp (-μ) : ℝ) : EReal) from v54 H _ μ hμ]
  rw [show val_main_v63 (F := Ideal) x0 x1 x2 x3 x4 (idx_main_v64 (idx_main_v68 (idx_main_v69 i) 0)) = _ from
    (congrArg _ (funext fun a => Fin.ext (by match a with | ⟨0, _⟩ => exact row_div (i 1).isLt | ⟨1, _⟩ => exact row_mod (i 1).isLt))).trans
      (r63 H _ μ hμ)]
  rw [Ideal.mulf_def, Ideal.addf_def, Ideal.hostNegf_def, Ideal.negf_def, Ideal.hostDivf_def, Ideal.div_coe hp.ne', ← EReal.coe_mul,
    ← EReal.coe_neg, ← EReal.coe_add, ← EReal.coe_mul, mul_one_div, ← dlogit_ref q k v g f μ _ _ _ (i 1).isLt]

/-- and after it. -/
theorem r72 (H : Reads x0 x1 x2 x4 x3 q k v g f) (i : S8x8192x8192.Idx) :
    val_main_v72 (F := Ideal) x0 x1 x2 x3 x4 i = ((dlogit q k v g f (i 0).val (i 1).val (i 2).val : ℝ) : EReal) := by
  rw [val_main_v72_apply, r71 H, val_main_call1_v0_apply, val_main_call1_cst_apply, zero_val]
  refine (causal i _ _).trans ?_
  split_ifs with h
  · rfl
  · rw [dlogit_above q k v g f _ _ _ (not_le.1 h)]

section Results

variable (H : Reads x0 x1 x2 x4 x3 q k v g f)
include H

/-- The reference's gradient of the queries, -/
theorem dq_val (y : S8192x512.Idx) : val_main_v87 (F := Ideal) x0 x1 x2 x3 x4 y
    = ((∑ s : Fin 8192, dlogit q k v g f ((y 1).val / 64) (y 0).val s.val * k s.val (y 1).val : ℝ) : EReal) := by
  have h0 : (y 0).val < 8192 := (y 0).isLt
  have h1 : (y 1).val < 512 := (y 1).isLt
  rw [val_main_v87_apply, val_main_v86_apply, val_main_v83_apply, coe_sum]
  refine Finset.sum_congr rfl fun s _ => ?_
  rw [r72 H, r5, v5 H, ← EReal.coe_mul]
  refine congrArg _ (congrArg₂ (· * ·) ?_ ?_)
  · exact congrArg₂ (fun a b => dlogit q k v g f a b s.val) (show ((y 0).val * 512 + (y 1).val) / 64 % 8 = _ by omega)
      (show ((y 0).val * 512 + (y 1).val) / 512 = _ by omega)
  · exact congrArg (k s.val) (show 64 * (((y 0).val * 512 + (y 1).val) / 64 % 8) + ((y 0).val * 512 + (y 1).val) % 64 = _ by omega)

/-- of the keys, -/
theorem dk_val (y : S8192x512.Idx) : val_main_v89 (F := Ideal) x0 x1 x2 x3 x4 y
    = ((∑ t : Fin 8192, dlogit q k v g f ((y 1).val / 64) t.val (y 0).val * q t.val (y 1).val : ℝ) : EReal) := by
  have h0 : (y 0).val < 8192 := (y 0).isLt
  have h1 : (y 1).val < 512 := (y 1).isLt
  rw [val_main_v89_apply, Ideal.truncf_def, val_main_v85_apply, val_main_v84_apply, val_main_v82_apply, coe_sum]
  refine Finset.sum_congr rfl fun t _ => ?_
  rw [r72 H, r3, v3 H, ← EReal.coe_mul]
  refine congrArg _ (congrArg₂ (· * ·) ?_ ?_)
  · exact congrArg₂ (fun a b => dlogit q k v g f a t.val b) (show ((y 0).val * 512 + (y 1).val) / 64 % 8 = _ by omega)
      (show ((y 0).val * 512 + (y 1).val) / 512 = _ by omega)
  · exact congrArg (q t.val) (show 64 * (((y 0).val * 512 + (y 1).val) / 64 % 8) + ((y 0).val * 512 + (y 1).val) % 64 = _ by omega)

/-- of the values, -/
theorem dv_val (y : S8192x512.Idx) : val_main_v90 (F := Ideal) x0 x1 x3 x4 y
    = ((∑ t : Fin 8192, prob q k f ((y 1).val / 64) t.val (y 0).val * g t.val (y 1).val : ℝ) : EReal) := by
  have h0 : (y 0).val < 8192 := (y 0).isLt
  have h1 : (y 1).val < 512 := (y 1).isLt
  rw [val_main_v90_apply, Ideal.truncf_def, val_main_v59_apply, val_main_v58_apply, val_main_v56_apply, val_main_v55_apply, coe_sum]
  refine Finset.sum_congr rfl fun t _ => ?_
  rw [r54 H, r44, v57 H, ← EReal.coe_mul, mul_comm]
  refine congrArg _ (congrArg₂ (· * ·) ?_ ?_)
  · exact congrArg₂ (fun a b => prob q k f a t.val b) (show ((y 0).val * 512 + (y 1).val) / 64 % 8 = _ by omega)
      (show ((y 0).val * 512 + (y 1).val) / 512 = _ by omega)
  · exact congrArg (g t.val) (show 64 * (((y 0).val * 512 + (y 1).val) / 64 % 8) + ((y 0).val * 512 + (y 1).val) % 64 = _ by omega)

/-- of the running sum at the query, -/
theorem r81 (j : S8192x8.Idx) : val_main_v81 (F := Ideal) x0 x1 x2 x3 x4 j
    = ((∑ s : Fin 8192, dlogit q k v g f (j 1).val (j 0).val s.val : ℝ) : EReal) := by
  rw [val_main_v81_apply, val_main_v80_apply, val_main_cst_16_apply, zero_val, EReal.coe_zero, zero_add, Fin.sum_univ_one,
    val_main_v79_apply, val_main_v78_apply, val_main_cst_15_apply, zero_val, EReal.coe_zero, zero_add, coe_sum]
  refine Finset.sum_congr rfl fun s _ => ?_
  rw [r72 H]
  exact congrArg₂ (fun a b => ((dlogit q k v g f a b s.val : ℝ) : EReal)) (row_div (j 0).isLt) (row_mod (j 0).isLt)

/-- and at the key. -/
theorem r91 (j : S8192x8.Idx) : val_main_v91 (F := Ideal) x0 x1 x2 x3 x4 j
    = ((∑ t : Fin 8192, dlogit q k v g f (j 1).val t.val (j 0).val : ℝ) : EReal) := by
  rw [val_main_v91_apply, val_main_v77_apply, val_main_v76_apply, val_main_cst_14_apply, zero_val, EReal.coe_zero, zero_add,
    Fin.sum_univ_one, val_main_v75_apply, val_main_v74_apply, val_main_cst_13_apply, zero_val, EReal.coe_zero, zero_add,
    Ideal.hostNegf_def, Ideal.negf_def]
  rw [show (∑ t : Fin 8192, dlogit q k v g f (j 1).val t.val (j 0).val) = -∑ t : Fin 8192, -dlogit q k v g f (j 1).val t.val (j 0).val by
    rw [Finset.sum_neg_distrib, neg_neg], EReal.coe_neg, coe_sum]
  refine congrArg _ (Finset.sum_congr rfl fun t _ => ?_)
  rw [val_main_v73_apply, r72 H, Ideal.hostNegf_def, Ideal.negf_def, ← EReal.coe_neg]
  exact congrArg₂ (fun a b => ((-dlogit q k v g f a t.val b : ℝ) : EReal)) (row_div' (j 0).isLt) (row_mod' (j 0).isLt)

omit H in
/-- Eight columns widened to 128 by zeros. -/
theorem pad_val (x : S8192x8.Idx → EReal) (w : S_.Idx → EReal) (hw : ∀ i, w i = ((0 : ℝ) : EReal)) (r : ℕ → ℕ → ℝ)
    (hx : ∀ j, x j = ((r (j 0).val (j 1).val : ℝ) : EReal)) (hp : S8192x8.Pads ![0, 0] ![0, 120] ![0, 0] S8192x128)
    (hu : 0 < S_.numel) (y : S8192x128.Idx) :
    pad S8192x128 ![0, 0] ![0, 120] ![0, 0] x w hp hu y = ((if (y 1).val < 8 then r (y 0).val (y 1).val else 0 : ℝ) : EReal) := by
  have h0 : (y 0).val < 8192 := (y 0).isLt
  unfold pad
  by_cases h : (y 1).val < 8
  · rw [if_pos h, dif_pos, hx]
    · refine congrArg _ (congrArg₂ r ?_ ?_)
      · show ((y 0).val - 0) / (0 + 1) = _; simp
      · show ((y 1).val - 0) / (0 + 1) = _; simp
    · intro a
      match a with
      | ⟨0, _⟩ => exact ⟨Nat.zero_le _, by show ((y 0).val - 0) % (0 + 1) = 0; omega, by show ((y 0).val - 0) / (0 + 1) < 8192; omega⟩
      | ⟨1, _⟩ => exact ⟨Nat.zero_le _, by show ((y 1).val - 0) % (0 + 1) = 0; omega, by show ((y 1).val - 0) / (0 + 1) < 8; omega⟩
  · rw [if_neg h, dif_neg, hw]
    intro hin
    have := (hin 1).2.2
    exact h (by have e : ((y 1).val - 0) / (0 + 1) < 8 := this; omega)

omit H in
/-- The integer zero, converted. -/
theorem pad_zero (i : S_.Idx) : val_main_call2_v0 (F := Ideal) i = ((0 : ℝ) : EReal) := by
  show (((0#32 : BitVec 32).toInt : ℝ) : EReal) = _
  simp
omit H in
theorem pad_zero' (i : S_.Idx) : val_main_call3_v0 (F := Ideal) i = ((0 : ℝ) : EReal) := by
  show (((0#32 : BitVec 32).toInt : ℝ) : EReal) = _
  simp

/-- The two gradients of the running sum, widened. -/
theorem rs_val (y : S8192x128.Idx) : val_main_v88 (F := Ideal) x0 x1 x2 x3 x4 y
    = ((if (y 1).val < 8 then ∑ s : Fin 8192, dlogit q k v g f (y 1).val (y 0).val s.val else 0 : ℝ) : EReal) :=
  pad_val _ _ pad_zero (fun t h => ∑ s : Fin 8192, dlogit q k v g f h t s.val) (r81 H) _ _ y

theorem cs_val (y : S8192x128.Idx) : val_main_v92 (F := Ideal) x0 x1 x2 x3 x4 y
    = ((if (y 1).val < 8 then ∑ t : Fin 8192, dlogit q k v g f (y 1).val t.val (y 0).val else 0 : ℝ) : EReal) :=
  pad_val _ _ pad_zero' (fun s h => ∑ t : Fin 8192, dlogit q k v g f h t.val s) (r91 H) _ _ y

end Results

end Cert.RefVal
-- ==== Proof.Alg.lean ====
module

public import proofs.«01_k».proof.Proof.RVal

@[expose] public section

/-! On finite arguments the kernel's five results are the reference's. -/

set_option maxRecDepth 16384

noncomputable section

namespace Cert.Alg

open Cert.KernelIdeal Cert.KernelIdeal.Host Cert.KernelIdeal.Hand Cert.Attn Cert.ReferenceIdeal.Read Cert.RefVal
open Idealize.ShloMosaic Idealize.ShloMosaic.TcCoe

/-- The printed bound is plus infinity. -/
theorem plus_inf : Ideal.ofBits .f32 0x7F800000#32 = ⊤ := by
  simp [Ideal.ofBits, Ideal.ieee]

/-- An element whose absolute value compares below plus infinity is a real number. -/
theorem real_of_lt (x : EReal) (h : Ideal.cmp .olt (max x (-x)) ⊤ = 1#1) : ∃ r : ℝ, x = r := by
  have hx : max x (-x) < ⊤ := by
    by_contra hn
    simp [Ideal.cmp, hn] at h
  induction x using EReal.rec with
  | bot => simp at hx
  | coe r => exact ⟨r, rfl⟩
  | top => simp at hx

/-- A finite matrix, read by naturals as reals. -/
def realOf {a b : ℕ} (x : (⟨2, ![a, b]⟩ : Shape).Idx → EReal) (r c : ℕ) : ℝ := (at2 x r c).toReal

/-- Reading it gives its elements back. -/
theorem realOf_val {a b : ℕ} (x : (⟨2, ![a, b]⟩ : Shape).Idx → EReal) (hx : ∀ i, ∃ r : ℝ, x i = r)
    (i : (⟨2, ![a, b]⟩ : Shape).Idx) : x i = ((realOf x (i 0).val (i 1).val : ℝ) : EReal) := by
  have e : at2 x (i 0).val (i 1).val = x i := by
    rw [at2_of_lt x (i 0).isLt (i 1).isLt]
    exact congrArg x (funext fun d => by fin_cases d <;> rfl)
  obtain ⟨r, hr⟩ := hx i
  rw [realOf, e, hr, EReal.toReal_coe]

section
variable {x0 x1 x2 x4 : S8192x512.Idx → EReal} {x3 : S8192x8.Idx → EReal}

/-- Five finite arrays are the rows of some real `q`, `k`, `v`, cotangent and gate sums. -/
theorem reads (f0 : ∀ i, ∃ r : ℝ, x0 i = r) (f1 : ∀ i, ∃ r : ℝ, x1 i = r) (f2 : ∀ i, ∃ r : ℝ, x2 i = r)
    (f3 : ∀ i, ∃ r : ℝ, x3 i = r) (f4 : ∀ i, ∃ r : ℝ, x4 i = r) :
    Reads x0 x1 x2 x4 x3 (fun r c => realOf x0 r c / 8) (realOf x1) (realOf x2) (realOf x4) (realOf x3) where
  h0 := fun i => (realOf_val x0 f0 i).trans (congrArg _ (mul_div_cancel₀ _ (by norm_num)).symm)
  h1 := realOf_val x1 f1
  h2 := realOf_val x2 f2
  h3 := realOf_val x3 f3
  h4 := realOf_val x4 f4

variable {q k v g f : ℕ → ℕ → ℝ} (H : Reads x0 x1 x2 x4 x3 q k v g f)
include H

/-- The gradient of the queries. -/
theorem dq_eq : resDq (h_v298 (F := Ideal) x0 x1 x3) (h_v300 (F := Ideal) x0 x1 x2 x3 x4) (h_v302 (F := Ideal) x1 x3)
    (h_v304 (F := Ideal) x2) = val_main_v87 (F := Ideal) x0 x1 x2 x3 x4 :=
  funext fun y => (resDq_val (holds H) y).trans (dq_val H y).symm

/-- The row sums of the logits' gradient. -/
theorem rs_eq : resRs (h_v298 (F := Ideal) x0 x1 x3) (h_v300 (F := Ideal) x0 x1 x2 x3 x4) (h_v302 (F := Ideal) x1 x3)
    (h_v304 (F := Ideal) x2) = val_main_v88 (F := Ideal) x0 x1 x2 x3 x4 :=
  funext fun y => (resRs_val (holds H) y).trans (rs_val H y).symm

/-- The gradient of the keys. -/
theorem dk_eq : resDk (h_v298 (F := Ideal) x0 x1 x3) (h_v300 (F := Ideal) x0 x1 x2 x3 x4) (h_v302 (F := Ideal) x1 x3)
    (h_v304 (F := Ideal) x2) = val_main_v89 (F := Ideal) x0 x1 x2 x3 x4 :=
  funext fun y => (resDk_val (holds H) y).trans (dk_val H y).symm

/-- The gradient of the values. -/
theorem dv_eq : resDv (h_v298 (F := Ideal) x0 x1 x3) (h_v300 (F := Ideal) x0 x1 x2 x3 x4) (h_v302 (F := Ideal) x1 x3)
    = val_main_v90 (F := Ideal) x0 x1 x3 x4 :=
  funext fun y => (resDv_val (holds H) y).trans (dv_val H y).symm

/-- The column sums of the logits' gradient. -/
theorem cs_eq : resCs (h_v298 (F := Ideal) x0 x1 x3) (h_v300 (F := Ideal) x0 x1 x2 x3 x4) (h_v302 (F := Ideal) x1 x3)
    (h_v304 (F := Ideal) x2) = val_main_v92 (F := Ideal) x0 x1 x2 x3 x4 :=
  funext fun y => (resCs_val (holds H) y).trans (cs_val H y).symm

end

end Cert.Alg

end
-- ==== Proof.Ffn.lean ====
module

public import proofs.«01_k».proof.Proof.Gen.Kernel2Ideal.Value
public import Idealize.ShloMosaic.Lib.Pipeline.ValueKit
public import Idealize.ShloMosaic.Lib.Pointwise
public import Idealize.ShloMosaic.Lib.WritesUnit

@[expose] public section

set_option maxRecDepth 16384

noncomputable section

namespace Cert.Ffn

open Idealize.ShloMosaic

/-! ## One row of the feed-forward's backward pass

`x` is the row, `g` its cotangent, `a` and `b` the shift and the scale, `v` and `w` the two weight matrices. -/

/-- The modulated row. -/
def U (x a b : Fin 1024 → EReal) (d : Fin 1024) : EReal := x d * (1 + b d) + a d

/-- The hidden units after the maximum with zero. -/
def R (x a b : Fin 1024 → EReal) (v : Fin 1024 → Fin 1024 → EReal) (e : Fin 1024) : EReal :=
  max (∑ d, U x a b d * v d e) 0

/-- The cotangent of the hidden units before the maximum. -/
def DH (x a b : Fin 1024 → EReal) (v w : Fin 1024 → Fin 1024 → EReal) (g : Fin 1024 → EReal) (e : Fin 1024) : EReal :=
  (∑ d, g d * w e d) * (Ideal.ofBits FTy.f32 0x40000000#32 * R x a b v e)

/-- The cotangent of the modulated row. -/
def DU (x a b : Fin 1024 → EReal) (v w : Fin 1024 → Fin 1024 → EReal) (g : Fin 1024 → EReal) (d : Fin 1024) : EReal :=
  ∑ e, DH x a b v w g e * v d e

/-- Row `t` of a block. -/
def row {n : ℕ} (X : (⟨2, ![n, 1024]⟩ : Shape).Idx → EReal) (t : Fin n) : Fin 1024 → EReal := fun d => X (ix2 t d)

/-- A matrix with a leading unit axis. -/
def mat (X : (⟨3, ![1, 1024, 1024]⟩ : Shape).Idx → EReal) : Fin 1024 → Fin 1024 → EReal := fun d e => X (ix3 0 d e)

/-- Matrix `f` of a stack. -/
def slab (X : (⟨3, ![4, 1024, 1024]⟩ : Shape).Idx → EReal) (f : Fin 4) : Fin 1024 → Fin 1024 → EReal :=
  fun d e => X (ix3 f d e)

/-! ## The results as functions of the arguments

`X` the rows, `A` the table of shifts and scales, `V` and `W` the weights' stacks, `G` the cotangent. -/

section Results

variable (f : Fin 4) (X : (⟨2, ![8192, 1024]⟩ : Shape).Idx → EReal) (A : (⟨2, ![6, 1024]⟩ : Shape).Idx → EReal)
  (V W : (⟨3, ![4, 1024, 1024]⟩ : Shape).Idx → EReal) (G P : (⟨2, ![8192, 1024]⟩ : Shape).Idx → EReal)

/-- The rows' gradient, added to `P`. -/
def resX : (⟨2, ![8192, 1024]⟩ : Shape).Idx → EReal := fun y =>
  P y + DU (row X (y 0)) (row A 3) (row A 4) (slab V f) (slab W f) (row G (y 0)) (y 1) * (1 + row A 4 (y 1))

/-- The first weight's gradient. -/
def resV : (⟨3, ![1, 1024, 1024]⟩ : Shape).Idx → EReal := fun y => ∑ t : Fin 8192,
  U (row X t) (row A 3) (row A 4) (y 1) * DH (row X t) (row A 3) (row A 4) (slab V f) (slab W f) (row G t) (y 2)

/-- The second weight's gradient. -/
def resW : (⟨3, ![1, 1024, 1024]⟩ : Shape).Idx → EReal := fun y => ∑ t : Fin 8192,
  R (row X t) (row A 3) (row A 4) (slab V f) (y 1) * R (row X t) (row A 3) (row A 4) (slab V f) (y 1) * row G t (y 2)

/-- The gradients of the scale (row 0) and of the shift (row 1). -/
def resP : (⟨2, ![8, 1024]⟩ : Shape).Idx → EReal := fun y =>
  if (y 0).val = 1 then ∑ t : Fin 8192, DU (row X t) (row A 3) (row A 4) (slab V f) (slab W f) (row G t) (y 1)
  else if (y 0).val = 0 then ∑ t : Fin 8192, DU (row X t) (row A 3) (row A 4) (slab V f) (slab W f) (row G t) (y 1) * row X t (y 1)
  else 0

end Results

end Cert.Ffn

namespace Cert.Kernel2Ideal.Hand

open Cert.Ffn Cert.Kernel2Ideal.Gen
open Idealize.ShloMosaic Idealize.ShloMosaic.TcCoe Idealize.ShloMosaic.Tactic

/-! ## The payloads at an element -/

/-- The modulated row of a block. -/
theorem pay5_apply (X : Vec Ideal S512x1024 .f32) (B A : Vec Ideal S1x1024 .f32) (j : S512x1024.Idx) :
    k0_pay5 (F := Ideal) X B A j = U (row X (j 0)) (row A 0) (row B 0) (j 1) := by
  unfold U row
  pointwise [k0_pay5]

/-- The hidden units of a block. -/
theorem pay6_apply (X : Vec Ideal S512x1024 .f32) (B A : Vec Ideal S1x1024 .f32) (V : Vec Ideal S1x1024x1024 .bf16)
    (j : S512x1024.Idx) :
    k0_pay6 (F := Ideal) X B A V j = R (row X (j 0)) (row A 0) (row B 0) (mat V) (j 1) := by
  unfold R U row mat
  pointwise [k0_pay6, k0_pay5]

/-- Their cotangent before the maximum. -/
theorem pay7_apply (X : Vec Ideal S512x1024 .f32) (B A : Vec Ideal S1x1024 .f32) (V : Vec Ideal S1x1024x1024 .bf16)
    (G : Vec Ideal S512x1024 .bf16) (W : Vec Ideal S1x1024x1024 .bf16) (j : S512x1024.Idx) :
    k0_pay7 (F := Ideal) X B A V G W j = DH (row X (j 0)) (row A 0) (row B 0) (mat V) (mat W) (row G (j 0)) (j 1) := by
  unfold DH
  pointwise [k0_pay7]
  rw [pay6_apply]
  rfl

/-- The second weight's gradient of a block, added to what was there. -/
theorem pay9_apply (X : Vec Ideal S512x1024 .f32) (B A : Vec Ideal S1x1024 .f32) (V : Vec Ideal S1x1024x1024 .bf16)
    (G : Vec Ideal S512x1024 .bf16) (O : Vec Ideal S1x1024x1024 .f32) (j : S1x1024x1024.Idx) :
    k0_pay9 (F := Ideal) (k0_pay8 X B A V G O) j = O j + ∑ t : Fin 512,
      R (row X t) (row A 0) (row B 0) (mat V) (j 1) * R (row X t) (row A 0) (row B 0) (mat V) (j 1) * row G t (j 2) := by
  pointwise [k0_pay9, k0_pay8]
  simp only [pay6_apply]
  rfl

/-- The first weight's gradient of a block, added to what was there. -/
theorem pay10_apply (Y Z : Vec Ideal S512x1024 .bf16) (O : Vec Ideal S1x1024x1024 .f32) (j : S1x1024x1024.Idx) :
    k0_pay10 (F := Ideal) Y Z O j = O j + ∑ t : Fin 512, Y (ix2 t (j 1)) * Z (ix2 t (j 2)) := by
  pointwise [k0_pay10]

/-- The blocks begin at zero: the first weight's, -/
theorem pay3_apply (j : S1x1024x1024.Idx) : k0_pay3 (F := Ideal) j = 0 := by pointwise [k0_pay3]

/-- the second's, -/
theorem pay4_apply (j : S1x1024x1024.Idx) : k0_pay4 (F := Ideal) j = 0 := by pointwise [k0_pay4]

/-- and the table's. -/
theorem pay2_apply (j : S8x1024.Idx) : k0_pay2 (F := Ideal) j = 0 := by pointwise [k0_pay2]

/-- The same with the payloads' modulated rows and cotangents. -/
theorem step7 (X : Vec Ideal S512x1024 .f32) (B A : Vec Ideal S1x1024 .f32) (V : Vec Ideal S1x1024x1024 .bf16)
    (G : Vec Ideal S512x1024 .bf16) (W : Vec Ideal S1x1024x1024 .bf16) (O : Vec Ideal S1x1024x1024 .f32) (j : S1x1024x1024.Idx) :
    k0_pay10 (F := Ideal) (k0_pay5 X B A) (k0_pay7 X B A V G W) O j = O j + ∑ t : Fin 512,
      U (row X t) (row A 0) (row B 0) (j 1) * DH (row X t) (row A 0) (row B 0) (mat V) (mat W) (row G t) (j 2) := by
  rw [pay10_apply]
  simp only [pay5_apply, pay7_apply]
  rfl

/-- The cotangent of the modulated rows. -/
theorem pay11_apply (X : Vec Ideal S512x1024 .f32) (B A : Vec Ideal S1x1024 .f32) (V : Vec Ideal S1x1024x1024 .bf16)
    (G : Vec Ideal S512x1024 .bf16) (W : Vec Ideal S1x1024x1024 .bf16) (j : S512x1024.Idx) :
    k0_pay11 (F := Ideal) (k0_pay7 X B A V G W) V j
      = DU (row X (j 0)) (row A 0) (row B 0) (mat V) (mat W) (row G (j 0)) (j 1) := by
  unfold DU
  pointwise [k0_pay11]
  simp only [pay7_apply]
  rfl

/-- The rows' gradient. -/
theorem step6 (X : Vec Ideal S512x1024 .f32) (B A : Vec Ideal S1x1024 .f32) (V : Vec Ideal S1x1024x1024 .bf16)
    (G : Vec Ideal S512x1024 .bf16) (W : Vec Ideal S1x1024x1024 .bf16) (P : Vec Ideal S512x1024 .f32) (j : S512x1024.Idx) :
    k0_pay12 (F := Ideal) (k0_pay7 X B A V G W) V P B j
      = P j + DU (row X (j 0)) (row A 0) (row B 0) (mat V) (mat W) (row G (j 0)) (j 1) * (1 + row B 0 (j 1)) := by
  rw [← pay11_apply]
  unfold row
  pointwise [k0_pay12]

/-- The scale's gradient of a block, added to what was there. -/
theorem pay13_apply (X : Vec Ideal S512x1024 .f32) (B A : Vec Ideal S1x1024 .f32) (V : Vec Ideal S1x1024x1024 .bf16)
    (G : Vec Ideal S512x1024 .bf16) (W : Vec Ideal S1x1024x1024 .bf16) (O : Vec Ideal S1x1024 .f32) (j : S1x1024.Idx) :
    k0_pay13 (F := Ideal) X (k0_pay7 X B A V G W) V O j = O j + ∑ t : Fin 512,
      DU (row X t) (row A 0) (row B 0) (mat V) (mat W) (row G t) (j 1) * row X t (j 1) := by
  pointwise [k0_pay13]
  simp only [pay11_apply]
  rfl

/-- The shift's gradient of a block, added to what was there. -/
theorem pay1_apply (X : Vec Ideal S512x1024 .f32) (B A : Vec Ideal S1x1024 .f32) (V : Vec Ideal S1x1024x1024 .bf16)
    (G : Vec Ideal S512x1024 .bf16) (W : Vec Ideal S1x1024x1024 .bf16) (O : Vec Ideal S1x1024 .f32) (j : S1x1024.Idx) :
    k0_pay1 (F := Ideal) (k0_pay11 (k0_pay7 X B A V G W) V) O j = O j + ∑ t : Fin 512,
      DU (row X t) (row A 0) (row B 0) (mat V) (mat W) (row G t) (j 1) := by
  pointwise [k0_pay1]
  simp only [pay11_apply]
  rfl

/-- What a block adds to the table of the scale's and the shift's gradients. -/
def part (X : Vec Ideal S512x1024 .f32) (B A : Vec Ideal S1x1024 .f32) (V : Vec Ideal S1x1024x1024 .bf16)
    (G : Vec Ideal S512x1024 .bf16) (W : Vec Ideal S1x1024x1024 .bf16) (j : S8x1024.Idx) : EReal :=
  if (j 0).val = 1 then ∑ t : Fin 512, DU (row X t) (row A 0) (row B 0) (mat V) (mat W) (row G t) (j 1)
  else if (j 0).val = 0 then ∑ t : Fin 512, DU (row X t) (row A 0) (row B 0) (mat V) (mat W) (row G t) (j 1) * row X t (j 1)
  else 0

/-- The table after a point that begins with the table `O`: its two rows stored over it. -/
theorem step9 {sig : RefSig} {κ : Kind} {sp : Space} (v : View sig κ sp S8x1024 .f32) (c : v.ty.Contents (Elt Ideal))
    (L : List (View.Piece (Elt Ideal) S8x1024 .f32)) (O : Vec Ideal S8x1024 .f32)
    (hO : v.read (Elt Ideal) (v.writes (Elt Ideal) c L) = O) (O1 O0 : Vec Ideal S1x1024 .f32)
    (h1 : ∀ d, O1 (ix2 0 d) = O (ix2 1 d)) (h0 : ∀ d, O0 (ix2 0 d) = O (ix2 0 d))
    (X : Vec Ideal S512x1024 .f32) (B A : Vec Ideal S1x1024 .f32) (V : Vec Ideal S1x1024x1024 .bf16)
    (G : Vec Ideal S512x1024 .bf16) (W : Vec Ideal S1x1024x1024 .bf16) (j : S8x1024.Idx) :
    v.read (Elt Ideal) (v.writes (Elt Ideal) c
      (⟨Rect.unit ![1, 0] ![1, 1024] inb_S8x1024_S1x1024_1_0, k0_pay1 (F := Ideal) (k0_pay11 (k0_pay7 X B A V G W) V) O1⟩
        :: ⟨Rect.unit ![0, 0] ![1, 1024] inb_S8x1024_S1x1024_0_0, k0_pay13 (F := Ideal) X (k0_pay7 X B A V G W) V O0⟩ :: L)) j
      = O j + part X B A V G W j := by
  unfold part
  by_cases e1 : (j 0).val = 1
  · rw [if_pos e1]
    refine (View.read_writes_cons_rows_of_mem v c inb_S8x1024_S1x1024_1_0 _ _ j (ix2 0 (j 1)) rfl e1 rfl).trans ?_
    refine (pay1_apply X B A V G W O1 _).trans (congrArg (· + _) ((h1 (j 1)).trans (congrArg O ?_)))
    funext a
    match a with
    | ⟨0, _⟩ => exact Fin.ext e1.symm
    | ⟨1, _⟩ => rfl
  · rw [if_neg e1]
    refine (View.read_writes_cons_rows_of_not_mem v c inb_S8x1024_S1x1024_1_0 _ _ j rfl rfl (by show _ ∨ 1 + 1 ≤ _; omega)).trans ?_
    by_cases e0 : (j 0).val = 0
    · rw [if_pos e0]
      refine (View.read_writes_cons_rows_of_mem v c inb_S8x1024_S1x1024_0_0 _ _ j (ix2 0 (j 1)) rfl e0 rfl).trans ?_
      refine (pay13_apply X B A V G W O0 _).trans (congrArg (· + _) ((h0 (j 1)).trans (congrArg O ?_)))
      funext a
      match a with
      | ⟨0, _⟩ => exact Fin.ext e0.symm
      | ⟨1, _⟩ => rfl
    · rw [if_neg e0, add_zero]
      refine (View.read_writes_cons_rows_of_not_mem v c inb_S8x1024_S1x1024_0_0 _ _ j rfl rfl (by show _ ∨ 0 + 1 ≤ _; omega)).trans ?_
      rw [hO]

/-- The zeros stored over the whole table. -/
theorem whole9 {sig : RefSig} {κ : Kind} {sp : Space} (v : View sig κ sp S8x1024 .f32) (f : v.ty.Contents (Elt Ideal)) :
    v.read (Elt Ideal) (v.writes (Elt Ideal) f
      [⟨Rect.unit ![0, 0] ![8, 1024] inb_S8x1024_S8x1024_0_0, k0_pay2 (F := Ideal)⟩]) = (fun _ => (0 : EReal)) :=
  funext fun y => (View.read_writes_cons_unit_of_mem v f inb_S8x1024_S8x1024_0_0 (k0_pay2 (F := Ideal)) [] y y rfl
    (fun a => by match a with | ⟨0, _⟩ => simp | ⟨1, _⟩ => simp)).trans (pay2_apply y)

/-! ## A run over blocks -/

/-- The blocks of a run's points are those of the arguments; `f` is the quarter of the hidden units. -/
structure Blocks {n : ℕ} (f : Fin 4) (X : (⟨2, ![8192, 1024]⟩ : Shape).Idx → EReal) (A : (⟨2, ![6, 1024]⟩ : Shape).Idx → EReal)
    (V W : (⟨3, ![4, 1024, 1024]⟩ : Shape).Idx → EReal) (G P : (⟨2, ![8192, 1024]⟩ : Shape).Idx → EReal)
    (x : Fin n → Vec Ideal S512x1024 .f32) (a : Fin n → Vec Ideal S6x1024 .f32) (v w : Fin n → Vec Ideal S1x1024x1024 .bf16)
    (g : Fin n → Vec Ideal S512x1024 .bf16) (p : Fin n → Vec Ideal S512x1024 .f32) : Prop where
  hn : n = 16
  hx : ∀ t i d (h : t.val * 512 + i.val < 8192), x t (ix2 i d) = X (ix2 ⟨t.val * 512 + i.val, h⟩ d)
  hg : ∀ t i d (h : t.val * 512 + i.val < 8192), g t (ix2 i d) = G (ix2 ⟨t.val * 512 + i.val, h⟩ d)
  hp : ∀ t i d (h : t.val * 512 + i.val < 8192), p t (ix2 i d) = P (ix2 ⟨t.val * 512 + i.val, h⟩ d)
  ha : ∀ t i d, a t (ix2 i d) = A (ix2 i d)
  hv : ∀ t d e, v t (ix3 0 d e) = V (ix3 f d e)
  hw : ∀ t d e, w t (ix3 0 d e) = W (ix3 f d e)

/-- The scale's row of a table's block, -/
def scl (a : Vec Ideal S6x1024 .f32) : Vec Ideal S1x1024 .f32 := View.ld a (Rect.unit ![4, 0] ![1, 1024] inb_S6x1024_S1x1024_4_0)

/-- and the shift's. -/
def shf (a : Vec Ideal S6x1024 .f32) : Vec Ideal S1x1024 .f32 := View.ld a (Rect.unit ![3, 0] ![1, 1024] inb_S6x1024_S1x1024_3_0)

namespace Blocks

variable {n : ℕ} {f : Fin 4} {X : (⟨2, ![8192, 1024]⟩ : Shape).Idx → EReal} {A : (⟨2, ![6, 1024]⟩ : Shape).Idx → EReal}
  {V W : (⟨3, ![4, 1024, 1024]⟩ : Shape).Idx → EReal} {G P : (⟨2, ![8192, 1024]⟩ : Shape).Idx → EReal}
  {x : Fin n → Vec Ideal S512x1024 .f32} {a : Fin n → Vec Ideal S6x1024 .f32} {v w : Fin n → Vec Ideal S1x1024x1024 .bf16}
  {g : Fin n → Vec Ideal S512x1024 .bf16} {p : Fin n → Vec Ideal S512x1024 .f32} (H : Blocks f X A V W G P x a v w g p)

include H

/-- The rows a block holds. -/
theorem rows (t : Fin n) (i : Fin 512) (h : t.val * 512 + i.val < 8192) :
    row (x t) i = row X ⟨t.val * 512 + i.val, h⟩ ∧ row (g t) i = row G ⟨t.val * 512 + i.val, h⟩
      ∧ row (shf (a t)) 0 = row A 3 ∧ row (scl (a t)) 0 = row A 4 ∧ mat (v t) = slab V f ∧ mat (w t) = slab W f :=
  ⟨funext fun d => H.hx t i d h, funext fun d => H.hg t i d h,
    funext fun d => (by unfold row shf; pointwise : row (shf (a t)) 0 d = a t (ix2 3 d)).trans (H.ha t 3 d),
    funext fun d => (by unfold row scl; pointwise : row (scl (a t)) 0 d = a t (ix2 4 d)).trans (H.ha t 4 d),
    funext fun d => funext fun e => H.hv t d e, funext fun d => funext fun e => H.hw t d e⟩

/-- The rows' gradient at an entry of point `t`'s block. -/
theorem at6 (t : Fin n) (y : S512x1024.Idx) (h : t.val * 512 + (y 0).val < 8192) :
    k0_pay12 (F := Ideal) (k0_pay7 (x t) (scl (a t)) (shf (a t)) (v t) (g t) (w t)) (v t) (p t) (scl (a t)) y
      = resX f X A V W G P (ix2 ⟨t.val * 512 + (y 0).val, h⟩ (y 1)) := by
  obtain ⟨h1, h2, h3, h4, h5, h6⟩ := H.rows t (y 0) h
  rw [step6, h1, h2, h3, h4, h5, h6]
  unfold resX
  refine congrArg (· + _) ((congrArg (p t) (funext fun k => ?_)).trans (H.hp t (y 0) (y 1) h))
  match k with
  | ⟨0, _⟩ => rfl
  | ⟨1, _⟩ => rfl

/-- The first weight's gradient over the run. -/
theorem sum7 (O : (k : ℕ) → k < n → Vec Ideal S1x1024x1024 .f32)
    (h0 : ∀ t : Fin n, t.val % 16 = 0 → ∀ j, O t.val t.isLt j
      = k0_pay10 (F := Ideal) (k0_pay5 (x t) (scl (a t)) (shf (a t))) (k0_pay7 (x t) (scl (a t)) (shf (a t)) (v t) (g t) (w t)) (k0_pay3 (F := Ideal)) j)
    (hs : ∀ t : Fin n, ¬t.val % 16 = 0 → ∀ j, O t.val t.isLt j
      = k0_pay10 (F := Ideal) (k0_pay5 (x t) (scl (a t)) (shf (a t))) (k0_pay7 (x t) (scl (a t)) (shf (a t)) (v t) (g t) (w t))
        (O (t.val - 1) (Nat.lt_of_le_of_lt (Nat.sub_le _ _) t.isLt)) j)
    (t : Fin n) (ht : t.val + 1 = n) (j : S1x1024x1024.Idx) : O t.val t.isLt j = resV f X A V W G j := by
  rw [Pipeline.eq_sum_fin_of_reset_step_apply_last O 16 (fun _ => 0) _
    (fun t h j => by rw [h0 t h, step7, pay3_apply]) (fun t h j => by rw [hs t h, step7]) (le_of_eq H.hn) t ht j, zero_add]
  unfold resV
  have e := H.hn
  subst e
  refine Fin.sum_mul_add_congr fun s k hl => ?_
  obtain ⟨h1, h2, h3, h4, h5, h6⟩ := H.rows s k hl
  rw [h1, h2, h3, h4, h5, h6]

/-- The second weight's. -/
theorem sum8 (O : (k : ℕ) → k < n → Vec Ideal S1x1024x1024 .f32)
    (h0 : ∀ t : Fin n, t.val % 16 = 0 → ∀ j, O t.val t.isLt j
      = k0_pay9 (F := Ideal) (k0_pay8 (x t) (scl (a t)) (shf (a t)) (v t) (g t) (k0_pay4 (F := Ideal))) j)
    (hs : ∀ t : Fin n, ¬t.val % 16 = 0 → ∀ j, O t.val t.isLt j
      = k0_pay9 (F := Ideal) (k0_pay8 (x t) (scl (a t)) (shf (a t)) (v t) (g t)
        (O (t.val - 1) (Nat.lt_of_le_of_lt (Nat.sub_le _ _) t.isLt))) j)
    (t : Fin n) (ht : t.val + 1 = n) (j : S1x1024x1024.Idx) : O t.val t.isLt j = resW f X A V G j := by
  rw [Pipeline.eq_sum_fin_of_reset_step_apply_last O 16 (fun _ => 0) _
    (fun t h j => by rw [h0 t h, pay9_apply, pay4_apply]) (fun t h j => by rw [hs t h, pay9_apply]) (le_of_eq H.hn) t ht j, zero_add]
  unfold resW
  have e := H.hn
  subst e
  refine Fin.sum_mul_add_congr fun s k hl => ?_
  obtain ⟨h1, h2, h3, h4, h5, -⟩ := H.rows s k hl
  rw [h1, h2, h3, h4, h5]

/-- The scale's and the shift's. -/
theorem sum9 (O : (k : ℕ) → k < n → Vec Ideal S8x1024 .f32)
    (h0 : ∀ t : Fin n, t.val % 16 = 0 → ∀ j, O t.val t.isLt j = 0 + part (x t) (scl (a t)) (shf (a t)) (v t) (g t) (w t) j)
    (hs : ∀ t : Fin n, ¬t.val % 16 = 0 → ∀ j, O t.val t.isLt j = O (t.val - 1) (Nat.lt_of_le_of_lt (Nat.sub_le _ _) t.isLt) j
      + part (x t) (scl (a t)) (shf (a t)) (v t) (g t) (w t) j)
    (t : Fin n) (ht : t.val + 1 = n) (j : S8x1024.Idx) : O t.val t.isLt j = resP f X A V W G j := by
  rw [Pipeline.eq_sum_fin_of_reset_step_apply_last O 16 (fun _ => 0) _ h0 hs (le_of_eq H.hn) t ht j, zero_add]
  unfold part resP
  have e := H.hn
  subst e
  split
  · refine Fin.sum_mul_add_congr fun s k hl => ?_
    obtain ⟨h1, h2, h3, h4, h5, h6⟩ := H.rows s k hl
    rw [h1, h2, h3, h4, h5, h6]
  split
  · refine Fin.sum_mul_add_congr fun s k hl => ?_
    obtain ⟨h1, h2, h3, h4, h5, h6⟩ := H.rows s k hl
    rw [h1, h2, h3, h4, h5, h6]
  · exact Finset.sum_const_zero

end Blocks

end Cert.Kernel2Ideal.Hand

end
-- ==== Proof.FfnK2.lean ====
module

public import proofs.«01_k».proof.Proof.Ffn
public import proofs.«01_k».proof.Proof.Gen.Kernel2Ideal.Value
public import Idealize.ShloMosaic.Lib.Pipeline.ReadBack

@[expose] public section

/-! The run of one quarter of the hidden units. -/

set_option maxRecDepth 16384

noncomputable section

namespace Cert.Kernel2Ideal.Run

open Cert.Ffn Cert.Kernel2Ideal.Gen
open Cert.Kernel2Ideal.Hand (Blocks scl shf step9 whole9)
open Idealize.ShloMosaic Idealize.ShloMosaic.TcCoe Idealize.ShloMosaic.Tactic

variable (m : (ℓ : Loc nD τ sig) → Buf (Elt Ideal) ℓ) (c : Dev nD)

/-- Every window's block index. -/
theorem idx : ∀ t : Fin cfg0.N, win0_0.index t = ![t.val, 0] ∧ win0_1.index t = ![0, 0] ∧ win0_2.index t = ![0, 0, 0]
    ∧ win0_3.index t = ![0, 0, 0] ∧ win0_4.index t = ![t.val, 0] ∧ win0_5.index t = ![t.val, 0] ∧ win0_6.index t = ![t.val, 0] :=
  (by decide +kernel : ∀ t : Fin grid0.N, _)

/-- The blocks are those of the arguments. -/
theorem blocks : Blocks 0 (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (iblk m c 0) (iblk m c 1) (iblk m c 2) (iblk m c 3) (iblk m c 4) (iblk m c 5) where
  hn := N_0
  hx t i d h := by blk_ext [iblk, V, idx t]
  hg t i d h := by blk_ext [iblk, V, idx t]
  hp t i d h := by blk_ext [iblk, V, idx t]
  ha t i d := by blk_ext [iblk, V, idx t]
  hv t d e := by blk_ext [iblk, V, idx t]
  hw t d e := by blk_ext [iblk, V, idx t]

variable {m c} {X G P : S8192x1024.Idx → EReal} {A : S6x1024.Idx → EReal} {V W : S4x1024x1024.Idx → EReal}
  (H : Blocks 0 X A V W G P (iblk m c 0) (iblk m c 1) (iblk m c 2) (iblk m c 3) (iblk m c 4) (iblk m c 5))

include H

/-- The rows' gradient. -/
theorem final6 : (dats m 0 c).arrAt 6 cfg0.N = resX 0 X A V W G P := by
  refine (dats m 0 c).arrAt_eq_of_covers 6 _ (by decide +kernel) fun t hf y => ?_
  blk_simp
  have ht : t.val < 16 := Nat.lt_of_lt_of_eq t.isLt N_0
  have h0 : (y 0).val < 512 := (y 0).isLt
  rw [after0_6]
  refine Eq.trans ?_ ((H.at6 t y (by omega)).trans (congrArg (resX 0 X A V W G P) (by blk_ext [idx t])))
  by_cases h : t.val % 16 = 0
  · rw [outsAt0_A m c t h]; frame_out; rfl
  · rw [outsAt0_B m c t h]; frame_out; rfl

/-- The first weight's gradient. -/
theorem final7 : (dats m 0 c).arrAt 7 cfg0.N = resV 0 X A V W G := by
  refine (dats m 0 c).arrAt_eq_of_after_last 7 t0_15 (by decide +kernel) _ fun j => ?_
  blk_simp
  rw [after0_7]
  exact H.sum7 (fun n h => (outsAt0 m c n h).2.1) (fun t h j => by rw [outsAt0_A m c t h]; frame_out; rfl)
    (fun t h j => by rw [outsAt0_B m c t h]; frame_out; rfl) t0_15 rfl j

/-- The second weight's gradient. -/
theorem final8 : (dats m 0 c).arrAt 8 cfg0.N = resW 0 X A V G := by
  refine (dats m 0 c).arrAt_eq_of_after_last 8 t0_15 (by decide +kernel) _ fun j => ?_
  blk_simp
  rw [after0_8]
  exact H.sum8 (fun n h => (outsAt0 m c n h).2.2.1) (fun t h j => by rw [outsAt0_A m c t h]; frame_out; rfl)
    (fun t h j => by rw [outsAt0_B m c t h]; frame_out; rfl) t0_15 rfl j

omit H in
/-- The table after the first point, -/
theorem first9 (t : Fin cfg0.N) (h : t.val % 16 = 0) (j : S8x1024.Idx) : (outsAt0 m c t.val t.isLt).2.2.2 j
    = 0 + Kernel2Ideal.Hand.part (iblk m c 0 t) (scl (iblk m c 1 t)) (shf (iblk m c 1 t)) (iblk m c 2 t) (iblk m c 4 t) (iblk m c 3 t) j := by
  rw [outsAt0_A m c t h]
  frame_out
  simp (disch := decide) only [View.readCov_skip, View.readCov_fill]
  rw [← View.read_writes_junk_eq_canon VO0_9]
  exact step9 VO0_9 _ _ (fun _ => (0 : EReal)) (whole9 _ _) _ _ (fun d => by pointwise [k0_pay2])
    (fun d => by pointwise [k0_pay2]) _ _ _ _ _ _ j

omit H in
/-- and after a later one. -/
theorem next9 (t : Fin cfg0.N) (h : ¬t.val % 16 = 0) (j : S8x1024.Idx) : (outsAt0 m c t.val t.isLt).2.2.2 j
    = (outsAt0 m c (t.val - 1) (Nat.lt_of_le_of_lt (Nat.sub_le _ _) t.isLt)).2.2.2 j
      + Kernel2Ideal.Hand.part (iblk m c 0 t) (scl (iblk m c 1 t)) (shf (iblk m c 1 t)) (iblk m c 2 t) (iblk m c 4 t) (iblk m c 3 t) j := by
  rw [outsAt0_B m c t h]
  frame_out
  exact step9 _ _ [] _ (by rw [View.writes_nil]; exact Memref.IsWhole.read_unread _ _) _ _ (fun d => by pointwise)
    (fun d => by pointwise) _ _ _ _ _ _ j

/-- The scale's and the shift's gradients. -/
theorem final9 : (dats m 0 c).arrAt 9 cfg0.N = resP 0 X A V W G := by
  refine (dats m 0 c).arrAt_eq_of_after_last 9 t0_15 (by decide +kernel) _ fun j => ?_
  blk_simp
  rw [after0_9]
  exact H.sum9 (fun n h => (outsAt0 m c n h).2.2.2) first9 next9 t0_15 rfl j

end Cert.Kernel2Ideal.Run

end
-- ==== Proof.FfnR2.lean ====
module

public import proofs.«01_k».proof.Proof.Ffn
public import proofs.«01_k».proof.Proof.Gen.Reference2Ideal.Read

@[expose] public section

/-! The first quarter's reference at an element. -/

set_option maxRecDepth 16384

noncomputable section

namespace Cert.FfnRef

open Cert.Ffn Cert.Reference2Ideal Cert.Reference2Ideal.Read
open Idealize.ShloMosaic Idealize.ShloMosaic.TcCoe

variable {X : S8192x1024.Idx → EReal} {A : S6x1024.Idx → EReal} {V W : S4x1024x1024.Idx → EReal} {G P : S8192x1024.Idx → EReal}

/-- The first weight's quarter, -/
theorem r4 (i : S1024x1024.Idx) : val_main_v4 (F := Ideal) V i = slab V 0 (i 0) (i 1) := by
  have h0 : (i 0).val < 1024 := (i 0).isLt
  have h1 : (i 1).val < 1024 := (i 1).isLt
  rw [val_main_v4_apply, val_main_v3_apply, val_main_v2_apply]
  exact congrArg V (funext fun a => Fin.ext (by
    match a with
    | ⟨0, _⟩ => rfl
    | ⟨1, _⟩ => show ((i 0).val * 1024 + (i 1).val) / 1024 % 1024 = (i 0).val; omega
    | ⟨2, _⟩ => show ((i 0).val * 1024 + (i 1).val) % 1024 = (i 1).val; omega))

/-- the second's. -/
theorem r7 (i : S1024x1024.Idx) : val_main_v7 (F := Ideal) W i = slab W 0 (i 0) (i 1) := r4 (V := W) i

/-- One plus the scale. -/
theorem r9 (i : S1x1024.Idx) : val_main_v9 (F := Ideal) A i = 1 + row A 4 (i 1) := by
  rw [val_main_v9_apply, val_main_v8_apply, val_main_cst_apply, val_main_v1_apply, Ideal.ofBits_def, Ideal.ofBits_one_f32]
  exact congrArg (1 + ·) (congrArg A (funext fun a => Fin.ext (by
    match a with
    | ⟨0, _⟩ => show 4 + (i 0).val = 4; have h := (i 0).isLt; have : (i 0).val < 1 := h; omega
    | ⟨1, _⟩ => rfl)))

/-- The modulated rows. -/
theorem r13 (i : S8192x1024.Idx) : val_main_v13 (F := Ideal) X A i = U (row X (i 0)) (row A 3) (row A 4) (i 1) := by
  rw [val_main_v13_apply, val_main_v11_apply, val_main_v10_apply, r9, val_main_v12_apply, val_main_v0_apply]
  unfold U
  exact congrArg₂ (fun a b : EReal => a * (1 + row A 4 (i 1)) + b)
    (congrArg X (funext fun a => Fin.ext (by match a with | ⟨0, _⟩ => rfl | ⟨1, _⟩ => rfl)))
    (congrArg A (funext fun a => Fin.ext (by match a with | ⟨0, _⟩ => rfl | ⟨1, _⟩ => rfl)))

/-- The hidden units before the maximum, -/
theorem r14 (i : S8192x1024.Idx) : val_main_v14 (F := Ideal) X A V i
    = ∑ d, U (row X (i 0)) (row A 3) (row A 4) d * slab V 0 d (i 1) := by
  rw [val_main_v14_apply]
  simp only [r13, r4]
  rfl

/-- after it, -/
theorem r15 (i : S8192x1024.Idx) : val_main_v15 (F := Ideal) X A V i = R (row X (i 0)) (row A 3) (row A 4) (slab V 0) (i 1) := by
  rw [val_main_v15_apply, r14, val_main_call0_v0_apply, val_main_call0_cst_apply, Ideal.ofBits_def, Ideal.ofBits_zero_f32]
  rfl

/-- and their cotangent. -/
theorem r29 (i : S8192x1024.Idx) : val_main_v29 (F := Ideal) X A V W G i
    = DH (row X (i 0)) (row A 3) (row A 4) (slab V 0) (slab W 0) (row G (i 0)) (i 1) := by
  have e : val_main_v27 (F := Ideal) X A V W G i
      = DH (row X (i 0)) (row A 3) (row A 4) (slab V 0) (slab W 0) (row G (i 0)) (i 1) := by
    rw [val_main_v27_apply, val_main_v26_apply, val_main_v21_apply, val_main_v20_apply, val_main_cst_2_apply, r15]
    unfold DH
    refine congrArg (· * _) (Finset.sum_congr rfl fun d _ => ?_)
    rw [r7, val_main_v23_apply]
    exact congrArg (· * _) (congrArg G (funext fun a => Fin.ext (by match a with | ⟨0, _⟩ => rfl | ⟨1, _⟩ => rfl)))
  rw [val_main_v29_apply, e, val_main_v17_apply, r14, val_main_v16_apply, val_main_cst_0_apply, val_main_v28_apply,
    val_main_cst_3_apply, Ideal.ofBits_def, Ideal.ofBits_zero_f32, Ideal.cmpf_def]
  unfold Scalar.select Ideal.cmp
  by_cases h : 0 < ∑ d, U (row X (i 0)) (row A 3) (row A 4) d * slab V 0 d (i 1)
  · simp [h]
  · have hR : R (row X (i 0)) (row A 3) (row A 4) (slab V 0) (i 1) = 0 := max_eq_right (not_lt.mp h)
    unfold DH
    rw [hR]
    simp [h]

/-- The cotangent of the modulated rows. -/
theorem r32 (i : S8192x1024.Idx) : val_main_v32 (F := Ideal) X A V W G i
    = DU (row X (i 0)) (row A 3) (row A 4) (slab V 0) (slab W 0) (row G (i 0)) (i 1) := by
  rw [val_main_v32_apply]
  simp only [r29, r4]
  rfl

/-- The rows' gradient. -/
theorem ref6 : val_main_v41 (F := Ideal) X A V W G P = resX 0 X A V W G P := funext fun i => by
  rw [val_main_v41_apply, val_main_v39_apply, r32, val_main_v38_apply, r9]
  rfl

/-- The first weight's gradient. -/
theorem ref7 : val_main_v42 (F := Ideal) X A V W G = resV 0 X A V W G := funext fun i => by
  rw [val_main_v42_apply, val_main_v31_apply, val_main_v30_apply]
  unfold resV
  refine Finset.sum_congr rfl fun t _ => ?_
  rw [r29, r13, mul_comm]
  rfl

/-- The second weight's gradient. -/
theorem ref8 : val_main_v43 (F := Ideal) X A V G = resW 0 X A V G := funext fun i => by
  rw [val_main_v43_apply, val_main_v25_apply, val_main_v24_apply]
  unfold resW
  refine Finset.sum_congr rfl fun t _ => ?_
  rw [val_main_v19_apply, r15, mul_comm, val_main_v23_apply]
  exact congrArg (_ * ·) (congrArg G (funext fun a => Fin.ext (by match a with | ⟨0, _⟩ => rfl | ⟨1, _⟩ => rfl)))

/-- The shift's gradient, -/
theorem r33 (i : S1024.Idx) : val_main_v33 (F := Ideal) X A V W G i
    = ∑ t : Fin 8192, DU (row X t) (row A 3) (row A 4) (slab V 0) (slab W 0) (row G t) (i 0) := by
  rw [val_main_v33_apply, val_main_cst_4_apply, Ideal.ofBits_def, Ideal.ofBits_zero_f32, zero_add]
  simp only [r32]
  rfl

/-- and the scale's. -/
theorem r36 (i : S1024.Idx) : val_main_v36 (F := Ideal) X A V W G i
    = ∑ t : Fin 8192, DU (row X t) (row A 3) (row A 4) (slab V 0) (slab W 0) (row G t) (i 0) * row X t (i 0) := by
  rw [val_main_v36_apply, val_main_cst_5_apply, Ideal.ofBits_def, Ideal.ofBits_zero_f32, zero_add]
  refine Finset.sum_congr rfl fun t _ => ?_
  rw [val_main_v35_apply, r32, Ideal.mulf_def, mul_comm]
  exact congrArg (_ * ·) (congrArg X (funext fun a => Fin.ext (by match a with | ⟨0, _⟩ => rfl | ⟨1, _⟩ => rfl)))

/-- A row's number compared with another below eight. -/
theorem row_is (n k : ℕ) (hn : n < 8) (hk : k < 8) : (BitVec.ofNat 32 n = BitVec.ofNat 32 k) ↔ n = k := by
  constructor
  · intro h
    have := congrArg BitVec.toNat h
    simp at this
    omega
  · exact fun h => congrArg _ h

/-- The table of the two gradients. -/
theorem ref9 : val_main_v49 (F := Ideal) X A V W G = resP 0 X A V W G := funext fun i => by
  have h8 : (i 0).val < 8 := (i 0).isLt
  rw [val_main_v49_apply, val_main_v48_apply, val_main_v45_apply, val_main_v47_apply, val_main_v40_apply, val_main_v44_apply,
    val_main_v46_apply, val_main_c_apply, val_main_c_6_apply, val_main_call2_v0_apply, val_main_call1_v1_apply,
    val_main_call1_v2_apply, val_main_call1_v0_apply, val_main_cst_7_apply, val_main_v37_apply, val_main_v34_apply, r33, r36,
    Ideal.ofBits_def, Ideal.ofBits_zero_f32]
  have e : ∀ d : Fin 1024, d.val = 0 * 1024 + (i 1).val → d = i 1 := fun d h => Fin.ext (by omega)
  rw [e (idx_main_v37 (idx_main_call2_v0 i) 0) rfl, e (idx_main_v34 (idx_main_call1_v1 i) 0) rfl]
  unfold Scalar.select IntOp.cmpi resP
  by_cases h0 : (i 0).val = 0
  · simp [h0]
  by_cases h1 : (i 0).val = 1
  · simp [h1]
  have z : ∀ k : BitVec 32, ¬BitVec.ofNat 32 (i 0).val = k → ¬BitVec.ofBool (BitVec.ofNat 32 (i 0).val == k) = 1#1 := fun k h => by
    rw [beq_false_of_ne h]
    decide
  exact (if_neg (z _ (mt (row_is (i 0).val 0 h8 (by decide)).mp h0))).trans
    ((if_neg (z _ (mt (row_is (i 0).val 1 h8 (by decide)).mp h1))).trans (((if_neg h1).trans (if_neg h0)).symm))

/-! ## The other quarters -/

/-- The stack with its matrices moved round, matrix `f` first. -/
def shift (f : Fin 4) (V : S4x1024x1024.Idx → EReal) : S4x1024x1024.Idx → EReal := fun i => V (ix3 ((show Fin 4 from i 0) + f) (i 1) (i 2))

/-- Matrix `f` of a stack is the first of the moved stack. -/
theorem slab_shift (f : Fin 4) : slab (shift f V) 0 = slab V f := by
  unfold slab shift
  funext d e
  exact congrArg V (congrArg (ix3 · d e) (zero_add f))

/-- Quarter `f` of the results is the first quarter over the moved stacks: the rows' gradient, -/
theorem resX_shift (f : Fin 4) : resX 0 X A (shift f V) (shift f W) G P = resX f X A V W G P := by
  unfold resX
  rw [slab_shift, slab_shift]

/-- the first weight's, -/
theorem resV_shift (f : Fin 4) : resV 0 X A (shift f V) (shift f W) G = resV f X A V W G := by
  unfold resV
  rw [slab_shift, slab_shift]

/-- the second weight's -/
theorem resW_shift (f : Fin 4) : resW 0 X A (shift f V) G = resW f X A V G := by
  unfold resW
  rw [slab_shift]

/-- and the table. -/
theorem resP_shift (f : Fin 4) : resP 0 X A (shift f V) (shift f W) G = resP f X A V W G := by
  unfold resP
  rw [slab_shift, slab_shift]

end Cert.FfnRef

end
-- ==== Proof.FfnK3.lean ====
module

public import proofs.«01_k».proof.Proof.Ffn
public import proofs.«01_k».proof.Proof.Gen.Kernel3Ideal.Value
public import Idealize.ShloMosaic.Lib.Pipeline.ReadBack

@[expose] public section

/-! The run of one quarter of the hidden units. -/

set_option maxRecDepth 16384

noncomputable section

namespace Cert.Kernel3Ideal.Run

open Cert.Ffn Cert.Kernel3Ideal.Gen
open Cert.Kernel2Ideal.Hand (Blocks scl shf step9 whole9)
open Idealize.ShloMosaic Idealize.ShloMosaic.TcCoe Idealize.ShloMosaic.Tactic

variable (m : (ℓ : Loc nD τ sig) → Buf (Elt Ideal) ℓ) (c : Dev nD)

/-- Every window's block index. -/
theorem idx : ∀ t : Fin cfg0.N, win0_0.index t = ![t.val, 0] ∧ win0_1.index t = ![0, 0] ∧ win0_2.index t = ![1, 0, 0]
    ∧ win0_3.index t = ![1, 0, 0] ∧ win0_4.index t = ![t.val, 0] ∧ win0_5.index t = ![t.val, 0] ∧ win0_6.index t = ![t.val, 0] :=
  (by decide +kernel : ∀ t : Fin grid0.N, _)

/-- The blocks are those of the arguments. -/
theorem blocks : Blocks 1 (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (iblk m c 0) (iblk m c 1) (iblk m c 2) (iblk m c 3) (iblk m c 4) (iblk m c 5) where
  hn := N_0
  hx t i d h := by blk_ext [iblk, V, idx t]
  hg t i d h := by blk_ext [iblk, V, idx t]
  hp t i d h := by blk_ext [iblk, V, idx t]
  ha t i d := by blk_ext [iblk, V, idx t]
  hv t d e := by blk_ext [iblk, V, idx t]
  hw t d e := by blk_ext [iblk, V, idx t]

variable {m c} {X G P : S8192x1024.Idx → EReal} {A : S6x1024.Idx → EReal} {V W : S4x1024x1024.Idx → EReal}
  (H : Blocks 1 X A V W G P (iblk m c 0) (iblk m c 1) (iblk m c 2) (iblk m c 3) (iblk m c 4) (iblk m c 5))

include H

/-- The rows' gradient. -/
theorem final6 : (dats m 0 c).arrAt 6 cfg0.N = resX 1 X A V W G P := by
  refine (dats m 0 c).arrAt_eq_of_covers 6 _ (by decide +kernel) fun t hf y => ?_
  blk_simp
  have ht : t.val < 16 := Nat.lt_of_lt_of_eq t.isLt N_0
  have h0 : (y 0).val < 512 := (y 0).isLt
  rw [after0_6]
  refine Eq.trans ?_ ((H.at6 t y (by omega)).trans (congrArg (resX 1 X A V W G P) (by blk_ext [idx t])))
  by_cases h : t.val % 16 = 0
  · rw [outsAt0_A m c t h]; frame_out; rfl
  · rw [outsAt0_B m c t h]; frame_out; rfl

/-- The first weight's gradient. -/
theorem final7 : (dats m 0 c).arrAt 7 cfg0.N = resV 1 X A V W G := by
  refine (dats m 0 c).arrAt_eq_of_after_last 7 t0_15 (by decide +kernel) _ fun j => ?_
  blk_simp
  rw [after0_7]
  exact H.sum7 (fun n h => (outsAt0 m c n h).2.1) (fun t h j => by rw [outsAt0_A m c t h]; frame_out; rfl)
    (fun t h j => by rw [outsAt0_B m c t h]; frame_out; rfl) t0_15 rfl j

/-- The second weight's gradient. -/
theorem final8 : (dats m 0 c).arrAt 8 cfg0.N = resW 1 X A V G := by
  refine (dats m 0 c).arrAt_eq_of_after_last 8 t0_15 (by decide +kernel) _ fun j => ?_
  blk_simp
  rw [after0_8]
  exact H.sum8 (fun n h => (outsAt0 m c n h).2.2.1) (fun t h j => by rw [outsAt0_A m c t h]; frame_out; rfl)
    (fun t h j => by rw [outsAt0_B m c t h]; frame_out; rfl) t0_15 rfl j

omit H in
/-- The table after the first point, -/
theorem first9 (t : Fin cfg0.N) (h : t.val % 16 = 0) (j : S8x1024.Idx) : (outsAt0 m c t.val t.isLt).2.2.2 j
    = 0 + Kernel2Ideal.Hand.part (iblk m c 0 t) (scl (iblk m c 1 t)) (shf (iblk m c 1 t)) (iblk m c 2 t) (iblk m c 4 t) (iblk m c 3 t) j := by
  rw [outsAt0_A m c t h]
  frame_out
  simp (disch := decide) only [View.readCov_skip, View.readCov_fill]
  rw [← View.read_writes_junk_eq_canon VO0_9]
  exact step9 VO0_9 _ _ (fun _ => (0 : EReal)) (whole9 _ _) _ _ (fun d => by pointwise [k0_pay2])
    (fun d => by pointwise [k0_pay2]) _ _ _ _ _ _ j

omit H in
/-- and after a later one. -/
theorem next9 (t : Fin cfg0.N) (h : ¬t.val % 16 = 0) (j : S8x1024.Idx) : (outsAt0 m c t.val t.isLt).2.2.2 j
    = (outsAt0 m c (t.val - 1) (Nat.lt_of_le_of_lt (Nat.sub_le _ _) t.isLt)).2.2.2 j
      + Kernel2Ideal.Hand.part (iblk m c 0 t) (scl (iblk m c 1 t)) (shf (iblk m c 1 t)) (iblk m c 2 t) (iblk m c 4 t) (iblk m c 3 t) j := by
  rw [outsAt0_B m c t h]
  frame_out
  exact step9 _ _ [] _ (by rw [View.writes_nil]; exact Memref.IsWhole.read_unread _ _) _ _ (fun d => by pointwise)
    (fun d => by pointwise) _ _ _ _ _ _ j

/-- The scale's and the shift's gradients. -/
theorem final9 : (dats m 0 c).arrAt 9 cfg0.N = resP 1 X A V W G := by
  refine (dats m 0 c).arrAt_eq_of_after_last 9 t0_15 (by decide +kernel) _ fun j => ?_
  blk_simp
  rw [after0_9]
  exact H.sum9 (fun n h => (outsAt0 m c n h).2.2.2) first9 next9 t0_15 rfl j

end Cert.Kernel3Ideal.Run

end
-- ==== Proof.FfnR3.lean ====
module

public import proofs.«01_k».proof.Proof.FfnR2
public import proofs.«01_k».proof.Proof.Gen.Reference3Ideal.Read

@[expose] public section

/-! The reference of another quarter is the first's over the moved stacks. -/

set_option maxRecDepth 16384

noncomputable section

namespace Cert.Reference3Ideal.Read

open Cert.Ffn Cert.FfnRef
open Idealize.ShloMosaic

variable {X : S8192x1024.Idx → EReal} {A : S6x1024.Idx → EReal} {V W : S4x1024x1024.Idx → EReal} {G P : S8192x1024.Idx → EReal}

/-- The first weight's quarter, -/
theorem m4 : val_main_v4 (F := Ideal) V = Reference2Ideal.Read.val_main_v4 (F := Ideal) (shift 1 V) := by
  have e : val_main_v2 (F := Ideal) V = Reference2Ideal.Read.val_main_v2 (F := Ideal) (shift 1 V) := funext fun i => by
    rw [val_main_v2_apply, Reference2Ideal.Read.val_main_v2_apply]
    exact congrArg V (funext fun a => Fin.ext (by
      match a with
      | ⟨0, _⟩ => show 1 + (i 0).val = ((i 0).val + 1) % 4; have h : (i 0).val < 1 := (i 0).isLt; omega
      | ⟨1, _⟩ => rfl
      | ⟨2, _⟩ => rfl))
  unfold val_main_v4 val_main_v3
  rw [e]
  rfl

/-- the second's, -/
theorem m7 : val_main_v7 (F := Ideal) W = Reference2Ideal.Read.val_main_v7 (F := Ideal) (shift 1 W) := m4 (V := W)

/-- the hidden units, -/
theorem m14 : val_main_v14 (F := Ideal) X A V = Reference2Ideal.Read.val_main_v14 (F := Ideal) X A (shift 1 V) := by
  unfold val_main_v14
  rw [m4]
  rfl

/-- their cotangent -/
theorem m29 : val_main_v29 (F := Ideal) X A V W G
    = Reference2Ideal.Read.val_main_v29 (F := Ideal) X A (shift 1 V) (shift 1 W) G := by
  unfold val_main_v29 val_main_v27 val_main_v26 val_main_v21 val_main_v17 val_main_v15
  rw [m14, m7]
  rfl

/-- and the modulated rows'. -/
theorem m32 : val_main_v32 (F := Ideal) X A V W G
    = Reference2Ideal.Read.val_main_v32 (F := Ideal) X A (shift 1 V) (shift 1 W) G := by
  unfold val_main_v32
  rw [m29, m4]
  rfl

/-- The rows' gradient. -/
theorem ref6 : val_main_v41 (F := Ideal) X A V W G P = resX 1 X A V W G P := by
  unfold val_main_v41 val_main_v39
  rw [m32]
  exact FfnRef.ref6.trans (resX_shift 1)

/-- The first weight's gradient. -/
theorem ref7 : val_main_v42 (F := Ideal) X A V W G = resV 1 X A V W G := by
  unfold val_main_v42 val_main_v31 val_main_v30
  rw [m29]
  exact FfnRef.ref7.trans (resV_shift (W := W) 1)

/-- The second weight's gradient. -/
theorem ref8 : val_main_v43 (F := Ideal) X A V G = resW 1 X A V G := by
  unfold val_main_v43 val_main_v25 val_main_v24 val_main_v19 val_main_v15
  rw [m14]
  exact FfnRef.ref8.trans (resW_shift 1)

/-- The table of the two gradients. -/
theorem ref9 : val_main_v49 (F := Ideal) X A V W G = resP 1 X A V W G := by
  unfold val_main_v49 val_main_v48 val_main_call1_v2 val_main_call1_v1 val_main_call2_v0 val_main_v37 val_main_v36 val_main_v35 val_main_v34 val_main_v33
  rw [m32]
  exact FfnRef.ref9.trans (resP_shift 1)

end Cert.Reference3Ideal.Read

end
-- ==== Proof.FfnK4.lean ====
module

public import proofs.«01_k».proof.Proof.Ffn
public import proofs.«01_k».proof.Proof.Gen.Kernel4Ideal.Value
public import Idealize.ShloMosaic.Lib.Pipeline.ReadBack

@[expose] public section

/-! The run of one quarter of the hidden units. -/

set_option maxRecDepth 16384

noncomputable section

namespace Cert.Kernel4Ideal.Run

open Cert.Ffn Cert.Kernel4Ideal.Gen
open Cert.Kernel2Ideal.Hand (Blocks scl shf step9 whole9)
open Idealize.ShloMosaic Idealize.ShloMosaic.TcCoe Idealize.ShloMosaic.Tactic

variable (m : (ℓ : Loc nD τ sig) → Buf (Elt Ideal) ℓ) (c : Dev nD)

/-- Every window's block index. -/
theorem idx : ∀ t : Fin cfg0.N, win0_0.index t = ![t.val, 0] ∧ win0_1.index t = ![0, 0] ∧ win0_2.index t = ![2, 0, 0]
    ∧ win0_3.index t = ![2, 0, 0] ∧ win0_4.index t = ![t.val, 0] ∧ win0_5.index t = ![t.val, 0] ∧ win0_6.index t = ![t.val, 0] :=
  (by decide +kernel : ∀ t : Fin grid0.N, _)

/-- The blocks are those of the arguments. -/
theorem blocks : Blocks 2 (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (iblk m c 0) (iblk m c 1) (iblk m c 2) (iblk m c 3) (iblk m c 4) (iblk m c 5) where
  hn := N_0
  hx t i d h := by blk_ext [iblk, V, idx t]
  hg t i d h := by blk_ext [iblk, V, idx t]
  hp t i d h := by blk_ext [iblk, V, idx t]
  ha t i d := by blk_ext [iblk, V, idx t]
  hv t d e := by blk_ext [iblk, V, idx t]
  hw t d e := by blk_ext [iblk, V, idx t]

variable {m c} {X G P : S8192x1024.Idx → EReal} {A : S6x1024.Idx → EReal} {V W : S4x1024x1024.Idx → EReal}
  (H : Blocks 2 X A V W G P (iblk m c 0) (iblk m c 1) (iblk m c 2) (iblk m c 3) (iblk m c 4) (iblk m c 5))

include H

/-- The rows' gradient. -/
theorem final6 : (dats m 0 c).arrAt 6 cfg0.N = resX 2 X A V W G P := by
  refine (dats m 0 c).arrAt_eq_of_covers 6 _ (by decide +kernel) fun t hf y => ?_
  blk_simp
  have ht : t.val < 16 := Nat.lt_of_lt_of_eq t.isLt N_0
  have h0 : (y 0).val < 512 := (y 0).isLt
  rw [after0_6]
  refine Eq.trans ?_ ((H.at6 t y (by omega)).trans (congrArg (resX 2 X A V W G P) (by blk_ext [idx t])))
  by_cases h : t.val % 16 = 0
  · rw [outsAt0_A m c t h]; frame_out; rfl
  · rw [outsAt0_B m c t h]; frame_out; rfl

/-- The first weight's gradient. -/
theorem final7 : (dats m 0 c).arrAt 7 cfg0.N = resV 2 X A V W G := by
  refine (dats m 0 c).arrAt_eq_of_after_last 7 t0_15 (by decide +kernel) _ fun j => ?_
  blk_simp
  rw [after0_7]
  exact H.sum7 (fun n h => (outsAt0 m c n h).2.1) (fun t h j => by rw [outsAt0_A m c t h]; frame_out; rfl)
    (fun t h j => by rw [outsAt0_B m c t h]; frame_out; rfl) t0_15 rfl j

/-- The second weight's gradient. -/
theorem final8 : (dats m 0 c).arrAt 8 cfg0.N = resW 2 X A V G := by
  refine (dats m 0 c).arrAt_eq_of_after_last 8 t0_15 (by decide +kernel) _ fun j => ?_
  blk_simp
  rw [after0_8]
  exact H.sum8 (fun n h => (outsAt0 m c n h).2.2.1) (fun t h j => by rw [outsAt0_A m c t h]; frame_out; rfl)
    (fun t h j => by rw [outsAt0_B m c t h]; frame_out; rfl) t0_15 rfl j

omit H in
/-- The table after the first point, -/
theorem first9 (t : Fin cfg0.N) (h : t.val % 16 = 0) (j : S8x1024.Idx) : (outsAt0 m c t.val t.isLt).2.2.2 j
    = 0 + Kernel2Ideal.Hand.part (iblk m c 0 t) (scl (iblk m c 1 t)) (shf (iblk m c 1 t)) (iblk m c 2 t) (iblk m c 4 t) (iblk m c 3 t) j := by
  rw [outsAt0_A m c t h]
  frame_out
  simp (disch := decide) only [View.readCov_skip, View.readCov_fill]
  rw [← View.read_writes_junk_eq_canon VO0_9]
  exact step9 VO0_9 _ _ (fun _ => (0 : EReal)) (whole9 _ _) _ _ (fun d => by pointwise [k0_pay2])
    (fun d => by pointwise [k0_pay2]) _ _ _ _ _ _ j

omit H in
/-- and after a later one. -/
theorem next9 (t : Fin cfg0.N) (h : ¬t.val % 16 = 0) (j : S8x1024.Idx) : (outsAt0 m c t.val t.isLt).2.2.2 j
    = (outsAt0 m c (t.val - 1) (Nat.lt_of_le_of_lt (Nat.sub_le _ _) t.isLt)).2.2.2 j
      + Kernel2Ideal.Hand.part (iblk m c 0 t) (scl (iblk m c 1 t)) (shf (iblk m c 1 t)) (iblk m c 2 t) (iblk m c 4 t) (iblk m c 3 t) j := by
  rw [outsAt0_B m c t h]
  frame_out
  exact step9 _ _ [] _ (by rw [View.writes_nil]; exact Memref.IsWhole.read_unread _ _) _ _ (fun d => by pointwise)
    (fun d => by pointwise) _ _ _ _ _ _ j

/-- The scale's and the shift's gradients. -/
theorem final9 : (dats m 0 c).arrAt 9 cfg0.N = resP 2 X A V W G := by
  refine (dats m 0 c).arrAt_eq_of_after_last 9 t0_15 (by decide +kernel) _ fun j => ?_
  blk_simp
  rw [after0_9]
  exact H.sum9 (fun n h => (outsAt0 m c n h).2.2.2) first9 next9 t0_15 rfl j

end Cert.Kernel4Ideal.Run

end
-- ==== Proof.FfnR4.lean ====
module

public import proofs.«01_k».proof.Proof.FfnR2
public import proofs.«01_k».proof.Proof.Gen.Reference4Ideal.Read

@[expose] public section

/-! The reference of another quarter is the first's over the moved stacks. -/

set_option maxRecDepth 16384

noncomputable section

namespace Cert.Reference4Ideal.Read

open Cert.Ffn Cert.FfnRef
open Idealize.ShloMosaic

variable {X : S8192x1024.Idx → EReal} {A : S6x1024.Idx → EReal} {V W : S4x1024x1024.Idx → EReal} {G P : S8192x1024.Idx → EReal}

/-- The first weight's quarter, -/
theorem m4 : val_main_v4 (F := Ideal) V = Reference2Ideal.Read.val_main_v4 (F := Ideal) (shift 2 V) := by
  have e : val_main_v2 (F := Ideal) V = Reference2Ideal.Read.val_main_v2 (F := Ideal) (shift 2 V) := funext fun i => by
    rw [val_main_v2_apply, Reference2Ideal.Read.val_main_v2_apply]
    exact congrArg V (funext fun a => Fin.ext (by
      match a with
      | ⟨0, _⟩ => show 2 + (i 0).val = ((i 0).val + 2) % 4; have h : (i 0).val < 1 := (i 0).isLt; omega
      | ⟨1, _⟩ => rfl
      | ⟨2, _⟩ => rfl))
  unfold val_main_v4 val_main_v3
  rw [e]
  rfl

/-- the second's, -/
theorem m7 : val_main_v7 (F := Ideal) W = Reference2Ideal.Read.val_main_v7 (F := Ideal) (shift 2 W) := m4 (V := W)

/-- the hidden units, -/
theorem m14 : val_main_v14 (F := Ideal) X A V = Reference2Ideal.Read.val_main_v14 (F := Ideal) X A (shift 2 V) := by
  unfold val_main_v14
  rw [m4]
  rfl

/-- their cotangent -/
theorem m29 : val_main_v29 (F := Ideal) X A V W G
    = Reference2Ideal.Read.val_main_v29 (F := Ideal) X A (shift 2 V) (shift 2 W) G := by
  unfold val_main_v29 val_main_v27 val_main_v26 val_main_v21 val_main_v17 val_main_v15
  rw [m14, m7]
  rfl

/-- and the modulated rows'. -/
theorem m32 : val_main_v32 (F := Ideal) X A V W G
    = Reference2Ideal.Read.val_main_v32 (F := Ideal) X A (shift 2 V) (shift 2 W) G := by
  unfold val_main_v32
  rw [m29, m4]
  rfl

/-- The rows' gradient. -/
theorem ref6 : val_main_v41 (F := Ideal) X A V W G P = resX 2 X A V W G P := by
  unfold val_main_v41 val_main_v39
  rw [m32]
  exact FfnRef.ref6.trans (resX_shift 2)

/-- The first weight's gradient. -/
theorem ref7 : val_main_v42 (F := Ideal) X A V W G = resV 2 X A V W G := by
  unfold val_main_v42 val_main_v31 val_main_v30
  rw [m29]
  exact FfnRef.ref7.trans (resV_shift (W := W) 2)

/-- The second weight's gradient. -/
theorem ref8 : val_main_v43 (F := Ideal) X A V G = resW 2 X A V G := by
  unfold val_main_v43 val_main_v25 val_main_v24 val_main_v19 val_main_v15
  rw [m14]
  exact FfnRef.ref8.trans (resW_shift 2)

/-- The table of the two gradients. -/
theorem ref9 : val_main_v49 (F := Ideal) X A V W G = resP 2 X A V W G := by
  unfold val_main_v49 val_main_v48 val_main_call1_v2 val_main_call1_v1 val_main_call2_v0 val_main_v37 val_main_v36 val_main_v35 val_main_v34 val_main_v33
  rw [m32]
  exact FfnRef.ref9.trans (resP_shift 2)

end Cert.Reference4Ideal.Read

end
-- ==== Proof.FfnK5.lean ====
module

public import proofs.«01_k».proof.Proof.Ffn
public import proofs.«01_k».proof.Proof.Gen.Kernel5Ideal.Value
public import Idealize.ShloMosaic.Lib.Pipeline.ReadBack

@[expose] public section

/-! The run of one quarter of the hidden units. -/

set_option maxRecDepth 16384

noncomputable section

namespace Cert.Kernel5Ideal.Run

open Cert.Ffn Cert.Kernel5Ideal.Gen
open Cert.Kernel2Ideal.Hand (Blocks scl shf step9 whole9)
open Idealize.ShloMosaic Idealize.ShloMosaic.TcCoe Idealize.ShloMosaic.Tactic

variable (m : (ℓ : Loc nD τ sig) → Buf (Elt Ideal) ℓ) (c : Dev nD)

/-- Every window's block index. -/
theorem idx : ∀ t : Fin cfg0.N, win0_0.index t = ![t.val, 0] ∧ win0_1.index t = ![0, 0] ∧ win0_2.index t = ![3, 0, 0]
    ∧ win0_3.index t = ![3, 0, 0] ∧ win0_4.index t = ![t.val, 0] ∧ win0_5.index t = ![t.val, 0] ∧ win0_6.index t = ![t.val, 0] :=
  (by decide +kernel : ∀ t : Fin grid0.N, _)

/-- The blocks are those of the arguments. -/
theorem blocks : Blocks 3 (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (iblk m c 0) (iblk m c 1) (iblk m c 2) (iblk m c 3) (iblk m c 4) (iblk m c 5) where
  hn := N_0
  hx t i d h := by blk_ext [iblk, V, idx t]
  hg t i d h := by blk_ext [iblk, V, idx t]
  hp t i d h := by blk_ext [iblk, V, idx t]
  ha t i d := by blk_ext [iblk, V, idx t]
  hv t d e := by blk_ext [iblk, V, idx t]
  hw t d e := by blk_ext [iblk, V, idx t]

variable {m c} {X G P : S8192x1024.Idx → EReal} {A : S6x1024.Idx → EReal} {V W : S4x1024x1024.Idx → EReal}
  (H : Blocks 3 X A V W G P (iblk m c 0) (iblk m c 1) (iblk m c 2) (iblk m c 3) (iblk m c 4) (iblk m c 5))

include H

/-- The rows' gradient. -/
theorem final6 : (dats m 0 c).arrAt 6 cfg0.N = resX 3 X A V W G P := by
  refine (dats m 0 c).arrAt_eq_of_covers 6 _ (by decide +kernel) fun t hf y => ?_
  blk_simp
  have ht : t.val < 16 := Nat.lt_of_lt_of_eq t.isLt N_0
  have h0 : (y 0).val < 512 := (y 0).isLt
  rw [after0_6]
  refine Eq.trans ?_ ((H.at6 t y (by omega)).trans (congrArg (resX 3 X A V W G P) (by blk_ext [idx t])))
  by_cases h : t.val % 16 = 0
  · rw [outsAt0_A m c t h]; frame_out; rfl
  · rw [outsAt0_B m c t h]; frame_out; rfl

/-- The first weight's gradient. -/
theorem final7 : (dats m 0 c).arrAt 7 cfg0.N = resV 3 X A V W G := by
  refine (dats m 0 c).arrAt_eq_of_after_last 7 t0_15 (by decide +kernel) _ fun j => ?_
  blk_simp
  rw [after0_7]
  exact H.sum7 (fun n h => (outsAt0 m c n h).2.1) (fun t h j => by rw [outsAt0_A m c t h]; frame_out; rfl)
    (fun t h j => by rw [outsAt0_B m c t h]; frame_out; rfl) t0_15 rfl j

/-- The second weight's gradient. -/
theorem final8 : (dats m 0 c).arrAt 8 cfg0.N = resW 3 X A V G := by
  refine (dats m 0 c).arrAt_eq_of_after_last 8 t0_15 (by decide +kernel) _ fun j => ?_
  blk_simp
  rw [after0_8]
  exact H.sum8 (fun n h => (outsAt0 m c n h).2.2.1) (fun t h j => by rw [outsAt0_A m c t h]; frame_out; rfl)
    (fun t h j => by rw [outsAt0_B m c t h]; frame_out; rfl) t0_15 rfl j

omit H in
/-- The table after the first point, -/
theorem first9 (t : Fin cfg0.N) (h : t.val % 16 = 0) (j : S8x1024.Idx) : (outsAt0 m c t.val t.isLt).2.2.2 j
    = 0 + Kernel2Ideal.Hand.part (iblk m c 0 t) (scl (iblk m c 1 t)) (shf (iblk m c 1 t)) (iblk m c 2 t) (iblk m c 4 t) (iblk m c 3 t) j := by
  rw [outsAt0_A m c t h]
  frame_out
  simp (disch := decide) only [View.readCov_skip, View.readCov_fill]
  rw [← View.read_writes_junk_eq_canon VO0_9]
  exact step9 VO0_9 _ _ (fun _ => (0 : EReal)) (whole9 _ _) _ _ (fun d => by pointwise [k0_pay2])
    (fun d => by pointwise [k0_pay2]) _ _ _ _ _ _ j

omit H in
/-- and after a later one. -/
theorem next9 (t : Fin cfg0.N) (h : ¬t.val % 16 = 0) (j : S8x1024.Idx) : (outsAt0 m c t.val t.isLt).2.2.2 j
    = (outsAt0 m c (t.val - 1) (Nat.lt_of_le_of_lt (Nat.sub_le _ _) t.isLt)).2.2.2 j
      + Kernel2Ideal.Hand.part (iblk m c 0 t) (scl (iblk m c 1 t)) (shf (iblk m c 1 t)) (iblk m c 2 t) (iblk m c 4 t) (iblk m c 3 t) j := by
  rw [outsAt0_B m c t h]
  frame_out
  exact step9 _ _ [] _ (by rw [View.writes_nil]; exact Memref.IsWhole.read_unread _ _) _ _ (fun d => by pointwise)
    (fun d => by pointwise) _ _ _ _ _ _ j

/-- The scale's and the shift's gradients. -/
theorem final9 : (dats m 0 c).arrAt 9 cfg0.N = resP 3 X A V W G := by
  refine (dats m 0 c).arrAt_eq_of_after_last 9 t0_15 (by decide +kernel) _ fun j => ?_
  blk_simp
  rw [after0_9]
  exact H.sum9 (fun n h => (outsAt0 m c n h).2.2.2) first9 next9 t0_15 rfl j

end Cert.Kernel5Ideal.Run

end
-- ==== Proof.FfnR5.lean ====
module

public import proofs.«01_k».proof.Proof.FfnR2
public import proofs.«01_k».proof.Proof.Gen.Reference5Ideal.Read

@[expose] public section

/-! The reference of another quarter is the first's over the moved stacks. -/

set_option maxRecDepth 16384

noncomputable section

namespace Cert.Reference5Ideal.Read

open Cert.Ffn Cert.FfnRef
open Idealize.ShloMosaic

variable {X : S8192x1024.Idx → EReal} {A : S6x1024.Idx → EReal} {V W : S4x1024x1024.Idx → EReal} {G P : S8192x1024.Idx → EReal}

/-- The first weight's quarter, -/
theorem m4 : val_main_v4 (F := Ideal) V = Reference2Ideal.Read.val_main_v4 (F := Ideal) (shift 3 V) := by
  have e : val_main_v2 (F := Ideal) V = Reference2Ideal.Read.val_main_v2 (F := Ideal) (shift 3 V) := funext fun i => by
    rw [val_main_v2_apply, Reference2Ideal.Read.val_main_v2_apply]
    exact congrArg V (funext fun a => Fin.ext (by
      match a with
      | ⟨0, _⟩ => show 3 + (i 0).val = ((i 0).val + 3) % 4; have h : (i 0).val < 1 := (i 0).isLt; omega
      | ⟨1, _⟩ => rfl
      | ⟨2, _⟩ => rfl))
  unfold val_main_v4 val_main_v3
  rw [e]
  rfl

/-- the second's, -/
theorem m7 : val_main_v7 (F := Ideal) W = Reference2Ideal.Read.val_main_v7 (F := Ideal) (shift 3 W) := m4 (V := W)

/-- the hidden units, -/
theorem m14 : val_main_v14 (F := Ideal) X A V = Reference2Ideal.Read.val_main_v14 (F := Ideal) X A (shift 3 V) := by
  unfold val_main_v14
  rw [m4]
  rfl

/-- their cotangent -/
theorem m29 : val_main_v29 (F := Ideal) X A V W G
    = Reference2Ideal.Read.val_main_v29 (F := Ideal) X A (shift 3 V) (shift 3 W) G := by
  unfold val_main_v29 val_main_v27 val_main_v26 val_main_v21 val_main_v17 val_main_v15
  rw [m14, m7]
  rfl

/-- and the modulated rows'. -/
theorem m32 : val_main_v32 (F := Ideal) X A V W G
    = Reference2Ideal.Read.val_main_v32 (F := Ideal) X A (shift 3 V) (shift 3 W) G := by
  unfold val_main_v32
  rw [m29, m4]
  rfl

/-- The rows' gradient. -/
theorem ref6 : val_main_v41 (F := Ideal) X A V W G P = resX 3 X A V W G P := by
  unfold val_main_v41 val_main_v39
  rw [m32]
  exact FfnRef.ref6.trans (resX_shift 3)

/-- The first weight's gradient. -/
theorem ref7 : val_main_v42 (F := Ideal) X A V W G = resV 3 X A V W G := by
  unfold val_main_v42 val_main_v31 val_main_v30
  rw [m29]
  exact FfnRef.ref7.trans (resV_shift (W := W) 3)

/-- The second weight's gradient. -/
theorem ref8 : val_main_v43 (F := Ideal) X A V G = resW 3 X A V G := by
  unfold val_main_v43 val_main_v25 val_main_v24 val_main_v19 val_main_v15
  rw [m14]
  exact FfnRef.ref8.trans (resW_shift 3)

/-- The table of the two gradients. -/
theorem ref9 : val_main_v49 (F := Ideal) X A V W G = resP 3 X A V W G := by
  unfold val_main_v49 val_main_v48 val_main_call1_v2 val_main_call1_v1 val_main_call2_v0 val_main_v37 val_main_v36 val_main_v35 val_main_v34 val_main_v33
  rw [m32]
  exact FfnRef.ref9.trans (resP_shift 3)

end Cert.Reference5Ideal.Read

end
-- ==== Proof.FfnAlg.lean ====
module

public import proofs.«01_k».proof.Defs
public import proofs.«01_k».proof.Proof.FfnK2
public import proofs.«01_k».proof.Proof.FfnR2
public import proofs.«01_k».proof.Proof.FfnK3
public import proofs.«01_k».proof.Proof.FfnR3
public import proofs.«01_k».proof.Proof.FfnK4
public import proofs.«01_k».proof.Proof.FfnR4
public import proofs.«01_k».proof.Proof.FfnK5
public import proofs.«01_k».proof.Proof.FfnR5
public import Idealize.ShloMosaic.Lib.Claim

@[expose] public section

/-! The idealized kernels of the feed-forward's backward pass and their references end with equal results. -/

set_option maxRecDepth 16384

noncomputable section

namespace Cert.Ffn

open Idealize.ShloMosaic Idealize.ShloMosaic.TcCoe Idealize.ShloMosaic.Tactic

/-- The first quarter of the hidden units. -/
theorem algebraic2 : Cert.algebraic_Kernel2Ideal_Reference2Ideal := by
  pair_intro
  · run_from Cert.Kernel2Ideal.Value.run_blocks m g
  · run_from Cert.Reference2Ideal.Value.run m' g'
    · exact (Reference2Ideal.Read.val_main_v41_eq _ _ _ _ _ _).trans (FfnRef.ref6.trans (Kernel2Ideal.Run.final6 (Kernel2Ideal.Run.blocks m c)).symm)
    · exact (Reference2Ideal.Read.val_main_v42_eq _ _ _ _ _).trans (FfnRef.ref7.trans (Kernel2Ideal.Run.final7 (Kernel2Ideal.Run.blocks m c)).symm)
    · exact (Reference2Ideal.Read.val_main_v43_eq _ _ _ _).trans (FfnRef.ref8.trans (Kernel2Ideal.Run.final8 (Kernel2Ideal.Run.blocks m c)).symm)
    · obtain ⟨a0, a1, a2, a3, a4, -⟩ := hagree c
      rw [Reference2Ideal.Read.val_main_v49_eq, a0, a1, a2, a3, a4]
      exact FfnRef.ref9.trans (Kernel2Ideal.Run.final9 (Kernel2Ideal.Run.blocks m c)).symm

/-- The second quarter of the hidden units. -/
theorem algebraic3 : Cert.algebraic_Kernel3Ideal_Reference3Ideal := by
  pair_intro
  · run_from Cert.Kernel3Ideal.Value.run_blocks m g
  · run_from Cert.Reference3Ideal.Value.run m' g'
    · exact (Reference3Ideal.Read.val_main_v41_eq _ _ _ _ _ _).trans (Reference3Ideal.Read.ref6.trans (Kernel3Ideal.Run.final6 (Kernel3Ideal.Run.blocks m c)).symm)
    · exact (Reference3Ideal.Read.val_main_v42_eq _ _ _ _ _).trans (Reference3Ideal.Read.ref7.trans (Kernel3Ideal.Run.final7 (Kernel3Ideal.Run.blocks m c)).symm)
    · exact (Reference3Ideal.Read.val_main_v43_eq _ _ _ _).trans (Reference3Ideal.Read.ref8.trans (Kernel3Ideal.Run.final8 (Kernel3Ideal.Run.blocks m c)).symm)
    · obtain ⟨a0, a1, a2, a3, a4, -⟩ := hagree c
      rw [Reference3Ideal.Read.val_main_v49_eq, a0, a1, a2, a3, a4]
      exact Reference3Ideal.Read.ref9.trans (Kernel3Ideal.Run.final9 (Kernel3Ideal.Run.blocks m c)).symm

/-- The third quarter of the hidden units. -/
theorem algebraic4 : Cert.algebraic_Kernel4Ideal_Reference4Ideal := by
  pair_intro
  · run_from Cert.Kernel4Ideal.Value.run_blocks m g
  · run_from Cert.Reference4Ideal.Value.run m' g'
    · exact (Reference4Ideal.Read.val_main_v41_eq _ _ _ _ _ _).trans (Reference4Ideal.Read.ref6.trans (Kernel4Ideal.Run.final6 (Kernel4Ideal.Run.blocks m c)).symm)
    · exact (Reference4Ideal.Read.val_main_v42_eq _ _ _ _ _).trans (Reference4Ideal.Read.ref7.trans (Kernel4Ideal.Run.final7 (Kernel4Ideal.Run.blocks m c)).symm)
    · exact (Reference4Ideal.Read.val_main_v43_eq _ _ _ _).trans (Reference4Ideal.Read.ref8.trans (Kernel4Ideal.Run.final8 (Kernel4Ideal.Run.blocks m c)).symm)
    · obtain ⟨a0, a1, a2, a3, a4, -⟩ := hagree c
      rw [Reference4Ideal.Read.val_main_v49_eq, a0, a1, a2, a3, a4]
      exact Reference4Ideal.Read.ref9.trans (Kernel4Ideal.Run.final9 (Kernel4Ideal.Run.blocks m c)).symm

/-- The fourth quarter of the hidden units. -/
theorem algebraic5 : Cert.algebraic_Kernel5Ideal_Reference5Ideal := by
  pair_intro
  · run_from Cert.Kernel5Ideal.Value.run_blocks m g
  · run_from Cert.Reference5Ideal.Value.run m' g'
    · exact (Reference5Ideal.Read.val_main_v41_eq _ _ _ _ _ _).trans (Reference5Ideal.Read.ref6.trans (Kernel5Ideal.Run.final6 (Kernel5Ideal.Run.blocks m c)).symm)
    · exact (Reference5Ideal.Read.val_main_v42_eq _ _ _ _ _).trans (Reference5Ideal.Read.ref7.trans (Kernel5Ideal.Run.final7 (Kernel5Ideal.Run.blocks m c)).symm)
    · exact (Reference5Ideal.Read.val_main_v43_eq _ _ _ _).trans (Reference5Ideal.Read.ref8.trans (Kernel5Ideal.Run.final8 (Kernel5Ideal.Run.blocks m c)).symm)
    · obtain ⟨a0, a1, a2, a3, a4, -⟩ := hagree c
      rw [Reference5Ideal.Read.val_main_v49_eq, a0, a1, a2, a3, a4]
      exact Reference5Ideal.Read.ref9.trans (Kernel5Ideal.Run.final9 (Kernel5Ideal.Run.blocks m c)).symm

end Cert.Ffn

end
-- ==== Proof.FwdM.lean ====
module

public import Idealize.ShloMosaic.Lib.Pointwise

@[expose] public section

/-! The feed-forward with its residual layer norm and the squared loss, over the real numbers: `x` the rows, `a` the table of
shifts, scales and gates, `v` and `w` the weights, `l` the norm's gain and offset, `g` the target. -/

noncomputable section

namespace Cert.Fwd

open Idealize.ShloMosaic

/-- A sum of real numbers, as an extended real. -/
theorem coe_sum {ι : Type} (s : Finset ι) (a : ι → ℝ) : ((∑ i ∈ s, a i : ℝ) : EReal) = ∑ i ∈ s, (a i : EReal) := by
  classical
  induction s using Finset.induction_on with
  | empty => simp
  | insert i s hi ih => rw [Finset.sum_insert hi, Finset.sum_insert hi, EReal.coe_add, ih]

/-- The larger of two real numbers. -/
theorem coe_max (a b : ℝ) : ((max a b : ℝ) : EReal) = max (a : EReal) (b : EReal) :=
  EReal.coe_strictMono.monotone.map_max

/-- The residual's factor, as the program holds it. -/
def α : ℝ := (Ideal.ofBits .f32 0x3F9837F0#32).toReal

/-- The norm's small constant. -/
def ε : ℝ := (Ideal.ofBits .f32 0x3727C5AC#32).toReal

theorem ofBits_α : Ideal.ofBits .f32 0x3F9837F0#32 = (α : EReal) := by
  unfold α
  simp [Ideal.ofBits, Ideal.ieee, -EReal.coe_mul]

theorem ofBits_ε : Ideal.ofBits .f32 0x3727C5AC#32 = (ε : EReal) := by
  unfold ε
  simp [Ideal.ofBits, Ideal.ieee, -EReal.coe_mul]

theorem ε_pos : 0 < ε := by
  unfold ε
  simp [Ideal.ofBits, Ideal.ieee, -EReal.coe_mul]

theorem ofBits_one : Ideal.ofBits .f32 0x3F800000#32 = ((1 : ℝ) : EReal) := by
  rw [Ideal.ofBits_one_f32]; rfl

theorem ofBits_zero : Ideal.ofBits .f32 0x00000000#32 = ((0 : ℝ) : EReal) := by
  rw [Ideal.ofBits_zero_f32]; rfl

theorem ofBits_two : Ideal.ofBits .f32 0x40000000#32 = ((2 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul, -EReal.coe_neg]; norm_num

theorem ofBits_width : Ideal.ofBits .f32 0x44800000#32 = ((1024 : ℝ) : EReal) := by
  simp [Ideal.ofBits, Ideal.ieee, -EReal.coe_mul]; norm_num

theorem ofBits_inv : Ideal.ofBits .f32 0x3A800000#32 = ((1 / 1024 : ℝ) : EReal) := by
  simp [Ideal.ofBits, Ideal.ieee, -EReal.coe_mul]; norm_num

theorem ofBits_half_inv : Ideal.ofBits .f32 0x3A000000#32 = ((1 / 2048 : ℝ) : EReal) := by
  simp [Ideal.ofBits, Ideal.ieee, -EReal.coe_mul]; norm_num

/-- A quotient by the width. -/
theorem div_width (a : ℝ) : Ideal.div (a : EReal) ((1024 : ℝ) : EReal) = ((a / 1024 : ℝ) : EReal) := by
  rw [Ideal.div_coe (by norm_num), ← EReal.coe_mul]
  exact congrArg _ (by ring)

section

variable (r : ℕ → ℝ) (g b y : ℕ → ℝ)

/-! ## The norm of one row `r`, with gain `g` and offset `b`, against the target `y` -/

/-- The deviation from the mean, -/
def dev (d : ℕ) : ℝ := r d - (∑ k : Fin 1024, r k.val) / 1024

/-- the variance, -/
def var : ℝ := (∑ k : Fin 1024, dev r k.val * dev r k.val) / 1024

/-- the reciprocal of the standard deviation, -/
def rs : ℝ := (Real.sqrt (var r + ε))⁻¹

/-- the normed row, -/
def nrm (d : ℕ) : ℝ := dev r d * rs r

/-- the difference from the target, -/
def err (d : ℕ) : ℝ := nrm r d * g d + b d - y d

/-- the loss' cotangent, -/
def dy (d : ℕ) : ℝ := err r g b y d * (1 / 1024)

/-- times the gain, -/
def dn (d : ℕ) : ℝ := dy r g b y d * g d

/-- and the cotangent of the row. -/
def dr (d : ℕ) : ℝ := rs r * (dn r g b y d - (∑ k : Fin 1024, dn r g b y k.val) / 1024
  - nrm r d * ((∑ k : Fin 1024, dn r g b y k.val * nrm r k.val) / 1024))

theorem var_pos : 0 < var r + ε :=
  add_pos_of_nonneg_of_pos (div_nonneg (Finset.sum_nonneg fun _ _ => mul_self_nonneg _) (by norm_num)) ε_pos

/-- The reciprocal square root at the variance. -/
theorem rsqrt_var : Ideal.rsqrt ((var r + ε : ℝ) : EReal) = ((rs r : ℝ) : EReal) := by
  rw [Ideal.rsqrt_coe, if_neg (var_pos r).le.not_gt, if_neg (var_pos r).ne']
  rfl

/-- The reciprocal's square. -/
theorem rs_sq : rs r * rs r * (var r + ε) = 1 := by
  have h : Real.sqrt (var r + ε) * Real.sqrt (var r + ε) = var r + ε := Real.mul_self_sqrt (var_pos r).le
  have h0 : Real.sqrt (var r + ε) ≠ 0 := (Real.sqrt_pos.mpr (var_pos r)).ne'
  unfold rs
  generalize Real.sqrt (var r + ε) = s at *
  rw [← h]
  field_simp

/-- The deviations cancel. -/
theorem sum_dev : ∑ k : Fin 1024, dev r k.val = 0 := by
  unfold dev
  rw [Finset.sum_sub_distrib, Finset.sum_const, Finset.card_univ, Fintype.card_fin, nsmul_eq_mul]
  push_cast
  ring

/-- The row's cotangent as the derivative of the norm's three steps gives it. -/
theorem dr_eq (d : ℕ) :
    dn r g b y d * rs r + (∑ k : Fin 1024, dev r k.val * dn r g b y k.val) * (-(1 / 2) * (rs r * (1 / (var r + ε)))) / 1024 * (2 * dev r d)
      + (∑ k : Fin 1024, -(dn r g b y k.val * rs r)
        + ∑ k : Fin 1024, -((∑ k : Fin 1024, dev r k.val * dn r g b y k.val) * (-(1 / 2) * (rs r * (1 / (var r + ε)))) / 1024 * (2 * dev r k.val))) / 1024
      = dr r g b y d := by
  have e : 1 / (var r + ε) = rs r * rs r := by
    rw [div_eq_iff (var_pos r).ne', rs_sq]
  have z : ∑ k : Fin 1024, -((∑ k : Fin 1024, dev r k.val * dn r g b y k.val) * (-(1 / 2) * (rs r * (1 / (var r + ε)))) / 1024 * (2 * dev r k.val)) = 0 := by
    rw [Finset.sum_neg_distrib, ← Finset.mul_sum, ← Finset.mul_sum, sum_dev]
    ring
  have s : ∑ k : Fin 1024, dn r g b y k.val * nrm r k.val = (∑ k : Fin 1024, dev r k.val * dn r g b y k.val) * rs r := by
    rw [Finset.sum_mul]
    exact Finset.sum_congr rfl fun k _ => by unfold nrm; ring
  rw [z, e, Finset.sum_neg_distrib, ← Finset.sum_mul]
  unfold dr
  rw [s]
  unfold nrm
  ring

end

section

variable (x a v w l g : ℕ → ℕ → ℝ)

/-! ## The rows -/

/-- The modulated row, -/
def u (t d : ℕ) : ℝ := x t d * (1 + a 4 d) + a 3 d

/-- its hidden units, -/
def hid (t e : ℕ) : ℝ := max (∑ d : Fin 1024, u x a t d.val * v d.val e) 0

/-- a hidden unit's part of the feed-forward, -/
def unit (t d e : ℕ) : ℝ := hid x a v t e * hid x a v t e * w e d

/-- the feed-forward, -/
def ff (t d : ℕ) : ℝ := ∑ e ∈ Finset.range 4096, unit x a v w t d e

/-- the residual sum -/
def res (t d : ℕ) : ℝ := α * x t d + (1 + a 5 d) * ff x a v w t d

/-- and its cotangent. -/
def dres (t d : ℕ) : ℝ := dr (res x a v w t) (l 0) (l 1) (g t) d

/-- What row `t` adds to the table: the gain's gradient, the offset's, the gate's, and the loss by columns. -/
def tab (j d t : ℕ) : ℝ :=
  if j = 3 then err (res x a v w t) (l 0) (l 1) (g t) d * err (res x a v w t) (l 0) (l 1) (g t) d * (1 / 2048)
  else if j = 2 then dres x a v w l g t d * ff x a v w t d
  else if j = 1 then dy (res x a v w t) (l 0) (l 1) (g t) d
  else if j = 0 then dy (res x a v w t) (l 0) (l 1) (g t) d * nrm (res x a v w t) d
  else 0

/-! ## The results -/

/-- The arguments, read as real numbers. -/
structure Reads (X : (⟨2, ![8192, 1024]⟩ : Shape).Idx → EReal) (A : (⟨2, ![6, 1024]⟩ : Shape).Idx → EReal)
    (V W : (⟨3, ![4, 1024, 1024]⟩ : Shape).Idx → EReal) (L : (⟨2, ![2, 1024]⟩ : Shape).Idx → EReal)
    (T : (⟨2, ![8192, 1024]⟩ : Shape).Idx → EReal) : Prop where
  h0 : ∀ i, X i = ((x (i 0).val (i 1).val : ℝ) : EReal)
  h1 : ∀ i, A i = ((a (i 0).val (i 1).val : ℝ) : EReal)
  h2 : ∀ i, V i = ((v (i 1).val (1024 * (i 0).val + (i 2).val) : ℝ) : EReal)
  h3 : ∀ i, W i = ((w (1024 * (i 0).val + (i 1).val) (i 2).val : ℝ) : EReal)
  h4 : ∀ i, L i = ((l (i 0).val (i 1).val : ℝ) : EReal)
  h5 : ∀ i, T i = ((g (i 0).val (i 1).val : ℝ) : EReal)

/-- The feed-forward's cotangent, -/
def outFf : (⟨2, ![8192, 1024]⟩ : Shape).Idx → EReal := fun i =>
  (((1 + a 5 (i 1).val) * dres x a v w l g (i 0).val (i 1).val : ℝ) : EReal)

/-- the rows', through the residual, -/
def outX : (⟨2, ![8192, 1024]⟩ : Shape).Idx → EReal := fun i => ((α * dres x a v w l g (i 0).val (i 1).val : ℝ) : EReal)

/-- and the table. -/
def outTab : (⟨2, ![8, 1024]⟩ : Shape).Idx → EReal := fun i =>
  ((∑ t ∈ Finset.range 8192, tab x a v w l g (i 0).val (i 1).val t : ℝ) : EReal)

end

end Cert.Fwd

end
-- ==== Proof.FwdP.lean ====
module

public import proofs.«01_k».proof.Proof.FwdM
public import proofs.«01_k».proof.Proof.Gen.Kernel6Ideal.Skeleton
public import Idealize.ShloMosaic.Lib.Pointwise

@[expose] public section

/-! The payloads of the feed-forward's kernel at an element, on real arguments. -/

set_option maxRecDepth 16384

noncomputable section

namespace Cert.Kernel6Ideal.Hand

open Cert.Fwd Cert.Kernel6Ideal.Gen
open Idealize.ShloMosaic Idealize.ShloMosaic.TcCoe Idealize.ShloMosaic.Tactic

/-- The table begins at zero, -/
theorem pay1_apply (j : S8x1024.Idx) : k0_pay1 (F := Ideal) j = 0 := by pointwise [k0_pay1]

/-- and so does the feed-forward. -/
theorem pay3_apply (j : S512x1024.Idx) : k0_pay3 (F := Ideal) j = 0 := by pointwise [k0_pay3]

/-- The modulated rows. -/
theorem pay2_apply (X : Vec Ideal S512x1024 .f32) (B A : Vec Ideal S1x1024 .f32) (s : Fin 512) (d : Fin 1024) :
    k0_pay2 (F := Ideal) X B A (ix2 s d) = X (ix2 s d) * (1 + B (ix2 0 d)) + A (ix2 0 d) := by
  pointwise [k0_pay2]

/-- What a quarter of the hidden units adds to the feed-forward. -/
theorem pay4_apply (U : Vec Ideal S512x1024 .bf16) (V : Vec Ideal S1x1024x1024 .bf16) (O : Vec Ideal S512x1024 .f32)
    (W : Vec Ideal S1x1024x1024 .bf16) (s : Fin 512) (d : Fin 1024) :
    k0_pay4 (F := Ideal) U V O W (ix2 s d) = O (ix2 s d) + ∑ e : Fin 1024,
      max (∑ k : Fin 1024, U (ix2 s k) * V (ix3 0 k e)) 0 * max (∑ k : Fin 1024, U (ix2 s k) * V (ix3 0 k e)) 0 * W (ix3 0 e d) := by
  pointwise [k0_pay4]

section

variable (Z X : Vec Ideal S512x1024 .f32) (B : Vec Ideal S1x1024 .f32) (s : Fin 512) (r : ℕ → ℝ)
  (hr : ∀ k : Fin 1024, Ideal.ofBits .f32 0x3F9837F0#32 * X (ix2 s k) + (1 + B (ix2 0 k)) * Z (ix2 s k) = ((r k.val : ℝ) : EReal))

include hr

/-- The deviations from the mean. -/
theorem pay8_real (d : Fin 1024) : k0_pay8 (F := Ideal) Z X B (ix2 s d) = ((dev r d.val : ℝ) : EReal) := by
  have e : k0_pay8 (F := Ideal) Z X B (ix2 s d)
      = Ideal.ofBits .f32 0x3F9837F0#32 * X (ix2 s d) + (1 + B (ix2 0 d)) * Z (ix2 s d)
        - Ideal.div (∑ k : Fin 1024, (Ideal.ofBits .f32 0x3F9837F0#32 * X (ix2 s k) + (1 + B (ix2 0 k)) * Z (ix2 s k)))
          (Ideal.ofBits .f32 0x44800000#32) := by
    pointwise [k0_pay8]
  rw [e, ofBits_width]
  simp only [hr]
  rw [← coe_sum, div_width, ← EReal.coe_sub]
  rfl

/-- The reciprocal of the standard deviation. -/
theorem pay9_real : k0_pay9 (F := Ideal) Z X B (ix2 s 0) = ((rs r : ℝ) : EReal) := by
  have e : k0_pay9 (F := Ideal) Z X B (ix2 s 0)
      = Ideal.rsqrt (Ideal.div (∑ k : Fin 1024, k0_pay8 (F := Ideal) Z X B (ix2 s k) * k0_pay8 (F := Ideal) Z X B (ix2 s k))
          (Ideal.ofBits .f32 0x44800000#32) + Ideal.ofBits .f32 0x3727C5AC#32) := by
    pointwise [k0_pay9]
  rw [e, ofBits_width, ofBits_ε]
  simp only [pay8_real Z X B s r hr, ← EReal.coe_mul]
  rw [← coe_sum, div_width, ← EReal.coe_add]
  exact rsqrt_var r

/-- The normed rows. -/
theorem pay10_real (d : Fin 1024) : k0_pay10 (F := Ideal) Z X B (ix2 s d) = ((nrm r d.val : ℝ) : EReal) := by
  have e : k0_pay10 (F := Ideal) Z X B (ix2 s d) = k0_pay8 (F := Ideal) Z X B (ix2 s d) * k0_pay9 (F := Ideal) Z X B (ix2 s 0) := by
    pointwise [k0_pay10]
  rw [e, pay8_real Z X B s r hr, pay9_real Z X B s r hr, ← EReal.coe_mul]
  rfl

variable (G D : Vec Ideal S1x1024 .f32) (T : Vec Ideal S512x1024 .f32) (g b y : ℕ → ℝ)
  (hg : ∀ k : Fin 1024, G (ix2 0 k) = ((g k.val : ℝ) : EReal)) (hb : ∀ k : Fin 1024, D (ix2 0 k) = ((b k.val : ℝ) : EReal))
  (hy : ∀ k : Fin 1024, T (ix2 s k) = ((y k.val : ℝ) : EReal))

include hg hb hy

/-- The difference from the target, -/
theorem pay11_real (d : Fin 1024) : k0_pay11 (F := Ideal) Z X B G D T (ix2 s d) = ((err r g b y d.val : ℝ) : EReal) := by
  have e : k0_pay11 (F := Ideal) Z X B G D T (ix2 s d)
      = k0_pay10 (F := Ideal) Z X B (ix2 s d) * G (ix2 0 d) + D (ix2 0 d) - T (ix2 s d) := by
    pointwise [k0_pay11]
  rw [e, pay10_real Z X B s r hr, hg, hb, hy, ← EReal.coe_mul, ← EReal.coe_add, ← EReal.coe_sub]
  rfl

/-- and the loss' cotangent. -/
theorem pay12_real (d : Fin 1024) : k0_pay12 (F := Ideal) Z X B G D T (ix2 s d) = ((dy r g b y d.val : ℝ) : EReal) := by
  have e : k0_pay12 (F := Ideal) Z X B G D T (ix2 s d)
      = k0_pay11 (F := Ideal) Z X B G D T (ix2 s d) * Ideal.ofBits .f32 0x3A800000#32 := by
    pointwise [k0_pay12]
  rw [e, pay11_real Z X B s r hr G D T g b y hg hb hy, ofBits_inv, ← EReal.coe_mul]
  rfl

omit hr hb hy in
/-- The gain, repeated over the rows. -/
theorem pay13_real (d : Fin 1024) : k0_pay13 (F := Ideal) G (ix2 s d) = ((g d.val : ℝ) : EReal) := by
  have e : k0_pay13 (F := Ideal) G (ix2 s d) = G (ix2 0 d) := by
    pointwise [k0_pay13]
  rw [e, hg]

/-- The rows' cotangent. -/
theorem pay14_real (d : Fin 1024) : k0_pay14 (F := Ideal) (k0_pay9 Z X B) (k0_pay10 Z X B) (k0_pay12 Z X B G D T) (k0_pay13 G) (ix2 s d)
    = ((dr r g b y d.val : ℝ) : EReal) := by
  have e : ∀ (P : FVec Ideal S512x1 .f32) (Q N L : FVec Ideal S512x1024 .f32), k0_pay14 (F := Ideal) P Q N L (ix2 s d)
      = P (ix2 s 0) * (N (ix2 s d) * L (ix2 s d) - Ideal.div (∑ k : Fin 1024, N (ix2 s k) * L (ix2 s k)) (Ideal.ofBits .f32 0x44800000#32)
        - Q (ix2 s d) * Ideal.div (∑ k : Fin 1024, N (ix2 s k) * L (ix2 s k) * Q (ix2 s k)) (Ideal.ofBits .f32 0x44800000#32)) :=
    fun P Q N L => by pointwise [k0_pay14]
  rw [e, ofBits_width]
  simp only [pay9_real Z X B s r hr, pay10_real Z X B s r hr, pay12_real Z X B s r hr G D T g b y hg hb hy, pay13_real s G g hg,
    ← EReal.coe_mul, ← coe_sum, div_width, ← EReal.coe_sub]
  rfl

end

/-- The feed-forward's cotangent, -/
theorem pay6_apply (N : Vec Ideal S512x1024 .f32) (B : Vec Ideal S1x1024 .f32) (s : Fin 512) (d : Fin 1024) :
    k0_pay6 (F := Ideal) N B (ix2 s d) = (1 + B (ix2 0 d)) * N (ix2 s d) := by
  pointwise [k0_pay6]

/-- and the rows'. -/
theorem pay7_apply (N : Vec Ideal S512x1024 .f32) (s : Fin 512) (d : Fin 1024) :
    k0_pay7 (F := Ideal) N (ix2 s d) = Ideal.ofBits .f32 0x3F9837F0#32 * N (ix2 s d) := by
  pointwise [k0_pay7]

/-- What a block adds to the table: the gain's gradient, -/
theorem pay15_apply (Q N : FVec Ideal S512x1024 .f32) (O : Vec Ideal S1x1024 .f32) (d : Fin 1024) :
    k0_pay15 (F := Ideal) Q N O (ix2 0 d) = O (ix2 0 d) + ∑ s : Fin 512, N (ix2 s d) * Q (ix2 s d) := by
  pointwise [k0_pay15]

/-- the offset's, -/
theorem pay16_apply (N : FVec Ideal S512x1024 .f32) (O : Vec Ideal S1x1024 .f32) (d : Fin 1024) :
    k0_pay16 (F := Ideal) N O (ix2 0 d) = O (ix2 0 d) + ∑ s : Fin 512, N (ix2 s d) := by
  pointwise [k0_pay16]

/-- the gate's, -/
theorem pay17_apply (Z : Vec Ideal S512x1024 .f32) (P : FVec Ideal S512x1 .f32) (Q N L : FVec Ideal S512x1024 .f32)
    (O : Vec Ideal S1x1024 .f32) (d : Fin 1024) :
    k0_pay17 (F := Ideal) Z P Q N L O (ix2 0 d) = O (ix2 0 d) + ∑ s : Fin 512, k0_pay14 (F := Ideal) P Q N L (ix2 s d) * Z (ix2 s d) := by
  pointwise [k0_pay17]

/-- and the loss by columns. -/
theorem pay5_apply (N : FVec Ideal S512x1024 .f32) (O : Vec Ideal S1x1024 .f32) (d : Fin 1024) :
    k0_pay5 (F := Ideal) N O (ix2 0 d)
      = O (ix2 0 d) + (∑ s : Fin 512, N (ix2 s d) * N (ix2 s d)) * Ideal.ofBits .f32 0x3A000000#32 := by
  pointwise [k0_pay5]

end Cert.Kernel6Ideal.Hand

end
-- ==== Proof.FwdK.lean ====
module

public import proofs.«01_k».proof.Proof.FwdP
public import proofs.«01_k».proof.Proof.Gen.Kernel6Ideal.Value
public import Idealize.ShloMosaic.Lib.Pipeline.ReadBack
public import Idealize.ShloMosaic.Lib.Pipeline.ValueKit
public import Idealize.ShloMosaic.Lib.Pointwise
public import Idealize.ShloMosaic.Lib.WritesUnit

@[expose] public section

/-! The run of the feed-forward with its norm and loss: sixteen blocks of rows, each over the four quarters of the hidden units. -/

set_option maxRecDepth 16384

noncomputable section

namespace Cert.Kernel6Ideal.Run

open Cert.Fwd Cert.Kernel6Ideal.Gen Cert.Kernel6Ideal.Hand
open Idealize.ShloMosaic Idealize.ShloMosaic.TcCoe Idealize.ShloMosaic.Tactic

/-- An index of two coordinates. -/
theorem ix2_eta {n k : ℕ} (y : (⟨2, ![n, k]⟩ : Shape).Idx) : ∃ (s : Fin n) (d : Fin k), y = ix2 s d :=
  ⟨y 0, y 1, by
    funext b
    match b with
    | ⟨0, _⟩ => rfl
    | ⟨1, _⟩ => rfl⟩

/-- One quarter of the hidden units added to the earlier ones. -/
theorem quarter {x a v w : ℕ → ℕ → ℝ} (q T : ℕ) (s : Fin 512) (U : Vec Ideal S512x1024 .bf16) (V : Vec Ideal S1x1024x1024 .bf16)
    (O : Vec Ideal S512x1024 .f32) (W : Vec Ideal S1x1024x1024 .bf16)
    (hU : ∀ d : Fin 1024, U (ix2 s d) = ((u x a T d.val : ℝ) : EReal))
    (hV : ∀ d e : Fin 1024, V (ix3 0 d e) = ((v d.val (1024 * q + e.val) : ℝ) : EReal))
    (hW : ∀ e d : Fin 1024, W (ix3 0 e d) = ((w (1024 * q + e.val) d.val : ℝ) : EReal)) (d : Fin 1024)
    (hO : O (ix2 s d) = ((∑ e ∈ Finset.range (1024 * q), unit x a v w T d.val e : ℝ) : EReal)) :
    k0_pay4 (F := Ideal) U V O W (ix2 s d) = ((∑ e ∈ Finset.range (1024 * (q + 1)), unit x a v w T d.val e : ℝ) : EReal) := by
  have hm : ∀ e : Fin 1024, max (∑ k : Fin 1024, U (ix2 s k) * V (ix3 0 k e)) 0 = ((hid x a v T (1024 * q + e.val) : ℝ) : EReal) := by
    intro e
    simp only [hU, hV, ← EReal.coe_mul]
    rw [← coe_sum]
    exact (coe_max _ _).symm
  rw [pay4_apply]
  simp only [hm, hW, hO, ← EReal.coe_mul]
  rw [← coe_sum, ← EReal.coe_add, show 1024 * (q + 1) = 1024 * q + 1024 by ring, Finset.sum_range_add]
  exact congrArg (fun z : ℝ => ((_ + z : ℝ) : EReal)) (Finset.sum_range (fun e => unit x a v w T d.val (1024 * q + e))).symm

/-- Four rows stored over a table `O`. -/
theorem rows4 {sig : RefSig} {κ : Kind} {sp : Space} (v : View sig κ sp S8x1024 .f32) (c : v.ty.Contents (Elt Ideal))
    (O : Vec Ideal S8x1024 .f32) (hO : v.read (Elt Ideal) c = O) (P3 P2 P1 P0 : Vec Ideal S1x1024 .f32) (j : S8x1024.Idx) :
    v.read (Elt Ideal) (v.writes (Elt Ideal) c
      [⟨Rect.unit ![3, 0] ![1, 1024] inb_S8x1024_S1x1024_3_0, P3⟩, ⟨Rect.unit ![2, 0] ![1, 1024] inb_S8x1024_S1x1024_2_0, P2⟩,
        ⟨Rect.unit ![1, 0] ![1, 1024] inb_S8x1024_S1x1024_1_0, P1⟩, ⟨Rect.unit ![0, 0] ![1, 1024] inb_S8x1024_S1x1024_0_0, P0⟩]) j
      = if (j 0).val = 3 then P3 (ix2 0 (j 1)) else if (j 0).val = 2 then P2 (ix2 0 (j 1))
        else if (j 0).val = 1 then P1 (ix2 0 (j 1)) else if (j 0).val = 0 then P0 (ix2 0 (j 1)) else O j := by
  by_cases e3 : (j 0).val = 3
  · rw [if_pos e3]
    exact View.read_writes_cons_rows_of_mem v c inb_S8x1024_S1x1024_3_0 _ _ j (ix2 0 (j 1)) rfl e3 rfl
  rw [if_neg e3]
  refine (View.read_writes_cons_rows_of_not_mem v c inb_S8x1024_S1x1024_3_0 _ _ j rfl rfl (by show _ ∨ 3 + 1 ≤ _; omega)).trans ?_
  by_cases e2 : (j 0).val = 2
  · rw [if_pos e2]
    exact View.read_writes_cons_rows_of_mem v c inb_S8x1024_S1x1024_2_0 _ _ j (ix2 0 (j 1)) rfl e2 rfl
  rw [if_neg e2]
  refine (View.read_writes_cons_rows_of_not_mem v c inb_S8x1024_S1x1024_2_0 _ _ j rfl rfl (by show _ ∨ 2 + 1 ≤ _; omega)).trans ?_
  by_cases e1 : (j 0).val = 1
  · rw [if_pos e1]
    exact View.read_writes_cons_rows_of_mem v c inb_S8x1024_S1x1024_1_0 _ _ j (ix2 0 (j 1)) rfl e1 rfl
  rw [if_neg e1]
  refine (View.read_writes_cons_rows_of_not_mem v c inb_S8x1024_S1x1024_1_0 _ _ j rfl rfl (by show _ ∨ 1 + 1 ≤ _; omega)).trans ?_
  by_cases e0 : (j 0).val = 0
  · rw [if_pos e0]
    exact View.read_writes_cons_rows_of_mem v c inb_S8x1024_S1x1024_0_0 _ _ j (ix2 0 (j 1)) rfl e0 rfl
  rw [if_neg e0]
  refine (View.read_writes_cons_rows_of_not_mem v c inb_S8x1024_S1x1024_0_0 _ _ j rfl rfl (by show _ ∨ 0 + 1 ≤ _; omega)).trans ?_
  rw [View.writes_nil, hO]

section

variable (m : (ℓ : Loc nD τ sig) → Buf (Elt Ideal) ℓ) (c : Dev nD)

/-- Every window's block index. -/
theorem idx : ∀ t : Fin cfg0.N, win0_0.index t = ![t.val / 4, 0] ∧ win0_1.index t = ![0, 0] ∧ win0_2.index t = ![t.val % 4, 0, 0]
    ∧ win0_3.index t = ![t.val % 4, 0, 0] ∧ win0_4.index t = ![0, 0] ∧ win0_5.index t = ![t.val / 4, 0] ∧ win0_6.index t = ![t.val / 4, 0]
    ∧ win0_7.index t = ![t.val / 4, 0] :=
  (by decide +kernel : ∀ t : Fin grid0.N, _)

/-- The last point. -/
def t63 : Fin cfg0.N := ⟨63, Nat.lt_of_lt_of_eq (by decide) N_0.symm⟩

variable {m c} {x a v w l g : ℕ → ℕ → ℝ}
  (H : Reads x a v w l g (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)))

include H

/-- The blocks of the arguments: the rows, -/
theorem b0 (t : Fin cfg0.N) (s : Fin 512) (d : Fin 1024) : iblk m c 0 t (ix2 s d) = ((x (512 * (t.val / 4) + s.val) d.val : ℝ) : EReal) := by
  have ht : t.val < 64 := Nat.lt_of_lt_of_eq t.isLt N_0
  exact (show iblk m c 0 t (ix2 s d) = m ((c : Thread nD τ).loc main_arg0) (ix2 ⟨512 * (t.val / 4) + s.val, by omega⟩ d) by
    blk_ext [iblk, V, idx t]).trans (H.h0 _)

/-- the modulation, -/
theorem b1 (t : Fin cfg0.N) (r : Fin 6) (d : Fin 1024) : iblk m c 1 t (ix2 r d) = ((a r.val d.val : ℝ) : EReal) :=
  (show iblk m c 1 t (ix2 r d) = m ((c : Thread nD τ).loc main_arg1) (ix2 r d) by blk_ext [iblk, V, idx t]).trans (H.h1 _)

/-- the weights, -/
theorem b2 (t : Fin cfg0.N) (d e : Fin 1024) : iblk m c 2 t (ix3 0 d e) = ((v d.val (1024 * (t.val % 4) + e.val) : ℝ) : EReal) :=
  (show iblk m c 2 t (ix3 0 d e) = m ((c : Thread nD τ).loc main_arg2) (ix3 ⟨t.val % 4, by omega⟩ d e) by
    blk_ext [iblk, V, idx t]).trans (H.h2 _)

theorem b3 (t : Fin cfg0.N) (e d : Fin 1024) : iblk m c 3 t (ix3 0 e d) = ((w (1024 * (t.val % 4) + e.val) d.val : ℝ) : EReal) :=
  (show iblk m c 3 t (ix3 0 e d) = m ((c : Thread nD τ).loc main_arg3) (ix3 ⟨t.val % 4, by omega⟩ e d) by
    blk_ext [iblk, V, idx t]).trans (H.h3 _)

/-- the norm's gain and offset, -/
theorem b4 (t : Fin cfg0.N) (r : Fin 2) (d : Fin 1024) : iblk m c 4 t (ix2 r d) = ((l r.val d.val : ℝ) : EReal) :=
  (show iblk m c 4 t (ix2 r d) = m ((c : Thread nD τ).loc main_arg4) (ix2 r d) by blk_ext [iblk, V, idx t]).trans (H.h4 _)

/-- and the target. -/
theorem b5 (t : Fin cfg0.N) (s : Fin 512) (d : Fin 1024) : iblk m c 5 t (ix2 s d) = ((g (512 * (t.val / 4) + s.val) d.val : ℝ) : EReal) := by
  have ht : t.val < 64 := Nat.lt_of_lt_of_eq t.isLt N_0
  exact (show iblk m c 5 t (ix2 s d) = m ((c : Thread nD τ).loc main_arg5) (ix2 ⟨512 * (t.val / 4) + s.val, by omega⟩ d) by
    blk_ext [iblk, V, idx t]).trans (H.h5 _)

/-- The rows of the modulation as the program loads them, -/
theorem l3 (t : Fin cfg0.N) (d : Fin 1024) : View.ld (iblk m c 1 t) (Rect.unit ![3, 0] ![1, 1024] inb_S6x1024_S1x1024_3_0) (ix2 0 d)
    = ((a 3 d.val : ℝ) : EReal) :=
  (show _ = iblk m c 1 t (ix2 3 d) by pointwise).trans (b1 H t 3 d)

theorem l4 (t : Fin cfg0.N) (d : Fin 1024) : View.ld (iblk m c 1 t) (Rect.unit ![4, 0] ![1, 1024] inb_S6x1024_S1x1024_4_0) (ix2 0 d)
    = ((a 4 d.val : ℝ) : EReal) :=
  (show _ = iblk m c 1 t (ix2 4 d) by pointwise).trans (b1 H t 4 d)

theorem l5 (t : Fin cfg0.N) (d : Fin 1024) : View.ld (iblk m c 1 t) (Rect.unit ![5, 0] ![1, 1024] inb_S6x1024_S1x1024_5_0) (ix2 0 d)
    = ((a 5 d.val : ℝ) : EReal) :=
  (show _ = iblk m c 1 t (ix2 5 d) by pointwise).trans (b1 H t 5 d)

/-- and of the norm. -/
theorem lg (t : Fin cfg0.N) (d : Fin 1024) : View.ld (iblk m c 4 t) (Rect.unit ![0, 0] ![1, 1024] inb_S2x1024_S1x1024_0_0) (ix2 0 d)
    = ((l 0 d.val : ℝ) : EReal) :=
  (show _ = iblk m c 4 t (ix2 0 d) by pointwise).trans (b4 H t 0 d)

theorem lb (t : Fin cfg0.N) (d : Fin 1024) : View.ld (iblk m c 4 t) (Rect.unit ![1, 0] ![1, 1024] inb_S2x1024_S1x1024_1_0) (ix2 0 d)
    = ((l 1 d.val : ℝ) : EReal) :=
  (show _ = iblk m c 4 t (ix2 1 d) by pointwise).trans (b4 H t 1 d)

/-- The modulated rows as the first of four points computes them. -/
theorem start (t : Fin cfg0.N) (s : Fin 512) (d : Fin 1024) :
    k0_pay2 (F := Ideal) (iblk m c 0 t) (View.ld (iblk m c 1 t) (Rect.unit ![4, 0] ![1, 1024] inb_S6x1024_S1x1024_4_0))
      (View.ld (iblk m c 1 t) (Rect.unit ![3, 0] ![1, 1024] inb_S6x1024_S1x1024_3_0)) (ix2 s d)
      = ((u x a (512 * (t.val / 4) + s.val) d.val : ℝ) : EReal) := by
  rw [pay2_apply, b0 H, l3 H, l4 H, ← EReal.coe_one, ← EReal.coe_add, ← EReal.coe_mul, ← EReal.coe_add]
  rfl

/-- What a point leaves: the modulated rows and the feed-forward over the quarters so far. -/
theorem carried : ∀ (n : ℕ) (h : n < cfg0.N) (s : Fin 512) (d : Fin 1024),
    (outsAt0 m c n h).2.2.2.2 (ix2 s d) = ((u x a (512 * (n / 4) + s.val) d.val : ℝ) : EReal)
      ∧ (outsAt0 m c n h).2.2.2.1 (ix2 s d)
        = ((∑ e ∈ Finset.range (1024 * (n % 4 + 1)), unit x a v w (512 * (n / 4) + s.val) d.val e : ℝ) : EReal) := by
  intro n
  induction n using Nat.strong_induction_on with
  | _ n ih =>
    intro h s d
    have first : ∀ (t : Fin cfg0.N), t.val = n → t.val % 4 = 0 →
        k0_pay4 (F := Ideal) (k0_pay2 (iblk m c 0 t) (View.ld (iblk m c 1 t) (Rect.unit ![4, 0] ![1, 1024] inb_S6x1024_S1x1024_4_0))
          (View.ld (iblk m c 1 t) (Rect.unit ![3, 0] ![1, 1024] inb_S6x1024_S1x1024_3_0))) (iblk m c 2 t) (k0_pay3 (F := Ideal)) (iblk m c 3 t) (ix2 s d)
          = ((∑ e ∈ Finset.range (1024 * (t.val % 4 + 1)), unit x a v w (512 * (t.val / 4) + s.val) d.val e : ℝ) : EReal) := by
      intro t _ h4
      refine quarter (t.val % 4) _ s _ _ _ _ (start H t s) (b2 H t) (b3 H t) d ((pay3_apply _).trans ?_)
      rw [h4, Nat.mul_zero, Finset.range_zero, Finset.sum_empty, EReal.coe_zero]
    have later : ∀ (t : Fin cfg0.N), t.val = n → ¬t.val % 4 = 0 →
        (outsAt0 m c (t.val - 1) (Nat.lt_of_le_of_lt (Nat.sub_le _ _) t.isLt)).2.2.2.2 (ix2 s d)
          = ((u x a (512 * (t.val / 4) + s.val) d.val : ℝ) : EReal)
        ∧ k0_pay4 (F := Ideal) (outsAt0 m c (t.val - 1) (Nat.lt_of_le_of_lt (Nat.sub_le _ _) t.isLt)).2.2.2.2 (iblk m c 2 t)
          (outsAt0 m c (t.val - 1) (Nat.lt_of_le_of_lt (Nat.sub_le _ _) t.isLt)).2.2.2.1 (iblk m c 3 t) (ix2 s d)
          = ((∑ e ∈ Finset.range (1024 * (t.val % 4 + 1)), unit x a v w (512 * (t.val / 4) + s.val) d.val e : ℝ) : EReal) := by
      intro t hn h4
      have p := fun d => ih (t.val - 1) (by omega) (Nat.lt_of_le_of_lt (Nat.sub_le _ _) t.isLt) s d
      rw [show (t.val - 1) / 4 = t.val / 4 by omega, show (t.val - 1) % 4 + 1 = t.val % 4 by omega] at p
      exact ⟨(p d).1, quarter (t.val % 4) _ s _ _ _ _ (fun d => (p d).1) (b2 H t) (b3 H t) d (p d).2⟩
    by_cases h1 : n % 4 = 0
    · have h2 : ¬n % 4 = 3 := by omega
      by_cases h0 : n % 64 = 0
      · have e := outsAt0_A m c ⟨n, h⟩ h0 h1 h2
        constructor
        · rw [e]; frame_out; exact start H ⟨n, h⟩ s d
        · rw [e]; frame_out; exact first ⟨n, h⟩ rfl h1
      · have e := outsAt0_D m c ⟨n, h⟩ h0 h1 h2
        constructor
        · rw [e]; frame_out; exact start H ⟨n, h⟩ s d
        · rw [e]; frame_out; exact first ⟨n, h⟩ rfl h1
    · have h0 : ¬n % 64 = 0 := by omega
      have p := later ⟨n, h⟩ rfl h1
      by_cases h2 : n % 4 = 3
      · have e := outsAt0_C m c ⟨n, h⟩ h0 h1 h2
        constructor
        · rw [e]; exact p.1
        · rw [e]; frame_out; simp only [read_unread_whole]; exact p.2
      · have e := outsAt0_B m c ⟨n, h⟩ h0 h1 h2
        constructor
        · rw [e]; exact p.1
        · rw [e]; frame_out; simp only [read_unread_whole]; exact p.2

/-- The whole feed-forward, at the last of four points, -/
theorem whole (t : Fin cfg0.N) (h2 : t.val % 4 = 3) (s : Fin 512) (d : Fin 1024) :
    k0_pay4 (F := Ideal) (outsAt0 m c (t.val - 1) (Nat.lt_of_le_of_lt (Nat.sub_le _ _) t.isLt)).2.2.2.2 (iblk m c 2 t)
      (outsAt0 m c (t.val - 1) (Nat.lt_of_le_of_lt (Nat.sub_le _ _) t.isLt)).2.2.2.1 (iblk m c 3 t) (ix2 s d)
      = ((ff x a v w (512 * (t.val / 4) + s.val) d.val : ℝ) : EReal) := by
  have p := fun d => carried H (t.val - 1) (Nat.lt_of_le_of_lt (Nat.sub_le _ _) t.isLt) s d
  rw [show (t.val - 1) / 4 = t.val / 4 by omega, show (t.val - 1) % 4 + 1 = t.val % 4 by omega] at p
  refine (quarter (t.val % 4) _ s _ _ _ _ (fun d => (p d).1) (b2 H t) (b3 H t) d (p d).2).trans ?_
  rw [h2]
  rfl

/-- and the residual sum. -/
theorem total (t : Fin cfg0.N) (h2 : t.val % 4 = 3) (s : Fin 512) (d : Fin 1024) :
    Ideal.ofBits .f32 0x3F9837F0#32 * iblk m c 0 t (ix2 s d)
      + (1 + View.ld (iblk m c 1 t) (Rect.unit ![5, 0] ![1, 1024] inb_S6x1024_S1x1024_5_0) (ix2 0 d))
        * k0_pay4 (F := Ideal) (outsAt0 m c (t.val - 1) (Nat.lt_of_le_of_lt (Nat.sub_le _ _) t.isLt)).2.2.2.2 (iblk m c 2 t)
          (outsAt0 m c (t.val - 1) (Nat.lt_of_le_of_lt (Nat.sub_le _ _) t.isLt)).2.2.2.1 (iblk m c 3 t) (ix2 s d)
      = ((res x a v w (512 * (t.val / 4) + s.val) d.val : ℝ) : EReal) := by
  rw [b0 H, l5 H, whole H t h2, ofBits_α, ← EReal.coe_one, ← EReal.coe_add, ← EReal.coe_mul, ← EReal.coe_mul, ← EReal.coe_add]
  rfl

/-- The feed-forward's cotangent. -/
theorem final6 : (dats m 0 c).arrAt 6 cfg0.N = outFf x a v w l g := by
  refine (dats m 0 c).arrAt_eq_of_covers 6 _ (by decide +kernel) fun t hf y => ?_
  have h2 : t.val % 4 = 3 := (flush0_6 t).mp hf
  have h1 : ¬t.val % 4 = 0 := by omega
  have h0 : ¬t.val % 64 = 0 := by omega
  have ht : t.val < 64 := Nat.lt_of_lt_of_eq t.isLt N_0
  blk_simp
  rw [after0_6]
  obtain ⟨s, d, rfl⟩ := ix2_eta y
  refine Eq.trans ?_ (show outFf x a v w l g (ix2 ⟨512 * (t.val / 4) + s.val, by omega⟩ d) = _ from
    congrArg (outFf x a v w l g) (by blk_ext [idx t]))
  rw [outsAt0_C m c t h0 h1 h2]
  frame_out
  simp only [read_unread_whole]
  refine (pay6_apply _ _ s d).trans ((congrArg₂ (· * ·) (congrArg ((1 : EReal) + ·) (l5 H t d)) (pay14_real _ _ _ s (res x a v w (512 * (t.val / 4) + s.val)) (total H t h2 s) _ _ _ (l 0) (l 1) (g (512 * (t.val / 4) + s.val))
    (lg H t) (lb H t) (b5 H t s) d)).trans ?_)
  rw [← EReal.coe_one, ← EReal.coe_add, ← EReal.coe_mul]
  rfl

/-- The rows' cotangent through the residual. -/
theorem final7 : (dats m 0 c).arrAt 7 cfg0.N = outX x a v w l g := by
  refine (dats m 0 c).arrAt_eq_of_covers 7 _ (by decide +kernel) fun t hf y => ?_
  have h2 : t.val % 4 = 3 := (flush0_7 t).mp hf
  have h1 : ¬t.val % 4 = 0 := by omega
  have h0 : ¬t.val % 64 = 0 := by omega
  have ht : t.val < 64 := Nat.lt_of_lt_of_eq t.isLt N_0
  blk_simp
  rw [after0_7]
  obtain ⟨s, d, rfl⟩ := ix2_eta y
  refine Eq.trans ?_ (show outX x a v w l g (ix2 ⟨512 * (t.val / 4) + s.val, by omega⟩ d) = _ from
    congrArg (outX x a v w l g) (by blk_ext [idx t]))
  rw [outsAt0_C m c t h0 h1 h2]
  frame_out
  simp only [read_unread_whole]
  exact (pay7_apply _ s d).trans ((congrArg₂ (· * ·) ofBits_α (pay14_real _ _ _ s (res x a v w (512 * (t.val / 4) + s.val)) (total H t h2 s) _ _ _ (l 0) (l 1) (g (512 * (t.val / 4) + s.val))
    (lg H t) (lb H t) (b5 H t s) d)).trans (EReal.coe_mul _ _).symm)

/-- The table after the last of four points: its block of rows added. -/
theorem next (t : Fin cfg0.N) (h2 : t.val % 4 = 3) (j : Fin 8) (d : Fin 1024) :
    (outsAt0 m c t.val t.isLt).2.2.1 (ix2 j d)
      = (outsAt0 m c (t.val - 1) (Nat.lt_of_le_of_lt (Nat.sub_le _ _) t.isLt)).2.2.1 (ix2 j d)
        + ((∑ s : Fin 512, tab x a v w l g j.val d.val (512 * (t.val / 4) + s.val) : ℝ) : EReal) := by
  have h1 : ¬t.val % 4 = 0 := by omega
  have h0 : ¬t.val % 64 = 0 := by omega
  have p10 := fun s : Fin 512 => pay10_real _ _ _ s (res x a v w (512 * (t.val / 4) + s.val)) (total H t h2 s)
  have p11 := fun s : Fin 512 => pay11_real _ _ _ s (res x a v w (512 * (t.val / 4) + s.val)) (total H t h2 s) _ _ _ (l 0) (l 1) (g (512 * (t.val / 4) + s.val))
    (lg H t) (lb H t) (b5 H t s)
  have p12 := fun s : Fin 512 => pay12_real _ _ _ s (res x a v w (512 * (t.val / 4) + s.val)) (total H t h2 s) _ _ _ (l 0) (l 1) (g (512 * (t.val / 4) + s.val))
    (lg H t) (lb H t) (b5 H t s)
  have p14 := fun s : Fin 512 => pay14_real _ _ _ s (res x a v w (512 * (t.val / 4) + s.val)) (total H t h2 s) _ _ _ (l 0) (l 1) (g (512 * (t.val / 4) + s.val))
    (lg H t) (lb H t) (b5 H t s)
  rw [outsAt0_C m c t h0 h1 h2]
  frame_out
  simp only [read_unread_whole]
  refine (rows4 _ _ _ (Memref.IsWhole.read_unread _ _) _ _ _ _ _).trans ?_
  show (if j.val = 3 then _ else if j.val = 2 then _ else if j.val = 1 then _ else if j.val = 0 then _ else _) = _
  by_cases e3 : j.val = 3
  · obtain rfl : j = 3 := Fin.ext e3
    rw [if_pos e3]
    refine (pay5_apply _ _ d).trans (congrArg₂ (· + ·) (by pointwise) ((congrArg (· * _) (Finset.sum_congr rfl fun s _ =>
      (congrArg₂ (· * ·) (p11 s d) (p11 s d)).trans (EReal.coe_mul _ _).symm)).trans ?_))
    rw [← coe_sum, ofBits_half_inv, ← EReal.coe_mul, Finset.sum_mul]
    rfl
  rw [if_neg e3]
  by_cases e2 : j.val = 2
  · obtain rfl : j = 2 := Fin.ext e2
    rw [if_pos e2]
    refine (pay17_apply _ _ _ _ _ _ d).trans (congrArg₂ (· + ·) (by pointwise) ((Finset.sum_congr rfl fun s _ =>
      (congrArg₂ (· * ·) (p14 s d) (whole H t h2 s d)).trans (EReal.coe_mul _ _).symm).trans ?_))
    rw [← coe_sum]
    rfl
  rw [if_neg e2]
  by_cases e1 : j.val = 1
  · obtain rfl : j = 1 := Fin.ext e1
    rw [if_pos e1]
    refine (pay16_apply _ _ d).trans (congrArg₂ (· + ·) (by pointwise) ((Finset.sum_congr rfl fun s _ => p12 s d).trans ?_))
    rw [← coe_sum]
    rfl
  rw [if_neg e1]
  by_cases e0 : j.val = 0
  · obtain rfl : j = 0 := Fin.ext e0
    rw [if_pos e0]
    refine (pay15_apply _ _ _ d).trans (congrArg₂ (· + ·) (by pointwise) ((Finset.sum_congr rfl fun s _ =>
      (congrArg₂ (· * ·) (p12 s d) (p10 s d)).trans (EReal.coe_mul _ _).symm).trans ?_))
    rw [← coe_sum]
    rfl
  rw [if_neg e0]
  refine (add_zero _).symm.trans (congrArg (_ + ·) ?_)
  rw [← EReal.coe_zero]
  refine congrArg _ (Finset.sum_eq_zero fun s _ => ?_).symm
  unfold tab
  rw [if_neg e3, if_neg e2, if_neg e1, if_neg e0]

/-- The table after a point: the rows of the blocks that are finished. -/
theorem table : ∀ (n : ℕ) (h : n < cfg0.N) (j : Fin 8) (d : Fin 1024), (outsAt0 m c n h).2.2.1 (ix2 j d)
    = ((∑ r ∈ Finset.range (512 * ((n + 1) / 4)), tab x a v w l g j.val d.val r : ℝ) : EReal) := by
  intro n
  induction n using Nat.strong_induction_on with
  | _ n ih =>
    intro h j d
    by_cases h0 : n % 64 = 0
    · have hn : n = 0 := by
        have : n < 64 := Nat.lt_of_lt_of_eq h N_0
        omega
      subst hn
      have e := outsAt0_A m c ⟨0, h⟩ h0 rfl (show ¬0 % 4 = 3 by decide)
      rw [e]
      frame_out
      refine (pay1_apply _).trans ?_
      simp
    · have p := ih (n - 1) (by omega) (Nat.lt_of_le_of_lt (Nat.sub_le _ _) h) j d
      rw [show n - 1 + 1 = n by omega] at p
      by_cases h2 : n % 4 = 3
      · refine (next H ⟨n, h⟩ h2 j d).trans ?_
        show (outsAt0 m c (n - 1) (Nat.lt_of_le_of_lt (Nat.sub_le _ _) h)).2.2.1 (ix2 j d) + _ = _
        rw [p, ← EReal.coe_add, show 512 * ((n + 1) / 4) = 512 * (n / 4) + 512 by omega, Finset.sum_range_add]
        exact congrArg (fun z : ℝ => ((_ + z : ℝ) : EReal)) (Finset.sum_range (fun s => tab x a v w l g j.val d.val (512 * (n / 4) + s))).symm
      · rw [show (n + 1) / 4 = n / 4 by omega, ← p]
        by_cases h1 : n % 4 = 0
        · exact congrArg (fun o => o.2.2.1 (ix2 j d)) (outsAt0_D m c ⟨n, h⟩ h0 h1 h2)
        · exact congrArg (fun o => o.2.2.1 (ix2 j d)) (outsAt0_B m c ⟨n, h⟩ h0 h1 h2)

/-- The table. -/
theorem final8 : (dats m 0 c).arrAt 8 cfg0.N = outTab x a v w l g := by
  refine (dats m 0 c).arrAt_eq_of_after_last 8 t63 (by decide +kernel) _ fun j => ?_
  blk_simp
  rw [after0_8]
  obtain ⟨k, d, rfl⟩ := ix2_eta j
  exact table H 63 _ k d

end

end Cert.Kernel6Ideal.Run

end
-- ==== Proof.FwdR.lean ====
module

public import proofs.«01_k».proof.Proof.FwdM
public import proofs.«01_k».proof.Proof.Gen.Reference6Ideal.Read

@[expose] public section

/-! The reference of the feed-forward with its norm and loss at an element, on real arguments. -/

set_option maxRecDepth 16384

noncomputable section

namespace Cert.FwdRef

open Cert.Fwd Cert.Reference6Ideal Cert.Reference6Ideal.Read
open Idealize.ShloMosaic Idealize.ShloMosaic.TcCoe

variable {X T : S8192x1024.Idx → EReal} {A : S6x1024.Idx → EReal} {V W : S4x1024x1024.Idx → EReal} {L : S2x1024.Idx → EReal}
  {x a v w l g : ℕ → ℕ → ℝ} (H : Reads x a v w l g X A V W L T)

include H

/-- The first weight as one matrix, -/
theorem r2 (i : S1024x4096.Idx) : val_main_v2 (F := Ideal) V i = ((v (i 0).val (i 1).val : ℝ) : EReal) := by
  have h0 : (i 0).val < 1024 := (i 0).isLt
  have h1 : (i 1).val < 4096 := (i 1).isLt
  rw [val_main_v2_apply, val_main_v1_apply, val_main_v0_apply]
  exact (H.h2 _).trans (congrArg₂ (fun p q => ((v p q : ℝ) : EReal))
    (show ((i 0).val * 4096 + (i 1).val) / 4096 = (i 0).val by omega)
    (show 1024 * (((i 0).val * 4096 + (i 1).val) / 1024 % 4) + ((i 0).val * 4096 + (i 1).val) % 1024 = (i 1).val by omega))

/-- and the second. -/
theorem r4 (i : S4096x1024.Idx) : val_main_v4 (F := Ideal) W i = ((w (i 0).val (i 1).val : ℝ) : EReal) := by
  have h0 : (i 0).val < 4096 := (i 0).isLt
  have h1 : (i 1).val < 1024 := (i 1).isLt
  rw [val_main_v4_apply, val_main_v3_apply]
  exact (H.h3 _).trans (congrArg₂ (fun p q => ((w p q : ℝ) : EReal))
    (show 1024 * (((i 0).val * 1024 + (i 1).val) / 1048576) + ((i 0).val * 1024 + (i 1).val) / 1024 % 1024 = (i 0).val by omega)
    (show ((i 0).val * 1024 + (i 1).val) % 1024 = (i 1).val by omega))

/-- The modulated rows. -/
theorem r12 (i : S8192x1024.Idx) : val_main_v12 (F := Ideal) X A i = ((u x a (i 0).val (i 1).val : ℝ) : EReal) := by
  simp only [val_main_v12_apply, val_main_v10_apply, val_main_v9_apply, val_main_v8_apply, val_main_v7_apply, val_main_cst_apply,
    val_main_v6_apply, val_main_v11_apply, val_main_v5_apply, H.h0, H.h1, Ideal.ofBits_def, ofBits_one, Ideal.addf_def, Ideal.mulf_def,
    ← EReal.coe_mul, ← EReal.coe_add]
  rfl

/-- The hidden units. -/
theorem r14 (i : S8192x4096.Idx) : val_main_v14 (F := Ideal) X A V i = ((hid x a v (i 0).val (i 1).val : ℝ) : EReal) := by
  rw [val_main_v14_apply, val_main_v13_apply, val_main_call0_v0_apply, val_main_call0_cst_apply, Ideal.ofBits_def, ofBits_zero]
  simp only [r12 H, r2 H, ← EReal.coe_mul]
  rw [← coe_sum]
  exact (coe_max _ _).symm

/-- The feed-forward. -/
theorem r16 (i : S8192x1024.Idx) : val_main_v16 (F := Ideal) X A V W i = ((ff x a v w (i 0).val (i 1).val : ℝ) : EReal) := by
  rw [val_main_v16_apply]
  simp only [val_main_v15_apply, r14 H, r4 H, Ideal.mulf_def, ← EReal.coe_mul]
  rw [← coe_sum]
  exact congrArg _ (Finset.sum_range (fun e => unit x a v w (i 0).val (i 1).val e)).symm

/-- One plus the gate. -/
theorem r23 (i : S1x1024.Idx) : val_main_v23 (F := Ideal) A i = ((1 + a 5 (i 1).val : ℝ) : EReal) := by
  have h : (i 0).val < 1 := (i 0).isLt
  simp only [val_main_v23_apply, val_main_v22_apply, val_main_cst_1_apply, val_main_v17_apply, H.h1, Ideal.ofBits_def, ofBits_one,
    Ideal.addf_def, ← EReal.coe_add]
  exact congrArg (fun k => ((1 + a k (i 1).val : ℝ) : EReal)) (show 5 + (i 0).val = 5 by omega)

/-- The residual sum. -/
theorem r26 (i : S8192x1024.Idx) : val_main_v26 (F := Ideal) X A V W i = ((res x a v w (i 0).val (i 1).val : ℝ) : EReal) := by
  simp only [val_main_v26_apply, val_main_v21_apply, val_main_v20_apply, val_main_cst_0_apply, val_main_v25_apply, val_main_v24_apply,
    r23 H, r16 H, H.h0, Ideal.ofBits_def, ofBits_α, Ideal.addf_def, Ideal.mulf_def, ← EReal.coe_mul, ← EReal.coe_add]
  rfl

/-- The means. -/
theorem r30 (i : S8192x1.Idx) : val_main_v30 (F := Ideal) X A V W i
    = (((∑ k : Fin 1024, res x a v w (i 0).val k.val) / 1024 : ℝ) : EReal) := by
  rw [val_main_v30_apply, val_main_v28_apply, val_main_v27_apply, val_main_cst_2_apply, val_main_v29_apply, val_main_cst_3_apply,
    Ideal.ofBits_def, Ideal.ofBits_zero_f32, zero_add, Ideal.ofBits_def, ofBits_width, Ideal.hostDivf_def]
  simp only [r26 H]
  rw [← coe_sum, div_width]

/-- The deviations, -/
theorem r32 (i : S8192x1024.Idx) : val_main_v32 (F := Ideal) X A V W i = ((dev (res x a v w (i 0).val) (i 1).val : ℝ) : EReal) := by
  rw [val_main_v32_apply, val_main_v31_apply, r26 H, r30 H, Ideal.subf_def, ← EReal.coe_sub]
  rfl

/-- which the program computes twice. -/
theorem r41 (i : S8192x1024.Idx) : val_main_v41 (F := Ideal) X A V W i = ((dev (res x a v w (i 0).val) (i 1).val : ℝ) : EReal) := by
  rw [val_main_v41_apply, val_main_v40_apply, r26 H, r30 H, Ideal.subf_def, ← EReal.coe_sub]
  rfl

/-- The variance with its small constant. -/
theorem r43 (i : S8192x1.Idx) : val_main_v43 (F := Ideal) X A V W i = ((var (res x a v w (i 0).val) + ε : ℝ) : EReal) := by
  rw [val_main_v43_apply, val_main_v39_apply, val_main_v37_apply, val_main_v36_apply, val_main_cst_5_apply, val_main_v38_apply,
    val_main_cst_6_apply, val_main_v42_apply, val_main_cst_7_apply, Ideal.ofBits_def, Ideal.ofBits_zero_f32, zero_add, Ideal.ofBits_def,
    ofBits_width, Ideal.ofBits_def, ofBits_ε, Ideal.hostDivf_def]
  simp only [val_main_v33_apply, r32 H, Ideal.mulf_def, ← EReal.coe_mul]
  rw [← coe_sum, div_width, Ideal.addf_def, ← EReal.coe_add]
  rfl

/-- The reciprocal of the standard deviation, -/
theorem r44 (i : S8192x1.Idx) : val_main_v44 (F := Ideal) X A V W i = ((rs (res x a v w (i 0).val) : ℝ) : EReal) := by
  rw [val_main_v44_apply, r43 H]
  exact rsqrt_var _

/-- and its derivative. -/
theorem r47 (i : S8192x1.Idx) : val_main_v47 (F := Ideal) X A V W i
    = ((-(1 / 2) * (rs (res x a v w (i 0).val) * (1 / (var (res x a v w (i 0).val) + ε))) : ℝ) : EReal) := by
  rw [val_main_v47_apply, val_main_v46_apply, val_main_cst_8_apply, val_main_v45_apply, r44 H, r43 H, Ideal.ofBits_def, ofBits_neg_half,
    Ideal.hostDivf_def, Ideal.div_coe (var_pos _).ne', Ideal.mulf_def, ← EReal.coe_mul, ← EReal.coe_mul]

/-- The normed rows. -/
theorem r49 (i : S8192x1024.Idx) : val_main_v49 (F := Ideal) X A V W i = ((nrm (res x a v w (i 0).val) (i 1).val : ℝ) : EReal) := by
  rw [val_main_v49_apply, r41 H, val_main_v48_apply, r44 H, Ideal.mulf_def, ← EReal.coe_mul]
  rfl

/-- The difference from the target. -/
theorem r54 (i : S8192x1024.Idx) : val_main_v54 (F := Ideal) X A V W L T i
    = ((err (res x a v w (i 0).val) (l 0) (l 1) (g (i 0).val) (i 1).val : ℝ) : EReal) := by
  simp only [val_main_v54_apply, val_main_v53_apply, val_main_v51_apply, r49 H, val_main_v50_apply, val_main_v18_apply,
    val_main_v52_apply, val_main_v19_apply, H.h4, H.h5, Ideal.subf_def, Ideal.addf_def, Ideal.mulf_def, ← EReal.coe_mul,
    ← EReal.coe_add, ← EReal.coe_sub]
  rfl

omit H in
/-- Half the cotangent of a column's mean. -/
theorem r70 (i : S8192x1024.Idx) : val_main_v70 (F := Ideal) i = ((1 / 2 * (1 / 1024) : ℝ) : EReal) := by
  have e : val_main_v66 (F := Ideal) i = ((1 : ℝ) : EReal) := by
    rw [val_main_v66_apply, val_main_v65_apply, val_main_cst_14_apply, Ideal.ofBits_def, Ideal.ofBits_zero_f32, zero_add, Fin.sum_univ_one,
      val_main_v64_apply, val_main_cst_13_apply, Ideal.ofBits_def, ofBits_one]
  rw [val_main_v70_apply, val_main_v69_apply, val_main_cst_16_apply, val_main_v68_apply, e, val_main_v67_apply, val_main_cst_15_apply,
    Ideal.ofBits_def, ofBits_half, Ideal.ofBits_def, ofBits_width, Ideal.hostDivf_def, div_width, Ideal.mulf_def, ← EReal.coe_mul]

/-- The loss' cotangent, -/
theorem r71 (i : S8192x1024.Idx) : val_main_v71 (F := Ideal) X A V W L T i
    = ((dy (res x a v w (i 0).val) (l 0) (l 1) (g (i 0).val) (i 1).val : ℝ) : EReal) := by
  rw [val_main_v71_apply, r70, val_main_v57_apply, r54 H, val_main_v56_apply, val_main_cst_9_apply, Ideal.ofBits_def, ofBits_two,
    Ideal.mulf_def, Ideal.mulf_def, ← EReal.coe_mul, ← EReal.coe_mul]
  exact congrArg _ (by unfold dy; ring)

/-- times the gain. -/
theorem r78 (i : S8192x1024.Idx) : val_main_v78 (F := Ideal) X A V W L T i
    = ((dn (res x a v w (i 0).val) (l 0) (l 1) (g (i 0).val) (i 1).val : ℝ) : EReal) := by
  rw [val_main_v78_apply, r71 H, val_main_v77_apply, val_main_v18_apply, H.h4, Ideal.mulf_def, ← EReal.coe_mul]
  rfl

/-- Its product with the reciprocal of the standard deviation. -/
theorem r83 (i : S8192x1024.Idx) : val_main_v83 (F := Ideal) X A V W L T i
    = ((dn (res x a v w (i 0).val) (l 0) (l 1) (g (i 0).val) (i 1).val * rs (res x a v w (i 0).val) : ℝ) : EReal) := by
  rw [val_main_v83_apply, r78 H, val_main_v82_apply, r44 H, Ideal.mulf_def, ← EReal.coe_mul]

/-- The part through the variance. -/
theorem r92 (i : S8192x1024.Idx) : val_main_v92 (F := Ideal) X A V W L T i
    = (((∑ k : Fin 1024, dev (res x a v w (i 0).val) k.val * dn (res x a v w (i 0).val) (l 0) (l 1) (g (i 0).val) k.val)
      * (-(1 / 2) * (rs (res x a v w (i 0).val) * (1 / (var (res x a v w (i 0).val) + ε)))) / 1024
        * (2 * dev (res x a v w (i 0).val) (i 1).val) : ℝ) : EReal) := by
  rw [val_main_v92_apply, val_main_v91_apply, val_main_v90_apply, val_main_cst_22_apply, Ideal.ofBits_def, Ideal.ofBits_zero_f32, zero_add,
    Fin.sum_univ_one, val_main_v89_apply, val_main_v84_apply, val_main_v81_apply, val_main_v80_apply, val_main_cst_19_apply,
    Ideal.ofBits_def, Ideal.ofBits_zero_f32, zero_add, r47 H, val_main_v88_apply, val_main_cst_21_apply, Ideal.ofBits_def, ofBits_width,
    val_main_v35_apply, val_main_v34_apply, val_main_cst_4_apply, Ideal.ofBits_def, ofBits_two, r32 H, Ideal.hostDivf_def]
  simp only [val_main_v79_apply, r41 H, r78 H, Ideal.mulf_def, ← EReal.coe_mul]
  rw [← coe_sum, ← EReal.coe_mul, div_width, ← EReal.coe_mul]
  simp only [Fin.val_zero, Nat.mul_one, Nat.add_zero]

/-- The residual sum's cotangent. -/
theorem r102 (i : S8192x1024.Idx) : val_main_v102 (F := Ideal) X A V W L T i = ((dres x a v w l g (i 0).val (i 1).val : ℝ) : EReal) := by
  rw [val_main_v102_apply, val_main_v96_apply, r83 H, r92 H, val_main_v101_apply, val_main_v100_apply, val_main_cst_25_apply,
    Ideal.ofBits_def, Ideal.ofBits_zero_f32, zero_add, Fin.sum_univ_one, val_main_v99_apply, val_main_v97_apply, val_main_v87_apply,
    val_main_v86_apply, val_main_cst_20_apply, Ideal.ofBits_def, Ideal.ofBits_zero_f32, zero_add, val_main_v95_apply, val_main_v94_apply,
    val_main_cst_23_apply, Ideal.ofBits_def, Ideal.ofBits_zero_f32, zero_add, val_main_v98_apply, val_main_cst_24_apply, Ideal.ofBits_def,
    ofBits_width, Ideal.hostDivf_def]
  simp only [val_main_v85_apply, val_main_v93_apply, r83 H, r92 H, Ideal.hostNegf_def, Ideal.negf_def, ← EReal.coe_neg]
  rw [← coe_sum, ← coe_sum]
  simp only [Ideal.addf_def, ← EReal.coe_add, div_width]
  refine congrArg _ (Eq.trans ?_ (dr_eq (res x a v w (i 0).val) (l 0) (l 1) (g (i 0).val) (i 1).val))
  simp only [Fin.val_zero, Nat.mul_one, Nat.add_zero]

/-- The feed-forward's cotangent, -/
theorem ref6 : val_main_v123 (F := Ideal) X A V W L T = outFf x a v w l g := funext fun i => by
  rw [val_main_v123_apply, val_main_v104_apply, val_main_v103_apply, r23 H, r102 H, Ideal.mulf_def, ← EReal.coe_mul]
  rfl

/-- the rows', -/
theorem ref7 : val_main_v109 (F := Ideal) X A V W L T = outX x a v w l g := funext fun i => by
  rw [val_main_v109_apply, val_main_v108_apply, val_main_cst_27_apply, r102 H, Ideal.ofBits_def, ofBits_α, Ideal.mulf_def, ← EReal.coe_mul]
  rfl

/-- The columns of the loss, -/
theorem r62 (i : S1024.Idx) : val_main_v62 (F := Ideal) X A V W L T i
    = ((∑ t ∈ Finset.range 8192, tab x a v w l g 3 (i 0).val t : ℝ) : EReal) := by
  rw [val_main_v62_apply, val_main_cst_12_apply, Ideal.ofBits_def, Ideal.ofBits_zero_f32, zero_add]
  simp only [val_main_v61_apply, val_main_v59_apply, val_main_v58_apply, val_main_cst_10_apply, val_main_v60_apply, val_main_cst_11_apply,
    val_main_v55_apply, r54 H, Ideal.ofBits_def, ofBits_half, ofBits_width, Ideal.hostDivf_def, Ideal.mulf_def, ← EReal.coe_mul, div_width]
  rw [← coe_sum]
  refine congrArg _ (Eq.trans (Finset.sum_congr rfl fun t _ => ?_) (Finset.sum_range (fun t => tab x a v w l g 3 (i 0).val t)).symm)
  unfold tab
  rw [if_pos rfl]
  exact (by intro e; ring : ∀ e : ℝ, 1 / 2 * (e * e) / 1024 = e * e * (1 / 2048)) _

/-- the offset's gradient, -/
theorem r72 (i : S1024.Idx) : val_main_v72 (F := Ideal) X A V W L T i
    = ((∑ t ∈ Finset.range 8192, tab x a v w l g 1 (i 0).val t : ℝ) : EReal) := by
  rw [val_main_v72_apply, val_main_cst_17_apply, Ideal.ofBits_def, Ideal.ofBits_zero_f32, zero_add]
  simp only [r71 H]
  rw [← coe_sum]
  exact congrArg _ (Finset.sum_range (fun t => tab x a v w l g 1 (i 0).val t)).symm

/-- the gain's, -/
theorem r75 (i : S1024.Idx) : val_main_v75 (F := Ideal) X A V W L T i
    = ((∑ t ∈ Finset.range 8192, tab x a v w l g 0 (i 0).val t : ℝ) : EReal) := by
  rw [val_main_v75_apply, val_main_cst_18_apply, Ideal.ofBits_def, Ideal.ofBits_zero_f32, zero_add]
  simp only [val_main_v74_apply, r71 H, r49 H, Ideal.mulf_def, ← EReal.coe_mul]
  rw [← coe_sum]
  refine congrArg _ (Eq.trans (Finset.sum_congr rfl fun t _ => mul_comm _ _) (Finset.sum_range (fun t => tab x a v w l g 0 (i 0).val t)).symm)

/-- and the gate's. -/
theorem r106 (i : S1024.Idx) : val_main_v106 (F := Ideal) X A V W L T i
    = ((∑ t ∈ Finset.range 8192, tab x a v w l g 2 (i 0).val t : ℝ) : EReal) := by
  rw [val_main_v106_apply, val_main_cst_26_apply, Ideal.ofBits_def, Ideal.ofBits_zero_f32, zero_add]
  simp only [val_main_v105_apply, r102 H, r16 H, Ideal.mulf_def, ← EReal.coe_mul]
  rw [← coe_sum]
  exact congrArg _ (Finset.sum_range (fun t => tab x a v w l g 2 (i 0).val t)).symm

omit H in
/-- A row's number compared with another below eight. -/
theorem row_is (n k : ℕ) (hn : n < 8) (hk : k < 8) (p q : EReal) :
    Scalar.select (IntOp.cmpi .eq (BitVec.ofNat 32 n) (BitVec.ofNat 32 k)) p q = if n = k then p else q := by
  unfold Scalar.select IntOp.cmpi
  by_cases h : n = k
  · subst h
    simp
  · have hb : ¬BitVec.ofNat 32 n = BitVec.ofNat 32 k := fun e => h (by
      have := congrArg BitVec.toNat e
      simp at this
      omega)
    simp [h, beq_eq_false_iff_ne.mpr hb]

/-- The table. -/
theorem ref8 : val_main_v122 (F := Ideal) X A V W L T = outTab x a v w l g := funext fun i => by
  have h8 : (i 0).val < 8 := (i 0).isLt
  have e : ∀ d : ℕ, 0 * 1024 + d = d := fun d => by omega
  rw [val_main_v122_apply, val_main_v121_apply, val_main_v120_apply, val_main_v119_apply, val_main_v112_apply, val_main_v114_apply,
    val_main_v116_apply, val_main_v118_apply, val_main_v110_apply, val_main_v111_apply, val_main_v113_apply, val_main_v115_apply,
    val_main_v117_apply, val_main_c_apply, val_main_c_28_apply, val_main_c_29_apply, val_main_c_30_apply,
    row_is (i 0).val 0 h8 (by decide), row_is (i 0).val 1 h8 (by decide), row_is (i 0).val 2 h8 (by decide),
    row_is (i 0).val 3 h8 (by decide), val_main_call4_v0_apply, val_main_v76_apply, r75 H, val_main_call3_v0_apply, val_main_v73_apply,
    r72 H, val_main_call2_v0_apply, val_main_v107_apply, r106 H, val_main_call1_v1_apply, val_main_v63_apply, r62 H,
    val_main_call1_v2_apply, val_main_call1_v0_apply, val_main_cst_31_apply]
  unfold outTab
  by_cases h0 : (i 0).val = 0
  · rw [if_pos h0, h0]
    exact congrArg (fun d => ((∑ t ∈ Finset.range 8192, tab x a v w l g 0 d t : ℝ) : EReal)) (e _)
  rw [if_neg h0]
  by_cases h1 : (i 0).val = 1
  · rw [if_pos h1, h1]
    exact congrArg (fun d => ((∑ t ∈ Finset.range 8192, tab x a v w l g 1 d t : ℝ) : EReal)) (e _)
  rw [if_neg h1]
  by_cases h2 : (i 0).val = 2
  · rw [if_pos h2, h2]
    exact congrArg (fun d => ((∑ t ∈ Finset.range 8192, tab x a v w l g 2 d t : ℝ) : EReal)) (e _)
  rw [if_neg h2]
  by_cases h3 : (i 0).val = 3
  · rw [if_pos h3, h3]
  rw [if_neg h3, Ideal.ofBits_def, ofBits_zero]
  refine congrArg _ (Finset.sum_eq_zero fun t _ => ?_).symm
  unfold tab
  rw [if_neg h3, if_neg h2, if_neg h1, if_neg h0]

end Cert.FwdRef

end
-- ==== Proof.FwdAlg.lean ====
module

public import proofs.«01_k».proof.Defs
public import proofs.«01_k».proof.Proof.FwdK
public import proofs.«01_k».proof.Proof.FwdR
public import proofs.«01_k».proof.Proof.Alg
public import proofs.«01_k».proof.Proof.Gen.Pre_finite6
public import proofs.«01_k».proof.Proof.Gen.Kernel6Ideal
public import proofs.«01_k».proof.Proof.Gen.Reference6Ideal
public import proofs.«01_k».proof.Proof.Gen.Reference6Ideal.Run
public import Idealize.ShloMosaic.Lib.Claim

@[expose] public section

/-! On finite arguments the idealized forward call of the feed-forward and its reference end with equal results. -/

set_option maxRecDepth 16384

noncomputable section

namespace Cert.Fwd

open Idealize.ShloMosaic Idealize.ShloMosaic.TcCoe Idealize.ShloMosaic.Tactic

/-- The printed bound of the weights' type is plus infinity. -/
theorem plus_inf_bf16 : Ideal.ofBits .bf16 0x7F80#16 = ⊤ := by
  simp [Ideal.ofBits, Ideal.ieee]

/-- An array every element of which compares below plus infinity in absolute value holds real numbers. -/
theorem real_of {S : Shape} {e : FTy} (x : FVec Ideal S e) (b : FVec Ideal S e) (hb : ∀ i, b i = (⊤ : EReal))
    (h : cmpf .olt (Host.absf x) b = (fun _ => 1#1)) (i : S.Idx) : ∃ r : ℝ, (x i : EReal) = r := by
  refine Cert.Alg.real_of_lt (x i) ?_
  have e : Ideal.cmp .olt (max (x i : EReal) (-(x i : EReal))) (b i) = 1#1 := congrFun h i
  rwa [hb i] at e

/-- Four finite matrices, read by naturals as reals. -/
def realOf3 (x : (⟨3, ![4, 1024, 1024]⟩ : Shape).Idx → EReal) (k r c : ℕ) : ℝ :=
  (x (ix3 (⟨k % 4, Nat.mod_lt _ (by norm_num)⟩ : Fin 4) (⟨r % 1024, Nat.mod_lt _ (by norm_num)⟩ : Fin 1024)
    (⟨c % 1024, Nat.mod_lt _ (by norm_num)⟩ : Fin 1024))).toReal

/-- Reading them gives their elements back. -/
theorem realOf3_val (x : (⟨3, ![4, 1024, 1024]⟩ : Shape).Idx → EReal) (hx : ∀ i, ∃ r : ℝ, x i = r)
    (i : (⟨3, ![4, 1024, 1024]⟩ : Shape).Idx) {k r c : ℕ} (hk : k = (i 0).val) (hr : r = (i 1).val) (hc : c = (i 2).val) :
    x i = ((realOf3 x k r c : ℝ) : EReal) := by
  subst hk hr hc
  have e : ix3 (⟨(i 0).val % 4, Nat.mod_lt _ (by norm_num)⟩ : Fin 4) (⟨(i 1).val % 1024, Nat.mod_lt _ (by norm_num)⟩ : Fin 1024)
      (⟨(i 2).val % 1024, Nat.mod_lt _ (by norm_num)⟩ : Fin 1024) = i := by
    funext b
    match b with
    | ⟨0, _⟩ => exact Fin.ext (Nat.mod_eq_of_lt (i 0).isLt)
    | ⟨1, _⟩ => exact Fin.ext (Nat.mod_eq_of_lt (i 1).isLt)
    | ⟨2, _⟩ => exact Fin.ext (Nat.mod_eq_of_lt (i 2).isLt)
  obtain ⟨r, hr⟩ := hx i
  rw [realOf3, e, hr, EReal.toReal_coe]

/-- Six finite arrays are read as real numbers, the weights' quarters side by side. -/
theorem reads {X T : (⟨2, ![8192, 1024]⟩ : Shape).Idx → EReal} {A : (⟨2, ![6, 1024]⟩ : Shape).Idx → EReal}
    {V W : (⟨3, ![4, 1024, 1024]⟩ : Shape).Idx → EReal} {L : (⟨2, ![2, 1024]⟩ : Shape).Idx → EReal}
    (f0 : ∀ i, ∃ r : ℝ, X i = r) (f1 : ∀ i, ∃ r : ℝ, A i = r) (f2 : ∀ i, ∃ r : ℝ, V i = r)
    (f3 : ∀ i, ∃ r : ℝ, W i = r) (f4 : ∀ i, ∃ r : ℝ, L i = r) (f5 : ∀ i, ∃ r : ℝ, T i = r) :
    Reads (Alg.realOf X) (Alg.realOf A) (fun d e => realOf3 V (e / 1024) d (e % 1024))
      (fun e d => realOf3 W (e / 1024) (e % 1024) d) (Alg.realOf L) (Alg.realOf T) X A V W L T where
  h0 := Alg.realOf_val X f0
  h1 := Alg.realOf_val A f1
  h2 := fun i => by
    have := (i 2).isLt
    exact realOf3_val V f2 i (by change _ < 1024 at this; omega) rfl (by change _ < 1024 at this; omega)
  h3 := fun i => by
    have := (i 1).isLt
    exact realOf3_val W f3 i (by change _ < 1024 at this; omega) (by change _ < 1024 at this; omega) rfl
  h4 := Alg.realOf_val L f4
  h5 := Alg.realOf_val T f5

/-- On finite arguments the kernel's memory is read as real numbers. -/
theorem reads_of (m : (ℓ : Loc Cert.Kernel6Ideal.nD Cert.Kernel6Ideal.τ Cert.Kernel6Ideal.sig) → Buf (Elt Ideal) ℓ)
    (h : Cert.Pre_Kernel6Ideal_finite6 m) (c : Dev Cert.Kernel6Ideal.nD) :
    ∃ x a v w l g, Reads x a v w l g
      (m ((c.tc : Thread Cert.Kernel6Ideal.nD Cert.Kernel6Ideal.τ).loc Cert.Kernel6Ideal.main_arg0))
      (m ((c.tc : Thread Cert.Kernel6Ideal.nD Cert.Kernel6Ideal.τ).loc Cert.Kernel6Ideal.main_arg1))
      (m ((c.tc : Thread Cert.Kernel6Ideal.nD Cert.Kernel6Ideal.τ).loc Cert.Kernel6Ideal.main_arg2))
      (m ((c.tc : Thread Cert.Kernel6Ideal.nD Cert.Kernel6Ideal.τ).loc Cert.Kernel6Ideal.main_arg3))
      (m ((c.tc : Thread Cert.Kernel6Ideal.nD Cert.Kernel6Ideal.τ).loc Cert.Kernel6Ideal.main_arg4))
      (m ((c.tc : Thread Cert.Kernel6Ideal.nD Cert.Kernel6Ideal.τ).loc Cert.Kernel6Ideal.main_arg5)) :=
  ⟨_, _, _, _, _, _, reads (real_of _ _ (fun _ => Cert.Alg.plus_inf) (h c).1) (real_of _ _ (fun _ => Cert.Alg.plus_inf) (h c).2.1)
    (real_of _ _ (fun _ => plus_inf_bf16) (h c).2.2.1) (real_of _ _ (fun _ => plus_inf_bf16) (h c).2.2.2.1)
    (real_of _ _ (fun _ => Cert.Alg.plus_inf) (h c).2.2.2.2.1) (real_of _ _ (fun _ => Cert.Alg.plus_inf) (h c).2.2.2.2.2)⟩

/-- On finite arguments the forward call and the derivative of the plain loss end with equal results. -/
theorem algebraic6 : Cert.algebraic_Kernel6Ideal_Reference6Ideal_pre_finite6 := by
  pair_intro
  · run_from Cert.Kernel6Ideal.Value.run_blocks m g
  · run_from Cert.Reference6Ideal.Value.run m' g'
    · obtain ⟨x, a, v, w, l, g, H⟩ := reads_of m hpre c
      obtain ⟨a0, a1, a2, a3, a4, a5⟩ := hagree c
      have H' := H
      rw [← a0, ← a1, ← a2, ← a3, ← a4, ← a5] at H'
      exact (Reference6Ideal.Read.val_main_v123_eq (StableHlo.launchContents m' c)).trans ((FwdRef.ref6 H').trans (Kernel6Ideal.Run.final6 H).symm)
    · obtain ⟨x, a, v, w, l, g, H⟩ := reads_of m hpre c
      obtain ⟨a0, a1, a2, a3, a4, a5⟩ := hagree c
      have H' := H
      rw [← a0, ← a1, ← a2, ← a3, ← a4, ← a5] at H'
      exact (Reference6Ideal.Read.val_main_v109_eq (StableHlo.launchContents m' c)).trans ((FwdRef.ref7 H').trans (Kernel6Ideal.Run.final7 H).symm)
    · obtain ⟨x, a, v, w, l, g, H⟩ := reads_of m hpre c
      obtain ⟨a0, a1, a2, a3, a4, a5⟩ := hagree c
      have H' := H
      rw [← a0, ← a1, ← a2, ← a3, ← a4, ← a5] at H'
      exact (Reference6Ideal.Read.val_main_v122_eq (StableHlo.launchContents m' c)).trans ((FwdRef.ref8 H').trans (Kernel6Ideal.Run.final8 H).symm)

end Cert.Fwd

end
-- ==== Proof.Adam.lean ====
module

public import proofs.«01_k».proof.Defs
public import proofs.«01_k».proof.Proof.Gen.Kernel7Ideal.Value
public import proofs.«01_k».proof.Proof.Gen.Kernel7.Frame
public import proofs.«01_k».proof.Proof.Gen.Reference7Ideal.Read
public import proofs.«01_k».proof.Proof.Gen.Kernel8Ideal.Value
public import proofs.«01_k».proof.Proof.Gen.Kernel8.Frame
public import proofs.«01_k».proof.Proof.Gen.Reference8Ideal.Read
public import proofs.«01_k».proof.Proof.Gen.Kernel9Ideal.Value
public import proofs.«01_k».proof.Proof.Gen.Kernel9.Frame
public import proofs.«01_k».proof.Proof.Gen.Reference9Ideal.Read
public import proofs.«01_k».proof.Proof.Gen.Kernel10Ideal.Value
public import proofs.«01_k».proof.Proof.Gen.Kernel10.Frame
public import proofs.«01_k».proof.Proof.Gen.Reference10Ideal.Read
public import proofs.«01_k».proof.Proof.Gen.Kernel11Ideal.Value
public import proofs.«01_k».proof.Proof.Gen.Kernel11.Frame
public import proofs.«01_k».proof.Proof.Gen.Reference11Ideal.Read
public import proofs.«01_k».proof.Proof.Gen.Kernel12Ideal.Value
public import proofs.«01_k».proof.Proof.Gen.Kernel12.Frame
public import proofs.«01_k».proof.Proof.Gen.Reference12Ideal.Read
public import proofs.«01_k».proof.Proof.Gen.Kernel13Ideal.Value
public import proofs.«01_k».proof.Proof.Gen.Kernel13.Frame
public import proofs.«01_k».proof.Proof.Gen.Reference13Ideal.Read
public import Idealize.ShloMosaic.Lib.Pipeline.ReadBack
public import Idealize.ShloMosaic.Lib.Pipeline.ValueKit
public import Idealize.ShloMosaic.Lib.Pointwise
public import Idealize.ShloMosaic.Lib.Claim
public import Idealize.ShloMosaic.Lib.Quiescent

@[expose] public section

/-! The optimiser's idealized kernels and their references end with equal results. -/

set_option maxRecDepth 16384

noncomputable section

namespace Cert.Adam

open Kernel13Ideal (S1024x8 S8x1536 S1024x1536)
open Idealize.SL.Sem Idealize.ShloMosaic Idealize.ShloMosaic.TcCoe Idealize.ShloMosaic.Tactic

/-- The sum of the eight outer products at an index. -/
def grad (s : S1024x8.Idx → EReal) (d : S8x1536.Idx → EReal) : S1024x1536.Idx → EReal := fun i =>
  ∑ b : Fin 8, s (ix2 ⟨(i 0).val, (i 0).isLt⟩ b) * d (ix2 b ⟨(i 1).val, (i 1).isLt⟩)

/-- The reference's gradient is that sum. -/
theorem ref_grad (s : S1024x8.Idx → EReal) (d : S8x1536.Idx → EReal) : Reference13Ideal.Read.val_main_v3 (F := Ideal) s d = grad s d := by
  funext i
  rw [Reference13Ideal.Read.val_main_v3_apply, Reference13Ideal.Read.val_main_v2_apply]
  refine Finset.sum_congr rfl fun b _ => (mul_comm _ _).trans (congrArg₂ (· * ·) (congrArg s ?_) (congrArg d ?_)) <;>
    (funext a; fin_cases a <;> rfl)

/-- The new first moment of a gradient, -/
def moment (g m : Ideal .f32) : Ideal .f32 :=
  FloatOps.addf (FloatOps.mulf (FloatOps.ofBits .f32 0x3F666666#32) m) (FloatOps.mulf (FloatOps.ofBits .f32 0x3DCCCCCD#32) g)

/-- the new second one -/
def square (g v : Ideal .f32) : Ideal .f32 :=
  FloatOps.addf (FloatOps.mulf (FloatOps.ofBits .f32 0x3F7FBE77#32) v)
    (FloatOps.mulf (FloatOps.ofBits .f32 0x3A83126F#32) (FloatOps.mulf g g))

/-- and the weight's change. -/
def change (g w m v : Ideal .f32) : Ideal .f32 :=
  FloatOps.mulf (FloatOps.ofBits .f32 0xBA83126F#32) (FloatOps.addf (FloatOps.divf
      (FloatOps.divf (moment g m) (FloatOps.ofBits .f32 0x3F26BD02#32))
      (FloatOps.addf (FloatOps.sqrt (FloatOps.divf (square g v) (FloatOps.ofBits .f32 0x3C231ACC#32))) (FloatOps.ofBits .f32 0x322BCC77#32)))
    (FloatOps.mulf (FloatOps.ofBits .f32 0x3C23D70A#32) w))

section
open Kernel13Ideal Kernel13Ideal.Gen

variable {m : (ℓ : Loc nD τ sig) → Buf (Elt Ideal) ℓ} {c : Dev nD}

/-- Every window's block index. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] :=
  (by decide +kernel : ∀ t : Fin grid0.N, _)

/-- The kernel's sum of eight products at an index of a block. -/
theorem pay (s : Vec Ideal S128x8 .f32) (d : Vec Ideal S8x1536 .f32) (y : S128x1536.Idx) : k0_pay4 s d y
    = ∑ b : Fin 8, s (ix2 ⟨(y 0).val, (y 0).isLt⟩ b) * d (ix2 b ⟨(y 1).val, (y 1).isLt⟩) := by
  rw [Fin.sum_univ_eight]
  pointwise [k0_pay4]

/-- The gradient's block is that sum, of the point's blocks. -/
theorem pay5 (s : Vec Ideal S128x8 .f32) (d : Vec Ideal S8x1536 .f32) (w m v : Vec Ideal S128x1536 .f32) : k0_pay5 s d w m v = k0_pay4 s d := by
  have hz : (![0, 0] : Fin 2 → Nat) = fun _ => 0 := funext fun a => by fin_cases a <;> rfl
  unfold k0_pay5
  rw [View.ld_unit_zero (S := S128x8) hz, View.ld_unit_zero (S := S8x1536) hz]

/-- A block's sum is the gradient's there. -/
theorem pay_grad (t : Fin cfg0.N) (y : S128x1536.Idx) (i : S1024x1536.Idx) (h0 : (i 0).val = t.val * 128 + (y 0).val) (h1 : (i 1).val = (y 1).val) :
    k0_pay4 (iblk m c 0 t) (iblk m c 1 t) y = grad (m ((c : Thread nD τ).loc main_arg0)) (m ((c : Thread nD τ).loc main_arg1)) i := by
  rw [pay]
  refine Finset.sum_congr rfl fun b _ => congrArg₂ (· * ·) ?_ ?_
  · blk_ext [iblk, V, idx t]
  · blk_ext [iblk, V, idx t]

/-- The gradient. -/
theorem final5 : (dats m 0 c).arrAt 5 cfg0.N = grad (m ((c : Thread nD τ).loc main_arg0)) (m ((c : Thread nD τ).loc main_arg1)) := by
  refine (dats m 0 c).arrAt_eq_of_covers 5 _ (by decide +kernel) fun t hf y => ?_
  blk_simp
  rw [after0_5]
  frame_out
  have hg := pay_grad (m := m) (c := c) t y (((cfg0.win 5).blk t).view.emb y) (by blk_ext [idx t]) (by blk_ext [idx t])
  exact hg

/-- The weight's change. -/
theorem final6 : (dats m 0 c).arrAt 6 cfg0.N = fun i => change (grad (m ((c : Thread nD τ).loc main_arg0)) (m ((c : Thread nD τ).loc main_arg1)) i) ((m ((c : Thread nD τ).loc main_arg2)) i) ((m ((c : Thread nD τ).loc main_arg3)) i) ((m ((c : Thread nD τ).loc main_arg4)) i) := by
  refine (dats m 0 c).arrAt_eq_of_covers 6 _ (by decide +kernel) fun t hf y => ?_
  blk_simp
  rw [after0_6]
  frame_out
  have hg := pay_grad (m := m) (c := c) t y (((cfg0.win 6).blk t).view.emb y) (by blk_ext [idx t]) (by blk_ext [idx t])
  rw [pay5]
  refine Eq.trans (b := change (k0_pay4 (iblk m c 0 t) (iblk m c 1 t) y) (iblk m c 2 t y) (iblk m c 3 t y) (iblk m c 4 t y)) rfl ?_
  rw [hg]
  refine congr (congr (congrArg _ ?_) ?_) ?_ <;> blk_ext [iblk, V, idx t]

/-- The first moment. -/
theorem final7 : (dats m 0 c).arrAt 7 cfg0.N = fun i => moment (grad (m ((c : Thread nD τ).loc main_arg0)) (m ((c : Thread nD τ).loc main_arg1)) i) ((m ((c : Thread nD τ).loc main_arg3)) i) := by
  refine (dats m 0 c).arrAt_eq_of_covers 7 _ (by decide +kernel) fun t hf y => ?_
  blk_simp
  rw [after0_7]
  frame_out
  have hg := pay_grad (m := m) (c := c) t y (((cfg0.win 7).blk t).view.emb y) (by blk_ext [idx t]) (by blk_ext [idx t])
  rw [pay5]
  exact Eq.trans (b := moment (k0_pay4 (iblk m c 0 t) (iblk m c 1 t) y) (iblk m c 3 t y)) rfl (congrArg₂ moment hg (by blk_ext [iblk, V, idx t]))

/-- The second moment. -/
theorem final8 : (dats m 0 c).arrAt 8 cfg0.N = fun i => square (grad (m ((c : Thread nD τ).loc main_arg0)) (m ((c : Thread nD τ).loc main_arg1)) i) ((m ((c : Thread nD τ).loc main_arg4)) i) := by
  refine (dats m 0 c).arrAt_eq_of_covers 8 _ (by decide +kernel) fun t hf y => ?_
  blk_simp
  rw [after0_8]
  frame_out
  have hg := pay_grad (m := m) (c := c) t y (((cfg0.win 8).blk t).view.emb y) (by blk_ext [idx t]) (by blk_ext [idx t])
  rw [pay5]
  exact Eq.trans (b := square (k0_pay4 (iblk m c 0 t) (iblk m c 1 t) y) (iblk m c 4 t y)) rfl (congrArg₂ square hg (by blk_ext [iblk, V, idx t]))

end

/-- The modulation's weight. -/
theorem algebraic13 : algebraic_Kernel13Ideal_Reference13Ideal := by
  pair_intro
  · run_from Kernel13Ideal.Value.run_blocks m g
  · run_from Reference13Ideal.Value.run m' g'
    · exact (ref_grad _ _).trans final5.symm
    all_goals rw [Reference13Ideal.Read.val_main_v3_eq, ref_grad]
    · exact Eq.trans rfl final6.symm
    · exact Eq.trans rfl final7.symm
    · exact Eq.trans rfl final8.symm

/-- Its kernel, idealization and reference run to the end and keep their arguments. -/
theorem frames13 : quiescent_Kernel13 ∧ quiescent_Kernel13Ideal ∧ quiescent_Reference13Ideal :=
  ⟨fun m ρ _ => Kernel13.Gen.frame m ρ, fun m ρ _ => Kernel13Ideal.Gen.frame m ρ, fun m ρ _ =>
    (θ_run Reference13Ideal.defs _ _).mono (fun r h => ⟨fun c => (h c).2.2.2.2,
      sem_eq_zero_of_no_sems (by decide) r.2⟩) (Reference13Ideal.Value.run (F := Ideal) m ρ)⟩

/-- The input projection. -/
theorem algebraic7 : algebraic_Kernel7Ideal_Reference7Ideal := by
  pair_intro
  · run_from Kernel7Ideal.Value.run m g
  · run_from Reference7Ideal.Value.run m' g' <;> rfl

/-- Its kernel, idealization and reference run to the end and keep their arguments. -/
theorem frames7 : quiescent_Kernel7 ∧ quiescent_Kernel7Ideal ∧ quiescent_Reference7Ideal :=
  ⟨fun m ρ _ => Kernel7.Gen.frame m ρ, fun m ρ _ => Kernel7Ideal.Gen.frame m ρ, fun m ρ _ =>
    (θ_run Reference7Ideal.defs _ _).mono (fun r h => ⟨fun c => (h c).2.2.2,
      sem_eq_zero_of_no_sems (by decide) r.2⟩) (Reference7Ideal.Value.run (F := Ideal) m ρ)⟩

/-- The depthwise filter. -/
theorem algebraic8 : algebraic_Kernel8Ideal_Reference8Ideal := by
  pair_intro
  · run_from Kernel8Ideal.Value.run m g
  · run_from Reference8Ideal.Value.run m' g' <;> rfl

/-- Its kernel, idealization and reference run to the end and keep their arguments. -/
theorem frames8 : quiescent_Kernel8 ∧ quiescent_Kernel8Ideal ∧ quiescent_Reference8Ideal :=
  ⟨fun m ρ _ => Kernel8.Gen.frame m ρ, fun m ρ _ => Kernel8Ideal.Gen.frame m ρ, fun m ρ _ =>
    (θ_run Reference8Ideal.defs _ _).mono (fun r h => ⟨fun c => (h c).2.2.2,
      sem_eq_zero_of_no_sems (by decide) r.2⟩) (Reference8Ideal.Value.run (F := Ideal) m ρ)⟩

/-- The output projection. -/
theorem algebraic9 : algebraic_Kernel9Ideal_Reference9Ideal := by
  pair_intro
  · run_from Kernel9Ideal.Value.run m g
  · run_from Reference9Ideal.Value.run m' g' <;> rfl

/-- Its kernel, idealization and reference run to the end and keep their arguments. -/
theorem frames9 : quiescent_Kernel9 ∧ quiescent_Kernel9Ideal ∧ quiescent_Reference9Ideal :=
  ⟨fun m ρ _ => Kernel9.Gen.frame m ρ, fun m ρ _ => Kernel9Ideal.Gen.frame m ρ, fun m ρ _ =>
    (θ_run Reference9Ideal.defs _ _).mono (fun r h => ⟨fun c => (h c).2.2.2,
      sem_eq_zero_of_no_sems (by decide) r.2⟩) (Reference9Ideal.Value.run (F := Ideal) m ρ)⟩

/-- The feed-forward's first weight. -/
theorem algebraic10 : algebraic_Kernel10Ideal_Reference10Ideal := by
  pair_intro
  · run_from Kernel10Ideal.Value.run m g
  · run_from Reference10Ideal.Value.run m' g' <;> rfl

/-- Its kernel, idealization and reference run to the end and keep their arguments. -/
theorem frames10 : quiescent_Kernel10 ∧ quiescent_Kernel10Ideal ∧ quiescent_Reference10Ideal :=
  ⟨fun m ρ _ => Kernel10.Gen.frame m ρ, fun m ρ _ => Kernel10Ideal.Gen.frame m ρ, fun m ρ _ =>
    (θ_run Reference10Ideal.defs _ _).mono (fun r h => ⟨fun c => (h c).2.2.2,
      sem_eq_zero_of_no_sems (by decide) r.2⟩) (Reference10Ideal.Value.run (F := Ideal) m ρ)⟩

/-- The feed-forward's second weight. -/
theorem algebraic11 : algebraic_Kernel11Ideal_Reference11Ideal := by
  pair_intro
  · run_from Kernel11Ideal.Value.run m g
  · run_from Reference11Ideal.Value.run m' g' <;> rfl

/-- Its kernel, idealization and reference run to the end and keep their arguments. -/
theorem frames11 : quiescent_Kernel11 ∧ quiescent_Kernel11Ideal ∧ quiescent_Reference11Ideal :=
  ⟨fun m ρ _ => Kernel11.Gen.frame m ρ, fun m ρ _ => Kernel11Ideal.Gen.frame m ρ, fun m ρ _ =>
    (θ_run Reference11Ideal.defs _ _).mono (fun r h => ⟨fun c => (h c).2.2.2,
      sem_eq_zero_of_no_sems (by decide) r.2⟩) (Reference11Ideal.Value.run (F := Ideal) m ρ)⟩

/-- The packed small weights. -/
theorem algebraic12 : algebraic_Kernel12Ideal_Reference12Ideal := by
  pair_intro
  · run_from Kernel12Ideal.Value.run m g
  · run_from Reference12Ideal.Value.run m' g' <;> rfl

/-- Its kernel, idealization and reference run to the end and keep their arguments. -/
theorem frames12 : quiescent_Kernel12 ∧ quiescent_Kernel12Ideal ∧ quiescent_Reference12Ideal :=
  ⟨fun m ρ _ => Kernel12.Gen.frame m ρ, fun m ρ _ => Kernel12Ideal.Gen.frame m ρ, fun m ρ _ =>
    (θ_run Reference12Ideal.defs _ _).mono (fun r h => ⟨fun c => (h c).2.2.2,
      sem_eq_zero_of_no_sems (by decide) r.2⟩) (Reference12Ideal.Value.run (F := Ideal) m ρ)⟩

end Cert.Adam

end
-- ==== Proof.lean ====
/-
  The proof of the certificate's claim: the frames of the kernels, their idealizations and the references, and that the
  kernels' results are the references', of the attention and the forward call on finite arguments.
-/
module

public import proofs.«01_k».proof.Defs
public import proofs.«01_k».proof.Proof.Gen.Kernel
public import proofs.«01_k».proof.Proof.Gen.KernelIdeal
public import proofs.«01_k».proof.Proof.Gen.ReferenceIdeal.Read
public import proofs.«01_k».proof.Proof.Gen.Pre_finite
public import proofs.«01_k».proof.Proof.Gen.Kernel2.Frame
public import proofs.«01_k».proof.Proof.Gen.Kernel2Ideal.Value
public import proofs.«01_k».proof.Proof.Gen.Reference2Ideal.Read
public import proofs.«01_k».proof.Proof.Gen.Kernel3.Frame
public import proofs.«01_k».proof.Proof.Gen.Kernel3Ideal.Value
public import proofs.«01_k».proof.Proof.Gen.Reference3Ideal.Read
public import proofs.«01_k».proof.Proof.Gen.Kernel4.Frame
public import proofs.«01_k».proof.Proof.Gen.Kernel4Ideal.Value
public import proofs.«01_k».proof.Proof.Gen.Reference4Ideal.Read
public import proofs.«01_k».proof.Proof.Gen.Kernel5.Frame
public import proofs.«01_k».proof.Proof.Gen.Kernel5Ideal.Value
public import proofs.«01_k».proof.Proof.Gen.Reference5Ideal.Read
public import proofs.«01_k».proof.Proof.Gen.Kernel6.Frame
public import proofs.«01_k».proof.Proof.Gen.Kernel6Ideal.Value
public import proofs.«01_k».proof.Proof.Gen.Reference6Ideal.Read
public import proofs.«01_k».proof.Proof.Gen.Pre_finite6
public import proofs.«01_k».proof.Proof.KFrame
public import proofs.«01_k».proof.Proof.Final
public import proofs.«01_k».proof.Proof.HostLink
public import proofs.«01_k».proof.Proof.Alg
public import proofs.«01_k».proof.Proof.FfnAlg
public import proofs.«01_k».proof.Proof.FwdAlg
public import proofs.«01_k».proof.Proof.Adam
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

/-- Every run of the kernel ends with its arguments unchanged and its counters at zero. -/
theorem frame_kernel : quiescent_Kernel := fun m ρ _ => Kernel.Hand.frame m ρ

/-- The same of the idealized kernel. -/
theorem frame_ideal : quiescent_KernelIdeal := fun m ρ _ => KernelIdeal.Hand.frame m ρ

/-- The same of the idealized kernel on finite arguments. -/
theorem frame_ideal_finite : quiescent_KernelIdeal_pre_finite := fun m ρ _ => KernelIdeal.Hand.frame m ρ

/-- The same of the reference, which has no counter. -/
theorem frame_reference : quiescent_ReferenceIdeal := fun m ρ _ =>
  (θ_run ReferenceIdeal.defs _ _).mono
    (fun r h => ⟨fun c => (h c).2.2.2.2.2, Idealize.ShloMosaic.sem_eq_zero_of_no_sems (by decide) r.2⟩)
    (ReferenceIdeal.Value.run (F := Ideal) m ρ)

/-- The same of the reference on finite arguments. -/
theorem frame_reference_finite : quiescent_ReferenceIdeal_pre_finite := fun m ρ _ =>
  (θ_run ReferenceIdeal.defs _ _).mono
    (fun r h => ⟨fun c => (h c).2.2.2.2.2, Idealize.ShloMosaic.sem_eq_zero_of_no_sems (by decide) r.2⟩)
    (ReferenceIdeal.Value.run (F := Ideal) m ρ)

/-- On finite arguments the kernel's memory holds the rows of some real `q`, `k`, `v`, cotangent and gate sums. -/
theorem reads (m : (ℓ : Loc KernelIdeal.nD KernelIdeal.τ KernelIdeal.sig) → Buf (Elt Ideal) ℓ)
    (h : Pre_KernelIdeal_finite m) (c : Dev KernelIdeal.nD) :
    ∃ q k v g f, KernelIdeal.Host.Reads (m (c.tc.loc KernelIdeal.main_arg0))
      (m (c.tc.loc KernelIdeal.main_arg1))
      (m (c.tc.loc KernelIdeal.main_arg2))
      (m (c.tc.loc KernelIdeal.main_arg4))
      (m (c.tc.loc KernelIdeal.main_arg3)) q k v g f :=
  ⟨_, _, _, _, _, Alg.reads (Fwd.real_of _ _ (fun _ => Alg.plus_inf) (h c).1) (Fwd.real_of _ _ (fun _ => Alg.plus_inf) (h c).2.1)
    (Fwd.real_of _ _ (fun _ => Alg.plus_inf) (h c).2.2.1) (Fwd.real_of _ _ (fun _ => Alg.plus_inf) (h c).2.2.2.1)
    (Fwd.real_of _ _ (fun _ => Alg.plus_inf) (h c).2.2.2.2)⟩

/-- On finite arguments the idealized kernel and the reference end with equal results: the gradients of the queries,
keys and values and the row and column sums of the logits' gradient. -/
theorem algebraic : algebraic_KernelIdeal_ReferenceIdeal_pre_finite := fun m ρ m' ρ' hpre hargs =>
  ⟨fun c => ReferenceIdeal.Read.val_main_v87 (F := Ideal) (m (c.tc.loc KernelIdeal.main_arg0)) (m (c.tc.loc KernelIdeal.main_arg1)) (m (c.tc.loc KernelIdeal.main_arg2)) (m (c.tc.loc KernelIdeal.main_arg3)) (m (c.tc.loc KernelIdeal.main_arg4)),
   fun c => ReferenceIdeal.Read.val_main_v88 (F := Ideal) (m (c.tc.loc KernelIdeal.main_arg0)) (m (c.tc.loc KernelIdeal.main_arg1)) (m (c.tc.loc KernelIdeal.main_arg2)) (m (c.tc.loc KernelIdeal.main_arg3)) (m (c.tc.loc KernelIdeal.main_arg4)),
   fun c => ReferenceIdeal.Read.val_main_v89 (F := Ideal) (m (c.tc.loc KernelIdeal.main_arg0)) (m (c.tc.loc KernelIdeal.main_arg1)) (m (c.tc.loc KernelIdeal.main_arg2)) (m (c.tc.loc KernelIdeal.main_arg3)) (m (c.tc.loc KernelIdeal.main_arg4)),
   fun c => ReferenceIdeal.Read.val_main_v90 (F := Ideal) (m (c.tc.loc KernelIdeal.main_arg0)) (m (c.tc.loc KernelIdeal.main_arg1)) (m (c.tc.loc KernelIdeal.main_arg3)) (m (c.tc.loc KernelIdeal.main_arg4)),
   fun c => ReferenceIdeal.Read.val_main_v92 (F := Ideal) (m (c.tc.loc KernelIdeal.main_arg0)) (m (c.tc.loc KernelIdeal.main_arg1)) (m (c.tc.loc KernelIdeal.main_arg2)) (m (c.tc.loc KernelIdeal.main_arg3)) (m (c.tc.loc KernelIdeal.main_arg4)),
   (θ_run KernelIdeal.defs _ _).mono (fun r h c => by
      obtain ⟨q, k, v, g, f, H⟩ := reads m hpre c
      obtain ⟨e0, e1, e2, e3, e4, e⟩ := h c
      rw [KernelIdeal.Host.V_v298, KernelIdeal.Host.V_v304, KernelIdeal.Host.V_v300, KernelIdeal.Host.V_v302] at e0 e1 e2 e4
      rw [KernelIdeal.Host.V_v298, KernelIdeal.Host.V_v304, KernelIdeal.Host.V_v300] at e3
      exact ⟨e0.trans (Alg.dq_eq H), e1.trans (Alg.rs_eq H), e2.trans (Alg.dk_eq H), e3.trans (Alg.dv_eq H),
        e4.trans (Alg.cs_eq H), e⟩) (KernelIdeal.Hand.run m ρ),
   (θ_run ReferenceIdeal.defs _ _).mono (fun r h c => by
      obtain ⟨a0, a1, a2, a3, a4⟩ := hargs c
      obtain ⟨e0, e1, e2, e3, e4, e⟩ := h c
      rw [ReferenceIdeal.Read.val_main_v87_eq, a0, a1, a2, a3, a4] at e0
      rw [ReferenceIdeal.Read.val_main_v88_eq, a0, a1, a2, a3, a4] at e1
      rw [ReferenceIdeal.Read.val_main_v89_eq, a0, a1, a2, a3, a4] at e2
      rw [ReferenceIdeal.Read.val_main_v90_eq, a0, a1, a3, a4] at e3
      rw [ReferenceIdeal.Read.val_main_v92_eq, a0, a1, a2, a3, a4] at e4
      exact ⟨e0, e1, e2, e3, e4, e⟩) (ReferenceIdeal.Value.run (F := Ideal) m' ρ')⟩

/-- The first quarter's kernel, its idealization and its reference run to the end and keep their arguments. -/
theorem frames2 : quiescent_Kernel2 ∧ quiescent_Kernel2Ideal ∧ quiescent_Reference2Ideal :=
  ⟨fun m ρ _ => Kernel2.Gen.frame m ρ, fun m ρ _ => Kernel2Ideal.Gen.frame m ρ, fun m ρ _ =>
    (θ_run Reference2Ideal.defs _ _).mono (fun r h => ⟨fun c => (h c).2.2.2.2,
      Idealize.ShloMosaic.sem_eq_zero_of_no_sems (by decide) r.2⟩) (Reference2Ideal.Value.run (F := Ideal) m ρ)⟩

/-- The second quarter's kernel, its idealization and its reference run to the end and keep their arguments. -/
theorem frames3 : quiescent_Kernel3 ∧ quiescent_Kernel3Ideal ∧ quiescent_Reference3Ideal :=
  ⟨fun m ρ _ => Kernel3.Gen.frame m ρ, fun m ρ _ => Kernel3Ideal.Gen.frame m ρ, fun m ρ _ =>
    (θ_run Reference3Ideal.defs _ _).mono (fun r h => ⟨fun c => (h c).2.2.2.2,
      Idealize.ShloMosaic.sem_eq_zero_of_no_sems (by decide) r.2⟩) (Reference3Ideal.Value.run (F := Ideal) m ρ)⟩

/-- The third quarter's kernel, its idealization and its reference run to the end and keep their arguments. -/
theorem frames4 : quiescent_Kernel4 ∧ quiescent_Kernel4Ideal ∧ quiescent_Reference4Ideal :=
  ⟨fun m ρ _ => Kernel4.Gen.frame m ρ, fun m ρ _ => Kernel4Ideal.Gen.frame m ρ, fun m ρ _ =>
    (θ_run Reference4Ideal.defs _ _).mono (fun r h => ⟨fun c => (h c).2.2.2.2,
      Idealize.ShloMosaic.sem_eq_zero_of_no_sems (by decide) r.2⟩) (Reference4Ideal.Value.run (F := Ideal) m ρ)⟩

/-- The fourth quarter's kernel, its idealization and its reference run to the end and keep their arguments. -/
theorem frames5 : quiescent_Kernel5 ∧ quiescent_Kernel5Ideal ∧ quiescent_Reference5Ideal :=
  ⟨fun m ρ _ => Kernel5.Gen.frame m ρ, fun m ρ _ => Kernel5Ideal.Gen.frame m ρ, fun m ρ _ =>
    (θ_run Reference5Ideal.defs _ _).mono (fun r h => ⟨fun c => (h c).2.2.2.2,
      Idealize.ShloMosaic.sem_eq_zero_of_no_sems (by decide) r.2⟩) (Reference5Ideal.Value.run (F := Ideal) m ρ)⟩

/-- The forward call's kernel, its idealization and its reference run to the end and keep their arguments, on any
arguments; the last two so on finite ones. -/
theorem frames6 : quiescent_Kernel6 ∧ quiescent_Kernel6Ideal ∧ quiescent_Kernel6Ideal_pre_finite6 ∧
    quiescent_Reference6Ideal ∧ quiescent_Reference6Ideal_pre_finite6 := by
  have h : quiescent_Reference6Ideal := fun m ρ _ => (θ_run Reference6Ideal.defs _ _).mono (fun r h =>
    ⟨fun c => (h c).2.2.2, Idealize.ShloMosaic.sem_eq_zero_of_no_sems (by decide) r.2⟩)
    (Reference6Ideal.Value.run (F := Ideal) m ρ)
  exact ⟨fun m ρ _ => Kernel6.Gen.frame m ρ, fun m ρ _ => Kernel6Ideal.Gen.frame m ρ,
    fun m ρ _ => Kernel6Ideal.Gen.frame m ρ, h, fun m ρ _ => h m ρ trivial⟩

/-- The certificate's claim. -/
theorem claim : Cert.Claim :=
  ⟨Kernel.Gen.facts, KernelIdeal.Gen.facts, ReferenceIdeal.Gen.facts,
    Kernel2.Gen.facts, Kernel2Ideal.Gen.facts, Reference2Ideal.Gen.facts,
    Kernel3.Gen.facts, Kernel3Ideal.Gen.facts, Reference3Ideal.Gen.facts,
    Kernel4.Gen.facts, Kernel4Ideal.Gen.facts, Reference4Ideal.Gen.facts,
    Kernel5.Gen.facts, Kernel5Ideal.Gen.facts, Reference5Ideal.Gen.facts,
    Kernel6.Gen.facts, Kernel6Ideal.Gen.facts, Reference6Ideal.Gen.facts,
    Kernel7.Gen.facts, Kernel7Ideal.Gen.facts, Reference7Ideal.Gen.facts,
    Kernel8.Gen.facts, Kernel8Ideal.Gen.facts, Reference8Ideal.Gen.facts,
    Kernel9.Gen.facts, Kernel9Ideal.Gen.facts, Reference9Ideal.Gen.facts,
    Kernel10.Gen.facts, Kernel10Ideal.Gen.facts, Reference10Ideal.Gen.facts,
    Kernel11.Gen.facts, Kernel11Ideal.Gen.facts, Reference11Ideal.Gen.facts,
    Kernel12.Gen.facts, Kernel12Ideal.Gen.facts, Reference12Ideal.Gen.facts,
    Kernel13.Gen.facts, Kernel13Ideal.Gen.facts, Reference13Ideal.Gen.facts,
    Pre_finite.Gen.facts, Pre_finite6.Gen.facts, frame_kernel, frame_ideal, frame_ideal_finite, frame_reference, frame_reference_finite,
    frames2.1, frames2.2.1, frames2.2.2,
    frames3.1, frames3.2.1, frames3.2.2,
    frames4.1, frames4.2.1, frames4.2.2,
    frames5.1, frames5.2.1, frames5.2.2,
    frames6.1, frames6.2.1, frames6.2.2.1, frames6.2.2.2.1, frames6.2.2.2.2,
    Adam.frames7.1, Adam.frames7.2.1, Adam.frames7.2.2,
    Adam.frames8.1, Adam.frames8.2.1, Adam.frames8.2.2,
    Adam.frames9.1, Adam.frames9.2.1, Adam.frames9.2.2,
    Adam.frames10.1, Adam.frames10.2.1, Adam.frames10.2.2,
    Adam.frames11.1, Adam.frames11.2.1, Adam.frames11.2.2,
    Adam.frames12.1, Adam.frames12.2.1, Adam.frames12.2.2,
    Adam.frames13.1, Adam.frames13.2.1, Adam.frames13.2.2,
    trivial, algebraic, trivial, Ffn.algebraic2, trivial, Ffn.algebraic3, trivial, Ffn.algebraic4, trivial, Ffn.algebraic5,
    trivial, Fwd.algebraic6,
    trivial, Adam.algebraic7, trivial, Adam.algebraic8, trivial, Adam.algebraic9, trivial, Adam.algebraic10, trivial, Adam.algebraic11, trivial, Adam.algebraic12, trivial, Adam.algebraic13⟩

end Cert.Proof

end
